-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_sorted_ids : Cert.Pre_sorted_ids.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_ids_in_range.lean ====
abbrev S32768x512 : Shape := ⟨2, ![32768, 512]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S32768x512 .f32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Pre_sorted_ids.lean ====
abbrev S32768x512 : Shape := ⟨2, ![32768, 512]⟩
abbrev S32768 : Shape := ⟨1, ![32768]⟩
abbrev S_ : Shape := ⟨0, ![]⟩
abbrev S32767 : Shape := ⟨1, ![32767]⟩

class Facts : Prop where
  bcast_S_S32768 : S_.BroadcastsInDim S32768 (![] : Fin 0 → Fin S32768.rank)
  slices_S32768_S32767_1 : S32768.Slices ![1] S32767
  slices_S32768_S32767_0 : S32768.Slices ![0] S32767

variable [Facts]

def fn {F : FTy → Type} [FloatOps F] (main_arg0 : FVec F S32768x512 .f32) (main_arg1 : IVec S32768 32) : IVec S32768 1 × IVec S32767 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_v5 : IVec S32767 32 := (extractStridedSlice S32767 ![1] · slices_S32768_S32767_1) main_arg1
  let main_v6 : IVec S32767 32 := (extractStridedSlice S32767 ![0] · slices_S32768_S32767_0) main_arg1
  let main_v7 : IVec S32767 1 := cmpi .sge main_v5 main_v6
  (main_v4, main_v7)
-- ==== Kernel.lean ====
abbrev S32768x512 : Shape := ⟨2, ![32768, 512]⟩
abbrev S32768 : Shape := ⟨1, ![32768]⟩
abbrev S32x16x512 : Shape := ⟨3, ![32, 16, 512]⟩
abbrev S32x16 : Shape := ⟨2, ![32, 16]⟩
abbrev S128 : Shape := ⟨1, ![128]⟩
abbrev S2x64x512 : Shape := ⟨3, ![2, 64, 512]⟩
abbrev S16x512 : Shape := ⟨2, ![16, 512]⟩
abbrev S16 : Shape := ⟨1, ![16]⟩
abbrev S_ : Shape := ⟨0, ![]⟩
abbrev S1x16 : Shape := ⟨2, ![1, 16]⟩
abbrev S1x64x512 : Shape := ⟨3, ![1, 64, 512]⟩
abbrev S64x512 : Shape := ⟨2, ![64, 512]⟩
abbrev S1x1x16 : Shape := ⟨3, ![1, 1, 16]⟩
abbrev S1x16x512 : Shape := ⟨3, ![1, 16, 512]⟩
abbrev S8x1x4096 : Shape := ⟨3, ![8, 1, 4096]⟩
abbrev S16x128 : Shape := ⟨2, ![16, 128]⟩
abbrev S1x1x4096 : Shape := ⟨3, ![1, 1, 4096]⟩
abbrev S4096x512 : Shape := ⟨2, ![4096, 512]⟩
abbrev S1x4096 : Shape := ⟨2, ![1, 4096]⟩
abbrev S16x1 : Shape := ⟨2, ![16, 1]⟩
abbrev S16x4096 : Shape := ⟨2, ![16, 4096]⟩

abbrev nBuf : Table → Nat
  | .hbm => 8
  | .local .tc .vmem => 11
  | .local .scVector .vmem => 4
  | _ => 0

abbrev bufTy : (tb : Table) → Fin (nBuf tb) → BufTy
  | .hbm, ⟨0, _⟩ => ⟨S32768x512, .f32⟩
  | .hbm, ⟨1, _⟩ => ⟨S32768, .i32⟩
  | .hbm, ⟨2, _⟩ => ⟨S32x16x512, .f32⟩
  | .hbm, ⟨3, _⟩ => ⟨S32x16, .f32⟩
  | .hbm, ⟨4, _⟩ => ⟨S8x1x4096, .i32⟩
  | .hbm, ⟨5, _⟩ => ⟨S16x512, .f32⟩
  | .hbm, ⟨6, _⟩ => ⟨S16x128, .f32⟩
  | .hbm, ⟨7, _⟩ => ⟨S16x512, .f32⟩
  | .local .tc .vmem, ⟨0, _⟩ => ⟨S1x1x4096, .i32⟩
  | .local .tc .vmem, ⟨1, _⟩ => ⟨S1x1x4096, .i32⟩
  | .local .tc .vmem, ⟨2, _⟩ => ⟨S4096x512, .f32⟩
  | .local .tc .vmem, ⟨3, _⟩ => ⟨S4096x512, .f32⟩
  | .local .tc .vmem, ⟨4, _⟩ => ⟨S16x512, .f32⟩
  | .local .tc .vmem, ⟨5, _⟩ => ⟨S16x128, .f32⟩
  | .local .tc .vmem, ⟨6, _⟩ => ⟨S32x16x512, .f32⟩
  | .local .tc .vmem, ⟨7, _⟩ => ⟨S32x16, .f32⟩
  | .local .tc .vmem, ⟨8, _⟩ => ⟨S16x512, .f32⟩
  | .local .tc .vmem, ⟨9, _⟩ => ⟨S16x128, .f32⟩
  | .local .tc .vmem, ⟨10, _⟩ => ⟨S16x512, .f32⟩
  | .local .scVector .vmem, ⟨0, _⟩ => ⟨S128, .i32⟩
  | .local .scVector .vmem, ⟨1, _⟩ => ⟨S2x64x512, .f32⟩
  | .local .scVector .vmem, ⟨2, _⟩ => ⟨S16x512, .f32⟩
  | .local .scVector .vmem, ⟨3, _⟩ => ⟨S16, .f32⟩
  | _, _ => ⟨S32768x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_0 : BitVec 32 := 0#32
  let c16_i32 : BitVec 32 := 16#32
  let v5 : BitVec 32 := Scalar.addi c0_i32_0 c16_i32
  let c1_i32 : BitVec 32 := 1#32
  ⟨c0_i32_0, v5, c1_i32⟩
def k0_off2 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v116 : Index := Scalar.indexCast arg12
  let c0_81 : Index := 0#32
  ![v116.toNat, 0]
def k0_off3 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v118 : Index := Scalar.indexCast arg12
  let c16 : Index := 16#32
  ![v118.toNat, 16]
def k0_off4 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v120 : Index := Scalar.indexCast arg12
  let c32 : Index := 32#32
  ![v120.toNat, 32]
def k0_off5 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v122 : Index := Scalar.indexCast arg12
  let c48 : Index := 48#32
  ![v122.toNat, 48]
def k0_off6 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v124 : Index := Scalar.indexCast arg12
  let c64 : Index := 64#32
  ![v124.toNat, 64]
def k0_off7 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v126 : Index := Scalar.indexCast arg12
  let c80 : Index := 80#32
  ![v126.toNat, 80]
def k0_off8 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v128 : Index := Scalar.indexCast arg12
  let c96 : Index := 96#32
  ![v128.toNat, 96]
def k0_off9 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v130 : Index := Scalar.indexCast arg12
  let c112 : Index := 112#32
  ![v130.toNat, 112]
def k0_off10 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v132 : Index := Scalar.indexCast arg12
  let c128 : Index := 128#32
  ![v132.toNat, 128]
def k0_off11 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v134 : Index := Scalar.indexCast arg12
  let c144 : Index := 144#32
  ![v134.toNat, 144]
def k0_off12 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v136 : Index := Scalar.indexCast arg12
  let c160 : Index := 160#32
  ![v136.toNat, 160]
def k0_off13 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v138 : Index := Scalar.indexCast arg12
  let c176 : Index := 176#32
  ![v138.toNat, 176]
def k0_off14 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v140 : Index := Scalar.indexCast arg12
  let c192 : Index := 192#32
  ![v140.toNat, 192]
def k0_off15 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v142 : Index := Scalar.indexCast arg12
  let c208 : Index := 208#32
  ![v142.toNat, 208]
def k0_off16 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v144 : Index := Scalar.indexCast arg12
  let c224 : Index := 224#32
  ![v144.toNat, 224]
def k0_off17 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v146 : Index := Scalar.indexCast arg12
  let c240 : Index := 240#32
  ![v146.toNat, 240]
def k0_off18 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v148 : Index := Scalar.indexCast arg12
  let c256 : Index := 256#32
  ![v148.toNat, 256]
def k0_off19 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v150 : Index := Scalar.indexCast arg12
  let c272 : Index := 272#32
  ![v150.toNat, 272]
def k0_off20 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v152 : Index := Scalar.indexCast arg12
  let c288 : Index := 288#32
  ![v152.toNat, 288]
def k0_off21 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v154 : Index := Scalar.indexCast arg12
  let c304 : Index := 304#32
  ![v154.toNat, 304]
def k0_off22 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v156 : Index := Scalar.indexCast arg12
  let c320 : Index := 320#32
  ![v156.toNat, 320]
def k0_off23 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v158 : Index := Scalar.indexCast arg12
  let c336 : Index := 336#32
  ![v158.toNat, 336]
def k0_off24 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v160 : Index := Scalar.indexCast arg12
  let c352 : Index := 352#32
  ![v160.toNat, 352]
def k0_off25 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v162 : Index := Scalar.indexCast arg12
  let c368 : Index := 368#32
  ![v162.toNat, 368]
def k0_off26 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v164 : Index := Scalar.indexCast arg12
  let c384 : Index := 384#32
  ![v164.toNat, 384]
def k0_off27 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v166 : Index := Scalar.indexCast arg12
  let c400 : Index := 400#32
  ![v166.toNat, 400]
def k0_off28 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v168 : Index := Scalar.indexCast arg12
  let c416 : Index := 416#32
  ![v168.toNat, 416]
def k0_off29 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v170 : Index := Scalar.indexCast arg12
  let c432 : Index := 432#32
  ![v170.toNat, 432]
def k0_off30 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v172 : Index := Scalar.indexCast arg12
  let c448 : Index := 448#32
  ![v172.toNat, 448]
def k0_off31 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v174 : Index := Scalar.indexCast arg12
  let c464 : Index := 464#32
  ![v174.toNat, 464]
def k0_off32 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v176 : Index := Scalar.indexCast arg12
  let c480 : Index := 480#32
  ![v176.toNat, 480]
def k0_off33 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let v178 : Index := Scalar.indexCast arg12
  let c496 : Index := 496#32
  ![v178.toNat, 496]
@[reducible] def k0_t2_loop : Scf.Loop 32 :=
  let c0_i32_4 : BitVec 32 := 0#32
  let c11_i32 : BitVec 32 := 11#32
  let v9 : BitVec 32 := Scalar.addi c0_i32_4 c11_i32
  let c1_i32_5 : BitVec 32 := 1#32
  ⟨c0_i32_4, v9, c1_i32_5⟩

def k0_chk1 (v121 : IVec S16 32) : Prop :=
  (∀ a x, ((![v121] : Fin 1 → IVec S16 32) a x).toNat < S128.size a)
theorem k0_idx1_inb : ∀ (v121 : IVec S16 32) (k0_hw1 : k0_chk1 v121), ∀ a x, ((![v121] : Fin 1 → IVec S16 32) a x).toNat < S128.size a := fun v121 k0_hw1 => k0_hw1
@[reducible] def k0_t3_loop : Scf.Loop 32 :=
  let c0_i32_10 : BitVec 32 := 0#32
  let c11_i32_11 : BitVec 32 := 11#32
  let v15 : BitVec 32 := Scalar.addi c0_i32_10 c11_i32_11
  let c1_i32_12 : BitVec 32 := 1#32
  ⟨c0_i32_10, v15, c1_i32_12⟩

def k0_chk2 (v121 : IVec S16 32) : Prop :=
  (∀ a x, ((![v121] : Fin 1 → IVec S16 32) a x).toNat < S128.size a)
theorem k0_idx2_inb : ∀ (v121 : IVec S16 32) (k0_hw2 : k0_chk2 v121), ∀ a x, ((![v121] : Fin 1 → IVec S16 32) a x).toNat < S128.size a := fun v121 k0_hw2 => k0_hw2
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_81_r1 : BitVec 32 := 0#32
  ![v1.toNat, 0]
def k0_off35 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v20 : BitVec 32 := Scalar.addi v2 c0_i32_14
  let c0_i32_18 : BitVec 32 := 0#32
  ![v20.toNat, 0]
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_33 : BitVec 32 := 64#32
  let v36 : BitVec 32 := Scalar.muli v35 c64_i32_33
  let v37 : BitVec 32 := Scalar.addi v2 v36
  let c0_i32_37 : BitVec 32 := 0#32
  ![v37.toNat, 0]

def k0_chk3 (v45 : IVec S16 32) : Prop :=
  (∀ a x, ((![v45] : Fin 1 → IVec S16 32) a x).toNat < S128.size a)
theorem k0_idx3_inb : ∀ (v45 : IVec S16 32) (k0_hw3 : k0_chk3 v45), ∀ a x, ((![v45] : Fin 1 → IVec S16 32) a x).toNat < S128.size a := fun v45 k0_hw3 => k0_hw3

def k0_chk4 (v55 : IVec S16 32) : Prop :=
  (∀ a x, ((![v55] : Fin 1 → IVec S16 32) a x).toNat < S128.size a)
theorem k0_idx4_inb : ∀ (v55 : IVec S16 32) (k0_hw4 : k0_chk4 v55), ∀ a x, ((![v55] : Fin 1 → IVec S16 32) a x).toNat < S128.size a := fun v55 k0_hw4 => k0_hw4
@[reducible] def k0_t4_loop (v52 : BitVec 32) (v62 : BitVec 32) : Scf.Loop 32 :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_49 : BitVec 32 := 1#32
  ⟨v52, v68, c1_i32_49⟩

@[reducible] def k0_t5_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v139 : BitVec 32 := Scalar.subi v135 v44
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v44
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_96 : BitVec 32 := 1#32
  ⟨c0_i32_94, v151, c1_i32_96⟩
def k0_cond1 (v125 : BitVec 32) (v135 : BitVec 32) : BitVec 1 :=
  let c64_i32_90 : BitVec 32 := 64#32
  let c0_i32_89 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v139 : BitVec 32 := Scalar.subi v135 v44
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v44
  let v137 : BitVec 32 := Scalar.maxsi c0_i32_87 v136
  let v138 : BitVec 32 := Scalar.minsi c64_i32_88 v137
  let v142 : BitVec 1 := Scalar.cmpi .sgt v141 v138
  let v143 : BitVec 32 := Scalar.extui v142
  let c0_i32_91 : BitVec 32 := 0#32
  let v144 : BitVec 1 := Scalar.cmpi .ne v143 c0_i32_91
  v144

def k0_off37 (v125 : BitVec 32) (v135 : BitVec 32) (k0_t5 : Fin (k0_t5_loop v125 v135).trips) : Fin 3 → Nat :=
  let c0_i32_135 : BitVec 32 := 0#32
  let v325 : Index := Scalar.indexCast c0_i32_135
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![0, v326.toNat, 0]
def k0_off38 (v125 : BitVec 32) (v135 : BitVec 32) (k0_t5 : Fin (k0_t5_loop v125 v135).trips) (c1_i32_137 : BitVec 32) : Fin 3 → Nat :=
  let c0_i32_138 : BitVec 32 := 0#32
  let v329 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![0, v330.toNat, 0]
def k0_off39 (v125 : BitVec 32) (v135 : BitVec 32) (k0_t5 : Fin (k0_t5_loop v125 v135).trips) : Fin 3 → Nat :=
  let c0_i32_145 : BitVec 32 := 0#32
  let v344 : Index := Scalar.indexCast c0_i32_145
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![0, v345.toNat, 16]
def k0_off40 (v125 : BitVec 32) (v135 : BitVec 32) (k0_t5 : Fin (k0_t5_loop v125 v135).trips) (c1_i32_147 : BitVec 32) : Fin 3 → Nat :=
  let c0_i32_148 : BitVec 32 := 0#32
  let v348 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![0, v349.toNat, 16]
def k0_off41 (v125 : BitVec 32) (v135 : BitVec 32) (k0_t5 : Fin (k0_t5_loop v125 v135).trips) : Fin 3 → Nat :=
  let c0_i32_156 : BitVec 32 := 0#32
  let v363 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![0, v364.toNat, 32]
def k0_off42 (v125 : BitVec 32) (v135 : BitVec 32) (k0_t5 : Fin (k0_t5_loop v125 v135).trips) (c1_i32_158 : BitVec 32) : Fin 3 → Nat :=
  let c0_i32_159 : BitVec 32 := 0#32
  let v367 : Index := Scalar.indexCast c0_i32_159
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![0, v368.toNat, 32]
def k0_off43 (v125 : BitVec 32) (v135 : BitVec 32) (k0_t5 : Fin (k0_t5_loop v125 v135).trips) : Fin 3 → Nat :=
  let c0_i32_167 : BitVec 32 := 0#32
  let v382 : Index := Scalar.indexCast c0_i32_167
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![0, v383.toNat, 48]
def k0_off44 (v125 : BitVec 32) (v135 : BitVec 32) (k0_t5 : Fin (k0_t5_loop v125 v135).trips) (c1_i32_169 : BitVec 32) : Fin 3 → Nat :=
  let c0_i32_170 : BitVec 32 := 0#32
  let v386 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![0, v387.toNat, 48]
def k0_off45 (v125 : BitVec 32) (v135 : BitVec 32) (k0_t5 : Fin (k0_t5_loop v125 v135).trips) : Fin 3 → Nat :=
  let c0_i32_178 : BitVec 32 := 0#32
  let v401 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![0, v402.toNat, 64]
def k0_off46 (v125 : BitVec 32) (v135 : BitVec 32) (k0_t5 : Fin (k0_t5_loop v125 v135).trips) (c1_i32_180 : BitVec 32) : Fin 3 → Nat :=
  let c0_i32_181 : BitVec 32 := 0#32
  let v405 : Index := Scalar.indexCast c0_i32_181
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![0, v406.toNat, 64]
def k0_off47 (v125 : BitVec 32) (v135 : BitVec 32) (k0_t5 : Fin (k0_t5_loop v125 v135).trips) : Fin 3 → Nat :=
  let c0_i32_189 : BitVec 32 := 0#32
  let v420 : Index := Scalar.indexCast c0_i32_189
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![0, v421.toNat, 80]
def k0_off48 (v125 : BitVec 32) (v135 : BitVec 32) (k0_t5 : Fin (k0_t5_loop v125 v135).trips) (c1_i32_191 : BitVec 32) : Fin 3 → Nat :=
  let c0_i32_192 : BitVec 32 := 0#32
  let v424 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![0, v425.toNat, 80]
def k0_off49 (v125 : BitVec 32) (v135 : BitVec 32) (k0_t5 : Fin (k0_t5_loop v125 v135).trips) : Fin 3 → Nat :=
  let c0_i32_200 : BitVec 32 := 0#32
  let v439 : Index := Scalar.indexCast c0_i32_200
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![0, v440.toNat, 96]
def k0_off50 (v125 : BitVec 32) (v135 : BitVec 32) (k0_t5 : Fin (k0_t5_loop v125 v135).trips) (c1_i32_202 : BitVec 32) : Fin 3 → Nat :=
  let c0_i32_203 : BitVec 32 := 0#32
  let v443 : Index := Scalar.indexCast c0_i32_203
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![0, v444.toNat, 96]
def k0_off51 (v125 : BitVec 32) (v135 : BitVec 32) (k0_t5 : Fin (k0_t5_loop v125 v135).trips) : Fin 3 → Nat :=
  let c0_i32_211 : BitVec 32 := 0#32
  let v458 : Index := Scalar.indexCast c0_i32_211
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![0, v459.toNat, 112]
def k0_off52 (v125 : BitVec 32) (v135 : BitVec 32) (k0_t5 : Fin (k0_t5_loop v125 v135).trips) (c1_i32_213 : BitVec 32) : Fin 3 → Nat :=
  let c0_i32_214 : BitVec 32 := 0#32
  let v462 : Index := Scalar.indexCast c0_i32_214
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![0, v463.toNat, 112]
def k0_off53 (v125 : BitVec 32) (v135 : BitVec 32) (k0_t5 : Fin (k0_t5_loop v125 v135).trips) : Fin 3 → Nat :=
  let c0_i32_222 : BitVec 32 := 0#32
  let v477 : Index := Scalar.indexCast c0_i32_222
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![0, v478.toNat, 128]
def k0_off54 (v125 : BitVec 32) (v135 : BitVec 32) (k0_t5 : Fin (k0_t5_loop v125 v135).trips) (c1_i32_224 : BitVec 32) : Fin 3 → Nat :=
  let c0_i32_225 : BitVec 32 := 0#32
  let v481 : Index := Scalar.indexCast c0_i32_225
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![0, v482.toNat, 128]
def k0_off55 (v125 : BitVec 32) (v135 : BitVec 32) (k0_t5 : Fin (k0_t5_loop v125 v135).trips) : Fin 3 → Nat :=
  let c0_i32_233 : BitVec 32 := 0#32
  let v496 : Index := Scalar.indexCast c0_i32_233
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![0, v497.toNat, 144]
def k0_off56 (v125 : BitVec 32) (v135 : BitVec 32) (k0_t5 : Fin (k0_t5_loop v125 v135).trips) (c1_i32_235 : BitVec 32) : Fin 3 → Nat :=
  let c0_i32_236 : BitVec 32 := 0#32
  let v500 : Index := Scalar.indexCast c0_i32_236
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![0, v501.toNat, 144]
def k0_off57 (v125 : BitVec 32) (v135 : BitVec 32) (k0_t5 : Fin (k0_t5_loop v125 v135).trips) : Fin 3 → Nat :=
  let c0_i32_244 : BitVec 32 := 0#32
  let v515 : Index := Scalar.indexCast c0_i32_244
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![0, v516.toNat, 160]
def k0_off58 (v125 : BitVec 32) (v135 : BitVec 32) (k0_t5 : Fin (k0_t5_loop v125 v135).trips) (c1_i32_246 : BitVec 32) : Fin 3 → Nat :=
  let c0_i32_247 : BitVec 32 := 0#32
  let v519 : Index := Scalar.indexCast c0_i32_247
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![0, v520.toNat, 160]
def k0_off59 (v125 : BitVec 32) (v135 : BitVec 32) (k0_t5 : Fin (k0_t5_loop v125 v135).trips) : Fin 3 → Nat :=
  let c0_i32_255 : BitVec 32 := 0#32
  let v534 : Index := Scalar.indexCast c0_i32_255
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![0, v535.toNat, 176]
def k0_off60 (v125 : BitVec 32) (v135 : BitVec 32) (k0_t5 : Fin (k0_t5_loop v125 v135).trips) (c1_i32_257 : BitVec 32) : Fin 3 → Nat :=
  let c0_i32_258 : BitVec 32 := 0#32
  let v538 : Index := Scalar.indexCast c0_i32_258
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![0, v539.toNat, 176]
def k0_off61 (v125 : BitVec 32) (v135 : BitVec 32) (k0_t5 : Fin (k0_t5_loop v125 v135).trips) : Fin 3 → Nat :=
  let c0_i32_266 : BitVec 32 := 0#32
  let v553 : Index := Scalar.indexCast c0_i32_266
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![0, v554.toNat, 192]
def k0_off62 (v125 : BitVec 32) (v135 : BitVec 32) (k0_t5 : Fin (k0_t5_loop v125 v135).trips) (c1_i32_268 : BitVec 32) : Fin 3 → Nat :=
  let c0_i32_269 : BitVec 32 := 0#32
  let v557 : Index := Scalar.indexCast c0_i32_269
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![0, v558.toNat, 192]
def k0_off63 (v125 : BitVec 32) (v135 : BitVec 32) (k0_t5 : Fin (k0_t5_loop v125 v135).trips) : Fin 3 → Nat :=
  let c0_i32_277 : BitVec 32 := 0#32
  let v572 : Index := Scalar.indexCast c0_i32_277
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![0, v573.toNat, 208]
def k0_off64 (v125 : BitVec 32) (v135 : BitVec 32) (k0_t5 : Fin (k0_t5_loop v125 v135).trips) (c1_i32_279 : BitVec 32) : Fin 3 → Nat :=
  let c0_i32_280 : BitVec 32 := 0#32
  let v576 : Index := Scalar.indexCast c0_i32_280
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![0, v577.toNat, 208]
def k0_off65 (v125 : BitVec 32) (v135 : BitVec 32) (k0_t5 : Fin (k0_t5_loop v125 v135).trips) : Fin 3 → Nat :=
  let c0_i32_288 : BitVec 32 := 0#32
  let v591 : Index := Scalar.indexCast c0_i32_288
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![0, v592.toNat, 224]
def k0_off66 (v125 : BitVec 32) (v135 : BitVec 32) (k0_t5 : Fin (k0_t5_loop v125 v135).trips) (c1_i32_290 : BitVec 32) : Fin 3 → Nat :=
  let c0_i32_291 : BitVec 32 := 0#32
  let v595 : Index := Scalar.indexCast c0_i32_291
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![0, v596.toNat, 224]
def k0_off67 (v125 : BitVec 32) (v135 : BitVec 32) (k0_t5 : Fin (k0_t5_loop v125 v135).trips) : Fin 3 → Nat :=
  let c0_i32_299 : BitVec 32 := 0#32
  let v610 : Index := Scalar.indexCast c0_i32_299
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![0, v611.toNat, 240]
def k0_off68 (v125 : BitVec 32) (v135 : BitVec 32) (k0_t5 : Fin (k0_t5_loop v125 v135).trips) (c1_i32_301 : BitVec 32) : Fin 3 → Nat :=
  let c0_i32_302 : BitVec 32 := 0#32
  let v614 : Index := Scalar.indexCast c0_i32_302
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![0, v615.toNat, 240]
def k0_off69 (v125 : BitVec 32) (v135 : BitVec 32) (k0_t5 : Fin (k0_t5_loop v125 v135).trips) : Fin 3 → Nat :=
  let c0_i32_310 : BitVec 32 := 0#32
  let v629 : Index := Scalar.indexCast c0_i32_310
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![0, v630.toNat, 256]
def k0_off70 (v125 : BitVec 32) (v135 : BitVec 32) (k0_t5 : Fin (k0_t5_loop v125 v135).trips) (c1_i32_312 : BitVec 32) : Fin 3 → Nat :=
  let c0_i32_313 : BitVec 32 := 0#32
  let v633 : Index := Scalar.indexCast c0_i32_313
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![0, v634.toNat, 256]
def k0_off71 (v125 : BitVec 32) (v135 : BitVec 32) (k0_t5 : Fin (k0_t5_loop v125 v135).trips) : Fin 3 → Nat :=
  let c0_i32_321 : BitVec 32 := 0#32
  let v648 : Index := Scalar.indexCast c0_i32_321
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![0, v649.toNat, 272]
def k0_off72 (v125 : BitVec 32) (v135 : BitVec 32) (k0_t5 : Fin (k0_t5_loop v125 v135).trips) (c1_i32_323 : BitVec 32) : Fin 3 → Nat :=
  let c0_i32_324 : BitVec 32 := 0#32
  let v652 : Index := Scalar.indexCast c0_i32_324
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![0, v653.toNat, 272]
def k0_off73 (v125 : BitVec 32) (v135 : BitVec 32) (k0_t5 : Fin (k0_t5_loop v125 v135).trips) : Fin 3 → Nat :=
  let c0_i32_332 : BitVec 32 := 0#32
  let v667 : Index := Scalar.indexCast c0_i32_332
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![0, v668.toNat, 288]
def k0_off74 (v125 : BitVec 32) (v135 : BitVec 32) (k0_t5 : Fin (k0_t5_loop v125 v135).trips) (c1_i32_334 : BitVec 32) : Fin 3 → Nat :=
  let c0_i32_335 : BitVec 32 := 0#32
  let v671 : Index := Scalar.indexCast c0_i32_335
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![0, v672.toNat, 288]
def k0_off75 (v125 : BitVec 32) (v135 : BitVec 32) (k0_t5 : Fin (k0_t5_loop v125 v135).trips) : Fin 3 → Nat :=
  let c0_i32_343 : BitVec 32 := 0#32
  let v686 : Index := Scalar.indexCast c0_i32_343
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![0, v687.toNat, 304]
def k0_off76 (v125 : BitVec 32) (v135 : BitVec 32) (k0_t5 : Fin (k0_t5_loop v125 v135).trips) (c1_i32_345 : BitVec 32) : Fin 3 → Nat :=
  let c0_i32_346 : BitVec 32 := 0#32
  let v690 : Index := Scalar.indexCast c0_i32_346
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![0, v691.toNat, 304]
def k0_off77 (v125 : BitVec 32) (v135 : BitVec 32) (k0_t5 : Fin (k0_t5_loop v125 v135).trips) : Fin 3 → Nat :=
  let c0_i32_354 : BitVec 32 := 0#32
  let v705 : Index := Scalar.indexCast c0_i32_354
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![0, v706.toNat, 320]
def k0_off78 (v125 : BitVec 32) (v135 : BitVec 32) (k0_t5 : Fin (k0_t5_loop v125 v135).trips) (c1_i32_356 : BitVec 32) : Fin 3 → Nat :=
  let c0_i32_357 : BitVec 32 := 0#32
  let v709 : Index := Scalar.indexCast c0_i32_357
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![0, v710.toNat, 320]
def k0_off79 (v125 : BitVec 32) (v135 : BitVec 32) (k0_t5 : Fin (k0_t5_loop v125 v135).trips) : Fin 3 → Nat :=
  let c0_i32_365 : BitVec 32 := 0#32
  let v724 : Index := Scalar.indexCast c0_i32_365
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![0, v725.toNat, 336]
def k0_off80 (v125 : BitVec 32) (v135 : BitVec 32) (k0_t5 : Fin (k0_t5_loop v125 v135).trips) (c1_i32_367 : BitVec 32) : Fin 3 → Nat :=
  let c0_i32_368 : BitVec 32 := 0#32
  let v728 : Index := Scalar.indexCast c0_i32_368
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![0, v729.toNat, 336]
def k0_off81 (v125 : BitVec 32) (v135 : BitVec 32) (k0_t5 : Fin (k0_t5_loop v125 v135).trips) : Fin 3 → Nat :=
  let c0_i32_376 : BitVec 32 := 0#32
  let v743 : Index := Scalar.indexCast c0_i32_376
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![0, v744.toNat, 352]
def k0_off82 (v125 : BitVec 32) (v135 : BitVec 32) (k0_t5 : Fin (k0_t5_loop v125 v135).trips) (c1_i32_378 : BitVec 32) : Fin 3 → Nat :=
  let c0_i32_379 : BitVec 32 := 0#32
  let v747 : Index := Scalar.indexCast c0_i32_379
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![0, v748.toNat, 352]
def k0_off83 (v125 : BitVec 32) (v135 : BitVec 32) (k0_t5 : Fin (k0_t5_loop v125 v135).trips) : Fin 3 → Nat :=
  let c0_i32_387 : BitVec 32 := 0#32
  let v762 : Index := Scalar.indexCast c0_i32_387
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![0, v763.toNat, 368]
def k0_off84 (v125 : BitVec 32) (v135 : BitVec 32) (k0_t5 : Fin (k0_t5_loop v125 v135).trips) (c1_i32_389 : BitVec 32) : Fin 3 → Nat :=
  let c0_i32_390 : BitVec 32 := 0#32
  let v766 : Index := Scalar.indexCast c0_i32_390
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![0, v767.toNat, 368]
def k0_off85 (v125 : BitVec 32) (v135 : BitVec 32) (k0_t5 : Fin (k0_t5_loop v125 v135).trips) : Fin 3 → Nat :=
  let c0_i32_398 : BitVec 32 := 0#32
  let v781 : Index := Scalar.indexCast c0_i32_398
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![0, v782.toNat, 384]
def k0_off86 (v125 : BitVec 32) (v135 : BitVec 32) (k0_t5 : Fin (k0_t5_loop v125 v135).trips) (c1_i32_400 : BitVec 32) : Fin 3 → Nat :=
  let c0_i32_401 : BitVec 32 := 0#32
  let v785 : Index := Scalar.indexCast c0_i32_401
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![0, v786.toNat, 384]
def k0_off87 (v125 : BitVec 32) (v135 : BitVec 32) (k0_t5 : Fin (k0_t5_loop v125 v135).trips) : Fin 3 → Nat :=
  let c0_i32_409 : BitVec 32 := 0#32
  let v800 : Index := Scalar.indexCast c0_i32_409
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![0, v801.toNat, 400]
def k0_off88 (v125 : BitVec 32) (v135 : BitVec 32) (k0_t5 : Fin (k0_t5_loop v125 v135).trips) (c1_i32_411 : BitVec 32) : Fin 3 → Nat :=
  let c0_i32_412 : BitVec 32 := 0#32
  let v804 : Index := Scalar.indexCast c0_i32_412
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![0, v805.toNat, 400]
def k0_off89 (v125 : BitVec 32) (v135 : BitVec 32) (k0_t5 : Fin (k0_t5_loop v125 v135).trips) : Fin 3 → Nat :=
  let c0_i32_420 : BitVec 32 := 0#32
  let v819 : Index := Scalar.indexCast c0_i32_420
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![0, v820.toNat, 416]
def k0_off90 (v125 : BitVec 32) (v135 : BitVec 32) (k0_t5 : Fin (k0_t5_loop v125 v135).trips) (c1_i32_422 : BitVec 32) : Fin 3 → Nat :=
  let c0_i32_423 : BitVec 32 := 0#32
  let v823 : Index := Scalar.indexCast c0_i32_423
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![0, v824.toNat, 416]
def k0_off91 (v125 : BitVec 32) (v135 : BitVec 32) (k0_t5 : Fin (k0_t5_loop v125 v135).trips) : Fin 3 → Nat :=
  let c0_i32_431 : BitVec 32 := 0#32
  let v838 : Index := Scalar.indexCast c0_i32_431
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![0, v839.toNat, 432]
def k0_off92 (v125 : BitVec 32) (v135 : BitVec 32) (k0_t5 : Fin (k0_t5_loop v125 v135).trips) (c1_i32_433 : BitVec 32) : Fin 3 → Nat :=
  let c0_i32_434 : BitVec 32 := 0#32
  let v842 : Index := Scalar.indexCast c0_i32_434
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![0, v843.toNat, 432]
def k0_off93 (v125 : BitVec 32) (v135 : BitVec 32) (k0_t5 : Fin (k0_t5_loop v125 v135).trips) : Fin 3 → Nat :=
  let c0_i32_442 : BitVec 32 := 0#32
  let v857 : Index := Scalar.indexCast c0_i32_442
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![0, v858.toNat, 448]
def k0_off94 (v125 : BitVec 32) (v135 : BitVec 32) (k0_t5 : Fin (k0_t5_loop v125 v135).trips) (c1_i32_444 : BitVec 32) : Fin 3 → Nat :=
  let c0_i32_445 : BitVec 32 := 0#32
  let v861 : Index := Scalar.indexCast c0_i32_445
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![0, v862.toNat, 448]
def k0_off95 (v125 : BitVec 32) (v135 : BitVec 32) (k0_t5 : Fin (k0_t5_loop v125 v135).trips) : Fin 3 → Nat :=
  let c0_i32_453 : BitVec 32 := 0#32
  let v876 : Index := Scalar.indexCast c0_i32_453
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![0, v877.toNat, 464]
def k0_off96 (v125 : BitVec 32) (v135 : BitVec 32) (k0_t5 : Fin (k0_t5_loop v125 v135).trips) (c1_i32_455 : BitVec 32) : Fin 3 → Nat :=
  let c0_i32_456 : BitVec 32 := 0#32
  let v880 : Index := Scalar.indexCast c0_i32_456
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![0, v881.toNat, 464]
def k0_off97 (v125 : BitVec 32) (v135 : BitVec 32) (k0_t5 : Fin (k0_t5_loop v125 v135).trips) : Fin 3 → Nat :=
  let c0_i32_464 : BitVec 32 := 0#32
  let v895 : Index := Scalar.indexCast c0_i32_464
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![0, v896.toNat, 480]
def k0_off98 (v125 : BitVec 32) (v135 : BitVec 32) (k0_t5 : Fin (k0_t5_loop v125 v135).trips) (c1_i32_466 : BitVec 32) : Fin 3 → Nat :=
  let c0_i32_467 : BitVec 32 := 0#32
  let v899 : Index := Scalar.indexCast c0_i32_467
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![0, v900.toNat, 480]
def k0_off99 (v125 : BitVec 32) (v135 : BitVec 32) (k0_t5 : Fin (k0_t5_loop v125 v135).trips) : Fin 3 → Nat :=
  let c0_i32_475 : BitVec 32 := 0#32
  let v914 : Index := Scalar.indexCast c0_i32_475
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![0, v915.toNat, 496]
def k0_off100 (v125 : BitVec 32) (v135 : BitVec 32) (k0_t5 : Fin (k0_t5_loop v125 v135).trips) (c1_i32_477 : BitVec 32) : Fin 3 → Nat :=
  let c0_i32_478 : BitVec 32 := 0#32
  let v918 : Index := Scalar.indexCast c0_i32_478
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t5
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![0, v919.toNat, 496]
@[reducible] def k0_t6_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v139 : BitVec 32 := Scalar.subi v135 v44
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v44
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let v148 : BitVec 32 := Scalar.addi c0_i32_94 v147
  let c1_i32_97 : BitVec 32 := 1#32
  ⟨v151, v148, c1_i32_97⟩
def k0_off101 (v125 : BitVec 32) (v135 : BitVec 32) (k0_t6 : Fin (k0_t6_loop v125 v135).trips) : Fin 3 → Nat :=
  let c0_i32_135 : BitVec 32 := 0#32
  let v325 : Index := Scalar.indexCast c0_i32_135
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![0, v326.toNat, 0]
def k0_off102 (v125 : BitVec 32) (v135 : BitVec 32) (k0_t6 : Fin (k0_t6_loop v125 v135).trips) (c1_i32_137 : BitVec 32) : Fin 3 → Nat :=
  let c0_i32_138 : BitVec 32 := 0#32
  let v329 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![0, v330.toNat, 0]
def k0_off103 (v125 : BitVec 32) (v135 : BitVec 32) (k0_t6 : Fin (k0_t6_loop v125 v135).trips) : Fin 3 → Nat :=
  let c0_i32_145 : BitVec 32 := 0#32
  let v344 : Index := Scalar.indexCast c0_i32_145
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![0, v345.toNat, 16]
def k0_off104 (v125 : BitVec 32) (v135 : BitVec 32) (k0_t6 : Fin (k0_t6_loop v125 v135).trips) (c1_i32_147 : BitVec 32) : Fin 3 → Nat :=
  let c0_i32_148 : BitVec 32 := 0#32
  let v348 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![0, v349.toNat, 16]
def k0_off105 (v125 : BitVec 32) (v135 : BitVec 32) (k0_t6 : Fin (k0_t6_loop v125 v135).trips) : Fin 3 → Nat :=
  let c0_i32_156 : BitVec 32 := 0#32
  let v363 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![0, v364.toNat, 32]
def k0_off106 (v125 : BitVec 32) (v135 : BitVec 32) (k0_t6 : Fin (k0_t6_loop v125 v135).trips) (c1_i32_158 : BitVec 32) : Fin 3 → Nat :=
  let c0_i32_159 : BitVec 32 := 0#32
  let v367 : Index := Scalar.indexCast c0_i32_159
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![0, v368.toNat, 32]
def k0_off107 (v125 : BitVec 32) (v135 : BitVec 32) (k0_t6 : Fin (k0_t6_loop v125 v135).trips) : Fin 3 → Nat :=
  let c0_i32_167 : BitVec 32 := 0#32
  let v382 : Index := Scalar.indexCast c0_i32_167
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![0, v383.toNat, 48]
def k0_off108 (v125 : BitVec 32) (v135 : BitVec 32) (k0_t6 : Fin (k0_t6_loop v125 v135).trips) (c1_i32_169 : BitVec 32) : Fin 3 → Nat :=
  let c0_i32_170 : BitVec 32 := 0#32
  let v386 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![0, v387.toNat, 48]
def k0_off109 (v125 : BitVec 32) (v135 : BitVec 32) (k0_t6 : Fin (k0_t6_loop v125 v135).trips) : Fin 3 → Nat :=
  let c0_i32_178 : BitVec 32 := 0#32
  let v401 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![0, v402.toNat, 64]
def k0_off110 (v125 : BitVec 32) (v135 : BitVec 32) (k0_t6 : Fin (k0_t6_loop v125 v135).trips) (c1_i32_180 : BitVec 32) : Fin 3 → Nat :=
  let c0_i32_181 : BitVec 32 := 0#32
  let v405 : Index := Scalar.indexCast c0_i32_181
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![0, v406.toNat, 64]
def k0_off111 (v125 : BitVec 32) (v135 : BitVec 32) (k0_t6 : Fin (k0_t6_loop v125 v135).trips) : Fin 3 → Nat :=
  let c0_i32_189 : BitVec 32 := 0#32
  let v420 : Index := Scalar.indexCast c0_i32_189
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![0, v421.toNat, 80]
def k0_off112 (v125 : BitVec 32) (v135 : BitVec 32) (k0_t6 : Fin (k0_t6_loop v125 v135).trips) (c1_i32_191 : BitVec 32) : Fin 3 → Nat :=
  let c0_i32_192 : BitVec 32 := 0#32
  let v424 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![0, v425.toNat, 80]
def k0_off113 (v125 : BitVec 32) (v135 : BitVec 32) (k0_t6 : Fin (k0_t6_loop v125 v135).trips) : Fin 3 → Nat :=
  let c0_i32_200 : BitVec 32 := 0#32
  let v439 : Index := Scalar.indexCast c0_i32_200
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![0, v440.toNat, 96]
def k0_off114 (v125 : BitVec 32) (v135 : BitVec 32) (k0_t6 : Fin (k0_t6_loop v125 v135).trips) (c1_i32_202 : BitVec 32) : Fin 3 → Nat :=
  let c0_i32_203 : BitVec 32 := 0#32
  let v443 : Index := Scalar.indexCast c0_i32_203
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![0, v444.toNat, 96]
def k0_off115 (v125 : BitVec 32) (v135 : BitVec 32) (k0_t6 : Fin (k0_t6_loop v125 v135).trips) : Fin 3 → Nat :=
  let c0_i32_211 : BitVec 32 := 0#32
  let v458 : Index := Scalar.indexCast c0_i32_211
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![0, v459.toNat, 112]
def k0_off116 (v125 : BitVec 32) (v135 : BitVec 32) (k0_t6 : Fin (k0_t6_loop v125 v135).trips) (c1_i32_213 : BitVec 32) : Fin 3 → Nat :=
  let c0_i32_214 : BitVec 32 := 0#32
  let v462 : Index := Scalar.indexCast c0_i32_214
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![0, v463.toNat, 112]
def k0_off117 (v125 : BitVec 32) (v135 : BitVec 32) (k0_t6 : Fin (k0_t6_loop v125 v135).trips) : Fin 3 → Nat :=
  let c0_i32_222 : BitVec 32 := 0#32
  let v477 : Index := Scalar.indexCast c0_i32_222
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![0, v478.toNat, 128]
def k0_off118 (v125 : BitVec 32) (v135 : BitVec 32) (k0_t6 : Fin (k0_t6_loop v125 v135).trips) (c1_i32_224 : BitVec 32) : Fin 3 → Nat :=
  let c0_i32_225 : BitVec 32 := 0#32
  let v481 : Index := Scalar.indexCast c0_i32_225
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![0, v482.toNat, 128]
def k0_off119 (v125 : BitVec 32) (v135 : BitVec 32) (k0_t6 : Fin (k0_t6_loop v125 v135).trips) : Fin 3 → Nat :=
  let c0_i32_233 : BitVec 32 := 0#32
  let v496 : Index := Scalar.indexCast c0_i32_233
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![0, v497.toNat, 144]
def k0_off120 (v125 : BitVec 32) (v135 : BitVec 32) (k0_t6 : Fin (k0_t6_loop v125 v135).trips) (c1_i32_235 : BitVec 32) : Fin 3 → Nat :=
  let c0_i32_236 : BitVec 32 := 0#32
  let v500 : Index := Scalar.indexCast c0_i32_236
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![0, v501.toNat, 144]
def k0_off121 (v125 : BitVec 32) (v135 : BitVec 32) (k0_t6 : Fin (k0_t6_loop v125 v135).trips) : Fin 3 → Nat :=
  let c0_i32_244 : BitVec 32 := 0#32
  let v515 : Index := Scalar.indexCast c0_i32_244
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![0, v516.toNat, 160]
def k0_off122 (v125 : BitVec 32) (v135 : BitVec 32) (k0_t6 : Fin (k0_t6_loop v125 v135).trips) (c1_i32_246 : BitVec 32) : Fin 3 → Nat :=
  let c0_i32_247 : BitVec 32 := 0#32
  let v519 : Index := Scalar.indexCast c0_i32_247
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![0, v520.toNat, 160]
def k0_off123 (v125 : BitVec 32) (v135 : BitVec 32) (k0_t6 : Fin (k0_t6_loop v125 v135).trips) : Fin 3 → Nat :=
  let c0_i32_255 : BitVec 32 := 0#32
  let v534 : Index := Scalar.indexCast c0_i32_255
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![0, v535.toNat, 176]
def k0_off124 (v125 : BitVec 32) (v135 : BitVec 32) (k0_t6 : Fin (k0_t6_loop v125 v135).trips) (c1_i32_257 : BitVec 32) : Fin 3 → Nat :=
  let c0_i32_258 : BitVec 32 := 0#32
  let v538 : Index := Scalar.indexCast c0_i32_258
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![0, v539.toNat, 176]
def k0_off125 (v125 : BitVec 32) (v135 : BitVec 32) (k0_t6 : Fin (k0_t6_loop v125 v135).trips) : Fin 3 → Nat :=
  let c0_i32_266 : BitVec 32 := 0#32
  let v553 : Index := Scalar.indexCast c0_i32_266
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![0, v554.toNat, 192]
def k0_off126 (v125 : BitVec 32) (v135 : BitVec 32) (k0_t6 : Fin (k0_t6_loop v125 v135).trips) (c1_i32_268 : BitVec 32) : Fin 3 → Nat :=
  let c0_i32_269 : BitVec 32 := 0#32
  let v557 : Index := Scalar.indexCast c0_i32_269
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![0, v558.toNat, 192]
def k0_off127 (v125 : BitVec 32) (v135 : BitVec 32) (k0_t6 : Fin (k0_t6_loop v125 v135).trips) : Fin 3 → Nat :=
  let c0_i32_277 : BitVec 32 := 0#32
  let v572 : Index := Scalar.indexCast c0_i32_277
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![0, v573.toNat, 208]
def k0_off128 (v125 : BitVec 32) (v135 : BitVec 32) (k0_t6 : Fin (k0_t6_loop v125 v135).trips) (c1_i32_279 : BitVec 32) : Fin 3 → Nat :=
  let c0_i32_280 : BitVec 32 := 0#32
  let v576 : Index := Scalar.indexCast c0_i32_280
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![0, v577.toNat, 208]
def k0_off129 (v125 : BitVec 32) (v135 : BitVec 32) (k0_t6 : Fin (k0_t6_loop v125 v135).trips) : Fin 3 → Nat :=
  let c0_i32_288 : BitVec 32 := 0#32
  let v591 : Index := Scalar.indexCast c0_i32_288
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![0, v592.toNat, 224]
def k0_off130 (v125 : BitVec 32) (v135 : BitVec 32) (k0_t6 : Fin (k0_t6_loop v125 v135).trips) (c1_i32_290 : BitVec 32) : Fin 3 → Nat :=
  let c0_i32_291 : BitVec 32 := 0#32
  let v595 : Index := Scalar.indexCast c0_i32_291
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![0, v596.toNat, 224]
def k0_off131 (v125 : BitVec 32) (v135 : BitVec 32) (k0_t6 : Fin (k0_t6_loop v125 v135).trips) : Fin 3 → Nat :=
  let c0_i32_299 : BitVec 32 := 0#32
  let v610 : Index := Scalar.indexCast c0_i32_299
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![0, v611.toNat, 240]
def k0_off132 (v125 : BitVec 32) (v135 : BitVec 32) (k0_t6 : Fin (k0_t6_loop v125 v135).trips) (c1_i32_301 : BitVec 32) : Fin 3 → Nat :=
  let c0_i32_302 : BitVec 32 := 0#32
  let v614 : Index := Scalar.indexCast c0_i32_302
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![0, v615.toNat, 240]
def k0_off133 (v125 : BitVec 32) (v135 : BitVec 32) (k0_t6 : Fin (k0_t6_loop v125 v135).trips) : Fin 3 → Nat :=
  let c0_i32_310 : BitVec 32 := 0#32
  let v629 : Index := Scalar.indexCast c0_i32_310
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![0, v630.toNat, 256]
def k0_off134 (v125 : BitVec 32) (v135 : BitVec 32) (k0_t6 : Fin (k0_t6_loop v125 v135).trips) (c1_i32_312 : BitVec 32) : Fin 3 → Nat :=
  let c0_i32_313 : BitVec 32 := 0#32
  let v633 : Index := Scalar.indexCast c0_i32_313
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![0, v634.toNat, 256]
def k0_off135 (v125 : BitVec 32) (v135 : BitVec 32) (k0_t6 : Fin (k0_t6_loop v125 v135).trips) : Fin 3 → Nat :=
  let c0_i32_321 : BitVec 32 := 0#32
  let v648 : Index := Scalar.indexCast c0_i32_321
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![0, v649.toNat, 272]
def k0_off136 (v125 : BitVec 32) (v135 : BitVec 32) (k0_t6 : Fin (k0_t6_loop v125 v135).trips) (c1_i32_323 : BitVec 32) : Fin 3 → Nat :=
  let c0_i32_324 : BitVec 32 := 0#32
  let v652 : Index := Scalar.indexCast c0_i32_324
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![0, v653.toNat, 272]
def k0_off137 (v125 : BitVec 32) (v135 : BitVec 32) (k0_t6 : Fin (k0_t6_loop v125 v135).trips) : Fin 3 → Nat :=
  let c0_i32_332 : BitVec 32 := 0#32
  let v667 : Index := Scalar.indexCast c0_i32_332
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![0, v668.toNat, 288]
def k0_off138 (v125 : BitVec 32) (v135 : BitVec 32) (k0_t6 : Fin (k0_t6_loop v125 v135).trips) (c1_i32_334 : BitVec 32) : Fin 3 → Nat :=
  let c0_i32_335 : BitVec 32 := 0#32
  let v671 : Index := Scalar.indexCast c0_i32_335
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![0, v672.toNat, 288]
def k0_off139 (v125 : BitVec 32) (v135 : BitVec 32) (k0_t6 : Fin (k0_t6_loop v125 v135).trips) : Fin 3 → Nat :=
  let c0_i32_343 : BitVec 32 := 0#32
  let v686 : Index := Scalar.indexCast c0_i32_343
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![0, v687.toNat, 304]
def k0_off140 (v125 : BitVec 32) (v135 : BitVec 32) (k0_t6 : Fin (k0_t6_loop v125 v135).trips) (c1_i32_345 : BitVec 32) : Fin 3 → Nat :=
  let c0_i32_346 : BitVec 32 := 0#32
  let v690 : Index := Scalar.indexCast c0_i32_346
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![0, v691.toNat, 304]
def k0_off141 (v125 : BitVec 32) (v135 : BitVec 32) (k0_t6 : Fin (k0_t6_loop v125 v135).trips) : Fin 3 → Nat :=
  let c0_i32_354 : BitVec 32 := 0#32
  let v705 : Index := Scalar.indexCast c0_i32_354
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![0, v706.toNat, 320]
def k0_off142 (v125 : BitVec 32) (v135 : BitVec 32) (k0_t6 : Fin (k0_t6_loop v125 v135).trips) (c1_i32_356 : BitVec 32) : Fin 3 → Nat :=
  let c0_i32_357 : BitVec 32 := 0#32
  let v709 : Index := Scalar.indexCast c0_i32_357
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![0, v710.toNat, 320]
def k0_off143 (v125 : BitVec 32) (v135 : BitVec 32) (k0_t6 : Fin (k0_t6_loop v125 v135).trips) : Fin 3 → Nat :=
  let c0_i32_365 : BitVec 32 := 0#32
  let v724 : Index := Scalar.indexCast c0_i32_365
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![0, v725.toNat, 336]
def k0_off144 (v125 : BitVec 32) (v135 : BitVec 32) (k0_t6 : Fin (k0_t6_loop v125 v135).trips) (c1_i32_367 : BitVec 32) : Fin 3 → Nat :=
  let c0_i32_368 : BitVec 32 := 0#32
  let v728 : Index := Scalar.indexCast c0_i32_368
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![0, v729.toNat, 336]
def k0_off145 (v125 : BitVec 32) (v135 : BitVec 32) (k0_t6 : Fin (k0_t6_loop v125 v135).trips) : Fin 3 → Nat :=
  let c0_i32_376 : BitVec 32 := 0#32
  let v743 : Index := Scalar.indexCast c0_i32_376
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![0, v744.toNat, 352]
def k0_off146 (v125 : BitVec 32) (v135 : BitVec 32) (k0_t6 : Fin (k0_t6_loop v125 v135).trips) (c1_i32_378 : BitVec 32) : Fin 3 → Nat :=
  let c0_i32_379 : BitVec 32 := 0#32
  let v747 : Index := Scalar.indexCast c0_i32_379
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![0, v748.toNat, 352]
def k0_off147 (v125 : BitVec 32) (v135 : BitVec 32) (k0_t6 : Fin (k0_t6_loop v125 v135).trips) : Fin 3 → Nat :=
  let c0_i32_387 : BitVec 32 := 0#32
  let v762 : Index := Scalar.indexCast c0_i32_387
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![0, v763.toNat, 368]
def k0_off148 (v125 : BitVec 32) (v135 : BitVec 32) (k0_t6 : Fin (k0_t6_loop v125 v135).trips) (c1_i32_389 : BitVec 32) : Fin 3 → Nat :=
  let c0_i32_390 : BitVec 32 := 0#32
  let v766 : Index := Scalar.indexCast c0_i32_390
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![0, v767.toNat, 368]
def k0_off149 (v125 : BitVec 32) (v135 : BitVec 32) (k0_t6 : Fin (k0_t6_loop v125 v135).trips) : Fin 3 → Nat :=
  let c0_i32_398 : BitVec 32 := 0#32
  let v781 : Index := Scalar.indexCast c0_i32_398
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![0, v782.toNat, 384]
def k0_off150 (v125 : BitVec 32) (v135 : BitVec 32) (k0_t6 : Fin (k0_t6_loop v125 v135).trips) (c1_i32_400 : BitVec 32) : Fin 3 → Nat :=
  let c0_i32_401 : BitVec 32 := 0#32
  let v785 : Index := Scalar.indexCast c0_i32_401
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![0, v786.toNat, 384]
def k0_off151 (v125 : BitVec 32) (v135 : BitVec 32) (k0_t6 : Fin (k0_t6_loop v125 v135).trips) : Fin 3 → Nat :=
  let c0_i32_409 : BitVec 32 := 0#32
  let v800 : Index := Scalar.indexCast c0_i32_409
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![0, v801.toNat, 400]
def k0_off152 (v125 : BitVec 32) (v135 : BitVec 32) (k0_t6 : Fin (k0_t6_loop v125 v135).trips) (c1_i32_411 : BitVec 32) : Fin 3 → Nat :=
  let c0_i32_412 : BitVec 32 := 0#32
  let v804 : Index := Scalar.indexCast c0_i32_412
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![0, v805.toNat, 400]
def k0_off153 (v125 : BitVec 32) (v135 : BitVec 32) (k0_t6 : Fin (k0_t6_loop v125 v135).trips) : Fin 3 → Nat :=
  let c0_i32_420 : BitVec 32 := 0#32
  let v819 : Index := Scalar.indexCast c0_i32_420
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![0, v820.toNat, 416]
def k0_off154 (v125 : BitVec 32) (v135 : BitVec 32) (k0_t6 : Fin (k0_t6_loop v125 v135).trips) (c1_i32_422 : BitVec 32) : Fin 3 → Nat :=
  let c0_i32_423 : BitVec 32 := 0#32
  let v823 : Index := Scalar.indexCast c0_i32_423
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![0, v824.toNat, 416]
def k0_off155 (v125 : BitVec 32) (v135 : BitVec 32) (k0_t6 : Fin (k0_t6_loop v125 v135).trips) : Fin 3 → Nat :=
  let c0_i32_431 : BitVec 32 := 0#32
  let v838 : Index := Scalar.indexCast c0_i32_431
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![0, v839.toNat, 432]
def k0_off156 (v125 : BitVec 32) (v135 : BitVec 32) (k0_t6 : Fin (k0_t6_loop v125 v135).trips) (c1_i32_433 : BitVec 32) : Fin 3 → Nat :=
  let c0_i32_434 : BitVec 32 := 0#32
  let v842 : Index := Scalar.indexCast c0_i32_434
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![0, v843.toNat, 432]
def k0_off157 (v125 : BitVec 32) (v135 : BitVec 32) (k0_t6 : Fin (k0_t6_loop v125 v135).trips) : Fin 3 → Nat :=
  let c0_i32_442 : BitVec 32 := 0#32
  let v857 : Index := Scalar.indexCast c0_i32_442
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![0, v858.toNat, 448]
def k0_off158 (v125 : BitVec 32) (v135 : BitVec 32) (k0_t6 : Fin (k0_t6_loop v125 v135).trips) (c1_i32_444 : BitVec 32) : Fin 3 → Nat :=
  let c0_i32_445 : BitVec 32 := 0#32
  let v861 : Index := Scalar.indexCast c0_i32_445
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![0, v862.toNat, 448]
def k0_off159 (v125 : BitVec 32) (v135 : BitVec 32) (k0_t6 : Fin (k0_t6_loop v125 v135).trips) : Fin 3 → Nat :=
  let c0_i32_453 : BitVec 32 := 0#32
  let v876 : Index := Scalar.indexCast c0_i32_453
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![0, v877.toNat, 464]
def k0_off160 (v125 : BitVec 32) (v135 : BitVec 32) (k0_t6 : Fin (k0_t6_loop v125 v135).trips) (c1_i32_455 : BitVec 32) : Fin 3 → Nat :=
  let c0_i32_456 : BitVec 32 := 0#32
  let v880 : Index := Scalar.indexCast c0_i32_456
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![0, v881.toNat, 464]
def k0_off161 (v125 : BitVec 32) (v135 : BitVec 32) (k0_t6 : Fin (k0_t6_loop v125 v135).trips) : Fin 3 → Nat :=
  let c0_i32_464 : BitVec 32 := 0#32
  let v895 : Index := Scalar.indexCast c0_i32_464
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![0, v896.toNat, 480]
def k0_off162 (v125 : BitVec 32) (v135 : BitVec 32) (k0_t6 : Fin (k0_t6_loop v125 v135).trips) (c1_i32_466 : BitVec 32) : Fin 3 → Nat :=
  let c0_i32_467 : BitVec 32 := 0#32
  let v899 : Index := Scalar.indexCast c0_i32_467
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![0, v900.toNat, 480]
def k0_off163 (v125 : BitVec 32) (v135 : BitVec 32) (k0_t6 : Fin (k0_t6_loop v125 v135).trips) : Fin 3 → Nat :=
  let c0_i32_475 : BitVec 32 := 0#32
  let v914 : Index := Scalar.indexCast c0_i32_475
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![0, v915.toNat, 496]
def k0_off164 (v125 : BitVec 32) (v135 : BitVec 32) (k0_t6 : Fin (k0_t6_loop v125 v135).trips) (c1_i32_477 : BitVec 32) : Fin 3 → Nat :=
  let c0_i32_478 : BitVec 32 := 0#32
  let v918 : Index := Scalar.indexCast c0_i32_478
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t6
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![0, v919.toNat, 496]
@[reducible] def k0_t7_loop (v125 : BitVec 32) (v135 : BitVec 32) : Scf.Loop 32 :=
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_99 : BitVec 32 := 1#32
  ⟨v155, v160, c1_i32_99⟩
def k0_off165 (v125 : BitVec 32) (v135 : BitVec 32) (k0_t7 : Fin (k0_t7_loop v125 v135).trips) : Fin 3 → Nat :=
  let c0_i32_134 : BitVec 32 := 0#32
  let v323 : Index := Scalar.indexCast c0_i32_134
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v324 : Index := Scalar.indexCast arg14
  let c0_135 : Index := 0#32
  ![0, v324.toNat, 0]
def k0_off166 (v125 : BitVec 32) (v135 : BitVec 32) (k0_t7 : Fin (k0_t7_loop v125 v135).trips) : Fin 3 → Nat :=
  let c0_i32_136 : BitVec 32 := 0#32
  let v327 : Index := Scalar.indexCast c0_i32_136
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v328 : Index := Scalar.indexCast arg14
  let c16_137 : Index := 16#32
  ![0, v328.toNat, 16]
def k0_off167 (v125 : BitVec 32) (v135 : BitVec 32) (k0_t7 : Fin (k0_t7_loop v125 v135).trips) : Fin 3 → Nat :=
  let c0_i32_138 : BitVec 32 := 0#32
  let v331 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v332 : Index := Scalar.indexCast arg14
  let c32_139 : Index := 32#32
  ![0, v332.toNat, 32]
def k0_off168 (v125 : BitVec 32) (v135 : BitVec 32) (k0_t7 : Fin (k0_t7_loop v125 v135).trips) : Fin 3 → Nat :=
  let c0_i32_140 : BitVec 32 := 0#32
  let v335 : Index := Scalar.indexCast c0_i32_140
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v336 : Index := Scalar.indexCast arg14
  let c48_141 : Index := 48#32
  ![0, v336.toNat, 48]
def k0_off169 (v125 : BitVec 32) (v135 : BitVec 32) (k0_t7 : Fin (k0_t7_loop v125 v135).trips) : Fin 3 → Nat :=
  let c0_i32_142 : BitVec 32 := 0#32
  let v339 : Index := Scalar.indexCast c0_i32_142
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v340 : Index := Scalar.indexCast arg14
  let c64_143 : Index := 64#32
  ![0, v340.toNat, 64]
def k0_off170 (v125 : BitVec 32) (v135 : BitVec 32) (k0_t7 : Fin (k0_t7_loop v125 v135).trips) : Fin 3 → Nat :=
  let c0_i32_144 : BitVec 32 := 0#32
  let v343 : Index := Scalar.indexCast c0_i32_144
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v344 : Index := Scalar.indexCast arg14
  let c80_145 : Index := 80#32
  ![0, v344.toNat, 80]
def k0_off171 (v125 : BitVec 32) (v135 : BitVec 32) (k0_t7 : Fin (k0_t7_loop v125 v135).trips) : Fin 3 → Nat :=
  let c0_i32_146 : BitVec 32 := 0#32
  let v347 : Index := Scalar.indexCast c0_i32_146
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v348 : Index := Scalar.indexCast arg14
  let c96_147 : Index := 96#32
  ![0, v348.toNat, 96]
def k0_off172 (v125 : BitVec 32) (v135 : BitVec 32) (k0_t7 : Fin (k0_t7_loop v125 v135).trips) : Fin 3 → Nat :=
  let c0_i32_148 : BitVec 32 := 0#32
  let v351 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v352 : Index := Scalar.indexCast arg14
  let c112_149 : Index := 112#32
  ![0, v352.toNat, 112]
def k0_off173 (v125 : BitVec 32) (v135 : BitVec 32) (k0_t7 : Fin (k0_t7_loop v125 v135).trips) : Fin 3 → Nat :=
  let c0_i32_150 : BitVec 32 := 0#32
  let v355 : Index := Scalar.indexCast c0_i32_150
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v356 : Index := Scalar.indexCast arg14
  let c128_151 : Index := 128#32
  ![0, v356.toNat, 128]
def k0_off174 (v125 : BitVec 32) (v135 : BitVec 32) (k0_t7 : Fin (k0_t7_loop v125 v135).trips) : Fin 3 → Nat :=
  let c0_i32_152 : BitVec 32 := 0#32
  let v359 : Index := Scalar.indexCast c0_i32_152
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v360 : Index := Scalar.indexCast arg14
  let c144_153 : Index := 144#32
  ![0, v360.toNat, 144]
def k0_off175 (v125 : BitVec 32) (v135 : BitVec 32) (k0_t7 : Fin (k0_t7_loop v125 v135).trips) : Fin 3 → Nat :=
  let c0_i32_154 : BitVec 32 := 0#32
  let v363 : Index := Scalar.indexCast c0_i32_154
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v364 : Index := Scalar.indexCast arg14
  let c160_155 : Index := 160#32
  ![0, v364.toNat, 160]
def k0_off176 (v125 : BitVec 32) (v135 : BitVec 32) (k0_t7 : Fin (k0_t7_loop v125 v135).trips) : Fin 3 → Nat :=
  let c0_i32_156 : BitVec 32 := 0#32
  let v367 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v368 : Index := Scalar.indexCast arg14
  let c176_157 : Index := 176#32
  ![0, v368.toNat, 176]
def k0_off177 (v125 : BitVec 32) (v135 : BitVec 32) (k0_t7 : Fin (k0_t7_loop v125 v135).trips) : Fin 3 → Nat :=
  let c0_i32_158 : BitVec 32 := 0#32
  let v371 : Index := Scalar.indexCast c0_i32_158
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v372 : Index := Scalar.indexCast arg14
  let c192_159 : Index := 192#32
  ![0, v372.toNat, 192]
def k0_off178 (v125 : BitVec 32) (v135 : BitVec 32) (k0_t7 : Fin (k0_t7_loop v125 v135).trips) : Fin 3 → Nat :=
  let c0_i32_160 : BitVec 32 := 0#32
  let v375 : Index := Scalar.indexCast c0_i32_160
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v376 : Index := Scalar.indexCast arg14
  let c208_161 : Index := 208#32
  ![0, v376.toNat, 208]
def k0_off179 (v125 : BitVec 32) (v135 : BitVec 32) (k0_t7 : Fin (k0_t7_loop v125 v135).trips) : Fin 3 → Nat :=
  let c0_i32_162 : BitVec 32 := 0#32
  let v379 : Index := Scalar.indexCast c0_i32_162
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v380 : Index := Scalar.indexCast arg14
  let c224_163 : Index := 224#32
  ![0, v380.toNat, 224]
def k0_off180 (v125 : BitVec 32) (v135 : BitVec 32) (k0_t7 : Fin (k0_t7_loop v125 v135).trips) : Fin 3 → Nat :=
  let c0_i32_164 : BitVec 32 := 0#32
  let v383 : Index := Scalar.indexCast c0_i32_164
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v384 : Index := Scalar.indexCast arg14
  let c240_165 : Index := 240#32
  ![0, v384.toNat, 240]
def k0_off181 (v125 : BitVec 32) (v135 : BitVec 32) (k0_t7 : Fin (k0_t7_loop v125 v135).trips) : Fin 3 → Nat :=
  let c0_i32_166 : BitVec 32 := 0#32
  let v387 : Index := Scalar.indexCast c0_i32_166
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v388 : Index := Scalar.indexCast arg14
  let c256_167 : Index := 256#32
  ![0, v388.toNat, 256]
def k0_off182 (v125 : BitVec 32) (v135 : BitVec 32) (k0_t7 : Fin (k0_t7_loop v125 v135).trips) : Fin 3 → Nat :=
  let c0_i32_168 : BitVec 32 := 0#32
  let v391 : Index := Scalar.indexCast c0_i32_168
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v392 : Index := Scalar.indexCast arg14
  let c272_169 : Index := 272#32
  ![0, v392.toNat, 272]
def k0_off183 (v125 : BitVec 32) (v135 : BitVec 32) (k0_t7 : Fin (k0_t7_loop v125 v135).trips) : Fin 3 → Nat :=
  let c0_i32_170 : BitVec 32 := 0#32
  let v395 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v396 : Index := Scalar.indexCast arg14
  let c288_171 : Index := 288#32
  ![0, v396.toNat, 288]
def k0_off184 (v125 : BitVec 32) (v135 : BitVec 32) (k0_t7 : Fin (k0_t7_loop v125 v135).trips) : Fin 3 → Nat :=
  let c0_i32_172 : BitVec 32 := 0#32
  let v399 : Index := Scalar.indexCast c0_i32_172
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v400 : Index := Scalar.indexCast arg14
  let c304_173 : Index := 304#32
  ![0, v400.toNat, 304]
def k0_off185 (v125 : BitVec 32) (v135 : BitVec 32) (k0_t7 : Fin (k0_t7_loop v125 v135).trips) : Fin 3 → Nat :=
  let c0_i32_174 : BitVec 32 := 0#32
  let v403 : Index := Scalar.indexCast c0_i32_174
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v404 : Index := Scalar.indexCast arg14
  let c320_175 : Index := 320#32
  ![0, v404.toNat, 320]
def k0_off186 (v125 : BitVec 32) (v135 : BitVec 32) (k0_t7 : Fin (k0_t7_loop v125 v135).trips) : Fin 3 → Nat :=
  let c0_i32_176 : BitVec 32 := 0#32
  let v407 : Index := Scalar.indexCast c0_i32_176
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v408 : Index := Scalar.indexCast arg14
  let c336_177 : Index := 336#32
  ![0, v408.toNat, 336]
def k0_off187 (v125 : BitVec 32) (v135 : BitVec 32) (k0_t7 : Fin (k0_t7_loop v125 v135).trips) : Fin 3 → Nat :=
  let c0_i32_178 : BitVec 32 := 0#32
  let v411 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v412 : Index := Scalar.indexCast arg14
  let c352_179 : Index := 352#32
  ![0, v412.toNat, 352]
def k0_off188 (v125 : BitVec 32) (v135 : BitVec 32) (k0_t7 : Fin (k0_t7_loop v125 v135).trips) : Fin 3 → Nat :=
  let c0_i32_180 : BitVec 32 := 0#32
  let v415 : Index := Scalar.indexCast c0_i32_180
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v416 : Index := Scalar.indexCast arg14
  let c368_181 : Index := 368#32
  ![0, v416.toNat, 368]
def k0_off189 (v125 : BitVec 32) (v135 : BitVec 32) (k0_t7 : Fin (k0_t7_loop v125 v135).trips) : Fin 3 → Nat :=
  let c0_i32_182 : BitVec 32 := 0#32
  let v419 : Index := Scalar.indexCast c0_i32_182
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v420 : Index := Scalar.indexCast arg14
  let c384_183 : Index := 384#32
  ![0, v420.toNat, 384]
def k0_off190 (v125 : BitVec 32) (v135 : BitVec 32) (k0_t7 : Fin (k0_t7_loop v125 v135).trips) : Fin 3 → Nat :=
  let c0_i32_184 : BitVec 32 := 0#32
  let v423 : Index := Scalar.indexCast c0_i32_184
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v424 : Index := Scalar.indexCast arg14
  let c400_185 : Index := 400#32
  ![0, v424.toNat, 400]
def k0_off191 (v125 : BitVec 32) (v135 : BitVec 32) (k0_t7 : Fin (k0_t7_loop v125 v135).trips) : Fin 3 → Nat :=
  let c0_i32_186 : BitVec 32 := 0#32
  let v427 : Index := Scalar.indexCast c0_i32_186
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v428 : Index := Scalar.indexCast arg14
  let c416_187 : Index := 416#32
  ![0, v428.toNat, 416]
def k0_off192 (v125 : BitVec 32) (v135 : BitVec 32) (k0_t7 : Fin (k0_t7_loop v125 v135).trips) : Fin 3 → Nat :=
  let c0_i32_188 : BitVec 32 := 0#32
  let v431 : Index := Scalar.indexCast c0_i32_188
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v432 : Index := Scalar.indexCast arg14
  let c432_189 : Index := 432#32
  ![0, v432.toNat, 432]
def k0_off193 (v125 : BitVec 32) (v135 : BitVec 32) (k0_t7 : Fin (k0_t7_loop v125 v135).trips) : Fin 3 → Nat :=
  let c0_i32_190 : BitVec 32 := 0#32
  let v435 : Index := Scalar.indexCast c0_i32_190
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v436 : Index := Scalar.indexCast arg14
  let c448_191 : Index := 448#32
  ![0, v436.toNat, 448]
def k0_off194 (v125 : BitVec 32) (v135 : BitVec 32) (k0_t7 : Fin (k0_t7_loop v125 v135).trips) : Fin 3 → Nat :=
  let c0_i32_192 : BitVec 32 := 0#32
  let v439 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v440 : Index := Scalar.indexCast arg14
  let c464_193 : Index := 464#32
  ![0, v440.toNat, 464]
def k0_off195 (v125 : BitVec 32) (v135 : BitVec 32) (k0_t7 : Fin (k0_t7_loop v125 v135).trips) : Fin 3 → Nat :=
  let c0_i32_194 : BitVec 32 := 0#32
  let v443 : Index := Scalar.indexCast c0_i32_194
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v444 : Index := Scalar.indexCast arg14
  let c480_195 : Index := 480#32
  ![0, v444.toNat, 480]
def k0_off196 (v125 : BitVec 32) (v135 : BitVec 32) (k0_t7 : Fin (k0_t7_loop v125 v135).trips) : Fin 3 → Nat :=
  let c0_i32_196 : BitVec 32 := 0#32
  let v447 : Index := Scalar.indexCast c0_i32_196
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t7
  let v448 : Index := Scalar.indexCast arg14
  let c496_197 : Index := 496#32
  ![0, v448.toNat, 496]
@[reducible] def k0_t8_loop (v125 : BitVec 32) (v135 : BitVec 32) : Scf.Loop 32 :=
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let v157 : BitVec 32 := Scalar.addi v155 v156
  let c1_i32_100 : BitVec 32 := 1#32
  ⟨v160, v157, c1_i32_100⟩
def k0_off197 (v125 : BitVec 32) (v135 : BitVec 32) (k0_t8 : Fin (k0_t8_loop v125 v135).trips) : Fin 3 → Nat :=
  let c0_i32_134 : BitVec 32 := 0#32
  let v323 : Index := Scalar.indexCast c0_i32_134
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v324 : Index := Scalar.indexCast arg14
  let c0_135 : Index := 0#32
  ![0, v324.toNat, 0]
def k0_off198 (v125 : BitVec 32) (v135 : BitVec 32) (k0_t8 : Fin (k0_t8_loop v125 v135).trips) : Fin 3 → Nat :=
  let c0_i32_136 : BitVec 32 := 0#32
  let v327 : Index := Scalar.indexCast c0_i32_136
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v328 : Index := Scalar.indexCast arg14
  let c16_137 : Index := 16#32
  ![0, v328.toNat, 16]
def k0_off199 (v125 : BitVec 32) (v135 : BitVec 32) (k0_t8 : Fin (k0_t8_loop v125 v135).trips) : Fin 3 → Nat :=
  let c0_i32_138 : BitVec 32 := 0#32
  let v331 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v332 : Index := Scalar.indexCast arg14
  let c32_139 : Index := 32#32
  ![0, v332.toNat, 32]
def k0_off200 (v125 : BitVec 32) (v135 : BitVec 32) (k0_t8 : Fin (k0_t8_loop v125 v135).trips) : Fin 3 → Nat :=
  let c0_i32_140 : BitVec 32 := 0#32
  let v335 : Index := Scalar.indexCast c0_i32_140
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v336 : Index := Scalar.indexCast arg14
  let c48_141 : Index := 48#32
  ![0, v336.toNat, 48]
def k0_off201 (v125 : BitVec 32) (v135 : BitVec 32) (k0_t8 : Fin (k0_t8_loop v125 v135).trips) : Fin 3 → Nat :=
  let c0_i32_142 : BitVec 32 := 0#32
  let v339 : Index := Scalar.indexCast c0_i32_142
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v340 : Index := Scalar.indexCast arg14
  let c64_143 : Index := 64#32
  ![0, v340.toNat, 64]
def k0_off202 (v125 : BitVec 32) (v135 : BitVec 32) (k0_t8 : Fin (k0_t8_loop v125 v135).trips) : Fin 3 → Nat :=
  let c0_i32_144 : BitVec 32 := 0#32
  let v343 : Index := Scalar.indexCast c0_i32_144
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v344 : Index := Scalar.indexCast arg14
  let c80_145 : Index := 80#32
  ![0, v344.toNat, 80]
def k0_off203 (v125 : BitVec 32) (v135 : BitVec 32) (k0_t8 : Fin (k0_t8_loop v125 v135).trips) : Fin 3 → Nat :=
  let c0_i32_146 : BitVec 32 := 0#32
  let v347 : Index := Scalar.indexCast c0_i32_146
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v348 : Index := Scalar.indexCast arg14
  let c96_147 : Index := 96#32
  ![0, v348.toNat, 96]
def k0_off204 (v125 : BitVec 32) (v135 : BitVec 32) (k0_t8 : Fin (k0_t8_loop v125 v135).trips) : Fin 3 → Nat :=
  let c0_i32_148 : BitVec 32 := 0#32
  let v351 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v352 : Index := Scalar.indexCast arg14
  let c112_149 : Index := 112#32
  ![0, v352.toNat, 112]
def k0_off205 (v125 : BitVec 32) (v135 : BitVec 32) (k0_t8 : Fin (k0_t8_loop v125 v135).trips) : Fin 3 → Nat :=
  let c0_i32_150 : BitVec 32 := 0#32
  let v355 : Index := Scalar.indexCast c0_i32_150
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v356 : Index := Scalar.indexCast arg14
  let c128_151 : Index := 128#32
  ![0, v356.toNat, 128]
def k0_off206 (v125 : BitVec 32) (v135 : BitVec 32) (k0_t8 : Fin (k0_t8_loop v125 v135).trips) : Fin 3 → Nat :=
  let c0_i32_152 : BitVec 32 := 0#32
  let v359 : Index := Scalar.indexCast c0_i32_152
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v360 : Index := Scalar.indexCast arg14
  let c144_153 : Index := 144#32
  ![0, v360.toNat, 144]
def k0_off207 (v125 : BitVec 32) (v135 : BitVec 32) (k0_t8 : Fin (k0_t8_loop v125 v135).trips) : Fin 3 → Nat :=
  let c0_i32_154 : BitVec 32 := 0#32
  let v363 : Index := Scalar.indexCast c0_i32_154
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v364 : Index := Scalar.indexCast arg14
  let c160_155 : Index := 160#32
  ![0, v364.toNat, 160]
def k0_off208 (v125 : BitVec 32) (v135 : BitVec 32) (k0_t8 : Fin (k0_t8_loop v125 v135).trips) : Fin 3 → Nat :=
  let c0_i32_156 : BitVec 32 := 0#32
  let v367 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v368 : Index := Scalar.indexCast arg14
  let c176_157 : Index := 176#32
  ![0, v368.toNat, 176]
def k0_off209 (v125 : BitVec 32) (v135 : BitVec 32) (k0_t8 : Fin (k0_t8_loop v125 v135).trips) : Fin 3 → Nat :=
  let c0_i32_158 : BitVec 32 := 0#32
  let v371 : Index := Scalar.indexCast c0_i32_158
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v372 : Index := Scalar.indexCast arg14
  let c192_159 : Index := 192#32
  ![0, v372.toNat, 192]
def k0_off210 (v125 : BitVec 32) (v135 : BitVec 32) (k0_t8 : Fin (k0_t8_loop v125 v135).trips) : Fin 3 → Nat :=
  let c0_i32_160 : BitVec 32 := 0#32
  let v375 : Index := Scalar.indexCast c0_i32_160
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v376 : Index := Scalar.indexCast arg14
  let c208_161 : Index := 208#32
  ![0, v376.toNat, 208]
def k0_off211 (v125 : BitVec 32) (v135 : BitVec 32) (k0_t8 : Fin (k0_t8_loop v125 v135).trips) : Fin 3 → Nat :=
  let c0_i32_162 : BitVec 32 := 0#32
  let v379 : Index := Scalar.indexCast c0_i32_162
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v380 : Index := Scalar.indexCast arg14
  let c224_163 : Index := 224#32
  ![0, v380.toNat, 224]
def k0_off212 (v125 : BitVec 32) (v135 : BitVec 32) (k0_t8 : Fin (k0_t8_loop v125 v135).trips) : Fin 3 → Nat :=
  let c0_i32_164 : BitVec 32 := 0#32
  let v383 : Index := Scalar.indexCast c0_i32_164
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v384 : Index := Scalar.indexCast arg14
  let c240_165 : Index := 240#32
  ![0, v384.toNat, 240]
def k0_off213 (v125 : BitVec 32) (v135 : BitVec 32) (k0_t8 : Fin (k0_t8_loop v125 v135).trips) : Fin 3 → Nat :=
  let c0_i32_166 : BitVec 32 := 0#32
  let v387 : Index := Scalar.indexCast c0_i32_166
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v388 : Index := Scalar.indexCast arg14
  let c256_167 : Index := 256#32
  ![0, v388.toNat, 256]
def k0_off214 (v125 : BitVec 32) (v135 : BitVec 32) (k0_t8 : Fin (k0_t8_loop v125 v135).trips) : Fin 3 → Nat :=
  let c0_i32_168 : BitVec 32 := 0#32
  let v391 : Index := Scalar.indexCast c0_i32_168
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v392 : Index := Scalar.indexCast arg14
  let c272_169 : Index := 272#32
  ![0, v392.toNat, 272]
def k0_off215 (v125 : BitVec 32) (v135 : BitVec 32) (k0_t8 : Fin (k0_t8_loop v125 v135).trips) : Fin 3 → Nat :=
  let c0_i32_170 : BitVec 32 := 0#32
  let v395 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v396 : Index := Scalar.indexCast arg14
  let c288_171 : Index := 288#32
  ![0, v396.toNat, 288]
def k0_off216 (v125 : BitVec 32) (v135 : BitVec 32) (k0_t8 : Fin (k0_t8_loop v125 v135).trips) : Fin 3 → Nat :=
  let c0_i32_172 : BitVec 32 := 0#32
  let v399 : Index := Scalar.indexCast c0_i32_172
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v400 : Index := Scalar.indexCast arg14
  let c304_173 : Index := 304#32
  ![0, v400.toNat, 304]
def k0_off217 (v125 : BitVec 32) (v135 : BitVec 32) (k0_t8 : Fin (k0_t8_loop v125 v135).trips) : Fin 3 → Nat :=
  let c0_i32_174 : BitVec 32 := 0#32
  let v403 : Index := Scalar.indexCast c0_i32_174
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v404 : Index := Scalar.indexCast arg14
  let c320_175 : Index := 320#32
  ![0, v404.toNat, 320]
def k0_off218 (v125 : BitVec 32) (v135 : BitVec 32) (k0_t8 : Fin (k0_t8_loop v125 v135).trips) : Fin 3 → Nat :=
  let c0_i32_176 : BitVec 32 := 0#32
  let v407 : Index := Scalar.indexCast c0_i32_176
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v408 : Index := Scalar.indexCast arg14
  let c336_177 : Index := 336#32
  ![0, v408.toNat, 336]
def k0_off219 (v125 : BitVec 32) (v135 : BitVec 32) (k0_t8 : Fin (k0_t8_loop v125 v135).trips) : Fin 3 → Nat :=
  let c0_i32_178 : BitVec 32 := 0#32
  let v411 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v412 : Index := Scalar.indexCast arg14
  let c352_179 : Index := 352#32
  ![0, v412.toNat, 352]
def k0_off220 (v125 : BitVec 32) (v135 : BitVec 32) (k0_t8 : Fin (k0_t8_loop v125 v135).trips) : Fin 3 → Nat :=
  let c0_i32_180 : BitVec 32 := 0#32
  let v415 : Index := Scalar.indexCast c0_i32_180
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v416 : Index := Scalar.indexCast arg14
  let c368_181 : Index := 368#32
  ![0, v416.toNat, 368]
def k0_off221 (v125 : BitVec 32) (v135 : BitVec 32) (k0_t8 : Fin (k0_t8_loop v125 v135).trips) : Fin 3 → Nat :=
  let c0_i32_182 : BitVec 32 := 0#32
  let v419 : Index := Scalar.indexCast c0_i32_182
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v420 : Index := Scalar.indexCast arg14
  let c384_183 : Index := 384#32
  ![0, v420.toNat, 384]
def k0_off222 (v125 : BitVec 32) (v135 : BitVec 32) (k0_t8 : Fin (k0_t8_loop v125 v135).trips) : Fin 3 → Nat :=
  let c0_i32_184 : BitVec 32 := 0#32
  let v423 : Index := Scalar.indexCast c0_i32_184
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v424 : Index := Scalar.indexCast arg14
  let c400_185 : Index := 400#32
  ![0, v424.toNat, 400]
def k0_off223 (v125 : BitVec 32) (v135 : BitVec 32) (k0_t8 : Fin (k0_t8_loop v125 v135).trips) : Fin 3 → Nat :=
  let c0_i32_186 : BitVec 32 := 0#32
  let v427 : Index := Scalar.indexCast c0_i32_186
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v428 : Index := Scalar.indexCast arg14
  let c416_187 : Index := 416#32
  ![0, v428.toNat, 416]
def k0_off224 (v125 : BitVec 32) (v135 : BitVec 32) (k0_t8 : Fin (k0_t8_loop v125 v135).trips) : Fin 3 → Nat :=
  let c0_i32_188 : BitVec 32 := 0#32
  let v431 : Index := Scalar.indexCast c0_i32_188
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v432 : Index := Scalar.indexCast arg14
  let c432_189 : Index := 432#32
  ![0, v432.toNat, 432]
def k0_off225 (v125 : BitVec 32) (v135 : BitVec 32) (k0_t8 : Fin (k0_t8_loop v125 v135).trips) : Fin 3 → Nat :=
  let c0_i32_190 : BitVec 32 := 0#32
  let v435 : Index := Scalar.indexCast c0_i32_190
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v436 : Index := Scalar.indexCast arg14
  let c448_191 : Index := 448#32
  ![0, v436.toNat, 448]
def k0_off226 (v125 : BitVec 32) (v135 : BitVec 32) (k0_t8 : Fin (k0_t8_loop v125 v135).trips) : Fin 3 → Nat :=
  let c0_i32_192 : BitVec 32 := 0#32
  let v439 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v440 : Index := Scalar.indexCast arg14
  let c464_193 : Index := 464#32
  ![0, v440.toNat, 464]
def k0_off227 (v125 : BitVec 32) (v135 : BitVec 32) (k0_t8 : Fin (k0_t8_loop v125 v135).trips) : Fin 3 → Nat :=
  let c0_i32_194 : BitVec 32 := 0#32
  let v443 : Index := Scalar.indexCast c0_i32_194
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v444 : Index := Scalar.indexCast arg14
  let c480_195 : Index := 480#32
  ![0, v444.toNat, 480]
def k0_off228 (v125 : BitVec 32) (v135 : BitVec 32) (k0_t8 : Fin (k0_t8_loop v125 v135).trips) : Fin 3 → Nat :=
  let c0_i32_196 : BitVec 32 := 0#32
  let v447 : Index := Scalar.indexCast c0_i32_196
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t8
  let v448 : Index := Scalar.indexCast arg14
  let c496_197 : Index := 496#32
  ![0, v448.toNat, 496]
def k0_off229 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v163 : Index := Scalar.indexCast arg12
  let c0_101 : Index := 0#32
  ![v163.toNat, 0]
def k0_off230 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v168 : Index := Scalar.indexCast arg12
  let c16 : Index := 16#32
  ![v168.toNat, 16]
def k0_off231 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v173 : Index := Scalar.indexCast arg12
  let c32 : Index := 32#32
  ![v173.toNat, 32]
def k0_off232 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v178 : Index := Scalar.indexCast arg12
  let c48 : Index := 48#32
  ![v178.toNat, 48]
def k0_off233 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v183 : Index := Scalar.indexCast arg12
  let c64 : Index := 64#32
  ![v183.toNat, 64]
def k0_off234 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v188 : Index := Scalar.indexCast arg12
  let c80 : Index := 80#32
  ![v188.toNat, 80]
def k0_off235 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v193 : Index := Scalar.indexCast arg12
  let c96 : Index := 96#32
  ![v193.toNat, 96]
def k0_off236 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v198 : Index := Scalar.indexCast arg12
  let c112 : Index := 112#32
  ![v198.toNat, 112]
def k0_off237 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v203 : Index := Scalar.indexCast arg12
  let c128 : Index := 128#32
  ![v203.toNat, 128]
def k0_off238 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v208 : Index := Scalar.indexCast arg12
  let c144 : Index := 144#32
  ![v208.toNat, 144]
def k0_off239 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v213 : Index := Scalar.indexCast arg12
  let c160 : Index := 160#32
  ![v213.toNat, 160]
def k0_off240 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v218 : Index := Scalar.indexCast arg12
  let c176 : Index := 176#32
  ![v218.toNat, 176]
def k0_off241 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v223 : Index := Scalar.indexCast arg12
  let c192 : Index := 192#32
  ![v223.toNat, 192]
def k0_off242 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v228 : Index := Scalar.indexCast arg12
  let c208 : Index := 208#32
  ![v228.toNat, 208]
def k0_off243 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v233 : Index := Scalar.indexCast arg12
  let c224 : Index := 224#32
  ![v233.toNat, 224]
def k0_off244 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v238 : Index := Scalar.indexCast arg12
  let c240 : Index := 240#32
  ![v238.toNat, 240]
def k0_off245 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v243 : Index := Scalar.indexCast arg12
  let c256 : Index := 256#32
  ![v243.toNat, 256]
def k0_off246 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v248 : Index := Scalar.indexCast arg12
  let c272 : Index := 272#32
  ![v248.toNat, 272]
def k0_off247 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v253 : Index := Scalar.indexCast arg12
  let c288 : Index := 288#32
  ![v253.toNat, 288]
def k0_off248 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v258 : Index := Scalar.indexCast arg12
  let c304 : Index := 304#32
  ![v258.toNat, 304]
def k0_off249 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v263 : Index := Scalar.indexCast arg12
  let c320 : Index := 320#32
  ![v263.toNat, 320]
def k0_off250 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v268 : Index := Scalar.indexCast arg12
  let c336 : Index := 336#32
  ![v268.toNat, 336]
def k0_off251 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v273 : Index := Scalar.indexCast arg12
  let c352 : Index := 352#32
  ![v273.toNat, 352]
def k0_off252 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v278 : Index := Scalar.indexCast arg12
  let c368 : Index := 368#32
  ![v278.toNat, 368]
def k0_off253 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v283 : Index := Scalar.indexCast arg12
  let c384 : Index := 384#32
  ![v283.toNat, 384]
def k0_off254 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v288 : Index := Scalar.indexCast arg12
  let c400 : Index := 400#32
  ![v288.toNat, 400]
def k0_off255 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v293 : Index := Scalar.indexCast arg12
  let c416 : Index := 416#32
  ![v293.toNat, 416]
def k0_off256 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v298 : Index := Scalar.indexCast arg12
  let c432 : Index := 432#32
  ![v298.toNat, 432]
def k0_off257 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v303 : Index := Scalar.indexCast arg12
  let c448 : Index := 448#32
  ![v303.toNat, 448]
def k0_off258 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v308 : Index := Scalar.indexCast arg12
  let c464 : Index := 464#32
  ![v308.toNat, 464]
def k0_off259 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v313 : Index := Scalar.indexCast arg12
  let c480 : Index := 480#32
  ![v313.toNat, 480]
def k0_off260 (v52 : BitVec 32) (v62 : BitVec 32) (k0_t4 : Fin (k0_t4_loop v52 v62).trips) : Fin 2 → Nat :=
  let c1_i32_49 : BitVec 32 := 1#32
  let arg12 : BitVec 32 := Scf.iv v52 c1_i32_49 k0_t4
  let v318 : Index := Scalar.indexCast arg12
  let c496 : Index := 496#32
  ![v318.toNat, 496]

def k0_chk6_0 (v52 : BitVec 32) (v62 : BitVec 32) (k0_t4 : Fin (k0_t4_loop v52 v62).trips) (v125 : BitVec 32) (v135 : BitVec 32) : Prop :=
  (∀ (k0_h1 : k0_cond1 v125 v135 = 1#1), (k0_t5_loop v125 v135).OK) ∧
  (∀ k0_t5 : Fin (k0_t5_loop v125 v135).trips, ∀ (k0_h1 : k0_cond1 v125 v135 = 1#1), ∀ a, (k0_off37 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off38 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off39 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off40 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off41 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off42 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off43 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off44 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off45 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off46 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off47 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off48 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off49 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off50 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off51 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off52 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off53 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off54 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off55 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off56 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off57 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off58 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off59 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off60 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off61 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off62 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off63 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off64 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off65 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off66 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off67 v125 v135 k0_t5) a + S1x1x16.size a ≤ S2x64x512.size a)
def k0_chk6_1 (v52 : BitVec 32) (v62 : BitVec 32) (k0_t4 : Fin (k0_t4_loop v52 v62).trips) (v125 : BitVec 32) (v135 : BitVec 32) : Prop :=
  (∀ k0_t5 : Fin (k0_t5_loop v125 v135).trips, ∀ (k0_h1 : k0_cond1 v125 v135 = 1#1), ∀ (r : Fin 3), ∀ a, (k0_off68 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off69 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off70 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off71 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off72 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off73 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off74 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off75 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off76 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off77 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off78 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off79 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off80 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off81 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off82 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off83 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off84 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off85 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off86 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off87 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off88 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off89 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off90 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off91 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off92 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off93 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off94 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off95 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off96 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off97 v125 v135 k0_t5) a + S1x1x16.size a ≤ S2x64x512.size a) ∧
  (∀ k0_t5 : Fin (k0_t5_loop v125 v135).trips, ∀ (k0_h1 : k0_cond1 v125 v135 = 1#1), ∀ (r : Fin 3), ∀ a, (k0_off98 v125 v135 k0_t5 (BitVec.ofNat 32 (1 + r.val))) a + S1x1x16.size a ≤ S2x64x512.size a) ∧
  (∀ k0_t5 : Fin (k0_t5_loop v125 v135).trips, ∀ (k0_h1 : k0_cond1 v125 v135 = 1#1), ∀ a, (k0_off99 v125 v135 k0_t5) a + S1x1x16.size a ≤ S2x64x512.size a)
def k0_chk6_2 (v52 : BitVec 32) (v62 : BitVec 32) (k0_t4 : Fin (k0_t4_loop v52 v62).trips) (v125 : BitVec 32) (v135 : BitVec 32) : Prop :=
  (∀ k0_t5 : Fin (k0_t5_loop v125 v135).trips, ∀ (k0_h1 : k0_cond1 v125 v135 = 1#1), ∀ (r : Fin 3), ∀ a, (k0_off100 v125 v135 k0_t5 (BitVec.ofNat 32 (1 + r.val))) a + S1x1x16.size a ≤ S2x64x512.size a) ∧
  (∀ (k0_h1 : k0_cond1 v125 v135 = 1#1), (k0_t6_loop v125 v135).OK) ∧
  (∀ k0_t6 : Fin (k0_t6_loop v125 v135).trips, ∀ (k0_h1 : k0_cond1 v125 v135 = 1#1), ∀ a, (k0_off101 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off102 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off103 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off104 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off105 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off106 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off107 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off108 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off109 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off110 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off111 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off112 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off113 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off114 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off115 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off116 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off117 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off118 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off119 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off120 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off121 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off122 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off123 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off124 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off125 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off126 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off127 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off128 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off129 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off130 v125 v135 k0_t6 (BitVec.ofNat 32 (1 + r.val))) a + S1x1x16.size a ≤ S2x64x512.size a)
def k0_chk6_3 (v52 : BitVec 32) (v62 : BitVec 32) (k0_t4 : Fin (k0_t4_loop v52 v62).trips) (v125 : BitVec 32) (v135 : BitVec 32) : Prop :=
  (∀ k0_t6 : Fin (k0_t6_loop v125 v135).trips, ∀ (k0_h1 : k0_cond1 v125 v135 = 1#1), ∀ a, (k0_off131 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off132 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off133 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off134 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off135 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off136 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off137 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off138 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off139 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off140 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off141 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off142 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off143 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off144 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off145 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off146 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off147 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off148 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off149 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off150 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off151 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off152 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off153 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off154 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off155 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off156 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off157 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off158 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off159 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off160 v125 v135 k0_t6 (BitVec.ofNat 32 (1 + r.val))) a + S1x1x16.size a ≤ S2x64x512.size a) ∧
  (∀ k0_t6 : Fin (k0_t6_loop v125 v135).trips, ∀ (k0_h1 : k0_cond1 v125 v135 = 1#1), ∀ a, (k0_off161 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off162 v125 v135 k0_t6 (BitVec.ofNat 32 (1 + r.val))) a + S1x1x16.size a ≤ S2x64x512.size a)
def k0_chk6_4 (v52 : BitVec 32) (v62 : BitVec 32) (k0_t4 : Fin (k0_t4_loop v52 v62).trips) (v125 : BitVec 32) (v135 : BitVec 32) : Prop :=
  (∀ k0_t6 : Fin (k0_t6_loop v125 v135).trips, ∀ (k0_h1 : k0_cond1 v125 v135 = 1#1), ∀ a, (k0_off163 v125 v135 k0_t6) a + S1x1x16.size a ≤ S2x64x512.size a) ∧
  (∀ k0_t6 : Fin (k0_t6_loop v125 v135).trips, ∀ (k0_h1 : k0_cond1 v125 v135 = 1#1), ∀ (r : Fin 3), ∀ a, (k0_off164 v125 v135 k0_t6 (BitVec.ofNat 32 (1 + r.val))) a + S1x1x16.size a ≤ S2x64x512.size a) ∧
  (∀ (k0_h1 : k0_cond1 v125 v135 = 1#1), (k0_t7_loop v125 v135).OK) ∧
  (∀ k0_t7 : Fin (k0_t7_loop v125 v135).trips, ∀ (k0_h1 : k0_cond1 v125 v135 = 1#1), ∀ a, (k0_off165 v125 v135 k0_t7) a + S1x1x16.size a ≤ S2x64x512.size a) ∧
  (∀ k0_t7 : Fin (k0_t7_loop v125 v135).trips, ∀ (k0_h1 : k0_cond1 v125 v135 = 1#1), ∀ a, (k0_off166 v125 v135 k0_t7) a + S1x1x16.size a ≤ S2x64x512.size a) ∧
  (∀ k0_t7 : Fin (k0_t7_loop v125 v135).trips, ∀ (k0_h1 : k0_cond1 v125 v135 = 1#1), ∀ a, (k0_off167 v125 v135 k0_t7) a + S1x1x16.size a ≤ S2x64x512.size a) ∧
  (∀ k0_t7 : Fin (k0_t7_loop v125 v135).trips, ∀ (k0_h1 : k0_cond1 v125 v135 = 1#1), ∀ a, (k0_off168 v125 v135 k0_t7) a + S1x1x16.size a ≤ S2x64x512.size a) ∧
  (∀ k0_t7 : Fin (k0_t7_loop v125 v135).trips, ∀ (k0_h1 : k0_cond1 v125 v135 = 1#1), ∀ a, (k0_off169 v125 v135 k0_t7) a + S1x1x16.size a ≤ S2x64x512.size a) ∧
  (∀ k0_t7 : Fin (k0_t7_loop v125 v135).trips, ∀ (k0_h1 : k0_cond1 v125 v135 = 1#1), ∀ a, (k0_off170 v125 v135 k0_t7) a + S1x1x16.size a ≤ S2x64x512.size a) ∧
  (∀ k0_t7 : Fin (k0_t7_loop v125 v135).trips, ∀ (k0_h1 : k0_cond1 v125 v135 = 1#1), ∀ a, (k0_off171 v125 v135 k0_t7) a + S1x1x16.size a ≤ S2x64x512.size a) ∧
  (∀ k0_t7 : Fin (k0_t7_loop v125 v135).trips, ∀ (k0_h1 : k0_cond1 v125 v135 = 1#1), ∀ a, (k0_off172 v125 v135 k0_t7) a + S1x1x16.size a ≤ S2x64x512.size a) ∧
  (∀ k0_t7 : Fin (k0_t7_loop v125 v135).trips, ∀ (k0_h1 : k0_cond1 v125 v135 = 1#1), ∀ a, (k0_off173 v125 v135 k0_t7) a + S1x1x16.size a ≤ S2x64x512.size a) ∧
  (∀ k0_t7 : Fin (k0_t7_loop v125 v135).trips, ∀ (k0_h1 : k0_cond1 v125 v135 = 1#1), ∀ a, (k0_off174 v125 v135 k0_t7) a + S1x1x16.size a ≤ S2x64x512.size a) ∧
  (∀ k0_t7 : Fin (k0_t7_loop v125 v135).trips, ∀ (k0_h1 : k0_cond1 v125 v135 = 1#1), ∀ a, (k0_off175 v125 v135 k0_t7) a + S1x1x16.size a ≤ S2x64x512.size a) ∧
  (∀ k0_t7 : Fin (k0_t7_loop v125 v135).trips, ∀ (k0_h1 : k0_cond1 v125 v135 = 1#1), ∀ a, (k0_off176 v125 v135 k0_t7) a + S1x1x16.size a ≤ S2x64x512.size a) ∧
  (∀ k0_t7 : Fin (k0_t7_loop v125 v135).trips, ∀ (k0_h1 : k0_cond1 v125 v135 = 1#1), ∀ a, (k0_off177 v125 v135 k0_t7) a + S1x1x16.size a ≤ S2x64x512.size a) ∧
  (∀ k0_t7 : Fin (k0_t7_loop v125 v135).trips, ∀ (k0_h1 : k0_cond1 v125 v135 = 1#1), ∀ a, (k0_off178 v125 v135 k0_t7) a + S1x1x16.size a ≤ S2x64x512.size a) ∧
  (∀ k0_t7 : Fin (k0_t7_loop v125 v135).trips, ∀ (k0_h1 : k0_cond1 v125 v135 = 1#1), ∀ a, (k0_off179 v125 v135 k0_t7) a + S1x1x16.size a ≤ S2x64x512.size a) ∧
  (∀ k0_t7 : Fin (k0_t7_loop v125 v135).trips, ∀ (k0_h1 : k0_cond1 v125 v135 = 1#1), ∀ a, (k0_off180 v125 v135 k0_t7) a + S1x1x16.size a ≤ S2x64x512.size a) ∧
  (∀ k0_t7 : Fin (k0_t7_loop v125 v135).trips, ∀ (k0_h1 : k0_cond1 v125 v135 = 1#1), ∀ a, (k0_off181 v125 v135 k0_t7) a + S1x1x16.size a ≤ S2x64x512.size a) ∧
  (∀ k0_t7 : Fin (k0_t7_loop v125 v135).trips, ∀ (k0_h1 : k0_cond1 v125 v135 = 1#1), ∀ a, (k0_off182 v125 v135 k0_t7) a + S1x1x16.size a ≤ S2x64x512.size a) ∧
  (∀ k0_t7 : Fin (k0_t7_loop v125 v135).trips, ∀ (k0_h1 : k0_cond1 v125 v135 = 1#1), ∀ a, (k0_off183 v125 v135 k0_t7) a + S1x1x16.size a ≤ S2x64x512.size a) ∧
  (∀ k0_t7 : Fin (k0_t7_loop v125 v135).trips, ∀ (k0_h1 : k0_cond1 v125 v135 = 1#1), ∀ a, (k0_off184 v125 v135 k0_t7) a + S1x1x16.size a ≤ S2x64x512.size a) ∧
  (∀ k0_t7 : Fin (k0_t7_loop v125 v135).trips, ∀ (k0_h1 : k0_cond1 v125 v135 = 1#1), ∀ a, (k0_off185 v125 v135 k0_t7) a + S1x1x16.size a ≤ S2x64x512.size a) ∧
  (∀ k0_t7 : Fin (k0_t7_loop v125 v135).trips, ∀ (k0_h1 : k0_cond1 v125 v135 = 1#1), ∀ a, (k0_off186 v125 v135 k0_t7) a + S1x1x16.size a ≤ S2x64x512.size a) ∧
  (∀ k0_t7 : Fin (k0_t7_loop v125 v135).trips, ∀ (k0_h1 : k0_cond1 v125 v135 = 1#1), ∀ a, (k0_off187 v125 v135 k0_t7) a + S1x1x16.size a ≤ S2x64x512.size a) ∧
  (∀ k0_t7 : Fin (k0_t7_loop v125 v135).trips, ∀ (k0_h1 : k0_cond1 v125 v135 = 1#1), ∀ a, (k0_off188 v125 v135 k0_t7) a + S1x1x16.size a ≤ S2x64x512.size a) ∧
  (∀ k0_t7 : Fin (k0_t7_loop v125 v135).trips, ∀ (k0_h1 : k0_cond1 v125 v135 = 1#1), ∀ a, (k0_off189 v125 v135 k0_t7) a + S1x1x16.size a ≤ S2x64x512.size a) ∧
  (∀ k0_t7 : Fin (k0_t7_loop v125 v135).trips, ∀ (k0_h1 : k0_cond1 v125 v135 = 1#1), ∀ a, (k0_off190 v125 v135 k0_t7) a + S1x1x16.size a ≤ S2x64x512.size a) ∧
  (∀ k0_t7 : Fin (k0_t7_loop v125 v135).trips, ∀ (k0_h1 : k0_cond1 v125 v135 = 1#1), ∀ a, (k0_off191 v125 v135 k0_t7) a + S1x1x16.size a ≤ S2x64x512.size a) ∧
  (∀ k0_t7 : Fin (k0_t7_loop v125 v135).trips, ∀ (k0_h1 : k0_cond1 v125 v135 = 1#1), ∀ a, (k0_off192 v125 v135 k0_t7) a + S1x1x16.size a ≤ S2x64x512.size a) ∧
  (∀ k0_t7 : Fin (k0_t7_loop v125 v135).trips, ∀ (k0_h1 : k0_cond1 v125 v135 = 1#1), ∀ a, (k0_off193 v125 v135 k0_t7) a + S1x1x16.size a ≤ S2x64x512.size a)
def k0_chk6_5 (v52 : BitVec 32) (v62 : BitVec 32) (k0_t4 : Fin (k0_t4_loop v52 v62).trips) (v125 : BitVec 32) (v135 : BitVec 32) : Prop :=
  (∀ k0_t7 : Fin (k0_t7_loop v125 v135).trips, ∀ (k0_h1 : k0_cond1 v125 v135 = 1#1), ∀ a, (k0_off194 v125 v135 k0_t7) a + S1x1x16.size a ≤ S2x64x512.size a) ∧
  (∀ k0_t7 : Fin (k0_t7_loop v125 v135).trips, ∀ (k0_h1 : k0_cond1 v125 v135 = 1#1), ∀ a, (k0_off195 v125 v135 k0_t7) a + S1x1x16.size a ≤ S2x64x512.size a) ∧
  (∀ k0_t7 : Fin (k0_t7_loop v125 v135).trips, ∀ (k0_h1 : k0_cond1 v125 v135 = 1#1), ∀ a, (k0_off196 v125 v135 k0_t7) a + S1x1x16.size a ≤ S2x64x512.size a) ∧
  (∀ (k0_h1 : k0_cond1 v125 v135 = 1#1), (k0_t8_loop v125 v135).OK) ∧
  (∀ k0_t8 : Fin (k0_t8_loop v125 v135).trips, ∀ (k0_h1 : k0_cond1 v125 v135 = 1#1), ∀ a, (k0_off197 v125 v135 k0_t8) a + S1x1x16.size a ≤ S2x64x512.size a) ∧
  (∀ k0_t8 : Fin (k0_t8_loop v125 v135).trips, ∀ (k0_h1 : k0_cond1 v125 v135 = 1#1), ∀ a, (k0_off198 v125 v135 k0_t8) a + S1x1x16.size a ≤ S2x64x512.size a) ∧
  (∀ k0_t8 : Fin (k0_t8_loop v125 v135).trips, ∀ (k0_h1 : k0_cond1 v125 v135 = 1#1), ∀ a, (k0_off199 v125 v135 k0_t8) a + S1x1x16.size a ≤ S2x64x512.size a) ∧
  (∀ k0_t8 : Fin (k0_t8_loop v125 v135).trips, ∀ (k0_h1 : k0_cond1 v125 v135 = 1#1), ∀ a, (k0_off200 v125 v135 k0_t8) a + S1x1x16.size a ≤ S2x64x512.size a) ∧
  (∀ k0_t8 : Fin (k0_t8_loop v125 v135).trips, ∀ (k0_h1 : k0_cond1 v125 v135 = 1#1), ∀ a, (k0_off201 v125 v135 k0_t8) a + S1x1x16.size a ≤ S2x64x512.size a) ∧
  (∀ k0_t8 : Fin (k0_t8_loop v125 v135).trips, ∀ (k0_h1 : k0_cond1 v125 v135 = 1#1), ∀ a, (k0_off202 v125 v135 k0_t8) a + S1x1x16.size a ≤ S2x64x512.size a) ∧
  (∀ k0_t8 : Fin (k0_t8_loop v125 v135).trips, ∀ (k0_h1 : k0_cond1 v125 v135 = 1#1), ∀ a, (k0_off203 v125 v135 k0_t8) a + S1x1x16.size a ≤ S2x64x512.size a) ∧
  (∀ k0_t8 : Fin (k0_t8_loop v125 v135).trips, ∀ (k0_h1 : k0_cond1 v125 v135 = 1#1), ∀ a, (k0_off204 v125 v135 k0_t8) a + S1x1x16.size a ≤ S2x64x512.size a) ∧
  (∀ k0_t8 : Fin (k0_t8_loop v125 v135).trips, ∀ (k0_h1 : k0_cond1 v125 v135 = 1#1), ∀ a, (k0_off205 v125 v135 k0_t8) a + S1x1x16.size a ≤ S2x64x512.size a) ∧
  (∀ k0_t8 : Fin (k0_t8_loop v125 v135).trips, ∀ (k0_h1 : k0_cond1 v125 v135 = 1#1), ∀ a, (k0_off206 v125 v135 k0_t8) a + S1x1x16.size a ≤ S2x64x512.size a) ∧
  (∀ k0_t8 : Fin (k0_t8_loop v125 v135).trips, ∀ (k0_h1 : k0_cond1 v125 v135 = 1#1), ∀ a, (k0_off207 v125 v135 k0_t8) a + S1x1x16.size a ≤ S2x64x512.size a) ∧
  (∀ k0_t8 : Fin (k0_t8_loop v125 v135).trips, ∀ (k0_h1 : k0_cond1 v125 v135 = 1#1), ∀ a, (k0_off208 v125 v135 k0_t8) a + S1x1x16.size a ≤ S2x64x512.size a) ∧
  (∀ k0_t8 : Fin (k0_t8_loop v125 v135).trips, ∀ (k0_h1 : k0_cond1 v125 v135 = 1#1), ∀ a, (k0_off209 v125 v135 k0_t8) a + S1x1x16.size a ≤ S2x64x512.size a) ∧
  (∀ k0_t8 : Fin (k0_t8_loop v125 v135).trips, ∀ (k0_h1 : k0_cond1 v125 v135 = 1#1), ∀ a, (k0_off210 v125 v135 k0_t8) a + S1x1x16.size a ≤ S2x64x512.size a) ∧
  (∀ k0_t8 : Fin (k0_t8_loop v125 v135).trips, ∀ (k0_h1 : k0_cond1 v125 v135 = 1#1), ∀ a, (k0_off211 v125 v135 k0_t8) a + S1x1x16.size a ≤ S2x64x512.size a) ∧
  (∀ k0_t8 : Fin (k0_t8_loop v125 v135).trips, ∀ (k0_h1 : k0_cond1 v125 v135 = 1#1), ∀ a, (k0_off212 v125 v135 k0_t8) a + S1x1x16.size a ≤ S2x64x512.size a) ∧
  (∀ k0_t8 : Fin (k0_t8_loop v125 v135).trips, ∀ (k0_h1 : k0_cond1 v125 v135 = 1#1), ∀ a, (k0_off213 v125 v135 k0_t8) a + S1x1x16.size a ≤ S2x64x512.size a) ∧
  (∀ k0_t8 : Fin (k0_t8_loop v125 v135).trips, ∀ (k0_h1 : k0_cond1 v125 v135 = 1#1), ∀ a, (k0_off214 v125 v135 k0_t8) a + S1x1x16.size a ≤ S2x64x512.size a) ∧
  (∀ k0_t8 : Fin (k0_t8_loop v125 v135).trips, ∀ (k0_h1 : k0_cond1 v125 v135 = 1#1), ∀ a, (k0_off215 v125 v135 k0_t8) a + S1x1x16.size a ≤ S2x64x512.size a) ∧
  (∀ k0_t8 : Fin (k0_t8_loop v125 v135).trips, ∀ (k0_h1 : k0_cond1 v125 v135 = 1#1), ∀ a, (k0_off216 v125 v135 k0_t8) a + S1x1x16.size a ≤ S2x64x512.size a) ∧
  (∀ k0_t8 : Fin (k0_t8_loop v125 v135).trips, ∀ (k0_h1 : k0_cond1 v125 v135 = 1#1), ∀ a, (k0_off217 v125 v135 k0_t8) a + S1x1x16.size a ≤ S2x64x512.size a) ∧
  (∀ k0_t8 : Fin (k0_t8_loop v125 v135).trips, ∀ (k0_h1 : k0_cond1 v125 v135 = 1#1), ∀ a, (k0_off218 v125 v135 k0_t8) a + S1x1x16.size a ≤ S2x64x512.size a) ∧
  (∀ k0_t8 : Fin (k0_t8_loop v125 v135).trips, ∀ (k0_h1 : k0_cond1 v125 v135 = 1#1), ∀ a, (k0_off219 v125 v135 k0_t8) a + S1x1x16.size a ≤ S2x64x512.size a) ∧
  (∀ k0_t8 : Fin (k0_t8_loop v125 v135).trips, ∀ (k0_h1 : k0_cond1 v125 v135 = 1#1), ∀ a, (k0_off220 v125 v135 k0_t8) a + S1x1x16.size a ≤ S2x64x512.size a) ∧
  (∀ k0_t8 : Fin (k0_t8_loop v125 v135).trips, ∀ (k0_h1 : k0_cond1 v125 v135 = 1#1), ∀ a, (k0_off221 v125 v135 k0_t8) a + S1x1x16.size a ≤ S2x64x512.size a) ∧
  (∀ k0_t8 : Fin (k0_t8_loop v125 v135).trips, ∀ (k0_h1 : k0_cond1 v125 v135 = 1#1), ∀ a, (k0_off222 v125 v135 k0_t8) a + S1x1x16.size a ≤ S2x64x512.size a) ∧
  (∀ k0_t8 : Fin (k0_t8_loop v125 v135).trips, ∀ (k0_h1 : k0_cond1 v125 v135 = 1#1), ∀ a, (k0_off223 v125 v135 k0_t8) a + S1x1x16.size a ≤ S2x64x512.size a) ∧
  (∀ k0_t8 : Fin (k0_t8_loop v125 v135).trips, ∀ (k0_h1 : k0_cond1 v125 v135 = 1#1), ∀ a, (k0_off224 v125 v135 k0_t8) a + S1x1x16.size a ≤ S2x64x512.size a)
def k0_chk6_6 (v52 : BitVec 32) (v62 : BitVec 32) (k0_t4 : Fin (k0_t4_loop v52 v62).trips) (v125 : BitVec 32) (v135 : BitVec 32) : Prop :=
  (∀ k0_t8 : Fin (k0_t8_loop v125 v135).trips, ∀ (k0_h1 : k0_cond1 v125 v135 = 1#1), ∀ a, (k0_off225 v125 v135 k0_t8) a + S1x1x16.size a ≤ S2x64x512.size a) ∧
  (∀ k0_t8 : Fin (k0_t8_loop v125 v135).trips, ∀ (k0_h1 : k0_cond1 v125 v135 = 1#1), ∀ a, (k0_off226 v125 v135 k0_t8) a + S1x1x16.size a ≤ S2x64x512.size a) ∧
  (∀ k0_t8 : Fin (k0_t8_loop v125 v135).trips, ∀ (k0_h1 : k0_cond1 v125 v135 = 1#1), ∀ a, (k0_off227 v125 v135 k0_t8) a + S1x1x16.size a ≤ S2x64x512.size a) ∧
  (∀ k0_t8 : Fin (k0_t8_loop v125 v135).trips, ∀ (k0_h1 : k0_cond1 v125 v135 = 1#1), ∀ a, (k0_off228 v125 v135 k0_t8) a + S1x1x16.size a ≤ S2x64x512.size a) ∧
  (∀ (k0_h1 : k0_cond1 v125 v135 = 1#1), ∀ a, (k0_off229 v52 v62 k0_t4) a + S1x16.size a ≤ S16x512.size a) ∧
  (∀ (k0_h1 : k0_cond1 v125 v135 = 1#1), ∀ a, (k0_off230 v52 v62 k0_t4) a + S1x16.size a ≤ S16x512.size a) ∧
  (∀ (k0_h1 : k0_cond1 v125 v135 = 1#1), ∀ a, (k0_off231 v52 v62 k0_t4) a + S1x16.size a ≤ S16x512.size a) ∧
  (∀ (k0_h1 : k0_cond1 v125 v135 = 1#1), ∀ a, (k0_off232 v52 v62 k0_t4) a + S1x16.size a ≤ S16x512.size a) ∧
  (∀ (k0_h1 : k0_cond1 v125 v135 = 1#1), ∀ a, (k0_off233 v52 v62 k0_t4) a + S1x16.size a ≤ S16x512.size a) ∧
  (∀ (k0_h1 : k0_cond1 v125 v135 = 1#1), ∀ a, (k0_off234 v52 v62 k0_t4) a + S1x16.size a ≤ S16x512.size a) ∧
  (∀ (k0_h1 : k0_cond1 v125 v135 = 1#1), ∀ a, (k0_off235 v52 v62 k0_t4) a + S1x16.size a ≤ S16x512.size a) ∧
  (∀ (k0_h1 : k0_cond1 v125 v135 = 1#1), ∀ a, (k0_off236 v52 v62 k0_t4) a + S1x16.size a ≤ S16x512.size a) ∧
  (∀ (k0_h1 : k0_cond1 v125 v135 = 1#1), ∀ a, (k0_off237 v52 v62 k0_t4) a + S1x16.size a ≤ S16x512.size a) ∧
  (∀ (k0_h1 : k0_cond1 v125 v135 = 1#1), ∀ a, (k0_off238 v52 v62 k0_t4) a + S1x16.size a ≤ S16x512.size a) ∧
  (∀ (k0_h1 : k0_cond1 v125 v135 = 1#1), ∀ a, (k0_off239 v52 v62 k0_t4) a + S1x16.size a ≤ S16x512.size a) ∧
  (∀ (k0_h1 : k0_cond1 v125 v135 = 1#1), ∀ a, (k0_off240 v52 v62 k0_t4) a + S1x16.size a ≤ S16x512.size a) ∧
  (∀ (k0_h1 : k0_cond1 v125 v135 = 1#1), ∀ a, (k0_off241 v52 v62 k0_t4) a + S1x16.size a ≤ S16x512.size a) ∧
  (∀ (k0_h1 : k0_cond1 v125 v135 = 1#1), ∀ a, (k0_off242 v52 v62 k0_t4) a + S1x16.size a ≤ S16x512.size a) ∧
  (∀ (k0_h1 : k0_cond1 v125 v135 = 1#1), ∀ a, (k0_off243 v52 v62 k0_t4) a + S1x16.size a ≤ S16x512.size a) ∧
  (∀ (k0_h1 : k0_cond1 v125 v135 = 1#1), ∀ a, (k0_off244 v52 v62 k0_t4) a + S1x16.size a ≤ S16x512.size a) ∧
  (∀ (k0_h1 : k0_cond1 v125 v135 = 1#1), ∀ a, (k0_off245 v52 v62 k0_t4) a + S1x16.size a ≤ S16x512.size a) ∧
  (∀ (k0_h1 : k0_cond1 v125 v135 = 1#1), ∀ a, (k0_off246 v52 v62 k0_t4) a + S1x16.size a ≤ S16x512.size a) ∧
  (∀ (k0_h1 : k0_cond1 v125 v135 = 1#1), ∀ a, (k0_off247 v52 v62 k0_t4) a + S1x16.size a ≤ S16x512.size a) ∧
  (∀ (k0_h1 : k0_cond1 v125 v135 = 1#1), ∀ a, (k0_off248 v52 v62 k0_t4) a + S1x16.size a ≤ S16x512.size a) ∧
  (∀ (k0_h1 : k0_cond1 v125 v135 = 1#1), ∀ a, (k0_off249 v52 v62 k0_t4) a + S1x16.size a ≤ S16x512.size a) ∧
  (∀ (k0_h1 : k0_cond1 v125 v135 = 1#1), ∀ a, (k0_off250 v52 v62 k0_t4) a + S1x16.size a ≤ S16x512.size a) ∧
  (∀ (k0_h1 : k0_cond1 v125 v135 = 1#1), ∀ a, (k0_off251 v52 v62 k0_t4) a + S1x16.size a ≤ S16x512.size a) ∧
  (∀ (k0_h1 : k0_cond1 v125 v135 = 1#1), ∀ a, (k0_off252 v52 v62 k0_t4) a + S1x16.size a ≤ S16x512.size a) ∧
  (∀ (k0_h1 : k0_cond1 v125 v135 = 1#1), ∀ a, (k0_off253 v52 v62 k0_t4) a + S1x16.size a ≤ S16x512.size a) ∧
  (∀ (k0_h1 : k0_cond1 v125 v135 = 1#1), ∀ a, (k0_off254 v52 v62 k0_t4) a + S1x16.size a ≤ S16x512.size a) ∧
  (∀ (k0_h1 : k0_cond1 v125 v135 = 1#1), ∀ a, (k0_off255 v52 v62 k0_t4) a + S1x16.size a ≤ S16x512.size a) ∧
  (∀ (k0_h1 : k0_cond1 v125 v135 = 1#1), ∀ a, (k0_off256 v52 v62 k0_t4) a + S1x16.size a ≤ S16x512.size a)
def k0_chk6_7 (v52 : BitVec 32) (v62 : BitVec 32) (k0_t4 : Fin (k0_t4_loop v52 v62).trips) (v125 : BitVec 32) (v135 : BitVec 32) : Prop :=
  (∀ (k0_h1 : k0_cond1 v125 v135 = 1#1), ∀ a, (k0_off257 v52 v62 k0_t4) a + S1x16.size a ≤ S16x512.size a) ∧
  (∀ (k0_h1 : k0_cond1 v125 v135 = 1#1), ∀ a, (k0_off258 v52 v62 k0_t4) a + S1x16.size a ≤ S16x512.size a) ∧
  (∀ (k0_h1 : k0_cond1 v125 v135 = 1#1), ∀ a, (k0_off259 v52 v62 k0_t4) a + S1x16.size a ≤ S16x512.size a) ∧
  (∀ (k0_h1 : k0_cond1 v125 v135 = 1#1), ∀ a, (k0_off260 v52 v62 k0_t4) a + S1x16.size a ≤ S16x512.size a)
def k0_chk6 (v52 : BitVec 32) (v62 : BitVec 32) (k0_t4 : Fin (k0_t4_loop v52 v62).trips) (v125 : BitVec 32) (v135 : BitVec 32) : Prop :=
  k0_chk6_0 v52 v62 k0_t4 v125 v135 ∧
  k0_chk6_1 v52 v62 k0_t4 v125 v135 ∧
  k0_chk6_2 v52 v62 k0_t4 v125 v135 ∧
  k0_chk6_3 v52 v62 k0_t4 v125 v135 ∧
  k0_chk6_4 v52 v62 k0_t4 v125 v135 ∧
  k0_chk6_5 v52 v62 k0_t4 v125 v135 ∧
  k0_chk6_6 v52 v62 k0_t4 v125 v135 ∧
  k0_chk6_7 v52 v62 k0_t4 v125 v135
theorem k0_t5_ok : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), (k0_t5_loop v125 v135).OK := fun v52 v62 k0_t4 v125 v135 k0_hw6 k0_h1 => k0_hw6.1.1 k0_h1
theorem k0_off37_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off37 v125 v135 k0_t5) a + S1x1x16.size a ≤ S2x64x512.size a := fun v52 v62 k0_t4 v125 v135 k0_hw6 k0_t5 k0_h1 => k0_hw6.1.2.1 k0_t5 k0_h1
theorem k0_off38_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off38 v125 v135 k0_t5 (BitVec.ofNat 32 (1 + r.val))) a + S1x1x16.size a ≤ S2x64x512.size a := fun v52 v62 k0_t4 v125 v135 k0_hw6 k0_t5 k0_h1 r => k0_hw6.1.2.2.1 k0_t5 k0_h1 r
theorem k0_off39_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off39 v125 v135 k0_t5) a + S1x1x16.size a ≤ S2x64x512.size a := fun v52 v62 k0_t4 v125 v135 k0_hw6 k0_t5 k0_h1 => k0_hw6.1.2.2.2.1 k0_t5 k0_h1
theorem k0_off40_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off40 v125 v135 k0_t5 (BitVec.ofNat 32 (1 + r.val))) a + S1x1x16.size a ≤ S2x64x512.size a := fun v52 v62 k0_t4 v125 v135 k0_hw6 k0_t5 k0_h1 r => k0_hw6.1.2.2.2.2.1 k0_t5 k0_h1 r
theorem k0_off41_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off41 v125 v135 k0_t5) a + S1x1x16.size a ≤ S2x64x512.size a := fun v52 v62 k0_t4 v125 v135 k0_hw6 k0_t5 k0_h1 => k0_hw6.1.2.2.2.2.2.1 k0_t5 k0_h1
theorem k0_off42_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off42 v125 v135 k0_t5 (BitVec.ofNat 32 (1 + r.val))) a + S1x1x16.size a ≤ S2x64x512.size a := fun v52 v62 k0_t4 v125 v135 k0_hw6 k0_t5 k0_h1 r => k0_hw6.1.2.2.2.2.2.2.1 k0_t5 k0_h1 r
theorem k0_off43_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off43 v125 v135 k0_t5) a + S1x1x16.size a ≤ S2x64x512.size a := fun v52 v62 k0_t4 v125 v135 k0_hw6 k0_t5 k0_h1 => k0_hw6.1.2.2.2.2.2.2.2.1 k0_t5 k0_h1
theorem k0_off44_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off44 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.1 k0_t5 k0_h1 r
theorem k0_off45_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off45 v125 v135 k0_t5) a + S1x1x16.size a ≤ S2x64x512.size a := fun v52 v62 k0_t4 v125 v135 k0_hw6 k0_t5 k0_h1 => k0_hw6.1.2.2.2.2.2.2.2.2.2.1 k0_t5 k0_h1
theorem k0_off46_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off46 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.1 k0_t5 k0_h1 r
theorem k0_off47_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off47 v125 v135 k0_t5) a + S1x1x16.size a ≤ S2x64x512.size a := fun v52 v62 k0_t4 v125 v135 k0_hw6 k0_t5 k0_h1 => k0_hw6.1.2.2.2.2.2.2.2.2.2.2.2.1 k0_t5 k0_h1
theorem k0_off48_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off48 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.1 k0_t5 k0_h1 r
theorem k0_off49_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off49 v125 v135 k0_t5) a + S1x1x16.size a ≤ S2x64x512.size a := fun v52 v62 k0_t4 v125 v135 k0_hw6 k0_t5 k0_h1 => k0_hw6.1.2.2.2.2.2.2.2.2.2.2.2.2.2.1 k0_t5 k0_h1
theorem k0_off50_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off50 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.1 k0_t5 k0_h1 r
theorem k0_off51_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off51 v125 v135 k0_t5) a + S1x1x16.size a ≤ S2x64x512.size a := fun v52 v62 k0_t4 v125 v135 k0_hw6 k0_t5 k0_h1 => k0_hw6.1.2.2.2.2.2.2.2.2.2.2.2.2.2.2.2.1 k0_t5 k0_h1
theorem k0_off52_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off52 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.1 k0_t5 k0_h1 r
theorem k0_off53_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off53 v125 v135 k0_t5) a + S1x1x16.size a ≤ S2x64x512.size a := fun v52 v62 k0_t4 v125 v135 k0_hw6 k0_t5 k0_h1 => k0_hw6.1.2.2.2.2.2.2.2.2.2.2.2.2.2.2.2.2.2.1 k0_t5 k0_h1
theorem k0_off54_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off54 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.2.2.1 k0_t5 k0_h1 r
theorem k0_off55_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off55 v125 v135 k0_t5) a + S1x1x16.size a ≤ S2x64x512.size a := fun v52 v62 k0_t4 v125 v135 k0_hw6 k0_t5 k0_h1 => k0_hw6.1.2.2.2.2.2.2.2.2.2.2.2.2.2.2.2.2.2.2.2.1 k0_t5 k0_h1
theorem k0_off56_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off56 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.2.2.2.2.1 k0_t5 k0_h1 r
theorem k0_off57_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off57 v125 v135 k0_t5) a + S1x1x16.size a ≤ S2x64x512.size a := fun v52 v62 k0_t4 v125 v135 k0_hw6 k0_t5 k0_h1 => k0_hw6.1.2.2.2.2.2.2.2.2.2.2.2.2.2.2.2.2.2.2.2.2.2.1 k0_t5 k0_h1
theorem k0_off58_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off58 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.2.2.2.2.2.2.1 k0_t5 k0_h1 r
theorem k0_off59_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off59 v125 v135 k0_t5) a + S1x1x16.size a ≤ S2x64x512.size a := fun v52 v62 k0_t4 v125 v135 k0_hw6 k0_t5 k0_h1 => k0_hw6.1.2.2.2.2.2.2.2.2.2.2.2.2.2.2.2.2.2.2.2.2.2.2.2.1 k0_t5 k0_h1
theorem k0_off60_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off60 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.2.2.2.2.2.2.2.2.1 k0_t5 k0_h1 r
theorem k0_off61_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off61 v125 v135 k0_t5) a + S1x1x16.size a ≤ S2x64x512.size a := fun v52 v62 k0_t4 v125 v135 k0_hw6 k0_t5 k0_h1 => k0_hw6.1.2.2.2.2.2.2.2.2.2.2.2.2.2.2.2.2.2.2.2.2.2.2.2.2.2.1 k0_t5 k0_h1
theorem k0_off62_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off62 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.2.2.2.2.2.2.2.2.2.2.1 k0_t5 k0_h1 r
theorem k0_off63_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off63 v125 v135 k0_t5) a + S1x1x16.size a ≤ S2x64x512.size a := fun v52 v62 k0_t4 v125 v135 k0_hw6 k0_t5 k0_h1 => k0_hw6.1.2.2.2.2.2.2.2.2.2.2.2.2.2.2.2.2.2.2.2.2.2.2.2.2.2.2.2.1 k0_t5 k0_h1
theorem k0_off64_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off64 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.2.2.2.2.2.2.2.2.2.2.2.2.1 k0_t5 k0_h1 r
theorem k0_off65_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off65 v125 v135 k0_t5) a + S1x1x16.size a ≤ S2x64x512.size a := fun v52 v62 k0_t4 v125 v135 k0_hw6 k0_t5 k0_h1 => k0_hw6.1.2.2.2.2.2.2.2.2.2.2.2.2.2.2.2.2.2.2.2.2.2.2.2.2.2.2.2.2.2.1 k0_t5 k0_h1
theorem k0_off66_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off66 v125 v135 k0_t5 (BitVec.ofNat 32 (1 + r.val))) a + S1x1x16.size a ≤ S2x64x512.size a := fun v52 v62 k0_t4 v125 v135 k0_hw6 k0_t5 k0_h1 r => k0_hw6.1.2.2.2.2.2.2.2.2.2.2.2.2.2.2.2.2.2.2.2.2.2.2.2.2.2.2.2.2.2.2.1 k0_t5 k0_h1 r
theorem k0_off67_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off67 v125 v135 k0_t5) a + S1x1x16.size a ≤ S2x64x512.size a := fun v52 v62 k0_t4 v125 v135 k0_hw6 k0_t5 k0_h1 => k0_hw6.1.2.2.2.2.2.2.2.2.2.2.2.2.2.2.2.2.2.2.2.2.2.2.2.2.2.2.2.2.2.2.2 k0_t5 k0_h1
theorem k0_off68_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off68 v125 v135 k0_t5 (BitVec.ofNat 32 (1 + r.val))) a + S1x1x16.size a ≤ S2x64x512.size a := fun v52 v62 k0_t4 v125 v135 k0_hw6 k0_t5 k0_h1 r => k0_hw6.2.1.1 k0_t5 k0_h1 r
theorem k0_off69_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off69 v125 v135 k0_t5) a + S1x1x16.size a ≤ S2x64x512.size a := fun v52 v62 k0_t4 v125 v135 k0_hw6 k0_t5 k0_h1 => k0_hw6.2.1.2.1 k0_t5 k0_h1
theorem k0_off70_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off70 v125 v135 k0_t5 (BitVec.ofNat 32 (1 + r.val))) a + S1x1x16.size a ≤ S2x64x512.size a := fun v52 v62 k0_t4 v125 v135 k0_hw6 k0_t5 k0_h1 r => k0_hw6.2.1.2.2.1 k0_t5 k0_h1 r
theorem k0_off71_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off71 v125 v135 k0_t5) a + S1x1x16.size a ≤ S2x64x512.size a := fun v52 v62 k0_t4 v125 v135 k0_hw6 k0_t5 k0_h1 => k0_hw6.2.1.2.2.2.1 k0_t5 k0_h1
theorem k0_off72_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off72 v125 v135 k0_t5 (BitVec.ofNat 32 (1 + r.val))) a + S1x1x16.size a ≤ S2x64x512.size a := fun v52 v62 k0_t4 v125 v135 k0_hw6 k0_t5 k0_h1 r => k0_hw6.2.1.2.2.2.2.1 k0_t5 k0_h1 r
theorem k0_off73_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off73 v125 v135 k0_t5) a + S1x1x16.size a ≤ S2x64x512.size a := fun v52 v62 k0_t4 v125 v135 k0_hw6 k0_t5 k0_h1 => k0_hw6.2.1.2.2.2.2.2.1 k0_t5 k0_h1
theorem k0_off74_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off74 v125 v135 k0_t5 (BitVec.ofNat 32 (1 + r.val))) a + S1x1x16.size a ≤ S2x64x512.size a := fun v52 v62 k0_t4 v125 v135 k0_hw6 k0_t5 k0_h1 r => k0_hw6.2.1.2.2.2.2.2.2.1 k0_t5 k0_h1 r
theorem k0_off75_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off75 v125 v135 k0_t5) a + S1x1x16.size a ≤ S2x64x512.size a := fun v52 v62 k0_t4 v125 v135 k0_hw6 k0_t5 k0_h1 => k0_hw6.2.1.2.2.2.2.2.2.2.1 k0_t5 k0_h1
theorem k0_off76_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off76 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.1 k0_t5 k0_h1 r
theorem k0_off77_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off77 v125 v135 k0_t5) a + S1x1x16.size a ≤ S2x64x512.size a := fun v52 v62 k0_t4 v125 v135 k0_hw6 k0_t5 k0_h1 => k0_hw6.2.1.2.2.2.2.2.2.2.2.2.1 k0_t5 k0_h1
theorem k0_off78_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off78 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.1 k0_t5 k0_h1 r
theorem k0_off79_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off79 v125 v135 k0_t5) a + S1x1x16.size a ≤ S2x64x512.size a := fun v52 v62 k0_t4 v125 v135 k0_hw6 k0_t5 k0_h1 => k0_hw6.2.1.2.2.2.2.2.2.2.2.2.2.2.1 k0_t5 k0_h1
theorem k0_off80_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off80 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.1 k0_t5 k0_h1 r
theorem k0_off81_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off81 v125 v135 k0_t5) a + S1x1x16.size a ≤ S2x64x512.size a := fun v52 v62 k0_t4 v125 v135 k0_hw6 k0_t5 k0_h1 => k0_hw6.2.1.2.2.2.2.2.2.2.2.2.2.2.2.2.1 k0_t5 k0_h1
theorem k0_off82_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off82 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.1 k0_t5 k0_h1 r
theorem k0_off83_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off83 v125 v135 k0_t5) a + S1x1x16.size a ≤ S2x64x512.size a := fun v52 v62 k0_t4 v125 v135 k0_hw6 k0_t5 k0_h1 => k0_hw6.2.1.2.2.2.2.2.2.2.2.2.2.2.2.2.2.2.1 k0_t5 k0_h1
theorem k0_off84_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off84 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.1 k0_t5 k0_h1 r
theorem k0_off85_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off85 v125 v135 k0_t5) a + S1x1x16.size a ≤ S2x64x512.size a := fun v52 v62 k0_t4 v125 v135 k0_hw6 k0_t5 k0_h1 => k0_hw6.2.1.2.2.2.2.2.2.2.2.2.2.2.2.2.2.2.2.2.1 k0_t5 k0_h1
theorem k0_off86_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off86 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.2.2.1 k0_t5 k0_h1 r
theorem k0_off87_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off87 v125 v135 k0_t5) a + S1x1x16.size a ≤ S2x64x512.size a := fun v52 v62 k0_t4 v125 v135 k0_hw6 k0_t5 k0_h1 => k0_hw6.2.1.2.2.2.2.2.2.2.2.2.2.2.2.2.2.2.2.2.2.2.1 k0_t5 k0_h1
theorem k0_off88_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off88 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.2.2.2.2.1 k0_t5 k0_h1 r
theorem k0_off89_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off89 v125 v135 k0_t5) a + S1x1x16.size a ≤ S2x64x512.size a := fun v52 v62 k0_t4 v125 v135 k0_hw6 k0_t5 k0_h1 => k0_hw6.2.1.2.2.2.2.2.2.2.2.2.2.2.2.2.2.2.2.2.2.2.2.2.1 k0_t5 k0_h1
theorem k0_off90_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off90 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.2.2.2.2.2.2.1 k0_t5 k0_h1 r
theorem k0_off91_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off91 v125 v135 k0_t5) a + S1x1x16.size a ≤ S2x64x512.size a := fun v52 v62 k0_t4 v125 v135 k0_hw6 k0_t5 k0_h1 => k0_hw6.2.1.2.2.2.2.2.2.2.2.2.2.2.2.2.2.2.2.2.2.2.2.2.2.2.1 k0_t5 k0_h1
theorem k0_off92_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off92 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.2.2.2.2.2.2.2.2.1 k0_t5 k0_h1 r
theorem k0_off93_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off93 v125 v135 k0_t5) a + S1x1x16.size a ≤ S2x64x512.size a := fun v52 v62 k0_t4 v125 v135 k0_hw6 k0_t5 k0_h1 => k0_hw6.2.1.2.2.2.2.2.2.2.2.2.2.2.2.2.2.2.2.2.2.2.2.2.2.2.2.2.1 k0_t5 k0_h1
theorem k0_off94_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off94 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.2.2.2.2.2.2.2.2.2.2.1 k0_t5 k0_h1 r
theorem k0_off95_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off95 v125 v135 k0_t5) a + S1x1x16.size a ≤ S2x64x512.size a := fun v52 v62 k0_t4 v125 v135 k0_hw6 k0_t5 k0_h1 => k0_hw6.2.1.2.2.2.2.2.2.2.2.2.2.2.2.2.2.2.2.2.2.2.2.2.2.2.2.2.2.2.1 k0_t5 k0_h1
theorem k0_off96_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off96 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.2.2.2.2.2.2.2.2.2.2.2.2.1 k0_t5 k0_h1 r
theorem k0_off97_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off97 v125 v135 k0_t5) a + S1x1x16.size a ≤ S2x64x512.size a := fun v52 v62 k0_t4 v125 v135 k0_hw6 k0_t5 k0_h1 => k0_hw6.2.1.2.2.2.2.2.2.2.2.2.2.2.2.2.2.2.2.2.2.2.2.2.2.2.2.2.2.2.2.2.1 k0_t5 k0_h1
theorem k0_off98_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off98 v125 v135 k0_t5 (BitVec.ofNat 32 (1 + r.val))) a + S1x1x16.size a ≤ S2x64x512.size a := fun v52 v62 k0_t4 v125 v135 k0_hw6 k0_t5 k0_h1 r => k0_hw6.2.1.2.2.2.2.2.2.2.2.2.2.2.2.2.2.2.2.2.2.2.2.2.2.2.2.2.2.2.2.2.2.1 k0_t5 k0_h1 r
theorem k0_off99_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ a, (k0_off99 v125 v135 k0_t5) a + S1x1x16.size a ≤ S2x64x512.size a := fun v52 v62 k0_t4 v125 v135 k0_hw6 k0_t5 k0_h1 => k0_hw6.2.1.2.2.2.2.2.2.2.2.2.2.2.2.2.2.2.2.2.2.2.2.2.2.2.2.2.2.2.2.2.2.2 k0_t5 k0_h1
theorem k0_off100_inb : ∀ (v52 : BitVec 32) (v62 : BitVec 32) (k0_t4 : Fin (k0_t4_loop v52 v62).trips) (v125 : BitVec 32) (v135 : BitVec 32) (k0_hw6 : k0_chk6 v52 v62 k0_t4 v125 v135) (k0_t5 : Fin (k0_t5_loop v125 v135).trips), ∀ (k0_h1 : k0_cond1 v125 v135 = 1#1), ∀ (r : Fin 3), ∀ a, (k0_off100 v125 v135 k0_t5 (BitVec.ofNat 32 (1 + r.val))) a + S1x1x16.size a ≤ S2x64x512.size a := fun v52 v62 k0_t4 v125 v135 k0_hw6 k0_t5 k0_h1 r => k0_hw6.2.2.1.1 k0_t5 k0_h1 r
theorem k0_t6_ok : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), (k0_t6_loop v125 v135).OK := fun v52 v62 k0_t4 v125 v135 k0_hw6 k0_h1 => k0_hw6.2.2.1.2.1 k0_h1
theorem k0_off101_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off101 v125 v135 k0_t6) a + S1x1x16.size a ≤ S2x64x512.size a := fun v52 v62 k0_t4 v125 v135 k0_hw6 k0_t6 k0_h1 => k0_hw6.2.2.1.2.2.1 k0_t6 k0_h1
theorem k0_off102_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off102 v125 v135 k0_t6 (BitVec.ofNat 32 (1 + r.val))) a + S1x1x16.size a ≤ S2x64x512.size a := fun v52 v62 k0_t4 v125 v135 k0_hw6 k0_t6 k0_h1 r => k0_hw6.2.2.1.2.2.2.1 k0_t6 k0_h1 r
theorem k0_off103_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off103 v125 v135 k0_t6) a + S1x1x16.size a ≤ S2x64x512.size a := fun v52 v62 k0_t4 v125 v135 k0_hw6 k0_t6 k0_h1 => k0_hw6.2.2.1.2.2.2.2.1 k0_t6 k0_h1
theorem k0_off104_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off104 v125 v135 k0_t6 (BitVec.ofNat 32 (1 + r.val))) a + S1x1x16.size a ≤ S2x64x512.size a := fun v52 v62 k0_t4 v125 v135 k0_hw6 k0_t6 k0_h1 r => k0_hw6.2.2.1.2.2.2.2.2.1 k0_t6 k0_h1 r
theorem k0_off105_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off105 v125 v135 k0_t6) a + S1x1x16.size a ≤ S2x64x512.size a := fun v52 v62 k0_t4 v125 v135 k0_hw6 k0_t6 k0_h1 => k0_hw6.2.2.1.2.2.2.2.2.2.1 k0_t6 k0_h1
theorem k0_off106_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off106 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.1 k0_t6 k0_h1 r
theorem k0_off107_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off107 v125 v135 k0_t6) a + S1x1x16.size a ≤ S2x64x512.size a := fun v52 v62 k0_t4 v125 v135 k0_hw6 k0_t6 k0_h1 => k0_hw6.2.2.1.2.2.2.2.2.2.2.2.1 k0_t6 k0_h1
theorem k0_off108_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off108 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.1 k0_t6 k0_h1 r
theorem k0_off109_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off109 v125 v135 k0_t6) a + S1x1x16.size a ≤ S2x64x512.size a := fun v52 v62 k0_t4 v125 v135 k0_hw6 k0_t6 k0_h1 => k0_hw6.2.2.1.2.2.2.2.2.2.2.2.2.2.1 k0_t6 k0_h1
theorem k0_off110_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off110 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.1 k0_t6 k0_h1 r
theorem k0_off111_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off111 v125 v135 k0_t6) a + S1x1x16.size a ≤ S2x64x512.size a := fun v52 v62 k0_t4 v125 v135 k0_hw6 k0_t6 k0_h1 => k0_hw6.2.2.1.2.2.2.2.2.2.2.2.2.2.2.2.1 k0_t6 k0_h1
theorem k0_off112_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off112 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.1 k0_t6 k0_h1 r
theorem k0_off113_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off113 v125 v135 k0_t6) a + S1x1x16.size a ≤ S2x64x512.size a := fun v52 v62 k0_t4 v125 v135 k0_hw6 k0_t6 k0_h1 => k0_hw6.2.2.1.2.2.2.2.2.2.2.2.2.2.2.2.2.2.1 k0_t6 k0_h1
theorem k0_off114_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off114 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.1 k0_t6 k0_h1 r
theorem k0_off115_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off115 v125 v135 k0_t6) a + S1x1x16.size a ≤ S2x64x512.size a := fun v52 v62 k0_t4 v125 v135 k0_hw6 k0_t6 k0_h1 => k0_hw6.2.2.1.2.2.2.2.2.2.2.2.2.2.2.2.2.2.2.2.1 k0_t6 k0_h1
theorem k0_off116_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off116 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.1 k0_t6 k0_h1 r
theorem k0_off117_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off117 v125 v135 k0_t6) a + S1x1x16.size a ≤ S2x64x512.size a := fun v52 v62 k0_t4 v125 v135 k0_hw6 k0_t6 k0_h1 => k0_hw6.2.2.1.2.2.2.2.2.2.2.2.2.2.2.2.2.2.2.2.2.2.1 k0_t6 k0_h1
theorem k0_off118_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off118 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.2.2.1 k0_t6 k0_h1 r
theorem k0_off119_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off119 v125 v135 k0_t6) a + S1x1x16.size a ≤ S2x64x512.size a := fun v52 v62 k0_t4 v125 v135 k0_hw6 k0_t6 k0_h1 => k0_hw6.2.2.1.2.2.2.2.2.2.2.2.2.2.2.2.2.2.2.2.2.2.2.2.1 k0_t6 k0_h1
theorem k0_off120_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off120 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.2.2.2.2.1 k0_t6 k0_h1 r
theorem k0_off121_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off121 v125 v135 k0_t6) a + S1x1x16.size a ≤ S2x64x512.size a := fun v52 v62 k0_t4 v125 v135 k0_hw6 k0_t6 k0_h1 => k0_hw6.2.2.1.2.2.2.2.2.2.2.2.2.2.2.2.2.2.2.2.2.2.2.2.2.2.1 k0_t6 k0_h1
theorem k0_off122_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off122 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.2.2.2.2.2.2.1 k0_t6 k0_h1 r
theorem k0_off123_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off123 v125 v135 k0_t6) a + S1x1x16.size a ≤ S2x64x512.size a := fun v52 v62 k0_t4 v125 v135 k0_hw6 k0_t6 k0_h1 => k0_hw6.2.2.1.2.2.2.2.2.2.2.2.2.2.2.2.2.2.2.2.2.2.2.2.2.2.2.2.1 k0_t6 k0_h1
theorem k0_off124_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off124 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.2.2.2.2.2.2.2.2.1 k0_t6 k0_h1 r
theorem k0_off125_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off125 v125 v135 k0_t6) a + S1x1x16.size a ≤ S2x64x512.size a := fun v52 v62 k0_t4 v125 v135 k0_hw6 k0_t6 k0_h1 => k0_hw6.2.2.1.2.2.2.2.2.2.2.2.2.2.2.2.2.2.2.2.2.2.2.2.2.2.2.2.2.2.1 k0_t6 k0_h1
theorem k0_off126_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off126 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.2.2.2.2.2.2.2.2.2.2.1 k0_t6 k0_h1 r
theorem k0_off127_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off127 v125 v135 k0_t6) a + S1x1x16.size a ≤ S2x64x512.size a := fun v52 v62 k0_t4 v125 v135 k0_hw6 k0_t6 k0_h1 => k0_hw6.2.2.1.2.2.2.2.2.2.2.2.2.2.2.2.2.2.2.2.2.2.2.2.2.2.2.2.2.2.2.2.1 k0_t6 k0_h1
theorem k0_off128_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off128 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.2.2.2.2.2.2.2.2.2.2.2.2.1 k0_t6 k0_h1 r
theorem k0_off129_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off129 v125 v135 k0_t6) a + S1x1x16.size a ≤ S2x64x512.size a := fun v52 v62 k0_t4 v125 v135 k0_hw6 k0_t6 k0_h1 => k0_hw6.2.2.1.2.2.2.2.2.2.2.2.2.2.2.2.2.2.2.2.2.2.2.2.2.2.2.2.2.2.2.2.2.2.1 k0_t6 k0_h1
theorem k0_off130_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off130 v125 v135 k0_t6 (BitVec.ofNat 32 (1 + r.val))) a + S1x1x16.size a ≤ S2x64x512.size a := fun v52 v62 k0_t4 v125 v135 k0_hw6 k0_t6 k0_h1 r => k0_hw6.2.2.1.2.2.2.2.2.2.2.2.2.2.2.2.2.2.2.2.2.2.2.2.2.2.2.2.2.2.2.2.2.2.2 k0_t6 k0_h1 r
theorem k0_off131_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off131 v125 v135 k0_t6) a + S1x1x16.size a ≤ S2x64x512.size a := fun v52 v62 k0_t4 v125 v135 k0_hw6 k0_t6 k0_h1 => k0_hw6.2.2.2.1.1 k0_t6 k0_h1
theorem k0_off132_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off132 v125 v135 k0_t6 (BitVec.ofNat 32 (1 + r.val))) a + S1x1x16.size a ≤ S2x64x512.size a := fun v52 v62 k0_t4 v125 v135 k0_hw6 k0_t6 k0_h1 r => k0_hw6.2.2.2.1.2.1 k0_t6 k0_h1 r
theorem k0_off133_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off133 v125 v135 k0_t6) a + S1x1x16.size a ≤ S2x64x512.size a := fun v52 v62 k0_t4 v125 v135 k0_hw6 k0_t6 k0_h1 => k0_hw6.2.2.2.1.2.2.1 k0_t6 k0_h1
theorem k0_off134_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off134 v125 v135 k0_t6 (BitVec.ofNat 32 (1 + r.val))) a + S1x1x16.size a ≤ S2x64x512.size a := fun v52 v62 k0_t4 v125 v135 k0_hw6 k0_t6 k0_h1 r => k0_hw6.2.2.2.1.2.2.2.1 k0_t6 k0_h1 r
theorem k0_off135_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off135 v125 v135 k0_t6) a + S1x1x16.size a ≤ S2x64x512.size a := fun v52 v62 k0_t4 v125 v135 k0_hw6 k0_t6 k0_h1 => k0_hw6.2.2.2.1.2.2.2.2.1 k0_t6 k0_h1
theorem k0_off136_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off136 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.1 k0_t6 k0_h1 r
theorem k0_off137_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off137 v125 v135 k0_t6) a + S1x1x16.size a ≤ S2x64x512.size a := fun v52 v62 k0_t4 v125 v135 k0_hw6 k0_t6 k0_h1 => k0_hw6.2.2.2.1.2.2.2.2.2.2.1 k0_t6 k0_h1
theorem k0_off138_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off138 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.1 k0_t6 k0_h1 r
theorem k0_off139_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off139 v125 v135 k0_t6) a + S1x1x16.size a ≤ S2x64x512.size a := fun v52 v62 k0_t4 v125 v135 k0_hw6 k0_t6 k0_h1 => k0_hw6.2.2.2.1.2.2.2.2.2.2.2.2.1 k0_t6 k0_h1
theorem k0_off140_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off140 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.1 k0_t6 k0_h1 r
theorem k0_off141_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off141 v125 v135 k0_t6) a + S1x1x16.size a ≤ S2x64x512.size a := fun v52 v62 k0_t4 v125 v135 k0_hw6 k0_t6 k0_h1 => k0_hw6.2.2.2.1.2.2.2.2.2.2.2.2.2.2.1 k0_t6 k0_h1
theorem k0_off142_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off142 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.1 k0_t6 k0_h1 r
theorem k0_off143_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off143 v125 v135 k0_t6) a + S1x1x16.size a ≤ S2x64x512.size a := fun v52 v62 k0_t4 v125 v135 k0_hw6 k0_t6 k0_h1 => k0_hw6.2.2.2.1.2.2.2.2.2.2.2.2.2.2.2.2.1 k0_t6 k0_h1
theorem k0_off144_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off144 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.1 k0_t6 k0_h1 r
theorem k0_off145_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off145 v125 v135 k0_t6) a + S1x1x16.size a ≤ S2x64x512.size a := fun v52 v62 k0_t4 v125 v135 k0_hw6 k0_t6 k0_h1 => k0_hw6.2.2.2.1.2.2.2.2.2.2.2.2.2.2.2.2.2.2.1 k0_t6 k0_h1
theorem k0_off146_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off146 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.1 k0_t6 k0_h1 r
theorem k0_off147_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off147 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.1 k0_t6 k0_h1
theorem k0_off148_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off148 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.1 k0_t6 k0_h1 r
theorem k0_off149_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off149 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.2.2.1 k0_t6 k0_h1
theorem k0_off150_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off150 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.2.2.1 k0_t6 k0_h1 r
theorem k0_off151_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off151 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.2.2.2.2.1 k0_t6 k0_h1
theorem k0_off152_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off152 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.2.2.2.2.1 k0_t6 k0_h1 r
theorem k0_off153_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off153 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.2.2.2.2.2.2.1 k0_t6 k0_h1
theorem k0_off154_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off154 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.2.2.2.2.2.2.1 k0_t6 k0_h1 r
theorem k0_off155_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off155 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.2.2.2.2.2.2.2.2.1 k0_t6 k0_h1
theorem k0_off156_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off156 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.2.2.2.2.2.2.2.2.1 k0_t6 k0_h1 r
theorem k0_off157_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off157 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.2.2.2.2.2.2.2.2.2.2.1 k0_t6 k0_h1
theorem k0_off158_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off158 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.2.2.2.2.2.2.2.2.2.2.1 k0_t6 k0_h1 r
theorem k0_off159_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off159 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.2.2.2.2.2.2.2.2.2.2.2.2.1 k0_t6 k0_h1
theorem k0_off160_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off160 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.2.2.2.2.2.2.2.2.2.2.2.2.1 k0_t6 k0_h1 r
theorem k0_off161_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off161 v125 v135 k0_t6) a + S1x1x16.size a ≤ S2x64x512.size a := fun v52 v62 k0_t4 v125 v135 k0_hw6 k0_t6 k0_h1 => k0_hw6.2.2.2.1.2.2.2.2.2.2.2.2.2.2.2.2.2.2.2.2.2.2.2.2.2.2.2.2.2.2.2.2.2.2.1 k0_t6 k0_h1
theorem k0_off162_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off162 v125 v135 k0_t6 (BitVec.ofNat 32 (1 + r.val))) a + S1x1x16.size a ≤ S2x64x512.size a := fun v52 v62 k0_t4 v125 v135 k0_hw6 k0_t6 k0_h1 r => k0_hw6.2.2.2.1.2.2.2.2.2.2.2.2.2.2.2.2.2.2.2.2.2.2.2.2.2.2.2.2.2.2.2.2.2.2.2 k0_t6 k0_h1 r
theorem k0_off163_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ a, (k0_off163 v125 v135 k0_t6) a + S1x1x16.size a ≤ S2x64x512.size a := fun v52 v62 k0_t4 v125 v135 k0_hw6 k0_t6 k0_h1 => k0_hw6.2.2.2.2.1.1 k0_t6 k0_h1
theorem k0_off164_inb : ∀ (v52 : BitVec 32) (v62 : BitVec 32) (k0_t4 : Fin (k0_t4_loop v52 v62).trips) (v125 : BitVec 32) (v135 : BitVec 32) (k0_hw6 : k0_chk6 v52 v62 k0_t4 v125 v135) (k0_t6 : Fin (k0_t6_loop v125 v135).trips), ∀ (k0_h1 : k0_cond1 v125 v135 = 1#1), ∀ (r : Fin 3), ∀ a, (k0_off164 v125 v135 k0_t6 (BitVec.ofNat 32 (1 + r.val))) a + S1x1x16.size a ≤ S2x64x512.size a := fun v52 v62 k0_t4 v125 v135 k0_hw6 k0_t6 k0_h1 r => k0_hw6.2.2.2.2.1.2.1 k0_t6 k0_h1 r
theorem k0_t7_ok : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), (k0_t7_loop v125 v135).OK := fun v52 v62 k0_t4 v125 v135 k0_hw6 k0_h1 => k0_hw6.2.2.2.2.1.2.2.1 k0_h1
theorem k0_off165_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off165 v125 v135 k0_t7) a + S1x1x16.size a ≤ S2x64x512.size a := fun v52 v62 k0_t4 v125 v135 k0_hw6 k0_t7 k0_h1 => k0_hw6.2.2.2.2.1.2.2.2.1 k0_t7 k0_h1
theorem k0_off166_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off166 v125 v135 k0_t7) a + S1x1x16.size a ≤ S2x64x512.size a := fun v52 v62 k0_t4 v125 v135 k0_hw6 k0_t7 k0_h1 => k0_hw6.2.2.2.2.1.2.2.2.2.1 k0_t7 k0_h1
theorem k0_off167_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off167 v125 v135 k0_t7) a + S1x1x16.size a ≤ S2x64x512.size a := fun v52 v62 k0_t4 v125 v135 k0_hw6 k0_t7 k0_h1 => k0_hw6.2.2.2.2.1.2.2.2.2.2.1 k0_t7 k0_h1
theorem k0_off168_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off168 v125 v135 k0_t7) a + S1x1x16.size a ≤ S2x64x512.size a := fun v52 v62 k0_t4 v125 v135 k0_hw6 k0_t7 k0_h1 => k0_hw6.2.2.2.2.1.2.2.2.2.2.2.1 k0_t7 k0_h1
theorem k0_off169_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off169 v125 v135 k0_t7) a + S1x1x16.size a ≤ S2x64x512.size a := fun v52 v62 k0_t4 v125 v135 k0_hw6 k0_t7 k0_h1 => k0_hw6.2.2.2.2.1.2.2.2.2.2.2.2.1 k0_t7 k0_h1
theorem k0_off170_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off170 v125 v135 k0_t7) a + S1x1x16.size a ≤ S2x64x512.size a := fun v52 v62 k0_t4 v125 v135 k0_hw6 k0_t7 k0_h1 => k0_hw6.2.2.2.2.1.2.2.2.2.2.2.2.2.1 k0_t7 k0_h1
theorem k0_off171_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off171 v125 v135 k0_t7) a + S1x1x16.size a ≤ S2x64x512.size a := fun v52 v62 k0_t4 v125 v135 k0_hw6 k0_t7 k0_h1 => k0_hw6.2.2.2.2.1.2.2.2.2.2.2.2.2.2.1 k0_t7 k0_h1
theorem k0_off172_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off172 v125 v135 k0_t7) a + S1x1x16.size a ≤ S2x64x512.size a := fun v52 v62 k0_t4 v125 v135 k0_hw6 k0_t7 k0_h1 => k0_hw6.2.2.2.2.1.2.2.2.2.2.2.2.2.2.2.1 k0_t7 k0_h1
theorem k0_off173_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off173 v125 v135 k0_t7) a + S1x1x16.size a ≤ S2x64x512.size a := fun v52 v62 k0_t4 v125 v135 k0_hw6 k0_t7 k0_h1 => k0_hw6.2.2.2.2.1.2.2.2.2.2.2.2.2.2.2.2.1 k0_t7 k0_h1
theorem k0_off174_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off174 v125 v135 k0_t7) a + S1x1x16.size a ≤ S2x64x512.size a := fun v52 v62 k0_t4 v125 v135 k0_hw6 k0_t7 k0_h1 => k0_hw6.2.2.2.2.1.2.2.2.2.2.2.2.2.2.2.2.2.1 k0_t7 k0_h1
theorem k0_off175_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off175 v125 v135 k0_t7) a + S1x1x16.size a ≤ S2x64x512.size a := fun v52 v62 k0_t4 v125 v135 k0_hw6 k0_t7 k0_h1 => k0_hw6.2.2.2.2.1.2.2.2.2.2.2.2.2.2.2.2.2.2.1 k0_t7 k0_h1
theorem k0_off176_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off176 v125 v135 k0_t7) a + S1x1x16.size a ≤ S2x64x512.size a := fun v52 v62 k0_t4 v125 v135 k0_hw6 k0_t7 k0_h1 => k0_hw6.2.2.2.2.1.2.2.2.2.2.2.2.2.2.2.2.2.2.2.1 k0_t7 k0_h1
theorem k0_off177_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off177 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.1 k0_t7 k0_h1
theorem k0_off178_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off178 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.1 k0_t7 k0_h1
theorem k0_off179_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off179 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.1 k0_t7 k0_h1
theorem k0_off180_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off180 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.1 k0_t7 k0_h1
theorem k0_off181_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off181 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.1 k0_t7 k0_h1
theorem k0_off182_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off182 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.1 k0_t7 k0_h1
theorem k0_off183_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off183 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.1 k0_t7 k0_h1
theorem k0_off184_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off184 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.1 k0_t7 k0_h1
theorem k0_off185_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off185 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.1 k0_t7 k0_h1
theorem k0_off186_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off186 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.1 k0_t7 k0_h1
theorem k0_off187_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off187 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.2.1 k0_t7 k0_h1
theorem k0_off188_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off188 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.2.2.1 k0_t7 k0_h1
theorem k0_off189_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off189 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.2.2.2.1 k0_t7 k0_h1
theorem k0_off190_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off190 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.2.2.2.2.1 k0_t7 k0_h1
theorem k0_off191_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off191 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.2.2.2.2.2.1 k0_t7 k0_h1
theorem k0_off192_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off192 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.2.2.2.2.2.2.1 k0_t7 k0_h1
theorem k0_off193_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off193 v125 v135 k0_t7) a + S1x1x16.size a ≤ S2x64x512.size a := fun v52 v62 k0_t4 v125 v135 k0_hw6 k0_t7 k0_h1 => k0_hw6.2.2.2.2.1.2.2.2.2.2.2.2.2.2.2.2.2.2.2.2.2.2.2.2.2.2.2.2.2.2.2.2.2.2.2.2 k0_t7 k0_h1
theorem k0_off194_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off194 v125 v135 k0_t7) a + S1x1x16.size a ≤ S2x64x512.size a := fun v52 v62 k0_t4 v125 v135 k0_hw6 k0_t7 k0_h1 => k0_hw6.2.2.2.2.2.1.1 k0_t7 k0_h1
theorem k0_off195_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off195 v125 v135 k0_t7) a + S1x1x16.size a ≤ S2x64x512.size a := fun v52 v62 k0_t4 v125 v135 k0_hw6 k0_t7 k0_h1 => k0_hw6.2.2.2.2.2.1.2.1 k0_t7 k0_h1
theorem k0_off196_inb : ∀ (v52 : BitVec 32) (v62 : BitVec 32) (k0_t4 : Fin (k0_t4_loop v52 v62).trips) (v125 : BitVec 32) (v135 : BitVec 32) (k0_hw6 : k0_chk6 v52 v62 k0_t4 v125 v135) (k0_t7 : Fin (k0_t7_loop v125 v135).trips), ∀ (k0_h1 : k0_cond1 v125 v135 = 1#1), ∀ a, (k0_off196 v125 v135 k0_t7) a + S1x1x16.size a ≤ S2x64x512.size a := fun v52 v62 k0_t4 v125 v135 k0_hw6 k0_t7 k0_h1 => k0_hw6.2.2.2.2.2.1.2.2.1 k0_t7 k0_h1
theorem k0_t8_ok : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), (k0_t8_loop v125 v135).OK := fun v52 v62 k0_t4 v125 v135 k0_hw6 k0_h1 => k0_hw6.2.2.2.2.2.1.2.2.2.1 k0_h1
theorem k0_off197_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off197 v125 v135 k0_t8) a + S1x1x16.size a ≤ S2x64x512.size a := fun v52 v62 k0_t4 v125 v135 k0_hw6 k0_t8 k0_h1 => k0_hw6.2.2.2.2.2.1.2.2.2.2.1 k0_t8 k0_h1
theorem k0_off198_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off198 v125 v135 k0_t8) a + S1x1x16.size a ≤ S2x64x512.size a := fun v52 v62 k0_t4 v125 v135 k0_hw6 k0_t8 k0_h1 => k0_hw6.2.2.2.2.2.1.2.2.2.2.2.1 k0_t8 k0_h1
theorem k0_off199_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off199 v125 v135 k0_t8) a + S1x1x16.size a ≤ S2x64x512.size a := fun v52 v62 k0_t4 v125 v135 k0_hw6 k0_t8 k0_h1 => k0_hw6.2.2.2.2.2.1.2.2.2.2.2.2.1 k0_t8 k0_h1
theorem k0_off200_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off200 v125 v135 k0_t8) a + S1x1x16.size a ≤ S2x64x512.size a := fun v52 v62 k0_t4 v125 v135 k0_hw6 k0_t8 k0_h1 => k0_hw6.2.2.2.2.2.1.2.2.2.2.2.2.2.1 k0_t8 k0_h1
theorem k0_off201_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off201 v125 v135 k0_t8) a + S1x1x16.size a ≤ S2x64x512.size a := fun v52 v62 k0_t4 v125 v135 k0_hw6 k0_t8 k0_h1 => k0_hw6.2.2.2.2.2.1.2.2.2.2.2.2.2.2.1 k0_t8 k0_h1
theorem k0_off202_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off202 v125 v135 k0_t8) a + S1x1x16.size a ≤ S2x64x512.size a := fun v52 v62 k0_t4 v125 v135 k0_hw6 k0_t8 k0_h1 => k0_hw6.2.2.2.2.2.1.2.2.2.2.2.2.2.2.2.1 k0_t8 k0_h1
theorem k0_off203_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off203 v125 v135 k0_t8) a + S1x1x16.size a ≤ S2x64x512.size a := fun v52 v62 k0_t4 v125 v135 k0_hw6 k0_t8 k0_h1 => k0_hw6.2.2.2.2.2.1.2.2.2.2.2.2.2.2.2.2.1 k0_t8 k0_h1
theorem k0_off204_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off204 v125 v135 k0_t8) a + S1x1x16.size a ≤ S2x64x512.size a := fun v52 v62 k0_t4 v125 v135 k0_hw6 k0_t8 k0_h1 => k0_hw6.2.2.2.2.2.1.2.2.2.2.2.2.2.2.2.2.2.1 k0_t8 k0_h1
theorem k0_off205_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off205 v125 v135 k0_t8) a + S1x1x16.size a ≤ S2x64x512.size a := fun v52 v62 k0_t4 v125 v135 k0_hw6 k0_t8 k0_h1 => k0_hw6.2.2.2.2.2.1.2.2.2.2.2.2.2.2.2.2.2.2.1 k0_t8 k0_h1
theorem k0_off206_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off206 v125 v135 k0_t8) a + S1x1x16.size a ≤ S2x64x512.size a := fun v52 v62 k0_t4 v125 v135 k0_hw6 k0_t8 k0_h1 => k0_hw6.2.2.2.2.2.1.2.2.2.2.2.2.2.2.2.2.2.2.2.1 k0_t8 k0_h1
theorem k0_off207_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off207 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.1 k0_t8 k0_h1
theorem k0_off208_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off208 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.1 k0_t8 k0_h1
theorem k0_off209_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off209 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.1 k0_t8 k0_h1
theorem k0_off210_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off210 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.1 k0_t8 k0_h1
theorem k0_off211_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off211 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.1 k0_t8 k0_h1
theorem k0_off212_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off212 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.1 k0_t8 k0_h1
theorem k0_off213_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off213 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.1 k0_t8 k0_h1
theorem k0_off214_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off214 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.1 k0_t8 k0_h1
theorem k0_off215_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off215 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.1 k0_t8 k0_h1
theorem k0_off216_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off216 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.1 k0_t8 k0_h1
theorem k0_off217_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off217 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.1 k0_t8 k0_h1
theorem k0_off218_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off218 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.2.1 k0_t8 k0_h1
theorem k0_off219_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off219 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.2.2.1 k0_t8 k0_h1
theorem k0_off220_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off220 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.2.2.2.1 k0_t8 k0_h1
theorem k0_off221_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off221 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.2.2.2.2.1 k0_t8 k0_h1
theorem k0_off222_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off222 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.2.2.2.2.2.1 k0_t8 k0_h1
theorem k0_off223_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off223 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.2.2.2.2.2.2.1 k0_t8 k0_h1
theorem k0_off224_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off224 v125 v135 k0_t8) a + S1x1x16.size a ≤ S2x64x512.size a := fun v52 v62 k0_t4 v125 v135 k0_hw6 k0_t8 k0_h1 => k0_hw6.2.2.2.2.2.1.2.2.2.2.2.2.2.2.2.2.2.2.2.2.2.2.2.2.2.2.2.2.2.2.2.2.2.2.2.2.2 k0_t8 k0_h1
theorem k0_off225_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off225 v125 v135 k0_t8) a + S1x1x16.size a ≤ S2x64x512.size a := fun v52 v62 k0_t4 v125 v135 k0_hw6 k0_t8 k0_h1 => k0_hw6.2.2.2.2.2.2.1.1 k0_t8 k0_h1
theorem k0_off226_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off226 v125 v135 k0_t8) a + S1x1x16.size a ≤ S2x64x512.size a := fun v52 v62 k0_t4 v125 v135 k0_hw6 k0_t8 k0_h1 => k0_hw6.2.2.2.2.2.2.1.2.1 k0_t8 k0_h1
theorem k0_off227_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off227 v125 v135 k0_t8) a + S1x1x16.size a ≤ S2x64x512.size a := fun v52 v62 k0_t4 v125 v135 k0_hw6 k0_t8 k0_h1 => k0_hw6.2.2.2.2.2.2.1.2.2.1 k0_t8 k0_h1
theorem k0_off228_inb : ∀ (v52 : BitVec 32) (v62 : BitVec 32) (k0_t4 : Fin (k0_t4_loop v52 v62).trips) (v125 : BitVec 32) (v135 : BitVec 32) (k0_hw6 : k0_chk6 v52 v62 k0_t4 v125 v135) (k0_t8 : Fin (k0_t8_loop v125 v135).trips), ∀ (k0_h1 : k0_cond1 v125 v135 = 1#1), ∀ a, (k0_off228 v125 v135 k0_t8) a + S1x1x16.size a ≤ S2x64x512.size a := fun v52 v62 k0_t4 v125 v135 k0_hw6 k0_t8 k0_h1 => k0_hw6.2.2.2.2.2.2.1.2.2.2.1 k0_t8 k0_h1
theorem k0_off229_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off229 v52 v62 k0_t4) a + S1x16.size a ≤ S16x512.size a := fun v52 v62 k0_t4 v125 v135 k0_hw6 k0_h1 => k0_hw6.2.2.2.2.2.2.1.2.2.2.2.1 k0_h1
theorem k0_off230_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off230 v52 v62 k0_t4) a + S1x16.size a ≤ S16x512.size a := fun v52 v62 k0_t4 v125 v135 k0_hw6 k0_h1 => k0_hw6.2.2.2.2.2.2.1.2.2.2.2.2.1 k0_h1
theorem k0_off231_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off231 v52 v62 k0_t4) a + S1x16.size a ≤ S16x512.size a := fun v52 v62 k0_t4 v125 v135 k0_hw6 k0_h1 => k0_hw6.2.2.2.2.2.2.1.2.2.2.2.2.2.1 k0_h1
theorem k0_off232_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off232 v52 v62 k0_t4) a + S1x16.size a ≤ S16x512.size a := fun v52 v62 k0_t4 v125 v135 k0_hw6 k0_h1 => k0_hw6.2.2.2.2.2.2.1.2.2.2.2.2.2.2.1 k0_h1
theorem k0_off233_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off233 v52 v62 k0_t4) a + S1x16.size a ≤ S16x512.size a := fun v52 v62 k0_t4 v125 v135 k0_hw6 k0_h1 => k0_hw6.2.2.2.2.2.2.1.2.2.2.2.2.2.2.2.1 k0_h1
theorem k0_off234_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off234 v52 v62 k0_t4) a + S1x16.size a ≤ S16x512.size a := fun v52 v62 k0_t4 v125 v135 k0_hw6 k0_h1 => k0_hw6.2.2.2.2.2.2.1.2.2.2.2.2.2.2.2.2.1 k0_h1
theorem k0_off235_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off235 v52 v62 k0_t4) a + S1x16.size a ≤ S16x512.size a := fun v52 v62 k0_t4 v125 v135 k0_hw6 k0_h1 => k0_hw6.2.2.2.2.2.2.1.2.2.2.2.2.2.2.2.2.2.1 k0_h1
theorem k0_off236_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off236 v52 v62 k0_t4) a + S1x16.size a ≤ S16x512.size a := fun v52 v62 k0_t4 v125 v135 k0_hw6 k0_h1 => k0_hw6.2.2.2.2.2.2.1.2.2.2.2.2.2.2.2.2.2.2.1 k0_h1
theorem k0_off237_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off237 v52 v62 k0_t4) a + S1x16.size a ≤ S16x512.size a := fun v52 v62 k0_t4 v125 v135 k0_hw6 k0_h1 => k0_hw6.2.2.2.2.2.2.1.2.2.2.2.2.2.2.2.2.2.2.2.1 k0_h1
theorem k0_off238_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off238 v52 v62 k0_t4) a + S1x16.size a ≤ S16x512.size a := fun v52 v62 k0_t4 v125 v135 k0_hw6 k0_h1 => k0_hw6.2.2.2.2.2.2.1.2.2.2.2.2.2.2.2.2.2.2.2.2.1 k0_h1
theorem k0_off239_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off239 v52 v62 k0_t4) a + S1x16.size a ≤ S16x512.size a := fun v52 v62 k0_t4 v125 v135 k0_hw6 k0_h1 => k0_hw6.2.2.2.2.2.2.1.2.2.2.2.2.2.2.2.2.2.2.2.2.2.1 k0_h1
theorem k0_off240_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off240 v52 v62 k0_t4) a + S1x16.size a ≤ S16x512.size a := fun v52 v62 k0_t4 v125 v135 k0_hw6 k0_h1 => k0_hw6.2.2.2.2.2.2.1.2.2.2.2.2.2.2.2.2.2.2.2.2.2.2.1 k0_h1
theorem k0_off241_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off241 v52 v62 k0_t4) a + S1x16.size a ≤ S16x512.size a := fun v52 v62 k0_t4 v125 v135 k0_hw6 k0_h1 => k0_hw6.2.2.2.2.2.2.1.2.2.2.2.2.2.2.2.2.2.2.2.2.2.2.2.1 k0_h1
theorem k0_off242_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off242 v52 v62 k0_t4) a + S1x16.size a ≤ S16x512.size a := fun v52 v62 k0_t4 v125 v135 k0_hw6 k0_h1 => k0_hw6.2.2.2.2.2.2.1.2.2.2.2.2.2.2.2.2.2.2.2.2.2.2.2.2.1 k0_h1
theorem k0_off243_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off243 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.1 k0_h1
theorem k0_off244_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off244 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.1 k0_h1
theorem k0_off245_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off245 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.1 k0_h1
theorem k0_off246_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off246 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.1 k0_h1
theorem k0_off247_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off247 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.1 k0_h1
theorem k0_off248_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off248 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.1 k0_h1
theorem k0_off249_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off249 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.1 k0_h1
theorem k0_off250_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off250 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.2.1 k0_h1
theorem k0_off251_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off251 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.2.2.1 k0_h1
theorem k0_off252_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off252 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.2.2.2.1 k0_h1
theorem k0_off253_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off253 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.2.2.2.2.1 k0_h1
theorem k0_off254_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off254 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.2.2.2.2.2.1 k0_h1
theorem k0_off255_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off255 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.2.2.2.2.2.2.1 k0_h1
theorem k0_off256_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off256 v52 v62 k0_t4) a + S1x16.size a ≤ S16x512.size a := fun v52 v62 k0_t4 v125 v135 k0_hw6 k0_h1 => k0_hw6.2.2.2.2.2.2.1.2.2.2.2.2.2.2.2.2.2.2.2.2.2.2.2.2.2.2.2.2.2.2.2.2.2.2.2.2.2.2 k0_h1
theorem k0_off257_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off257 v52 v62 k0_t4) a + S1x16.size a ≤ S16x512.size a := fun v52 v62 k0_t4 v125 v135 k0_hw6 k0_h1 => k0_hw6.2.2.2.2.2.2.2.1 k0_h1
theorem k0_off258_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off258 v52 v62 k0_t4) a + S1x16.size a ≤ S16x512.size a := fun v52 v62 k0_t4 v125 v135 k0_hw6 k0_h1 => k0_hw6.2.2.2.2.2.2.2.2.1 k0_h1
theorem k0_off259_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off259 v52 v62 k0_t4) a + S1x16.size a ≤ S16x512.size a := fun v52 v62 k0_t4 v125 v135 k0_hw6 k0_h1 => k0_hw6.2.2.2.2.2.2.2.2.2.1 k0_h1
theorem k0_off260_inb : ∀ (v52 : BitVec 32) (v62 : BitVec 32) (k0_t4 : Fin (k0_t4_loop v52 v62).trips) (v125 : BitVec 32) (v135 : BitVec 32) (k0_hw6 : k0_chk6 v52 v62 k0_t4 v125 v135), ∀ (k0_h1 : k0_cond1 v125 v135 = 1#1), ∀ a, (k0_off260 v52 v62 k0_t4) a + S1x16.size a ≤ S16x512.size a := fun v52 v62 k0_t4 v125 v135 k0_hw6 k0_h1 => k0_hw6.2.2.2.2.2.2.2.2.2.2 k0_h1

@[reducible] def k0_t9_loop (v52 : BitVec 32) (v62 : BitVec 32) : Scf.Loop 32 :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let v65 : BitVec 32 := Scalar.addi v52 v64
  let c1_i32_50 : BitVec 32 := 1#32
  ⟨v68, v65, c1_i32_50⟩

def k0_chk5 (v52 : BitVec 32) (v62 : BitVec 32) : Prop :=
  ((k0_t4_loop v52 v62).OK) ∧
  ((k0_t9_loop v52 v62).OK)
theorem k0_t4_ok : ∀ (v52 : BitVec 32) (v62 : BitVec 32) (k0_hw5 : k0_chk5 v52 v62), (k0_t4_loop v52 v62).OK := fun v52 v62 k0_hw5 => k0_hw5.1
theorem k0_t9_ok : ∀ (v52 : BitVec 32) (v62 : BitVec 32) (k0_hw5 : k0_chk5 v52 v62), (k0_t9_loop v52 v62).OK := fun v52 v62 k0_hw5 => k0_hw5.2

@[reducible] def k0_t10_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v139 : BitVec 32 := Scalar.subi v135 v44
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v44
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_96 : BitVec 32 := 1#32
  ⟨c0_i32_94, v151, c1_i32_96⟩
def k0_cond2 (v125 : BitVec 32) (v135 : BitVec 32) : BitVec 1 :=
  let c64_i32_90 : BitVec 32 := 64#32
  let c0_i32_89 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v139 : BitVec 32 := Scalar.subi v135 v44
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v44
  let v137 : BitVec 32 := Scalar.maxsi c0_i32_87 v136
  let v138 : BitVec 32 := Scalar.minsi c64_i32_88 v137
  let v142 : BitVec 1 := Scalar.cmpi .sgt v141 v138
  let v143 : BitVec 32 := Scalar.extui v142
  let c0_i32_91 : BitVec 32 := 0#32
  let v144 : BitVec 1 := Scalar.cmpi .ne v143 c0_i32_91
  v144

def k0_off261 (v125 : BitVec 32) (v135 : BitVec 32) (k0_t10 : Fin (k0_t10_loop v125 v135).trips) : Fin 3 → Nat :=
  let c0_i32_135 : BitVec 32 := 0#32
  let v325 : Index := Scalar.indexCast c0_i32_135
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![0, v326.toNat, 0]
def k0_off262 (v125 : BitVec 32) (v135 : BitVec 32) (k0_t10 : Fin (k0_t10_loop v125 v135).trips) (c1_i32_137 : BitVec 32) : Fin 3 → Nat :=
  let c0_i32_138 : BitVec 32 := 0#32
  let v329 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![0, v330.toNat, 0]
def k0_off263 (v125 : BitVec 32) (v135 : BitVec 32) (k0_t10 : Fin (k0_t10_loop v125 v135).trips) : Fin 3 → Nat :=
  let c0_i32_145 : BitVec 32 := 0#32
  let v344 : Index := Scalar.indexCast c0_i32_145
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![0, v345.toNat, 16]
def k0_off264 (v125 : BitVec 32) (v135 : BitVec 32) (k0_t10 : Fin (k0_t10_loop v125 v135).trips) (c1_i32_147 : BitVec 32) : Fin 3 → Nat :=
  let c0_i32_148 : BitVec 32 := 0#32
  let v348 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![0, v349.toNat, 16]
def k0_off265 (v125 : BitVec 32) (v135 : BitVec 32) (k0_t10 : Fin (k0_t10_loop v125 v135).trips) : Fin 3 → Nat :=
  let c0_i32_156 : BitVec 32 := 0#32
  let v363 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![0, v364.toNat, 32]
def k0_off266 (v125 : BitVec 32) (v135 : BitVec 32) (k0_t10 : Fin (k0_t10_loop v125 v135).trips) (c1_i32_158 : BitVec 32) : Fin 3 → Nat :=
  let c0_i32_159 : BitVec 32 := 0#32
  let v367 : Index := Scalar.indexCast c0_i32_159
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![0, v368.toNat, 32]
def k0_off267 (v125 : BitVec 32) (v135 : BitVec 32) (k0_t10 : Fin (k0_t10_loop v125 v135).trips) : Fin 3 → Nat :=
  let c0_i32_167 : BitVec 32 := 0#32
  let v382 : Index := Scalar.indexCast c0_i32_167
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![0, v383.toNat, 48]
def k0_off268 (v125 : BitVec 32) (v135 : BitVec 32) (k0_t10 : Fin (k0_t10_loop v125 v135).trips) (c1_i32_169 : BitVec 32) : Fin 3 → Nat :=
  let c0_i32_170 : BitVec 32 := 0#32
  let v386 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![0, v387.toNat, 48]
def k0_off269 (v125 : BitVec 32) (v135 : BitVec 32) (k0_t10 : Fin (k0_t10_loop v125 v135).trips) : Fin 3 → Nat :=
  let c0_i32_178 : BitVec 32 := 0#32
  let v401 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![0, v402.toNat, 64]
def k0_off270 (v125 : BitVec 32) (v135 : BitVec 32) (k0_t10 : Fin (k0_t10_loop v125 v135).trips) (c1_i32_180 : BitVec 32) : Fin 3 → Nat :=
  let c0_i32_181 : BitVec 32 := 0#32
  let v405 : Index := Scalar.indexCast c0_i32_181
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![0, v406.toNat, 64]
def k0_off271 (v125 : BitVec 32) (v135 : BitVec 32) (k0_t10 : Fin (k0_t10_loop v125 v135).trips) : Fin 3 → Nat :=
  let c0_i32_189 : BitVec 32 := 0#32
  let v420 : Index := Scalar.indexCast c0_i32_189
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![0, v421.toNat, 80]
def k0_off272 (v125 : BitVec 32) (v135 : BitVec 32) (k0_t10 : Fin (k0_t10_loop v125 v135).trips) (c1_i32_191 : BitVec 32) : Fin 3 → Nat :=
  let c0_i32_192 : BitVec 32 := 0#32
  let v424 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![0, v425.toNat, 80]
def k0_off273 (v125 : BitVec 32) (v135 : BitVec 32) (k0_t10 : Fin (k0_t10_loop v125 v135).trips) : Fin 3 → Nat :=
  let c0_i32_200 : BitVec 32 := 0#32
  let v439 : Index := Scalar.indexCast c0_i32_200
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![0, v440.toNat, 96]
def k0_off274 (v125 : BitVec 32) (v135 : BitVec 32) (k0_t10 : Fin (k0_t10_loop v125 v135).trips) (c1_i32_202 : BitVec 32) : Fin 3 → Nat :=
  let c0_i32_203 : BitVec 32 := 0#32
  let v443 : Index := Scalar.indexCast c0_i32_203
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![0, v444.toNat, 96]
def k0_off275 (v125 : BitVec 32) (v135 : BitVec 32) (k0_t10 : Fin (k0_t10_loop v125 v135).trips) : Fin 3 → Nat :=
  let c0_i32_211 : BitVec 32 := 0#32
  let v458 : Index := Scalar.indexCast c0_i32_211
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![0, v459.toNat, 112]
def k0_off276 (v125 : BitVec 32) (v135 : BitVec 32) (k0_t10 : Fin (k0_t10_loop v125 v135).trips) (c1_i32_213 : BitVec 32) : Fin 3 → Nat :=
  let c0_i32_214 : BitVec 32 := 0#32
  let v462 : Index := Scalar.indexCast c0_i32_214
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![0, v463.toNat, 112]
def k0_off277 (v125 : BitVec 32) (v135 : BitVec 32) (k0_t10 : Fin (k0_t10_loop v125 v135).trips) : Fin 3 → Nat :=
  let c0_i32_222 : BitVec 32 := 0#32
  let v477 : Index := Scalar.indexCast c0_i32_222
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![0, v478.toNat, 128]
def k0_off278 (v125 : BitVec 32) (v135 : BitVec 32) (k0_t10 : Fin (k0_t10_loop v125 v135).trips) (c1_i32_224 : BitVec 32) : Fin 3 → Nat :=
  let c0_i32_225 : BitVec 32 := 0#32
  let v481 : Index := Scalar.indexCast c0_i32_225
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![0, v482.toNat, 128]
def k0_off279 (v125 : BitVec 32) (v135 : BitVec 32) (k0_t10 : Fin (k0_t10_loop v125 v135).trips) : Fin 3 → Nat :=
  let c0_i32_233 : BitVec 32 := 0#32
  let v496 : Index := Scalar.indexCast c0_i32_233
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![0, v497.toNat, 144]
def k0_off280 (v125 : BitVec 32) (v135 : BitVec 32) (k0_t10 : Fin (k0_t10_loop v125 v135).trips) (c1_i32_235 : BitVec 32) : Fin 3 → Nat :=
  let c0_i32_236 : BitVec 32 := 0#32
  let v500 : Index := Scalar.indexCast c0_i32_236
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![0, v501.toNat, 144]
def k0_off281 (v125 : BitVec 32) (v135 : BitVec 32) (k0_t10 : Fin (k0_t10_loop v125 v135).trips) : Fin 3 → Nat :=
  let c0_i32_244 : BitVec 32 := 0#32
  let v515 : Index := Scalar.indexCast c0_i32_244
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![0, v516.toNat, 160]
def k0_off282 (v125 : BitVec 32) (v135 : BitVec 32) (k0_t10 : Fin (k0_t10_loop v125 v135).trips) (c1_i32_246 : BitVec 32) : Fin 3 → Nat :=
  let c0_i32_247 : BitVec 32 := 0#32
  let v519 : Index := Scalar.indexCast c0_i32_247
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![0, v520.toNat, 160]
def k0_off283 (v125 : BitVec 32) (v135 : BitVec 32) (k0_t10 : Fin (k0_t10_loop v125 v135).trips) : Fin 3 → Nat :=
  let c0_i32_255 : BitVec 32 := 0#32
  let v534 : Index := Scalar.indexCast c0_i32_255
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![0, v535.toNat, 176]
def k0_off284 (v125 : BitVec 32) (v135 : BitVec 32) (k0_t10 : Fin (k0_t10_loop v125 v135).trips) (c1_i32_257 : BitVec 32) : Fin 3 → Nat :=
  let c0_i32_258 : BitVec 32 := 0#32
  let v538 : Index := Scalar.indexCast c0_i32_258
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![0, v539.toNat, 176]
def k0_off285 (v125 : BitVec 32) (v135 : BitVec 32) (k0_t10 : Fin (k0_t10_loop v125 v135).trips) : Fin 3 → Nat :=
  let c0_i32_266 : BitVec 32 := 0#32
  let v553 : Index := Scalar.indexCast c0_i32_266
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![0, v554.toNat, 192]
def k0_off286 (v125 : BitVec 32) (v135 : BitVec 32) (k0_t10 : Fin (k0_t10_loop v125 v135).trips) (c1_i32_268 : BitVec 32) : Fin 3 → Nat :=
  let c0_i32_269 : BitVec 32 := 0#32
  let v557 : Index := Scalar.indexCast c0_i32_269
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![0, v558.toNat, 192]
def k0_off287 (v125 : BitVec 32) (v135 : BitVec 32) (k0_t10 : Fin (k0_t10_loop v125 v135).trips) : Fin 3 → Nat :=
  let c0_i32_277 : BitVec 32 := 0#32
  let v572 : Index := Scalar.indexCast c0_i32_277
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![0, v573.toNat, 208]
def k0_off288 (v125 : BitVec 32) (v135 : BitVec 32) (k0_t10 : Fin (k0_t10_loop v125 v135).trips) (c1_i32_279 : BitVec 32) : Fin 3 → Nat :=
  let c0_i32_280 : BitVec 32 := 0#32
  let v576 : Index := Scalar.indexCast c0_i32_280
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![0, v577.toNat, 208]
def k0_off289 (v125 : BitVec 32) (v135 : BitVec 32) (k0_t10 : Fin (k0_t10_loop v125 v135).trips) : Fin 3 → Nat :=
  let c0_i32_288 : BitVec 32 := 0#32
  let v591 : Index := Scalar.indexCast c0_i32_288
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![0, v592.toNat, 224]
def k0_off290 (v125 : BitVec 32) (v135 : BitVec 32) (k0_t10 : Fin (k0_t10_loop v125 v135).trips) (c1_i32_290 : BitVec 32) : Fin 3 → Nat :=
  let c0_i32_291 : BitVec 32 := 0#32
  let v595 : Index := Scalar.indexCast c0_i32_291
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![0, v596.toNat, 224]
def k0_off291 (v125 : BitVec 32) (v135 : BitVec 32) (k0_t10 : Fin (k0_t10_loop v125 v135).trips) : Fin 3 → Nat :=
  let c0_i32_299 : BitVec 32 := 0#32
  let v610 : Index := Scalar.indexCast c0_i32_299
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![0, v611.toNat, 240]
def k0_off292 (v125 : BitVec 32) (v135 : BitVec 32) (k0_t10 : Fin (k0_t10_loop v125 v135).trips) (c1_i32_301 : BitVec 32) : Fin 3 → Nat :=
  let c0_i32_302 : BitVec 32 := 0#32
  let v614 : Index := Scalar.indexCast c0_i32_302
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![0, v615.toNat, 240]
def k0_off293 (v125 : BitVec 32) (v135 : BitVec 32) (k0_t10 : Fin (k0_t10_loop v125 v135).trips) : Fin 3 → Nat :=
  let c0_i32_310 : BitVec 32 := 0#32
  let v629 : Index := Scalar.indexCast c0_i32_310
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![0, v630.toNat, 256]
def k0_off294 (v125 : BitVec 32) (v135 : BitVec 32) (k0_t10 : Fin (k0_t10_loop v125 v135).trips) (c1_i32_312 : BitVec 32) : Fin 3 → Nat :=
  let c0_i32_313 : BitVec 32 := 0#32
  let v633 : Index := Scalar.indexCast c0_i32_313
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![0, v634.toNat, 256]
def k0_off295 (v125 : BitVec 32) (v135 : BitVec 32) (k0_t10 : Fin (k0_t10_loop v125 v135).trips) : Fin 3 → Nat :=
  let c0_i32_321 : BitVec 32 := 0#32
  let v648 : Index := Scalar.indexCast c0_i32_321
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![0, v649.toNat, 272]
def k0_off296 (v125 : BitVec 32) (v135 : BitVec 32) (k0_t10 : Fin (k0_t10_loop v125 v135).trips) (c1_i32_323 : BitVec 32) : Fin 3 → Nat :=
  let c0_i32_324 : BitVec 32 := 0#32
  let v652 : Index := Scalar.indexCast c0_i32_324
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![0, v653.toNat, 272]
def k0_off297 (v125 : BitVec 32) (v135 : BitVec 32) (k0_t10 : Fin (k0_t10_loop v125 v135).trips) : Fin 3 → Nat :=
  let c0_i32_332 : BitVec 32 := 0#32
  let v667 : Index := Scalar.indexCast c0_i32_332
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![0, v668.toNat, 288]
def k0_off298 (v125 : BitVec 32) (v135 : BitVec 32) (k0_t10 : Fin (k0_t10_loop v125 v135).trips) (c1_i32_334 : BitVec 32) : Fin 3 → Nat :=
  let c0_i32_335 : BitVec 32 := 0#32
  let v671 : Index := Scalar.indexCast c0_i32_335
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![0, v672.toNat, 288]
def k0_off299 (v125 : BitVec 32) (v135 : BitVec 32) (k0_t10 : Fin (k0_t10_loop v125 v135).trips) : Fin 3 → Nat :=
  let c0_i32_343 : BitVec 32 := 0#32
  let v686 : Index := Scalar.indexCast c0_i32_343
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![0, v687.toNat, 304]
def k0_off300 (v125 : BitVec 32) (v135 : BitVec 32) (k0_t10 : Fin (k0_t10_loop v125 v135).trips) (c1_i32_345 : BitVec 32) : Fin 3 → Nat :=
  let c0_i32_346 : BitVec 32 := 0#32
  let v690 : Index := Scalar.indexCast c0_i32_346
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![0, v691.toNat, 304]
def k0_off301 (v125 : BitVec 32) (v135 : BitVec 32) (k0_t10 : Fin (k0_t10_loop v125 v135).trips) : Fin 3 → Nat :=
  let c0_i32_354 : BitVec 32 := 0#32
  let v705 : Index := Scalar.indexCast c0_i32_354
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![0, v706.toNat, 320]
def k0_off302 (v125 : BitVec 32) (v135 : BitVec 32) (k0_t10 : Fin (k0_t10_loop v125 v135).trips) (c1_i32_356 : BitVec 32) : Fin 3 → Nat :=
  let c0_i32_357 : BitVec 32 := 0#32
  let v709 : Index := Scalar.indexCast c0_i32_357
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![0, v710.toNat, 320]
def k0_off303 (v125 : BitVec 32) (v135 : BitVec 32) (k0_t10 : Fin (k0_t10_loop v125 v135).trips) : Fin 3 → Nat :=
  let c0_i32_365 : BitVec 32 := 0#32
  let v724 : Index := Scalar.indexCast c0_i32_365
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![0, v725.toNat, 336]
def k0_off304 (v125 : BitVec 32) (v135 : BitVec 32) (k0_t10 : Fin (k0_t10_loop v125 v135).trips) (c1_i32_367 : BitVec 32) : Fin 3 → Nat :=
  let c0_i32_368 : BitVec 32 := 0#32
  let v728 : Index := Scalar.indexCast c0_i32_368
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![0, v729.toNat, 336]
def k0_off305 (v125 : BitVec 32) (v135 : BitVec 32) (k0_t10 : Fin (k0_t10_loop v125 v135).trips) : Fin 3 → Nat :=
  let c0_i32_376 : BitVec 32 := 0#32
  let v743 : Index := Scalar.indexCast c0_i32_376
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![0, v744.toNat, 352]
def k0_off306 (v125 : BitVec 32) (v135 : BitVec 32) (k0_t10 : Fin (k0_t10_loop v125 v135).trips) (c1_i32_378 : BitVec 32) : Fin 3 → Nat :=
  let c0_i32_379 : BitVec 32 := 0#32
  let v747 : Index := Scalar.indexCast c0_i32_379
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![0, v748.toNat, 352]
def k0_off307 (v125 : BitVec 32) (v135 : BitVec 32) (k0_t10 : Fin (k0_t10_loop v125 v135).trips) : Fin 3 → Nat :=
  let c0_i32_387 : BitVec 32 := 0#32
  let v762 : Index := Scalar.indexCast c0_i32_387
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![0, v763.toNat, 368]
def k0_off308 (v125 : BitVec 32) (v135 : BitVec 32) (k0_t10 : Fin (k0_t10_loop v125 v135).trips) (c1_i32_389 : BitVec 32) : Fin 3 → Nat :=
  let c0_i32_390 : BitVec 32 := 0#32
  let v766 : Index := Scalar.indexCast c0_i32_390
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![0, v767.toNat, 368]
def k0_off309 (v125 : BitVec 32) (v135 : BitVec 32) (k0_t10 : Fin (k0_t10_loop v125 v135).trips) : Fin 3 → Nat :=
  let c0_i32_398 : BitVec 32 := 0#32
  let v781 : Index := Scalar.indexCast c0_i32_398
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![0, v782.toNat, 384]
def k0_off310 (v125 : BitVec 32) (v135 : BitVec 32) (k0_t10 : Fin (k0_t10_loop v125 v135).trips) (c1_i32_400 : BitVec 32) : Fin 3 → Nat :=
  let c0_i32_401 : BitVec 32 := 0#32
  let v785 : Index := Scalar.indexCast c0_i32_401
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![0, v786.toNat, 384]
def k0_off311 (v125 : BitVec 32) (v135 : BitVec 32) (k0_t10 : Fin (k0_t10_loop v125 v135).trips) : Fin 3 → Nat :=
  let c0_i32_409 : BitVec 32 := 0#32
  let v800 : Index := Scalar.indexCast c0_i32_409
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![0, v801.toNat, 400]
def k0_off312 (v125 : BitVec 32) (v135 : BitVec 32) (k0_t10 : Fin (k0_t10_loop v125 v135).trips) (c1_i32_411 : BitVec 32) : Fin 3 → Nat :=
  let c0_i32_412 : BitVec 32 := 0#32
  let v804 : Index := Scalar.indexCast c0_i32_412
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![0, v805.toNat, 400]
def k0_off313 (v125 : BitVec 32) (v135 : BitVec 32) (k0_t10 : Fin (k0_t10_loop v125 v135).trips) : Fin 3 → Nat :=
  let c0_i32_420 : BitVec 32 := 0#32
  let v819 : Index := Scalar.indexCast c0_i32_420
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![0, v820.toNat, 416]
def k0_off314 (v125 : BitVec 32) (v135 : BitVec 32) (k0_t10 : Fin (k0_t10_loop v125 v135).trips) (c1_i32_422 : BitVec 32) : Fin 3 → Nat :=
  let c0_i32_423 : BitVec 32 := 0#32
  let v823 : Index := Scalar.indexCast c0_i32_423
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![0, v824.toNat, 416]
def k0_off315 (v125 : BitVec 32) (v135 : BitVec 32) (k0_t10 : Fin (k0_t10_loop v125 v135).trips) : Fin 3 → Nat :=
  let c0_i32_431 : BitVec 32 := 0#32
  let v838 : Index := Scalar.indexCast c0_i32_431
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![0, v839.toNat, 432]
def k0_off316 (v125 : BitVec 32) (v135 : BitVec 32) (k0_t10 : Fin (k0_t10_loop v125 v135).trips) (c1_i32_433 : BitVec 32) : Fin 3 → Nat :=
  let c0_i32_434 : BitVec 32 := 0#32
  let v842 : Index := Scalar.indexCast c0_i32_434
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![0, v843.toNat, 432]
def k0_off317 (v125 : BitVec 32) (v135 : BitVec 32) (k0_t10 : Fin (k0_t10_loop v125 v135).trips) : Fin 3 → Nat :=
  let c0_i32_442 : BitVec 32 := 0#32
  let v857 : Index := Scalar.indexCast c0_i32_442
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![0, v858.toNat, 448]
def k0_off318 (v125 : BitVec 32) (v135 : BitVec 32) (k0_t10 : Fin (k0_t10_loop v125 v135).trips) (c1_i32_444 : BitVec 32) : Fin 3 → Nat :=
  let c0_i32_445 : BitVec 32 := 0#32
  let v861 : Index := Scalar.indexCast c0_i32_445
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![0, v862.toNat, 448]
def k0_off319 (v125 : BitVec 32) (v135 : BitVec 32) (k0_t10 : Fin (k0_t10_loop v125 v135).trips) : Fin 3 → Nat :=
  let c0_i32_453 : BitVec 32 := 0#32
  let v876 : Index := Scalar.indexCast c0_i32_453
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![0, v877.toNat, 464]
def k0_off320 (v125 : BitVec 32) (v135 : BitVec 32) (k0_t10 : Fin (k0_t10_loop v125 v135).trips) (c1_i32_455 : BitVec 32) : Fin 3 → Nat :=
  let c0_i32_456 : BitVec 32 := 0#32
  let v880 : Index := Scalar.indexCast c0_i32_456
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![0, v881.toNat, 464]
def k0_off321 (v125 : BitVec 32) (v135 : BitVec 32) (k0_t10 : Fin (k0_t10_loop v125 v135).trips) : Fin 3 → Nat :=
  let c0_i32_464 : BitVec 32 := 0#32
  let v895 : Index := Scalar.indexCast c0_i32_464
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![0, v896.toNat, 480]
def k0_off322 (v125 : BitVec 32) (v135 : BitVec 32) (k0_t10 : Fin (k0_t10_loop v125 v135).trips) (c1_i32_466 : BitVec 32) : Fin 3 → Nat :=
  let c0_i32_467 : BitVec 32 := 0#32
  let v899 : Index := Scalar.indexCast c0_i32_467
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![0, v900.toNat, 480]
def k0_off323 (v125 : BitVec 32) (v135 : BitVec 32) (k0_t10 : Fin (k0_t10_loop v125 v135).trips) : Fin 3 → Nat :=
  let c0_i32_475 : BitVec 32 := 0#32
  let v914 : Index := Scalar.indexCast c0_i32_475
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![0, v915.toNat, 496]
def k0_off324 (v125 : BitVec 32) (v135 : BitVec 32) (k0_t10 : Fin (k0_t10_loop v125 v135).trips) (c1_i32_477 : BitVec 32) : Fin 3 → Nat :=
  let c0_i32_478 : BitVec 32 := 0#32
  let v918 : Index := Scalar.indexCast c0_i32_478
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t10
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![0, v919.toNat, 496]
@[reducible] def k0_t11_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v139 : BitVec 32 := Scalar.subi v135 v44
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v44
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let v148 : BitVec 32 := Scalar.addi c0_i32_94 v147
  let c1_i32_97 : BitVec 32 := 1#32
  ⟨v151, v148, c1_i32_97⟩
def k0_off325 (v125 : BitVec 32) (v135 : BitVec 32) (k0_t11 : Fin (k0_t11_loop v125 v135).trips) : Fin 3 → Nat :=
  let c0_i32_135 : BitVec 32 := 0#32
  let v325 : Index := Scalar.indexCast c0_i32_135
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![0, v326.toNat, 0]
def k0_off326 (v125 : BitVec 32) (v135 : BitVec 32) (k0_t11 : Fin (k0_t11_loop v125 v135).trips) (c1_i32_137 : BitVec 32) : Fin 3 → Nat :=
  let c0_i32_138 : BitVec 32 := 0#32
  let v329 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![0, v330.toNat, 0]
def k0_off327 (v125 : BitVec 32) (v135 : BitVec 32) (k0_t11 : Fin (k0_t11_loop v125 v135).trips) : Fin 3 → Nat :=
  let c0_i32_145 : BitVec 32 := 0#32
  let v344 : Index := Scalar.indexCast c0_i32_145
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![0, v345.toNat, 16]
def k0_off328 (v125 : BitVec 32) (v135 : BitVec 32) (k0_t11 : Fin (k0_t11_loop v125 v135).trips) (c1_i32_147 : BitVec 32) : Fin 3 → Nat :=
  let c0_i32_148 : BitVec 32 := 0#32
  let v348 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![0, v349.toNat, 16]
def k0_off329 (v125 : BitVec 32) (v135 : BitVec 32) (k0_t11 : Fin (k0_t11_loop v125 v135).trips) : Fin 3 → Nat :=
  let c0_i32_156 : BitVec 32 := 0#32
  let v363 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![0, v364.toNat, 32]
def k0_off330 (v125 : BitVec 32) (v135 : BitVec 32) (k0_t11 : Fin (k0_t11_loop v125 v135).trips) (c1_i32_158 : BitVec 32) : Fin 3 → Nat :=
  let c0_i32_159 : BitVec 32 := 0#32
  let v367 : Index := Scalar.indexCast c0_i32_159
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![0, v368.toNat, 32]
def k0_off331 (v125 : BitVec 32) (v135 : BitVec 32) (k0_t11 : Fin (k0_t11_loop v125 v135).trips) : Fin 3 → Nat :=
  let c0_i32_167 : BitVec 32 := 0#32
  let v382 : Index := Scalar.indexCast c0_i32_167
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![0, v383.toNat, 48]
def k0_off332 (v125 : BitVec 32) (v135 : BitVec 32) (k0_t11 : Fin (k0_t11_loop v125 v135).trips) (c1_i32_169 : BitVec 32) : Fin 3 → Nat :=
  let c0_i32_170 : BitVec 32 := 0#32
  let v386 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![0, v387.toNat, 48]
def k0_off333 (v125 : BitVec 32) (v135 : BitVec 32) (k0_t11 : Fin (k0_t11_loop v125 v135).trips) : Fin 3 → Nat :=
  let c0_i32_178 : BitVec 32 := 0#32
  let v401 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![0, v402.toNat, 64]
def k0_off334 (v125 : BitVec 32) (v135 : BitVec 32) (k0_t11 : Fin (k0_t11_loop v125 v135).trips) (c1_i32_180 : BitVec 32) : Fin 3 → Nat :=
  let c0_i32_181 : BitVec 32 := 0#32
  let v405 : Index := Scalar.indexCast c0_i32_181
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![0, v406.toNat, 64]
def k0_off335 (v125 : BitVec 32) (v135 : BitVec 32) (k0_t11 : Fin (k0_t11_loop v125 v135).trips) : Fin 3 → Nat :=
  let c0_i32_189 : BitVec 32 := 0#32
  let v420 : Index := Scalar.indexCast c0_i32_189
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![0, v421.toNat, 80]
def k0_off336 (v125 : BitVec 32) (v135 : BitVec 32) (k0_t11 : Fin (k0_t11_loop v125 v135).trips) (c1_i32_191 : BitVec 32) : Fin 3 → Nat :=
  let c0_i32_192 : BitVec 32 := 0#32
  let v424 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![0, v425.toNat, 80]
def k0_off337 (v125 : BitVec 32) (v135 : BitVec 32) (k0_t11 : Fin (k0_t11_loop v125 v135).trips) : Fin 3 → Nat :=
  let c0_i32_200 : BitVec 32 := 0#32
  let v439 : Index := Scalar.indexCast c0_i32_200
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![0, v440.toNat, 96]
def k0_off338 (v125 : BitVec 32) (v135 : BitVec 32) (k0_t11 : Fin (k0_t11_loop v125 v135).trips) (c1_i32_202 : BitVec 32) : Fin 3 → Nat :=
  let c0_i32_203 : BitVec 32 := 0#32
  let v443 : Index := Scalar.indexCast c0_i32_203
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![0, v444.toNat, 96]
def k0_off339 (v125 : BitVec 32) (v135 : BitVec 32) (k0_t11 : Fin (k0_t11_loop v125 v135).trips) : Fin 3 → Nat :=
  let c0_i32_211 : BitVec 32 := 0#32
  let v458 : Index := Scalar.indexCast c0_i32_211
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![0, v459.toNat, 112]
def k0_off340 (v125 : BitVec 32) (v135 : BitVec 32) (k0_t11 : Fin (k0_t11_loop v125 v135).trips) (c1_i32_213 : BitVec 32) : Fin 3 → Nat :=
  let c0_i32_214 : BitVec 32 := 0#32
  let v462 : Index := Scalar.indexCast c0_i32_214
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![0, v463.toNat, 112]
def k0_off341 (v125 : BitVec 32) (v135 : BitVec 32) (k0_t11 : Fin (k0_t11_loop v125 v135).trips) : Fin 3 → Nat :=
  let c0_i32_222 : BitVec 32 := 0#32
  let v477 : Index := Scalar.indexCast c0_i32_222
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![0, v478.toNat, 128]
def k0_off342 (v125 : BitVec 32) (v135 : BitVec 32) (k0_t11 : Fin (k0_t11_loop v125 v135).trips) (c1_i32_224 : BitVec 32) : Fin 3 → Nat :=
  let c0_i32_225 : BitVec 32 := 0#32
  let v481 : Index := Scalar.indexCast c0_i32_225
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![0, v482.toNat, 128]
def k0_off343 (v125 : BitVec 32) (v135 : BitVec 32) (k0_t11 : Fin (k0_t11_loop v125 v135).trips) : Fin 3 → Nat :=
  let c0_i32_233 : BitVec 32 := 0#32
  let v496 : Index := Scalar.indexCast c0_i32_233
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![0, v497.toNat, 144]
def k0_off344 (v125 : BitVec 32) (v135 : BitVec 32) (k0_t11 : Fin (k0_t11_loop v125 v135).trips) (c1_i32_235 : BitVec 32) : Fin 3 → Nat :=
  let c0_i32_236 : BitVec 32 := 0#32
  let v500 : Index := Scalar.indexCast c0_i32_236
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![0, v501.toNat, 144]
def k0_off345 (v125 : BitVec 32) (v135 : BitVec 32) (k0_t11 : Fin (k0_t11_loop v125 v135).trips) : Fin 3 → Nat :=
  let c0_i32_244 : BitVec 32 := 0#32
  let v515 : Index := Scalar.indexCast c0_i32_244
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![0, v516.toNat, 160]
def k0_off346 (v125 : BitVec 32) (v135 : BitVec 32) (k0_t11 : Fin (k0_t11_loop v125 v135).trips) (c1_i32_246 : BitVec 32) : Fin 3 → Nat :=
  let c0_i32_247 : BitVec 32 := 0#32
  let v519 : Index := Scalar.indexCast c0_i32_247
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![0, v520.toNat, 160]
def k0_off347 (v125 : BitVec 32) (v135 : BitVec 32) (k0_t11 : Fin (k0_t11_loop v125 v135).trips) : Fin 3 → Nat :=
  let c0_i32_255 : BitVec 32 := 0#32
  let v534 : Index := Scalar.indexCast c0_i32_255
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![0, v535.toNat, 176]
def k0_off348 (v125 : BitVec 32) (v135 : BitVec 32) (k0_t11 : Fin (k0_t11_loop v125 v135).trips) (c1_i32_257 : BitVec 32) : Fin 3 → Nat :=
  let c0_i32_258 : BitVec 32 := 0#32
  let v538 : Index := Scalar.indexCast c0_i32_258
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![0, v539.toNat, 176]
def k0_off349 (v125 : BitVec 32) (v135 : BitVec 32) (k0_t11 : Fin (k0_t11_loop v125 v135).trips) : Fin 3 → Nat :=
  let c0_i32_266 : BitVec 32 := 0#32
  let v553 : Index := Scalar.indexCast c0_i32_266
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![0, v554.toNat, 192]
def k0_off350 (v125 : BitVec 32) (v135 : BitVec 32) (k0_t11 : Fin (k0_t11_loop v125 v135).trips) (c1_i32_268 : BitVec 32) : Fin 3 → Nat :=
  let c0_i32_269 : BitVec 32 := 0#32
  let v557 : Index := Scalar.indexCast c0_i32_269
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![0, v558.toNat, 192]
def k0_off351 (v125 : BitVec 32) (v135 : BitVec 32) (k0_t11 : Fin (k0_t11_loop v125 v135).trips) : Fin 3 → Nat :=
  let c0_i32_277 : BitVec 32 := 0#32
  let v572 : Index := Scalar.indexCast c0_i32_277
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![0, v573.toNat, 208]
def k0_off352 (v125 : BitVec 32) (v135 : BitVec 32) (k0_t11 : Fin (k0_t11_loop v125 v135).trips) (c1_i32_279 : BitVec 32) : Fin 3 → Nat :=
  let c0_i32_280 : BitVec 32 := 0#32
  let v576 : Index := Scalar.indexCast c0_i32_280
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![0, v577.toNat, 208]
def k0_off353 (v125 : BitVec 32) (v135 : BitVec 32) (k0_t11 : Fin (k0_t11_loop v125 v135).trips) : Fin 3 → Nat :=
  let c0_i32_288 : BitVec 32 := 0#32
  let v591 : Index := Scalar.indexCast c0_i32_288
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![0, v592.toNat, 224]
def k0_off354 (v125 : BitVec 32) (v135 : BitVec 32) (k0_t11 : Fin (k0_t11_loop v125 v135).trips) (c1_i32_290 : BitVec 32) : Fin 3 → Nat :=
  let c0_i32_291 : BitVec 32 := 0#32
  let v595 : Index := Scalar.indexCast c0_i32_291
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![0, v596.toNat, 224]
def k0_off355 (v125 : BitVec 32) (v135 : BitVec 32) (k0_t11 : Fin (k0_t11_loop v125 v135).trips) : Fin 3 → Nat :=
  let c0_i32_299 : BitVec 32 := 0#32
  let v610 : Index := Scalar.indexCast c0_i32_299
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![0, v611.toNat, 240]
def k0_off356 (v125 : BitVec 32) (v135 : BitVec 32) (k0_t11 : Fin (k0_t11_loop v125 v135).trips) (c1_i32_301 : BitVec 32) : Fin 3 → Nat :=
  let c0_i32_302 : BitVec 32 := 0#32
  let v614 : Index := Scalar.indexCast c0_i32_302
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![0, v615.toNat, 240]
def k0_off357 (v125 : BitVec 32) (v135 : BitVec 32) (k0_t11 : Fin (k0_t11_loop v125 v135).trips) : Fin 3 → Nat :=
  let c0_i32_310 : BitVec 32 := 0#32
  let v629 : Index := Scalar.indexCast c0_i32_310
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![0, v630.toNat, 256]
def k0_off358 (v125 : BitVec 32) (v135 : BitVec 32) (k0_t11 : Fin (k0_t11_loop v125 v135).trips) (c1_i32_312 : BitVec 32) : Fin 3 → Nat :=
  let c0_i32_313 : BitVec 32 := 0#32
  let v633 : Index := Scalar.indexCast c0_i32_313
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![0, v634.toNat, 256]
def k0_off359 (v125 : BitVec 32) (v135 : BitVec 32) (k0_t11 : Fin (k0_t11_loop v125 v135).trips) : Fin 3 → Nat :=
  let c0_i32_321 : BitVec 32 := 0#32
  let v648 : Index := Scalar.indexCast c0_i32_321
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![0, v649.toNat, 272]
def k0_off360 (v125 : BitVec 32) (v135 : BitVec 32) (k0_t11 : Fin (k0_t11_loop v125 v135).trips) (c1_i32_323 : BitVec 32) : Fin 3 → Nat :=
  let c0_i32_324 : BitVec 32 := 0#32
  let v652 : Index := Scalar.indexCast c0_i32_324
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![0, v653.toNat, 272]
def k0_off361 (v125 : BitVec 32) (v135 : BitVec 32) (k0_t11 : Fin (k0_t11_loop v125 v135).trips) : Fin 3 → Nat :=
  let c0_i32_332 : BitVec 32 := 0#32
  let v667 : Index := Scalar.indexCast c0_i32_332
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![0, v668.toNat, 288]
def k0_off362 (v125 : BitVec 32) (v135 : BitVec 32) (k0_t11 : Fin (k0_t11_loop v125 v135).trips) (c1_i32_334 : BitVec 32) : Fin 3 → Nat :=
  let c0_i32_335 : BitVec 32 := 0#32
  let v671 : Index := Scalar.indexCast c0_i32_335
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![0, v672.toNat, 288]
def k0_off363 (v125 : BitVec 32) (v135 : BitVec 32) (k0_t11 : Fin (k0_t11_loop v125 v135).trips) : Fin 3 → Nat :=
  let c0_i32_343 : BitVec 32 := 0#32
  let v686 : Index := Scalar.indexCast c0_i32_343
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![0, v687.toNat, 304]
def k0_off364 (v125 : BitVec 32) (v135 : BitVec 32) (k0_t11 : Fin (k0_t11_loop v125 v135).trips) (c1_i32_345 : BitVec 32) : Fin 3 → Nat :=
  let c0_i32_346 : BitVec 32 := 0#32
  let v690 : Index := Scalar.indexCast c0_i32_346
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![0, v691.toNat, 304]
def k0_off365 (v125 : BitVec 32) (v135 : BitVec 32) (k0_t11 : Fin (k0_t11_loop v125 v135).trips) : Fin 3 → Nat :=
  let c0_i32_354 : BitVec 32 := 0#32
  let v705 : Index := Scalar.indexCast c0_i32_354
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![0, v706.toNat, 320]
def k0_off366 (v125 : BitVec 32) (v135 : BitVec 32) (k0_t11 : Fin (k0_t11_loop v125 v135).trips) (c1_i32_356 : BitVec 32) : Fin 3 → Nat :=
  let c0_i32_357 : BitVec 32 := 0#32
  let v709 : Index := Scalar.indexCast c0_i32_357
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![0, v710.toNat, 320]
def k0_off367 (v125 : BitVec 32) (v135 : BitVec 32) (k0_t11 : Fin (k0_t11_loop v125 v135).trips) : Fin 3 → Nat :=
  let c0_i32_365 : BitVec 32 := 0#32
  let v724 : Index := Scalar.indexCast c0_i32_365
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![0, v725.toNat, 336]
def k0_off368 (v125 : BitVec 32) (v135 : BitVec 32) (k0_t11 : Fin (k0_t11_loop v125 v135).trips) (c1_i32_367 : BitVec 32) : Fin 3 → Nat :=
  let c0_i32_368 : BitVec 32 := 0#32
  let v728 : Index := Scalar.indexCast c0_i32_368
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![0, v729.toNat, 336]
def k0_off369 (v125 : BitVec 32) (v135 : BitVec 32) (k0_t11 : Fin (k0_t11_loop v125 v135).trips) : Fin 3 → Nat :=
  let c0_i32_376 : BitVec 32 := 0#32
  let v743 : Index := Scalar.indexCast c0_i32_376
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![0, v744.toNat, 352]
def k0_off370 (v125 : BitVec 32) (v135 : BitVec 32) (k0_t11 : Fin (k0_t11_loop v125 v135).trips) (c1_i32_378 : BitVec 32) : Fin 3 → Nat :=
  let c0_i32_379 : BitVec 32 := 0#32
  let v747 : Index := Scalar.indexCast c0_i32_379
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![0, v748.toNat, 352]
def k0_off371 (v125 : BitVec 32) (v135 : BitVec 32) (k0_t11 : Fin (k0_t11_loop v125 v135).trips) : Fin 3 → Nat :=
  let c0_i32_387 : BitVec 32 := 0#32
  let v762 : Index := Scalar.indexCast c0_i32_387
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![0, v763.toNat, 368]
def k0_off372 (v125 : BitVec 32) (v135 : BitVec 32) (k0_t11 : Fin (k0_t11_loop v125 v135).trips) (c1_i32_389 : BitVec 32) : Fin 3 → Nat :=
  let c0_i32_390 : BitVec 32 := 0#32
  let v766 : Index := Scalar.indexCast c0_i32_390
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![0, v767.toNat, 368]
def k0_off373 (v125 : BitVec 32) (v135 : BitVec 32) (k0_t11 : Fin (k0_t11_loop v125 v135).trips) : Fin 3 → Nat :=
  let c0_i32_398 : BitVec 32 := 0#32
  let v781 : Index := Scalar.indexCast c0_i32_398
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![0, v782.toNat, 384]
def k0_off374 (v125 : BitVec 32) (v135 : BitVec 32) (k0_t11 : Fin (k0_t11_loop v125 v135).trips) (c1_i32_400 : BitVec 32) : Fin 3 → Nat :=
  let c0_i32_401 : BitVec 32 := 0#32
  let v785 : Index := Scalar.indexCast c0_i32_401
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![0, v786.toNat, 384]
def k0_off375 (v125 : BitVec 32) (v135 : BitVec 32) (k0_t11 : Fin (k0_t11_loop v125 v135).trips) : Fin 3 → Nat :=
  let c0_i32_409 : BitVec 32 := 0#32
  let v800 : Index := Scalar.indexCast c0_i32_409
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![0, v801.toNat, 400]
def k0_off376 (v125 : BitVec 32) (v135 : BitVec 32) (k0_t11 : Fin (k0_t11_loop v125 v135).trips) (c1_i32_411 : BitVec 32) : Fin 3 → Nat :=
  let c0_i32_412 : BitVec 32 := 0#32
  let v804 : Index := Scalar.indexCast c0_i32_412
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![0, v805.toNat, 400]
def k0_off377 (v125 : BitVec 32) (v135 : BitVec 32) (k0_t11 : Fin (k0_t11_loop v125 v135).trips) : Fin 3 → Nat :=
  let c0_i32_420 : BitVec 32 := 0#32
  let v819 : Index := Scalar.indexCast c0_i32_420
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![0, v820.toNat, 416]
def k0_off378 (v125 : BitVec 32) (v135 : BitVec 32) (k0_t11 : Fin (k0_t11_loop v125 v135).trips) (c1_i32_422 : BitVec 32) : Fin 3 → Nat :=
  let c0_i32_423 : BitVec 32 := 0#32
  let v823 : Index := Scalar.indexCast c0_i32_423
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![0, v824.toNat, 416]
def k0_off379 (v125 : BitVec 32) (v135 : BitVec 32) (k0_t11 : Fin (k0_t11_loop v125 v135).trips) : Fin 3 → Nat :=
  let c0_i32_431 : BitVec 32 := 0#32
  let v838 : Index := Scalar.indexCast c0_i32_431
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![0, v839.toNat, 432]
def k0_off380 (v125 : BitVec 32) (v135 : BitVec 32) (k0_t11 : Fin (k0_t11_loop v125 v135).trips) (c1_i32_433 : BitVec 32) : Fin 3 → Nat :=
  let c0_i32_434 : BitVec 32 := 0#32
  let v842 : Index := Scalar.indexCast c0_i32_434
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![0, v843.toNat, 432]
def k0_off381 (v125 : BitVec 32) (v135 : BitVec 32) (k0_t11 : Fin (k0_t11_loop v125 v135).trips) : Fin 3 → Nat :=
  let c0_i32_442 : BitVec 32 := 0#32
  let v857 : Index := Scalar.indexCast c0_i32_442
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![0, v858.toNat, 448]
def k0_off382 (v125 : BitVec 32) (v135 : BitVec 32) (k0_t11 : Fin (k0_t11_loop v125 v135).trips) (c1_i32_444 : BitVec 32) : Fin 3 → Nat :=
  let c0_i32_445 : BitVec 32 := 0#32
  let v861 : Index := Scalar.indexCast c0_i32_445
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![0, v862.toNat, 448]
def k0_off383 (v125 : BitVec 32) (v135 : BitVec 32) (k0_t11 : Fin (k0_t11_loop v125 v135).trips) : Fin 3 → Nat :=
  let c0_i32_453 : BitVec 32 := 0#32
  let v876 : Index := Scalar.indexCast c0_i32_453
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![0, v877.toNat, 464]
def k0_off384 (v125 : BitVec 32) (v135 : BitVec 32) (k0_t11 : Fin (k0_t11_loop v125 v135).trips) (c1_i32_455 : BitVec 32) : Fin 3 → Nat :=
  let c0_i32_456 : BitVec 32 := 0#32
  let v880 : Index := Scalar.indexCast c0_i32_456
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![0, v881.toNat, 464]
def k0_off385 (v125 : BitVec 32) (v135 : BitVec 32) (k0_t11 : Fin (k0_t11_loop v125 v135).trips) : Fin 3 → Nat :=
  let c0_i32_464 : BitVec 32 := 0#32
  let v895 : Index := Scalar.indexCast c0_i32_464
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![0, v896.toNat, 480]
def k0_off386 (v125 : BitVec 32) (v135 : BitVec 32) (k0_t11 : Fin (k0_t11_loop v125 v135).trips) (c1_i32_466 : BitVec 32) : Fin 3 → Nat :=
  let c0_i32_467 : BitVec 32 := 0#32
  let v899 : Index := Scalar.indexCast c0_i32_467
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![0, v900.toNat, 480]
def k0_off387 (v125 : BitVec 32) (v135 : BitVec 32) (k0_t11 : Fin (k0_t11_loop v125 v135).trips) : Fin 3 → Nat :=
  let c0_i32_475 : BitVec 32 := 0#32
  let v914 : Index := Scalar.indexCast c0_i32_475
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![0, v915.toNat, 496]
def k0_off388 (v125 : BitVec 32) (v135 : BitVec 32) (k0_t11 : Fin (k0_t11_loop v125 v135).trips) (c1_i32_477 : BitVec 32) : Fin 3 → Nat :=
  let c0_i32_478 : BitVec 32 := 0#32
  let v918 : Index := Scalar.indexCast c0_i32_478
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t11
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![0, v919.toNat, 496]
@[reducible] def k0_t12_loop (v125 : BitVec 32) (v135 : BitVec 32) : Scf.Loop 32 :=
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_99 : BitVec 32 := 1#32
  ⟨v155, v160, c1_i32_99⟩
def k0_off389 (v125 : BitVec 32) (v135 : BitVec 32) (k0_t12 : Fin (k0_t12_loop v125 v135).trips) : Fin 3 → Nat :=
  let c0_i32_134 : BitVec 32 := 0#32
  let v323 : Index := Scalar.indexCast c0_i32_134
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v324 : Index := Scalar.indexCast arg14
  let c0_135 : Index := 0#32
  ![0, v324.toNat, 0]
def k0_off390 (v125 : BitVec 32) (v135 : BitVec 32) (k0_t12 : Fin (k0_t12_loop v125 v135).trips) : Fin 3 → Nat :=
  let c0_i32_136 : BitVec 32 := 0#32
  let v327 : Index := Scalar.indexCast c0_i32_136
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v328 : Index := Scalar.indexCast arg14
  let c16_137 : Index := 16#32
  ![0, v328.toNat, 16]
def k0_off391 (v125 : BitVec 32) (v135 : BitVec 32) (k0_t12 : Fin (k0_t12_loop v125 v135).trips) : Fin 3 → Nat :=
  let c0_i32_138 : BitVec 32 := 0#32
  let v331 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v332 : Index := Scalar.indexCast arg14
  let c32_139 : Index := 32#32
  ![0, v332.toNat, 32]
def k0_off392 (v125 : BitVec 32) (v135 : BitVec 32) (k0_t12 : Fin (k0_t12_loop v125 v135).trips) : Fin 3 → Nat :=
  let c0_i32_140 : BitVec 32 := 0#32
  let v335 : Index := Scalar.indexCast c0_i32_140
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v336 : Index := Scalar.indexCast arg14
  let c48_141 : Index := 48#32
  ![0, v336.toNat, 48]
def k0_off393 (v125 : BitVec 32) (v135 : BitVec 32) (k0_t12 : Fin (k0_t12_loop v125 v135).trips) : Fin 3 → Nat :=
  let c0_i32_142 : BitVec 32 := 0#32
  let v339 : Index := Scalar.indexCast c0_i32_142
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v340 : Index := Scalar.indexCast arg14
  let c64_143 : Index := 64#32
  ![0, v340.toNat, 64]
def k0_off394 (v125 : BitVec 32) (v135 : BitVec 32) (k0_t12 : Fin (k0_t12_loop v125 v135).trips) : Fin 3 → Nat :=
  let c0_i32_144 : BitVec 32 := 0#32
  let v343 : Index := Scalar.indexCast c0_i32_144
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v344 : Index := Scalar.indexCast arg14
  let c80_145 : Index := 80#32
  ![0, v344.toNat, 80]
def k0_off395 (v125 : BitVec 32) (v135 : BitVec 32) (k0_t12 : Fin (k0_t12_loop v125 v135).trips) : Fin 3 → Nat :=
  let c0_i32_146 : BitVec 32 := 0#32
  let v347 : Index := Scalar.indexCast c0_i32_146
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v348 : Index := Scalar.indexCast arg14
  let c96_147 : Index := 96#32
  ![0, v348.toNat, 96]
def k0_off396 (v125 : BitVec 32) (v135 : BitVec 32) (k0_t12 : Fin (k0_t12_loop v125 v135).trips) : Fin 3 → Nat :=
  let c0_i32_148 : BitVec 32 := 0#32
  let v351 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v352 : Index := Scalar.indexCast arg14
  let c112_149 : Index := 112#32
  ![0, v352.toNat, 112]
def k0_off397 (v125 : BitVec 32) (v135 : BitVec 32) (k0_t12 : Fin (k0_t12_loop v125 v135).trips) : Fin 3 → Nat :=
  let c0_i32_150 : BitVec 32 := 0#32
  let v355 : Index := Scalar.indexCast c0_i32_150
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v356 : Index := Scalar.indexCast arg14
  let c128_151 : Index := 128#32
  ![0, v356.toNat, 128]
def k0_off398 (v125 : BitVec 32) (v135 : BitVec 32) (k0_t12 : Fin (k0_t12_loop v125 v135).trips) : Fin 3 → Nat :=
  let c0_i32_152 : BitVec 32 := 0#32
  let v359 : Index := Scalar.indexCast c0_i32_152
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v360 : Index := Scalar.indexCast arg14
  let c144_153 : Index := 144#32
  ![0, v360.toNat, 144]
def k0_off399 (v125 : BitVec 32) (v135 : BitVec 32) (k0_t12 : Fin (k0_t12_loop v125 v135).trips) : Fin 3 → Nat :=
  let c0_i32_154 : BitVec 32 := 0#32
  let v363 : Index := Scalar.indexCast c0_i32_154
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v364 : Index := Scalar.indexCast arg14
  let c160_155 : Index := 160#32
  ![0, v364.toNat, 160]
def k0_off400 (v125 : BitVec 32) (v135 : BitVec 32) (k0_t12 : Fin (k0_t12_loop v125 v135).trips) : Fin 3 → Nat :=
  let c0_i32_156 : BitVec 32 := 0#32
  let v367 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v368 : Index := Scalar.indexCast arg14
  let c176_157 : Index := 176#32
  ![0, v368.toNat, 176]
def k0_off401 (v125 : BitVec 32) (v135 : BitVec 32) (k0_t12 : Fin (k0_t12_loop v125 v135).trips) : Fin 3 → Nat :=
  let c0_i32_158 : BitVec 32 := 0#32
  let v371 : Index := Scalar.indexCast c0_i32_158
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v372 : Index := Scalar.indexCast arg14
  let c192_159 : Index := 192#32
  ![0, v372.toNat, 192]
def k0_off402 (v125 : BitVec 32) (v135 : BitVec 32) (k0_t12 : Fin (k0_t12_loop v125 v135).trips) : Fin 3 → Nat :=
  let c0_i32_160 : BitVec 32 := 0#32
  let v375 : Index := Scalar.indexCast c0_i32_160
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v376 : Index := Scalar.indexCast arg14
  let c208_161 : Index := 208#32
  ![0, v376.toNat, 208]
def k0_off403 (v125 : BitVec 32) (v135 : BitVec 32) (k0_t12 : Fin (k0_t12_loop v125 v135).trips) : Fin 3 → Nat :=
  let c0_i32_162 : BitVec 32 := 0#32
  let v379 : Index := Scalar.indexCast c0_i32_162
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v380 : Index := Scalar.indexCast arg14
  let c224_163 : Index := 224#32
  ![0, v380.toNat, 224]
def k0_off404 (v125 : BitVec 32) (v135 : BitVec 32) (k0_t12 : Fin (k0_t12_loop v125 v135).trips) : Fin 3 → Nat :=
  let c0_i32_164 : BitVec 32 := 0#32
  let v383 : Index := Scalar.indexCast c0_i32_164
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v384 : Index := Scalar.indexCast arg14
  let c240_165 : Index := 240#32
  ![0, v384.toNat, 240]
def k0_off405 (v125 : BitVec 32) (v135 : BitVec 32) (k0_t12 : Fin (k0_t12_loop v125 v135).trips) : Fin 3 → Nat :=
  let c0_i32_166 : BitVec 32 := 0#32
  let v387 : Index := Scalar.indexCast c0_i32_166
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v388 : Index := Scalar.indexCast arg14
  let c256_167 : Index := 256#32
  ![0, v388.toNat, 256]
def k0_off406 (v125 : BitVec 32) (v135 : BitVec 32) (k0_t12 : Fin (k0_t12_loop v125 v135).trips) : Fin 3 → Nat :=
  let c0_i32_168 : BitVec 32 := 0#32
  let v391 : Index := Scalar.indexCast c0_i32_168
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v392 : Index := Scalar.indexCast arg14
  let c272_169 : Index := 272#32
  ![0, v392.toNat, 272]
def k0_off407 (v125 : BitVec 32) (v135 : BitVec 32) (k0_t12 : Fin (k0_t12_loop v125 v135).trips) : Fin 3 → Nat :=
  let c0_i32_170 : BitVec 32 := 0#32
  let v395 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v396 : Index := Scalar.indexCast arg14
  let c288_171 : Index := 288#32
  ![0, v396.toNat, 288]
def k0_off408 (v125 : BitVec 32) (v135 : BitVec 32) (k0_t12 : Fin (k0_t12_loop v125 v135).trips) : Fin 3 → Nat :=
  let c0_i32_172 : BitVec 32 := 0#32
  let v399 : Index := Scalar.indexCast c0_i32_172
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v400 : Index := Scalar.indexCast arg14
  let c304_173 : Index := 304#32
  ![0, v400.toNat, 304]
def k0_off409 (v125 : BitVec 32) (v135 : BitVec 32) (k0_t12 : Fin (k0_t12_loop v125 v135).trips) : Fin 3 → Nat :=
  let c0_i32_174 : BitVec 32 := 0#32
  let v403 : Index := Scalar.indexCast c0_i32_174
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v404 : Index := Scalar.indexCast arg14
  let c320_175 : Index := 320#32
  ![0, v404.toNat, 320]
def k0_off410 (v125 : BitVec 32) (v135 : BitVec 32) (k0_t12 : Fin (k0_t12_loop v125 v135).trips) : Fin 3 → Nat :=
  let c0_i32_176 : BitVec 32 := 0#32
  let v407 : Index := Scalar.indexCast c0_i32_176
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v408 : Index := Scalar.indexCast arg14
  let c336_177 : Index := 336#32
  ![0, v408.toNat, 336]
def k0_off411 (v125 : BitVec 32) (v135 : BitVec 32) (k0_t12 : Fin (k0_t12_loop v125 v135).trips) : Fin 3 → Nat :=
  let c0_i32_178 : BitVec 32 := 0#32
  let v411 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v412 : Index := Scalar.indexCast arg14
  let c352_179 : Index := 352#32
  ![0, v412.toNat, 352]
def k0_off412 (v125 : BitVec 32) (v135 : BitVec 32) (k0_t12 : Fin (k0_t12_loop v125 v135).trips) : Fin 3 → Nat :=
  let c0_i32_180 : BitVec 32 := 0#32
  let v415 : Index := Scalar.indexCast c0_i32_180
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v416 : Index := Scalar.indexCast arg14
  let c368_181 : Index := 368#32
  ![0, v416.toNat, 368]
def k0_off413 (v125 : BitVec 32) (v135 : BitVec 32) (k0_t12 : Fin (k0_t12_loop v125 v135).trips) : Fin 3 → Nat :=
  let c0_i32_182 : BitVec 32 := 0#32
  let v419 : Index := Scalar.indexCast c0_i32_182
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v420 : Index := Scalar.indexCast arg14
  let c384_183 : Index := 384#32
  ![0, v420.toNat, 384]
def k0_off414 (v125 : BitVec 32) (v135 : BitVec 32) (k0_t12 : Fin (k0_t12_loop v125 v135).trips) : Fin 3 → Nat :=
  let c0_i32_184 : BitVec 32 := 0#32
  let v423 : Index := Scalar.indexCast c0_i32_184
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v424 : Index := Scalar.indexCast arg14
  let c400_185 : Index := 400#32
  ![0, v424.toNat, 400]
def k0_off415 (v125 : BitVec 32) (v135 : BitVec 32) (k0_t12 : Fin (k0_t12_loop v125 v135).trips) : Fin 3 → Nat :=
  let c0_i32_186 : BitVec 32 := 0#32
  let v427 : Index := Scalar.indexCast c0_i32_186
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v428 : Index := Scalar.indexCast arg14
  let c416_187 : Index := 416#32
  ![0, v428.toNat, 416]
def k0_off416 (v125 : BitVec 32) (v135 : BitVec 32) (k0_t12 : Fin (k0_t12_loop v125 v135).trips) : Fin 3 → Nat :=
  let c0_i32_188 : BitVec 32 := 0#32
  let v431 : Index := Scalar.indexCast c0_i32_188
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v432 : Index := Scalar.indexCast arg14
  let c432_189 : Index := 432#32
  ![0, v432.toNat, 432]
def k0_off417 (v125 : BitVec 32) (v135 : BitVec 32) (k0_t12 : Fin (k0_t12_loop v125 v135).trips) : Fin 3 → Nat :=
  let c0_i32_190 : BitVec 32 := 0#32
  let v435 : Index := Scalar.indexCast c0_i32_190
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v436 : Index := Scalar.indexCast arg14
  let c448_191 : Index := 448#32
  ![0, v436.toNat, 448]
def k0_off418 (v125 : BitVec 32) (v135 : BitVec 32) (k0_t12 : Fin (k0_t12_loop v125 v135).trips) : Fin 3 → Nat :=
  let c0_i32_192 : BitVec 32 := 0#32
  let v439 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v440 : Index := Scalar.indexCast arg14
  let c464_193 : Index := 464#32
  ![0, v440.toNat, 464]
def k0_off419 (v125 : BitVec 32) (v135 : BitVec 32) (k0_t12 : Fin (k0_t12_loop v125 v135).trips) : Fin 3 → Nat :=
  let c0_i32_194 : BitVec 32 := 0#32
  let v443 : Index := Scalar.indexCast c0_i32_194
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v444 : Index := Scalar.indexCast arg14
  let c480_195 : Index := 480#32
  ![0, v444.toNat, 480]
def k0_off420 (v125 : BitVec 32) (v135 : BitVec 32) (k0_t12 : Fin (k0_t12_loop v125 v135).trips) : Fin 3 → Nat :=
  let c0_i32_196 : BitVec 32 := 0#32
  let v447 : Index := Scalar.indexCast c0_i32_196
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t12
  let v448 : Index := Scalar.indexCast arg14
  let c496_197 : Index := 496#32
  ![0, v448.toNat, 496]
@[reducible] def k0_t13_loop (v125 : BitVec 32) (v135 : BitVec 32) : Scf.Loop 32 :=
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let v157 : BitVec 32 := Scalar.addi v155 v156
  let c1_i32_100 : BitVec 32 := 1#32
  ⟨v160, v157, c1_i32_100⟩
def k0_off421 (v125 : BitVec 32) (v135 : BitVec 32) (k0_t13 : Fin (k0_t13_loop v125 v135).trips) : Fin 3 → Nat :=
  let c0_i32_134 : BitVec 32 := 0#32
  let v323 : Index := Scalar.indexCast c0_i32_134
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v324 : Index := Scalar.indexCast arg14
  let c0_135 : Index := 0#32
  ![0, v324.toNat, 0]
def k0_off422 (v125 : BitVec 32) (v135 : BitVec 32) (k0_t13 : Fin (k0_t13_loop v125 v135).trips) : Fin 3 → Nat :=
  let c0_i32_136 : BitVec 32 := 0#32
  let v327 : Index := Scalar.indexCast c0_i32_136
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v328 : Index := Scalar.indexCast arg14
  let c16_137 : Index := 16#32
  ![0, v328.toNat, 16]
def k0_off423 (v125 : BitVec 32) (v135 : BitVec 32) (k0_t13 : Fin (k0_t13_loop v125 v135).trips) : Fin 3 → Nat :=
  let c0_i32_138 : BitVec 32 := 0#32
  let v331 : Index := Scalar.indexCast c0_i32_138
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v332 : Index := Scalar.indexCast arg14
  let c32_139 : Index := 32#32
  ![0, v332.toNat, 32]
def k0_off424 (v125 : BitVec 32) (v135 : BitVec 32) (k0_t13 : Fin (k0_t13_loop v125 v135).trips) : Fin 3 → Nat :=
  let c0_i32_140 : BitVec 32 := 0#32
  let v335 : Index := Scalar.indexCast c0_i32_140
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v336 : Index := Scalar.indexCast arg14
  let c48_141 : Index := 48#32
  ![0, v336.toNat, 48]
def k0_off425 (v125 : BitVec 32) (v135 : BitVec 32) (k0_t13 : Fin (k0_t13_loop v125 v135).trips) : Fin 3 → Nat :=
  let c0_i32_142 : BitVec 32 := 0#32
  let v339 : Index := Scalar.indexCast c0_i32_142
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v340 : Index := Scalar.indexCast arg14
  let c64_143 : Index := 64#32
  ![0, v340.toNat, 64]
def k0_off426 (v125 : BitVec 32) (v135 : BitVec 32) (k0_t13 : Fin (k0_t13_loop v125 v135).trips) : Fin 3 → Nat :=
  let c0_i32_144 : BitVec 32 := 0#32
  let v343 : Index := Scalar.indexCast c0_i32_144
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v344 : Index := Scalar.indexCast arg14
  let c80_145 : Index := 80#32
  ![0, v344.toNat, 80]
def k0_off427 (v125 : BitVec 32) (v135 : BitVec 32) (k0_t13 : Fin (k0_t13_loop v125 v135).trips) : Fin 3 → Nat :=
  let c0_i32_146 : BitVec 32 := 0#32
  let v347 : Index := Scalar.indexCast c0_i32_146
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v348 : Index := Scalar.indexCast arg14
  let c96_147 : Index := 96#32
  ![0, v348.toNat, 96]
def k0_off428 (v125 : BitVec 32) (v135 : BitVec 32) (k0_t13 : Fin (k0_t13_loop v125 v135).trips) : Fin 3 → Nat :=
  let c0_i32_148 : BitVec 32 := 0#32
  let v351 : Index := Scalar.indexCast c0_i32_148
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v352 : Index := Scalar.indexCast arg14
  let c112_149 : Index := 112#32
  ![0, v352.toNat, 112]
def k0_off429 (v125 : BitVec 32) (v135 : BitVec 32) (k0_t13 : Fin (k0_t13_loop v125 v135).trips) : Fin 3 → Nat :=
  let c0_i32_150 : BitVec 32 := 0#32
  let v355 : Index := Scalar.indexCast c0_i32_150
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v356 : Index := Scalar.indexCast arg14
  let c128_151 : Index := 128#32
  ![0, v356.toNat, 128]
def k0_off430 (v125 : BitVec 32) (v135 : BitVec 32) (k0_t13 : Fin (k0_t13_loop v125 v135).trips) : Fin 3 → Nat :=
  let c0_i32_152 : BitVec 32 := 0#32
  let v359 : Index := Scalar.indexCast c0_i32_152
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v360 : Index := Scalar.indexCast arg14
  let c144_153 : Index := 144#32
  ![0, v360.toNat, 144]
def k0_off431 (v125 : BitVec 32) (v135 : BitVec 32) (k0_t13 : Fin (k0_t13_loop v125 v135).trips) : Fin 3 → Nat :=
  let c0_i32_154 : BitVec 32 := 0#32
  let v363 : Index := Scalar.indexCast c0_i32_154
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v364 : Index := Scalar.indexCast arg14
  let c160_155 : Index := 160#32
  ![0, v364.toNat, 160]
def k0_off432 (v125 : BitVec 32) (v135 : BitVec 32) (k0_t13 : Fin (k0_t13_loop v125 v135).trips) : Fin 3 → Nat :=
  let c0_i32_156 : BitVec 32 := 0#32
  let v367 : Index := Scalar.indexCast c0_i32_156
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v368 : Index := Scalar.indexCast arg14
  let c176_157 : Index := 176#32
  ![0, v368.toNat, 176]
def k0_off433 (v125 : BitVec 32) (v135 : BitVec 32) (k0_t13 : Fin (k0_t13_loop v125 v135).trips) : Fin 3 → Nat :=
  let c0_i32_158 : BitVec 32 := 0#32
  let v371 : Index := Scalar.indexCast c0_i32_158
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v372 : Index := Scalar.indexCast arg14
  let c192_159 : Index := 192#32
  ![0, v372.toNat, 192]
def k0_off434 (v125 : BitVec 32) (v135 : BitVec 32) (k0_t13 : Fin (k0_t13_loop v125 v135).trips) : Fin 3 → Nat :=
  let c0_i32_160 : BitVec 32 := 0#32
  let v375 : Index := Scalar.indexCast c0_i32_160
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v376 : Index := Scalar.indexCast arg14
  let c208_161 : Index := 208#32
  ![0, v376.toNat, 208]
def k0_off435 (v125 : BitVec 32) (v135 : BitVec 32) (k0_t13 : Fin (k0_t13_loop v125 v135).trips) : Fin 3 → Nat :=
  let c0_i32_162 : BitVec 32 := 0#32
  let v379 : Index := Scalar.indexCast c0_i32_162
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v380 : Index := Scalar.indexCast arg14
  let c224_163 : Index := 224#32
  ![0, v380.toNat, 224]
def k0_off436 (v125 : BitVec 32) (v135 : BitVec 32) (k0_t13 : Fin (k0_t13_loop v125 v135).trips) : Fin 3 → Nat :=
  let c0_i32_164 : BitVec 32 := 0#32
  let v383 : Index := Scalar.indexCast c0_i32_164
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v384 : Index := Scalar.indexCast arg14
  let c240_165 : Index := 240#32
  ![0, v384.toNat, 240]
def k0_off437 (v125 : BitVec 32) (v135 : BitVec 32) (k0_t13 : Fin (k0_t13_loop v125 v135).trips) : Fin 3 → Nat :=
  let c0_i32_166 : BitVec 32 := 0#32
  let v387 : Index := Scalar.indexCast c0_i32_166
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v388 : Index := Scalar.indexCast arg14
  let c256_167 : Index := 256#32
  ![0, v388.toNat, 256]
def k0_off438 (v125 : BitVec 32) (v135 : BitVec 32) (k0_t13 : Fin (k0_t13_loop v125 v135).trips) : Fin 3 → Nat :=
  let c0_i32_168 : BitVec 32 := 0#32
  let v391 : Index := Scalar.indexCast c0_i32_168
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v392 : Index := Scalar.indexCast arg14
  let c272_169 : Index := 272#32
  ![0, v392.toNat, 272]
def k0_off439 (v125 : BitVec 32) (v135 : BitVec 32) (k0_t13 : Fin (k0_t13_loop v125 v135).trips) : Fin 3 → Nat :=
  let c0_i32_170 : BitVec 32 := 0#32
  let v395 : Index := Scalar.indexCast c0_i32_170
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v396 : Index := Scalar.indexCast arg14
  let c288_171 : Index := 288#32
  ![0, v396.toNat, 288]
def k0_off440 (v125 : BitVec 32) (v135 : BitVec 32) (k0_t13 : Fin (k0_t13_loop v125 v135).trips) : Fin 3 → Nat :=
  let c0_i32_172 : BitVec 32 := 0#32
  let v399 : Index := Scalar.indexCast c0_i32_172
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v400 : Index := Scalar.indexCast arg14
  let c304_173 : Index := 304#32
  ![0, v400.toNat, 304]
def k0_off441 (v125 : BitVec 32) (v135 : BitVec 32) (k0_t13 : Fin (k0_t13_loop v125 v135).trips) : Fin 3 → Nat :=
  let c0_i32_174 : BitVec 32 := 0#32
  let v403 : Index := Scalar.indexCast c0_i32_174
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v404 : Index := Scalar.indexCast arg14
  let c320_175 : Index := 320#32
  ![0, v404.toNat, 320]
def k0_off442 (v125 : BitVec 32) (v135 : BitVec 32) (k0_t13 : Fin (k0_t13_loop v125 v135).trips) : Fin 3 → Nat :=
  let c0_i32_176 : BitVec 32 := 0#32
  let v407 : Index := Scalar.indexCast c0_i32_176
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v408 : Index := Scalar.indexCast arg14
  let c336_177 : Index := 336#32
  ![0, v408.toNat, 336]
def k0_off443 (v125 : BitVec 32) (v135 : BitVec 32) (k0_t13 : Fin (k0_t13_loop v125 v135).trips) : Fin 3 → Nat :=
  let c0_i32_178 : BitVec 32 := 0#32
  let v411 : Index := Scalar.indexCast c0_i32_178
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v412 : Index := Scalar.indexCast arg14
  let c352_179 : Index := 352#32
  ![0, v412.toNat, 352]
def k0_off444 (v125 : BitVec 32) (v135 : BitVec 32) (k0_t13 : Fin (k0_t13_loop v125 v135).trips) : Fin 3 → Nat :=
  let c0_i32_180 : BitVec 32 := 0#32
  let v415 : Index := Scalar.indexCast c0_i32_180
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v416 : Index := Scalar.indexCast arg14
  let c368_181 : Index := 368#32
  ![0, v416.toNat, 368]
def k0_off445 (v125 : BitVec 32) (v135 : BitVec 32) (k0_t13 : Fin (k0_t13_loop v125 v135).trips) : Fin 3 → Nat :=
  let c0_i32_182 : BitVec 32 := 0#32
  let v419 : Index := Scalar.indexCast c0_i32_182
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v420 : Index := Scalar.indexCast arg14
  let c384_183 : Index := 384#32
  ![0, v420.toNat, 384]
def k0_off446 (v125 : BitVec 32) (v135 : BitVec 32) (k0_t13 : Fin (k0_t13_loop v125 v135).trips) : Fin 3 → Nat :=
  let c0_i32_184 : BitVec 32 := 0#32
  let v423 : Index := Scalar.indexCast c0_i32_184
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v424 : Index := Scalar.indexCast arg14
  let c400_185 : Index := 400#32
  ![0, v424.toNat, 400]
def k0_off447 (v125 : BitVec 32) (v135 : BitVec 32) (k0_t13 : Fin (k0_t13_loop v125 v135).trips) : Fin 3 → Nat :=
  let c0_i32_186 : BitVec 32 := 0#32
  let v427 : Index := Scalar.indexCast c0_i32_186
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v428 : Index := Scalar.indexCast arg14
  let c416_187 : Index := 416#32
  ![0, v428.toNat, 416]
def k0_off448 (v125 : BitVec 32) (v135 : BitVec 32) (k0_t13 : Fin (k0_t13_loop v125 v135).trips) : Fin 3 → Nat :=
  let c0_i32_188 : BitVec 32 := 0#32
  let v431 : Index := Scalar.indexCast c0_i32_188
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v432 : Index := Scalar.indexCast arg14
  let c432_189 : Index := 432#32
  ![0, v432.toNat, 432]
def k0_off449 (v125 : BitVec 32) (v135 : BitVec 32) (k0_t13 : Fin (k0_t13_loop v125 v135).trips) : Fin 3 → Nat :=
  let c0_i32_190 : BitVec 32 := 0#32
  let v435 : Index := Scalar.indexCast c0_i32_190
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v436 : Index := Scalar.indexCast arg14
  let c448_191 : Index := 448#32
  ![0, v436.toNat, 448]
def k0_off450 (v125 : BitVec 32) (v135 : BitVec 32) (k0_t13 : Fin (k0_t13_loop v125 v135).trips) : Fin 3 → Nat :=
  let c0_i32_192 : BitVec 32 := 0#32
  let v439 : Index := Scalar.indexCast c0_i32_192
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v440 : Index := Scalar.indexCast arg14
  let c464_193 : Index := 464#32
  ![0, v440.toNat, 464]
def k0_off451 (v125 : BitVec 32) (v135 : BitVec 32) (k0_t13 : Fin (k0_t13_loop v125 v135).trips) : Fin 3 → Nat :=
  let c0_i32_194 : BitVec 32 := 0#32
  let v443 : Index := Scalar.indexCast c0_i32_194
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v444 : Index := Scalar.indexCast arg14
  let c480_195 : Index := 480#32
  ![0, v444.toNat, 480]
def k0_off452 (v125 : BitVec 32) (v135 : BitVec 32) (k0_t13 : Fin (k0_t13_loop v125 v135).trips) : Fin 3 → Nat :=
  let c0_i32_196 : BitVec 32 := 0#32
  let v447 : Index := Scalar.indexCast c0_i32_196
  let c64_i32_88 : BitVec 32 := 64#32
  let c0_i32_87 : BitVec 32 := 0#32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c64_i32_41 : BitVec 32 := 64#32
  let v44 : BitVec 32 := Scalar.muli v35 c64_i32_41
  let v136 : BitVec 32 := Scalar.subi v125 v44
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v44
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t13
  let v448 : Index := Scalar.indexCast arg14
  let c496_197 : Index := 496#32
  ![0, v448.toNat, 496]
def k0_off453 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v163 : Index := Scalar.indexCast arg12
  let c0_101 : Index := 0#32
  ![v163.toNat, 0]
def k0_off454 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v168 : Index := Scalar.indexCast arg12
  let c16 : Index := 16#32
  ![v168.toNat, 16]
def k0_off455 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v173 : Index := Scalar.indexCast arg12
  let c32 : Index := 32#32
  ![v173.toNat, 32]
def k0_off456 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v178 : Index := Scalar.indexCast arg12
  let c48 : Index := 48#32
  ![v178.toNat, 48]
def k0_off457 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v183 : Index := Scalar.indexCast arg12
  let c64 : Index := 64#32
  ![v183.toNat, 64]
def k0_off458 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v188 : Index := Scalar.indexCast arg12
  let c80 : Index := 80#32
  ![v188.toNat, 80]
def k0_off459 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v193 : Index := Scalar.indexCast arg12
  let c96 : Index := 96#32
  ![v193.toNat, 96]
def k0_off460 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v198 : Index := Scalar.indexCast arg12
  let c112 : Index := 112#32
  ![v198.toNat, 112]
def k0_off461 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v203 : Index := Scalar.indexCast arg12
  let c128 : Index := 128#32
  ![v203.toNat, 128]
def k0_off462 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v208 : Index := Scalar.indexCast arg12
  let c144 : Index := 144#32
  ![v208.toNat, 144]
def k0_off463 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v213 : Index := Scalar.indexCast arg12
  let c160 : Index := 160#32
  ![v213.toNat, 160]
def k0_off464 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v218 : Index := Scalar.indexCast arg12
  let c176 : Index := 176#32
  ![v218.toNat, 176]
def k0_off465 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v223 : Index := Scalar.indexCast arg12
  let c192 : Index := 192#32
  ![v223.toNat, 192]
def k0_off466 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v228 : Index := Scalar.indexCast arg12
  let c208 : Index := 208#32
  ![v228.toNat, 208]
def k0_off467 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v233 : Index := Scalar.indexCast arg12
  let c224 : Index := 224#32
  ![v233.toNat, 224]
def k0_off468 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v238 : Index := Scalar.indexCast arg12
  let c240 : Index := 240#32
  ![v238.toNat, 240]
def k0_off469 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v243 : Index := Scalar.indexCast arg12
  let c256 : Index := 256#32
  ![v243.toNat, 256]
def k0_off470 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v248 : Index := Scalar.indexCast arg12
  let c272 : Index := 272#32
  ![v248.toNat, 272]
def k0_off471 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v253 : Index := Scalar.indexCast arg12
  let c288 : Index := 288#32
  ![v253.toNat, 288]
def k0_off472 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v258 : Index := Scalar.indexCast arg12
  let c304 : Index := 304#32
  ![v258.toNat, 304]
def k0_off473 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v263 : Index := Scalar.indexCast arg12
  let c320 : Index := 320#32
  ![v263.toNat, 320]
def k0_off474 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v268 : Index := Scalar.indexCast arg12
  let c336 : Index := 336#32
  ![v268.toNat, 336]
def k0_off475 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v273 : Index := Scalar.indexCast arg12
  let c352 : Index := 352#32
  ![v273.toNat, 352]
def k0_off476 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v278 : Index := Scalar.indexCast arg12
  let c368 : Index := 368#32
  ![v278.toNat, 368]
def k0_off477 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v283 : Index := Scalar.indexCast arg12
  let c384 : Index := 384#32
  ![v283.toNat, 384]
def k0_off478 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v288 : Index := Scalar.indexCast arg12
  let c400 : Index := 400#32
  ![v288.toNat, 400]
def k0_off479 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v293 : Index := Scalar.indexCast arg12
  let c416 : Index := 416#32
  ![v293.toNat, 416]
def k0_off480 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v298 : Index := Scalar.indexCast arg12
  let c432 : Index := 432#32
  ![v298.toNat, 432]
def k0_off481 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v303 : Index := Scalar.indexCast arg12
  let c448 : Index := 448#32
  ![v303.toNat, 448]
def k0_off482 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v308 : Index := Scalar.indexCast arg12
  let c464 : Index := 464#32
  ![v308.toNat, 464]
def k0_off483 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v313 : Index := Scalar.indexCast arg12
  let c480 : Index := 480#32
  ![v313.toNat, 480]
def k0_off484 (v52 : BitVec 32) (v62 : BitVec 32) (k0_t9 : Fin (k0_t9_loop v52 v62).trips) : Fin 2 → Nat :=
  let c1_i32_46 : BitVec 32 := 1#32
  let v63 : BitVec 32 := Scalar.addi v62 c1_i32_46
  let v64 : BitVec 32 := Scalar.subi v63 v52
  let c1_i32_48 : BitVec 32 := 1#32
  let v66 : BitVec 32 := Scalar.divsi v64 c1_i32_48
  let v67 : BitVec 32 := Scalar.muli v66 c1_i32_48
  let v68 : BitVec 32 := Scalar.addi v52 v67
  let c1_i32_50 : BitVec 32 := 1#32
  let arg12 : BitVec 32 := Scf.iv v68 c1_i32_50 k0_t9
  let v318 : Index := Scalar.indexCast arg12
  let c496 : Index := 496#32
  ![v318.toNat, 496]

def k0_chk7_0 (v52 : BitVec 32) (v62 : BitVec 32) (k0_t9 : Fin (k0_t9_loop v52 v62).trips) (v125 : BitVec 32) (v135 : BitVec 32) : Prop :=
  (∀ (k0_h2 : k0_cond2 v125 v135 = 1#1), (k0_t10_loop v125 v135).OK) ∧
  (∀ k0_t10 : Fin (k0_t10_loop v125 v135).trips, ∀ (k0_h2 : k0_cond2 v125 v135 = 1#1), ∀ a, (k0_off261 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off262 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off263 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off264 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off265 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off266 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off267 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off268 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off269 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off270 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off271 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off272 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off273 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off274 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off275 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off276 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off277 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off278 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off279 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off280 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off281 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off282 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off283 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off284 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off285 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off286 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off287 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off288 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off289 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off290 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off291 v125 v135 k0_t10) a + S1x1x16.size a ≤ S2x64x512.size a)
def k0_chk7_1 (v52 : BitVec 32) (v62 : BitVec 32) (k0_t9 : Fin (k0_t9_loop v52 v62).trips) (v125 : BitVec 32) (v135 : BitVec 32) : Prop :=
  (∀ k0_t10 : Fin (k0_t10_loop v125 v135).trips, ∀ (k0_h2 : k0_cond2 v125 v135 = 1#1), ∀ (r : Fin 3), ∀ a, (k0_off292 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off293 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off294 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off295 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off296 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off297 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off298 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off299 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off300 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off301 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off302 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off303 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off304 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off305 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off306 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off307 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off308 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off309 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off310 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off311 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off312 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off313 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off314 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off315 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off316 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off317 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off318 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off319 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off320 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off321 v125 v135 k0_t10) a + S1x1x16.size a ≤ S2x64x512.size a) ∧
  (∀ k0_t10 : Fin (k0_t10_loop v125 v135).trips, ∀ (k0_h2 : k0_cond2 v125 v135 = 1#1), ∀ (r : Fin 3), ∀ a, (k0_off322 v125 v135 k0_t10 (BitVec.ofNat 32 (1 + r.val))) a + S1x1x16.size a ≤ S2x64x512.size a) ∧
  (∀ k0_t10 : Fin (k0_t10_loop v125 v135).trips, ∀ (k0_h2 : k0_cond2 v125 v135 = 1#1), ∀ a, (k0_off323 v125 v135 k0_t10) a + S1x1x16.size a ≤ S2x64x512.size a)
def k0_chk7_2 (v52 : BitVec 32) (v62 : BitVec 32) (k0_t9 : Fin (k0_t9_loop v52 v62).trips) (v125 : BitVec 32) (v135 : BitVec 32) : Prop :=
  (∀ k0_t10 : Fin (k0_t10_loop v125 v135).trips, ∀ (k0_h2 : k0_cond2 v125 v135 = 1#1), ∀ (r : Fin 3), ∀ a, (k0_off324 v125 v135 k0_t10 (BitVec.ofNat 32 (1 + r.val))) a + S1x1x16.size a ≤ S2x64x512.size a) ∧
  (∀ (k0_h2 : k0_cond2 v125 v135 = 1#1), (k0_t11_loop v125 v135).OK) ∧
  (∀ k0_t11 : Fin (k0_t11_loop v125 v135).trips, ∀ (k0_h2 : k0_cond2 v125 v135 = 1#1), ∀ a, (k0_off325 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off326 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off327 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off328 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off329 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off330 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off331 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off332 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off333 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off334 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off335 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off336 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off337 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off338 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off339 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off340 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off341 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off342 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off343 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off344 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off345 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off346 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off347 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off348 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off349 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off350 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off351 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off352 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off353 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off354 v125 v135 k0_t11 (BitVec.ofNat 32 (1 + r.val))) a + S1x1x16.size a ≤ S2x64x512.size a)
def k0_chk7_3 (v52 : BitVec 32) (v62 : BitVec 32) (k0_t9 : Fin (k0_t9_loop v52 v62).trips) (v125 : BitVec 32) (v135 : BitVec 32) : Prop :=
  (∀ k0_t11 : Fin (k0_t11_loop v125 v135).trips, ∀ (k0_h2 : k0_cond2 v125 v135 = 1#1), ∀ a, (k0_off355 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off356 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off357 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off358 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off359 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off360 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off361 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off362 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off363 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off364 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off365 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off366 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off367 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off368 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off369 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off370 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off371 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off372 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off373 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off374 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off375 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off376 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off377 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off378 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off379 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off380 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off381 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off382 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off383 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off384 v125 v135 k0_t11 (BitVec.ofNat 32 (1 + r.val))) a + S1x1x16.size a ≤ S2x64x512.size a) ∧
  (∀ k0_t11 : Fin (k0_t11_loop v125 v135).trips, ∀ (k0_h2 : k0_cond2 v125 v135 = 1#1), ∀ a, (k0_off385 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off386 v125 v135 k0_t11 (BitVec.ofNat 32 (1 + r.val))) a + S1x1x16.size a ≤ S2x64x512.size a)
def k0_chk7_4 (v52 : BitVec 32) (v62 : BitVec 32) (k0_t9 : Fin (k0_t9_loop v52 v62).trips) (v125 : BitVec 32) (v135 : BitVec 32) : Prop :=
  (∀ k0_t11 : Fin (k0_t11_loop v125 v135).trips, ∀ (k0_h2 : k0_cond2 v125 v135 = 1#1), ∀ a, (k0_off387 v125 v135 k0_t11) a + S1x1x16.size a ≤ S2x64x512.size a) ∧
  (∀ k0_t11 : Fin (k0_t11_loop v125 v135).trips, ∀ (k0_h2 : k0_cond2 v125 v135 = 1#1), ∀ (r : Fin 3), ∀ a, (k0_off388 v125 v135 k0_t11 (BitVec.ofNat 32 (1 + r.val))) a + S1x1x16.size a ≤ S2x64x512.size a) ∧
  (∀ (k0_h2 : k0_cond2 v125 v135 = 1#1), (k0_t12_loop v125 v135).OK) ∧
  (∀ k0_t12 : Fin (k0_t12_loop v125 v135).trips, ∀ (k0_h2 : k0_cond2 v125 v135 = 1#1), ∀ a, (k0_off389 v125 v135 k0_t12) a + S1x1x16.size a ≤ S2x64x512.size a) ∧
  (∀ k0_t12 : Fin (k0_t12_loop v125 v135).trips, ∀ (k0_h2 : k0_cond2 v125 v135 = 1#1), ∀ a, (k0_off390 v125 v135 k0_t12) a + S1x1x16.size a ≤ S2x64x512.size a) ∧
  (∀ k0_t12 : Fin (k0_t12_loop v125 v135).trips, ∀ (k0_h2 : k0_cond2 v125 v135 = 1#1), ∀ a, (k0_off391 v125 v135 k0_t12) a + S1x1x16.size a ≤ S2x64x512.size a) ∧
  (∀ k0_t12 : Fin (k0_t12_loop v125 v135).trips, ∀ (k0_h2 : k0_cond2 v125 v135 = 1#1), ∀ a, (k0_off392 v125 v135 k0_t12) a + S1x1x16.size a ≤ S2x64x512.size a) ∧
  (∀ k0_t12 : Fin (k0_t12_loop v125 v135).trips, ∀ (k0_h2 : k0_cond2 v125 v135 = 1#1), ∀ a, (k0_off393 v125 v135 k0_t12) a + S1x1x16.size a ≤ S2x64x512.size a) ∧
  (∀ k0_t12 : Fin (k0_t12_loop v125 v135).trips, ∀ (k0_h2 : k0_cond2 v125 v135 = 1#1), ∀ a, (k0_off394 v125 v135 k0_t12) a + S1x1x16.size a ≤ S2x64x512.size a) ∧
  (∀ k0_t12 : Fin (k0_t12_loop v125 v135).trips, ∀ (k0_h2 : k0_cond2 v125 v135 = 1#1), ∀ a, (k0_off395 v125 v135 k0_t12) a + S1x1x16.size a ≤ S2x64x512.size a) ∧
  (∀ k0_t12 : Fin (k0_t12_loop v125 v135).trips, ∀ (k0_h2 : k0_cond2 v125 v135 = 1#1), ∀ a, (k0_off396 v125 v135 k0_t12) a + S1x1x16.size a ≤ S2x64x512.size a) ∧
  (∀ k0_t12 : Fin (k0_t12_loop v125 v135).trips, ∀ (k0_h2 : k0_cond2 v125 v135 = 1#1), ∀ a, (k0_off397 v125 v135 k0_t12) a + S1x1x16.size a ≤ S2x64x512.size a) ∧
  (∀ k0_t12 : Fin (k0_t12_loop v125 v135).trips, ∀ (k0_h2 : k0_cond2 v125 v135 = 1#1), ∀ a, (k0_off398 v125 v135 k0_t12) a + S1x1x16.size a ≤ S2x64x512.size a) ∧
  (∀ k0_t12 : Fin (k0_t12_loop v125 v135).trips, ∀ (k0_h2 : k0_cond2 v125 v135 = 1#1), ∀ a, (k0_off399 v125 v135 k0_t12) a + S1x1x16.size a ≤ S2x64x512.size a) ∧
  (∀ k0_t12 : Fin (k0_t12_loop v125 v135).trips, ∀ (k0_h2 : k0_cond2 v125 v135 = 1#1), ∀ a, (k0_off400 v125 v135 k0_t12) a + S1x1x16.size a ≤ S2x64x512.size a) ∧
  (∀ k0_t12 : Fin (k0_t12_loop v125 v135).trips, ∀ (k0_h2 : k0_cond2 v125 v135 = 1#1), ∀ a, (k0_off401 v125 v135 k0_t12) a + S1x1x16.size a ≤ S2x64x512.size a) ∧
  (∀ k0_t12 : Fin (k0_t12_loop v125 v135).trips, ∀ (k0_h2 : k0_cond2 v125 v135 = 1#1), ∀ a, (k0_off402 v125 v135 k0_t12) a + S1x1x16.size a ≤ S2x64x512.size a) ∧
  (∀ k0_t12 : Fin (k0_t12_loop v125 v135).trips, ∀ (k0_h2 : k0_cond2 v125 v135 = 1#1), ∀ a, (k0_off403 v125 v135 k0_t12) a + S1x1x16.size a ≤ S2x64x512.size a) ∧
  (∀ k0_t12 : Fin (k0_t12_loop v125 v135).trips, ∀ (k0_h2 : k0_cond2 v125 v135 = 1#1), ∀ a, (k0_off404 v125 v135 k0_t12) a + S1x1x16.size a ≤ S2x64x512.size a) ∧
  (∀ k0_t12 : Fin (k0_t12_loop v125 v135).trips, ∀ (k0_h2 : k0_cond2 v125 v135 = 1#1), ∀ a, (k0_off405 v125 v135 k0_t12) a + S1x1x16.size a ≤ S2x64x512.size a) ∧
  (∀ k0_t12 : Fin (k0_t12_loop v125 v135).trips, ∀ (k0_h2 : k0_cond2 v125 v135 = 1#1), ∀ a, (k0_off406 v125 v135 k0_t12) a + S1x1x16.size a ≤ S2x64x512.size a) ∧
  (∀ k0_t12 : Fin (k0_t12_loop v125 v135).trips, ∀ (k0_h2 : k0_cond2 v125 v135 = 1#1), ∀ a, (k0_off407 v125 v135 k0_t12) a + S1x1x16.size a ≤ S2x64x512.size a) ∧
  (∀ k0_t12 : Fin (k0_t12_loop v125 v135).trips, ∀ (k0_h2 : k0_cond2 v125 v135 = 1#1), ∀ a, (k0_off408 v125 v135 k0_t12) a + S1x1x16.size a ≤ S2x64x512.size a) ∧
  (∀ k0_t12 : Fin (k0_t12_loop v125 v135).trips, ∀ (k0_h2 : k0_cond2 v125 v135 = 1#1), ∀ a, (k0_off409 v125 v135 k0_t12) a + S1x1x16.size a ≤ S2x64x512.size a) ∧
  (∀ k0_t12 : Fin (k0_t12_loop v125 v135).trips, ∀ (k0_h2 : k0_cond2 v125 v135 = 1#1), ∀ a, (k0_off410 v125 v135 k0_t12) a + S1x1x16.size a ≤ S2x64x512.size a) ∧
  (∀ k0_t12 : Fin (k0_t12_loop v125 v135).trips, ∀ (k0_h2 : k0_cond2 v125 v135 = 1#1), ∀ a, (k0_off411 v125 v135 k0_t12) a + S1x1x16.size a ≤ S2x64x512.size a) ∧
  (∀ k0_t12 : Fin (k0_t12_loop v125 v135).trips, ∀ (k0_h2 : k0_cond2 v125 v135 = 1#1), ∀ a, (k0_off412 v125 v135 k0_t12) a + S1x1x16.size a ≤ S2x64x512.size a) ∧
  (∀ k0_t12 : Fin (k0_t12_loop v125 v135).trips, ∀ (k0_h2 : k0_cond2 v125 v135 = 1#1), ∀ a, (k0_off413 v125 v135 k0_t12) a + S1x1x16.size a ≤ S2x64x512.size a) ∧
  (∀ k0_t12 : Fin (k0_t12_loop v125 v135).trips, ∀ (k0_h2 : k0_cond2 v125 v135 = 1#1), ∀ a, (k0_off414 v125 v135 k0_t12) a + S1x1x16.size a ≤ S2x64x512.size a) ∧
  (∀ k0_t12 : Fin (k0_t12_loop v125 v135).trips, ∀ (k0_h2 : k0_cond2 v125 v135 = 1#1), ∀ a, (k0_off415 v125 v135 k0_t12) a + S1x1x16.size a ≤ S2x64x512.size a) ∧
  (∀ k0_t12 : Fin (k0_t12_loop v125 v135).trips, ∀ (k0_h2 : k0_cond2 v125 v135 = 1#1), ∀ a, (k0_off416 v125 v135 k0_t12) a + S1x1x16.size a ≤ S2x64x512.size a) ∧
  (∀ k0_t12 : Fin (k0_t12_loop v125 v135).trips, ∀ (k0_h2 : k0_cond2 v125 v135 = 1#1), ∀ a, (k0_off417 v125 v135 k0_t12) a + S1x1x16.size a ≤ S2x64x512.size a)
def k0_chk7_5 (v52 : BitVec 32) (v62 : BitVec 32) (k0_t9 : Fin (k0_t9_loop v52 v62).trips) (v125 : BitVec 32) (v135 : BitVec 32) : Prop :=
  (∀ k0_t12 : Fin (k0_t12_loop v125 v135).trips, ∀ (k0_h2 : k0_cond2 v125 v135 = 1#1), ∀ a, (k0_off418 v125 v135 k0_t12) a + S1x1x16.size a ≤ S2x64x512.size a) ∧
  (∀ k0_t12 : Fin (k0_t12_loop v125 v135).trips, ∀ (k0_h2 : k0_cond2 v125 v135 = 1#1), ∀ a, (k0_off419 v125 v135 k0_t12) a + S1x1x16.size a ≤ S2x64x512.size a) ∧
  (∀ k0_t12 : Fin (k0_t12_loop v125 v135).trips, ∀ (k0_h2 : k0_cond2 v125 v135 = 1#1), ∀ a, (k0_off420 v125 v135 k0_t12) a + S1x1x16.size a ≤ S2x64x512.size a) ∧
  (∀ (k0_h2 : k0_cond2 v125 v135 = 1#1), (k0_t13_loop v125 v135).OK) ∧
  (∀ k0_t13 : Fin (k0_t13_loop v125 v135).trips, ∀ (k0_h2 : k0_cond2 v125 v135 = 1#1), ∀ a, (k0_off421 v125 v135 k0_t13) a + S1x1x16.size a ≤ S2x64x512.size a) ∧
  (∀ k0_t13 : Fin (k0_t13_loop v125 v135).trips, ∀ (k0_h2 : k0_cond2 v125 v135 = 1#1), ∀ a, (k0_off422 v125 v135 k0_t13) a + S1x1x16.size a ≤ S2x64x512.size a) ∧
  (∀ k0_t13 : Fin (k0_t13_loop v125 v135).trips, ∀ (k0_h2 : k0_cond2 v125 v135 = 1#1), ∀ a, (k0_off423 v125 v135 k0_t13) a + S1x1x16.size a ≤ S2x64x512.size a) ∧
  (∀ k0_t13 : Fin (k0_t13_loop v125 v135).trips, ∀ (k0_h2 : k0_cond2 v125 v135 = 1#1), ∀ a, (k0_off424 v125 v135 k0_t13) a + S1x1x16.size a ≤ S2x64x512.size a) ∧
  (∀ k0_t13 : Fin (k0_t13_loop v125 v135).trips, ∀ (k0_h2 : k0_cond2 v125 v135 = 1#1), ∀ a, (k0_off425 v125 v135 k0_t13) a + S1x1x16.size a ≤ S2x64x512.size a) ∧
  (∀ k0_t13 : Fin (k0_t13_loop v125 v135).trips, ∀ (k0_h2 : k0_cond2 v125 v135 = 1#1), ∀ a, (k0_off426 v125 v135 k0_t13) a + S1x1x16.size a ≤ S2x64x512.size a) ∧
  (∀ k0_t13 : Fin (k0_t13_loop v125 v135).trips, ∀ (k0_h2 : k0_cond2 v125 v135 = 1#1), ∀ a, (k0_off427 v125 v135 k0_t13) a + S1x1x16.size a ≤ S2x64x512.size a) ∧
  (∀ k0_t13 : Fin (k0_t13_loop v125 v135).trips, ∀ (k0_h2 : k0_cond2 v125 v135 = 1#1), ∀ a, (k0_off428 v125 v135 k0_t13) a + S1x1x16.size a ≤ S2x64x512.size a) ∧
  (∀ k0_t13 : Fin (k0_t13_loop v125 v135).trips, ∀ (k0_h2 : k0_cond2 v125 v135 = 1#1), ∀ a, (k0_off429 v125 v135 k0_t13) a + S1x1x16.size a ≤ S2x64x512.size a) ∧
  (∀ k0_t13 : Fin (k0_t13_loop v125 v135).trips, ∀ (k0_h2 : k0_cond2 v125 v135 = 1#1), ∀ a, (k0_off430 v125 v135 k0_t13) a + S1x1x16.size a ≤ S2x64x512.size a) ∧
  (∀ k0_t13 : Fin (k0_t13_loop v125 v135).trips, ∀ (k0_h2 : k0_cond2 v125 v135 = 1#1), ∀ a, (k0_off431 v125 v135 k0_t13) a + S1x1x16.size a ≤ S2x64x512.size a) ∧
  (∀ k0_t13 : Fin (k0_t13_loop v125 v135).trips, ∀ (k0_h2 : k0_cond2 v125 v135 = 1#1), ∀ a, (k0_off432 v125 v135 k0_t13) a + S1x1x16.size a ≤ S2x64x512.size a) ∧
  (∀ k0_t13 : Fin (k0_t13_loop v125 v135).trips, ∀ (k0_h2 : k0_cond2 v125 v135 = 1#1), ∀ a, (k0_off433 v125 v135 k0_t13) a + S1x1x16.size a ≤ S2x64x512.size a) ∧
  (∀ k0_t13 : Fin (k0_t13_loop v125 v135).trips, ∀ (k0_h2 : k0_cond2 v125 v135 = 1#1), ∀ a, (k0_off434 v125 v135 k0_t13) a + S1x1x16.size a ≤ S2x64x512.size a) ∧
  (∀ k0_t13 : Fin (k0_t13_loop v125 v135).trips, ∀ (k0_h2 : k0_cond2 v125 v135 = 1#1), ∀ a, (k0_off435 v125 v135 k0_t13) a + S1x1x16.size a ≤ S2x64x512.size a) ∧
  (∀ k0_t13 : Fin (k0_t13_loop v125 v135).trips, ∀ (k0_h2 : k0_cond2 v125 v135 = 1#1), ∀ a, (k0_off436 v125 v135 k0_t13) a + S1x1x16.size a ≤ S2x64x512.size a) ∧
  (∀ k0_t13 : Fin (k0_t13_loop v125 v135).trips, ∀ (k0_h2 : k0_cond2 v125 v135 = 1#1), ∀ a, (k0_off437 v125 v135 k0_t13) a + S1x1x16.size a ≤ S2x64x512.size a) ∧
  (∀ k0_t13 : Fin (k0_t13_loop v125 v135).trips, ∀ (k0_h2 : k0_cond2 v125 v135 = 1#1), ∀ a, (k0_off438 v125 v135 k0_t13) a + S1x1x16.size a ≤ S2x64x512.size a) ∧
  (∀ k0_t13 : Fin (k0_t13_loop v125 v135).trips, ∀ (k0_h2 : k0_cond2 v125 v135 = 1#1), ∀ a, (k0_off439 v125 v135 k0_t13) a + S1x1x16.size a ≤ S2x64x512.size a) ∧
  (∀ k0_t13 : Fin (k0_t13_loop v125 v135).trips, ∀ (k0_h2 : k0_cond2 v125 v135 = 1#1), ∀ a, (k0_off440 v125 v135 k0_t13) a + S1x1x16.size a ≤ S2x64x512.size a) ∧
  (∀ k0_t13 : Fin (k0_t13_loop v125 v135).trips, ∀ (k0_h2 : k0_cond2 v125 v135 = 1#1), ∀ a, (k0_off441 v125 v135 k0_t13) a + S1x1x16.size a ≤ S2x64x512.size a) ∧
  (∀ k0_t13 : Fin (k0_t13_loop v125 v135).trips, ∀ (k0_h2 : k0_cond2 v125 v135 = 1#1), ∀ a, (k0_off442 v125 v135 k0_t13) a + S1x1x16.size a ≤ S2x64x512.size a) ∧
  (∀ k0_t13 : Fin (k0_t13_loop v125 v135).trips, ∀ (k0_h2 : k0_cond2 v125 v135 = 1#1), ∀ a, (k0_off443 v125 v135 k0_t13) a + S1x1x16.size a ≤ S2x64x512.size a) ∧
  (∀ k0_t13 : Fin (k0_t13_loop v125 v135).trips, ∀ (k0_h2 : k0_cond2 v125 v135 = 1#1), ∀ a, (k0_off444 v125 v135 k0_t13) a + S1x1x16.size a ≤ S2x64x512.size a) ∧
  (∀ k0_t13 : Fin (k0_t13_loop v125 v135).trips, ∀ (k0_h2 : k0_cond2 v125 v135 = 1#1), ∀ a, (k0_off445 v125 v135 k0_t13) a + S1x1x16.size a ≤ S2x64x512.size a) ∧
  (∀ k0_t13 : Fin (k0_t13_loop v125 v135).trips, ∀ (k0_h2 : k0_cond2 v125 v135 = 1#1), ∀ a, (k0_off446 v125 v135 k0_t13) a + S1x1x16.size a ≤ S2x64x512.size a) ∧
  (∀ k0_t13 : Fin (k0_t13_loop v125 v135).trips, ∀ (k0_h2 : k0_cond2 v125 v135 = 1#1), ∀ a, (k0_off447 v125 v135 k0_t13) a + S1x1x16.size a ≤ S2x64x512.size a) ∧
  (∀ k0_t13 : Fin (k0_t13_loop v125 v135).trips, ∀ (k0_h2 : k0_cond2 v125 v135 = 1#1), ∀ a, (k0_off448 v125 v135 k0_t13) a + S1x1x16.size a ≤ S2x64x512.size a)
def k0_chk7_6 (v52 : BitVec 32) (v62 : BitVec 32) (k0_t9 : Fin (k0_t9_loop v52 v62).trips) (v125 : BitVec 32) (v135 : BitVec 32) : Prop :=
  (∀ k0_t13 : Fin (k0_t13_loop v125 v135).trips, ∀ (k0_h2 : k0_cond2 v125 v135 = 1#1), ∀ a, (k0_off449 v125 v135 k0_t13) a + S1x1x16.size a ≤ S2x64x512.size a) ∧
  (∀ k0_t13 : Fin (k0_t13_loop v125 v135).trips, ∀ (k0_h2 : k0_cond2 v125 v135 = 1#1), ∀ a, (k0_off450 v125 v135 k0_t13) a + S1x1x16.size a ≤ S2x64x512.size a) ∧
  (∀ k0_t13 : Fin (k0_t13_loop v125 v135).trips, ∀ (k0_h2 : k0_cond2 v125 v135 = 1#1), ∀ a, (k0_off451 v125 v135 k0_t13) a + S1x1x16.size a ≤ S2x64x512.size a) ∧
  (∀ k0_t13 : Fin (k0_t13_loop v125 v135).trips, ∀ (k0_h2 : k0_cond2 v125 v135 = 1#1), ∀ a, (k0_off452 v125 v135 k0_t13) a + S1x1x16.size a ≤ S2x64x512.size a) ∧
  (∀ (k0_h2 : k0_cond2 v125 v135 = 1#1), ∀ a, (k0_off453 v52 v62 k0_t9) a + S1x16.size a ≤ S16x512.size a) ∧
  (∀ (k0_h2 : k0_cond2 v125 v135 = 1#1), ∀ a, (k0_off454 v52 v62 k0_t9) a + S1x16.size a ≤ S16x512.size a) ∧
  (∀ (k0_h2 : k0_cond2 v125 v135 = 1#1), ∀ a, (k0_off455 v52 v62 k0_t9) a + S1x16.size a ≤ S16x512.size a) ∧
  (∀ (k0_h2 : k0_cond2 v125 v135 = 1#1), ∀ a, (k0_off456 v52 v62 k0_t9) a + S1x16.size a ≤ S16x512.size a) ∧
  (∀ (k0_h2 : k0_cond2 v125 v135 = 1#1), ∀ a, (k0_off457 v52 v62 k0_t9) a + S1x16.size a ≤ S16x512.size a) ∧
  (∀ (k0_h2 : k0_cond2 v125 v135 = 1#1), ∀ a, (k0_off458 v52 v62 k0_t9) a + S1x16.size a ≤ S16x512.size a) ∧
  (∀ (k0_h2 : k0_cond2 v125 v135 = 1#1), ∀ a, (k0_off459 v52 v62 k0_t9) a + S1x16.size a ≤ S16x512.size a) ∧
  (∀ (k0_h2 : k0_cond2 v125 v135 = 1#1), ∀ a, (k0_off460 v52 v62 k0_t9) a + S1x16.size a ≤ S16x512.size a) ∧
  (∀ (k0_h2 : k0_cond2 v125 v135 = 1#1), ∀ a, (k0_off461 v52 v62 k0_t9) a + S1x16.size a ≤ S16x512.size a) ∧
  (∀ (k0_h2 : k0_cond2 v125 v135 = 1#1), ∀ a, (k0_off462 v52 v62 k0_t9) a + S1x16.size a ≤ S16x512.size a) ∧
  (∀ (k0_h2 : k0_cond2 v125 v135 = 1#1), ∀ a, (k0_off463 v52 v62 k0_t9) a + S1x16.size a ≤ S16x512.size a) ∧
  (∀ (k0_h2 : k0_cond2 v125 v135 = 1#1), ∀ a, (k0_off464 v52 v62 k0_t9) a + S1x16.size a ≤ S16x512.size a) ∧
  (∀ (k0_h2 : k0_cond2 v125 v135 = 1#1), ∀ a, (k0_off465 v52 v62 k0_t9) a + S1x16.size a ≤ S16x512.size a) ∧
  (∀ (k0_h2 : k0_cond2 v125 v135 = 1#1), ∀ a, (k0_off466 v52 v62 k0_t9) a + S1x16.size a ≤ S16x512.size a) ∧
  (∀ (k0_h2 : k0_cond2 v125 v135 = 1#1), ∀ a, (k0_off467 v52 v62 k0_t9) a + S1x16.size a ≤ S16x512.size a) ∧
  (∀ (k0_h2 : k0_cond2 v125 v135 = 1#1), ∀ a, (k0_off468 v52 v62 k0_t9) a + S1x16.size a ≤ S16x512.size a) ∧
  (∀ (k0_h2 : k0_cond2 v125 v135 = 1#1), ∀ a, (k0_off469 v52 v62 k0_t9) a + S1x16.size a ≤ S16x512.size a) ∧
  (∀ (k0_h2 : k0_cond2 v125 v135 = 1#1), ∀ a, (k0_off470 v52 v62 k0_t9) a + S1x16.size a ≤ S16x512.size a) ∧
  (∀ (k0_h2 : k0_cond2 v125 v135 = 1#1), ∀ a, (k0_off471 v52 v62 k0_t9) a + S1x16.size a ≤ S16x512.size a) ∧
  (∀ (k0_h2 : k0_cond2 v125 v135 = 1#1), ∀ a, (k0_off472 v52 v62 k0_t9) a + S1x16.size a ≤ S16x512.size a) ∧
  (∀ (k0_h2 : k0_cond2 v125 v135 = 1#1), ∀ a, (k0_off473 v52 v62 k0_t9) a + S1x16.size a ≤ S16x512.size a) ∧
  (∀ (k0_h2 : k0_cond2 v125 v135 = 1#1), ∀ a, (k0_off474 v52 v62 k0_t9) a + S1x16.size a ≤ S16x512.size a) ∧
  (∀ (k0_h2 : k0_cond2 v125 v135 = 1#1), ∀ a, (k0_off475 v52 v62 k0_t9) a + S1x16.size a ≤ S16x512.size a) ∧
  (∀ (k0_h2 : k0_cond2 v125 v135 = 1#1), ∀ a, (k0_off476 v52 v62 k0_t9) a + S1x16.size a ≤ S16x512.size a) ∧
  (∀ (k0_h2 : k0_cond2 v125 v135 = 1#1), ∀ a, (k0_off477 v52 v62 k0_t9) a + S1x16.size a ≤ S16x512.size a) ∧
  (∀ (k0_h2 : k0_cond2 v125 v135 = 1#1), ∀ a, (k0_off478 v52 v62 k0_t9) a + S1x16.size a ≤ S16x512.size a) ∧
  (∀ (k0_h2 : k0_cond2 v125 v135 = 1#1), ∀ a, (k0_off479 v52 v62 k0_t9) a + S1x16.size a ≤ S16x512.size a) ∧
  (∀ (k0_h2 : k0_cond2 v125 v135 = 1#1), ∀ a, (k0_off480 v52 v62 k0_t9) a + S1x16.size a ≤ S16x512.size a)
def k0_chk7_7 (v52 : BitVec 32) (v62 : BitVec 32) (k0_t9 : Fin (k0_t9_loop v52 v62).trips) (v125 : BitVec 32) (v135 : BitVec 32) : Prop :=
  (∀ (k0_h2 : k0_cond2 v125 v135 = 1#1), ∀ a, (k0_off481 v52 v62 k0_t9) a + S1x16.size a ≤ S16x512.size a) ∧
  (∀ (k0_h2 : k0_cond2 v125 v135 = 1#1), ∀ a, (k0_off482 v52 v62 k0_t9) a + S1x16.size a ≤ S16x512.size a) ∧
  (∀ (k0_h2 : k0_cond2 v125 v135 = 1#1), ∀ a, (k0_off483 v52 v62 k0_t9) a + S1x16.size a ≤ S16x512.size a) ∧
  (∀ (k0_h2 : k0_cond2 v125 v135 = 1#1), ∀ a, (k0_off484 v52 v62 k0_t9) a + S1x16.size a ≤ S16x512.size a)
def k0_chk7 (v52 : BitVec 32) (v62 : BitVec 32) (k0_t9 : Fin (k0_t9_loop v52 v62).trips) (v125 : BitVec 32) (v135 : BitVec 32) : Prop :=
  k0_chk7_0 v52 v62 k0_t9 v125 v135 ∧
  k0_chk7_1 v52 v62 k0_t9 v125 v135 ∧
  k0_chk7_2 v52 v62 k0_t9 v125 v135 ∧
  k0_chk7_3 v52 v62 k0_t9 v125 v135 ∧
  k0_chk7_4 v52 v62 k0_t9 v125 v135 ∧
  k0_chk7_5 v52 v62 k0_t9 v125 v135 ∧
  k0_chk7_6 v52 v62 k0_t9 v125 v135 ∧
  k0_chk7_7 v52 v62 k0_t9 v125 v135
theorem k0_t10_ok : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), (k0_t10_loop v125 v135).OK := fun v52 v62 k0_t9 v125 v135 k0_hw7 k0_h2 => k0_hw7.1.1 k0_h2
theorem k0_off261_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off261 v125 v135 k0_t10) a + S1x1x16.size a ≤ S2x64x512.size a := fun v52 v62 k0_t9 v125 v135 k0_hw7 k0_t10 k0_h2 => k0_hw7.1.2.1 k0_t10 k0_h2
theorem k0_off262_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off262 v125 v135 k0_t10 (BitVec.ofNat 32 (1 + r.val))) a + S1x1x16.size a ≤ S2x64x512.size a := fun v52 v62 k0_t9 v125 v135 k0_hw7 k0_t10 k0_h2 r => k0_hw7.1.2.2.1 k0_t10 k0_h2 r
theorem k0_off263_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off263 v125 v135 k0_t10) a + S1x1x16.size a ≤ S2x64x512.size a := fun v52 v62 k0_t9 v125 v135 k0_hw7 k0_t10 k0_h2 => k0_hw7.1.2.2.2.1 k0_t10 k0_h2
theorem k0_off264_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off264 v125 v135 k0_t10 (BitVec.ofNat 32 (1 + r.val))) a + S1x1x16.size a ≤ S2x64x512.size a := fun v52 v62 k0_t9 v125 v135 k0_hw7 k0_t10 k0_h2 r => k0_hw7.1.2.2.2.2.1 k0_t10 k0_h2 r
theorem k0_off265_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off265 v125 v135 k0_t10) a + S1x1x16.size a ≤ S2x64x512.size a := fun v52 v62 k0_t9 v125 v135 k0_hw7 k0_t10 k0_h2 => k0_hw7.1.2.2.2.2.2.1 k0_t10 k0_h2
theorem k0_off266_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off266 v125 v135 k0_t10 (BitVec.ofNat 32 (1 + r.val))) a + S1x1x16.size a ≤ S2x64x512.size a := fun v52 v62 k0_t9 v125 v135 k0_hw7 k0_t10 k0_h2 r => k0_hw7.1.2.2.2.2.2.2.1 k0_t10 k0_h2 r
theorem k0_off267_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off267 v125 v135 k0_t10) a + S1x1x16.size a ≤ S2x64x512.size a := fun v52 v62 k0_t9 v125 v135 k0_hw7 k0_t10 k0_h2 => k0_hw7.1.2.2.2.2.2.2.2.1 k0_t10 k0_h2
theorem k0_off268_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off268 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.1 k0_t10 k0_h2 r
theorem k0_off269_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off269 v125 v135 k0_t10) a + S1x1x16.size a ≤ S2x64x512.size a := fun v52 v62 k0_t9 v125 v135 k0_hw7 k0_t10 k0_h2 => k0_hw7.1.2.2.2.2.2.2.2.2.2.1 k0_t10 k0_h2
theorem k0_off270_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off270 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.1 k0_t10 k0_h2 r
theorem k0_off271_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off271 v125 v135 k0_t10) a + S1x1x16.size a ≤ S2x64x512.size a := fun v52 v62 k0_t9 v125 v135 k0_hw7 k0_t10 k0_h2 => k0_hw7.1.2.2.2.2.2.2.2.2.2.2.2.1 k0_t10 k0_h2
theorem k0_off272_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off272 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.1 k0_t10 k0_h2 r
theorem k0_off273_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off273 v125 v135 k0_t10) a + S1x1x16.size a ≤ S2x64x512.size a := fun v52 v62 k0_t9 v125 v135 k0_hw7 k0_t10 k0_h2 => k0_hw7.1.2.2.2.2.2.2.2.2.2.2.2.2.2.1 k0_t10 k0_h2
theorem k0_off274_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off274 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.1 k0_t10 k0_h2 r
theorem k0_off275_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off275 v125 v135 k0_t10) a + S1x1x16.size a ≤ S2x64x512.size a := fun v52 v62 k0_t9 v125 v135 k0_hw7 k0_t10 k0_h2 => k0_hw7.1.2.2.2.2.2.2.2.2.2.2.2.2.2.2.2.1 k0_t10 k0_h2
theorem k0_off276_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off276 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.1 k0_t10 k0_h2 r
theorem k0_off277_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off277 v125 v135 k0_t10) a + S1x1x16.size a ≤ S2x64x512.size a := fun v52 v62 k0_t9 v125 v135 k0_hw7 k0_t10 k0_h2 => k0_hw7.1.2.2.2.2.2.2.2.2.2.2.2.2.2.2.2.2.2.1 k0_t10 k0_h2
theorem k0_off278_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off278 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.2.2.1 k0_t10 k0_h2 r
theorem k0_off279_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off279 v125 v135 k0_t10) a + S1x1x16.size a ≤ S2x64x512.size a := fun v52 v62 k0_t9 v125 v135 k0_hw7 k0_t10 k0_h2 => k0_hw7.1.2.2.2.2.2.2.2.2.2.2.2.2.2.2.2.2.2.2.2.1 k0_t10 k0_h2
theorem k0_off280_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off280 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.2.2.2.2.1 k0_t10 k0_h2 r
theorem k0_off281_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off281 v125 v135 k0_t10) a + S1x1x16.size a ≤ S2x64x512.size a := fun v52 v62 k0_t9 v125 v135 k0_hw7 k0_t10 k0_h2 => k0_hw7.1.2.2.2.2.2.2.2.2.2.2.2.2.2.2.2.2.2.2.2.2.2.1 k0_t10 k0_h2
theorem k0_off282_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off282 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.2.2.2.2.2.2.1 k0_t10 k0_h2 r
theorem k0_off283_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off283 v125 v135 k0_t10) a + S1x1x16.size a ≤ S2x64x512.size a := fun v52 v62 k0_t9 v125 v135 k0_hw7 k0_t10 k0_h2 => k0_hw7.1.2.2.2.2.2.2.2.2.2.2.2.2.2.2.2.2.2.2.2.2.2.2.2.1 k0_t10 k0_h2
theorem k0_off284_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off284 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.2.2.2.2.2.2.2.2.1 k0_t10 k0_h2 r
theorem k0_off285_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off285 v125 v135 k0_t10) a + S1x1x16.size a ≤ S2x64x512.size a := fun v52 v62 k0_t9 v125 v135 k0_hw7 k0_t10 k0_h2 => k0_hw7.1.2.2.2.2.2.2.2.2.2.2.2.2.2.2.2.2.2.2.2.2.2.2.2.2.2.1 k0_t10 k0_h2
theorem k0_off286_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off286 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.2.2.2.2.2.2.2.2.2.2.1 k0_t10 k0_h2 r
theorem k0_off287_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off287 v125 v135 k0_t10) a + S1x1x16.size a ≤ S2x64x512.size a := fun v52 v62 k0_t9 v125 v135 k0_hw7 k0_t10 k0_h2 => k0_hw7.1.2.2.2.2.2.2.2.2.2.2.2.2.2.2.2.2.2.2.2.2.2.2.2.2.2.2.2.1 k0_t10 k0_h2
theorem k0_off288_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off288 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.2.2.2.2.2.2.2.2.2.2.2.2.1 k0_t10 k0_h2 r
theorem k0_off289_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off289 v125 v135 k0_t10) a + S1x1x16.size a ≤ S2x64x512.size a := fun v52 v62 k0_t9 v125 v135 k0_hw7 k0_t10 k0_h2 => k0_hw7.1.2.2.2.2.2.2.2.2.2.2.2.2.2.2.2.2.2.2.2.2.2.2.2.2.2.2.2.2.2.1 k0_t10 k0_h2
theorem k0_off290_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off290 v125 v135 k0_t10 (BitVec.ofNat 32 (1 + r.val))) a + S1x1x16.size a ≤ S2x64x512.size a := fun v52 v62 k0_t9 v125 v135 k0_hw7 k0_t10 k0_h2 r => k0_hw7.1.2.2.2.2.2.2.2.2.2.2.2.2.2.2.2.2.2.2.2.2.2.2.2.2.2.2.2.2.2.2.1 k0_t10 k0_h2 r
theorem k0_off291_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off291 v125 v135 k0_t10) a + S1x1x16.size a ≤ S2x64x512.size a := fun v52 v62 k0_t9 v125 v135 k0_hw7 k0_t10 k0_h2 => k0_hw7.1.2.2.2.2.2.2.2.2.2.2.2.2.2.2.2.2.2.2.2.2.2.2.2.2.2.2.2.2.2.2.2 k0_t10 k0_h2
theorem k0_off292_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off292 v125 v135 k0_t10 (BitVec.ofNat 32 (1 + r.val))) a + S1x1x16.size a ≤ S2x64x512.size a := fun v52 v62 k0_t9 v125 v135 k0_hw7 k0_t10 k0_h2 r => k0_hw7.2.1.1 k0_t10 k0_h2 r
theorem k0_off293_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off293 v125 v135 k0_t10) a + S1x1x16.size a ≤ S2x64x512.size a := fun v52 v62 k0_t9 v125 v135 k0_hw7 k0_t10 k0_h2 => k0_hw7.2.1.2.1 k0_t10 k0_h2
theorem k0_off294_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off294 v125 v135 k0_t10 (BitVec.ofNat 32 (1 + r.val))) a + S1x1x16.size a ≤ S2x64x512.size a := fun v52 v62 k0_t9 v125 v135 k0_hw7 k0_t10 k0_h2 r => k0_hw7.2.1.2.2.1 k0_t10 k0_h2 r
theorem k0_off295_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off295 v125 v135 k0_t10) a + S1x1x16.size a ≤ S2x64x512.size a := fun v52 v62 k0_t9 v125 v135 k0_hw7 k0_t10 k0_h2 => k0_hw7.2.1.2.2.2.1 k0_t10 k0_h2
theorem k0_off296_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off296 v125 v135 k0_t10 (BitVec.ofNat 32 (1 + r.val))) a + S1x1x16.size a ≤ S2x64x512.size a := fun v52 v62 k0_t9 v125 v135 k0_hw7 k0_t10 k0_h2 r => k0_hw7.2.1.2.2.2.2.1 k0_t10 k0_h2 r
theorem k0_off297_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off297 v125 v135 k0_t10) a + S1x1x16.size a ≤ S2x64x512.size a := fun v52 v62 k0_t9 v125 v135 k0_hw7 k0_t10 k0_h2 => k0_hw7.2.1.2.2.2.2.2.1 k0_t10 k0_h2
theorem k0_off298_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off298 v125 v135 k0_t10 (BitVec.ofNat 32 (1 + r.val))) a + S1x1x16.size a ≤ S2x64x512.size a := fun v52 v62 k0_t9 v125 v135 k0_hw7 k0_t10 k0_h2 r => k0_hw7.2.1.2.2.2.2.2.2.1 k0_t10 k0_h2 r
theorem k0_off299_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off299 v125 v135 k0_t10) a + S1x1x16.size a ≤ S2x64x512.size a := fun v52 v62 k0_t9 v125 v135 k0_hw7 k0_t10 k0_h2 => k0_hw7.2.1.2.2.2.2.2.2.2.1 k0_t10 k0_h2
theorem k0_off300_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off300 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.1 k0_t10 k0_h2 r
theorem k0_off301_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off301 v125 v135 k0_t10) a + S1x1x16.size a ≤ S2x64x512.size a := fun v52 v62 k0_t9 v125 v135 k0_hw7 k0_t10 k0_h2 => k0_hw7.2.1.2.2.2.2.2.2.2.2.2.1 k0_t10 k0_h2
theorem k0_off302_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off302 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.1 k0_t10 k0_h2 r
theorem k0_off303_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off303 v125 v135 k0_t10) a + S1x1x16.size a ≤ S2x64x512.size a := fun v52 v62 k0_t9 v125 v135 k0_hw7 k0_t10 k0_h2 => k0_hw7.2.1.2.2.2.2.2.2.2.2.2.2.2.1 k0_t10 k0_h2
theorem k0_off304_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off304 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.1 k0_t10 k0_h2 r
theorem k0_off305_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off305 v125 v135 k0_t10) a + S1x1x16.size a ≤ S2x64x512.size a := fun v52 v62 k0_t9 v125 v135 k0_hw7 k0_t10 k0_h2 => k0_hw7.2.1.2.2.2.2.2.2.2.2.2.2.2.2.2.1 k0_t10 k0_h2
theorem k0_off306_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off306 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.1 k0_t10 k0_h2 r
theorem k0_off307_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off307 v125 v135 k0_t10) a + S1x1x16.size a ≤ S2x64x512.size a := fun v52 v62 k0_t9 v125 v135 k0_hw7 k0_t10 k0_h2 => k0_hw7.2.1.2.2.2.2.2.2.2.2.2.2.2.2.2.2.2.1 k0_t10 k0_h2
theorem k0_off308_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off308 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.1 k0_t10 k0_h2 r
theorem k0_off309_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off309 v125 v135 k0_t10) a + S1x1x16.size a ≤ S2x64x512.size a := fun v52 v62 k0_t9 v125 v135 k0_hw7 k0_t10 k0_h2 => k0_hw7.2.1.2.2.2.2.2.2.2.2.2.2.2.2.2.2.2.2.2.1 k0_t10 k0_h2
theorem k0_off310_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off310 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.2.2.1 k0_t10 k0_h2 r
theorem k0_off311_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off311 v125 v135 k0_t10) a + S1x1x16.size a ≤ S2x64x512.size a := fun v52 v62 k0_t9 v125 v135 k0_hw7 k0_t10 k0_h2 => k0_hw7.2.1.2.2.2.2.2.2.2.2.2.2.2.2.2.2.2.2.2.2.2.1 k0_t10 k0_h2
theorem k0_off312_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off312 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.2.2.2.2.1 k0_t10 k0_h2 r
theorem k0_off313_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off313 v125 v135 k0_t10) a + S1x1x16.size a ≤ S2x64x512.size a := fun v52 v62 k0_t9 v125 v135 k0_hw7 k0_t10 k0_h2 => k0_hw7.2.1.2.2.2.2.2.2.2.2.2.2.2.2.2.2.2.2.2.2.2.2.2.1 k0_t10 k0_h2
theorem k0_off314_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off314 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.2.2.2.2.2.2.1 k0_t10 k0_h2 r
theorem k0_off315_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off315 v125 v135 k0_t10) a + S1x1x16.size a ≤ S2x64x512.size a := fun v52 v62 k0_t9 v125 v135 k0_hw7 k0_t10 k0_h2 => k0_hw7.2.1.2.2.2.2.2.2.2.2.2.2.2.2.2.2.2.2.2.2.2.2.2.2.2.1 k0_t10 k0_h2
theorem k0_off316_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off316 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.2.2.2.2.2.2.2.2.1 k0_t10 k0_h2 r
theorem k0_off317_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off317 v125 v135 k0_t10) a + S1x1x16.size a ≤ S2x64x512.size a := fun v52 v62 k0_t9 v125 v135 k0_hw7 k0_t10 k0_h2 => k0_hw7.2.1.2.2.2.2.2.2.2.2.2.2.2.2.2.2.2.2.2.2.2.2.2.2.2.2.2.1 k0_t10 k0_h2
theorem k0_off318_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off318 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.2.2.2.2.2.2.2.2.2.2.1 k0_t10 k0_h2 r
theorem k0_off319_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off319 v125 v135 k0_t10) a + S1x1x16.size a ≤ S2x64x512.size a := fun v52 v62 k0_t9 v125 v135 k0_hw7 k0_t10 k0_h2 => k0_hw7.2.1.2.2.2.2.2.2.2.2.2.2.2.2.2.2.2.2.2.2.2.2.2.2.2.2.2.2.2.1 k0_t10 k0_h2
theorem k0_off320_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off320 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.2.2.2.2.2.2.2.2.2.2.2.2.1 k0_t10 k0_h2 r
theorem k0_off321_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off321 v125 v135 k0_t10) a + S1x1x16.size a ≤ S2x64x512.size a := fun v52 v62 k0_t9 v125 v135 k0_hw7 k0_t10 k0_h2 => k0_hw7.2.1.2.2.2.2.2.2.2.2.2.2.2.2.2.2.2.2.2.2.2.2.2.2.2.2.2.2.2.2.2.1 k0_t10 k0_h2
theorem k0_off322_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off322 v125 v135 k0_t10 (BitVec.ofNat 32 (1 + r.val))) a + S1x1x16.size a ≤ S2x64x512.size a := fun v52 v62 k0_t9 v125 v135 k0_hw7 k0_t10 k0_h2 r => k0_hw7.2.1.2.2.2.2.2.2.2.2.2.2.2.2.2.2.2.2.2.2.2.2.2.2.2.2.2.2.2.2.2.2.1 k0_t10 k0_h2 r
theorem k0_off323_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ a, (k0_off323 v125 v135 k0_t10) a + S1x1x16.size a ≤ S2x64x512.size a := fun v52 v62 k0_t9 v125 v135 k0_hw7 k0_t10 k0_h2 => k0_hw7.2.1.2.2.2.2.2.2.2.2.2.2.2.2.2.2.2.2.2.2.2.2.2.2.2.2.2.2.2.2.2.2.2 k0_t10 k0_h2
theorem k0_off324_inb : ∀ (v52 : BitVec 32) (v62 : BitVec 32) (k0_t9 : Fin (k0_t9_loop v52 v62).trips) (v125 : BitVec 32) (v135 : BitVec 32) (k0_hw7 : k0_chk7 v52 v62 k0_t9 v125 v135) (k0_t10 : Fin (k0_t10_loop v125 v135).trips), ∀ (k0_h2 : k0_cond2 v125 v135 = 1#1), ∀ (r : Fin 3), ∀ a, (k0_off324 v125 v135 k0_t10 (BitVec.ofNat 32 (1 + r.val))) a + S1x1x16.size a ≤ S2x64x512.size a := fun v52 v62 k0_t9 v125 v135 k0_hw7 k0_t10 k0_h2 r => k0_hw7.2.2.1.1 k0_t10 k0_h2 r
theorem k0_t11_ok : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), (k0_t11_loop v125 v135).OK := fun v52 v62 k0_t9 v125 v135 k0_hw7 k0_h2 => k0_hw7.2.2.1.2.1 k0_h2
theorem k0_off325_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off325 v125 v135 k0_t11) a + S1x1x16.size a ≤ S2x64x512.size a := fun v52 v62 k0_t9 v125 v135 k0_hw7 k0_t11 k0_h2 => k0_hw7.2.2.1.2.2.1 k0_t11 k0_h2
theorem k0_off326_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off326 v125 v135 k0_t11 (BitVec.ofNat 32 (1 + r.val))) a + S1x1x16.size a ≤ S2x64x512.size a := fun v52 v62 k0_t9 v125 v135 k0_hw7 k0_t11 k0_h2 r => k0_hw7.2.2.1.2.2.2.1 k0_t11 k0_h2 r
theorem k0_off327_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off327 v125 v135 k0_t11) a + S1x1x16.size a ≤ S2x64x512.size a := fun v52 v62 k0_t9 v125 v135 k0_hw7 k0_t11 k0_h2 => k0_hw7.2.2.1.2.2.2.2.1 k0_t11 k0_h2
theorem k0_off328_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off328 v125 v135 k0_t11 (BitVec.ofNat 32 (1 + r.val))) a + S1x1x16.size a ≤ S2x64x512.size a := fun v52 v62 k0_t9 v125 v135 k0_hw7 k0_t11 k0_h2 r => k0_hw7.2.2.1.2.2.2.2.2.1 k0_t11 k0_h2 r
theorem k0_off329_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off329 v125 v135 k0_t11) a + S1x1x16.size a ≤ S2x64x512.size a := fun v52 v62 k0_t9 v125 v135 k0_hw7 k0_t11 k0_h2 => k0_hw7.2.2.1.2.2.2.2.2.2.1 k0_t11 k0_h2
theorem k0_off330_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off330 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.1 k0_t11 k0_h2 r
theorem k0_off331_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off331 v125 v135 k0_t11) a + S1x1x16.size a ≤ S2x64x512.size a := fun v52 v62 k0_t9 v125 v135 k0_hw7 k0_t11 k0_h2 => k0_hw7.2.2.1.2.2.2.2.2.2.2.2.1 k0_t11 k0_h2
theorem k0_off332_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off332 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.1 k0_t11 k0_h2 r
theorem k0_off333_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off333 v125 v135 k0_t11) a + S1x1x16.size a ≤ S2x64x512.size a := fun v52 v62 k0_t9 v125 v135 k0_hw7 k0_t11 k0_h2 => k0_hw7.2.2.1.2.2.2.2.2.2.2.2.2.2.1 k0_t11 k0_h2
theorem k0_off334_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off334 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.1 k0_t11 k0_h2 r
theorem k0_off335_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off335 v125 v135 k0_t11) a + S1x1x16.size a ≤ S2x64x512.size a := fun v52 v62 k0_t9 v125 v135 k0_hw7 k0_t11 k0_h2 => k0_hw7.2.2.1.2.2.2.2.2.2.2.2.2.2.2.2.1 k0_t11 k0_h2
theorem k0_off336_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off336 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.1 k0_t11 k0_h2 r
theorem k0_off337_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off337 v125 v135 k0_t11) a + S1x1x16.size a ≤ S2x64x512.size a := fun v52 v62 k0_t9 v125 v135 k0_hw7 k0_t11 k0_h2 => k0_hw7.2.2.1.2.2.2.2.2.2.2.2.2.2.2.2.2.2.1 k0_t11 k0_h2
theorem k0_off338_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off338 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.1 k0_t11 k0_h2 r
theorem k0_off339_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off339 v125 v135 k0_t11) a + S1x1x16.size a ≤ S2x64x512.size a := fun v52 v62 k0_t9 v125 v135 k0_hw7 k0_t11 k0_h2 => k0_hw7.2.2.1.2.2.2.2.2.2.2.2.2.2.2.2.2.2.2.2.1 k0_t11 k0_h2
theorem k0_off340_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off340 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.1 k0_t11 k0_h2 r
theorem k0_off341_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off341 v125 v135 k0_t11) a + S1x1x16.size a ≤ S2x64x512.size a := fun v52 v62 k0_t9 v125 v135 k0_hw7 k0_t11 k0_h2 => k0_hw7.2.2.1.2.2.2.2.2.2.2.2.2.2.2.2.2.2.2.2.2.2.1 k0_t11 k0_h2
theorem k0_off342_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off342 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.2.2.1 k0_t11 k0_h2 r
theorem k0_off343_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off343 v125 v135 k0_t11) a + S1x1x16.size a ≤ S2x64x512.size a := fun v52 v62 k0_t9 v125 v135 k0_hw7 k0_t11 k0_h2 => k0_hw7.2.2.1.2.2.2.2.2.2.2.2.2.2.2.2.2.2.2.2.2.2.2.2.1 k0_t11 k0_h2
theorem k0_off344_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off344 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.2.2.2.2.1 k0_t11 k0_h2 r
theorem k0_off345_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off345 v125 v135 k0_t11) a + S1x1x16.size a ≤ S2x64x512.size a := fun v52 v62 k0_t9 v125 v135 k0_hw7 k0_t11 k0_h2 => k0_hw7.2.2.1.2.2.2.2.2.2.2.2.2.2.2.2.2.2.2.2.2.2.2.2.2.2.1 k0_t11 k0_h2
theorem k0_off346_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off346 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.2.2.2.2.2.2.1 k0_t11 k0_h2 r
theorem k0_off347_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off347 v125 v135 k0_t11) a + S1x1x16.size a ≤ S2x64x512.size a := fun v52 v62 k0_t9 v125 v135 k0_hw7 k0_t11 k0_h2 => k0_hw7.2.2.1.2.2.2.2.2.2.2.2.2.2.2.2.2.2.2.2.2.2.2.2.2.2.2.2.1 k0_t11 k0_h2
theorem k0_off348_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off348 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.2.2.2.2.2.2.2.2.1 k0_t11 k0_h2 r
theorem k0_off349_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off349 v125 v135 k0_t11) a + S1x1x16.size a ≤ S2x64x512.size a := fun v52 v62 k0_t9 v125 v135 k0_hw7 k0_t11 k0_h2 => k0_hw7.2.2.1.2.2.2.2.2.2.2.2.2.2.2.2.2.2.2.2.2.2.2.2.2.2.2.2.2.2.1 k0_t11 k0_h2
theorem k0_off350_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off350 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.2.2.2.2.2.2.2.2.2.2.1 k0_t11 k0_h2 r
theorem k0_off351_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off351 v125 v135 k0_t11) a + S1x1x16.size a ≤ S2x64x512.size a := fun v52 v62 k0_t9 v125 v135 k0_hw7 k0_t11 k0_h2 => k0_hw7.2.2.1.2.2.2.2.2.2.2.2.2.2.2.2.2.2.2.2.2.2.2.2.2.2.2.2.2.2.2.2.1 k0_t11 k0_h2
theorem k0_off352_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off352 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.2.2.2.2.2.2.2.2.2.2.2.2.1 k0_t11 k0_h2 r
theorem k0_off353_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off353 v125 v135 k0_t11) a + S1x1x16.size a ≤ S2x64x512.size a := fun v52 v62 k0_t9 v125 v135 k0_hw7 k0_t11 k0_h2 => k0_hw7.2.2.1.2.2.2.2.2.2.2.2.2.2.2.2.2.2.2.2.2.2.2.2.2.2.2.2.2.2.2.2.2.2.1 k0_t11 k0_h2
theorem k0_off354_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off354 v125 v135 k0_t11 (BitVec.ofNat 32 (1 + r.val))) a + S1x1x16.size a ≤ S2x64x512.size a := fun v52 v62 k0_t9 v125 v135 k0_hw7 k0_t11 k0_h2 r => k0_hw7.2.2.1.2.2.2.2.2.2.2.2.2.2.2.2.2.2.2.2.2.2.2.2.2.2.2.2.2.2.2.2.2.2.2 k0_t11 k0_h2 r
theorem k0_off355_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off355 v125 v135 k0_t11) a + S1x1x16.size a ≤ S2x64x512.size a := fun v52 v62 k0_t9 v125 v135 k0_hw7 k0_t11 k0_h2 => k0_hw7.2.2.2.1.1 k0_t11 k0_h2
theorem k0_off356_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off356 v125 v135 k0_t11 (BitVec.ofNat 32 (1 + r.val))) a + S1x1x16.size a ≤ S2x64x512.size a := fun v52 v62 k0_t9 v125 v135 k0_hw7 k0_t11 k0_h2 r => k0_hw7.2.2.2.1.2.1 k0_t11 k0_h2 r
theorem k0_off357_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off357 v125 v135 k0_t11) a + S1x1x16.size a ≤ S2x64x512.size a := fun v52 v62 k0_t9 v125 v135 k0_hw7 k0_t11 k0_h2 => k0_hw7.2.2.2.1.2.2.1 k0_t11 k0_h2
theorem k0_off358_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off358 v125 v135 k0_t11 (BitVec.ofNat 32 (1 + r.val))) a + S1x1x16.size a ≤ S2x64x512.size a := fun v52 v62 k0_t9 v125 v135 k0_hw7 k0_t11 k0_h2 r => k0_hw7.2.2.2.1.2.2.2.1 k0_t11 k0_h2 r
theorem k0_off359_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off359 v125 v135 k0_t11) a + S1x1x16.size a ≤ S2x64x512.size a := fun v52 v62 k0_t9 v125 v135 k0_hw7 k0_t11 k0_h2 => k0_hw7.2.2.2.1.2.2.2.2.1 k0_t11 k0_h2
theorem k0_off360_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off360 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.1 k0_t11 k0_h2 r
theorem k0_off361_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off361 v125 v135 k0_t11) a + S1x1x16.size a ≤ S2x64x512.size a := fun v52 v62 k0_t9 v125 v135 k0_hw7 k0_t11 k0_h2 => k0_hw7.2.2.2.1.2.2.2.2.2.2.1 k0_t11 k0_h2
theorem k0_off362_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off362 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.1 k0_t11 k0_h2 r
theorem k0_off363_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off363 v125 v135 k0_t11) a + S1x1x16.size a ≤ S2x64x512.size a := fun v52 v62 k0_t9 v125 v135 k0_hw7 k0_t11 k0_h2 => k0_hw7.2.2.2.1.2.2.2.2.2.2.2.2.1 k0_t11 k0_h2
theorem k0_off364_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off364 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.1 k0_t11 k0_h2 r
theorem k0_off365_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off365 v125 v135 k0_t11) a + S1x1x16.size a ≤ S2x64x512.size a := fun v52 v62 k0_t9 v125 v135 k0_hw7 k0_t11 k0_h2 => k0_hw7.2.2.2.1.2.2.2.2.2.2.2.2.2.2.1 k0_t11 k0_h2
theorem k0_off366_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off366 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.1 k0_t11 k0_h2 r
theorem k0_off367_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off367 v125 v135 k0_t11) a + S1x1x16.size a ≤ S2x64x512.size a := fun v52 v62 k0_t9 v125 v135 k0_hw7 k0_t11 k0_h2 => k0_hw7.2.2.2.1.2.2.2.2.2.2.2.2.2.2.2.2.1 k0_t11 k0_h2
theorem k0_off368_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off368 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.1 k0_t11 k0_h2 r
theorem k0_off369_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off369 v125 v135 k0_t11) a + S1x1x16.size a ≤ S2x64x512.size a := fun v52 v62 k0_t9 v125 v135 k0_hw7 k0_t11 k0_h2 => k0_hw7.2.2.2.1.2.2.2.2.2.2.2.2.2.2.2.2.2.2.1 k0_t11 k0_h2
theorem k0_off370_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off370 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.1 k0_t11 k0_h2 r
theorem k0_off371_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off371 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.1 k0_t11 k0_h2
theorem k0_off372_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off372 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.1 k0_t11 k0_h2 r
theorem k0_off373_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off373 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.2.2.1 k0_t11 k0_h2
theorem k0_off374_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off374 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.2.2.1 k0_t11 k0_h2 r
theorem k0_off375_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off375 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.2.2.2.2.1 k0_t11 k0_h2
theorem k0_off376_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off376 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.2.2.2.2.1 k0_t11 k0_h2 r
theorem k0_off377_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off377 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.2.2.2.2.2.2.1 k0_t11 k0_h2
theorem k0_off378_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off378 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.2.2.2.2.2.2.1 k0_t11 k0_h2 r
theorem k0_off379_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off379 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.2.2.2.2.2.2.2.2.1 k0_t11 k0_h2
theorem k0_off380_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off380 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.2.2.2.2.2.2.2.2.1 k0_t11 k0_h2 r
theorem k0_off381_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off381 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.2.2.2.2.2.2.2.2.2.2.1 k0_t11 k0_h2
theorem k0_off382_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off382 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.2.2.2.2.2.2.2.2.2.2.1 k0_t11 k0_h2 r
theorem k0_off383_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off383 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.2.2.2.2.2.2.2.2.2.2.2.2.1 k0_t11 k0_h2
theorem k0_off384_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off384 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.2.2.2.2.2.2.2.2.2.2.2.2.1 k0_t11 k0_h2 r
theorem k0_off385_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off385 v125 v135 k0_t11) a + S1x1x16.size a ≤ S2x64x512.size a := fun v52 v62 k0_t9 v125 v135 k0_hw7 k0_t11 k0_h2 => k0_hw7.2.2.2.1.2.2.2.2.2.2.2.2.2.2.2.2.2.2.2.2.2.2.2.2.2.2.2.2.2.2.2.2.2.2.1 k0_t11 k0_h2
theorem k0_off386_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off386 v125 v135 k0_t11 (BitVec.ofNat 32 (1 + r.val))) a + S1x1x16.size a ≤ S2x64x512.size a := fun v52 v62 k0_t9 v125 v135 k0_hw7 k0_t11 k0_h2 r => k0_hw7.2.2.2.1.2.2.2.2.2.2.2.2.2.2.2.2.2.2.2.2.2.2.2.2.2.2.2.2.2.2.2.2.2.2.2 k0_t11 k0_h2 r
theorem k0_off387_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ a, (k0_off387 v125 v135 k0_t11) a + S1x1x16.size a ≤ S2x64x512.size a := fun v52 v62 k0_t9 v125 v135 k0_hw7 k0_t11 k0_h2 => k0_hw7.2.2.2.2.1.1 k0_t11 k0_h2
theorem k0_off388_inb : ∀ (v52 : BitVec 32) (v62 : BitVec 32) (k0_t9 : Fin (k0_t9_loop v52 v62).trips) (v125 : BitVec 32) (v135 : BitVec 32) (k0_hw7 : k0_chk7 v52 v62 k0_t9 v125 v135) (k0_t11 : Fin (k0_t11_loop v125 v135).trips), ∀ (k0_h2 : k0_cond2 v125 v135 = 1#1), ∀ (r : Fin 3), ∀ a, (k0_off388 v125 v135 k0_t11 (BitVec.ofNat 32 (1 + r.val))) a + S1x1x16.size a ≤ S2x64x512.size a := fun v52 v62 k0_t9 v125 v135 k0_hw7 k0_t11 k0_h2 r => k0_hw7.2.2.2.2.1.2.1 k0_t11 k0_h2 r
theorem k0_t12_ok : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), (k0_t12_loop v125 v135).OK := fun v52 v62 k0_t9 v125 v135 k0_hw7 k0_h2 => k0_hw7.2.2.2.2.1.2.2.1 k0_h2
theorem k0_off389_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off389 v125 v135 k0_t12) a + S1x1x16.size a ≤ S2x64x512.size a := fun v52 v62 k0_t9 v125 v135 k0_hw7 k0_t12 k0_h2 => k0_hw7.2.2.2.2.1.2.2.2.1 k0_t12 k0_h2
theorem k0_off390_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off390 v125 v135 k0_t12) a + S1x1x16.size a ≤ S2x64x512.size a := fun v52 v62 k0_t9 v125 v135 k0_hw7 k0_t12 k0_h2 => k0_hw7.2.2.2.2.1.2.2.2.2.1 k0_t12 k0_h2
theorem k0_off391_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off391 v125 v135 k0_t12) a + S1x1x16.size a ≤ S2x64x512.size a := fun v52 v62 k0_t9 v125 v135 k0_hw7 k0_t12 k0_h2 => k0_hw7.2.2.2.2.1.2.2.2.2.2.1 k0_t12 k0_h2
theorem k0_off392_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off392 v125 v135 k0_t12) a + S1x1x16.size a ≤ S2x64x512.size a := fun v52 v62 k0_t9 v125 v135 k0_hw7 k0_t12 k0_h2 => k0_hw7.2.2.2.2.1.2.2.2.2.2.2.1 k0_t12 k0_h2
theorem k0_off393_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off393 v125 v135 k0_t12) a + S1x1x16.size a ≤ S2x64x512.size a := fun v52 v62 k0_t9 v125 v135 k0_hw7 k0_t12 k0_h2 => k0_hw7.2.2.2.2.1.2.2.2.2.2.2.2.1 k0_t12 k0_h2
theorem k0_off394_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off394 v125 v135 k0_t12) a + S1x1x16.size a ≤ S2x64x512.size a := fun v52 v62 k0_t9 v125 v135 k0_hw7 k0_t12 k0_h2 => k0_hw7.2.2.2.2.1.2.2.2.2.2.2.2.2.1 k0_t12 k0_h2
theorem k0_off395_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off395 v125 v135 k0_t12) a + S1x1x16.size a ≤ S2x64x512.size a := fun v52 v62 k0_t9 v125 v135 k0_hw7 k0_t12 k0_h2 => k0_hw7.2.2.2.2.1.2.2.2.2.2.2.2.2.2.1 k0_t12 k0_h2
theorem k0_off396_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off396 v125 v135 k0_t12) a + S1x1x16.size a ≤ S2x64x512.size a := fun v52 v62 k0_t9 v125 v135 k0_hw7 k0_t12 k0_h2 => k0_hw7.2.2.2.2.1.2.2.2.2.2.2.2.2.2.2.1 k0_t12 k0_h2
theorem k0_off397_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off397 v125 v135 k0_t12) a + S1x1x16.size a ≤ S2x64x512.size a := fun v52 v62 k0_t9 v125 v135 k0_hw7 k0_t12 k0_h2 => k0_hw7.2.2.2.2.1.2.2.2.2.2.2.2.2.2.2.2.1 k0_t12 k0_h2
theorem k0_off398_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off398 v125 v135 k0_t12) a + S1x1x16.size a ≤ S2x64x512.size a := fun v52 v62 k0_t9 v125 v135 k0_hw7 k0_t12 k0_h2 => k0_hw7.2.2.2.2.1.2.2.2.2.2.2.2.2.2.2.2.2.1 k0_t12 k0_h2
theorem k0_off399_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off399 v125 v135 k0_t12) a + S1x1x16.size a ≤ S2x64x512.size a := fun v52 v62 k0_t9 v125 v135 k0_hw7 k0_t12 k0_h2 => k0_hw7.2.2.2.2.1.2.2.2.2.2.2.2.2.2.2.2.2.2.1 k0_t12 k0_h2
theorem k0_off400_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off400 v125 v135 k0_t12) a + S1x1x16.size a ≤ S2x64x512.size a := fun v52 v62 k0_t9 v125 v135 k0_hw7 k0_t12 k0_h2 => k0_hw7.2.2.2.2.1.2.2.2.2.2.2.2.2.2.2.2.2.2.2.1 k0_t12 k0_h2
theorem k0_off401_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off401 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.1 k0_t12 k0_h2
theorem k0_off402_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off402 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.1 k0_t12 k0_h2
theorem k0_off403_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off403 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.1 k0_t12 k0_h2
theorem k0_off404_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off404 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.1 k0_t12 k0_h2
theorem k0_off405_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off405 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.1 k0_t12 k0_h2
theorem k0_off406_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off406 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.1 k0_t12 k0_h2
theorem k0_off407_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off407 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.1 k0_t12 k0_h2
theorem k0_off408_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off408 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.1 k0_t12 k0_h2
theorem k0_off409_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off409 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.1 k0_t12 k0_h2
theorem k0_off410_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off410 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.1 k0_t12 k0_h2
theorem k0_off411_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off411 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.2.1 k0_t12 k0_h2
theorem k0_off412_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off412 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.2.2.1 k0_t12 k0_h2
theorem k0_off413_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off413 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.2.2.2.1 k0_t12 k0_h2
theorem k0_off414_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off414 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.2.2.2.2.1 k0_t12 k0_h2
theorem k0_off415_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off415 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.2.2.2.2.2.1 k0_t12 k0_h2
theorem k0_off416_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off416 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.2.2.2.2.2.2.1 k0_t12 k0_h2
theorem k0_off417_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off417 v125 v135 k0_t12) a + S1x1x16.size a ≤ S2x64x512.size a := fun v52 v62 k0_t9 v125 v135 k0_hw7 k0_t12 k0_h2 => k0_hw7.2.2.2.2.1.2.2.2.2.2.2.2.2.2.2.2.2.2.2.2.2.2.2.2.2.2.2.2.2.2.2.2.2.2.2.2 k0_t12 k0_h2
theorem k0_off418_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off418 v125 v135 k0_t12) a + S1x1x16.size a ≤ S2x64x512.size a := fun v52 v62 k0_t9 v125 v135 k0_hw7 k0_t12 k0_h2 => k0_hw7.2.2.2.2.2.1.1 k0_t12 k0_h2
theorem k0_off419_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off419 v125 v135 k0_t12) a + S1x1x16.size a ≤ S2x64x512.size a := fun v52 v62 k0_t9 v125 v135 k0_hw7 k0_t12 k0_h2 => k0_hw7.2.2.2.2.2.1.2.1 k0_t12 k0_h2
theorem k0_off420_inb : ∀ (v52 : BitVec 32) (v62 : BitVec 32) (k0_t9 : Fin (k0_t9_loop v52 v62).trips) (v125 : BitVec 32) (v135 : BitVec 32) (k0_hw7 : k0_chk7 v52 v62 k0_t9 v125 v135) (k0_t12 : Fin (k0_t12_loop v125 v135).trips), ∀ (k0_h2 : k0_cond2 v125 v135 = 1#1), ∀ a, (k0_off420 v125 v135 k0_t12) a + S1x1x16.size a ≤ S2x64x512.size a := fun v52 v62 k0_t9 v125 v135 k0_hw7 k0_t12 k0_h2 => k0_hw7.2.2.2.2.2.1.2.2.1 k0_t12 k0_h2
theorem k0_t13_ok : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), (k0_t13_loop v125 v135).OK := fun v52 v62 k0_t9 v125 v135 k0_hw7 k0_h2 => k0_hw7.2.2.2.2.2.1.2.2.2.1 k0_h2
theorem k0_off421_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off421 v125 v135 k0_t13) a + S1x1x16.size a ≤ S2x64x512.size a := fun v52 v62 k0_t9 v125 v135 k0_hw7 k0_t13 k0_h2 => k0_hw7.2.2.2.2.2.1.2.2.2.2.1 k0_t13 k0_h2
theorem k0_off422_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off422 v125 v135 k0_t13) a + S1x1x16.size a ≤ S2x64x512.size a := fun v52 v62 k0_t9 v125 v135 k0_hw7 k0_t13 k0_h2 => k0_hw7.2.2.2.2.2.1.2.2.2.2.2.1 k0_t13 k0_h2
theorem k0_off423_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off423 v125 v135 k0_t13) a + S1x1x16.size a ≤ S2x64x512.size a := fun v52 v62 k0_t9 v125 v135 k0_hw7 k0_t13 k0_h2 => k0_hw7.2.2.2.2.2.1.2.2.2.2.2.2.1 k0_t13 k0_h2
theorem k0_off424_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off424 v125 v135 k0_t13) a + S1x1x16.size a ≤ S2x64x512.size a := fun v52 v62 k0_t9 v125 v135 k0_hw7 k0_t13 k0_h2 => k0_hw7.2.2.2.2.2.1.2.2.2.2.2.2.2.1 k0_t13 k0_h2
theorem k0_off425_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off425 v125 v135 k0_t13) a + S1x1x16.size a ≤ S2x64x512.size a := fun v52 v62 k0_t9 v125 v135 k0_hw7 k0_t13 k0_h2 => k0_hw7.2.2.2.2.2.1.2.2.2.2.2.2.2.2.1 k0_t13 k0_h2
theorem k0_off426_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off426 v125 v135 k0_t13) a + S1x1x16.size a ≤ S2x64x512.size a := fun v52 v62 k0_t9 v125 v135 k0_hw7 k0_t13 k0_h2 => k0_hw7.2.2.2.2.2.1.2.2.2.2.2.2.2.2.2.1 k0_t13 k0_h2
theorem k0_off427_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off427 v125 v135 k0_t13) a + S1x1x16.size a ≤ S2x64x512.size a := fun v52 v62 k0_t9 v125 v135 k0_hw7 k0_t13 k0_h2 => k0_hw7.2.2.2.2.2.1.2.2.2.2.2.2.2.2.2.2.1 k0_t13 k0_h2
theorem k0_off428_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off428 v125 v135 k0_t13) a + S1x1x16.size a ≤ S2x64x512.size a := fun v52 v62 k0_t9 v125 v135 k0_hw7 k0_t13 k0_h2 => k0_hw7.2.2.2.2.2.1.2.2.2.2.2.2.2.2.2.2.2.1 k0_t13 k0_h2
theorem k0_off429_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off429 v125 v135 k0_t13) a + S1x1x16.size a ≤ S2x64x512.size a := fun v52 v62 k0_t9 v125 v135 k0_hw7 k0_t13 k0_h2 => k0_hw7.2.2.2.2.2.1.2.2.2.2.2.2.2.2.2.2.2.2.1 k0_t13 k0_h2
theorem k0_off430_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off430 v125 v135 k0_t13) a + S1x1x16.size a ≤ S2x64x512.size a := fun v52 v62 k0_t9 v125 v135 k0_hw7 k0_t13 k0_h2 => k0_hw7.2.2.2.2.2.1.2.2.2.2.2.2.2.2.2.2.2.2.2.1 k0_t13 k0_h2
theorem k0_off431_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off431 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.1 k0_t13 k0_h2
theorem k0_off432_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off432 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.1 k0_t13 k0_h2
theorem k0_off433_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off433 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.1 k0_t13 k0_h2
theorem k0_off434_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off434 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.1 k0_t13 k0_h2
theorem k0_off435_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off435 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.1 k0_t13 k0_h2
theorem k0_off436_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off436 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.1 k0_t13 k0_h2
theorem k0_off437_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off437 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.1 k0_t13 k0_h2
theorem k0_off438_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off438 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.1 k0_t13 k0_h2
theorem k0_off439_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off439 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.1 k0_t13 k0_h2
theorem k0_off440_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off440 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.1 k0_t13 k0_h2
theorem k0_off441_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off441 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.1 k0_t13 k0_h2
theorem k0_off442_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off442 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.2.1 k0_t13 k0_h2
theorem k0_off443_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off443 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.2.2.1 k0_t13 k0_h2
theorem k0_off444_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off444 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.2.2.2.1 k0_t13 k0_h2
theorem k0_off445_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off445 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.2.2.2.2.1 k0_t13 k0_h2
theorem k0_off446_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off446 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.2.2.2.2.2.1 k0_t13 k0_h2
theorem k0_off447_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off447 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.2.2.2.2.2.2.1 k0_t13 k0_h2
theorem k0_off448_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off448 v125 v135 k0_t13) a + S1x1x16.size a ≤ S2x64x512.size a := fun v52 v62 k0_t9 v125 v135 k0_hw7 k0_t13 k0_h2 => k0_hw7.2.2.2.2.2.1.2.2.2.2.2.2.2.2.2.2.2.2.2.2.2.2.2.2.2.2.2.2.2.2.2.2.2.2.2.2.2 k0_t13 k0_h2
theorem k0_off449_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off449 v125 v135 k0_t13) a + S1x1x16.size a ≤ S2x64x512.size a := fun v52 v62 k0_t9 v125 v135 k0_hw7 k0_t13 k0_h2 => k0_hw7.2.2.2.2.2.2.1.1 k0_t13 k0_h2
theorem k0_off450_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off450 v125 v135 k0_t13) a + S1x1x16.size a ≤ S2x64x512.size a := fun v52 v62 k0_t9 v125 v135 k0_hw7 k0_t13 k0_h2 => k0_hw7.2.2.2.2.2.2.1.2.1 k0_t13 k0_h2
theorem k0_off451_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off451 v125 v135 k0_t13) a + S1x1x16.size a ≤ S2x64x512.size a := fun v52 v62 k0_t9 v125 v135 k0_hw7 k0_t13 k0_h2 => k0_hw7.2.2.2.2.2.2.1.2.2.1 k0_t13 k0_h2
theorem k0_off452_inb : ∀ (v52 : BitVec 32) (v62 : BitVec 32) (k0_t9 : Fin (k0_t9_loop v52 v62).trips) (v125 : BitVec 32) (v135 : BitVec 32) (k0_hw7 : k0_chk7 v52 v62 k0_t9 v125 v135) (k0_t13 : Fin (k0_t13_loop v125 v135).trips), ∀ (k0_h2 : k0_cond2 v125 v135 = 1#1), ∀ a, (k0_off452 v125 v135 k0_t13) a + S1x1x16.size a ≤ S2x64x512.size a := fun v52 v62 k0_t9 v125 v135 k0_hw7 k0_t13 k0_h2 => k0_hw7.2.2.2.2.2.2.1.2.2.2.1 k0_t13 k0_h2
theorem k0_off453_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off453 v52 v62 k0_t9) a + S1x16.size a ≤ S16x512.size a := fun v52 v62 k0_t9 v125 v135 k0_hw7 k0_h2 => k0_hw7.2.2.2.2.2.2.1.2.2.2.2.1 k0_h2
theorem k0_off454_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off454 v52 v62 k0_t9) a + S1x16.size a ≤ S16x512.size a := fun v52 v62 k0_t9 v125 v135 k0_hw7 k0_h2 => k0_hw7.2.2.2.2.2.2.1.2.2.2.2.2.1 k0_h2
theorem k0_off455_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off455 v52 v62 k0_t9) a + S1x16.size a ≤ S16x512.size a := fun v52 v62 k0_t9 v125 v135 k0_hw7 k0_h2 => k0_hw7.2.2.2.2.2.2.1.2.2.2.2.2.2.1 k0_h2
theorem k0_off456_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off456 v52 v62 k0_t9) a + S1x16.size a ≤ S16x512.size a := fun v52 v62 k0_t9 v125 v135 k0_hw7 k0_h2 => k0_hw7.2.2.2.2.2.2.1.2.2.2.2.2.2.2.1 k0_h2
theorem k0_off457_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off457 v52 v62 k0_t9) a + S1x16.size a ≤ S16x512.size a := fun v52 v62 k0_t9 v125 v135 k0_hw7 k0_h2 => k0_hw7.2.2.2.2.2.2.1.2.2.2.2.2.2.2.2.1 k0_h2
theorem k0_off458_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off458 v52 v62 k0_t9) a + S1x16.size a ≤ S16x512.size a := fun v52 v62 k0_t9 v125 v135 k0_hw7 k0_h2 => k0_hw7.2.2.2.2.2.2.1.2.2.2.2.2.2.2.2.2.1 k0_h2
theorem k0_off459_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off459 v52 v62 k0_t9) a + S1x16.size a ≤ S16x512.size a := fun v52 v62 k0_t9 v125 v135 k0_hw7 k0_h2 => k0_hw7.2.2.2.2.2.2.1.2.2.2.2.2.2.2.2.2.2.1 k0_h2
theorem k0_off460_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off460 v52 v62 k0_t9) a + S1x16.size a ≤ S16x512.size a := fun v52 v62 k0_t9 v125 v135 k0_hw7 k0_h2 => k0_hw7.2.2.2.2.2.2.1.2.2.2.2.2.2.2.2.2.2.2.1 k0_h2
theorem k0_off461_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off461 v52 v62 k0_t9) a + S1x16.size a ≤ S16x512.size a := fun v52 v62 k0_t9 v125 v135 k0_hw7 k0_h2 => k0_hw7.2.2.2.2.2.2.1.2.2.2.2.2.2.2.2.2.2.2.2.1 k0_h2
theorem k0_off462_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off462 v52 v62 k0_t9) a + S1x16.size a ≤ S16x512.size a := fun v52 v62 k0_t9 v125 v135 k0_hw7 k0_h2 => k0_hw7.2.2.2.2.2.2.1.2.2.2.2.2.2.2.2.2.2.2.2.2.1 k0_h2
theorem k0_off463_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off463 v52 v62 k0_t9) a + S1x16.size a ≤ S16x512.size a := fun v52 v62 k0_t9 v125 v135 k0_hw7 k0_h2 => k0_hw7.2.2.2.2.2.2.1.2.2.2.2.2.2.2.2.2.2.2.2.2.2.1 k0_h2
theorem k0_off464_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off464 v52 v62 k0_t9) a + S1x16.size a ≤ S16x512.size a := fun v52 v62 k0_t9 v125 v135 k0_hw7 k0_h2 => k0_hw7.2.2.2.2.2.2.1.2.2.2.2.2.2.2.2.2.2.2.2.2.2.2.1 k0_h2
theorem k0_off465_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off465 v52 v62 k0_t9) a + S1x16.size a ≤ S16x512.size a := fun v52 v62 k0_t9 v125 v135 k0_hw7 k0_h2 => k0_hw7.2.2.2.2.2.2.1.2.2.2.2.2.2.2.2.2.2.2.2.2.2.2.2.1 k0_h2
theorem k0_off466_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off466 v52 v62 k0_t9) a + S1x16.size a ≤ S16x512.size a := fun v52 v62 k0_t9 v125 v135 k0_hw7 k0_h2 => k0_hw7.2.2.2.2.2.2.1.2.2.2.2.2.2.2.2.2.2.2.2.2.2.2.2.2.1 k0_h2
theorem k0_off467_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off467 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.1 k0_h2
theorem k0_off468_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off468 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.1 k0_h2
theorem k0_off469_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off469 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.1 k0_h2
theorem k0_off470_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off470 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.1 k0_h2
theorem k0_off471_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off471 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.1 k0_h2
theorem k0_off472_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off472 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.1 k0_h2
theorem k0_off473_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off473 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.1 k0_h2
theorem k0_off474_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off474 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.2.1 k0_h2
theorem k0_off475_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off475 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.2.2.1 k0_h2
theorem k0_off476_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off476 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.2.2.2.1 k0_h2
theorem k0_off477_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off477 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.2.2.2.2.1 k0_h2
theorem k0_off478_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off478 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.2.2.2.2.2.1 k0_h2
theorem k0_off479_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off479 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.2.2.2.2.2.2.1 k0_h2
theorem k0_off480_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off480 v52 v62 k0_t9) a + S1x16.size a ≤ S16x512.size a := fun v52 v62 k0_t9 v125 v135 k0_hw7 k0_h2 => k0_hw7.2.2.2.2.2.2.1.2.2.2.2.2.2.2.2.2.2.2.2.2.2.2.2.2.2.2.2.2.2.2.2.2.2.2.2.2.2.2 k0_h2
theorem k0_off481_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off481 v52 v62 k0_t9) a + S1x16.size a ≤ S16x512.size a := fun v52 v62 k0_t9 v125 v135 k0_hw7 k0_h2 => k0_hw7.2.2.2.2.2.2.2.1 k0_h2
theorem k0_off482_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off482 v52 v62 k0_t9) a + S1x16.size a ≤ S16x512.size a := fun v52 v62 k0_t9 v125 v135 k0_hw7 k0_h2 => k0_hw7.2.2.2.2.2.2.2.2.1 k0_h2
theorem k0_off483_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off483 v52 v62 k0_t9) a + S1x16.size a ≤ S16x512.size a := fun v52 v62 k0_t9 v125 v135 k0_hw7 k0_h2 => k0_hw7.2.2.2.2.2.2.2.2.2.1 k0_h2
theorem k0_off484_inb : ∀ (v52 : BitVec 32) (v62 : BitVec 32) (k0_t9 : Fin (k0_t9_loop v52 v62).trips) (v125 : BitVec 32) (v135 : BitVec 32) (k0_hw7 : k0_chk7 v52 v62 k0_t9 v125 v135), ∀ (k0_h2 : k0_cond2 v125 v135 = 1#1), ∀ a, (k0_off484 v52 v62 k0_t9) a + S1x16.size a ≤ S16x512.size a := fun v52 v62 k0_t9 v125 v135 k0_hw7 k0_h2 => k0_hw7.2.2.2.2.2.2.2.2.2.2 k0_h2

def k0_cond3 : BitVec 1 :=
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c2_i32_51 : BitVec 32 := 2#32
  let v71 : BitVec 32 := Scalar.addi v35 c2_i32_51
  let c2_i32_52 : BitVec 32 := 2#32
  let v72 : BitVec 1 := Scalar.cmpi .slt v71 c2_i32_52
  let v73 : BitVec 32 := Scalar.extui v72
  let c0_i32_53 : BitVec 32 := 0#32
  let v74 : BitVec 1 := Scalar.cmpi .ne v73 c0_i32_53
  v74

def k0_off485 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_30 : BitVec 32 := 0#32
  let c2_i32_31 : BitVec 32 := 2#32
  let v34 : BitVec 32 := Scalar.muli c0_i32_30 c2_i32_31
  let c0_i32_32 : BitVec 32 := 0#32
  let v35 : BitVec 32 := Scalar.addi v34 c0_i32_32
  let c2_i32_81 : BitVec 32 := 2#32
  let v116 : BitVec 32 := Scalar.addi v35 c2_i32_81
  let c64_i32_82 : BitVec 32 := 64#32
  let v117 : BitVec 32 := Scalar.muli v116 c64_i32_82
  let v118 : BitVec 32 := Scalar.addi v2 v117
  let c0_i32_86 : BitVec 32 := 0#32
  ![v118.toNat, 0]
def k0_off486 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_56 : BitVec 32 := 64#32
  let v77 : BitVec 32 := Scalar.muli v76 c64_i32_56
  let v78 : BitVec 32 := Scalar.addi v2 v77
  let c0_i32_60 : BitVec 32 := 0#32
  ![v78.toNat, 0]

def k0_chk8 (v86 : IVec S16 32) : Prop :=
  (∀ a x, ((![v86] : Fin 1 → IVec S16 32) a x).toNat < S128.size a)
theorem k0_idx5_inb : ∀ (v86 : IVec S16 32) (k0_hw8 : k0_chk8 v86), ∀ a x, ((![v86] : Fin 1 → IVec S16 32) a x).toNat < S128.size a := fun v86 k0_hw8 => k0_hw8

def k0_chk9 (v96 : IVec S16 32) : Prop :=
  (∀ a x, ((![v96] : Fin 1 → IVec S16 32) a x).toNat < S128.size a)
theorem k0_idx6_inb : ∀ (v96 : IVec S16 32) (k0_hw9 : k0_chk9 v96), ∀ a x, ((![v96] : Fin 1 → IVec S16 32) a x).toNat < S128.size a := fun v96 k0_hw9 => k0_hw9
@[reducible] def k0_t14_loop (v93 : BitVec 32) (v103 : BitVec 32) : Scf.Loop 32 :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_74 : BitVec 32 := 1#32
  ⟨v93, v109, c1_i32_74⟩

@[reducible] def k0_t15_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v139 : BitVec 32 := Scalar.subi v135 v85
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v85
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_96 : BitVec 32 := 1#32
  ⟨c0_i32_94, v151, c1_i32_96⟩
def k0_cond4 (v125 : BitVec 32) (v135 : BitVec 32) : BitVec 1 :=
  let c64_i32_90 : BitVec 32 := 64#32
  let c0_i32_89 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v139 : BitVec 32 := Scalar.subi v135 v85
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v85
  let v137 : BitVec 32 := Scalar.maxsi c0_i32_87 v136
  let v138 : BitVec 32 := Scalar.minsi c64_i32_88 v137
  let v142 : BitVec 1 := Scalar.cmpi .sgt v141 v138
  let v143 : BitVec 32 := Scalar.extui v142
  let c0_i32_91 : BitVec 32 := 0#32
  let v144 : BitVec 1 := Scalar.cmpi .ne v143 c0_i32_91
  v144

def k0_off487 (v125 : BitVec 32) (v135 : BitVec 32) (k0_t15 : Fin (k0_t15_loop v125 v135).trips) : Fin 3 → Nat :=
  let c1_i32_135 : BitVec 32 := 1#32
  let v325 : Index := Scalar.indexCast c1_i32_135
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![1, v326.toNat, 0]
def k0_off488 (v125 : BitVec 32) (v135 : BitVec 32) (k0_t15 : Fin (k0_t15_loop v125 v135).trips) (c1_i32_137 : BitVec 32) : Fin 3 → Nat :=
  let c1_i32_138 : BitVec 32 := 1#32
  let v329 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![1, v330.toNat, 0]
def k0_off489 (v125 : BitVec 32) (v135 : BitVec 32) (k0_t15 : Fin (k0_t15_loop v125 v135).trips) : Fin 3 → Nat :=
  let c1_i32_145 : BitVec 32 := 1#32
  let v344 : Index := Scalar.indexCast c1_i32_145
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![1, v345.toNat, 16]
def k0_off490 (v125 : BitVec 32) (v135 : BitVec 32) (k0_t15 : Fin (k0_t15_loop v125 v135).trips) (c1_i32_147 : BitVec 32) : Fin 3 → Nat :=
  let c1_i32_148 : BitVec 32 := 1#32
  let v348 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![1, v349.toNat, 16]
def k0_off491 (v125 : BitVec 32) (v135 : BitVec 32) (k0_t15 : Fin (k0_t15_loop v125 v135).trips) : Fin 3 → Nat :=
  let c1_i32_156 : BitVec 32 := 1#32
  let v363 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![1, v364.toNat, 32]
def k0_off492 (v125 : BitVec 32) (v135 : BitVec 32) (k0_t15 : Fin (k0_t15_loop v125 v135).trips) (c1_i32_158 : BitVec 32) : Fin 3 → Nat :=
  let c1_i32_159 : BitVec 32 := 1#32
  let v367 : Index := Scalar.indexCast c1_i32_159
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![1, v368.toNat, 32]
def k0_off493 (v125 : BitVec 32) (v135 : BitVec 32) (k0_t15 : Fin (k0_t15_loop v125 v135).trips) : Fin 3 → Nat :=
  let c1_i32_167 : BitVec 32 := 1#32
  let v382 : Index := Scalar.indexCast c1_i32_167
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![1, v383.toNat, 48]
def k0_off494 (v125 : BitVec 32) (v135 : BitVec 32) (k0_t15 : Fin (k0_t15_loop v125 v135).trips) (c1_i32_169 : BitVec 32) : Fin 3 → Nat :=
  let c1_i32_170 : BitVec 32 := 1#32
  let v386 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![1, v387.toNat, 48]
def k0_off495 (v125 : BitVec 32) (v135 : BitVec 32) (k0_t15 : Fin (k0_t15_loop v125 v135).trips) : Fin 3 → Nat :=
  let c1_i32_178 : BitVec 32 := 1#32
  let v401 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![1, v402.toNat, 64]
def k0_off496 (v125 : BitVec 32) (v135 : BitVec 32) (k0_t15 : Fin (k0_t15_loop v125 v135).trips) (c1_i32_180 : BitVec 32) : Fin 3 → Nat :=
  let c1_i32_181 : BitVec 32 := 1#32
  let v405 : Index := Scalar.indexCast c1_i32_181
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![1, v406.toNat, 64]
def k0_off497 (v125 : BitVec 32) (v135 : BitVec 32) (k0_t15 : Fin (k0_t15_loop v125 v135).trips) : Fin 3 → Nat :=
  let c1_i32_189 : BitVec 32 := 1#32
  let v420 : Index := Scalar.indexCast c1_i32_189
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![1, v421.toNat, 80]
def k0_off498 (v125 : BitVec 32) (v135 : BitVec 32) (k0_t15 : Fin (k0_t15_loop v125 v135).trips) (c1_i32_191 : BitVec 32) : Fin 3 → Nat :=
  let c1_i32_192 : BitVec 32 := 1#32
  let v424 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![1, v425.toNat, 80]
def k0_off499 (v125 : BitVec 32) (v135 : BitVec 32) (k0_t15 : Fin (k0_t15_loop v125 v135).trips) : Fin 3 → Nat :=
  let c1_i32_200 : BitVec 32 := 1#32
  let v439 : Index := Scalar.indexCast c1_i32_200
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![1, v440.toNat, 96]
def k0_off500 (v125 : BitVec 32) (v135 : BitVec 32) (k0_t15 : Fin (k0_t15_loop v125 v135).trips) (c1_i32_202 : BitVec 32) : Fin 3 → Nat :=
  let c1_i32_203 : BitVec 32 := 1#32
  let v443 : Index := Scalar.indexCast c1_i32_203
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![1, v444.toNat, 96]
def k0_off501 (v125 : BitVec 32) (v135 : BitVec 32) (k0_t15 : Fin (k0_t15_loop v125 v135).trips) : Fin 3 → Nat :=
  let c1_i32_211 : BitVec 32 := 1#32
  let v458 : Index := Scalar.indexCast c1_i32_211
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![1, v459.toNat, 112]
def k0_off502 (v125 : BitVec 32) (v135 : BitVec 32) (k0_t15 : Fin (k0_t15_loop v125 v135).trips) (c1_i32_213 : BitVec 32) : Fin 3 → Nat :=
  let c1_i32_214 : BitVec 32 := 1#32
  let v462 : Index := Scalar.indexCast c1_i32_214
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![1, v463.toNat, 112]
def k0_off503 (v125 : BitVec 32) (v135 : BitVec 32) (k0_t15 : Fin (k0_t15_loop v125 v135).trips) : Fin 3 → Nat :=
  let c1_i32_222 : BitVec 32 := 1#32
  let v477 : Index := Scalar.indexCast c1_i32_222
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![1, v478.toNat, 128]
def k0_off504 (v125 : BitVec 32) (v135 : BitVec 32) (k0_t15 : Fin (k0_t15_loop v125 v135).trips) (c1_i32_224 : BitVec 32) : Fin 3 → Nat :=
  let c1_i32_225 : BitVec 32 := 1#32
  let v481 : Index := Scalar.indexCast c1_i32_225
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![1, v482.toNat, 128]
def k0_off505 (v125 : BitVec 32) (v135 : BitVec 32) (k0_t15 : Fin (k0_t15_loop v125 v135).trips) : Fin 3 → Nat :=
  let c1_i32_233 : BitVec 32 := 1#32
  let v496 : Index := Scalar.indexCast c1_i32_233
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![1, v497.toNat, 144]
def k0_off506 (v125 : BitVec 32) (v135 : BitVec 32) (k0_t15 : Fin (k0_t15_loop v125 v135).trips) (c1_i32_235 : BitVec 32) : Fin 3 → Nat :=
  let c1_i32_236 : BitVec 32 := 1#32
  let v500 : Index := Scalar.indexCast c1_i32_236
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![1, v501.toNat, 144]
def k0_off507 (v125 : BitVec 32) (v135 : BitVec 32) (k0_t15 : Fin (k0_t15_loop v125 v135).trips) : Fin 3 → Nat :=
  let c1_i32_244 : BitVec 32 := 1#32
  let v515 : Index := Scalar.indexCast c1_i32_244
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![1, v516.toNat, 160]
def k0_off508 (v125 : BitVec 32) (v135 : BitVec 32) (k0_t15 : Fin (k0_t15_loop v125 v135).trips) (c1_i32_246 : BitVec 32) : Fin 3 → Nat :=
  let c1_i32_247 : BitVec 32 := 1#32
  let v519 : Index := Scalar.indexCast c1_i32_247
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![1, v520.toNat, 160]
def k0_off509 (v125 : BitVec 32) (v135 : BitVec 32) (k0_t15 : Fin (k0_t15_loop v125 v135).trips) : Fin 3 → Nat :=
  let c1_i32_255 : BitVec 32 := 1#32
  let v534 : Index := Scalar.indexCast c1_i32_255
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![1, v535.toNat, 176]
def k0_off510 (v125 : BitVec 32) (v135 : BitVec 32) (k0_t15 : Fin (k0_t15_loop v125 v135).trips) (c1_i32_257 : BitVec 32) : Fin 3 → Nat :=
  let c1_i32_258 : BitVec 32 := 1#32
  let v538 : Index := Scalar.indexCast c1_i32_258
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![1, v539.toNat, 176]
def k0_off511 (v125 : BitVec 32) (v135 : BitVec 32) (k0_t15 : Fin (k0_t15_loop v125 v135).trips) : Fin 3 → Nat :=
  let c1_i32_266 : BitVec 32 := 1#32
  let v553 : Index := Scalar.indexCast c1_i32_266
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![1, v554.toNat, 192]
def k0_off512 (v125 : BitVec 32) (v135 : BitVec 32) (k0_t15 : Fin (k0_t15_loop v125 v135).trips) (c1_i32_268 : BitVec 32) : Fin 3 → Nat :=
  let c1_i32_269 : BitVec 32 := 1#32
  let v557 : Index := Scalar.indexCast c1_i32_269
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![1, v558.toNat, 192]
def k0_off513 (v125 : BitVec 32) (v135 : BitVec 32) (k0_t15 : Fin (k0_t15_loop v125 v135).trips) : Fin 3 → Nat :=
  let c1_i32_277 : BitVec 32 := 1#32
  let v572 : Index := Scalar.indexCast c1_i32_277
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![1, v573.toNat, 208]
def k0_off514 (v125 : BitVec 32) (v135 : BitVec 32) (k0_t15 : Fin (k0_t15_loop v125 v135).trips) (c1_i32_279 : BitVec 32) : Fin 3 → Nat :=
  let c1_i32_280 : BitVec 32 := 1#32
  let v576 : Index := Scalar.indexCast c1_i32_280
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![1, v577.toNat, 208]
def k0_off515 (v125 : BitVec 32) (v135 : BitVec 32) (k0_t15 : Fin (k0_t15_loop v125 v135).trips) : Fin 3 → Nat :=
  let c1_i32_288 : BitVec 32 := 1#32
  let v591 : Index := Scalar.indexCast c1_i32_288
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![1, v592.toNat, 224]
def k0_off516 (v125 : BitVec 32) (v135 : BitVec 32) (k0_t15 : Fin (k0_t15_loop v125 v135).trips) (c1_i32_290 : BitVec 32) : Fin 3 → Nat :=
  let c1_i32_291 : BitVec 32 := 1#32
  let v595 : Index := Scalar.indexCast c1_i32_291
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![1, v596.toNat, 224]
def k0_off517 (v125 : BitVec 32) (v135 : BitVec 32) (k0_t15 : Fin (k0_t15_loop v125 v135).trips) : Fin 3 → Nat :=
  let c1_i32_299 : BitVec 32 := 1#32
  let v610 : Index := Scalar.indexCast c1_i32_299
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![1, v611.toNat, 240]
def k0_off518 (v125 : BitVec 32) (v135 : BitVec 32) (k0_t15 : Fin (k0_t15_loop v125 v135).trips) (c1_i32_301 : BitVec 32) : Fin 3 → Nat :=
  let c1_i32_302 : BitVec 32 := 1#32
  let v614 : Index := Scalar.indexCast c1_i32_302
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![1, v615.toNat, 240]
def k0_off519 (v125 : BitVec 32) (v135 : BitVec 32) (k0_t15 : Fin (k0_t15_loop v125 v135).trips) : Fin 3 → Nat :=
  let c1_i32_310 : BitVec 32 := 1#32
  let v629 : Index := Scalar.indexCast c1_i32_310
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![1, v630.toNat, 256]
def k0_off520 (v125 : BitVec 32) (v135 : BitVec 32) (k0_t15 : Fin (k0_t15_loop v125 v135).trips) (c1_i32_312 : BitVec 32) : Fin 3 → Nat :=
  let c1_i32_313 : BitVec 32 := 1#32
  let v633 : Index := Scalar.indexCast c1_i32_313
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![1, v634.toNat, 256]
def k0_off521 (v125 : BitVec 32) (v135 : BitVec 32) (k0_t15 : Fin (k0_t15_loop v125 v135).trips) : Fin 3 → Nat :=
  let c1_i32_321 : BitVec 32 := 1#32
  let v648 : Index := Scalar.indexCast c1_i32_321
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![1, v649.toNat, 272]
def k0_off522 (v125 : BitVec 32) (v135 : BitVec 32) (k0_t15 : Fin (k0_t15_loop v125 v135).trips) (c1_i32_323 : BitVec 32) : Fin 3 → Nat :=
  let c1_i32_324 : BitVec 32 := 1#32
  let v652 : Index := Scalar.indexCast c1_i32_324
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![1, v653.toNat, 272]
def k0_off523 (v125 : BitVec 32) (v135 : BitVec 32) (k0_t15 : Fin (k0_t15_loop v125 v135).trips) : Fin 3 → Nat :=
  let c1_i32_332 : BitVec 32 := 1#32
  let v667 : Index := Scalar.indexCast c1_i32_332
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![1, v668.toNat, 288]
def k0_off524 (v125 : BitVec 32) (v135 : BitVec 32) (k0_t15 : Fin (k0_t15_loop v125 v135).trips) (c1_i32_334 : BitVec 32) : Fin 3 → Nat :=
  let c1_i32_335 : BitVec 32 := 1#32
  let v671 : Index := Scalar.indexCast c1_i32_335
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![1, v672.toNat, 288]
def k0_off525 (v125 : BitVec 32) (v135 : BitVec 32) (k0_t15 : Fin (k0_t15_loop v125 v135).trips) : Fin 3 → Nat :=
  let c1_i32_343 : BitVec 32 := 1#32
  let v686 : Index := Scalar.indexCast c1_i32_343
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![1, v687.toNat, 304]
def k0_off526 (v125 : BitVec 32) (v135 : BitVec 32) (k0_t15 : Fin (k0_t15_loop v125 v135).trips) (c1_i32_345 : BitVec 32) : Fin 3 → Nat :=
  let c1_i32_346 : BitVec 32 := 1#32
  let v690 : Index := Scalar.indexCast c1_i32_346
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![1, v691.toNat, 304]
def k0_off527 (v125 : BitVec 32) (v135 : BitVec 32) (k0_t15 : Fin (k0_t15_loop v125 v135).trips) : Fin 3 → Nat :=
  let c1_i32_354 : BitVec 32 := 1#32
  let v705 : Index := Scalar.indexCast c1_i32_354
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![1, v706.toNat, 320]
def k0_off528 (v125 : BitVec 32) (v135 : BitVec 32) (k0_t15 : Fin (k0_t15_loop v125 v135).trips) (c1_i32_356 : BitVec 32) : Fin 3 → Nat :=
  let c1_i32_357 : BitVec 32 := 1#32
  let v709 : Index := Scalar.indexCast c1_i32_357
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![1, v710.toNat, 320]
def k0_off529 (v125 : BitVec 32) (v135 : BitVec 32) (k0_t15 : Fin (k0_t15_loop v125 v135).trips) : Fin 3 → Nat :=
  let c1_i32_365 : BitVec 32 := 1#32
  let v724 : Index := Scalar.indexCast c1_i32_365
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![1, v725.toNat, 336]
def k0_off530 (v125 : BitVec 32) (v135 : BitVec 32) (k0_t15 : Fin (k0_t15_loop v125 v135).trips) (c1_i32_367 : BitVec 32) : Fin 3 → Nat :=
  let c1_i32_368 : BitVec 32 := 1#32
  let v728 : Index := Scalar.indexCast c1_i32_368
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![1, v729.toNat, 336]
def k0_off531 (v125 : BitVec 32) (v135 : BitVec 32) (k0_t15 : Fin (k0_t15_loop v125 v135).trips) : Fin 3 → Nat :=
  let c1_i32_376 : BitVec 32 := 1#32
  let v743 : Index := Scalar.indexCast c1_i32_376
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![1, v744.toNat, 352]
def k0_off532 (v125 : BitVec 32) (v135 : BitVec 32) (k0_t15 : Fin (k0_t15_loop v125 v135).trips) (c1_i32_378 : BitVec 32) : Fin 3 → Nat :=
  let c1_i32_379 : BitVec 32 := 1#32
  let v747 : Index := Scalar.indexCast c1_i32_379
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![1, v748.toNat, 352]
def k0_off533 (v125 : BitVec 32) (v135 : BitVec 32) (k0_t15 : Fin (k0_t15_loop v125 v135).trips) : Fin 3 → Nat :=
  let c1_i32_387 : BitVec 32 := 1#32
  let v762 : Index := Scalar.indexCast c1_i32_387
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![1, v763.toNat, 368]
def k0_off534 (v125 : BitVec 32) (v135 : BitVec 32) (k0_t15 : Fin (k0_t15_loop v125 v135).trips) (c1_i32_389 : BitVec 32) : Fin 3 → Nat :=
  let c1_i32_390 : BitVec 32 := 1#32
  let v766 : Index := Scalar.indexCast c1_i32_390
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![1, v767.toNat, 368]
def k0_off535 (v125 : BitVec 32) (v135 : BitVec 32) (k0_t15 : Fin (k0_t15_loop v125 v135).trips) : Fin 3 → Nat :=
  let c1_i32_398 : BitVec 32 := 1#32
  let v781 : Index := Scalar.indexCast c1_i32_398
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![1, v782.toNat, 384]
def k0_off536 (v125 : BitVec 32) (v135 : BitVec 32) (k0_t15 : Fin (k0_t15_loop v125 v135).trips) (c1_i32_400 : BitVec 32) : Fin 3 → Nat :=
  let c1_i32_401 : BitVec 32 := 1#32
  let v785 : Index := Scalar.indexCast c1_i32_401
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![1, v786.toNat, 384]
def k0_off537 (v125 : BitVec 32) (v135 : BitVec 32) (k0_t15 : Fin (k0_t15_loop v125 v135).trips) : Fin 3 → Nat :=
  let c1_i32_409 : BitVec 32 := 1#32
  let v800 : Index := Scalar.indexCast c1_i32_409
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![1, v801.toNat, 400]
def k0_off538 (v125 : BitVec 32) (v135 : BitVec 32) (k0_t15 : Fin (k0_t15_loop v125 v135).trips) (c1_i32_411 : BitVec 32) : Fin 3 → Nat :=
  let c1_i32_412 : BitVec 32 := 1#32
  let v804 : Index := Scalar.indexCast c1_i32_412
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![1, v805.toNat, 400]
def k0_off539 (v125 : BitVec 32) (v135 : BitVec 32) (k0_t15 : Fin (k0_t15_loop v125 v135).trips) : Fin 3 → Nat :=
  let c1_i32_420 : BitVec 32 := 1#32
  let v819 : Index := Scalar.indexCast c1_i32_420
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![1, v820.toNat, 416]
def k0_off540 (v125 : BitVec 32) (v135 : BitVec 32) (k0_t15 : Fin (k0_t15_loop v125 v135).trips) (c1_i32_422 : BitVec 32) : Fin 3 → Nat :=
  let c1_i32_423 : BitVec 32 := 1#32
  let v823 : Index := Scalar.indexCast c1_i32_423
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![1, v824.toNat, 416]
def k0_off541 (v125 : BitVec 32) (v135 : BitVec 32) (k0_t15 : Fin (k0_t15_loop v125 v135).trips) : Fin 3 → Nat :=
  let c1_i32_431 : BitVec 32 := 1#32
  let v838 : Index := Scalar.indexCast c1_i32_431
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![1, v839.toNat, 432]
def k0_off542 (v125 : BitVec 32) (v135 : BitVec 32) (k0_t15 : Fin (k0_t15_loop v125 v135).trips) (c1_i32_433 : BitVec 32) : Fin 3 → Nat :=
  let c1_i32_434 : BitVec 32 := 1#32
  let v842 : Index := Scalar.indexCast c1_i32_434
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![1, v843.toNat, 432]
def k0_off543 (v125 : BitVec 32) (v135 : BitVec 32) (k0_t15 : Fin (k0_t15_loop v125 v135).trips) : Fin 3 → Nat :=
  let c1_i32_442 : BitVec 32 := 1#32
  let v857 : Index := Scalar.indexCast c1_i32_442
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![1, v858.toNat, 448]
def k0_off544 (v125 : BitVec 32) (v135 : BitVec 32) (k0_t15 : Fin (k0_t15_loop v125 v135).trips) (c1_i32_444 : BitVec 32) : Fin 3 → Nat :=
  let c1_i32_445 : BitVec 32 := 1#32
  let v861 : Index := Scalar.indexCast c1_i32_445
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![1, v862.toNat, 448]
def k0_off545 (v125 : BitVec 32) (v135 : BitVec 32) (k0_t15 : Fin (k0_t15_loop v125 v135).trips) : Fin 3 → Nat :=
  let c1_i32_453 : BitVec 32 := 1#32
  let v876 : Index := Scalar.indexCast c1_i32_453
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![1, v877.toNat, 464]
def k0_off546 (v125 : BitVec 32) (v135 : BitVec 32) (k0_t15 : Fin (k0_t15_loop v125 v135).trips) (c1_i32_455 : BitVec 32) : Fin 3 → Nat :=
  let c1_i32_456 : BitVec 32 := 1#32
  let v880 : Index := Scalar.indexCast c1_i32_456
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![1, v881.toNat, 464]
def k0_off547 (v125 : BitVec 32) (v135 : BitVec 32) (k0_t15 : Fin (k0_t15_loop v125 v135).trips) : Fin 3 → Nat :=
  let c1_i32_464 : BitVec 32 := 1#32
  let v895 : Index := Scalar.indexCast c1_i32_464
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![1, v896.toNat, 480]
def k0_off548 (v125 : BitVec 32) (v135 : BitVec 32) (k0_t15 : Fin (k0_t15_loop v125 v135).trips) (c1_i32_466 : BitVec 32) : Fin 3 → Nat :=
  let c1_i32_467 : BitVec 32 := 1#32
  let v899 : Index := Scalar.indexCast c1_i32_467
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![1, v900.toNat, 480]
def k0_off549 (v125 : BitVec 32) (v135 : BitVec 32) (k0_t15 : Fin (k0_t15_loop v125 v135).trips) : Fin 3 → Nat :=
  let c1_i32_475 : BitVec 32 := 1#32
  let v914 : Index := Scalar.indexCast c1_i32_475
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![1, v915.toNat, 496]
def k0_off550 (v125 : BitVec 32) (v135 : BitVec 32) (k0_t15 : Fin (k0_t15_loop v125 v135).trips) (c1_i32_477 : BitVec 32) : Fin 3 → Nat :=
  let c1_i32_478 : BitVec 32 := 1#32
  let v918 : Index := Scalar.indexCast c1_i32_478
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t15
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![1, v919.toNat, 496]
@[reducible] def k0_t16_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v139 : BitVec 32 := Scalar.subi v135 v85
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v85
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let v148 : BitVec 32 := Scalar.addi c0_i32_94 v147
  let c1_i32_97 : BitVec 32 := 1#32
  ⟨v151, v148, c1_i32_97⟩
def k0_off551 (v125 : BitVec 32) (v135 : BitVec 32) (k0_t16 : Fin (k0_t16_loop v125 v135).trips) : Fin 3 → Nat :=
  let c1_i32_135 : BitVec 32 := 1#32
  let v325 : Index := Scalar.indexCast c1_i32_135
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![1, v326.toNat, 0]
def k0_off552 (v125 : BitVec 32) (v135 : BitVec 32) (k0_t16 : Fin (k0_t16_loop v125 v135).trips) (c1_i32_137 : BitVec 32) : Fin 3 → Nat :=
  let c1_i32_138 : BitVec 32 := 1#32
  let v329 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![1, v330.toNat, 0]
def k0_off553 (v125 : BitVec 32) (v135 : BitVec 32) (k0_t16 : Fin (k0_t16_loop v125 v135).trips) : Fin 3 → Nat :=
  let c1_i32_145 : BitVec 32 := 1#32
  let v344 : Index := Scalar.indexCast c1_i32_145
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![1, v345.toNat, 16]
def k0_off554 (v125 : BitVec 32) (v135 : BitVec 32) (k0_t16 : Fin (k0_t16_loop v125 v135).trips) (c1_i32_147 : BitVec 32) : Fin 3 → Nat :=
  let c1_i32_148 : BitVec 32 := 1#32
  let v348 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![1, v349.toNat, 16]
def k0_off555 (v125 : BitVec 32) (v135 : BitVec 32) (k0_t16 : Fin (k0_t16_loop v125 v135).trips) : Fin 3 → Nat :=
  let c1_i32_156 : BitVec 32 := 1#32
  let v363 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![1, v364.toNat, 32]
def k0_off556 (v125 : BitVec 32) (v135 : BitVec 32) (k0_t16 : Fin (k0_t16_loop v125 v135).trips) (c1_i32_158 : BitVec 32) : Fin 3 → Nat :=
  let c1_i32_159 : BitVec 32 := 1#32
  let v367 : Index := Scalar.indexCast c1_i32_159
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![1, v368.toNat, 32]
def k0_off557 (v125 : BitVec 32) (v135 : BitVec 32) (k0_t16 : Fin (k0_t16_loop v125 v135).trips) : Fin 3 → Nat :=
  let c1_i32_167 : BitVec 32 := 1#32
  let v382 : Index := Scalar.indexCast c1_i32_167
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![1, v383.toNat, 48]
def k0_off558 (v125 : BitVec 32) (v135 : BitVec 32) (k0_t16 : Fin (k0_t16_loop v125 v135).trips) (c1_i32_169 : BitVec 32) : Fin 3 → Nat :=
  let c1_i32_170 : BitVec 32 := 1#32
  let v386 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![1, v387.toNat, 48]
def k0_off559 (v125 : BitVec 32) (v135 : BitVec 32) (k0_t16 : Fin (k0_t16_loop v125 v135).trips) : Fin 3 → Nat :=
  let c1_i32_178 : BitVec 32 := 1#32
  let v401 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![1, v402.toNat, 64]
def k0_off560 (v125 : BitVec 32) (v135 : BitVec 32) (k0_t16 : Fin (k0_t16_loop v125 v135).trips) (c1_i32_180 : BitVec 32) : Fin 3 → Nat :=
  let c1_i32_181 : BitVec 32 := 1#32
  let v405 : Index := Scalar.indexCast c1_i32_181
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![1, v406.toNat, 64]
def k0_off561 (v125 : BitVec 32) (v135 : BitVec 32) (k0_t16 : Fin (k0_t16_loop v125 v135).trips) : Fin 3 → Nat :=
  let c1_i32_189 : BitVec 32 := 1#32
  let v420 : Index := Scalar.indexCast c1_i32_189
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![1, v421.toNat, 80]
def k0_off562 (v125 : BitVec 32) (v135 : BitVec 32) (k0_t16 : Fin (k0_t16_loop v125 v135).trips) (c1_i32_191 : BitVec 32) : Fin 3 → Nat :=
  let c1_i32_192 : BitVec 32 := 1#32
  let v424 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![1, v425.toNat, 80]
def k0_off563 (v125 : BitVec 32) (v135 : BitVec 32) (k0_t16 : Fin (k0_t16_loop v125 v135).trips) : Fin 3 → Nat :=
  let c1_i32_200 : BitVec 32 := 1#32
  let v439 : Index := Scalar.indexCast c1_i32_200
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![1, v440.toNat, 96]
def k0_off564 (v125 : BitVec 32) (v135 : BitVec 32) (k0_t16 : Fin (k0_t16_loop v125 v135).trips) (c1_i32_202 : BitVec 32) : Fin 3 → Nat :=
  let c1_i32_203 : BitVec 32 := 1#32
  let v443 : Index := Scalar.indexCast c1_i32_203
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![1, v444.toNat, 96]
def k0_off565 (v125 : BitVec 32) (v135 : BitVec 32) (k0_t16 : Fin (k0_t16_loop v125 v135).trips) : Fin 3 → Nat :=
  let c1_i32_211 : BitVec 32 := 1#32
  let v458 : Index := Scalar.indexCast c1_i32_211
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![1, v459.toNat, 112]
def k0_off566 (v125 : BitVec 32) (v135 : BitVec 32) (k0_t16 : Fin (k0_t16_loop v125 v135).trips) (c1_i32_213 : BitVec 32) : Fin 3 → Nat :=
  let c1_i32_214 : BitVec 32 := 1#32
  let v462 : Index := Scalar.indexCast c1_i32_214
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![1, v463.toNat, 112]
def k0_off567 (v125 : BitVec 32) (v135 : BitVec 32) (k0_t16 : Fin (k0_t16_loop v125 v135).trips) : Fin 3 → Nat :=
  let c1_i32_222 : BitVec 32 := 1#32
  let v477 : Index := Scalar.indexCast c1_i32_222
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![1, v478.toNat, 128]
def k0_off568 (v125 : BitVec 32) (v135 : BitVec 32) (k0_t16 : Fin (k0_t16_loop v125 v135).trips) (c1_i32_224 : BitVec 32) : Fin 3 → Nat :=
  let c1_i32_225 : BitVec 32 := 1#32
  let v481 : Index := Scalar.indexCast c1_i32_225
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![1, v482.toNat, 128]
def k0_off569 (v125 : BitVec 32) (v135 : BitVec 32) (k0_t16 : Fin (k0_t16_loop v125 v135).trips) : Fin 3 → Nat :=
  let c1_i32_233 : BitVec 32 := 1#32
  let v496 : Index := Scalar.indexCast c1_i32_233
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![1, v497.toNat, 144]
def k0_off570 (v125 : BitVec 32) (v135 : BitVec 32) (k0_t16 : Fin (k0_t16_loop v125 v135).trips) (c1_i32_235 : BitVec 32) : Fin 3 → Nat :=
  let c1_i32_236 : BitVec 32 := 1#32
  let v500 : Index := Scalar.indexCast c1_i32_236
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![1, v501.toNat, 144]
def k0_off571 (v125 : BitVec 32) (v135 : BitVec 32) (k0_t16 : Fin (k0_t16_loop v125 v135).trips) : Fin 3 → Nat :=
  let c1_i32_244 : BitVec 32 := 1#32
  let v515 : Index := Scalar.indexCast c1_i32_244
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![1, v516.toNat, 160]
def k0_off572 (v125 : BitVec 32) (v135 : BitVec 32) (k0_t16 : Fin (k0_t16_loop v125 v135).trips) (c1_i32_246 : BitVec 32) : Fin 3 → Nat :=
  let c1_i32_247 : BitVec 32 := 1#32
  let v519 : Index := Scalar.indexCast c1_i32_247
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![1, v520.toNat, 160]
def k0_off573 (v125 : BitVec 32) (v135 : BitVec 32) (k0_t16 : Fin (k0_t16_loop v125 v135).trips) : Fin 3 → Nat :=
  let c1_i32_255 : BitVec 32 := 1#32
  let v534 : Index := Scalar.indexCast c1_i32_255
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![1, v535.toNat, 176]
def k0_off574 (v125 : BitVec 32) (v135 : BitVec 32) (k0_t16 : Fin (k0_t16_loop v125 v135).trips) (c1_i32_257 : BitVec 32) : Fin 3 → Nat :=
  let c1_i32_258 : BitVec 32 := 1#32
  let v538 : Index := Scalar.indexCast c1_i32_258
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![1, v539.toNat, 176]
def k0_off575 (v125 : BitVec 32) (v135 : BitVec 32) (k0_t16 : Fin (k0_t16_loop v125 v135).trips) : Fin 3 → Nat :=
  let c1_i32_266 : BitVec 32 := 1#32
  let v553 : Index := Scalar.indexCast c1_i32_266
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![1, v554.toNat, 192]
def k0_off576 (v125 : BitVec 32) (v135 : BitVec 32) (k0_t16 : Fin (k0_t16_loop v125 v135).trips) (c1_i32_268 : BitVec 32) : Fin 3 → Nat :=
  let c1_i32_269 : BitVec 32 := 1#32
  let v557 : Index := Scalar.indexCast c1_i32_269
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![1, v558.toNat, 192]
def k0_off577 (v125 : BitVec 32) (v135 : BitVec 32) (k0_t16 : Fin (k0_t16_loop v125 v135).trips) : Fin 3 → Nat :=
  let c1_i32_277 : BitVec 32 := 1#32
  let v572 : Index := Scalar.indexCast c1_i32_277
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![1, v573.toNat, 208]
def k0_off578 (v125 : BitVec 32) (v135 : BitVec 32) (k0_t16 : Fin (k0_t16_loop v125 v135).trips) (c1_i32_279 : BitVec 32) : Fin 3 → Nat :=
  let c1_i32_280 : BitVec 32 := 1#32
  let v576 : Index := Scalar.indexCast c1_i32_280
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![1, v577.toNat, 208]
def k0_off579 (v125 : BitVec 32) (v135 : BitVec 32) (k0_t16 : Fin (k0_t16_loop v125 v135).trips) : Fin 3 → Nat :=
  let c1_i32_288 : BitVec 32 := 1#32
  let v591 : Index := Scalar.indexCast c1_i32_288
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![1, v592.toNat, 224]
def k0_off580 (v125 : BitVec 32) (v135 : BitVec 32) (k0_t16 : Fin (k0_t16_loop v125 v135).trips) (c1_i32_290 : BitVec 32) : Fin 3 → Nat :=
  let c1_i32_291 : BitVec 32 := 1#32
  let v595 : Index := Scalar.indexCast c1_i32_291
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![1, v596.toNat, 224]
def k0_off581 (v125 : BitVec 32) (v135 : BitVec 32) (k0_t16 : Fin (k0_t16_loop v125 v135).trips) : Fin 3 → Nat :=
  let c1_i32_299 : BitVec 32 := 1#32
  let v610 : Index := Scalar.indexCast c1_i32_299
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![1, v611.toNat, 240]
def k0_off582 (v125 : BitVec 32) (v135 : BitVec 32) (k0_t16 : Fin (k0_t16_loop v125 v135).trips) (c1_i32_301 : BitVec 32) : Fin 3 → Nat :=
  let c1_i32_302 : BitVec 32 := 1#32
  let v614 : Index := Scalar.indexCast c1_i32_302
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![1, v615.toNat, 240]
def k0_off583 (v125 : BitVec 32) (v135 : BitVec 32) (k0_t16 : Fin (k0_t16_loop v125 v135).trips) : Fin 3 → Nat :=
  let c1_i32_310 : BitVec 32 := 1#32
  let v629 : Index := Scalar.indexCast c1_i32_310
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![1, v630.toNat, 256]
def k0_off584 (v125 : BitVec 32) (v135 : BitVec 32) (k0_t16 : Fin (k0_t16_loop v125 v135).trips) (c1_i32_312 : BitVec 32) : Fin 3 → Nat :=
  let c1_i32_313 : BitVec 32 := 1#32
  let v633 : Index := Scalar.indexCast c1_i32_313
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![1, v634.toNat, 256]
def k0_off585 (v125 : BitVec 32) (v135 : BitVec 32) (k0_t16 : Fin (k0_t16_loop v125 v135).trips) : Fin 3 → Nat :=
  let c1_i32_321 : BitVec 32 := 1#32
  let v648 : Index := Scalar.indexCast c1_i32_321
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![1, v649.toNat, 272]
def k0_off586 (v125 : BitVec 32) (v135 : BitVec 32) (k0_t16 : Fin (k0_t16_loop v125 v135).trips) (c1_i32_323 : BitVec 32) : Fin 3 → Nat :=
  let c1_i32_324 : BitVec 32 := 1#32
  let v652 : Index := Scalar.indexCast c1_i32_324
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![1, v653.toNat, 272]
def k0_off587 (v125 : BitVec 32) (v135 : BitVec 32) (k0_t16 : Fin (k0_t16_loop v125 v135).trips) : Fin 3 → Nat :=
  let c1_i32_332 : BitVec 32 := 1#32
  let v667 : Index := Scalar.indexCast c1_i32_332
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![1, v668.toNat, 288]
def k0_off588 (v125 : BitVec 32) (v135 : BitVec 32) (k0_t16 : Fin (k0_t16_loop v125 v135).trips) (c1_i32_334 : BitVec 32) : Fin 3 → Nat :=
  let c1_i32_335 : BitVec 32 := 1#32
  let v671 : Index := Scalar.indexCast c1_i32_335
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![1, v672.toNat, 288]
def k0_off589 (v125 : BitVec 32) (v135 : BitVec 32) (k0_t16 : Fin (k0_t16_loop v125 v135).trips) : Fin 3 → Nat :=
  let c1_i32_343 : BitVec 32 := 1#32
  let v686 : Index := Scalar.indexCast c1_i32_343
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![1, v687.toNat, 304]
def k0_off590 (v125 : BitVec 32) (v135 : BitVec 32) (k0_t16 : Fin (k0_t16_loop v125 v135).trips) (c1_i32_345 : BitVec 32) : Fin 3 → Nat :=
  let c1_i32_346 : BitVec 32 := 1#32
  let v690 : Index := Scalar.indexCast c1_i32_346
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![1, v691.toNat, 304]
def k0_off591 (v125 : BitVec 32) (v135 : BitVec 32) (k0_t16 : Fin (k0_t16_loop v125 v135).trips) : Fin 3 → Nat :=
  let c1_i32_354 : BitVec 32 := 1#32
  let v705 : Index := Scalar.indexCast c1_i32_354
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![1, v706.toNat, 320]
def k0_off592 (v125 : BitVec 32) (v135 : BitVec 32) (k0_t16 : Fin (k0_t16_loop v125 v135).trips) (c1_i32_356 : BitVec 32) : Fin 3 → Nat :=
  let c1_i32_357 : BitVec 32 := 1#32
  let v709 : Index := Scalar.indexCast c1_i32_357
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![1, v710.toNat, 320]
def k0_off593 (v125 : BitVec 32) (v135 : BitVec 32) (k0_t16 : Fin (k0_t16_loop v125 v135).trips) : Fin 3 → Nat :=
  let c1_i32_365 : BitVec 32 := 1#32
  let v724 : Index := Scalar.indexCast c1_i32_365
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![1, v725.toNat, 336]
def k0_off594 (v125 : BitVec 32) (v135 : BitVec 32) (k0_t16 : Fin (k0_t16_loop v125 v135).trips) (c1_i32_367 : BitVec 32) : Fin 3 → Nat :=
  let c1_i32_368 : BitVec 32 := 1#32
  let v728 : Index := Scalar.indexCast c1_i32_368
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![1, v729.toNat, 336]
def k0_off595 (v125 : BitVec 32) (v135 : BitVec 32) (k0_t16 : Fin (k0_t16_loop v125 v135).trips) : Fin 3 → Nat :=
  let c1_i32_376 : BitVec 32 := 1#32
  let v743 : Index := Scalar.indexCast c1_i32_376
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![1, v744.toNat, 352]
def k0_off596 (v125 : BitVec 32) (v135 : BitVec 32) (k0_t16 : Fin (k0_t16_loop v125 v135).trips) (c1_i32_378 : BitVec 32) : Fin 3 → Nat :=
  let c1_i32_379 : BitVec 32 := 1#32
  let v747 : Index := Scalar.indexCast c1_i32_379
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![1, v748.toNat, 352]
def k0_off597 (v125 : BitVec 32) (v135 : BitVec 32) (k0_t16 : Fin (k0_t16_loop v125 v135).trips) : Fin 3 → Nat :=
  let c1_i32_387 : BitVec 32 := 1#32
  let v762 : Index := Scalar.indexCast c1_i32_387
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![1, v763.toNat, 368]
def k0_off598 (v125 : BitVec 32) (v135 : BitVec 32) (k0_t16 : Fin (k0_t16_loop v125 v135).trips) (c1_i32_389 : BitVec 32) : Fin 3 → Nat :=
  let c1_i32_390 : BitVec 32 := 1#32
  let v766 : Index := Scalar.indexCast c1_i32_390
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![1, v767.toNat, 368]
def k0_off599 (v125 : BitVec 32) (v135 : BitVec 32) (k0_t16 : Fin (k0_t16_loop v125 v135).trips) : Fin 3 → Nat :=
  let c1_i32_398 : BitVec 32 := 1#32
  let v781 : Index := Scalar.indexCast c1_i32_398
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![1, v782.toNat, 384]
def k0_off600 (v125 : BitVec 32) (v135 : BitVec 32) (k0_t16 : Fin (k0_t16_loop v125 v135).trips) (c1_i32_400 : BitVec 32) : Fin 3 → Nat :=
  let c1_i32_401 : BitVec 32 := 1#32
  let v785 : Index := Scalar.indexCast c1_i32_401
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![1, v786.toNat, 384]
def k0_off601 (v125 : BitVec 32) (v135 : BitVec 32) (k0_t16 : Fin (k0_t16_loop v125 v135).trips) : Fin 3 → Nat :=
  let c1_i32_409 : BitVec 32 := 1#32
  let v800 : Index := Scalar.indexCast c1_i32_409
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![1, v801.toNat, 400]
def k0_off602 (v125 : BitVec 32) (v135 : BitVec 32) (k0_t16 : Fin (k0_t16_loop v125 v135).trips) (c1_i32_411 : BitVec 32) : Fin 3 → Nat :=
  let c1_i32_412 : BitVec 32 := 1#32
  let v804 : Index := Scalar.indexCast c1_i32_412
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![1, v805.toNat, 400]
def k0_off603 (v125 : BitVec 32) (v135 : BitVec 32) (k0_t16 : Fin (k0_t16_loop v125 v135).trips) : Fin 3 → Nat :=
  let c1_i32_420 : BitVec 32 := 1#32
  let v819 : Index := Scalar.indexCast c1_i32_420
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![1, v820.toNat, 416]
def k0_off604 (v125 : BitVec 32) (v135 : BitVec 32) (k0_t16 : Fin (k0_t16_loop v125 v135).trips) (c1_i32_422 : BitVec 32) : Fin 3 → Nat :=
  let c1_i32_423 : BitVec 32 := 1#32
  let v823 : Index := Scalar.indexCast c1_i32_423
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![1, v824.toNat, 416]
def k0_off605 (v125 : BitVec 32) (v135 : BitVec 32) (k0_t16 : Fin (k0_t16_loop v125 v135).trips) : Fin 3 → Nat :=
  let c1_i32_431 : BitVec 32 := 1#32
  let v838 : Index := Scalar.indexCast c1_i32_431
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![1, v839.toNat, 432]
def k0_off606 (v125 : BitVec 32) (v135 : BitVec 32) (k0_t16 : Fin (k0_t16_loop v125 v135).trips) (c1_i32_433 : BitVec 32) : Fin 3 → Nat :=
  let c1_i32_434 : BitVec 32 := 1#32
  let v842 : Index := Scalar.indexCast c1_i32_434
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![1, v843.toNat, 432]
def k0_off607 (v125 : BitVec 32) (v135 : BitVec 32) (k0_t16 : Fin (k0_t16_loop v125 v135).trips) : Fin 3 → Nat :=
  let c1_i32_442 : BitVec 32 := 1#32
  let v857 : Index := Scalar.indexCast c1_i32_442
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![1, v858.toNat, 448]
def k0_off608 (v125 : BitVec 32) (v135 : BitVec 32) (k0_t16 : Fin (k0_t16_loop v125 v135).trips) (c1_i32_444 : BitVec 32) : Fin 3 → Nat :=
  let c1_i32_445 : BitVec 32 := 1#32
  let v861 : Index := Scalar.indexCast c1_i32_445
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![1, v862.toNat, 448]
def k0_off609 (v125 : BitVec 32) (v135 : BitVec 32) (k0_t16 : Fin (k0_t16_loop v125 v135).trips) : Fin 3 → Nat :=
  let c1_i32_453 : BitVec 32 := 1#32
  let v876 : Index := Scalar.indexCast c1_i32_453
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![1, v877.toNat, 464]
def k0_off610 (v125 : BitVec 32) (v135 : BitVec 32) (k0_t16 : Fin (k0_t16_loop v125 v135).trips) (c1_i32_455 : BitVec 32) : Fin 3 → Nat :=
  let c1_i32_456 : BitVec 32 := 1#32
  let v880 : Index := Scalar.indexCast c1_i32_456
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![1, v881.toNat, 464]
def k0_off611 (v125 : BitVec 32) (v135 : BitVec 32) (k0_t16 : Fin (k0_t16_loop v125 v135).trips) : Fin 3 → Nat :=
  let c1_i32_464 : BitVec 32 := 1#32
  let v895 : Index := Scalar.indexCast c1_i32_464
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![1, v896.toNat, 480]
def k0_off612 (v125 : BitVec 32) (v135 : BitVec 32) (k0_t16 : Fin (k0_t16_loop v125 v135).trips) (c1_i32_466 : BitVec 32) : Fin 3 → Nat :=
  let c1_i32_467 : BitVec 32 := 1#32
  let v899 : Index := Scalar.indexCast c1_i32_467
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![1, v900.toNat, 480]
def k0_off613 (v125 : BitVec 32) (v135 : BitVec 32) (k0_t16 : Fin (k0_t16_loop v125 v135).trips) : Fin 3 → Nat :=
  let c1_i32_475 : BitVec 32 := 1#32
  let v914 : Index := Scalar.indexCast c1_i32_475
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![1, v915.toNat, 496]
def k0_off614 (v125 : BitVec 32) (v135 : BitVec 32) (k0_t16 : Fin (k0_t16_loop v125 v135).trips) (c1_i32_477 : BitVec 32) : Fin 3 → Nat :=
  let c1_i32_478 : BitVec 32 := 1#32
  let v918 : Index := Scalar.indexCast c1_i32_478
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t16
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![1, v919.toNat, 496]
@[reducible] def k0_t17_loop (v125 : BitVec 32) (v135 : BitVec 32) : Scf.Loop 32 :=
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_99 : BitVec 32 := 1#32
  ⟨v155, v160, c1_i32_99⟩
def k0_off615 (v125 : BitVec 32) (v135 : BitVec 32) (k0_t17 : Fin (k0_t17_loop v125 v135).trips) : Fin 3 → Nat :=
  let c1_i32_134 : BitVec 32 := 1#32
  let v323 : Index := Scalar.indexCast c1_i32_134
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v324 : Index := Scalar.indexCast arg14
  let c0_135 : Index := 0#32
  ![1, v324.toNat, 0]
def k0_off616 (v125 : BitVec 32) (v135 : BitVec 32) (k0_t17 : Fin (k0_t17_loop v125 v135).trips) : Fin 3 → Nat :=
  let c1_i32_136 : BitVec 32 := 1#32
  let v327 : Index := Scalar.indexCast c1_i32_136
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v328 : Index := Scalar.indexCast arg14
  let c16_137 : Index := 16#32
  ![1, v328.toNat, 16]
def k0_off617 (v125 : BitVec 32) (v135 : BitVec 32) (k0_t17 : Fin (k0_t17_loop v125 v135).trips) : Fin 3 → Nat :=
  let c1_i32_138 : BitVec 32 := 1#32
  let v331 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v332 : Index := Scalar.indexCast arg14
  let c32_139 : Index := 32#32
  ![1, v332.toNat, 32]
def k0_off618 (v125 : BitVec 32) (v135 : BitVec 32) (k0_t17 : Fin (k0_t17_loop v125 v135).trips) : Fin 3 → Nat :=
  let c1_i32_140 : BitVec 32 := 1#32
  let v335 : Index := Scalar.indexCast c1_i32_140
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v336 : Index := Scalar.indexCast arg14
  let c48_141 : Index := 48#32
  ![1, v336.toNat, 48]
def k0_off619 (v125 : BitVec 32) (v135 : BitVec 32) (k0_t17 : Fin (k0_t17_loop v125 v135).trips) : Fin 3 → Nat :=
  let c1_i32_142 : BitVec 32 := 1#32
  let v339 : Index := Scalar.indexCast c1_i32_142
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v340 : Index := Scalar.indexCast arg14
  let c64_143 : Index := 64#32
  ![1, v340.toNat, 64]
def k0_off620 (v125 : BitVec 32) (v135 : BitVec 32) (k0_t17 : Fin (k0_t17_loop v125 v135).trips) : Fin 3 → Nat :=
  let c1_i32_144 : BitVec 32 := 1#32
  let v343 : Index := Scalar.indexCast c1_i32_144
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v344 : Index := Scalar.indexCast arg14
  let c80_145 : Index := 80#32
  ![1, v344.toNat, 80]
def k0_off621 (v125 : BitVec 32) (v135 : BitVec 32) (k0_t17 : Fin (k0_t17_loop v125 v135).trips) : Fin 3 → Nat :=
  let c1_i32_146 : BitVec 32 := 1#32
  let v347 : Index := Scalar.indexCast c1_i32_146
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v348 : Index := Scalar.indexCast arg14
  let c96_147 : Index := 96#32
  ![1, v348.toNat, 96]
def k0_off622 (v125 : BitVec 32) (v135 : BitVec 32) (k0_t17 : Fin (k0_t17_loop v125 v135).trips) : Fin 3 → Nat :=
  let c1_i32_148 : BitVec 32 := 1#32
  let v351 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v352 : Index := Scalar.indexCast arg14
  let c112_149 : Index := 112#32
  ![1, v352.toNat, 112]
def k0_off623 (v125 : BitVec 32) (v135 : BitVec 32) (k0_t17 : Fin (k0_t17_loop v125 v135).trips) : Fin 3 → Nat :=
  let c1_i32_150 : BitVec 32 := 1#32
  let v355 : Index := Scalar.indexCast c1_i32_150
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v356 : Index := Scalar.indexCast arg14
  let c128_151 : Index := 128#32
  ![1, v356.toNat, 128]
def k0_off624 (v125 : BitVec 32) (v135 : BitVec 32) (k0_t17 : Fin (k0_t17_loop v125 v135).trips) : Fin 3 → Nat :=
  let c1_i32_152 : BitVec 32 := 1#32
  let v359 : Index := Scalar.indexCast c1_i32_152
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v360 : Index := Scalar.indexCast arg14
  let c144_153 : Index := 144#32
  ![1, v360.toNat, 144]
def k0_off625 (v125 : BitVec 32) (v135 : BitVec 32) (k0_t17 : Fin (k0_t17_loop v125 v135).trips) : Fin 3 → Nat :=
  let c1_i32_154 : BitVec 32 := 1#32
  let v363 : Index := Scalar.indexCast c1_i32_154
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v364 : Index := Scalar.indexCast arg14
  let c160_155 : Index := 160#32
  ![1, v364.toNat, 160]
def k0_off626 (v125 : BitVec 32) (v135 : BitVec 32) (k0_t17 : Fin (k0_t17_loop v125 v135).trips) : Fin 3 → Nat :=
  let c1_i32_156 : BitVec 32 := 1#32
  let v367 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v368 : Index := Scalar.indexCast arg14
  let c176_157 : Index := 176#32
  ![1, v368.toNat, 176]
def k0_off627 (v125 : BitVec 32) (v135 : BitVec 32) (k0_t17 : Fin (k0_t17_loop v125 v135).trips) : Fin 3 → Nat :=
  let c1_i32_158 : BitVec 32 := 1#32
  let v371 : Index := Scalar.indexCast c1_i32_158
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v372 : Index := Scalar.indexCast arg14
  let c192_159 : Index := 192#32
  ![1, v372.toNat, 192]
def k0_off628 (v125 : BitVec 32) (v135 : BitVec 32) (k0_t17 : Fin (k0_t17_loop v125 v135).trips) : Fin 3 → Nat :=
  let c1_i32_160 : BitVec 32 := 1#32
  let v375 : Index := Scalar.indexCast c1_i32_160
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v376 : Index := Scalar.indexCast arg14
  let c208_161 : Index := 208#32
  ![1, v376.toNat, 208]
def k0_off629 (v125 : BitVec 32) (v135 : BitVec 32) (k0_t17 : Fin (k0_t17_loop v125 v135).trips) : Fin 3 → Nat :=
  let c1_i32_162 : BitVec 32 := 1#32
  let v379 : Index := Scalar.indexCast c1_i32_162
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v380 : Index := Scalar.indexCast arg14
  let c224_163 : Index := 224#32
  ![1, v380.toNat, 224]
def k0_off630 (v125 : BitVec 32) (v135 : BitVec 32) (k0_t17 : Fin (k0_t17_loop v125 v135).trips) : Fin 3 → Nat :=
  let c1_i32_164 : BitVec 32 := 1#32
  let v383 : Index := Scalar.indexCast c1_i32_164
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v384 : Index := Scalar.indexCast arg14
  let c240_165 : Index := 240#32
  ![1, v384.toNat, 240]
def k0_off631 (v125 : BitVec 32) (v135 : BitVec 32) (k0_t17 : Fin (k0_t17_loop v125 v135).trips) : Fin 3 → Nat :=
  let c1_i32_166 : BitVec 32 := 1#32
  let v387 : Index := Scalar.indexCast c1_i32_166
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v388 : Index := Scalar.indexCast arg14
  let c256_167 : Index := 256#32
  ![1, v388.toNat, 256]
def k0_off632 (v125 : BitVec 32) (v135 : BitVec 32) (k0_t17 : Fin (k0_t17_loop v125 v135).trips) : Fin 3 → Nat :=
  let c1_i32_168 : BitVec 32 := 1#32
  let v391 : Index := Scalar.indexCast c1_i32_168
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v392 : Index := Scalar.indexCast arg14
  let c272_169 : Index := 272#32
  ![1, v392.toNat, 272]
def k0_off633 (v125 : BitVec 32) (v135 : BitVec 32) (k0_t17 : Fin (k0_t17_loop v125 v135).trips) : Fin 3 → Nat :=
  let c1_i32_170 : BitVec 32 := 1#32
  let v395 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v396 : Index := Scalar.indexCast arg14
  let c288_171 : Index := 288#32
  ![1, v396.toNat, 288]
def k0_off634 (v125 : BitVec 32) (v135 : BitVec 32) (k0_t17 : Fin (k0_t17_loop v125 v135).trips) : Fin 3 → Nat :=
  let c1_i32_172 : BitVec 32 := 1#32
  let v399 : Index := Scalar.indexCast c1_i32_172
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v400 : Index := Scalar.indexCast arg14
  let c304_173 : Index := 304#32
  ![1, v400.toNat, 304]
def k0_off635 (v125 : BitVec 32) (v135 : BitVec 32) (k0_t17 : Fin (k0_t17_loop v125 v135).trips) : Fin 3 → Nat :=
  let c1_i32_174 : BitVec 32 := 1#32
  let v403 : Index := Scalar.indexCast c1_i32_174
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v404 : Index := Scalar.indexCast arg14
  let c320_175 : Index := 320#32
  ![1, v404.toNat, 320]
def k0_off636 (v125 : BitVec 32) (v135 : BitVec 32) (k0_t17 : Fin (k0_t17_loop v125 v135).trips) : Fin 3 → Nat :=
  let c1_i32_176 : BitVec 32 := 1#32
  let v407 : Index := Scalar.indexCast c1_i32_176
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v408 : Index := Scalar.indexCast arg14
  let c336_177 : Index := 336#32
  ![1, v408.toNat, 336]
def k0_off637 (v125 : BitVec 32) (v135 : BitVec 32) (k0_t17 : Fin (k0_t17_loop v125 v135).trips) : Fin 3 → Nat :=
  let c1_i32_178 : BitVec 32 := 1#32
  let v411 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v412 : Index := Scalar.indexCast arg14
  let c352_179 : Index := 352#32
  ![1, v412.toNat, 352]
def k0_off638 (v125 : BitVec 32) (v135 : BitVec 32) (k0_t17 : Fin (k0_t17_loop v125 v135).trips) : Fin 3 → Nat :=
  let c1_i32_180 : BitVec 32 := 1#32
  let v415 : Index := Scalar.indexCast c1_i32_180
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v416 : Index := Scalar.indexCast arg14
  let c368_181 : Index := 368#32
  ![1, v416.toNat, 368]
def k0_off639 (v125 : BitVec 32) (v135 : BitVec 32) (k0_t17 : Fin (k0_t17_loop v125 v135).trips) : Fin 3 → Nat :=
  let c1_i32_182 : BitVec 32 := 1#32
  let v419 : Index := Scalar.indexCast c1_i32_182
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v420 : Index := Scalar.indexCast arg14
  let c384_183 : Index := 384#32
  ![1, v420.toNat, 384]
def k0_off640 (v125 : BitVec 32) (v135 : BitVec 32) (k0_t17 : Fin (k0_t17_loop v125 v135).trips) : Fin 3 → Nat :=
  let c1_i32_184 : BitVec 32 := 1#32
  let v423 : Index := Scalar.indexCast c1_i32_184
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v424 : Index := Scalar.indexCast arg14
  let c400_185 : Index := 400#32
  ![1, v424.toNat, 400]
def k0_off641 (v125 : BitVec 32) (v135 : BitVec 32) (k0_t17 : Fin (k0_t17_loop v125 v135).trips) : Fin 3 → Nat :=
  let c1_i32_186 : BitVec 32 := 1#32
  let v427 : Index := Scalar.indexCast c1_i32_186
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v428 : Index := Scalar.indexCast arg14
  let c416_187 : Index := 416#32
  ![1, v428.toNat, 416]
def k0_off642 (v125 : BitVec 32) (v135 : BitVec 32) (k0_t17 : Fin (k0_t17_loop v125 v135).trips) : Fin 3 → Nat :=
  let c1_i32_188 : BitVec 32 := 1#32
  let v431 : Index := Scalar.indexCast c1_i32_188
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v432 : Index := Scalar.indexCast arg14
  let c432_189 : Index := 432#32
  ![1, v432.toNat, 432]
def k0_off643 (v125 : BitVec 32) (v135 : BitVec 32) (k0_t17 : Fin (k0_t17_loop v125 v135).trips) : Fin 3 → Nat :=
  let c1_i32_190 : BitVec 32 := 1#32
  let v435 : Index := Scalar.indexCast c1_i32_190
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v436 : Index := Scalar.indexCast arg14
  let c448_191 : Index := 448#32
  ![1, v436.toNat, 448]
def k0_off644 (v125 : BitVec 32) (v135 : BitVec 32) (k0_t17 : Fin (k0_t17_loop v125 v135).trips) : Fin 3 → Nat :=
  let c1_i32_192 : BitVec 32 := 1#32
  let v439 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v440 : Index := Scalar.indexCast arg14
  let c464_193 : Index := 464#32
  ![1, v440.toNat, 464]
def k0_off645 (v125 : BitVec 32) (v135 : BitVec 32) (k0_t17 : Fin (k0_t17_loop v125 v135).trips) : Fin 3 → Nat :=
  let c1_i32_194 : BitVec 32 := 1#32
  let v443 : Index := Scalar.indexCast c1_i32_194
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v444 : Index := Scalar.indexCast arg14
  let c480_195 : Index := 480#32
  ![1, v444.toNat, 480]
def k0_off646 (v125 : BitVec 32) (v135 : BitVec 32) (k0_t17 : Fin (k0_t17_loop v125 v135).trips) : Fin 3 → Nat :=
  let c1_i32_196 : BitVec 32 := 1#32
  let v447 : Index := Scalar.indexCast c1_i32_196
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t17
  let v448 : Index := Scalar.indexCast arg14
  let c496_197 : Index := 496#32
  ![1, v448.toNat, 496]
@[reducible] def k0_t18_loop (v125 : BitVec 32) (v135 : BitVec 32) : Scf.Loop 32 :=
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let v157 : BitVec 32 := Scalar.addi v155 v156
  let c1_i32_100 : BitVec 32 := 1#32
  ⟨v160, v157, c1_i32_100⟩
def k0_off647 (v125 : BitVec 32) (v135 : BitVec 32) (k0_t18 : Fin (k0_t18_loop v125 v135).trips) : Fin 3 → Nat :=
  let c1_i32_134 : BitVec 32 := 1#32
  let v323 : Index := Scalar.indexCast c1_i32_134
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v324 : Index := Scalar.indexCast arg14
  let c0_135 : Index := 0#32
  ![1, v324.toNat, 0]
def k0_off648 (v125 : BitVec 32) (v135 : BitVec 32) (k0_t18 : Fin (k0_t18_loop v125 v135).trips) : Fin 3 → Nat :=
  let c1_i32_136 : BitVec 32 := 1#32
  let v327 : Index := Scalar.indexCast c1_i32_136
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v328 : Index := Scalar.indexCast arg14
  let c16_137 : Index := 16#32
  ![1, v328.toNat, 16]
def k0_off649 (v125 : BitVec 32) (v135 : BitVec 32) (k0_t18 : Fin (k0_t18_loop v125 v135).trips) : Fin 3 → Nat :=
  let c1_i32_138 : BitVec 32 := 1#32
  let v331 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v332 : Index := Scalar.indexCast arg14
  let c32_139 : Index := 32#32
  ![1, v332.toNat, 32]
def k0_off650 (v125 : BitVec 32) (v135 : BitVec 32) (k0_t18 : Fin (k0_t18_loop v125 v135).trips) : Fin 3 → Nat :=
  let c1_i32_140 : BitVec 32 := 1#32
  let v335 : Index := Scalar.indexCast c1_i32_140
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v336 : Index := Scalar.indexCast arg14
  let c48_141 : Index := 48#32
  ![1, v336.toNat, 48]
def k0_off651 (v125 : BitVec 32) (v135 : BitVec 32) (k0_t18 : Fin (k0_t18_loop v125 v135).trips) : Fin 3 → Nat :=
  let c1_i32_142 : BitVec 32 := 1#32
  let v339 : Index := Scalar.indexCast c1_i32_142
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v340 : Index := Scalar.indexCast arg14
  let c64_143 : Index := 64#32
  ![1, v340.toNat, 64]
def k0_off652 (v125 : BitVec 32) (v135 : BitVec 32) (k0_t18 : Fin (k0_t18_loop v125 v135).trips) : Fin 3 → Nat :=
  let c1_i32_144 : BitVec 32 := 1#32
  let v343 : Index := Scalar.indexCast c1_i32_144
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v344 : Index := Scalar.indexCast arg14
  let c80_145 : Index := 80#32
  ![1, v344.toNat, 80]
def k0_off653 (v125 : BitVec 32) (v135 : BitVec 32) (k0_t18 : Fin (k0_t18_loop v125 v135).trips) : Fin 3 → Nat :=
  let c1_i32_146 : BitVec 32 := 1#32
  let v347 : Index := Scalar.indexCast c1_i32_146
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v348 : Index := Scalar.indexCast arg14
  let c96_147 : Index := 96#32
  ![1, v348.toNat, 96]
def k0_off654 (v125 : BitVec 32) (v135 : BitVec 32) (k0_t18 : Fin (k0_t18_loop v125 v135).trips) : Fin 3 → Nat :=
  let c1_i32_148 : BitVec 32 := 1#32
  let v351 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v352 : Index := Scalar.indexCast arg14
  let c112_149 : Index := 112#32
  ![1, v352.toNat, 112]
def k0_off655 (v125 : BitVec 32) (v135 : BitVec 32) (k0_t18 : Fin (k0_t18_loop v125 v135).trips) : Fin 3 → Nat :=
  let c1_i32_150 : BitVec 32 := 1#32
  let v355 : Index := Scalar.indexCast c1_i32_150
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v356 : Index := Scalar.indexCast arg14
  let c128_151 : Index := 128#32
  ![1, v356.toNat, 128]
def k0_off656 (v125 : BitVec 32) (v135 : BitVec 32) (k0_t18 : Fin (k0_t18_loop v125 v135).trips) : Fin 3 → Nat :=
  let c1_i32_152 : BitVec 32 := 1#32
  let v359 : Index := Scalar.indexCast c1_i32_152
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v360 : Index := Scalar.indexCast arg14
  let c144_153 : Index := 144#32
  ![1, v360.toNat, 144]
def k0_off657 (v125 : BitVec 32) (v135 : BitVec 32) (k0_t18 : Fin (k0_t18_loop v125 v135).trips) : Fin 3 → Nat :=
  let c1_i32_154 : BitVec 32 := 1#32
  let v363 : Index := Scalar.indexCast c1_i32_154
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v364 : Index := Scalar.indexCast arg14
  let c160_155 : Index := 160#32
  ![1, v364.toNat, 160]
def k0_off658 (v125 : BitVec 32) (v135 : BitVec 32) (k0_t18 : Fin (k0_t18_loop v125 v135).trips) : Fin 3 → Nat :=
  let c1_i32_156 : BitVec 32 := 1#32
  let v367 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v368 : Index := Scalar.indexCast arg14
  let c176_157 : Index := 176#32
  ![1, v368.toNat, 176]
def k0_off659 (v125 : BitVec 32) (v135 : BitVec 32) (k0_t18 : Fin (k0_t18_loop v125 v135).trips) : Fin 3 → Nat :=
  let c1_i32_158 : BitVec 32 := 1#32
  let v371 : Index := Scalar.indexCast c1_i32_158
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v372 : Index := Scalar.indexCast arg14
  let c192_159 : Index := 192#32
  ![1, v372.toNat, 192]
def k0_off660 (v125 : BitVec 32) (v135 : BitVec 32) (k0_t18 : Fin (k0_t18_loop v125 v135).trips) : Fin 3 → Nat :=
  let c1_i32_160 : BitVec 32 := 1#32
  let v375 : Index := Scalar.indexCast c1_i32_160
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v376 : Index := Scalar.indexCast arg14
  let c208_161 : Index := 208#32
  ![1, v376.toNat, 208]
def k0_off661 (v125 : BitVec 32) (v135 : BitVec 32) (k0_t18 : Fin (k0_t18_loop v125 v135).trips) : Fin 3 → Nat :=
  let c1_i32_162 : BitVec 32 := 1#32
  let v379 : Index := Scalar.indexCast c1_i32_162
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v380 : Index := Scalar.indexCast arg14
  let c224_163 : Index := 224#32
  ![1, v380.toNat, 224]
def k0_off662 (v125 : BitVec 32) (v135 : BitVec 32) (k0_t18 : Fin (k0_t18_loop v125 v135).trips) : Fin 3 → Nat :=
  let c1_i32_164 : BitVec 32 := 1#32
  let v383 : Index := Scalar.indexCast c1_i32_164
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v384 : Index := Scalar.indexCast arg14
  let c240_165 : Index := 240#32
  ![1, v384.toNat, 240]
def k0_off663 (v125 : BitVec 32) (v135 : BitVec 32) (k0_t18 : Fin (k0_t18_loop v125 v135).trips) : Fin 3 → Nat :=
  let c1_i32_166 : BitVec 32 := 1#32
  let v387 : Index := Scalar.indexCast c1_i32_166
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v388 : Index := Scalar.indexCast arg14
  let c256_167 : Index := 256#32
  ![1, v388.toNat, 256]
def k0_off664 (v125 : BitVec 32) (v135 : BitVec 32) (k0_t18 : Fin (k0_t18_loop v125 v135).trips) : Fin 3 → Nat :=
  let c1_i32_168 : BitVec 32 := 1#32
  let v391 : Index := Scalar.indexCast c1_i32_168
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v392 : Index := Scalar.indexCast arg14
  let c272_169 : Index := 272#32
  ![1, v392.toNat, 272]
def k0_off665 (v125 : BitVec 32) (v135 : BitVec 32) (k0_t18 : Fin (k0_t18_loop v125 v135).trips) : Fin 3 → Nat :=
  let c1_i32_170 : BitVec 32 := 1#32
  let v395 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v396 : Index := Scalar.indexCast arg14
  let c288_171 : Index := 288#32
  ![1, v396.toNat, 288]
def k0_off666 (v125 : BitVec 32) (v135 : BitVec 32) (k0_t18 : Fin (k0_t18_loop v125 v135).trips) : Fin 3 → Nat :=
  let c1_i32_172 : BitVec 32 := 1#32
  let v399 : Index := Scalar.indexCast c1_i32_172
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v400 : Index := Scalar.indexCast arg14
  let c304_173 : Index := 304#32
  ![1, v400.toNat, 304]
def k0_off667 (v125 : BitVec 32) (v135 : BitVec 32) (k0_t18 : Fin (k0_t18_loop v125 v135).trips) : Fin 3 → Nat :=
  let c1_i32_174 : BitVec 32 := 1#32
  let v403 : Index := Scalar.indexCast c1_i32_174
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v404 : Index := Scalar.indexCast arg14
  let c320_175 : Index := 320#32
  ![1, v404.toNat, 320]
def k0_off668 (v125 : BitVec 32) (v135 : BitVec 32) (k0_t18 : Fin (k0_t18_loop v125 v135).trips) : Fin 3 → Nat :=
  let c1_i32_176 : BitVec 32 := 1#32
  let v407 : Index := Scalar.indexCast c1_i32_176
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v408 : Index := Scalar.indexCast arg14
  let c336_177 : Index := 336#32
  ![1, v408.toNat, 336]
def k0_off669 (v125 : BitVec 32) (v135 : BitVec 32) (k0_t18 : Fin (k0_t18_loop v125 v135).trips) : Fin 3 → Nat :=
  let c1_i32_178 : BitVec 32 := 1#32
  let v411 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v412 : Index := Scalar.indexCast arg14
  let c352_179 : Index := 352#32
  ![1, v412.toNat, 352]
def k0_off670 (v125 : BitVec 32) (v135 : BitVec 32) (k0_t18 : Fin (k0_t18_loop v125 v135).trips) : Fin 3 → Nat :=
  let c1_i32_180 : BitVec 32 := 1#32
  let v415 : Index := Scalar.indexCast c1_i32_180
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v416 : Index := Scalar.indexCast arg14
  let c368_181 : Index := 368#32
  ![1, v416.toNat, 368]
def k0_off671 (v125 : BitVec 32) (v135 : BitVec 32) (k0_t18 : Fin (k0_t18_loop v125 v135).trips) : Fin 3 → Nat :=
  let c1_i32_182 : BitVec 32 := 1#32
  let v419 : Index := Scalar.indexCast c1_i32_182
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v420 : Index := Scalar.indexCast arg14
  let c384_183 : Index := 384#32
  ![1, v420.toNat, 384]
def k0_off672 (v125 : BitVec 32) (v135 : BitVec 32) (k0_t18 : Fin (k0_t18_loop v125 v135).trips) : Fin 3 → Nat :=
  let c1_i32_184 : BitVec 32 := 1#32
  let v423 : Index := Scalar.indexCast c1_i32_184
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v424 : Index := Scalar.indexCast arg14
  let c400_185 : Index := 400#32
  ![1, v424.toNat, 400]
def k0_off673 (v125 : BitVec 32) (v135 : BitVec 32) (k0_t18 : Fin (k0_t18_loop v125 v135).trips) : Fin 3 → Nat :=
  let c1_i32_186 : BitVec 32 := 1#32
  let v427 : Index := Scalar.indexCast c1_i32_186
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v428 : Index := Scalar.indexCast arg14
  let c416_187 : Index := 416#32
  ![1, v428.toNat, 416]
def k0_off674 (v125 : BitVec 32) (v135 : BitVec 32) (k0_t18 : Fin (k0_t18_loop v125 v135).trips) : Fin 3 → Nat :=
  let c1_i32_188 : BitVec 32 := 1#32
  let v431 : Index := Scalar.indexCast c1_i32_188
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v432 : Index := Scalar.indexCast arg14
  let c432_189 : Index := 432#32
  ![1, v432.toNat, 432]
def k0_off675 (v125 : BitVec 32) (v135 : BitVec 32) (k0_t18 : Fin (k0_t18_loop v125 v135).trips) : Fin 3 → Nat :=
  let c1_i32_190 : BitVec 32 := 1#32
  let v435 : Index := Scalar.indexCast c1_i32_190
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v436 : Index := Scalar.indexCast arg14
  let c448_191 : Index := 448#32
  ![1, v436.toNat, 448]
def k0_off676 (v125 : BitVec 32) (v135 : BitVec 32) (k0_t18 : Fin (k0_t18_loop v125 v135).trips) : Fin 3 → Nat :=
  let c1_i32_192 : BitVec 32 := 1#32
  let v439 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v440 : Index := Scalar.indexCast arg14
  let c464_193 : Index := 464#32
  ![1, v440.toNat, 464]
def k0_off677 (v125 : BitVec 32) (v135 : BitVec 32) (k0_t18 : Fin (k0_t18_loop v125 v135).trips) : Fin 3 → Nat :=
  let c1_i32_194 : BitVec 32 := 1#32
  let v443 : Index := Scalar.indexCast c1_i32_194
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v444 : Index := Scalar.indexCast arg14
  let c480_195 : Index := 480#32
  ![1, v444.toNat, 480]
def k0_off678 (v125 : BitVec 32) (v135 : BitVec 32) (k0_t18 : Fin (k0_t18_loop v125 v135).trips) : Fin 3 → Nat :=
  let c1_i32_196 : BitVec 32 := 1#32
  let v447 : Index := Scalar.indexCast c1_i32_196
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t18
  let v448 : Index := Scalar.indexCast arg14
  let c496_197 : Index := 496#32
  ![1, v448.toNat, 496]
def k0_off679 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v163 : Index := Scalar.indexCast arg12
  let c0_101 : Index := 0#32
  ![v163.toNat, 0]
def k0_off680 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v168 : Index := Scalar.indexCast arg12
  let c16 : Index := 16#32
  ![v168.toNat, 16]
def k0_off681 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v173 : Index := Scalar.indexCast arg12
  let c32 : Index := 32#32
  ![v173.toNat, 32]
def k0_off682 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v178 : Index := Scalar.indexCast arg12
  let c48 : Index := 48#32
  ![v178.toNat, 48]
def k0_off683 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v183 : Index := Scalar.indexCast arg12
  let c64 : Index := 64#32
  ![v183.toNat, 64]
def k0_off684 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v188 : Index := Scalar.indexCast arg12
  let c80 : Index := 80#32
  ![v188.toNat, 80]
def k0_off685 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v193 : Index := Scalar.indexCast arg12
  let c96 : Index := 96#32
  ![v193.toNat, 96]
def k0_off686 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v198 : Index := Scalar.indexCast arg12
  let c112 : Index := 112#32
  ![v198.toNat, 112]
def k0_off687 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v203 : Index := Scalar.indexCast arg12
  let c128 : Index := 128#32
  ![v203.toNat, 128]
def k0_off688 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v208 : Index := Scalar.indexCast arg12
  let c144 : Index := 144#32
  ![v208.toNat, 144]
def k0_off689 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v213 : Index := Scalar.indexCast arg12
  let c160 : Index := 160#32
  ![v213.toNat, 160]
def k0_off690 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v218 : Index := Scalar.indexCast arg12
  let c176 : Index := 176#32
  ![v218.toNat, 176]
def k0_off691 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v223 : Index := Scalar.indexCast arg12
  let c192 : Index := 192#32
  ![v223.toNat, 192]
def k0_off692 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v228 : Index := Scalar.indexCast arg12
  let c208 : Index := 208#32
  ![v228.toNat, 208]
def k0_off693 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v233 : Index := Scalar.indexCast arg12
  let c224 : Index := 224#32
  ![v233.toNat, 224]
def k0_off694 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v238 : Index := Scalar.indexCast arg12
  let c240 : Index := 240#32
  ![v238.toNat, 240]
def k0_off695 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v243 : Index := Scalar.indexCast arg12
  let c256 : Index := 256#32
  ![v243.toNat, 256]
def k0_off696 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v248 : Index := Scalar.indexCast arg12
  let c272 : Index := 272#32
  ![v248.toNat, 272]
def k0_off697 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v253 : Index := Scalar.indexCast arg12
  let c288 : Index := 288#32
  ![v253.toNat, 288]
def k0_off698 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v258 : Index := Scalar.indexCast arg12
  let c304 : Index := 304#32
  ![v258.toNat, 304]
def k0_off699 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v263 : Index := Scalar.indexCast arg12
  let c320 : Index := 320#32
  ![v263.toNat, 320]
def k0_off700 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v268 : Index := Scalar.indexCast arg12
  let c336 : Index := 336#32
  ![v268.toNat, 336]
def k0_off701 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v273 : Index := Scalar.indexCast arg12
  let c352 : Index := 352#32
  ![v273.toNat, 352]
def k0_off702 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v278 : Index := Scalar.indexCast arg12
  let c368 : Index := 368#32
  ![v278.toNat, 368]
def k0_off703 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v283 : Index := Scalar.indexCast arg12
  let c384 : Index := 384#32
  ![v283.toNat, 384]
def k0_off704 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v288 : Index := Scalar.indexCast arg12
  let c400 : Index := 400#32
  ![v288.toNat, 400]
def k0_off705 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v293 : Index := Scalar.indexCast arg12
  let c416 : Index := 416#32
  ![v293.toNat, 416]
def k0_off706 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v298 : Index := Scalar.indexCast arg12
  let c432 : Index := 432#32
  ![v298.toNat, 432]
def k0_off707 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v303 : Index := Scalar.indexCast arg12
  let c448 : Index := 448#32
  ![v303.toNat, 448]
def k0_off708 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v308 : Index := Scalar.indexCast arg12
  let c464 : Index := 464#32
  ![v308.toNat, 464]
def k0_off709 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v313 : Index := Scalar.indexCast arg12
  let c480 : Index := 480#32
  ![v313.toNat, 480]
def k0_off710 (v93 : BitVec 32) (v103 : BitVec 32) (k0_t14 : Fin (k0_t14_loop v93 v103).trips) : Fin 2 → Nat :=
  let c1_i32_74 : BitVec 32 := 1#32
  let arg12 : BitVec 32 := Scf.iv v93 c1_i32_74 k0_t14
  let v318 : Index := Scalar.indexCast arg12
  let c496 : Index := 496#32
  ![v318.toNat, 496]

def k0_chk11_0 (v93 : BitVec 32) (v103 : BitVec 32) (k0_t14 : Fin (k0_t14_loop v93 v103).trips) (v125 : BitVec 32) (v135 : BitVec 32) : Prop :=
  (∀ (k0_h4 : k0_cond4 v125 v135 = 1#1), (k0_t15_loop v125 v135).OK) ∧
  (∀ k0_t15 : Fin (k0_t15_loop v125 v135).trips, ∀ (k0_h4 : k0_cond4 v125 v135 = 1#1), ∀ a, (k0_off487 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off488 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off489 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off490 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off491 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off492 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off493 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off494 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off495 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off496 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off497 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off498 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off499 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off500 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off501 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off502 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off503 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off504 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off505 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off506 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off507 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off508 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off509 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off510 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off511 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off512 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off513 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off514 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off515 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off516 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off517 v125 v135 k0_t15) a + S1x1x16.size a ≤ S2x64x512.size a)
def k0_chk11_1 (v93 : BitVec 32) (v103 : BitVec 32) (k0_t14 : Fin (k0_t14_loop v93 v103).trips) (v125 : BitVec 32) (v135 : BitVec 32) : Prop :=
  (∀ k0_t15 : Fin (k0_t15_loop v125 v135).trips, ∀ (k0_h4 : k0_cond4 v125 v135 = 1#1), ∀ (r : Fin 3), ∀ a, (k0_off518 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off519 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off520 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off521 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off522 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off523 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off524 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off525 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off526 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off527 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off528 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off529 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off530 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off531 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off532 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off533 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off534 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off535 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off536 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off537 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off538 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off539 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off540 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off541 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off542 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off543 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off544 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off545 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off546 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off547 v125 v135 k0_t15) a + S1x1x16.size a ≤ S2x64x512.size a) ∧
  (∀ k0_t15 : Fin (k0_t15_loop v125 v135).trips, ∀ (k0_h4 : k0_cond4 v125 v135 = 1#1), ∀ (r : Fin 3), ∀ a, (k0_off548 v125 v135 k0_t15 (BitVec.ofNat 32 (1 + r.val))) a + S1x1x16.size a ≤ S2x64x512.size a) ∧
  (∀ k0_t15 : Fin (k0_t15_loop v125 v135).trips, ∀ (k0_h4 : k0_cond4 v125 v135 = 1#1), ∀ a, (k0_off549 v125 v135 k0_t15) a + S1x1x16.size a ≤ S2x64x512.size a)
def k0_chk11_2 (v93 : BitVec 32) (v103 : BitVec 32) (k0_t14 : Fin (k0_t14_loop v93 v103).trips) (v125 : BitVec 32) (v135 : BitVec 32) : Prop :=
  (∀ k0_t15 : Fin (k0_t15_loop v125 v135).trips, ∀ (k0_h4 : k0_cond4 v125 v135 = 1#1), ∀ (r : Fin 3), ∀ a, (k0_off550 v125 v135 k0_t15 (BitVec.ofNat 32 (1 + r.val))) a + S1x1x16.size a ≤ S2x64x512.size a) ∧
  (∀ (k0_h4 : k0_cond4 v125 v135 = 1#1), (k0_t16_loop v125 v135).OK) ∧
  (∀ k0_t16 : Fin (k0_t16_loop v125 v135).trips, ∀ (k0_h4 : k0_cond4 v125 v135 = 1#1), ∀ a, (k0_off551 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off552 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off553 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off554 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off555 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off556 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off557 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off558 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off559 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off560 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off561 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off562 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off563 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off564 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off565 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off566 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off567 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off568 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off569 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off570 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off571 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off572 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off573 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off574 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off575 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off576 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off577 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off578 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off579 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off580 v125 v135 k0_t16 (BitVec.ofNat 32 (1 + r.val))) a + S1x1x16.size a ≤ S2x64x512.size a)
def k0_chk11_3 (v93 : BitVec 32) (v103 : BitVec 32) (k0_t14 : Fin (k0_t14_loop v93 v103).trips) (v125 : BitVec 32) (v135 : BitVec 32) : Prop :=
  (∀ k0_t16 : Fin (k0_t16_loop v125 v135).trips, ∀ (k0_h4 : k0_cond4 v125 v135 = 1#1), ∀ a, (k0_off581 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off582 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off583 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off584 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off585 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off586 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off587 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off588 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off589 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off590 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off591 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off592 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off593 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off594 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off595 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off596 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off597 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off598 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off599 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off600 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off601 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off602 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off603 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off604 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off605 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off606 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off607 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off608 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off609 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off610 v125 v135 k0_t16 (BitVec.ofNat 32 (1 + r.val))) a + S1x1x16.size a ≤ S2x64x512.size a) ∧
  (∀ k0_t16 : Fin (k0_t16_loop v125 v135).trips, ∀ (k0_h4 : k0_cond4 v125 v135 = 1#1), ∀ a, (k0_off611 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off612 v125 v135 k0_t16 (BitVec.ofNat 32 (1 + r.val))) a + S1x1x16.size a ≤ S2x64x512.size a)
def k0_chk11_4 (v93 : BitVec 32) (v103 : BitVec 32) (k0_t14 : Fin (k0_t14_loop v93 v103).trips) (v125 : BitVec 32) (v135 : BitVec 32) : Prop :=
  (∀ k0_t16 : Fin (k0_t16_loop v125 v135).trips, ∀ (k0_h4 : k0_cond4 v125 v135 = 1#1), ∀ a, (k0_off613 v125 v135 k0_t16) a + S1x1x16.size a ≤ S2x64x512.size a) ∧
  (∀ k0_t16 : Fin (k0_t16_loop v125 v135).trips, ∀ (k0_h4 : k0_cond4 v125 v135 = 1#1), ∀ (r : Fin 3), ∀ a, (k0_off614 v125 v135 k0_t16 (BitVec.ofNat 32 (1 + r.val))) a + S1x1x16.size a ≤ S2x64x512.size a) ∧
  (∀ (k0_h4 : k0_cond4 v125 v135 = 1#1), (k0_t17_loop v125 v135).OK) ∧
  (∀ k0_t17 : Fin (k0_t17_loop v125 v135).trips, ∀ (k0_h4 : k0_cond4 v125 v135 = 1#1), ∀ a, (k0_off615 v125 v135 k0_t17) a + S1x1x16.size a ≤ S2x64x512.size a) ∧
  (∀ k0_t17 : Fin (k0_t17_loop v125 v135).trips, ∀ (k0_h4 : k0_cond4 v125 v135 = 1#1), ∀ a, (k0_off616 v125 v135 k0_t17) a + S1x1x16.size a ≤ S2x64x512.size a) ∧
  (∀ k0_t17 : Fin (k0_t17_loop v125 v135).trips, ∀ (k0_h4 : k0_cond4 v125 v135 = 1#1), ∀ a, (k0_off617 v125 v135 k0_t17) a + S1x1x16.size a ≤ S2x64x512.size a) ∧
  (∀ k0_t17 : Fin (k0_t17_loop v125 v135).trips, ∀ (k0_h4 : k0_cond4 v125 v135 = 1#1), ∀ a, (k0_off618 v125 v135 k0_t17) a + S1x1x16.size a ≤ S2x64x512.size a) ∧
  (∀ k0_t17 : Fin (k0_t17_loop v125 v135).trips, ∀ (k0_h4 : k0_cond4 v125 v135 = 1#1), ∀ a, (k0_off619 v125 v135 k0_t17) a + S1x1x16.size a ≤ S2x64x512.size a) ∧
  (∀ k0_t17 : Fin (k0_t17_loop v125 v135).trips, ∀ (k0_h4 : k0_cond4 v125 v135 = 1#1), ∀ a, (k0_off620 v125 v135 k0_t17) a + S1x1x16.size a ≤ S2x64x512.size a) ∧
  (∀ k0_t17 : Fin (k0_t17_loop v125 v135).trips, ∀ (k0_h4 : k0_cond4 v125 v135 = 1#1), ∀ a, (k0_off621 v125 v135 k0_t17) a + S1x1x16.size a ≤ S2x64x512.size a) ∧
  (∀ k0_t17 : Fin (k0_t17_loop v125 v135).trips, ∀ (k0_h4 : k0_cond4 v125 v135 = 1#1), ∀ a, (k0_off622 v125 v135 k0_t17) a + S1x1x16.size a ≤ S2x64x512.size a) ∧
  (∀ k0_t17 : Fin (k0_t17_loop v125 v135).trips, ∀ (k0_h4 : k0_cond4 v125 v135 = 1#1), ∀ a, (k0_off623 v125 v135 k0_t17) a + S1x1x16.size a ≤ S2x64x512.size a) ∧
  (∀ k0_t17 : Fin (k0_t17_loop v125 v135).trips, ∀ (k0_h4 : k0_cond4 v125 v135 = 1#1), ∀ a, (k0_off624 v125 v135 k0_t17) a + S1x1x16.size a ≤ S2x64x512.size a) ∧
  (∀ k0_t17 : Fin (k0_t17_loop v125 v135).trips, ∀ (k0_h4 : k0_cond4 v125 v135 = 1#1), ∀ a, (k0_off625 v125 v135 k0_t17) a + S1x1x16.size a ≤ S2x64x512.size a) ∧
  (∀ k0_t17 : Fin (k0_t17_loop v125 v135).trips, ∀ (k0_h4 : k0_cond4 v125 v135 = 1#1), ∀ a, (k0_off626 v125 v135 k0_t17) a + S1x1x16.size a ≤ S2x64x512.size a) ∧
  (∀ k0_t17 : Fin (k0_t17_loop v125 v135).trips, ∀ (k0_h4 : k0_cond4 v125 v135 = 1#1), ∀ a, (k0_off627 v125 v135 k0_t17) a + S1x1x16.size a ≤ S2x64x512.size a) ∧
  (∀ k0_t17 : Fin (k0_t17_loop v125 v135).trips, ∀ (k0_h4 : k0_cond4 v125 v135 = 1#1), ∀ a, (k0_off628 v125 v135 k0_t17) a + S1x1x16.size a ≤ S2x64x512.size a) ∧
  (∀ k0_t17 : Fin (k0_t17_loop v125 v135).trips, ∀ (k0_h4 : k0_cond4 v125 v135 = 1#1), ∀ a, (k0_off629 v125 v135 k0_t17) a + S1x1x16.size a ≤ S2x64x512.size a) ∧
  (∀ k0_t17 : Fin (k0_t17_loop v125 v135).trips, ∀ (k0_h4 : k0_cond4 v125 v135 = 1#1), ∀ a, (k0_off630 v125 v135 k0_t17) a + S1x1x16.size a ≤ S2x64x512.size a) ∧
  (∀ k0_t17 : Fin (k0_t17_loop v125 v135).trips, ∀ (k0_h4 : k0_cond4 v125 v135 = 1#1), ∀ a, (k0_off631 v125 v135 k0_t17) a + S1x1x16.size a ≤ S2x64x512.size a) ∧
  (∀ k0_t17 : Fin (k0_t17_loop v125 v135).trips, ∀ (k0_h4 : k0_cond4 v125 v135 = 1#1), ∀ a, (k0_off632 v125 v135 k0_t17) a + S1x1x16.size a ≤ S2x64x512.size a) ∧
  (∀ k0_t17 : Fin (k0_t17_loop v125 v135).trips, ∀ (k0_h4 : k0_cond4 v125 v135 = 1#1), ∀ a, (k0_off633 v125 v135 k0_t17) a + S1x1x16.size a ≤ S2x64x512.size a) ∧
  (∀ k0_t17 : Fin (k0_t17_loop v125 v135).trips, ∀ (k0_h4 : k0_cond4 v125 v135 = 1#1), ∀ a, (k0_off634 v125 v135 k0_t17) a + S1x1x16.size a ≤ S2x64x512.size a) ∧
  (∀ k0_t17 : Fin (k0_t17_loop v125 v135).trips, ∀ (k0_h4 : k0_cond4 v125 v135 = 1#1), ∀ a, (k0_off635 v125 v135 k0_t17) a + S1x1x16.size a ≤ S2x64x512.size a) ∧
  (∀ k0_t17 : Fin (k0_t17_loop v125 v135).trips, ∀ (k0_h4 : k0_cond4 v125 v135 = 1#1), ∀ a, (k0_off636 v125 v135 k0_t17) a + S1x1x16.size a ≤ S2x64x512.size a) ∧
  (∀ k0_t17 : Fin (k0_t17_loop v125 v135).trips, ∀ (k0_h4 : k0_cond4 v125 v135 = 1#1), ∀ a, (k0_off637 v125 v135 k0_t17) a + S1x1x16.size a ≤ S2x64x512.size a) ∧
  (∀ k0_t17 : Fin (k0_t17_loop v125 v135).trips, ∀ (k0_h4 : k0_cond4 v125 v135 = 1#1), ∀ a, (k0_off638 v125 v135 k0_t17) a + S1x1x16.size a ≤ S2x64x512.size a) ∧
  (∀ k0_t17 : Fin (k0_t17_loop v125 v135).trips, ∀ (k0_h4 : k0_cond4 v125 v135 = 1#1), ∀ a, (k0_off639 v125 v135 k0_t17) a + S1x1x16.size a ≤ S2x64x512.size a) ∧
  (∀ k0_t17 : Fin (k0_t17_loop v125 v135).trips, ∀ (k0_h4 : k0_cond4 v125 v135 = 1#1), ∀ a, (k0_off640 v125 v135 k0_t17) a + S1x1x16.size a ≤ S2x64x512.size a) ∧
  (∀ k0_t17 : Fin (k0_t17_loop v125 v135).trips, ∀ (k0_h4 : k0_cond4 v125 v135 = 1#1), ∀ a, (k0_off641 v125 v135 k0_t17) a + S1x1x16.size a ≤ S2x64x512.size a) ∧
  (∀ k0_t17 : Fin (k0_t17_loop v125 v135).trips, ∀ (k0_h4 : k0_cond4 v125 v135 = 1#1), ∀ a, (k0_off642 v125 v135 k0_t17) a + S1x1x16.size a ≤ S2x64x512.size a) ∧
  (∀ k0_t17 : Fin (k0_t17_loop v125 v135).trips, ∀ (k0_h4 : k0_cond4 v125 v135 = 1#1), ∀ a, (k0_off643 v125 v135 k0_t17) a + S1x1x16.size a ≤ S2x64x512.size a)
def k0_chk11_5 (v93 : BitVec 32) (v103 : BitVec 32) (k0_t14 : Fin (k0_t14_loop v93 v103).trips) (v125 : BitVec 32) (v135 : BitVec 32) : Prop :=
  (∀ k0_t17 : Fin (k0_t17_loop v125 v135).trips, ∀ (k0_h4 : k0_cond4 v125 v135 = 1#1), ∀ a, (k0_off644 v125 v135 k0_t17) a + S1x1x16.size a ≤ S2x64x512.size a) ∧
  (∀ k0_t17 : Fin (k0_t17_loop v125 v135).trips, ∀ (k0_h4 : k0_cond4 v125 v135 = 1#1), ∀ a, (k0_off645 v125 v135 k0_t17) a + S1x1x16.size a ≤ S2x64x512.size a) ∧
  (∀ k0_t17 : Fin (k0_t17_loop v125 v135).trips, ∀ (k0_h4 : k0_cond4 v125 v135 = 1#1), ∀ a, (k0_off646 v125 v135 k0_t17) a + S1x1x16.size a ≤ S2x64x512.size a) ∧
  (∀ (k0_h4 : k0_cond4 v125 v135 = 1#1), (k0_t18_loop v125 v135).OK) ∧
  (∀ k0_t18 : Fin (k0_t18_loop v125 v135).trips, ∀ (k0_h4 : k0_cond4 v125 v135 = 1#1), ∀ a, (k0_off647 v125 v135 k0_t18) a + S1x1x16.size a ≤ S2x64x512.size a) ∧
  (∀ k0_t18 : Fin (k0_t18_loop v125 v135).trips, ∀ (k0_h4 : k0_cond4 v125 v135 = 1#1), ∀ a, (k0_off648 v125 v135 k0_t18) a + S1x1x16.size a ≤ S2x64x512.size a) ∧
  (∀ k0_t18 : Fin (k0_t18_loop v125 v135).trips, ∀ (k0_h4 : k0_cond4 v125 v135 = 1#1), ∀ a, (k0_off649 v125 v135 k0_t18) a + S1x1x16.size a ≤ S2x64x512.size a) ∧
  (∀ k0_t18 : Fin (k0_t18_loop v125 v135).trips, ∀ (k0_h4 : k0_cond4 v125 v135 = 1#1), ∀ a, (k0_off650 v125 v135 k0_t18) a + S1x1x16.size a ≤ S2x64x512.size a) ∧
  (∀ k0_t18 : Fin (k0_t18_loop v125 v135).trips, ∀ (k0_h4 : k0_cond4 v125 v135 = 1#1), ∀ a, (k0_off651 v125 v135 k0_t18) a + S1x1x16.size a ≤ S2x64x512.size a) ∧
  (∀ k0_t18 : Fin (k0_t18_loop v125 v135).trips, ∀ (k0_h4 : k0_cond4 v125 v135 = 1#1), ∀ a, (k0_off652 v125 v135 k0_t18) a + S1x1x16.size a ≤ S2x64x512.size a) ∧
  (∀ k0_t18 : Fin (k0_t18_loop v125 v135).trips, ∀ (k0_h4 : k0_cond4 v125 v135 = 1#1), ∀ a, (k0_off653 v125 v135 k0_t18) a + S1x1x16.size a ≤ S2x64x512.size a) ∧
  (∀ k0_t18 : Fin (k0_t18_loop v125 v135).trips, ∀ (k0_h4 : k0_cond4 v125 v135 = 1#1), ∀ a, (k0_off654 v125 v135 k0_t18) a + S1x1x16.size a ≤ S2x64x512.size a) ∧
  (∀ k0_t18 : Fin (k0_t18_loop v125 v135).trips, ∀ (k0_h4 : k0_cond4 v125 v135 = 1#1), ∀ a, (k0_off655 v125 v135 k0_t18) a + S1x1x16.size a ≤ S2x64x512.size a) ∧
  (∀ k0_t18 : Fin (k0_t18_loop v125 v135).trips, ∀ (k0_h4 : k0_cond4 v125 v135 = 1#1), ∀ a, (k0_off656 v125 v135 k0_t18) a + S1x1x16.size a ≤ S2x64x512.size a) ∧
  (∀ k0_t18 : Fin (k0_t18_loop v125 v135).trips, ∀ (k0_h4 : k0_cond4 v125 v135 = 1#1), ∀ a, (k0_off657 v125 v135 k0_t18) a + S1x1x16.size a ≤ S2x64x512.size a) ∧
  (∀ k0_t18 : Fin (k0_t18_loop v125 v135).trips, ∀ (k0_h4 : k0_cond4 v125 v135 = 1#1), ∀ a, (k0_off658 v125 v135 k0_t18) a + S1x1x16.size a ≤ S2x64x512.size a) ∧
  (∀ k0_t18 : Fin (k0_t18_loop v125 v135).trips, ∀ (k0_h4 : k0_cond4 v125 v135 = 1#1), ∀ a, (k0_off659 v125 v135 k0_t18) a + S1x1x16.size a ≤ S2x64x512.size a) ∧
  (∀ k0_t18 : Fin (k0_t18_loop v125 v135).trips, ∀ (k0_h4 : k0_cond4 v125 v135 = 1#1), ∀ a, (k0_off660 v125 v135 k0_t18) a + S1x1x16.size a ≤ S2x64x512.size a) ∧
  (∀ k0_t18 : Fin (k0_t18_loop v125 v135).trips, ∀ (k0_h4 : k0_cond4 v125 v135 = 1#1), ∀ a, (k0_off661 v125 v135 k0_t18) a + S1x1x16.size a ≤ S2x64x512.size a) ∧
  (∀ k0_t18 : Fin (k0_t18_loop v125 v135).trips, ∀ (k0_h4 : k0_cond4 v125 v135 = 1#1), ∀ a, (k0_off662 v125 v135 k0_t18) a + S1x1x16.size a ≤ S2x64x512.size a) ∧
  (∀ k0_t18 : Fin (k0_t18_loop v125 v135).trips, ∀ (k0_h4 : k0_cond4 v125 v135 = 1#1), ∀ a, (k0_off663 v125 v135 k0_t18) a + S1x1x16.size a ≤ S2x64x512.size a) ∧
  (∀ k0_t18 : Fin (k0_t18_loop v125 v135).trips, ∀ (k0_h4 : k0_cond4 v125 v135 = 1#1), ∀ a, (k0_off664 v125 v135 k0_t18) a + S1x1x16.size a ≤ S2x64x512.size a) ∧
  (∀ k0_t18 : Fin (k0_t18_loop v125 v135).trips, ∀ (k0_h4 : k0_cond4 v125 v135 = 1#1), ∀ a, (k0_off665 v125 v135 k0_t18) a + S1x1x16.size a ≤ S2x64x512.size a) ∧
  (∀ k0_t18 : Fin (k0_t18_loop v125 v135).trips, ∀ (k0_h4 : k0_cond4 v125 v135 = 1#1), ∀ a, (k0_off666 v125 v135 k0_t18) a + S1x1x16.size a ≤ S2x64x512.size a) ∧
  (∀ k0_t18 : Fin (k0_t18_loop v125 v135).trips, ∀ (k0_h4 : k0_cond4 v125 v135 = 1#1), ∀ a, (k0_off667 v125 v135 k0_t18) a + S1x1x16.size a ≤ S2x64x512.size a) ∧
  (∀ k0_t18 : Fin (k0_t18_loop v125 v135).trips, ∀ (k0_h4 : k0_cond4 v125 v135 = 1#1), ∀ a, (k0_off668 v125 v135 k0_t18) a + S1x1x16.size a ≤ S2x64x512.size a) ∧
  (∀ k0_t18 : Fin (k0_t18_loop v125 v135).trips, ∀ (k0_h4 : k0_cond4 v125 v135 = 1#1), ∀ a, (k0_off669 v125 v135 k0_t18) a + S1x1x16.size a ≤ S2x64x512.size a) ∧
  (∀ k0_t18 : Fin (k0_t18_loop v125 v135).trips, ∀ (k0_h4 : k0_cond4 v125 v135 = 1#1), ∀ a, (k0_off670 v125 v135 k0_t18) a + S1x1x16.size a ≤ S2x64x512.size a) ∧
  (∀ k0_t18 : Fin (k0_t18_loop v125 v135).trips, ∀ (k0_h4 : k0_cond4 v125 v135 = 1#1), ∀ a, (k0_off671 v125 v135 k0_t18) a + S1x1x16.size a ≤ S2x64x512.size a) ∧
  (∀ k0_t18 : Fin (k0_t18_loop v125 v135).trips, ∀ (k0_h4 : k0_cond4 v125 v135 = 1#1), ∀ a, (k0_off672 v125 v135 k0_t18) a + S1x1x16.size a ≤ S2x64x512.size a) ∧
  (∀ k0_t18 : Fin (k0_t18_loop v125 v135).trips, ∀ (k0_h4 : k0_cond4 v125 v135 = 1#1), ∀ a, (k0_off673 v125 v135 k0_t18) a + S1x1x16.size a ≤ S2x64x512.size a) ∧
  (∀ k0_t18 : Fin (k0_t18_loop v125 v135).trips, ∀ (k0_h4 : k0_cond4 v125 v135 = 1#1), ∀ a, (k0_off674 v125 v135 k0_t18) a + S1x1x16.size a ≤ S2x64x512.size a)
def k0_chk11_6 (v93 : BitVec 32) (v103 : BitVec 32) (k0_t14 : Fin (k0_t14_loop v93 v103).trips) (v125 : BitVec 32) (v135 : BitVec 32) : Prop :=
  (∀ k0_t18 : Fin (k0_t18_loop v125 v135).trips, ∀ (k0_h4 : k0_cond4 v125 v135 = 1#1), ∀ a, (k0_off675 v125 v135 k0_t18) a + S1x1x16.size a ≤ S2x64x512.size a) ∧
  (∀ k0_t18 : Fin (k0_t18_loop v125 v135).trips, ∀ (k0_h4 : k0_cond4 v125 v135 = 1#1), ∀ a, (k0_off676 v125 v135 k0_t18) a + S1x1x16.size a ≤ S2x64x512.size a) ∧
  (∀ k0_t18 : Fin (k0_t18_loop v125 v135).trips, ∀ (k0_h4 : k0_cond4 v125 v135 = 1#1), ∀ a, (k0_off677 v125 v135 k0_t18) a + S1x1x16.size a ≤ S2x64x512.size a) ∧
  (∀ k0_t18 : Fin (k0_t18_loop v125 v135).trips, ∀ (k0_h4 : k0_cond4 v125 v135 = 1#1), ∀ a, (k0_off678 v125 v135 k0_t18) a + S1x1x16.size a ≤ S2x64x512.size a) ∧
  (∀ (k0_h4 : k0_cond4 v125 v135 = 1#1), ∀ a, (k0_off679 v93 v103 k0_t14) a + S1x16.size a ≤ S16x512.size a) ∧
  (∀ (k0_h4 : k0_cond4 v125 v135 = 1#1), ∀ a, (k0_off680 v93 v103 k0_t14) a + S1x16.size a ≤ S16x512.size a) ∧
  (∀ (k0_h4 : k0_cond4 v125 v135 = 1#1), ∀ a, (k0_off681 v93 v103 k0_t14) a + S1x16.size a ≤ S16x512.size a) ∧
  (∀ (k0_h4 : k0_cond4 v125 v135 = 1#1), ∀ a, (k0_off682 v93 v103 k0_t14) a + S1x16.size a ≤ S16x512.size a) ∧
  (∀ (k0_h4 : k0_cond4 v125 v135 = 1#1), ∀ a, (k0_off683 v93 v103 k0_t14) a + S1x16.size a ≤ S16x512.size a) ∧
  (∀ (k0_h4 : k0_cond4 v125 v135 = 1#1), ∀ a, (k0_off684 v93 v103 k0_t14) a + S1x16.size a ≤ S16x512.size a) ∧
  (∀ (k0_h4 : k0_cond4 v125 v135 = 1#1), ∀ a, (k0_off685 v93 v103 k0_t14) a + S1x16.size a ≤ S16x512.size a) ∧
  (∀ (k0_h4 : k0_cond4 v125 v135 = 1#1), ∀ a, (k0_off686 v93 v103 k0_t14) a + S1x16.size a ≤ S16x512.size a) ∧
  (∀ (k0_h4 : k0_cond4 v125 v135 = 1#1), ∀ a, (k0_off687 v93 v103 k0_t14) a + S1x16.size a ≤ S16x512.size a) ∧
  (∀ (k0_h4 : k0_cond4 v125 v135 = 1#1), ∀ a, (k0_off688 v93 v103 k0_t14) a + S1x16.size a ≤ S16x512.size a) ∧
  (∀ (k0_h4 : k0_cond4 v125 v135 = 1#1), ∀ a, (k0_off689 v93 v103 k0_t14) a + S1x16.size a ≤ S16x512.size a) ∧
  (∀ (k0_h4 : k0_cond4 v125 v135 = 1#1), ∀ a, (k0_off690 v93 v103 k0_t14) a + S1x16.size a ≤ S16x512.size a) ∧
  (∀ (k0_h4 : k0_cond4 v125 v135 = 1#1), ∀ a, (k0_off691 v93 v103 k0_t14) a + S1x16.size a ≤ S16x512.size a) ∧
  (∀ (k0_h4 : k0_cond4 v125 v135 = 1#1), ∀ a, (k0_off692 v93 v103 k0_t14) a + S1x16.size a ≤ S16x512.size a) ∧
  (∀ (k0_h4 : k0_cond4 v125 v135 = 1#1), ∀ a, (k0_off693 v93 v103 k0_t14) a + S1x16.size a ≤ S16x512.size a) ∧
  (∀ (k0_h4 : k0_cond4 v125 v135 = 1#1), ∀ a, (k0_off694 v93 v103 k0_t14) a + S1x16.size a ≤ S16x512.size a) ∧
  (∀ (k0_h4 : k0_cond4 v125 v135 = 1#1), ∀ a, (k0_off695 v93 v103 k0_t14) a + S1x16.size a ≤ S16x512.size a) ∧
  (∀ (k0_h4 : k0_cond4 v125 v135 = 1#1), ∀ a, (k0_off696 v93 v103 k0_t14) a + S1x16.size a ≤ S16x512.size a) ∧
  (∀ (k0_h4 : k0_cond4 v125 v135 = 1#1), ∀ a, (k0_off697 v93 v103 k0_t14) a + S1x16.size a ≤ S16x512.size a) ∧
  (∀ (k0_h4 : k0_cond4 v125 v135 = 1#1), ∀ a, (k0_off698 v93 v103 k0_t14) a + S1x16.size a ≤ S16x512.size a) ∧
  (∀ (k0_h4 : k0_cond4 v125 v135 = 1#1), ∀ a, (k0_off699 v93 v103 k0_t14) a + S1x16.size a ≤ S16x512.size a) ∧
  (∀ (k0_h4 : k0_cond4 v125 v135 = 1#1), ∀ a, (k0_off700 v93 v103 k0_t14) a + S1x16.size a ≤ S16x512.size a) ∧
  (∀ (k0_h4 : k0_cond4 v125 v135 = 1#1), ∀ a, (k0_off701 v93 v103 k0_t14) a + S1x16.size a ≤ S16x512.size a) ∧
  (∀ (k0_h4 : k0_cond4 v125 v135 = 1#1), ∀ a, (k0_off702 v93 v103 k0_t14) a + S1x16.size a ≤ S16x512.size a) ∧
  (∀ (k0_h4 : k0_cond4 v125 v135 = 1#1), ∀ a, (k0_off703 v93 v103 k0_t14) a + S1x16.size a ≤ S16x512.size a) ∧
  (∀ (k0_h4 : k0_cond4 v125 v135 = 1#1), ∀ a, (k0_off704 v93 v103 k0_t14) a + S1x16.size a ≤ S16x512.size a) ∧
  (∀ (k0_h4 : k0_cond4 v125 v135 = 1#1), ∀ a, (k0_off705 v93 v103 k0_t14) a + S1x16.size a ≤ S16x512.size a) ∧
  (∀ (k0_h4 : k0_cond4 v125 v135 = 1#1), ∀ a, (k0_off706 v93 v103 k0_t14) a + S1x16.size a ≤ S16x512.size a)
def k0_chk11_7 (v93 : BitVec 32) (v103 : BitVec 32) (k0_t14 : Fin (k0_t14_loop v93 v103).trips) (v125 : BitVec 32) (v135 : BitVec 32) : Prop :=
  (∀ (k0_h4 : k0_cond4 v125 v135 = 1#1), ∀ a, (k0_off707 v93 v103 k0_t14) a + S1x16.size a ≤ S16x512.size a) ∧
  (∀ (k0_h4 : k0_cond4 v125 v135 = 1#1), ∀ a, (k0_off708 v93 v103 k0_t14) a + S1x16.size a ≤ S16x512.size a) ∧
  (∀ (k0_h4 : k0_cond4 v125 v135 = 1#1), ∀ a, (k0_off709 v93 v103 k0_t14) a + S1x16.size a ≤ S16x512.size a) ∧
  (∀ (k0_h4 : k0_cond4 v125 v135 = 1#1), ∀ a, (k0_off710 v93 v103 k0_t14) a + S1x16.size a ≤ S16x512.size a)
def k0_chk11 (v93 : BitVec 32) (v103 : BitVec 32) (k0_t14 : Fin (k0_t14_loop v93 v103).trips) (v125 : BitVec 32) (v135 : BitVec 32) : Prop :=
  k0_chk11_0 v93 v103 k0_t14 v125 v135 ∧
  k0_chk11_1 v93 v103 k0_t14 v125 v135 ∧
  k0_chk11_2 v93 v103 k0_t14 v125 v135 ∧
  k0_chk11_3 v93 v103 k0_t14 v125 v135 ∧
  k0_chk11_4 v93 v103 k0_t14 v125 v135 ∧
  k0_chk11_5 v93 v103 k0_t14 v125 v135 ∧
  k0_chk11_6 v93 v103 k0_t14 v125 v135 ∧
  k0_chk11_7 v93 v103 k0_t14 v125 v135
theorem k0_t15_ok : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), (k0_t15_loop v125 v135).OK := fun v93 v103 k0_t14 v125 v135 k0_hw11 k0_h4 => k0_hw11.1.1 k0_h4
theorem k0_off487_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off487 v125 v135 k0_t15) a + S1x1x16.size a ≤ S2x64x512.size a := fun v93 v103 k0_t14 v125 v135 k0_hw11 k0_t15 k0_h4 => k0_hw11.1.2.1 k0_t15 k0_h4
theorem k0_off488_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off488 v125 v135 k0_t15 (BitVec.ofNat 32 (1 + r.val))) a + S1x1x16.size a ≤ S2x64x512.size a := fun v93 v103 k0_t14 v125 v135 k0_hw11 k0_t15 k0_h4 r => k0_hw11.1.2.2.1 k0_t15 k0_h4 r
theorem k0_off489_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off489 v125 v135 k0_t15) a + S1x1x16.size a ≤ S2x64x512.size a := fun v93 v103 k0_t14 v125 v135 k0_hw11 k0_t15 k0_h4 => k0_hw11.1.2.2.2.1 k0_t15 k0_h4
theorem k0_off490_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off490 v125 v135 k0_t15 (BitVec.ofNat 32 (1 + r.val))) a + S1x1x16.size a ≤ S2x64x512.size a := fun v93 v103 k0_t14 v125 v135 k0_hw11 k0_t15 k0_h4 r => k0_hw11.1.2.2.2.2.1 k0_t15 k0_h4 r
theorem k0_off491_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off491 v125 v135 k0_t15) a + S1x1x16.size a ≤ S2x64x512.size a := fun v93 v103 k0_t14 v125 v135 k0_hw11 k0_t15 k0_h4 => k0_hw11.1.2.2.2.2.2.1 k0_t15 k0_h4
theorem k0_off492_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off492 v125 v135 k0_t15 (BitVec.ofNat 32 (1 + r.val))) a + S1x1x16.size a ≤ S2x64x512.size a := fun v93 v103 k0_t14 v125 v135 k0_hw11 k0_t15 k0_h4 r => k0_hw11.1.2.2.2.2.2.2.1 k0_t15 k0_h4 r
theorem k0_off493_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off493 v125 v135 k0_t15) a + S1x1x16.size a ≤ S2x64x512.size a := fun v93 v103 k0_t14 v125 v135 k0_hw11 k0_t15 k0_h4 => k0_hw11.1.2.2.2.2.2.2.2.1 k0_t15 k0_h4
theorem k0_off494_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off494 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.1 k0_t15 k0_h4 r
theorem k0_off495_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off495 v125 v135 k0_t15) a + S1x1x16.size a ≤ S2x64x512.size a := fun v93 v103 k0_t14 v125 v135 k0_hw11 k0_t15 k0_h4 => k0_hw11.1.2.2.2.2.2.2.2.2.2.1 k0_t15 k0_h4
theorem k0_off496_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off496 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.1 k0_t15 k0_h4 r
theorem k0_off497_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off497 v125 v135 k0_t15) a + S1x1x16.size a ≤ S2x64x512.size a := fun v93 v103 k0_t14 v125 v135 k0_hw11 k0_t15 k0_h4 => k0_hw11.1.2.2.2.2.2.2.2.2.2.2.2.1 k0_t15 k0_h4
theorem k0_off498_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off498 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.1 k0_t15 k0_h4 r
theorem k0_off499_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off499 v125 v135 k0_t15) a + S1x1x16.size a ≤ S2x64x512.size a := fun v93 v103 k0_t14 v125 v135 k0_hw11 k0_t15 k0_h4 => k0_hw11.1.2.2.2.2.2.2.2.2.2.2.2.2.2.1 k0_t15 k0_h4
theorem k0_off500_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off500 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.1 k0_t15 k0_h4 r
theorem k0_off501_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off501 v125 v135 k0_t15) a + S1x1x16.size a ≤ S2x64x512.size a := fun v93 v103 k0_t14 v125 v135 k0_hw11 k0_t15 k0_h4 => k0_hw11.1.2.2.2.2.2.2.2.2.2.2.2.2.2.2.2.1 k0_t15 k0_h4
theorem k0_off502_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off502 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.1 k0_t15 k0_h4 r
theorem k0_off503_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off503 v125 v135 k0_t15) a + S1x1x16.size a ≤ S2x64x512.size a := fun v93 v103 k0_t14 v125 v135 k0_hw11 k0_t15 k0_h4 => k0_hw11.1.2.2.2.2.2.2.2.2.2.2.2.2.2.2.2.2.2.1 k0_t15 k0_h4
theorem k0_off504_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off504 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.2.2.1 k0_t15 k0_h4 r
theorem k0_off505_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off505 v125 v135 k0_t15) a + S1x1x16.size a ≤ S2x64x512.size a := fun v93 v103 k0_t14 v125 v135 k0_hw11 k0_t15 k0_h4 => k0_hw11.1.2.2.2.2.2.2.2.2.2.2.2.2.2.2.2.2.2.2.2.1 k0_t15 k0_h4
theorem k0_off506_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off506 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.2.2.2.2.1 k0_t15 k0_h4 r
theorem k0_off507_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off507 v125 v135 k0_t15) a + S1x1x16.size a ≤ S2x64x512.size a := fun v93 v103 k0_t14 v125 v135 k0_hw11 k0_t15 k0_h4 => k0_hw11.1.2.2.2.2.2.2.2.2.2.2.2.2.2.2.2.2.2.2.2.2.2.1 k0_t15 k0_h4
theorem k0_off508_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off508 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.2.2.2.2.2.2.1 k0_t15 k0_h4 r
theorem k0_off509_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off509 v125 v135 k0_t15) a + S1x1x16.size a ≤ S2x64x512.size a := fun v93 v103 k0_t14 v125 v135 k0_hw11 k0_t15 k0_h4 => k0_hw11.1.2.2.2.2.2.2.2.2.2.2.2.2.2.2.2.2.2.2.2.2.2.2.2.1 k0_t15 k0_h4
theorem k0_off510_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off510 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.2.2.2.2.2.2.2.2.1 k0_t15 k0_h4 r
theorem k0_off511_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off511 v125 v135 k0_t15) a + S1x1x16.size a ≤ S2x64x512.size a := fun v93 v103 k0_t14 v125 v135 k0_hw11 k0_t15 k0_h4 => k0_hw11.1.2.2.2.2.2.2.2.2.2.2.2.2.2.2.2.2.2.2.2.2.2.2.2.2.2.1 k0_t15 k0_h4
theorem k0_off512_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off512 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.2.2.2.2.2.2.2.2.2.2.1 k0_t15 k0_h4 r
theorem k0_off513_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off513 v125 v135 k0_t15) a + S1x1x16.size a ≤ S2x64x512.size a := fun v93 v103 k0_t14 v125 v135 k0_hw11 k0_t15 k0_h4 => k0_hw11.1.2.2.2.2.2.2.2.2.2.2.2.2.2.2.2.2.2.2.2.2.2.2.2.2.2.2.2.1 k0_t15 k0_h4
theorem k0_off514_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off514 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.2.2.2.2.2.2.2.2.2.2.2.2.1 k0_t15 k0_h4 r
theorem k0_off515_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off515 v125 v135 k0_t15) a + S1x1x16.size a ≤ S2x64x512.size a := fun v93 v103 k0_t14 v125 v135 k0_hw11 k0_t15 k0_h4 => k0_hw11.1.2.2.2.2.2.2.2.2.2.2.2.2.2.2.2.2.2.2.2.2.2.2.2.2.2.2.2.2.2.1 k0_t15 k0_h4
theorem k0_off516_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off516 v125 v135 k0_t15 (BitVec.ofNat 32 (1 + r.val))) a + S1x1x16.size a ≤ S2x64x512.size a := fun v93 v103 k0_t14 v125 v135 k0_hw11 k0_t15 k0_h4 r => k0_hw11.1.2.2.2.2.2.2.2.2.2.2.2.2.2.2.2.2.2.2.2.2.2.2.2.2.2.2.2.2.2.2.1 k0_t15 k0_h4 r
theorem k0_off517_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off517 v125 v135 k0_t15) a + S1x1x16.size a ≤ S2x64x512.size a := fun v93 v103 k0_t14 v125 v135 k0_hw11 k0_t15 k0_h4 => k0_hw11.1.2.2.2.2.2.2.2.2.2.2.2.2.2.2.2.2.2.2.2.2.2.2.2.2.2.2.2.2.2.2.2 k0_t15 k0_h4
theorem k0_off518_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off518 v125 v135 k0_t15 (BitVec.ofNat 32 (1 + r.val))) a + S1x1x16.size a ≤ S2x64x512.size a := fun v93 v103 k0_t14 v125 v135 k0_hw11 k0_t15 k0_h4 r => k0_hw11.2.1.1 k0_t15 k0_h4 r
theorem k0_off519_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off519 v125 v135 k0_t15) a + S1x1x16.size a ≤ S2x64x512.size a := fun v93 v103 k0_t14 v125 v135 k0_hw11 k0_t15 k0_h4 => k0_hw11.2.1.2.1 k0_t15 k0_h4
theorem k0_off520_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off520 v125 v135 k0_t15 (BitVec.ofNat 32 (1 + r.val))) a + S1x1x16.size a ≤ S2x64x512.size a := fun v93 v103 k0_t14 v125 v135 k0_hw11 k0_t15 k0_h4 r => k0_hw11.2.1.2.2.1 k0_t15 k0_h4 r
theorem k0_off521_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off521 v125 v135 k0_t15) a + S1x1x16.size a ≤ S2x64x512.size a := fun v93 v103 k0_t14 v125 v135 k0_hw11 k0_t15 k0_h4 => k0_hw11.2.1.2.2.2.1 k0_t15 k0_h4
theorem k0_off522_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off522 v125 v135 k0_t15 (BitVec.ofNat 32 (1 + r.val))) a + S1x1x16.size a ≤ S2x64x512.size a := fun v93 v103 k0_t14 v125 v135 k0_hw11 k0_t15 k0_h4 r => k0_hw11.2.1.2.2.2.2.1 k0_t15 k0_h4 r
theorem k0_off523_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off523 v125 v135 k0_t15) a + S1x1x16.size a ≤ S2x64x512.size a := fun v93 v103 k0_t14 v125 v135 k0_hw11 k0_t15 k0_h4 => k0_hw11.2.1.2.2.2.2.2.1 k0_t15 k0_h4
theorem k0_off524_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off524 v125 v135 k0_t15 (BitVec.ofNat 32 (1 + r.val))) a + S1x1x16.size a ≤ S2x64x512.size a := fun v93 v103 k0_t14 v125 v135 k0_hw11 k0_t15 k0_h4 r => k0_hw11.2.1.2.2.2.2.2.2.1 k0_t15 k0_h4 r
theorem k0_off525_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off525 v125 v135 k0_t15) a + S1x1x16.size a ≤ S2x64x512.size a := fun v93 v103 k0_t14 v125 v135 k0_hw11 k0_t15 k0_h4 => k0_hw11.2.1.2.2.2.2.2.2.2.1 k0_t15 k0_h4
theorem k0_off526_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off526 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.1 k0_t15 k0_h4 r
theorem k0_off527_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off527 v125 v135 k0_t15) a + S1x1x16.size a ≤ S2x64x512.size a := fun v93 v103 k0_t14 v125 v135 k0_hw11 k0_t15 k0_h4 => k0_hw11.2.1.2.2.2.2.2.2.2.2.2.1 k0_t15 k0_h4
theorem k0_off528_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off528 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.1 k0_t15 k0_h4 r
theorem k0_off529_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off529 v125 v135 k0_t15) a + S1x1x16.size a ≤ S2x64x512.size a := fun v93 v103 k0_t14 v125 v135 k0_hw11 k0_t15 k0_h4 => k0_hw11.2.1.2.2.2.2.2.2.2.2.2.2.2.1 k0_t15 k0_h4
theorem k0_off530_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off530 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.1 k0_t15 k0_h4 r
theorem k0_off531_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off531 v125 v135 k0_t15) a + S1x1x16.size a ≤ S2x64x512.size a := fun v93 v103 k0_t14 v125 v135 k0_hw11 k0_t15 k0_h4 => k0_hw11.2.1.2.2.2.2.2.2.2.2.2.2.2.2.2.1 k0_t15 k0_h4
theorem k0_off532_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off532 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.1 k0_t15 k0_h4 r
theorem k0_off533_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off533 v125 v135 k0_t15) a + S1x1x16.size a ≤ S2x64x512.size a := fun v93 v103 k0_t14 v125 v135 k0_hw11 k0_t15 k0_h4 => k0_hw11.2.1.2.2.2.2.2.2.2.2.2.2.2.2.2.2.2.1 k0_t15 k0_h4
theorem k0_off534_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off534 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.1 k0_t15 k0_h4 r
theorem k0_off535_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off535 v125 v135 k0_t15) a + S1x1x16.size a ≤ S2x64x512.size a := fun v93 v103 k0_t14 v125 v135 k0_hw11 k0_t15 k0_h4 => k0_hw11.2.1.2.2.2.2.2.2.2.2.2.2.2.2.2.2.2.2.2.1 k0_t15 k0_h4
theorem k0_off536_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off536 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.2.2.1 k0_t15 k0_h4 r
theorem k0_off537_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off537 v125 v135 k0_t15) a + S1x1x16.size a ≤ S2x64x512.size a := fun v93 v103 k0_t14 v125 v135 k0_hw11 k0_t15 k0_h4 => k0_hw11.2.1.2.2.2.2.2.2.2.2.2.2.2.2.2.2.2.2.2.2.2.1 k0_t15 k0_h4
theorem k0_off538_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off538 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.2.2.2.2.1 k0_t15 k0_h4 r
theorem k0_off539_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off539 v125 v135 k0_t15) a + S1x1x16.size a ≤ S2x64x512.size a := fun v93 v103 k0_t14 v125 v135 k0_hw11 k0_t15 k0_h4 => k0_hw11.2.1.2.2.2.2.2.2.2.2.2.2.2.2.2.2.2.2.2.2.2.2.2.1 k0_t15 k0_h4
theorem k0_off540_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off540 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.2.2.2.2.2.2.1 k0_t15 k0_h4 r
theorem k0_off541_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off541 v125 v135 k0_t15) a + S1x1x16.size a ≤ S2x64x512.size a := fun v93 v103 k0_t14 v125 v135 k0_hw11 k0_t15 k0_h4 => k0_hw11.2.1.2.2.2.2.2.2.2.2.2.2.2.2.2.2.2.2.2.2.2.2.2.2.2.1 k0_t15 k0_h4
theorem k0_off542_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off542 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.2.2.2.2.2.2.2.2.1 k0_t15 k0_h4 r
theorem k0_off543_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off543 v125 v135 k0_t15) a + S1x1x16.size a ≤ S2x64x512.size a := fun v93 v103 k0_t14 v125 v135 k0_hw11 k0_t15 k0_h4 => k0_hw11.2.1.2.2.2.2.2.2.2.2.2.2.2.2.2.2.2.2.2.2.2.2.2.2.2.2.2.1 k0_t15 k0_h4
theorem k0_off544_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off544 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.2.2.2.2.2.2.2.2.2.2.1 k0_t15 k0_h4 r
theorem k0_off545_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off545 v125 v135 k0_t15) a + S1x1x16.size a ≤ S2x64x512.size a := fun v93 v103 k0_t14 v125 v135 k0_hw11 k0_t15 k0_h4 => k0_hw11.2.1.2.2.2.2.2.2.2.2.2.2.2.2.2.2.2.2.2.2.2.2.2.2.2.2.2.2.2.1 k0_t15 k0_h4
theorem k0_off546_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off546 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.2.2.2.2.2.2.2.2.2.2.2.2.1 k0_t15 k0_h4 r
theorem k0_off547_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off547 v125 v135 k0_t15) a + S1x1x16.size a ≤ S2x64x512.size a := fun v93 v103 k0_t14 v125 v135 k0_hw11 k0_t15 k0_h4 => k0_hw11.2.1.2.2.2.2.2.2.2.2.2.2.2.2.2.2.2.2.2.2.2.2.2.2.2.2.2.2.2.2.2.1 k0_t15 k0_h4
theorem k0_off548_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off548 v125 v135 k0_t15 (BitVec.ofNat 32 (1 + r.val))) a + S1x1x16.size a ≤ S2x64x512.size a := fun v93 v103 k0_t14 v125 v135 k0_hw11 k0_t15 k0_h4 r => k0_hw11.2.1.2.2.2.2.2.2.2.2.2.2.2.2.2.2.2.2.2.2.2.2.2.2.2.2.2.2.2.2.2.2.1 k0_t15 k0_h4 r
theorem k0_off549_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ a, (k0_off549 v125 v135 k0_t15) a + S1x1x16.size a ≤ S2x64x512.size a := fun v93 v103 k0_t14 v125 v135 k0_hw11 k0_t15 k0_h4 => k0_hw11.2.1.2.2.2.2.2.2.2.2.2.2.2.2.2.2.2.2.2.2.2.2.2.2.2.2.2.2.2.2.2.2.2 k0_t15 k0_h4
theorem k0_off550_inb : ∀ (v93 : BitVec 32) (v103 : BitVec 32) (k0_t14 : Fin (k0_t14_loop v93 v103).trips) (v125 : BitVec 32) (v135 : BitVec 32) (k0_hw11 : k0_chk11 v93 v103 k0_t14 v125 v135) (k0_t15 : Fin (k0_t15_loop v125 v135).trips), ∀ (k0_h4 : k0_cond4 v125 v135 = 1#1), ∀ (r : Fin 3), ∀ a, (k0_off550 v125 v135 k0_t15 (BitVec.ofNat 32 (1 + r.val))) a + S1x1x16.size a ≤ S2x64x512.size a := fun v93 v103 k0_t14 v125 v135 k0_hw11 k0_t15 k0_h4 r => k0_hw11.2.2.1.1 k0_t15 k0_h4 r
theorem k0_t16_ok : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), (k0_t16_loop v125 v135).OK := fun v93 v103 k0_t14 v125 v135 k0_hw11 k0_h4 => k0_hw11.2.2.1.2.1 k0_h4
theorem k0_off551_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off551 v125 v135 k0_t16) a + S1x1x16.size a ≤ S2x64x512.size a := fun v93 v103 k0_t14 v125 v135 k0_hw11 k0_t16 k0_h4 => k0_hw11.2.2.1.2.2.1 k0_t16 k0_h4
theorem k0_off552_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off552 v125 v135 k0_t16 (BitVec.ofNat 32 (1 + r.val))) a + S1x1x16.size a ≤ S2x64x512.size a := fun v93 v103 k0_t14 v125 v135 k0_hw11 k0_t16 k0_h4 r => k0_hw11.2.2.1.2.2.2.1 k0_t16 k0_h4 r
theorem k0_off553_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off553 v125 v135 k0_t16) a + S1x1x16.size a ≤ S2x64x512.size a := fun v93 v103 k0_t14 v125 v135 k0_hw11 k0_t16 k0_h4 => k0_hw11.2.2.1.2.2.2.2.1 k0_t16 k0_h4
theorem k0_off554_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off554 v125 v135 k0_t16 (BitVec.ofNat 32 (1 + r.val))) a + S1x1x16.size a ≤ S2x64x512.size a := fun v93 v103 k0_t14 v125 v135 k0_hw11 k0_t16 k0_h4 r => k0_hw11.2.2.1.2.2.2.2.2.1 k0_t16 k0_h4 r
theorem k0_off555_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off555 v125 v135 k0_t16) a + S1x1x16.size a ≤ S2x64x512.size a := fun v93 v103 k0_t14 v125 v135 k0_hw11 k0_t16 k0_h4 => k0_hw11.2.2.1.2.2.2.2.2.2.1 k0_t16 k0_h4
theorem k0_off556_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off556 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.1 k0_t16 k0_h4 r
theorem k0_off557_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off557 v125 v135 k0_t16) a + S1x1x16.size a ≤ S2x64x512.size a := fun v93 v103 k0_t14 v125 v135 k0_hw11 k0_t16 k0_h4 => k0_hw11.2.2.1.2.2.2.2.2.2.2.2.1 k0_t16 k0_h4
theorem k0_off558_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off558 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.1 k0_t16 k0_h4 r
theorem k0_off559_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off559 v125 v135 k0_t16) a + S1x1x16.size a ≤ S2x64x512.size a := fun v93 v103 k0_t14 v125 v135 k0_hw11 k0_t16 k0_h4 => k0_hw11.2.2.1.2.2.2.2.2.2.2.2.2.2.1 k0_t16 k0_h4
theorem k0_off560_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off560 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.1 k0_t16 k0_h4 r
theorem k0_off561_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off561 v125 v135 k0_t16) a + S1x1x16.size a ≤ S2x64x512.size a := fun v93 v103 k0_t14 v125 v135 k0_hw11 k0_t16 k0_h4 => k0_hw11.2.2.1.2.2.2.2.2.2.2.2.2.2.2.2.1 k0_t16 k0_h4
theorem k0_off562_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off562 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.1 k0_t16 k0_h4 r
theorem k0_off563_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off563 v125 v135 k0_t16) a + S1x1x16.size a ≤ S2x64x512.size a := fun v93 v103 k0_t14 v125 v135 k0_hw11 k0_t16 k0_h4 => k0_hw11.2.2.1.2.2.2.2.2.2.2.2.2.2.2.2.2.2.1 k0_t16 k0_h4
theorem k0_off564_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off564 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.1 k0_t16 k0_h4 r
theorem k0_off565_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off565 v125 v135 k0_t16) a + S1x1x16.size a ≤ S2x64x512.size a := fun v93 v103 k0_t14 v125 v135 k0_hw11 k0_t16 k0_h4 => k0_hw11.2.2.1.2.2.2.2.2.2.2.2.2.2.2.2.2.2.2.2.1 k0_t16 k0_h4
theorem k0_off566_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off566 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.1 k0_t16 k0_h4 r
theorem k0_off567_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off567 v125 v135 k0_t16) a + S1x1x16.size a ≤ S2x64x512.size a := fun v93 v103 k0_t14 v125 v135 k0_hw11 k0_t16 k0_h4 => k0_hw11.2.2.1.2.2.2.2.2.2.2.2.2.2.2.2.2.2.2.2.2.2.1 k0_t16 k0_h4
theorem k0_off568_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off568 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.2.2.1 k0_t16 k0_h4 r
theorem k0_off569_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off569 v125 v135 k0_t16) a + S1x1x16.size a ≤ S2x64x512.size a := fun v93 v103 k0_t14 v125 v135 k0_hw11 k0_t16 k0_h4 => k0_hw11.2.2.1.2.2.2.2.2.2.2.2.2.2.2.2.2.2.2.2.2.2.2.2.1 k0_t16 k0_h4
theorem k0_off570_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off570 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.2.2.2.2.1 k0_t16 k0_h4 r
theorem k0_off571_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off571 v125 v135 k0_t16) a + S1x1x16.size a ≤ S2x64x512.size a := fun v93 v103 k0_t14 v125 v135 k0_hw11 k0_t16 k0_h4 => k0_hw11.2.2.1.2.2.2.2.2.2.2.2.2.2.2.2.2.2.2.2.2.2.2.2.2.2.1 k0_t16 k0_h4
theorem k0_off572_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off572 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.2.2.2.2.2.2.1 k0_t16 k0_h4 r
theorem k0_off573_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off573 v125 v135 k0_t16) a + S1x1x16.size a ≤ S2x64x512.size a := fun v93 v103 k0_t14 v125 v135 k0_hw11 k0_t16 k0_h4 => k0_hw11.2.2.1.2.2.2.2.2.2.2.2.2.2.2.2.2.2.2.2.2.2.2.2.2.2.2.2.1 k0_t16 k0_h4
theorem k0_off574_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off574 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.2.2.2.2.2.2.2.2.1 k0_t16 k0_h4 r
theorem k0_off575_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off575 v125 v135 k0_t16) a + S1x1x16.size a ≤ S2x64x512.size a := fun v93 v103 k0_t14 v125 v135 k0_hw11 k0_t16 k0_h4 => k0_hw11.2.2.1.2.2.2.2.2.2.2.2.2.2.2.2.2.2.2.2.2.2.2.2.2.2.2.2.2.2.1 k0_t16 k0_h4
theorem k0_off576_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off576 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.2.2.2.2.2.2.2.2.2.2.1 k0_t16 k0_h4 r
theorem k0_off577_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off577 v125 v135 k0_t16) a + S1x1x16.size a ≤ S2x64x512.size a := fun v93 v103 k0_t14 v125 v135 k0_hw11 k0_t16 k0_h4 => k0_hw11.2.2.1.2.2.2.2.2.2.2.2.2.2.2.2.2.2.2.2.2.2.2.2.2.2.2.2.2.2.2.2.1 k0_t16 k0_h4
theorem k0_off578_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off578 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.2.2.2.2.2.2.2.2.2.2.2.2.1 k0_t16 k0_h4 r
theorem k0_off579_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off579 v125 v135 k0_t16) a + S1x1x16.size a ≤ S2x64x512.size a := fun v93 v103 k0_t14 v125 v135 k0_hw11 k0_t16 k0_h4 => k0_hw11.2.2.1.2.2.2.2.2.2.2.2.2.2.2.2.2.2.2.2.2.2.2.2.2.2.2.2.2.2.2.2.2.2.1 k0_t16 k0_h4
theorem k0_off580_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off580 v125 v135 k0_t16 (BitVec.ofNat 32 (1 + r.val))) a + S1x1x16.size a ≤ S2x64x512.size a := fun v93 v103 k0_t14 v125 v135 k0_hw11 k0_t16 k0_h4 r => k0_hw11.2.2.1.2.2.2.2.2.2.2.2.2.2.2.2.2.2.2.2.2.2.2.2.2.2.2.2.2.2.2.2.2.2.2 k0_t16 k0_h4 r
theorem k0_off581_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off581 v125 v135 k0_t16) a + S1x1x16.size a ≤ S2x64x512.size a := fun v93 v103 k0_t14 v125 v135 k0_hw11 k0_t16 k0_h4 => k0_hw11.2.2.2.1.1 k0_t16 k0_h4
theorem k0_off582_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off582 v125 v135 k0_t16 (BitVec.ofNat 32 (1 + r.val))) a + S1x1x16.size a ≤ S2x64x512.size a := fun v93 v103 k0_t14 v125 v135 k0_hw11 k0_t16 k0_h4 r => k0_hw11.2.2.2.1.2.1 k0_t16 k0_h4 r
theorem k0_off583_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off583 v125 v135 k0_t16) a + S1x1x16.size a ≤ S2x64x512.size a := fun v93 v103 k0_t14 v125 v135 k0_hw11 k0_t16 k0_h4 => k0_hw11.2.2.2.1.2.2.1 k0_t16 k0_h4
theorem k0_off584_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off584 v125 v135 k0_t16 (BitVec.ofNat 32 (1 + r.val))) a + S1x1x16.size a ≤ S2x64x512.size a := fun v93 v103 k0_t14 v125 v135 k0_hw11 k0_t16 k0_h4 r => k0_hw11.2.2.2.1.2.2.2.1 k0_t16 k0_h4 r
theorem k0_off585_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off585 v125 v135 k0_t16) a + S1x1x16.size a ≤ S2x64x512.size a := fun v93 v103 k0_t14 v125 v135 k0_hw11 k0_t16 k0_h4 => k0_hw11.2.2.2.1.2.2.2.2.1 k0_t16 k0_h4
theorem k0_off586_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off586 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.1 k0_t16 k0_h4 r
theorem k0_off587_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off587 v125 v135 k0_t16) a + S1x1x16.size a ≤ S2x64x512.size a := fun v93 v103 k0_t14 v125 v135 k0_hw11 k0_t16 k0_h4 => k0_hw11.2.2.2.1.2.2.2.2.2.2.1 k0_t16 k0_h4
theorem k0_off588_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off588 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.1 k0_t16 k0_h4 r
theorem k0_off589_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off589 v125 v135 k0_t16) a + S1x1x16.size a ≤ S2x64x512.size a := fun v93 v103 k0_t14 v125 v135 k0_hw11 k0_t16 k0_h4 => k0_hw11.2.2.2.1.2.2.2.2.2.2.2.2.1 k0_t16 k0_h4
theorem k0_off590_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off590 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.1 k0_t16 k0_h4 r
theorem k0_off591_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off591 v125 v135 k0_t16) a + S1x1x16.size a ≤ S2x64x512.size a := fun v93 v103 k0_t14 v125 v135 k0_hw11 k0_t16 k0_h4 => k0_hw11.2.2.2.1.2.2.2.2.2.2.2.2.2.2.1 k0_t16 k0_h4
theorem k0_off592_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off592 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.1 k0_t16 k0_h4 r
theorem k0_off593_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off593 v125 v135 k0_t16) a + S1x1x16.size a ≤ S2x64x512.size a := fun v93 v103 k0_t14 v125 v135 k0_hw11 k0_t16 k0_h4 => k0_hw11.2.2.2.1.2.2.2.2.2.2.2.2.2.2.2.2.1 k0_t16 k0_h4
theorem k0_off594_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off594 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.1 k0_t16 k0_h4 r
theorem k0_off595_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off595 v125 v135 k0_t16) a + S1x1x16.size a ≤ S2x64x512.size a := fun v93 v103 k0_t14 v125 v135 k0_hw11 k0_t16 k0_h4 => k0_hw11.2.2.2.1.2.2.2.2.2.2.2.2.2.2.2.2.2.2.1 k0_t16 k0_h4
theorem k0_off596_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off596 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.1 k0_t16 k0_h4 r
theorem k0_off597_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off597 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.1 k0_t16 k0_h4
theorem k0_off598_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off598 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.1 k0_t16 k0_h4 r
theorem k0_off599_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off599 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.2.2.1 k0_t16 k0_h4
theorem k0_off600_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off600 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.2.2.1 k0_t16 k0_h4 r
theorem k0_off601_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off601 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.2.2.2.2.1 k0_t16 k0_h4
theorem k0_off602_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off602 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.2.2.2.2.1 k0_t16 k0_h4 r
theorem k0_off603_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off603 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.2.2.2.2.2.2.1 k0_t16 k0_h4
theorem k0_off604_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off604 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.2.2.2.2.2.2.1 k0_t16 k0_h4 r
theorem k0_off605_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off605 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.2.2.2.2.2.2.2.2.1 k0_t16 k0_h4
theorem k0_off606_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off606 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.2.2.2.2.2.2.2.2.1 k0_t16 k0_h4 r
theorem k0_off607_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off607 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.2.2.2.2.2.2.2.2.2.2.1 k0_t16 k0_h4
theorem k0_off608_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off608 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.2.2.2.2.2.2.2.2.2.2.1 k0_t16 k0_h4 r
theorem k0_off609_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off609 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.2.2.2.2.2.2.2.2.2.2.2.2.1 k0_t16 k0_h4
theorem k0_off610_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off610 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.2.2.2.2.2.2.2.2.2.2.2.2.1 k0_t16 k0_h4 r
theorem k0_off611_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off611 v125 v135 k0_t16) a + S1x1x16.size a ≤ S2x64x512.size a := fun v93 v103 k0_t14 v125 v135 k0_hw11 k0_t16 k0_h4 => k0_hw11.2.2.2.1.2.2.2.2.2.2.2.2.2.2.2.2.2.2.2.2.2.2.2.2.2.2.2.2.2.2.2.2.2.2.1 k0_t16 k0_h4
theorem k0_off612_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off612 v125 v135 k0_t16 (BitVec.ofNat 32 (1 + r.val))) a + S1x1x16.size a ≤ S2x64x512.size a := fun v93 v103 k0_t14 v125 v135 k0_hw11 k0_t16 k0_h4 r => k0_hw11.2.2.2.1.2.2.2.2.2.2.2.2.2.2.2.2.2.2.2.2.2.2.2.2.2.2.2.2.2.2.2.2.2.2.2 k0_t16 k0_h4 r
theorem k0_off613_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ a, (k0_off613 v125 v135 k0_t16) a + S1x1x16.size a ≤ S2x64x512.size a := fun v93 v103 k0_t14 v125 v135 k0_hw11 k0_t16 k0_h4 => k0_hw11.2.2.2.2.1.1 k0_t16 k0_h4
theorem k0_off614_inb : ∀ (v93 : BitVec 32) (v103 : BitVec 32) (k0_t14 : Fin (k0_t14_loop v93 v103).trips) (v125 : BitVec 32) (v135 : BitVec 32) (k0_hw11 : k0_chk11 v93 v103 k0_t14 v125 v135) (k0_t16 : Fin (k0_t16_loop v125 v135).trips), ∀ (k0_h4 : k0_cond4 v125 v135 = 1#1), ∀ (r : Fin 3), ∀ a, (k0_off614 v125 v135 k0_t16 (BitVec.ofNat 32 (1 + r.val))) a + S1x1x16.size a ≤ S2x64x512.size a := fun v93 v103 k0_t14 v125 v135 k0_hw11 k0_t16 k0_h4 r => k0_hw11.2.2.2.2.1.2.1 k0_t16 k0_h4 r
theorem k0_t17_ok : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), (k0_t17_loop v125 v135).OK := fun v93 v103 k0_t14 v125 v135 k0_hw11 k0_h4 => k0_hw11.2.2.2.2.1.2.2.1 k0_h4
theorem k0_off615_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off615 v125 v135 k0_t17) a + S1x1x16.size a ≤ S2x64x512.size a := fun v93 v103 k0_t14 v125 v135 k0_hw11 k0_t17 k0_h4 => k0_hw11.2.2.2.2.1.2.2.2.1 k0_t17 k0_h4
theorem k0_off616_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off616 v125 v135 k0_t17) a + S1x1x16.size a ≤ S2x64x512.size a := fun v93 v103 k0_t14 v125 v135 k0_hw11 k0_t17 k0_h4 => k0_hw11.2.2.2.2.1.2.2.2.2.1 k0_t17 k0_h4
theorem k0_off617_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off617 v125 v135 k0_t17) a + S1x1x16.size a ≤ S2x64x512.size a := fun v93 v103 k0_t14 v125 v135 k0_hw11 k0_t17 k0_h4 => k0_hw11.2.2.2.2.1.2.2.2.2.2.1 k0_t17 k0_h4
theorem k0_off618_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off618 v125 v135 k0_t17) a + S1x1x16.size a ≤ S2x64x512.size a := fun v93 v103 k0_t14 v125 v135 k0_hw11 k0_t17 k0_h4 => k0_hw11.2.2.2.2.1.2.2.2.2.2.2.1 k0_t17 k0_h4
theorem k0_off619_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off619 v125 v135 k0_t17) a + S1x1x16.size a ≤ S2x64x512.size a := fun v93 v103 k0_t14 v125 v135 k0_hw11 k0_t17 k0_h4 => k0_hw11.2.2.2.2.1.2.2.2.2.2.2.2.1 k0_t17 k0_h4
theorem k0_off620_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off620 v125 v135 k0_t17) a + S1x1x16.size a ≤ S2x64x512.size a := fun v93 v103 k0_t14 v125 v135 k0_hw11 k0_t17 k0_h4 => k0_hw11.2.2.2.2.1.2.2.2.2.2.2.2.2.1 k0_t17 k0_h4
theorem k0_off621_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off621 v125 v135 k0_t17) a + S1x1x16.size a ≤ S2x64x512.size a := fun v93 v103 k0_t14 v125 v135 k0_hw11 k0_t17 k0_h4 => k0_hw11.2.2.2.2.1.2.2.2.2.2.2.2.2.2.1 k0_t17 k0_h4
theorem k0_off622_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off622 v125 v135 k0_t17) a + S1x1x16.size a ≤ S2x64x512.size a := fun v93 v103 k0_t14 v125 v135 k0_hw11 k0_t17 k0_h4 => k0_hw11.2.2.2.2.1.2.2.2.2.2.2.2.2.2.2.1 k0_t17 k0_h4
theorem k0_off623_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off623 v125 v135 k0_t17) a + S1x1x16.size a ≤ S2x64x512.size a := fun v93 v103 k0_t14 v125 v135 k0_hw11 k0_t17 k0_h4 => k0_hw11.2.2.2.2.1.2.2.2.2.2.2.2.2.2.2.2.1 k0_t17 k0_h4
theorem k0_off624_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off624 v125 v135 k0_t17) a + S1x1x16.size a ≤ S2x64x512.size a := fun v93 v103 k0_t14 v125 v135 k0_hw11 k0_t17 k0_h4 => k0_hw11.2.2.2.2.1.2.2.2.2.2.2.2.2.2.2.2.2.1 k0_t17 k0_h4
theorem k0_off625_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off625 v125 v135 k0_t17) a + S1x1x16.size a ≤ S2x64x512.size a := fun v93 v103 k0_t14 v125 v135 k0_hw11 k0_t17 k0_h4 => k0_hw11.2.2.2.2.1.2.2.2.2.2.2.2.2.2.2.2.2.2.1 k0_t17 k0_h4
theorem k0_off626_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off626 v125 v135 k0_t17) a + S1x1x16.size a ≤ S2x64x512.size a := fun v93 v103 k0_t14 v125 v135 k0_hw11 k0_t17 k0_h4 => k0_hw11.2.2.2.2.1.2.2.2.2.2.2.2.2.2.2.2.2.2.2.1 k0_t17 k0_h4
theorem k0_off627_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off627 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.1 k0_t17 k0_h4
theorem k0_off628_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off628 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.1 k0_t17 k0_h4
theorem k0_off629_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off629 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.1 k0_t17 k0_h4
theorem k0_off630_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off630 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.1 k0_t17 k0_h4
theorem k0_off631_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off631 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.1 k0_t17 k0_h4
theorem k0_off632_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off632 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.1 k0_t17 k0_h4
theorem k0_off633_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off633 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.1 k0_t17 k0_h4
theorem k0_off634_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off634 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.1 k0_t17 k0_h4
theorem k0_off635_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off635 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.1 k0_t17 k0_h4
theorem k0_off636_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off636 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.1 k0_t17 k0_h4
theorem k0_off637_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off637 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.2.1 k0_t17 k0_h4
theorem k0_off638_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off638 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.2.2.1 k0_t17 k0_h4
theorem k0_off639_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off639 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.2.2.2.1 k0_t17 k0_h4
theorem k0_off640_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off640 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.2.2.2.2.1 k0_t17 k0_h4
theorem k0_off641_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off641 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.2.2.2.2.2.1 k0_t17 k0_h4
theorem k0_off642_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off642 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.2.2.2.2.2.2.1 k0_t17 k0_h4
theorem k0_off643_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off643 v125 v135 k0_t17) a + S1x1x16.size a ≤ S2x64x512.size a := fun v93 v103 k0_t14 v125 v135 k0_hw11 k0_t17 k0_h4 => k0_hw11.2.2.2.2.1.2.2.2.2.2.2.2.2.2.2.2.2.2.2.2.2.2.2.2.2.2.2.2.2.2.2.2.2.2.2.2 k0_t17 k0_h4
theorem k0_off644_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off644 v125 v135 k0_t17) a + S1x1x16.size a ≤ S2x64x512.size a := fun v93 v103 k0_t14 v125 v135 k0_hw11 k0_t17 k0_h4 => k0_hw11.2.2.2.2.2.1.1 k0_t17 k0_h4
theorem k0_off645_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off645 v125 v135 k0_t17) a + S1x1x16.size a ≤ S2x64x512.size a := fun v93 v103 k0_t14 v125 v135 k0_hw11 k0_t17 k0_h4 => k0_hw11.2.2.2.2.2.1.2.1 k0_t17 k0_h4
theorem k0_off646_inb : ∀ (v93 : BitVec 32) (v103 : BitVec 32) (k0_t14 : Fin (k0_t14_loop v93 v103).trips) (v125 : BitVec 32) (v135 : BitVec 32) (k0_hw11 : k0_chk11 v93 v103 k0_t14 v125 v135) (k0_t17 : Fin (k0_t17_loop v125 v135).trips), ∀ (k0_h4 : k0_cond4 v125 v135 = 1#1), ∀ a, (k0_off646 v125 v135 k0_t17) a + S1x1x16.size a ≤ S2x64x512.size a := fun v93 v103 k0_t14 v125 v135 k0_hw11 k0_t17 k0_h4 => k0_hw11.2.2.2.2.2.1.2.2.1 k0_t17 k0_h4
theorem k0_t18_ok : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), (k0_t18_loop v125 v135).OK := fun v93 v103 k0_t14 v125 v135 k0_hw11 k0_h4 => k0_hw11.2.2.2.2.2.1.2.2.2.1 k0_h4
theorem k0_off647_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off647 v125 v135 k0_t18) a + S1x1x16.size a ≤ S2x64x512.size a := fun v93 v103 k0_t14 v125 v135 k0_hw11 k0_t18 k0_h4 => k0_hw11.2.2.2.2.2.1.2.2.2.2.1 k0_t18 k0_h4
theorem k0_off648_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off648 v125 v135 k0_t18) a + S1x1x16.size a ≤ S2x64x512.size a := fun v93 v103 k0_t14 v125 v135 k0_hw11 k0_t18 k0_h4 => k0_hw11.2.2.2.2.2.1.2.2.2.2.2.1 k0_t18 k0_h4
theorem k0_off649_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off649 v125 v135 k0_t18) a + S1x1x16.size a ≤ S2x64x512.size a := fun v93 v103 k0_t14 v125 v135 k0_hw11 k0_t18 k0_h4 => k0_hw11.2.2.2.2.2.1.2.2.2.2.2.2.1 k0_t18 k0_h4
theorem k0_off650_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off650 v125 v135 k0_t18) a + S1x1x16.size a ≤ S2x64x512.size a := fun v93 v103 k0_t14 v125 v135 k0_hw11 k0_t18 k0_h4 => k0_hw11.2.2.2.2.2.1.2.2.2.2.2.2.2.1 k0_t18 k0_h4
theorem k0_off651_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off651 v125 v135 k0_t18) a + S1x1x16.size a ≤ S2x64x512.size a := fun v93 v103 k0_t14 v125 v135 k0_hw11 k0_t18 k0_h4 => k0_hw11.2.2.2.2.2.1.2.2.2.2.2.2.2.2.1 k0_t18 k0_h4
theorem k0_off652_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off652 v125 v135 k0_t18) a + S1x1x16.size a ≤ S2x64x512.size a := fun v93 v103 k0_t14 v125 v135 k0_hw11 k0_t18 k0_h4 => k0_hw11.2.2.2.2.2.1.2.2.2.2.2.2.2.2.2.1 k0_t18 k0_h4
theorem k0_off653_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off653 v125 v135 k0_t18) a + S1x1x16.size a ≤ S2x64x512.size a := fun v93 v103 k0_t14 v125 v135 k0_hw11 k0_t18 k0_h4 => k0_hw11.2.2.2.2.2.1.2.2.2.2.2.2.2.2.2.2.1 k0_t18 k0_h4
theorem k0_off654_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off654 v125 v135 k0_t18) a + S1x1x16.size a ≤ S2x64x512.size a := fun v93 v103 k0_t14 v125 v135 k0_hw11 k0_t18 k0_h4 => k0_hw11.2.2.2.2.2.1.2.2.2.2.2.2.2.2.2.2.2.1 k0_t18 k0_h4
theorem k0_off655_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off655 v125 v135 k0_t18) a + S1x1x16.size a ≤ S2x64x512.size a := fun v93 v103 k0_t14 v125 v135 k0_hw11 k0_t18 k0_h4 => k0_hw11.2.2.2.2.2.1.2.2.2.2.2.2.2.2.2.2.2.2.1 k0_t18 k0_h4
theorem k0_off656_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off656 v125 v135 k0_t18) a + S1x1x16.size a ≤ S2x64x512.size a := fun v93 v103 k0_t14 v125 v135 k0_hw11 k0_t18 k0_h4 => k0_hw11.2.2.2.2.2.1.2.2.2.2.2.2.2.2.2.2.2.2.2.1 k0_t18 k0_h4
theorem k0_off657_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off657 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.1 k0_t18 k0_h4
theorem k0_off658_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off658 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.1 k0_t18 k0_h4
theorem k0_off659_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off659 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.1 k0_t18 k0_h4
theorem k0_off660_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off660 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.1 k0_t18 k0_h4
theorem k0_off661_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off661 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.1 k0_t18 k0_h4
theorem k0_off662_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off662 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.1 k0_t18 k0_h4
theorem k0_off663_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off663 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.1 k0_t18 k0_h4
theorem k0_off664_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off664 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.1 k0_t18 k0_h4
theorem k0_off665_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off665 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.1 k0_t18 k0_h4
theorem k0_off666_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off666 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.1 k0_t18 k0_h4
theorem k0_off667_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off667 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.1 k0_t18 k0_h4
theorem k0_off668_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off668 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.2.1 k0_t18 k0_h4
theorem k0_off669_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off669 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.2.2.1 k0_t18 k0_h4
theorem k0_off670_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off670 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.2.2.2.1 k0_t18 k0_h4
theorem k0_off671_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off671 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.2.2.2.2.1 k0_t18 k0_h4
theorem k0_off672_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off672 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.2.2.2.2.2.1 k0_t18 k0_h4
theorem k0_off673_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off673 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.2.2.2.2.2.2.1 k0_t18 k0_h4
theorem k0_off674_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off674 v125 v135 k0_t18) a + S1x1x16.size a ≤ S2x64x512.size a := fun v93 v103 k0_t14 v125 v135 k0_hw11 k0_t18 k0_h4 => k0_hw11.2.2.2.2.2.1.2.2.2.2.2.2.2.2.2.2.2.2.2.2.2.2.2.2.2.2.2.2.2.2.2.2.2.2.2.2.2 k0_t18 k0_h4
theorem k0_off675_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off675 v125 v135 k0_t18) a + S1x1x16.size a ≤ S2x64x512.size a := fun v93 v103 k0_t14 v125 v135 k0_hw11 k0_t18 k0_h4 => k0_hw11.2.2.2.2.2.2.1.1 k0_t18 k0_h4
theorem k0_off676_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off676 v125 v135 k0_t18) a + S1x1x16.size a ≤ S2x64x512.size a := fun v93 v103 k0_t14 v125 v135 k0_hw11 k0_t18 k0_h4 => k0_hw11.2.2.2.2.2.2.1.2.1 k0_t18 k0_h4
theorem k0_off677_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off677 v125 v135 k0_t18) a + S1x1x16.size a ≤ S2x64x512.size a := fun v93 v103 k0_t14 v125 v135 k0_hw11 k0_t18 k0_h4 => k0_hw11.2.2.2.2.2.2.1.2.2.1 k0_t18 k0_h4
theorem k0_off678_inb : ∀ (v93 : BitVec 32) (v103 : BitVec 32) (k0_t14 : Fin (k0_t14_loop v93 v103).trips) (v125 : BitVec 32) (v135 : BitVec 32) (k0_hw11 : k0_chk11 v93 v103 k0_t14 v125 v135) (k0_t18 : Fin (k0_t18_loop v125 v135).trips), ∀ (k0_h4 : k0_cond4 v125 v135 = 1#1), ∀ a, (k0_off678 v125 v135 k0_t18) a + S1x1x16.size a ≤ S2x64x512.size a := fun v93 v103 k0_t14 v125 v135 k0_hw11 k0_t18 k0_h4 => k0_hw11.2.2.2.2.2.2.1.2.2.2.1 k0_t18 k0_h4
theorem k0_off679_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off679 v93 v103 k0_t14) a + S1x16.size a ≤ S16x512.size a := fun v93 v103 k0_t14 v125 v135 k0_hw11 k0_h4 => k0_hw11.2.2.2.2.2.2.1.2.2.2.2.1 k0_h4
theorem k0_off680_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off680 v93 v103 k0_t14) a + S1x16.size a ≤ S16x512.size a := fun v93 v103 k0_t14 v125 v135 k0_hw11 k0_h4 => k0_hw11.2.2.2.2.2.2.1.2.2.2.2.2.1 k0_h4
theorem k0_off681_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off681 v93 v103 k0_t14) a + S1x16.size a ≤ S16x512.size a := fun v93 v103 k0_t14 v125 v135 k0_hw11 k0_h4 => k0_hw11.2.2.2.2.2.2.1.2.2.2.2.2.2.1 k0_h4
theorem k0_off682_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off682 v93 v103 k0_t14) a + S1x16.size a ≤ S16x512.size a := fun v93 v103 k0_t14 v125 v135 k0_hw11 k0_h4 => k0_hw11.2.2.2.2.2.2.1.2.2.2.2.2.2.2.1 k0_h4
theorem k0_off683_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off683 v93 v103 k0_t14) a + S1x16.size a ≤ S16x512.size a := fun v93 v103 k0_t14 v125 v135 k0_hw11 k0_h4 => k0_hw11.2.2.2.2.2.2.1.2.2.2.2.2.2.2.2.1 k0_h4
theorem k0_off684_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off684 v93 v103 k0_t14) a + S1x16.size a ≤ S16x512.size a := fun v93 v103 k0_t14 v125 v135 k0_hw11 k0_h4 => k0_hw11.2.2.2.2.2.2.1.2.2.2.2.2.2.2.2.2.1 k0_h4
theorem k0_off685_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off685 v93 v103 k0_t14) a + S1x16.size a ≤ S16x512.size a := fun v93 v103 k0_t14 v125 v135 k0_hw11 k0_h4 => k0_hw11.2.2.2.2.2.2.1.2.2.2.2.2.2.2.2.2.2.1 k0_h4
theorem k0_off686_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off686 v93 v103 k0_t14) a + S1x16.size a ≤ S16x512.size a := fun v93 v103 k0_t14 v125 v135 k0_hw11 k0_h4 => k0_hw11.2.2.2.2.2.2.1.2.2.2.2.2.2.2.2.2.2.2.1 k0_h4
theorem k0_off687_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off687 v93 v103 k0_t14) a + S1x16.size a ≤ S16x512.size a := fun v93 v103 k0_t14 v125 v135 k0_hw11 k0_h4 => k0_hw11.2.2.2.2.2.2.1.2.2.2.2.2.2.2.2.2.2.2.2.1 k0_h4
theorem k0_off688_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off688 v93 v103 k0_t14) a + S1x16.size a ≤ S16x512.size a := fun v93 v103 k0_t14 v125 v135 k0_hw11 k0_h4 => k0_hw11.2.2.2.2.2.2.1.2.2.2.2.2.2.2.2.2.2.2.2.2.1 k0_h4
theorem k0_off689_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off689 v93 v103 k0_t14) a + S1x16.size a ≤ S16x512.size a := fun v93 v103 k0_t14 v125 v135 k0_hw11 k0_h4 => k0_hw11.2.2.2.2.2.2.1.2.2.2.2.2.2.2.2.2.2.2.2.2.2.1 k0_h4
theorem k0_off690_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off690 v93 v103 k0_t14) a + S1x16.size a ≤ S16x512.size a := fun v93 v103 k0_t14 v125 v135 k0_hw11 k0_h4 => k0_hw11.2.2.2.2.2.2.1.2.2.2.2.2.2.2.2.2.2.2.2.2.2.2.1 k0_h4
theorem k0_off691_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off691 v93 v103 k0_t14) a + S1x16.size a ≤ S16x512.size a := fun v93 v103 k0_t14 v125 v135 k0_hw11 k0_h4 => k0_hw11.2.2.2.2.2.2.1.2.2.2.2.2.2.2.2.2.2.2.2.2.2.2.2.1 k0_h4
theorem k0_off692_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off692 v93 v103 k0_t14) a + S1x16.size a ≤ S16x512.size a := fun v93 v103 k0_t14 v125 v135 k0_hw11 k0_h4 => k0_hw11.2.2.2.2.2.2.1.2.2.2.2.2.2.2.2.2.2.2.2.2.2.2.2.2.1 k0_h4
theorem k0_off693_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off693 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.1 k0_h4
theorem k0_off694_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off694 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.1 k0_h4
theorem k0_off695_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off695 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.1 k0_h4
theorem k0_off696_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off696 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.1 k0_h4
theorem k0_off697_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off697 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.1 k0_h4
theorem k0_off698_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off698 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.1 k0_h4
theorem k0_off699_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off699 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.1 k0_h4
theorem k0_off700_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off700 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.2.1 k0_h4
theorem k0_off701_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off701 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.2.2.1 k0_h4
theorem k0_off702_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off702 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.2.2.2.1 k0_h4
theorem k0_off703_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off703 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.2.2.2.2.1 k0_h4
theorem k0_off704_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off704 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.2.2.2.2.2.1 k0_h4
theorem k0_off705_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off705 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.2.2.2.2.2.2.1 k0_h4
theorem k0_off706_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off706 v93 v103 k0_t14) a + S1x16.size a ≤ S16x512.size a := fun v93 v103 k0_t14 v125 v135 k0_hw11 k0_h4 => k0_hw11.2.2.2.2.2.2.1.2.2.2.2.2.2.2.2.2.2.2.2.2.2.2.2.2.2.2.2.2.2.2.2.2.2.2.2.2.2.2 k0_h4
theorem k0_off707_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off707 v93 v103 k0_t14) a + S1x16.size a ≤ S16x512.size a := fun v93 v103 k0_t14 v125 v135 k0_hw11 k0_h4 => k0_hw11.2.2.2.2.2.2.2.1 k0_h4
theorem k0_off708_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off708 v93 v103 k0_t14) a + S1x16.size a ≤ S16x512.size a := fun v93 v103 k0_t14 v125 v135 k0_hw11 k0_h4 => k0_hw11.2.2.2.2.2.2.2.2.1 k0_h4
theorem k0_off709_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off709 v93 v103 k0_t14) a + S1x16.size a ≤ S16x512.size a := fun v93 v103 k0_t14 v125 v135 k0_hw11 k0_h4 => k0_hw11.2.2.2.2.2.2.2.2.2.1 k0_h4
theorem k0_off710_inb : ∀ (v93 : BitVec 32) (v103 : BitVec 32) (k0_t14 : Fin (k0_t14_loop v93 v103).trips) (v125 : BitVec 32) (v135 : BitVec 32) (k0_hw11 : k0_chk11 v93 v103 k0_t14 v125 v135), ∀ (k0_h4 : k0_cond4 v125 v135 = 1#1), ∀ a, (k0_off710 v93 v103 k0_t14) a + S1x16.size a ≤ S16x512.size a := fun v93 v103 k0_t14 v125 v135 k0_hw11 k0_h4 => k0_hw11.2.2.2.2.2.2.2.2.2.2 k0_h4

@[reducible] def k0_t19_loop (v93 : BitVec 32) (v103 : BitVec 32) : Scf.Loop 32 :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let v106 : BitVec 32 := Scalar.addi v93 v105
  let c1_i32_75 : BitVec 32 := 1#32
  ⟨v109, v106, c1_i32_75⟩

def k0_chk10 (v93 : BitVec 32) (v103 : BitVec 32) : Prop :=
  ((k0_t14_loop v93 v103).OK) ∧
  ((k0_t19_loop v93 v103).OK)
theorem k0_t14_ok : ∀ (v93 : BitVec 32) (v103 : BitVec 32) (k0_hw10 : k0_chk10 v93 v103), (k0_t14_loop v93 v103).OK := fun v93 v103 k0_hw10 => k0_hw10.1
theorem k0_t19_ok : ∀ (v93 : BitVec 32) (v103 : BitVec 32) (k0_hw10 : k0_chk10 v93 v103), (k0_t19_loop v93 v103).OK := fun v93 v103 k0_hw10 => k0_hw10.2

@[reducible] def k0_t20_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v139 : BitVec 32 := Scalar.subi v135 v85
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v85
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_96 : BitVec 32 := 1#32
  ⟨c0_i32_94, v151, c1_i32_96⟩
def k0_cond5 (v125 : BitVec 32) (v135 : BitVec 32) : BitVec 1 :=
  let c64_i32_90 : BitVec 32 := 64#32
  let c0_i32_89 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v139 : BitVec 32 := Scalar.subi v135 v85
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v85
  let v137 : BitVec 32 := Scalar.maxsi c0_i32_87 v136
  let v138 : BitVec 32 := Scalar.minsi c64_i32_88 v137
  let v142 : BitVec 1 := Scalar.cmpi .sgt v141 v138
  let v143 : BitVec 32 := Scalar.extui v142
  let c0_i32_91 : BitVec 32 := 0#32
  let v144 : BitVec 1 := Scalar.cmpi .ne v143 c0_i32_91
  v144

def k0_off711 (v125 : BitVec 32) (v135 : BitVec 32) (k0_t20 : Fin (k0_t20_loop v125 v135).trips) : Fin 3 → Nat :=
  let c1_i32_135 : BitVec 32 := 1#32
  let v325 : Index := Scalar.indexCast c1_i32_135
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![1, v326.toNat, 0]
def k0_off712 (v125 : BitVec 32) (v135 : BitVec 32) (k0_t20 : Fin (k0_t20_loop v125 v135).trips) (c1_i32_137 : BitVec 32) : Fin 3 → Nat :=
  let c1_i32_138 : BitVec 32 := 1#32
  let v329 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![1, v330.toNat, 0]
def k0_off713 (v125 : BitVec 32) (v135 : BitVec 32) (k0_t20 : Fin (k0_t20_loop v125 v135).trips) : Fin 3 → Nat :=
  let c1_i32_145 : BitVec 32 := 1#32
  let v344 : Index := Scalar.indexCast c1_i32_145
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![1, v345.toNat, 16]
def k0_off714 (v125 : BitVec 32) (v135 : BitVec 32) (k0_t20 : Fin (k0_t20_loop v125 v135).trips) (c1_i32_147 : BitVec 32) : Fin 3 → Nat :=
  let c1_i32_148 : BitVec 32 := 1#32
  let v348 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![1, v349.toNat, 16]
def k0_off715 (v125 : BitVec 32) (v135 : BitVec 32) (k0_t20 : Fin (k0_t20_loop v125 v135).trips) : Fin 3 → Nat :=
  let c1_i32_156 : BitVec 32 := 1#32
  let v363 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![1, v364.toNat, 32]
def k0_off716 (v125 : BitVec 32) (v135 : BitVec 32) (k0_t20 : Fin (k0_t20_loop v125 v135).trips) (c1_i32_158 : BitVec 32) : Fin 3 → Nat :=
  let c1_i32_159 : BitVec 32 := 1#32
  let v367 : Index := Scalar.indexCast c1_i32_159
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![1, v368.toNat, 32]
def k0_off717 (v125 : BitVec 32) (v135 : BitVec 32) (k0_t20 : Fin (k0_t20_loop v125 v135).trips) : Fin 3 → Nat :=
  let c1_i32_167 : BitVec 32 := 1#32
  let v382 : Index := Scalar.indexCast c1_i32_167
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![1, v383.toNat, 48]
def k0_off718 (v125 : BitVec 32) (v135 : BitVec 32) (k0_t20 : Fin (k0_t20_loop v125 v135).trips) (c1_i32_169 : BitVec 32) : Fin 3 → Nat :=
  let c1_i32_170 : BitVec 32 := 1#32
  let v386 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![1, v387.toNat, 48]
def k0_off719 (v125 : BitVec 32) (v135 : BitVec 32) (k0_t20 : Fin (k0_t20_loop v125 v135).trips) : Fin 3 → Nat :=
  let c1_i32_178 : BitVec 32 := 1#32
  let v401 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![1, v402.toNat, 64]
def k0_off720 (v125 : BitVec 32) (v135 : BitVec 32) (k0_t20 : Fin (k0_t20_loop v125 v135).trips) (c1_i32_180 : BitVec 32) : Fin 3 → Nat :=
  let c1_i32_181 : BitVec 32 := 1#32
  let v405 : Index := Scalar.indexCast c1_i32_181
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![1, v406.toNat, 64]
def k0_off721 (v125 : BitVec 32) (v135 : BitVec 32) (k0_t20 : Fin (k0_t20_loop v125 v135).trips) : Fin 3 → Nat :=
  let c1_i32_189 : BitVec 32 := 1#32
  let v420 : Index := Scalar.indexCast c1_i32_189
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![1, v421.toNat, 80]
def k0_off722 (v125 : BitVec 32) (v135 : BitVec 32) (k0_t20 : Fin (k0_t20_loop v125 v135).trips) (c1_i32_191 : BitVec 32) : Fin 3 → Nat :=
  let c1_i32_192 : BitVec 32 := 1#32
  let v424 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![1, v425.toNat, 80]
def k0_off723 (v125 : BitVec 32) (v135 : BitVec 32) (k0_t20 : Fin (k0_t20_loop v125 v135).trips) : Fin 3 → Nat :=
  let c1_i32_200 : BitVec 32 := 1#32
  let v439 : Index := Scalar.indexCast c1_i32_200
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![1, v440.toNat, 96]
def k0_off724 (v125 : BitVec 32) (v135 : BitVec 32) (k0_t20 : Fin (k0_t20_loop v125 v135).trips) (c1_i32_202 : BitVec 32) : Fin 3 → Nat :=
  let c1_i32_203 : BitVec 32 := 1#32
  let v443 : Index := Scalar.indexCast c1_i32_203
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![1, v444.toNat, 96]
def k0_off725 (v125 : BitVec 32) (v135 : BitVec 32) (k0_t20 : Fin (k0_t20_loop v125 v135).trips) : Fin 3 → Nat :=
  let c1_i32_211 : BitVec 32 := 1#32
  let v458 : Index := Scalar.indexCast c1_i32_211
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![1, v459.toNat, 112]
def k0_off726 (v125 : BitVec 32) (v135 : BitVec 32) (k0_t20 : Fin (k0_t20_loop v125 v135).trips) (c1_i32_213 : BitVec 32) : Fin 3 → Nat :=
  let c1_i32_214 : BitVec 32 := 1#32
  let v462 : Index := Scalar.indexCast c1_i32_214
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![1, v463.toNat, 112]
def k0_off727 (v125 : BitVec 32) (v135 : BitVec 32) (k0_t20 : Fin (k0_t20_loop v125 v135).trips) : Fin 3 → Nat :=
  let c1_i32_222 : BitVec 32 := 1#32
  let v477 : Index := Scalar.indexCast c1_i32_222
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![1, v478.toNat, 128]
def k0_off728 (v125 : BitVec 32) (v135 : BitVec 32) (k0_t20 : Fin (k0_t20_loop v125 v135).trips) (c1_i32_224 : BitVec 32) : Fin 3 → Nat :=
  let c1_i32_225 : BitVec 32 := 1#32
  let v481 : Index := Scalar.indexCast c1_i32_225
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![1, v482.toNat, 128]
def k0_off729 (v125 : BitVec 32) (v135 : BitVec 32) (k0_t20 : Fin (k0_t20_loop v125 v135).trips) : Fin 3 → Nat :=
  let c1_i32_233 : BitVec 32 := 1#32
  let v496 : Index := Scalar.indexCast c1_i32_233
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![1, v497.toNat, 144]
def k0_off730 (v125 : BitVec 32) (v135 : BitVec 32) (k0_t20 : Fin (k0_t20_loop v125 v135).trips) (c1_i32_235 : BitVec 32) : Fin 3 → Nat :=
  let c1_i32_236 : BitVec 32 := 1#32
  let v500 : Index := Scalar.indexCast c1_i32_236
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![1, v501.toNat, 144]
def k0_off731 (v125 : BitVec 32) (v135 : BitVec 32) (k0_t20 : Fin (k0_t20_loop v125 v135).trips) : Fin 3 → Nat :=
  let c1_i32_244 : BitVec 32 := 1#32
  let v515 : Index := Scalar.indexCast c1_i32_244
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![1, v516.toNat, 160]
def k0_off732 (v125 : BitVec 32) (v135 : BitVec 32) (k0_t20 : Fin (k0_t20_loop v125 v135).trips) (c1_i32_246 : BitVec 32) : Fin 3 → Nat :=
  let c1_i32_247 : BitVec 32 := 1#32
  let v519 : Index := Scalar.indexCast c1_i32_247
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![1, v520.toNat, 160]
def k0_off733 (v125 : BitVec 32) (v135 : BitVec 32) (k0_t20 : Fin (k0_t20_loop v125 v135).trips) : Fin 3 → Nat :=
  let c1_i32_255 : BitVec 32 := 1#32
  let v534 : Index := Scalar.indexCast c1_i32_255
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![1, v535.toNat, 176]
def k0_off734 (v125 : BitVec 32) (v135 : BitVec 32) (k0_t20 : Fin (k0_t20_loop v125 v135).trips) (c1_i32_257 : BitVec 32) : Fin 3 → Nat :=
  let c1_i32_258 : BitVec 32 := 1#32
  let v538 : Index := Scalar.indexCast c1_i32_258
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![1, v539.toNat, 176]
def k0_off735 (v125 : BitVec 32) (v135 : BitVec 32) (k0_t20 : Fin (k0_t20_loop v125 v135).trips) : Fin 3 → Nat :=
  let c1_i32_266 : BitVec 32 := 1#32
  let v553 : Index := Scalar.indexCast c1_i32_266
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![1, v554.toNat, 192]
def k0_off736 (v125 : BitVec 32) (v135 : BitVec 32) (k0_t20 : Fin (k0_t20_loop v125 v135).trips) (c1_i32_268 : BitVec 32) : Fin 3 → Nat :=
  let c1_i32_269 : BitVec 32 := 1#32
  let v557 : Index := Scalar.indexCast c1_i32_269
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![1, v558.toNat, 192]
def k0_off737 (v125 : BitVec 32) (v135 : BitVec 32) (k0_t20 : Fin (k0_t20_loop v125 v135).trips) : Fin 3 → Nat :=
  let c1_i32_277 : BitVec 32 := 1#32
  let v572 : Index := Scalar.indexCast c1_i32_277
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![1, v573.toNat, 208]
def k0_off738 (v125 : BitVec 32) (v135 : BitVec 32) (k0_t20 : Fin (k0_t20_loop v125 v135).trips) (c1_i32_279 : BitVec 32) : Fin 3 → Nat :=
  let c1_i32_280 : BitVec 32 := 1#32
  let v576 : Index := Scalar.indexCast c1_i32_280
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![1, v577.toNat, 208]
def k0_off739 (v125 : BitVec 32) (v135 : BitVec 32) (k0_t20 : Fin (k0_t20_loop v125 v135).trips) : Fin 3 → Nat :=
  let c1_i32_288 : BitVec 32 := 1#32
  let v591 : Index := Scalar.indexCast c1_i32_288
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![1, v592.toNat, 224]
def k0_off740 (v125 : BitVec 32) (v135 : BitVec 32) (k0_t20 : Fin (k0_t20_loop v125 v135).trips) (c1_i32_290 : BitVec 32) : Fin 3 → Nat :=
  let c1_i32_291 : BitVec 32 := 1#32
  let v595 : Index := Scalar.indexCast c1_i32_291
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![1, v596.toNat, 224]
def k0_off741 (v125 : BitVec 32) (v135 : BitVec 32) (k0_t20 : Fin (k0_t20_loop v125 v135).trips) : Fin 3 → Nat :=
  let c1_i32_299 : BitVec 32 := 1#32
  let v610 : Index := Scalar.indexCast c1_i32_299
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![1, v611.toNat, 240]
def k0_off742 (v125 : BitVec 32) (v135 : BitVec 32) (k0_t20 : Fin (k0_t20_loop v125 v135).trips) (c1_i32_301 : BitVec 32) : Fin 3 → Nat :=
  let c1_i32_302 : BitVec 32 := 1#32
  let v614 : Index := Scalar.indexCast c1_i32_302
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![1, v615.toNat, 240]
def k0_off743 (v125 : BitVec 32) (v135 : BitVec 32) (k0_t20 : Fin (k0_t20_loop v125 v135).trips) : Fin 3 → Nat :=
  let c1_i32_310 : BitVec 32 := 1#32
  let v629 : Index := Scalar.indexCast c1_i32_310
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![1, v630.toNat, 256]
def k0_off744 (v125 : BitVec 32) (v135 : BitVec 32) (k0_t20 : Fin (k0_t20_loop v125 v135).trips) (c1_i32_312 : BitVec 32) : Fin 3 → Nat :=
  let c1_i32_313 : BitVec 32 := 1#32
  let v633 : Index := Scalar.indexCast c1_i32_313
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![1, v634.toNat, 256]
def k0_off745 (v125 : BitVec 32) (v135 : BitVec 32) (k0_t20 : Fin (k0_t20_loop v125 v135).trips) : Fin 3 → Nat :=
  let c1_i32_321 : BitVec 32 := 1#32
  let v648 : Index := Scalar.indexCast c1_i32_321
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![1, v649.toNat, 272]
def k0_off746 (v125 : BitVec 32) (v135 : BitVec 32) (k0_t20 : Fin (k0_t20_loop v125 v135).trips) (c1_i32_323 : BitVec 32) : Fin 3 → Nat :=
  let c1_i32_324 : BitVec 32 := 1#32
  let v652 : Index := Scalar.indexCast c1_i32_324
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![1, v653.toNat, 272]
def k0_off747 (v125 : BitVec 32) (v135 : BitVec 32) (k0_t20 : Fin (k0_t20_loop v125 v135).trips) : Fin 3 → Nat :=
  let c1_i32_332 : BitVec 32 := 1#32
  let v667 : Index := Scalar.indexCast c1_i32_332
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![1, v668.toNat, 288]
def k0_off748 (v125 : BitVec 32) (v135 : BitVec 32) (k0_t20 : Fin (k0_t20_loop v125 v135).trips) (c1_i32_334 : BitVec 32) : Fin 3 → Nat :=
  let c1_i32_335 : BitVec 32 := 1#32
  let v671 : Index := Scalar.indexCast c1_i32_335
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![1, v672.toNat, 288]
def k0_off749 (v125 : BitVec 32) (v135 : BitVec 32) (k0_t20 : Fin (k0_t20_loop v125 v135).trips) : Fin 3 → Nat :=
  let c1_i32_343 : BitVec 32 := 1#32
  let v686 : Index := Scalar.indexCast c1_i32_343
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![1, v687.toNat, 304]
def k0_off750 (v125 : BitVec 32) (v135 : BitVec 32) (k0_t20 : Fin (k0_t20_loop v125 v135).trips) (c1_i32_345 : BitVec 32) : Fin 3 → Nat :=
  let c1_i32_346 : BitVec 32 := 1#32
  let v690 : Index := Scalar.indexCast c1_i32_346
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![1, v691.toNat, 304]
def k0_off751 (v125 : BitVec 32) (v135 : BitVec 32) (k0_t20 : Fin (k0_t20_loop v125 v135).trips) : Fin 3 → Nat :=
  let c1_i32_354 : BitVec 32 := 1#32
  let v705 : Index := Scalar.indexCast c1_i32_354
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![1, v706.toNat, 320]
def k0_off752 (v125 : BitVec 32) (v135 : BitVec 32) (k0_t20 : Fin (k0_t20_loop v125 v135).trips) (c1_i32_356 : BitVec 32) : Fin 3 → Nat :=
  let c1_i32_357 : BitVec 32 := 1#32
  let v709 : Index := Scalar.indexCast c1_i32_357
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![1, v710.toNat, 320]
def k0_off753 (v125 : BitVec 32) (v135 : BitVec 32) (k0_t20 : Fin (k0_t20_loop v125 v135).trips) : Fin 3 → Nat :=
  let c1_i32_365 : BitVec 32 := 1#32
  let v724 : Index := Scalar.indexCast c1_i32_365
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![1, v725.toNat, 336]
def k0_off754 (v125 : BitVec 32) (v135 : BitVec 32) (k0_t20 : Fin (k0_t20_loop v125 v135).trips) (c1_i32_367 : BitVec 32) : Fin 3 → Nat :=
  let c1_i32_368 : BitVec 32 := 1#32
  let v728 : Index := Scalar.indexCast c1_i32_368
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![1, v729.toNat, 336]
def k0_off755 (v125 : BitVec 32) (v135 : BitVec 32) (k0_t20 : Fin (k0_t20_loop v125 v135).trips) : Fin 3 → Nat :=
  let c1_i32_376 : BitVec 32 := 1#32
  let v743 : Index := Scalar.indexCast c1_i32_376
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![1, v744.toNat, 352]
def k0_off756 (v125 : BitVec 32) (v135 : BitVec 32) (k0_t20 : Fin (k0_t20_loop v125 v135).trips) (c1_i32_378 : BitVec 32) : Fin 3 → Nat :=
  let c1_i32_379 : BitVec 32 := 1#32
  let v747 : Index := Scalar.indexCast c1_i32_379
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![1, v748.toNat, 352]
def k0_off757 (v125 : BitVec 32) (v135 : BitVec 32) (k0_t20 : Fin (k0_t20_loop v125 v135).trips) : Fin 3 → Nat :=
  let c1_i32_387 : BitVec 32 := 1#32
  let v762 : Index := Scalar.indexCast c1_i32_387
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![1, v763.toNat, 368]
def k0_off758 (v125 : BitVec 32) (v135 : BitVec 32) (k0_t20 : Fin (k0_t20_loop v125 v135).trips) (c1_i32_389 : BitVec 32) : Fin 3 → Nat :=
  let c1_i32_390 : BitVec 32 := 1#32
  let v766 : Index := Scalar.indexCast c1_i32_390
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![1, v767.toNat, 368]
def k0_off759 (v125 : BitVec 32) (v135 : BitVec 32) (k0_t20 : Fin (k0_t20_loop v125 v135).trips) : Fin 3 → Nat :=
  let c1_i32_398 : BitVec 32 := 1#32
  let v781 : Index := Scalar.indexCast c1_i32_398
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![1, v782.toNat, 384]
def k0_off760 (v125 : BitVec 32) (v135 : BitVec 32) (k0_t20 : Fin (k0_t20_loop v125 v135).trips) (c1_i32_400 : BitVec 32) : Fin 3 → Nat :=
  let c1_i32_401 : BitVec 32 := 1#32
  let v785 : Index := Scalar.indexCast c1_i32_401
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![1, v786.toNat, 384]
def k0_off761 (v125 : BitVec 32) (v135 : BitVec 32) (k0_t20 : Fin (k0_t20_loop v125 v135).trips) : Fin 3 → Nat :=
  let c1_i32_409 : BitVec 32 := 1#32
  let v800 : Index := Scalar.indexCast c1_i32_409
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![1, v801.toNat, 400]
def k0_off762 (v125 : BitVec 32) (v135 : BitVec 32) (k0_t20 : Fin (k0_t20_loop v125 v135).trips) (c1_i32_411 : BitVec 32) : Fin 3 → Nat :=
  let c1_i32_412 : BitVec 32 := 1#32
  let v804 : Index := Scalar.indexCast c1_i32_412
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![1, v805.toNat, 400]
def k0_off763 (v125 : BitVec 32) (v135 : BitVec 32) (k0_t20 : Fin (k0_t20_loop v125 v135).trips) : Fin 3 → Nat :=
  let c1_i32_420 : BitVec 32 := 1#32
  let v819 : Index := Scalar.indexCast c1_i32_420
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![1, v820.toNat, 416]
def k0_off764 (v125 : BitVec 32) (v135 : BitVec 32) (k0_t20 : Fin (k0_t20_loop v125 v135).trips) (c1_i32_422 : BitVec 32) : Fin 3 → Nat :=
  let c1_i32_423 : BitVec 32 := 1#32
  let v823 : Index := Scalar.indexCast c1_i32_423
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![1, v824.toNat, 416]
def k0_off765 (v125 : BitVec 32) (v135 : BitVec 32) (k0_t20 : Fin (k0_t20_loop v125 v135).trips) : Fin 3 → Nat :=
  let c1_i32_431 : BitVec 32 := 1#32
  let v838 : Index := Scalar.indexCast c1_i32_431
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![1, v839.toNat, 432]
def k0_off766 (v125 : BitVec 32) (v135 : BitVec 32) (k0_t20 : Fin (k0_t20_loop v125 v135).trips) (c1_i32_433 : BitVec 32) : Fin 3 → Nat :=
  let c1_i32_434 : BitVec 32 := 1#32
  let v842 : Index := Scalar.indexCast c1_i32_434
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![1, v843.toNat, 432]
def k0_off767 (v125 : BitVec 32) (v135 : BitVec 32) (k0_t20 : Fin (k0_t20_loop v125 v135).trips) : Fin 3 → Nat :=
  let c1_i32_442 : BitVec 32 := 1#32
  let v857 : Index := Scalar.indexCast c1_i32_442
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![1, v858.toNat, 448]
def k0_off768 (v125 : BitVec 32) (v135 : BitVec 32) (k0_t20 : Fin (k0_t20_loop v125 v135).trips) (c1_i32_444 : BitVec 32) : Fin 3 → Nat :=
  let c1_i32_445 : BitVec 32 := 1#32
  let v861 : Index := Scalar.indexCast c1_i32_445
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![1, v862.toNat, 448]
def k0_off769 (v125 : BitVec 32) (v135 : BitVec 32) (k0_t20 : Fin (k0_t20_loop v125 v135).trips) : Fin 3 → Nat :=
  let c1_i32_453 : BitVec 32 := 1#32
  let v876 : Index := Scalar.indexCast c1_i32_453
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![1, v877.toNat, 464]
def k0_off770 (v125 : BitVec 32) (v135 : BitVec 32) (k0_t20 : Fin (k0_t20_loop v125 v135).trips) (c1_i32_455 : BitVec 32) : Fin 3 → Nat :=
  let c1_i32_456 : BitVec 32 := 1#32
  let v880 : Index := Scalar.indexCast c1_i32_456
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![1, v881.toNat, 464]
def k0_off771 (v125 : BitVec 32) (v135 : BitVec 32) (k0_t20 : Fin (k0_t20_loop v125 v135).trips) : Fin 3 → Nat :=
  let c1_i32_464 : BitVec 32 := 1#32
  let v895 : Index := Scalar.indexCast c1_i32_464
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![1, v896.toNat, 480]
def k0_off772 (v125 : BitVec 32) (v135 : BitVec 32) (k0_t20 : Fin (k0_t20_loop v125 v135).trips) (c1_i32_466 : BitVec 32) : Fin 3 → Nat :=
  let c1_i32_467 : BitVec 32 := 1#32
  let v899 : Index := Scalar.indexCast c1_i32_467
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![1, v900.toNat, 480]
def k0_off773 (v125 : BitVec 32) (v135 : BitVec 32) (k0_t20 : Fin (k0_t20_loop v125 v135).trips) : Fin 3 → Nat :=
  let c1_i32_475 : BitVec 32 := 1#32
  let v914 : Index := Scalar.indexCast c1_i32_475
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![1, v915.toNat, 496]
def k0_off774 (v125 : BitVec 32) (v135 : BitVec 32) (k0_t20 : Fin (k0_t20_loop v125 v135).trips) (c1_i32_477 : BitVec 32) : Fin 3 → Nat :=
  let c1_i32_478 : BitVec 32 := 1#32
  let v918 : Index := Scalar.indexCast c1_i32_478
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c1_i32_96 : BitVec 32 := 1#32
  let arg14 : BitVec 32 := Scf.iv c0_i32_94 c1_i32_96 k0_t20
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![1, v919.toNat, 496]
@[reducible] def k0_t21_loop (v125 : BitVec 32) (v135 : BitVec 32) : Scf.Loop 32 :=
  let c0_i32_94 : BitVec 32 := 0#32
  let c64_i32_90 : BitVec 32 := 64#32
  let c0_i32_89 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v139 : BitVec 32 := Scalar.subi v135 v85
  let v140 : BitVec 32 := Scalar.maxsi c0_i32_89 v139
  let v141 : BitVec 32 := Scalar.minsi c64_i32_90 v140
  let c64_i32_88 : BitVec 32 := 64#32
  let c0_i32_87 : BitVec 32 := 0#32
  let v136 : BitVec 32 := Scalar.subi v125 v85
  let v137 : BitVec 32 := Scalar.maxsi c0_i32_87 v136
  let v138 : BitVec 32 := Scalar.minsi c64_i32_88 v137
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let v148 : BitVec 32 := Scalar.addi c0_i32_94 v147
  let c1_i32_97 : BitVec 32 := 1#32
  ⟨v151, v148, c1_i32_97⟩
def k0_off775 (v125 : BitVec 32) (v135 : BitVec 32) (k0_t21 : Fin (k0_t21_loop v125 v135).trips) : Fin 3 → Nat :=
  let c1_i32_135 : BitVec 32 := 1#32
  let v325 : Index := Scalar.indexCast c1_i32_135
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v326 : Index := Scalar.indexCast v324
  let c0_136 : Index := 0#32
  ![1, v326.toNat, 0]
def k0_off776 (v125 : BitVec 32) (v135 : BitVec 32) (k0_t21 : Fin (k0_t21_loop v125 v135).trips) (c1_i32_137 : BitVec 32) : Fin 3 → Nat :=
  let c1_i32_138 : BitVec 32 := 1#32
  let v329 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v328 : BitVec 32 := Scalar.addi v324 c1_i32_137
  let v330 : Index := Scalar.indexCast v328
  let c0_139 : Index := 0#32
  ![1, v330.toNat, 0]
def k0_off777 (v125 : BitVec 32) (v135 : BitVec 32) (k0_t21 : Fin (k0_t21_loop v125 v135).trips) : Fin 3 → Nat :=
  let c1_i32_145 : BitVec 32 := 1#32
  let v344 : Index := Scalar.indexCast c1_i32_145
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v345 : Index := Scalar.indexCast v324
  let c16_146 : Index := 16#32
  ![1, v345.toNat, 16]
def k0_off778 (v125 : BitVec 32) (v135 : BitVec 32) (k0_t21 : Fin (k0_t21_loop v125 v135).trips) (c1_i32_147 : BitVec 32) : Fin 3 → Nat :=
  let c1_i32_148 : BitVec 32 := 1#32
  let v348 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v347 : BitVec 32 := Scalar.addi v324 c1_i32_147
  let v349 : Index := Scalar.indexCast v347
  let c16_149 : Index := 16#32
  ![1, v349.toNat, 16]
def k0_off779 (v125 : BitVec 32) (v135 : BitVec 32) (k0_t21 : Fin (k0_t21_loop v125 v135).trips) : Fin 3 → Nat :=
  let c1_i32_156 : BitVec 32 := 1#32
  let v363 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v364 : Index := Scalar.indexCast v324
  let c32_157 : Index := 32#32
  ![1, v364.toNat, 32]
def k0_off780 (v125 : BitVec 32) (v135 : BitVec 32) (k0_t21 : Fin (k0_t21_loop v125 v135).trips) (c1_i32_158 : BitVec 32) : Fin 3 → Nat :=
  let c1_i32_159 : BitVec 32 := 1#32
  let v367 : Index := Scalar.indexCast c1_i32_159
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v366 : BitVec 32 := Scalar.addi v324 c1_i32_158
  let v368 : Index := Scalar.indexCast v366
  let c32_160 : Index := 32#32
  ![1, v368.toNat, 32]
def k0_off781 (v125 : BitVec 32) (v135 : BitVec 32) (k0_t21 : Fin (k0_t21_loop v125 v135).trips) : Fin 3 → Nat :=
  let c1_i32_167 : BitVec 32 := 1#32
  let v382 : Index := Scalar.indexCast c1_i32_167
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v383 : Index := Scalar.indexCast v324
  let c48_168 : Index := 48#32
  ![1, v383.toNat, 48]
def k0_off782 (v125 : BitVec 32) (v135 : BitVec 32) (k0_t21 : Fin (k0_t21_loop v125 v135).trips) (c1_i32_169 : BitVec 32) : Fin 3 → Nat :=
  let c1_i32_170 : BitVec 32 := 1#32
  let v386 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v385 : BitVec 32 := Scalar.addi v324 c1_i32_169
  let v387 : Index := Scalar.indexCast v385
  let c48_171 : Index := 48#32
  ![1, v387.toNat, 48]
def k0_off783 (v125 : BitVec 32) (v135 : BitVec 32) (k0_t21 : Fin (k0_t21_loop v125 v135).trips) : Fin 3 → Nat :=
  let c1_i32_178 : BitVec 32 := 1#32
  let v401 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v402 : Index := Scalar.indexCast v324
  let c64_179 : Index := 64#32
  ![1, v402.toNat, 64]
def k0_off784 (v125 : BitVec 32) (v135 : BitVec 32) (k0_t21 : Fin (k0_t21_loop v125 v135).trips) (c1_i32_180 : BitVec 32) : Fin 3 → Nat :=
  let c1_i32_181 : BitVec 32 := 1#32
  let v405 : Index := Scalar.indexCast c1_i32_181
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v404 : BitVec 32 := Scalar.addi v324 c1_i32_180
  let v406 : Index := Scalar.indexCast v404
  let c64_182 : Index := 64#32
  ![1, v406.toNat, 64]
def k0_off785 (v125 : BitVec 32) (v135 : BitVec 32) (k0_t21 : Fin (k0_t21_loop v125 v135).trips) : Fin 3 → Nat :=
  let c1_i32_189 : BitVec 32 := 1#32
  let v420 : Index := Scalar.indexCast c1_i32_189
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v421 : Index := Scalar.indexCast v324
  let c80_190 : Index := 80#32
  ![1, v421.toNat, 80]
def k0_off786 (v125 : BitVec 32) (v135 : BitVec 32) (k0_t21 : Fin (k0_t21_loop v125 v135).trips) (c1_i32_191 : BitVec 32) : Fin 3 → Nat :=
  let c1_i32_192 : BitVec 32 := 1#32
  let v424 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v423 : BitVec 32 := Scalar.addi v324 c1_i32_191
  let v425 : Index := Scalar.indexCast v423
  let c80_193 : Index := 80#32
  ![1, v425.toNat, 80]
def k0_off787 (v125 : BitVec 32) (v135 : BitVec 32) (k0_t21 : Fin (k0_t21_loop v125 v135).trips) : Fin 3 → Nat :=
  let c1_i32_200 : BitVec 32 := 1#32
  let v439 : Index := Scalar.indexCast c1_i32_200
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v440 : Index := Scalar.indexCast v324
  let c96_201 : Index := 96#32
  ![1, v440.toNat, 96]
def k0_off788 (v125 : BitVec 32) (v135 : BitVec 32) (k0_t21 : Fin (k0_t21_loop v125 v135).trips) (c1_i32_202 : BitVec 32) : Fin 3 → Nat :=
  let c1_i32_203 : BitVec 32 := 1#32
  let v443 : Index := Scalar.indexCast c1_i32_203
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v442 : BitVec 32 := Scalar.addi v324 c1_i32_202
  let v444 : Index := Scalar.indexCast v442
  let c96_204 : Index := 96#32
  ![1, v444.toNat, 96]
def k0_off789 (v125 : BitVec 32) (v135 : BitVec 32) (k0_t21 : Fin (k0_t21_loop v125 v135).trips) : Fin 3 → Nat :=
  let c1_i32_211 : BitVec 32 := 1#32
  let v458 : Index := Scalar.indexCast c1_i32_211
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v459 : Index := Scalar.indexCast v324
  let c112_212 : Index := 112#32
  ![1, v459.toNat, 112]
def k0_off790 (v125 : BitVec 32) (v135 : BitVec 32) (k0_t21 : Fin (k0_t21_loop v125 v135).trips) (c1_i32_213 : BitVec 32) : Fin 3 → Nat :=
  let c1_i32_214 : BitVec 32 := 1#32
  let v462 : Index := Scalar.indexCast c1_i32_214
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v461 : BitVec 32 := Scalar.addi v324 c1_i32_213
  let v463 : Index := Scalar.indexCast v461
  let c112_215 : Index := 112#32
  ![1, v463.toNat, 112]
def k0_off791 (v125 : BitVec 32) (v135 : BitVec 32) (k0_t21 : Fin (k0_t21_loop v125 v135).trips) : Fin 3 → Nat :=
  let c1_i32_222 : BitVec 32 := 1#32
  let v477 : Index := Scalar.indexCast c1_i32_222
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v478 : Index := Scalar.indexCast v324
  let c128_223 : Index := 128#32
  ![1, v478.toNat, 128]
def k0_off792 (v125 : BitVec 32) (v135 : BitVec 32) (k0_t21 : Fin (k0_t21_loop v125 v135).trips) (c1_i32_224 : BitVec 32) : Fin 3 → Nat :=
  let c1_i32_225 : BitVec 32 := 1#32
  let v481 : Index := Scalar.indexCast c1_i32_225
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v480 : BitVec 32 := Scalar.addi v324 c1_i32_224
  let v482 : Index := Scalar.indexCast v480
  let c128_226 : Index := 128#32
  ![1, v482.toNat, 128]
def k0_off793 (v125 : BitVec 32) (v135 : BitVec 32) (k0_t21 : Fin (k0_t21_loop v125 v135).trips) : Fin 3 → Nat :=
  let c1_i32_233 : BitVec 32 := 1#32
  let v496 : Index := Scalar.indexCast c1_i32_233
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v497 : Index := Scalar.indexCast v324
  let c144_234 : Index := 144#32
  ![1, v497.toNat, 144]
def k0_off794 (v125 : BitVec 32) (v135 : BitVec 32) (k0_t21 : Fin (k0_t21_loop v125 v135).trips) (c1_i32_235 : BitVec 32) : Fin 3 → Nat :=
  let c1_i32_236 : BitVec 32 := 1#32
  let v500 : Index := Scalar.indexCast c1_i32_236
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v499 : BitVec 32 := Scalar.addi v324 c1_i32_235
  let v501 : Index := Scalar.indexCast v499
  let c144_237 : Index := 144#32
  ![1, v501.toNat, 144]
def k0_off795 (v125 : BitVec 32) (v135 : BitVec 32) (k0_t21 : Fin (k0_t21_loop v125 v135).trips) : Fin 3 → Nat :=
  let c1_i32_244 : BitVec 32 := 1#32
  let v515 : Index := Scalar.indexCast c1_i32_244
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v516 : Index := Scalar.indexCast v324
  let c160_245 : Index := 160#32
  ![1, v516.toNat, 160]
def k0_off796 (v125 : BitVec 32) (v135 : BitVec 32) (k0_t21 : Fin (k0_t21_loop v125 v135).trips) (c1_i32_246 : BitVec 32) : Fin 3 → Nat :=
  let c1_i32_247 : BitVec 32 := 1#32
  let v519 : Index := Scalar.indexCast c1_i32_247
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v518 : BitVec 32 := Scalar.addi v324 c1_i32_246
  let v520 : Index := Scalar.indexCast v518
  let c160_248 : Index := 160#32
  ![1, v520.toNat, 160]
def k0_off797 (v125 : BitVec 32) (v135 : BitVec 32) (k0_t21 : Fin (k0_t21_loop v125 v135).trips) : Fin 3 → Nat :=
  let c1_i32_255 : BitVec 32 := 1#32
  let v534 : Index := Scalar.indexCast c1_i32_255
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v535 : Index := Scalar.indexCast v324
  let c176_256 : Index := 176#32
  ![1, v535.toNat, 176]
def k0_off798 (v125 : BitVec 32) (v135 : BitVec 32) (k0_t21 : Fin (k0_t21_loop v125 v135).trips) (c1_i32_257 : BitVec 32) : Fin 3 → Nat :=
  let c1_i32_258 : BitVec 32 := 1#32
  let v538 : Index := Scalar.indexCast c1_i32_258
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v537 : BitVec 32 := Scalar.addi v324 c1_i32_257
  let v539 : Index := Scalar.indexCast v537
  let c176_259 : Index := 176#32
  ![1, v539.toNat, 176]
def k0_off799 (v125 : BitVec 32) (v135 : BitVec 32) (k0_t21 : Fin (k0_t21_loop v125 v135).trips) : Fin 3 → Nat :=
  let c1_i32_266 : BitVec 32 := 1#32
  let v553 : Index := Scalar.indexCast c1_i32_266
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v554 : Index := Scalar.indexCast v324
  let c192_267 : Index := 192#32
  ![1, v554.toNat, 192]
def k0_off800 (v125 : BitVec 32) (v135 : BitVec 32) (k0_t21 : Fin (k0_t21_loop v125 v135).trips) (c1_i32_268 : BitVec 32) : Fin 3 → Nat :=
  let c1_i32_269 : BitVec 32 := 1#32
  let v557 : Index := Scalar.indexCast c1_i32_269
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v556 : BitVec 32 := Scalar.addi v324 c1_i32_268
  let v558 : Index := Scalar.indexCast v556
  let c192_270 : Index := 192#32
  ![1, v558.toNat, 192]
def k0_off801 (v125 : BitVec 32) (v135 : BitVec 32) (k0_t21 : Fin (k0_t21_loop v125 v135).trips) : Fin 3 → Nat :=
  let c1_i32_277 : BitVec 32 := 1#32
  let v572 : Index := Scalar.indexCast c1_i32_277
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v573 : Index := Scalar.indexCast v324
  let c208_278 : Index := 208#32
  ![1, v573.toNat, 208]
def k0_off802 (v125 : BitVec 32) (v135 : BitVec 32) (k0_t21 : Fin (k0_t21_loop v125 v135).trips) (c1_i32_279 : BitVec 32) : Fin 3 → Nat :=
  let c1_i32_280 : BitVec 32 := 1#32
  let v576 : Index := Scalar.indexCast c1_i32_280
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v575 : BitVec 32 := Scalar.addi v324 c1_i32_279
  let v577 : Index := Scalar.indexCast v575
  let c208_281 : Index := 208#32
  ![1, v577.toNat, 208]
def k0_off803 (v125 : BitVec 32) (v135 : BitVec 32) (k0_t21 : Fin (k0_t21_loop v125 v135).trips) : Fin 3 → Nat :=
  let c1_i32_288 : BitVec 32 := 1#32
  let v591 : Index := Scalar.indexCast c1_i32_288
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v592 : Index := Scalar.indexCast v324
  let c224_289 : Index := 224#32
  ![1, v592.toNat, 224]
def k0_off804 (v125 : BitVec 32) (v135 : BitVec 32) (k0_t21 : Fin (k0_t21_loop v125 v135).trips) (c1_i32_290 : BitVec 32) : Fin 3 → Nat :=
  let c1_i32_291 : BitVec 32 := 1#32
  let v595 : Index := Scalar.indexCast c1_i32_291
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v594 : BitVec 32 := Scalar.addi v324 c1_i32_290
  let v596 : Index := Scalar.indexCast v594
  let c224_292 : Index := 224#32
  ![1, v596.toNat, 224]
def k0_off805 (v125 : BitVec 32) (v135 : BitVec 32) (k0_t21 : Fin (k0_t21_loop v125 v135).trips) : Fin 3 → Nat :=
  let c1_i32_299 : BitVec 32 := 1#32
  let v610 : Index := Scalar.indexCast c1_i32_299
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v611 : Index := Scalar.indexCast v324
  let c240_300 : Index := 240#32
  ![1, v611.toNat, 240]
def k0_off806 (v125 : BitVec 32) (v135 : BitVec 32) (k0_t21 : Fin (k0_t21_loop v125 v135).trips) (c1_i32_301 : BitVec 32) : Fin 3 → Nat :=
  let c1_i32_302 : BitVec 32 := 1#32
  let v614 : Index := Scalar.indexCast c1_i32_302
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v613 : BitVec 32 := Scalar.addi v324 c1_i32_301
  let v615 : Index := Scalar.indexCast v613
  let c240_303 : Index := 240#32
  ![1, v615.toNat, 240]
def k0_off807 (v125 : BitVec 32) (v135 : BitVec 32) (k0_t21 : Fin (k0_t21_loop v125 v135).trips) : Fin 3 → Nat :=
  let c1_i32_310 : BitVec 32 := 1#32
  let v629 : Index := Scalar.indexCast c1_i32_310
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v630 : Index := Scalar.indexCast v324
  let c256_311 : Index := 256#32
  ![1, v630.toNat, 256]
def k0_off808 (v125 : BitVec 32) (v135 : BitVec 32) (k0_t21 : Fin (k0_t21_loop v125 v135).trips) (c1_i32_312 : BitVec 32) : Fin 3 → Nat :=
  let c1_i32_313 : BitVec 32 := 1#32
  let v633 : Index := Scalar.indexCast c1_i32_313
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v632 : BitVec 32 := Scalar.addi v324 c1_i32_312
  let v634 : Index := Scalar.indexCast v632
  let c256_314 : Index := 256#32
  ![1, v634.toNat, 256]
def k0_off809 (v125 : BitVec 32) (v135 : BitVec 32) (k0_t21 : Fin (k0_t21_loop v125 v135).trips) : Fin 3 → Nat :=
  let c1_i32_321 : BitVec 32 := 1#32
  let v648 : Index := Scalar.indexCast c1_i32_321
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v649 : Index := Scalar.indexCast v324
  let c272_322 : Index := 272#32
  ![1, v649.toNat, 272]
def k0_off810 (v125 : BitVec 32) (v135 : BitVec 32) (k0_t21 : Fin (k0_t21_loop v125 v135).trips) (c1_i32_323 : BitVec 32) : Fin 3 → Nat :=
  let c1_i32_324 : BitVec 32 := 1#32
  let v652 : Index := Scalar.indexCast c1_i32_324
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v651 : BitVec 32 := Scalar.addi v324 c1_i32_323
  let v653 : Index := Scalar.indexCast v651
  let c272_325 : Index := 272#32
  ![1, v653.toNat, 272]
def k0_off811 (v125 : BitVec 32) (v135 : BitVec 32) (k0_t21 : Fin (k0_t21_loop v125 v135).trips) : Fin 3 → Nat :=
  let c1_i32_332 : BitVec 32 := 1#32
  let v667 : Index := Scalar.indexCast c1_i32_332
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v668 : Index := Scalar.indexCast v324
  let c288_333 : Index := 288#32
  ![1, v668.toNat, 288]
def k0_off812 (v125 : BitVec 32) (v135 : BitVec 32) (k0_t21 : Fin (k0_t21_loop v125 v135).trips) (c1_i32_334 : BitVec 32) : Fin 3 → Nat :=
  let c1_i32_335 : BitVec 32 := 1#32
  let v671 : Index := Scalar.indexCast c1_i32_335
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v670 : BitVec 32 := Scalar.addi v324 c1_i32_334
  let v672 : Index := Scalar.indexCast v670
  let c288_336 : Index := 288#32
  ![1, v672.toNat, 288]
def k0_off813 (v125 : BitVec 32) (v135 : BitVec 32) (k0_t21 : Fin (k0_t21_loop v125 v135).trips) : Fin 3 → Nat :=
  let c1_i32_343 : BitVec 32 := 1#32
  let v686 : Index := Scalar.indexCast c1_i32_343
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v687 : Index := Scalar.indexCast v324
  let c304_344 : Index := 304#32
  ![1, v687.toNat, 304]
def k0_off814 (v125 : BitVec 32) (v135 : BitVec 32) (k0_t21 : Fin (k0_t21_loop v125 v135).trips) (c1_i32_345 : BitVec 32) : Fin 3 → Nat :=
  let c1_i32_346 : BitVec 32 := 1#32
  let v690 : Index := Scalar.indexCast c1_i32_346
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v689 : BitVec 32 := Scalar.addi v324 c1_i32_345
  let v691 : Index := Scalar.indexCast v689
  let c304_347 : Index := 304#32
  ![1, v691.toNat, 304]
def k0_off815 (v125 : BitVec 32) (v135 : BitVec 32) (k0_t21 : Fin (k0_t21_loop v125 v135).trips) : Fin 3 → Nat :=
  let c1_i32_354 : BitVec 32 := 1#32
  let v705 : Index := Scalar.indexCast c1_i32_354
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v706 : Index := Scalar.indexCast v324
  let c320_355 : Index := 320#32
  ![1, v706.toNat, 320]
def k0_off816 (v125 : BitVec 32) (v135 : BitVec 32) (k0_t21 : Fin (k0_t21_loop v125 v135).trips) (c1_i32_356 : BitVec 32) : Fin 3 → Nat :=
  let c1_i32_357 : BitVec 32 := 1#32
  let v709 : Index := Scalar.indexCast c1_i32_357
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v708 : BitVec 32 := Scalar.addi v324 c1_i32_356
  let v710 : Index := Scalar.indexCast v708
  let c320_358 : Index := 320#32
  ![1, v710.toNat, 320]
def k0_off817 (v125 : BitVec 32) (v135 : BitVec 32) (k0_t21 : Fin (k0_t21_loop v125 v135).trips) : Fin 3 → Nat :=
  let c1_i32_365 : BitVec 32 := 1#32
  let v724 : Index := Scalar.indexCast c1_i32_365
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v725 : Index := Scalar.indexCast v324
  let c336_366 : Index := 336#32
  ![1, v725.toNat, 336]
def k0_off818 (v125 : BitVec 32) (v135 : BitVec 32) (k0_t21 : Fin (k0_t21_loop v125 v135).trips) (c1_i32_367 : BitVec 32) : Fin 3 → Nat :=
  let c1_i32_368 : BitVec 32 := 1#32
  let v728 : Index := Scalar.indexCast c1_i32_368
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v727 : BitVec 32 := Scalar.addi v324 c1_i32_367
  let v729 : Index := Scalar.indexCast v727
  let c336_369 : Index := 336#32
  ![1, v729.toNat, 336]
def k0_off819 (v125 : BitVec 32) (v135 : BitVec 32) (k0_t21 : Fin (k0_t21_loop v125 v135).trips) : Fin 3 → Nat :=
  let c1_i32_376 : BitVec 32 := 1#32
  let v743 : Index := Scalar.indexCast c1_i32_376
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v744 : Index := Scalar.indexCast v324
  let c352_377 : Index := 352#32
  ![1, v744.toNat, 352]
def k0_off820 (v125 : BitVec 32) (v135 : BitVec 32) (k0_t21 : Fin (k0_t21_loop v125 v135).trips) (c1_i32_378 : BitVec 32) : Fin 3 → Nat :=
  let c1_i32_379 : BitVec 32 := 1#32
  let v747 : Index := Scalar.indexCast c1_i32_379
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v746 : BitVec 32 := Scalar.addi v324 c1_i32_378
  let v748 : Index := Scalar.indexCast v746
  let c352_380 : Index := 352#32
  ![1, v748.toNat, 352]
def k0_off821 (v125 : BitVec 32) (v135 : BitVec 32) (k0_t21 : Fin (k0_t21_loop v125 v135).trips) : Fin 3 → Nat :=
  let c1_i32_387 : BitVec 32 := 1#32
  let v762 : Index := Scalar.indexCast c1_i32_387
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v763 : Index := Scalar.indexCast v324
  let c368_388 : Index := 368#32
  ![1, v763.toNat, 368]
def k0_off822 (v125 : BitVec 32) (v135 : BitVec 32) (k0_t21 : Fin (k0_t21_loop v125 v135).trips) (c1_i32_389 : BitVec 32) : Fin 3 → Nat :=
  let c1_i32_390 : BitVec 32 := 1#32
  let v766 : Index := Scalar.indexCast c1_i32_390
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v765 : BitVec 32 := Scalar.addi v324 c1_i32_389
  let v767 : Index := Scalar.indexCast v765
  let c368_391 : Index := 368#32
  ![1, v767.toNat, 368]
def k0_off823 (v125 : BitVec 32) (v135 : BitVec 32) (k0_t21 : Fin (k0_t21_loop v125 v135).trips) : Fin 3 → Nat :=
  let c1_i32_398 : BitVec 32 := 1#32
  let v781 : Index := Scalar.indexCast c1_i32_398
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v782 : Index := Scalar.indexCast v324
  let c384_399 : Index := 384#32
  ![1, v782.toNat, 384]
def k0_off824 (v125 : BitVec 32) (v135 : BitVec 32) (k0_t21 : Fin (k0_t21_loop v125 v135).trips) (c1_i32_400 : BitVec 32) : Fin 3 → Nat :=
  let c1_i32_401 : BitVec 32 := 1#32
  let v785 : Index := Scalar.indexCast c1_i32_401
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v784 : BitVec 32 := Scalar.addi v324 c1_i32_400
  let v786 : Index := Scalar.indexCast v784
  let c384_402 : Index := 384#32
  ![1, v786.toNat, 384]
def k0_off825 (v125 : BitVec 32) (v135 : BitVec 32) (k0_t21 : Fin (k0_t21_loop v125 v135).trips) : Fin 3 → Nat :=
  let c1_i32_409 : BitVec 32 := 1#32
  let v800 : Index := Scalar.indexCast c1_i32_409
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v801 : Index := Scalar.indexCast v324
  let c400_410 : Index := 400#32
  ![1, v801.toNat, 400]
def k0_off826 (v125 : BitVec 32) (v135 : BitVec 32) (k0_t21 : Fin (k0_t21_loop v125 v135).trips) (c1_i32_411 : BitVec 32) : Fin 3 → Nat :=
  let c1_i32_412 : BitVec 32 := 1#32
  let v804 : Index := Scalar.indexCast c1_i32_412
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v803 : BitVec 32 := Scalar.addi v324 c1_i32_411
  let v805 : Index := Scalar.indexCast v803
  let c400_413 : Index := 400#32
  ![1, v805.toNat, 400]
def k0_off827 (v125 : BitVec 32) (v135 : BitVec 32) (k0_t21 : Fin (k0_t21_loop v125 v135).trips) : Fin 3 → Nat :=
  let c1_i32_420 : BitVec 32 := 1#32
  let v819 : Index := Scalar.indexCast c1_i32_420
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v820 : Index := Scalar.indexCast v324
  let c416_421 : Index := 416#32
  ![1, v820.toNat, 416]
def k0_off828 (v125 : BitVec 32) (v135 : BitVec 32) (k0_t21 : Fin (k0_t21_loop v125 v135).trips) (c1_i32_422 : BitVec 32) : Fin 3 → Nat :=
  let c1_i32_423 : BitVec 32 := 1#32
  let v823 : Index := Scalar.indexCast c1_i32_423
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v822 : BitVec 32 := Scalar.addi v324 c1_i32_422
  let v824 : Index := Scalar.indexCast v822
  let c416_424 : Index := 416#32
  ![1, v824.toNat, 416]
def k0_off829 (v125 : BitVec 32) (v135 : BitVec 32) (k0_t21 : Fin (k0_t21_loop v125 v135).trips) : Fin 3 → Nat :=
  let c1_i32_431 : BitVec 32 := 1#32
  let v838 : Index := Scalar.indexCast c1_i32_431
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v839 : Index := Scalar.indexCast v324
  let c432_432 : Index := 432#32
  ![1, v839.toNat, 432]
def k0_off830 (v125 : BitVec 32) (v135 : BitVec 32) (k0_t21 : Fin (k0_t21_loop v125 v135).trips) (c1_i32_433 : BitVec 32) : Fin 3 → Nat :=
  let c1_i32_434 : BitVec 32 := 1#32
  let v842 : Index := Scalar.indexCast c1_i32_434
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v841 : BitVec 32 := Scalar.addi v324 c1_i32_433
  let v843 : Index := Scalar.indexCast v841
  let c432_435 : Index := 432#32
  ![1, v843.toNat, 432]
def k0_off831 (v125 : BitVec 32) (v135 : BitVec 32) (k0_t21 : Fin (k0_t21_loop v125 v135).trips) : Fin 3 → Nat :=
  let c1_i32_442 : BitVec 32 := 1#32
  let v857 : Index := Scalar.indexCast c1_i32_442
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v858 : Index := Scalar.indexCast v324
  let c448_443 : Index := 448#32
  ![1, v858.toNat, 448]
def k0_off832 (v125 : BitVec 32) (v135 : BitVec 32) (k0_t21 : Fin (k0_t21_loop v125 v135).trips) (c1_i32_444 : BitVec 32) : Fin 3 → Nat :=
  let c1_i32_445 : BitVec 32 := 1#32
  let v861 : Index := Scalar.indexCast c1_i32_445
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v860 : BitVec 32 := Scalar.addi v324 c1_i32_444
  let v862 : Index := Scalar.indexCast v860
  let c448_446 : Index := 448#32
  ![1, v862.toNat, 448]
def k0_off833 (v125 : BitVec 32) (v135 : BitVec 32) (k0_t21 : Fin (k0_t21_loop v125 v135).trips) : Fin 3 → Nat :=
  let c1_i32_453 : BitVec 32 := 1#32
  let v876 : Index := Scalar.indexCast c1_i32_453
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v877 : Index := Scalar.indexCast v324
  let c464_454 : Index := 464#32
  ![1, v877.toNat, 464]
def k0_off834 (v125 : BitVec 32) (v135 : BitVec 32) (k0_t21 : Fin (k0_t21_loop v125 v135).trips) (c1_i32_455 : BitVec 32) : Fin 3 → Nat :=
  let c1_i32_456 : BitVec 32 := 1#32
  let v880 : Index := Scalar.indexCast c1_i32_456
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v879 : BitVec 32 := Scalar.addi v324 c1_i32_455
  let v881 : Index := Scalar.indexCast v879
  let c464_457 : Index := 464#32
  ![1, v881.toNat, 464]
def k0_off835 (v125 : BitVec 32) (v135 : BitVec 32) (k0_t21 : Fin (k0_t21_loop v125 v135).trips) : Fin 3 → Nat :=
  let c1_i32_464 : BitVec 32 := 1#32
  let v895 : Index := Scalar.indexCast c1_i32_464
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v896 : Index := Scalar.indexCast v324
  let c480_465 : Index := 480#32
  ![1, v896.toNat, 480]
def k0_off836 (v125 : BitVec 32) (v135 : BitVec 32) (k0_t21 : Fin (k0_t21_loop v125 v135).trips) (c1_i32_466 : BitVec 32) : Fin 3 → Nat :=
  let c1_i32_467 : BitVec 32 := 1#32
  let v899 : Index := Scalar.indexCast c1_i32_467
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v898 : BitVec 32 := Scalar.addi v324 c1_i32_466
  let v900 : Index := Scalar.indexCast v898
  let c480_468 : Index := 480#32
  ![1, v900.toNat, 480]
def k0_off837 (v125 : BitVec 32) (v135 : BitVec 32) (k0_t21 : Fin (k0_t21_loop v125 v135).trips) : Fin 3 → Nat :=
  let c1_i32_475 : BitVec 32 := 1#32
  let v914 : Index := Scalar.indexCast c1_i32_475
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v915 : Index := Scalar.indexCast v324
  let c496_476 : Index := 496#32
  ![1, v915.toNat, 496]
def k0_off838 (v125 : BitVec 32) (v135 : BitVec 32) (k0_t21 : Fin (k0_t21_loop v125 v135).trips) (c1_i32_477 : BitVec 32) : Fin 3 → Nat :=
  let c1_i32_478 : BitVec 32 := 1#32
  let v918 : Index := Scalar.indexCast c1_i32_478
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c0_i32_94 : BitVec 32 := 0#32
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let v147 : BitVec 32 := Scalar.subi v146 c0_i32_94
  let c1_i32_95 : BitVec 32 := 1#32
  let v149 : BitVec 32 := Scalar.divsi v147 c1_i32_95
  let v150 : BitVec 32 := Scalar.muli v149 c1_i32_95
  let v151 : BitVec 32 := Scalar.addi c0_i32_94 v150
  let c1_i32_97 : BitVec 32 := 1#32
  let arg14 : BitVec 32 := Scf.iv v151 c1_i32_97 k0_t21
  let c4_i32_134 : BitVec 32 := 4#32
  let v323 : BitVec 32 := Scalar.muli arg14 c4_i32_134
  let v324 : BitVec 32 := Scalar.addi v138 v323
  let v917 : BitVec 32 := Scalar.addi v324 c1_i32_477
  let v919 : Index := Scalar.indexCast v917
  let c496_479 : Index := 496#32
  ![1, v919.toNat, 496]
@[reducible] def k0_t22_loop (v125 : BitVec 32) (v135 : BitVec 32) : Scf.Loop 32 :=
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_99 : BitVec 32 := 1#32
  ⟨v155, v160, c1_i32_99⟩
def k0_off839 (v125 : BitVec 32) (v135 : BitVec 32) (k0_t22 : Fin (k0_t22_loop v125 v135).trips) : Fin 3 → Nat :=
  let c1_i32_134 : BitVec 32 := 1#32
  let v323 : Index := Scalar.indexCast c1_i32_134
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v324 : Index := Scalar.indexCast arg14
  let c0_135 : Index := 0#32
  ![1, v324.toNat, 0]
def k0_off840 (v125 : BitVec 32) (v135 : BitVec 32) (k0_t22 : Fin (k0_t22_loop v125 v135).trips) : Fin 3 → Nat :=
  let c1_i32_136 : BitVec 32 := 1#32
  let v327 : Index := Scalar.indexCast c1_i32_136
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v328 : Index := Scalar.indexCast arg14
  let c16_137 : Index := 16#32
  ![1, v328.toNat, 16]
def k0_off841 (v125 : BitVec 32) (v135 : BitVec 32) (k0_t22 : Fin (k0_t22_loop v125 v135).trips) : Fin 3 → Nat :=
  let c1_i32_138 : BitVec 32 := 1#32
  let v331 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v332 : Index := Scalar.indexCast arg14
  let c32_139 : Index := 32#32
  ![1, v332.toNat, 32]
def k0_off842 (v125 : BitVec 32) (v135 : BitVec 32) (k0_t22 : Fin (k0_t22_loop v125 v135).trips) : Fin 3 → Nat :=
  let c1_i32_140 : BitVec 32 := 1#32
  let v335 : Index := Scalar.indexCast c1_i32_140
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v336 : Index := Scalar.indexCast arg14
  let c48_141 : Index := 48#32
  ![1, v336.toNat, 48]
def k0_off843 (v125 : BitVec 32) (v135 : BitVec 32) (k0_t22 : Fin (k0_t22_loop v125 v135).trips) : Fin 3 → Nat :=
  let c1_i32_142 : BitVec 32 := 1#32
  let v339 : Index := Scalar.indexCast c1_i32_142
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v340 : Index := Scalar.indexCast arg14
  let c64_143 : Index := 64#32
  ![1, v340.toNat, 64]
def k0_off844 (v125 : BitVec 32) (v135 : BitVec 32) (k0_t22 : Fin (k0_t22_loop v125 v135).trips) : Fin 3 → Nat :=
  let c1_i32_144 : BitVec 32 := 1#32
  let v343 : Index := Scalar.indexCast c1_i32_144
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v344 : Index := Scalar.indexCast arg14
  let c80_145 : Index := 80#32
  ![1, v344.toNat, 80]
def k0_off845 (v125 : BitVec 32) (v135 : BitVec 32) (k0_t22 : Fin (k0_t22_loop v125 v135).trips) : Fin 3 → Nat :=
  let c1_i32_146 : BitVec 32 := 1#32
  let v347 : Index := Scalar.indexCast c1_i32_146
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v348 : Index := Scalar.indexCast arg14
  let c96_147 : Index := 96#32
  ![1, v348.toNat, 96]
def k0_off846 (v125 : BitVec 32) (v135 : BitVec 32) (k0_t22 : Fin (k0_t22_loop v125 v135).trips) : Fin 3 → Nat :=
  let c1_i32_148 : BitVec 32 := 1#32
  let v351 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v352 : Index := Scalar.indexCast arg14
  let c112_149 : Index := 112#32
  ![1, v352.toNat, 112]
def k0_off847 (v125 : BitVec 32) (v135 : BitVec 32) (k0_t22 : Fin (k0_t22_loop v125 v135).trips) : Fin 3 → Nat :=
  let c1_i32_150 : BitVec 32 := 1#32
  let v355 : Index := Scalar.indexCast c1_i32_150
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v356 : Index := Scalar.indexCast arg14
  let c128_151 : Index := 128#32
  ![1, v356.toNat, 128]
def k0_off848 (v125 : BitVec 32) (v135 : BitVec 32) (k0_t22 : Fin (k0_t22_loop v125 v135).trips) : Fin 3 → Nat :=
  let c1_i32_152 : BitVec 32 := 1#32
  let v359 : Index := Scalar.indexCast c1_i32_152
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v360 : Index := Scalar.indexCast arg14
  let c144_153 : Index := 144#32
  ![1, v360.toNat, 144]
def k0_off849 (v125 : BitVec 32) (v135 : BitVec 32) (k0_t22 : Fin (k0_t22_loop v125 v135).trips) : Fin 3 → Nat :=
  let c1_i32_154 : BitVec 32 := 1#32
  let v363 : Index := Scalar.indexCast c1_i32_154
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v364 : Index := Scalar.indexCast arg14
  let c160_155 : Index := 160#32
  ![1, v364.toNat, 160]
def k0_off850 (v125 : BitVec 32) (v135 : BitVec 32) (k0_t22 : Fin (k0_t22_loop v125 v135).trips) : Fin 3 → Nat :=
  let c1_i32_156 : BitVec 32 := 1#32
  let v367 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v368 : Index := Scalar.indexCast arg14
  let c176_157 : Index := 176#32
  ![1, v368.toNat, 176]
def k0_off851 (v125 : BitVec 32) (v135 : BitVec 32) (k0_t22 : Fin (k0_t22_loop v125 v135).trips) : Fin 3 → Nat :=
  let c1_i32_158 : BitVec 32 := 1#32
  let v371 : Index := Scalar.indexCast c1_i32_158
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v372 : Index := Scalar.indexCast arg14
  let c192_159 : Index := 192#32
  ![1, v372.toNat, 192]
def k0_off852 (v125 : BitVec 32) (v135 : BitVec 32) (k0_t22 : Fin (k0_t22_loop v125 v135).trips) : Fin 3 → Nat :=
  let c1_i32_160 : BitVec 32 := 1#32
  let v375 : Index := Scalar.indexCast c1_i32_160
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v376 : Index := Scalar.indexCast arg14
  let c208_161 : Index := 208#32
  ![1, v376.toNat, 208]
def k0_off853 (v125 : BitVec 32) (v135 : BitVec 32) (k0_t22 : Fin (k0_t22_loop v125 v135).trips) : Fin 3 → Nat :=
  let c1_i32_162 : BitVec 32 := 1#32
  let v379 : Index := Scalar.indexCast c1_i32_162
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v380 : Index := Scalar.indexCast arg14
  let c224_163 : Index := 224#32
  ![1, v380.toNat, 224]
def k0_off854 (v125 : BitVec 32) (v135 : BitVec 32) (k0_t22 : Fin (k0_t22_loop v125 v135).trips) : Fin 3 → Nat :=
  let c1_i32_164 : BitVec 32 := 1#32
  let v383 : Index := Scalar.indexCast c1_i32_164
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v384 : Index := Scalar.indexCast arg14
  let c240_165 : Index := 240#32
  ![1, v384.toNat, 240]
def k0_off855 (v125 : BitVec 32) (v135 : BitVec 32) (k0_t22 : Fin (k0_t22_loop v125 v135).trips) : Fin 3 → Nat :=
  let c1_i32_166 : BitVec 32 := 1#32
  let v387 : Index := Scalar.indexCast c1_i32_166
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v388 : Index := Scalar.indexCast arg14
  let c256_167 : Index := 256#32
  ![1, v388.toNat, 256]
def k0_off856 (v125 : BitVec 32) (v135 : BitVec 32) (k0_t22 : Fin (k0_t22_loop v125 v135).trips) : Fin 3 → Nat :=
  let c1_i32_168 : BitVec 32 := 1#32
  let v391 : Index := Scalar.indexCast c1_i32_168
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v392 : Index := Scalar.indexCast arg14
  let c272_169 : Index := 272#32
  ![1, v392.toNat, 272]
def k0_off857 (v125 : BitVec 32) (v135 : BitVec 32) (k0_t22 : Fin (k0_t22_loop v125 v135).trips) : Fin 3 → Nat :=
  let c1_i32_170 : BitVec 32 := 1#32
  let v395 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v396 : Index := Scalar.indexCast arg14
  let c288_171 : Index := 288#32
  ![1, v396.toNat, 288]
def k0_off858 (v125 : BitVec 32) (v135 : BitVec 32) (k0_t22 : Fin (k0_t22_loop v125 v135).trips) : Fin 3 → Nat :=
  let c1_i32_172 : BitVec 32 := 1#32
  let v399 : Index := Scalar.indexCast c1_i32_172
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v400 : Index := Scalar.indexCast arg14
  let c304_173 : Index := 304#32
  ![1, v400.toNat, 304]
def k0_off859 (v125 : BitVec 32) (v135 : BitVec 32) (k0_t22 : Fin (k0_t22_loop v125 v135).trips) : Fin 3 → Nat :=
  let c1_i32_174 : BitVec 32 := 1#32
  let v403 : Index := Scalar.indexCast c1_i32_174
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v404 : Index := Scalar.indexCast arg14
  let c320_175 : Index := 320#32
  ![1, v404.toNat, 320]
def k0_off860 (v125 : BitVec 32) (v135 : BitVec 32) (k0_t22 : Fin (k0_t22_loop v125 v135).trips) : Fin 3 → Nat :=
  let c1_i32_176 : BitVec 32 := 1#32
  let v407 : Index := Scalar.indexCast c1_i32_176
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v408 : Index := Scalar.indexCast arg14
  let c336_177 : Index := 336#32
  ![1, v408.toNat, 336]
def k0_off861 (v125 : BitVec 32) (v135 : BitVec 32) (k0_t22 : Fin (k0_t22_loop v125 v135).trips) : Fin 3 → Nat :=
  let c1_i32_178 : BitVec 32 := 1#32
  let v411 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v412 : Index := Scalar.indexCast arg14
  let c352_179 : Index := 352#32
  ![1, v412.toNat, 352]
def k0_off862 (v125 : BitVec 32) (v135 : BitVec 32) (k0_t22 : Fin (k0_t22_loop v125 v135).trips) : Fin 3 → Nat :=
  let c1_i32_180 : BitVec 32 := 1#32
  let v415 : Index := Scalar.indexCast c1_i32_180
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v416 : Index := Scalar.indexCast arg14
  let c368_181 : Index := 368#32
  ![1, v416.toNat, 368]
def k0_off863 (v125 : BitVec 32) (v135 : BitVec 32) (k0_t22 : Fin (k0_t22_loop v125 v135).trips) : Fin 3 → Nat :=
  let c1_i32_182 : BitVec 32 := 1#32
  let v419 : Index := Scalar.indexCast c1_i32_182
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v420 : Index := Scalar.indexCast arg14
  let c384_183 : Index := 384#32
  ![1, v420.toNat, 384]
def k0_off864 (v125 : BitVec 32) (v135 : BitVec 32) (k0_t22 : Fin (k0_t22_loop v125 v135).trips) : Fin 3 → Nat :=
  let c1_i32_184 : BitVec 32 := 1#32
  let v423 : Index := Scalar.indexCast c1_i32_184
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v424 : Index := Scalar.indexCast arg14
  let c400_185 : Index := 400#32
  ![1, v424.toNat, 400]
def k0_off865 (v125 : BitVec 32) (v135 : BitVec 32) (k0_t22 : Fin (k0_t22_loop v125 v135).trips) : Fin 3 → Nat :=
  let c1_i32_186 : BitVec 32 := 1#32
  let v427 : Index := Scalar.indexCast c1_i32_186
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v428 : Index := Scalar.indexCast arg14
  let c416_187 : Index := 416#32
  ![1, v428.toNat, 416]
def k0_off866 (v125 : BitVec 32) (v135 : BitVec 32) (k0_t22 : Fin (k0_t22_loop v125 v135).trips) : Fin 3 → Nat :=
  let c1_i32_188 : BitVec 32 := 1#32
  let v431 : Index := Scalar.indexCast c1_i32_188
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v432 : Index := Scalar.indexCast arg14
  let c432_189 : Index := 432#32
  ![1, v432.toNat, 432]
def k0_off867 (v125 : BitVec 32) (v135 : BitVec 32) (k0_t22 : Fin (k0_t22_loop v125 v135).trips) : Fin 3 → Nat :=
  let c1_i32_190 : BitVec 32 := 1#32
  let v435 : Index := Scalar.indexCast c1_i32_190
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v436 : Index := Scalar.indexCast arg14
  let c448_191 : Index := 448#32
  ![1, v436.toNat, 448]
def k0_off868 (v125 : BitVec 32) (v135 : BitVec 32) (k0_t22 : Fin (k0_t22_loop v125 v135).trips) : Fin 3 → Nat :=
  let c1_i32_192 : BitVec 32 := 1#32
  let v439 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v440 : Index := Scalar.indexCast arg14
  let c464_193 : Index := 464#32
  ![1, v440.toNat, 464]
def k0_off869 (v125 : BitVec 32) (v135 : BitVec 32) (k0_t22 : Fin (k0_t22_loop v125 v135).trips) : Fin 3 → Nat :=
  let c1_i32_194 : BitVec 32 := 1#32
  let v443 : Index := Scalar.indexCast c1_i32_194
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v444 : Index := Scalar.indexCast arg14
  let c480_195 : Index := 480#32
  ![1, v444.toNat, 480]
def k0_off870 (v125 : BitVec 32) (v135 : BitVec 32) (k0_t22 : Fin (k0_t22_loop v125 v135).trips) : Fin 3 → Nat :=
  let c1_i32_196 : BitVec 32 := 1#32
  let v447 : Index := Scalar.indexCast c1_i32_196
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let c1_i32_99 : BitVec 32 := 1#32
  let arg14 : BitVec 32 := Scf.iv v155 c1_i32_99 k0_t22
  let v448 : Index := Scalar.indexCast arg14
  let c496_197 : Index := 496#32
  ![1, v448.toNat, 496]
@[reducible] def k0_t23_loop (v125 : BitVec 32) (v135 : BitVec 32) : Scf.Loop 32 :=
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let v157 : BitVec 32 := Scalar.addi v155 v156
  let c1_i32_100 : BitVec 32 := 1#32
  ⟨v160, v157, c1_i32_100⟩
def k0_off871 (v125 : BitVec 32) (v135 : BitVec 32) (k0_t23 : Fin (k0_t23_loop v125 v135).trips) : Fin 3 → Nat :=
  let c1_i32_134 : BitVec 32 := 1#32
  let v323 : Index := Scalar.indexCast c1_i32_134
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v324 : Index := Scalar.indexCast arg14
  let c0_135 : Index := 0#32
  ![1, v324.toNat, 0]
def k0_off872 (v125 : BitVec 32) (v135 : BitVec 32) (k0_t23 : Fin (k0_t23_loop v125 v135).trips) : Fin 3 → Nat :=
  let c1_i32_136 : BitVec 32 := 1#32
  let v327 : Index := Scalar.indexCast c1_i32_136
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v328 : Index := Scalar.indexCast arg14
  let c16_137 : Index := 16#32
  ![1, v328.toNat, 16]
def k0_off873 (v125 : BitVec 32) (v135 : BitVec 32) (k0_t23 : Fin (k0_t23_loop v125 v135).trips) : Fin 3 → Nat :=
  let c1_i32_138 : BitVec 32 := 1#32
  let v331 : Index := Scalar.indexCast c1_i32_138
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v332 : Index := Scalar.indexCast arg14
  let c32_139 : Index := 32#32
  ![1, v332.toNat, 32]
def k0_off874 (v125 : BitVec 32) (v135 : BitVec 32) (k0_t23 : Fin (k0_t23_loop v125 v135).trips) : Fin 3 → Nat :=
  let c1_i32_140 : BitVec 32 := 1#32
  let v335 : Index := Scalar.indexCast c1_i32_140
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v336 : Index := Scalar.indexCast arg14
  let c48_141 : Index := 48#32
  ![1, v336.toNat, 48]
def k0_off875 (v125 : BitVec 32) (v135 : BitVec 32) (k0_t23 : Fin (k0_t23_loop v125 v135).trips) : Fin 3 → Nat :=
  let c1_i32_142 : BitVec 32 := 1#32
  let v339 : Index := Scalar.indexCast c1_i32_142
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v340 : Index := Scalar.indexCast arg14
  let c64_143 : Index := 64#32
  ![1, v340.toNat, 64]
def k0_off876 (v125 : BitVec 32) (v135 : BitVec 32) (k0_t23 : Fin (k0_t23_loop v125 v135).trips) : Fin 3 → Nat :=
  let c1_i32_144 : BitVec 32 := 1#32
  let v343 : Index := Scalar.indexCast c1_i32_144
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v344 : Index := Scalar.indexCast arg14
  let c80_145 : Index := 80#32
  ![1, v344.toNat, 80]
def k0_off877 (v125 : BitVec 32) (v135 : BitVec 32) (k0_t23 : Fin (k0_t23_loop v125 v135).trips) : Fin 3 → Nat :=
  let c1_i32_146 : BitVec 32 := 1#32
  let v347 : Index := Scalar.indexCast c1_i32_146
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v348 : Index := Scalar.indexCast arg14
  let c96_147 : Index := 96#32
  ![1, v348.toNat, 96]
def k0_off878 (v125 : BitVec 32) (v135 : BitVec 32) (k0_t23 : Fin (k0_t23_loop v125 v135).trips) : Fin 3 → Nat :=
  let c1_i32_148 : BitVec 32 := 1#32
  let v351 : Index := Scalar.indexCast c1_i32_148
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v352 : Index := Scalar.indexCast arg14
  let c112_149 : Index := 112#32
  ![1, v352.toNat, 112]
def k0_off879 (v125 : BitVec 32) (v135 : BitVec 32) (k0_t23 : Fin (k0_t23_loop v125 v135).trips) : Fin 3 → Nat :=
  let c1_i32_150 : BitVec 32 := 1#32
  let v355 : Index := Scalar.indexCast c1_i32_150
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v356 : Index := Scalar.indexCast arg14
  let c128_151 : Index := 128#32
  ![1, v356.toNat, 128]
def k0_off880 (v125 : BitVec 32) (v135 : BitVec 32) (k0_t23 : Fin (k0_t23_loop v125 v135).trips) : Fin 3 → Nat :=
  let c1_i32_152 : BitVec 32 := 1#32
  let v359 : Index := Scalar.indexCast c1_i32_152
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v360 : Index := Scalar.indexCast arg14
  let c144_153 : Index := 144#32
  ![1, v360.toNat, 144]
def k0_off881 (v125 : BitVec 32) (v135 : BitVec 32) (k0_t23 : Fin (k0_t23_loop v125 v135).trips) : Fin 3 → Nat :=
  let c1_i32_154 : BitVec 32 := 1#32
  let v363 : Index := Scalar.indexCast c1_i32_154
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v364 : Index := Scalar.indexCast arg14
  let c160_155 : Index := 160#32
  ![1, v364.toNat, 160]
def k0_off882 (v125 : BitVec 32) (v135 : BitVec 32) (k0_t23 : Fin (k0_t23_loop v125 v135).trips) : Fin 3 → Nat :=
  let c1_i32_156 : BitVec 32 := 1#32
  let v367 : Index := Scalar.indexCast c1_i32_156
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v368 : Index := Scalar.indexCast arg14
  let c176_157 : Index := 176#32
  ![1, v368.toNat, 176]
def k0_off883 (v125 : BitVec 32) (v135 : BitVec 32) (k0_t23 : Fin (k0_t23_loop v125 v135).trips) : Fin 3 → Nat :=
  let c1_i32_158 : BitVec 32 := 1#32
  let v371 : Index := Scalar.indexCast c1_i32_158
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v372 : Index := Scalar.indexCast arg14
  let c192_159 : Index := 192#32
  ![1, v372.toNat, 192]
def k0_off884 (v125 : BitVec 32) (v135 : BitVec 32) (k0_t23 : Fin (k0_t23_loop v125 v135).trips) : Fin 3 → Nat :=
  let c1_i32_160 : BitVec 32 := 1#32
  let v375 : Index := Scalar.indexCast c1_i32_160
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v376 : Index := Scalar.indexCast arg14
  let c208_161 : Index := 208#32
  ![1, v376.toNat, 208]
def k0_off885 (v125 : BitVec 32) (v135 : BitVec 32) (k0_t23 : Fin (k0_t23_loop v125 v135).trips) : Fin 3 → Nat :=
  let c1_i32_162 : BitVec 32 := 1#32
  let v379 : Index := Scalar.indexCast c1_i32_162
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v380 : Index := Scalar.indexCast arg14
  let c224_163 : Index := 224#32
  ![1, v380.toNat, 224]
def k0_off886 (v125 : BitVec 32) (v135 : BitVec 32) (k0_t23 : Fin (k0_t23_loop v125 v135).trips) : Fin 3 → Nat :=
  let c1_i32_164 : BitVec 32 := 1#32
  let v383 : Index := Scalar.indexCast c1_i32_164
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v384 : Index := Scalar.indexCast arg14
  let c240_165 : Index := 240#32
  ![1, v384.toNat, 240]
def k0_off887 (v125 : BitVec 32) (v135 : BitVec 32) (k0_t23 : Fin (k0_t23_loop v125 v135).trips) : Fin 3 → Nat :=
  let c1_i32_166 : BitVec 32 := 1#32
  let v387 : Index := Scalar.indexCast c1_i32_166
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v388 : Index := Scalar.indexCast arg14
  let c256_167 : Index := 256#32
  ![1, v388.toNat, 256]
def k0_off888 (v125 : BitVec 32) (v135 : BitVec 32) (k0_t23 : Fin (k0_t23_loop v125 v135).trips) : Fin 3 → Nat :=
  let c1_i32_168 : BitVec 32 := 1#32
  let v391 : Index := Scalar.indexCast c1_i32_168
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v392 : Index := Scalar.indexCast arg14
  let c272_169 : Index := 272#32
  ![1, v392.toNat, 272]
def k0_off889 (v125 : BitVec 32) (v135 : BitVec 32) (k0_t23 : Fin (k0_t23_loop v125 v135).trips) : Fin 3 → Nat :=
  let c1_i32_170 : BitVec 32 := 1#32
  let v395 : Index := Scalar.indexCast c1_i32_170
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v396 : Index := Scalar.indexCast arg14
  let c288_171 : Index := 288#32
  ![1, v396.toNat, 288]
def k0_off890 (v125 : BitVec 32) (v135 : BitVec 32) (k0_t23 : Fin (k0_t23_loop v125 v135).trips) : Fin 3 → Nat :=
  let c1_i32_172 : BitVec 32 := 1#32
  let v399 : Index := Scalar.indexCast c1_i32_172
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v400 : Index := Scalar.indexCast arg14
  let c304_173 : Index := 304#32
  ![1, v400.toNat, 304]
def k0_off891 (v125 : BitVec 32) (v135 : BitVec 32) (k0_t23 : Fin (k0_t23_loop v125 v135).trips) : Fin 3 → Nat :=
  let c1_i32_174 : BitVec 32 := 1#32
  let v403 : Index := Scalar.indexCast c1_i32_174
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v404 : Index := Scalar.indexCast arg14
  let c320_175 : Index := 320#32
  ![1, v404.toNat, 320]
def k0_off892 (v125 : BitVec 32) (v135 : BitVec 32) (k0_t23 : Fin (k0_t23_loop v125 v135).trips) : Fin 3 → Nat :=
  let c1_i32_176 : BitVec 32 := 1#32
  let v407 : Index := Scalar.indexCast c1_i32_176
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v408 : Index := Scalar.indexCast arg14
  let c336_177 : Index := 336#32
  ![1, v408.toNat, 336]
def k0_off893 (v125 : BitVec 32) (v135 : BitVec 32) (k0_t23 : Fin (k0_t23_loop v125 v135).trips) : Fin 3 → Nat :=
  let c1_i32_178 : BitVec 32 := 1#32
  let v411 : Index := Scalar.indexCast c1_i32_178
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v412 : Index := Scalar.indexCast arg14
  let c352_179 : Index := 352#32
  ![1, v412.toNat, 352]
def k0_off894 (v125 : BitVec 32) (v135 : BitVec 32) (k0_t23 : Fin (k0_t23_loop v125 v135).trips) : Fin 3 → Nat :=
  let c1_i32_180 : BitVec 32 := 1#32
  let v415 : Index := Scalar.indexCast c1_i32_180
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v416 : Index := Scalar.indexCast arg14
  let c368_181 : Index := 368#32
  ![1, v416.toNat, 368]
def k0_off895 (v125 : BitVec 32) (v135 : BitVec 32) (k0_t23 : Fin (k0_t23_loop v125 v135).trips) : Fin 3 → Nat :=
  let c1_i32_182 : BitVec 32 := 1#32
  let v419 : Index := Scalar.indexCast c1_i32_182
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v420 : Index := Scalar.indexCast arg14
  let c384_183 : Index := 384#32
  ![1, v420.toNat, 384]
def k0_off896 (v125 : BitVec 32) (v135 : BitVec 32) (k0_t23 : Fin (k0_t23_loop v125 v135).trips) : Fin 3 → Nat :=
  let c1_i32_184 : BitVec 32 := 1#32
  let v423 : Index := Scalar.indexCast c1_i32_184
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v424 : Index := Scalar.indexCast arg14
  let c400_185 : Index := 400#32
  ![1, v424.toNat, 400]
def k0_off897 (v125 : BitVec 32) (v135 : BitVec 32) (k0_t23 : Fin (k0_t23_loop v125 v135).trips) : Fin 3 → Nat :=
  let c1_i32_186 : BitVec 32 := 1#32
  let v427 : Index := Scalar.indexCast c1_i32_186
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v428 : Index := Scalar.indexCast arg14
  let c416_187 : Index := 416#32
  ![1, v428.toNat, 416]
def k0_off898 (v125 : BitVec 32) (v135 : BitVec 32) (k0_t23 : Fin (k0_t23_loop v125 v135).trips) : Fin 3 → Nat :=
  let c1_i32_188 : BitVec 32 := 1#32
  let v431 : Index := Scalar.indexCast c1_i32_188
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v432 : Index := Scalar.indexCast arg14
  let c432_189 : Index := 432#32
  ![1, v432.toNat, 432]
def k0_off899 (v125 : BitVec 32) (v135 : BitVec 32) (k0_t23 : Fin (k0_t23_loop v125 v135).trips) : Fin 3 → Nat :=
  let c1_i32_190 : BitVec 32 := 1#32
  let v435 : Index := Scalar.indexCast c1_i32_190
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v436 : Index := Scalar.indexCast arg14
  let c448_191 : Index := 448#32
  ![1, v436.toNat, 448]
def k0_off900 (v125 : BitVec 32) (v135 : BitVec 32) (k0_t23 : Fin (k0_t23_loop v125 v135).trips) : Fin 3 → Nat :=
  let c1_i32_192 : BitVec 32 := 1#32
  let v439 : Index := Scalar.indexCast c1_i32_192
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v440 : Index := Scalar.indexCast arg14
  let c464_193 : Index := 464#32
  ![1, v440.toNat, 464]
def k0_off901 (v125 : BitVec 32) (v135 : BitVec 32) (k0_t23 : Fin (k0_t23_loop v125 v135).trips) : Fin 3 → Nat :=
  let c1_i32_194 : BitVec 32 := 1#32
  let v443 : Index := Scalar.indexCast c1_i32_194
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v444 : Index := Scalar.indexCast arg14
  let c480_195 : Index := 480#32
  ![1, v444.toNat, 480]
def k0_off902 (v125 : BitVec 32) (v135 : BitVec 32) (k0_t23 : Fin (k0_t23_loop v125 v135).trips) : Fin 3 → Nat :=
  let c1_i32_196 : BitVec 32 := 1#32
  let v447 : Index := Scalar.indexCast c1_i32_196
  let c64_i32_88 : BitVec 32 := 64#32
  let c0_i32_87 : BitVec 32 := 0#32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c64_i32_64 : BitVec 32 := 64#32
  let v85 : BitVec 32 := Scalar.muli v76 c64_i32_64
  let v136 : BitVec 32 := Scalar.subi v125 v85
  let v137 : BitVec 32 := Scalar.maxsi c0_i32_87 v136
  let v138 : BitVec 32 := Scalar.minsi c64_i32_88 v137
  let c64_i32_90 : BitVec 32 := 64#32
  let c0_i32_89 : BitVec 32 := 0#32
  let v139 : BitVec 32 := Scalar.subi v135 v85
  let v140 : BitVec 32 := Scalar.maxsi c0_i32_89 v139
  let v141 : BitVec 32 := Scalar.minsi c64_i32_90 v140
  let v145 : BitVec 32 := Scalar.subi v141 v138
  let c2_i32_93 : BitVec 32 := 2#32
  let v146 : BitVec 32 := Scalar.shrui v145 c2_i32_93
  let c4_i32 : BitVec 32 := 4#32
  let v154 : BitVec 32 := Scalar.muli v146 c4_i32
  let v155 : BitVec 32 := Scalar.addi v138 v154
  let v156 : BitVec 32 := Scalar.subi v141 v155
  let c1_i32_98 : BitVec 32 := 1#32
  let v158 : BitVec 32 := Scalar.divsi v156 c1_i32_98
  let v159 : BitVec 32 := Scalar.muli v158 c1_i32_98
  let v160 : BitVec 32 := Scalar.addi v155 v159
  let c1_i32_100 : BitVec 32 := 1#32
  let arg14 : BitVec 32 := Scf.iv v160 c1_i32_100 k0_t23
  let v448 : Index := Scalar.indexCast arg14
  let c496_197 : Index := 496#32
  ![1, v448.toNat, 496]
def k0_off903 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v163 : Index := Scalar.indexCast arg12
  let c0_101 : Index := 0#32
  ![v163.toNat, 0]
def k0_off904 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v168 : Index := Scalar.indexCast arg12
  let c16 : Index := 16#32
  ![v168.toNat, 16]
def k0_off905 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v173 : Index := Scalar.indexCast arg12
  let c32 : Index := 32#32
  ![v173.toNat, 32]
def k0_off906 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v178 : Index := Scalar.indexCast arg12
  let c48 : Index := 48#32
  ![v178.toNat, 48]
def k0_off907 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v183 : Index := Scalar.indexCast arg12
  let c64 : Index := 64#32
  ![v183.toNat, 64]
def k0_off908 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v188 : Index := Scalar.indexCast arg12
  let c80 : Index := 80#32
  ![v188.toNat, 80]
def k0_off909 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v193 : Index := Scalar.indexCast arg12
  let c96 : Index := 96#32
  ![v193.toNat, 96]
def k0_off910 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v198 : Index := Scalar.indexCast arg12
  let c112 : Index := 112#32
  ![v198.toNat, 112]
def k0_off911 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v203 : Index := Scalar.indexCast arg12
  let c128 : Index := 128#32
  ![v203.toNat, 128]
def k0_off912 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v208 : Index := Scalar.indexCast arg12
  let c144 : Index := 144#32
  ![v208.toNat, 144]
def k0_off913 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v213 : Index := Scalar.indexCast arg12
  let c160 : Index := 160#32
  ![v213.toNat, 160]
def k0_off914 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v218 : Index := Scalar.indexCast arg12
  let c176 : Index := 176#32
  ![v218.toNat, 176]
def k0_off915 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v223 : Index := Scalar.indexCast arg12
  let c192 : Index := 192#32
  ![v223.toNat, 192]
def k0_off916 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v228 : Index := Scalar.indexCast arg12
  let c208 : Index := 208#32
  ![v228.toNat, 208]
def k0_off917 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v233 : Index := Scalar.indexCast arg12
  let c224 : Index := 224#32
  ![v233.toNat, 224]
def k0_off918 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v238 : Index := Scalar.indexCast arg12
  let c240 : Index := 240#32
  ![v238.toNat, 240]
def k0_off919 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v243 : Index := Scalar.indexCast arg12
  let c256 : Index := 256#32
  ![v243.toNat, 256]
def k0_off920 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v248 : Index := Scalar.indexCast arg12
  let c272 : Index := 272#32
  ![v248.toNat, 272]
def k0_off921 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v253 : Index := Scalar.indexCast arg12
  let c288 : Index := 288#32
  ![v253.toNat, 288]
def k0_off922 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v258 : Index := Scalar.indexCast arg12
  let c304 : Index := 304#32
  ![v258.toNat, 304]
def k0_off923 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v263 : Index := Scalar.indexCast arg12
  let c320 : Index := 320#32
  ![v263.toNat, 320]
def k0_off924 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v268 : Index := Scalar.indexCast arg12
  let c336 : Index := 336#32
  ![v268.toNat, 336]
def k0_off925 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v273 : Index := Scalar.indexCast arg12
  let c352 : Index := 352#32
  ![v273.toNat, 352]
def k0_off926 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v278 : Index := Scalar.indexCast arg12
  let c368 : Index := 368#32
  ![v278.toNat, 368]
def k0_off927 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v283 : Index := Scalar.indexCast arg12
  let c384 : Index := 384#32
  ![v283.toNat, 384]
def k0_off928 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v288 : Index := Scalar.indexCast arg12
  let c400 : Index := 400#32
  ![v288.toNat, 400]
def k0_off929 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v293 : Index := Scalar.indexCast arg12
  let c416 : Index := 416#32
  ![v293.toNat, 416]
def k0_off930 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v298 : Index := Scalar.indexCast arg12
  let c432 : Index := 432#32
  ![v298.toNat, 432]
def k0_off931 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v303 : Index := Scalar.indexCast arg12
  let c448 : Index := 448#32
  ![v303.toNat, 448]

variable {F : FTy → Type} [FloatOps F]

def k0_off932 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v308 : Index := Scalar.indexCast arg12
  let c464 : Index := 464#32
  ![v308.toNat, 464]
def k0_off933 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v313 : Index := Scalar.indexCast arg12
  let c480 : Index := 480#32
  ![v313.toNat, 480]
def k0_off934 (v93 : BitVec 32) (v103 : BitVec 32) (k0_t19 : Fin (k0_t19_loop v93 v103).trips) : Fin 2 → Nat :=
  let c1_i32_71 : BitVec 32 := 1#32
  let v104 : BitVec 32 := Scalar.addi v103 c1_i32_71
  let v105 : BitVec 32 := Scalar.subi v104 v93
  let c1_i32_73 : BitVec 32 := 1#32
  let v107 : BitVec 32 := Scalar.divsi v105 c1_i32_73
  let v108 : BitVec 32 := Scalar.muli v107 c1_i32_73
  let v109 : BitVec 32 := Scalar.addi v93 v108
  let c1_i32_75 : BitVec 32 := 1#32
  let arg12 : BitVec 32 := Scf.iv v109 c1_i32_75 k0_t19
  let v318 : Index := Scalar.indexCast arg12
  let c496 : Index := 496#32
  ![v318.toNat, 496]

def k0_chk12_0 (v93 : BitVec 32) (v103 : BitVec 32) (k0_t19 : Fin (k0_t19_loop v93 v103).trips) (v125 : BitVec 32) (v135 : BitVec 32) : Prop :=
  (∀ (k0_h5 : k0_cond5 v125 v135 = 1#1), (k0_t20_loop v125 v135).OK) ∧
  (∀ k0_t20 : Fin (k0_t20_loop v125 v135).trips, ∀ (k0_h5 : k0_cond5 v125 v135 = 1#1), ∀ a, (k0_off711 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off712 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off713 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off714 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off715 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off716 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off717 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off718 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off719 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off720 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off721 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off722 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off723 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off724 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off725 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off726 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off727 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off728 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off729 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off730 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off731 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off732 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off733 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off734 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off735 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off736 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off737 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off738 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off739 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off740 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off741 v125 v135 k0_t20) a + S1x1x16.size a ≤ S2x64x512.size a)
def k0_chk12_1 (v93 : BitVec 32) (v103 : BitVec 32) (k0_t19 : Fin (k0_t19_loop v93 v103).trips) (v125 : BitVec 32) (v135 : BitVec 32) : Prop :=
  (∀ k0_t20 : Fin (k0_t20_loop v125 v135).trips, ∀ (k0_h5 : k0_cond5 v125 v135 = 1#1), ∀ (r : Fin 3), ∀ a, (k0_off742 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off743 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off744 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off745 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off746 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off747 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off748 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off749 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off750 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off751 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off752 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off753 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off754 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off755 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off756 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off757 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off758 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off759 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off760 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off761 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off762 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off763 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off764 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off765 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off766 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off767 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off768 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off769 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off770 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off771 v125 v135 k0_t20) a + S1x1x16.size a ≤ S2x64x512.size a) ∧
  (∀ k0_t20 : Fin (k0_t20_loop v125 v135).trips, ∀ (k0_h5 : k0_cond5 v125 v135 = 1#1), ∀ (r : Fin 3), ∀ a, (k0_off772 v125 v135 k0_t20 (BitVec.ofNat 32 (1 + r.val))) a + S1x1x16.size a ≤ S2x64x512.size a) ∧
  (∀ k0_t20 : Fin (k0_t20_loop v125 v135).trips, ∀ (k0_h5 : k0_cond5 v125 v135 = 1#1), ∀ a, (k0_off773 v125 v135 k0_t20) a + S1x1x16.size a ≤ S2x64x512.size a)
def k0_chk12_2 (v93 : BitVec 32) (v103 : BitVec 32) (k0_t19 : Fin (k0_t19_loop v93 v103).trips) (v125 : BitVec 32) (v135 : BitVec 32) : Prop :=
  (∀ k0_t20 : Fin (k0_t20_loop v125 v135).trips, ∀ (k0_h5 : k0_cond5 v125 v135 = 1#1), ∀ (r : Fin 3), ∀ a, (k0_off774 v125 v135 k0_t20 (BitVec.ofNat 32 (1 + r.val))) a + S1x1x16.size a ≤ S2x64x512.size a) ∧
  (∀ (k0_h5 : k0_cond5 v125 v135 = 1#1), (k0_t21_loop v125 v135).OK) ∧
  (∀ k0_t21 : Fin (k0_t21_loop v125 v135).trips, ∀ (k0_h5 : k0_cond5 v125 v135 = 1#1), ∀ a, (k0_off775 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off776 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off777 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off778 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off779 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off780 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off781 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off782 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off783 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off784 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off785 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off786 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off787 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off788 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off789 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off790 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off791 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off792 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off793 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off794 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off795 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off796 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off797 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off798 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off799 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off800 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off801 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off802 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off803 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off804 v125 v135 k0_t21 (BitVec.ofNat 32 (1 + r.val))) a + S1x1x16.size a ≤ S2x64x512.size a)
def k0_chk12_3 (v93 : BitVec 32) (v103 : BitVec 32) (k0_t19 : Fin (k0_t19_loop v93 v103).trips) (v125 : BitVec 32) (v135 : BitVec 32) : Prop :=
  (∀ k0_t21 : Fin (k0_t21_loop v125 v135).trips, ∀ (k0_h5 : k0_cond5 v125 v135 = 1#1), ∀ a, (k0_off805 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off806 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off807 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off808 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off809 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off810 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off811 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off812 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off813 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off814 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off815 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off816 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off817 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off818 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off819 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off820 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off821 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off822 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off823 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off824 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off825 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off826 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off827 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off828 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off829 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off830 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off831 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off832 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off833 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off834 v125 v135 k0_t21 (BitVec.ofNat 32 (1 + r.val))) a + S1x1x16.size a ≤ S2x64x512.size a) ∧
  (∀ k0_t21 : Fin (k0_t21_loop v125 v135).trips, ∀ (k0_h5 : k0_cond5 v125 v135 = 1#1), ∀ a, (k0_off835 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off836 v125 v135 k0_t21 (BitVec.ofNat 32 (1 + r.val))) a + S1x1x16.size a ≤ S2x64x512.size a)
def k0_chk12_4 (v93 : BitVec 32) (v103 : BitVec 32) (k0_t19 : Fin (k0_t19_loop v93 v103).trips) (v125 : BitVec 32) (v135 : BitVec 32) : Prop :=
  (∀ k0_t21 : Fin (k0_t21_loop v125 v135).trips, ∀ (k0_h5 : k0_cond5 v125 v135 = 1#1), ∀ a, (k0_off837 v125 v135 k0_t21) a + S1x1x16.size a ≤ S2x64x512.size a) ∧
  (∀ k0_t21 : Fin (k0_t21_loop v125 v135).trips, ∀ (k0_h5 : k0_cond5 v125 v135 = 1#1), ∀ (r : Fin 3), ∀ a, (k0_off838 v125 v135 k0_t21 (BitVec.ofNat 32 (1 + r.val))) a + S1x1x16.size a ≤ S2x64x512.size a) ∧
  (∀ (k0_h5 : k0_cond5 v125 v135 = 1#1), (k0_t22_loop v125 v135).OK) ∧
  (∀ k0_t22 : Fin (k0_t22_loop v125 v135).trips, ∀ (k0_h5 : k0_cond5 v125 v135 = 1#1), ∀ a, (k0_off839 v125 v135 k0_t22) a + S1x1x16.size a ≤ S2x64x512.size a) ∧
  (∀ k0_t22 : Fin (k0_t22_loop v125 v135).trips, ∀ (k0_h5 : k0_cond5 v125 v135 = 1#1), ∀ a, (k0_off840 v125 v135 k0_t22) a + S1x1x16.size a ≤ S2x64x512.size a) ∧
  (∀ k0_t22 : Fin (k0_t22_loop v125 v135).trips, ∀ (k0_h5 : k0_cond5 v125 v135 = 1#1), ∀ a, (k0_off841 v125 v135 k0_t22) a + S1x1x16.size a ≤ S2x64x512.size a) ∧
  (∀ k0_t22 : Fin (k0_t22_loop v125 v135).trips, ∀ (k0_h5 : k0_cond5 v125 v135 = 1#1), ∀ a, (k0_off842 v125 v135 k0_t22) a + S1x1x16.size a ≤ S2x64x512.size a) ∧
  (∀ k0_t22 : Fin (k0_t22_loop v125 v135).trips, ∀ (k0_h5 : k0_cond5 v125 v135 = 1#1), ∀ a, (k0_off843 v125 v135 k0_t22) a + S1x1x16.size a ≤ S2x64x512.size a) ∧
  (∀ k0_t22 : Fin (k0_t22_loop v125 v135).trips, ∀ (k0_h5 : k0_cond5 v125 v135 = 1#1), ∀ a, (k0_off844 v125 v135 k0_t22) a + S1x1x16.size a ≤ S2x64x512.size a) ∧
  (∀ k0_t22 : Fin (k0_t22_loop v125 v135).trips, ∀ (k0_h5 : k0_cond5 v125 v135 = 1#1), ∀ a, (k0_off845 v125 v135 k0_t22) a + S1x1x16.size a ≤ S2x64x512.size a) ∧
  (∀ k0_t22 : Fin (k0_t22_loop v125 v135).trips, ∀ (k0_h5 : k0_cond5 v125 v135 = 1#1), ∀ a, (k0_off846 v125 v135 k0_t22) a + S1x1x16.size a ≤ S2x64x512.size a) ∧
  (∀ k0_t22 : Fin (k0_t22_loop v125 v135).trips, ∀ (k0_h5 : k0_cond5 v125 v135 = 1#1), ∀ a, (k0_off847 v125 v135 k0_t22) a + S1x1x16.size a ≤ S2x64x512.size a) ∧
  (∀ k0_t22 : Fin (k0_t22_loop v125 v135).trips, ∀ (k0_h5 : k0_cond5 v125 v135 = 1#1), ∀ a, (k0_off848 v125 v135 k0_t22) a + S1x1x16.size a ≤ S2x64x512.size a) ∧
  (∀ k0_t22 : Fin (k0_t22_loop v125 v135).trips, ∀ (k0_h5 : k0_cond5 v125 v135 = 1#1), ∀ a, (k0_off849 v125 v135 k0_t22) a + S1x1x16.size a ≤ S2x64x512.size a) ∧
  (∀ k0_t22 : Fin (k0_t22_loop v125 v135).trips, ∀ (k0_h5 : k0_cond5 v125 v135 = 1#1), ∀ a, (k0_off850 v125 v135 k0_t22) a + S1x1x16.size a ≤ S2x64x512.size a) ∧
  (∀ k0_t22 : Fin (k0_t22_loop v125 v135).trips, ∀ (k0_h5 : k0_cond5 v125 v135 = 1#1), ∀ a, (k0_off851 v125 v135 k0_t22) a + S1x1x16.size a ≤ S2x64x512.size a) ∧
  (∀ k0_t22 : Fin (k0_t22_loop v125 v135).trips, ∀ (k0_h5 : k0_cond5 v125 v135 = 1#1), ∀ a, (k0_off852 v125 v135 k0_t22) a + S1x1x16.size a ≤ S2x64x512.size a) ∧
  (∀ k0_t22 : Fin (k0_t22_loop v125 v135).trips, ∀ (k0_h5 : k0_cond5 v125 v135 = 1#1), ∀ a, (k0_off853 v125 v135 k0_t22) a + S1x1x16.size a ≤ S2x64x512.size a) ∧
  (∀ k0_t22 : Fin (k0_t22_loop v125 v135).trips, ∀ (k0_h5 : k0_cond5 v125 v135 = 1#1), ∀ a, (k0_off854 v125 v135 k0_t22) a + S1x1x16.size a ≤ S2x64x512.size a) ∧
  (∀ k0_t22 : Fin (k0_t22_loop v125 v135).trips, ∀ (k0_h5 : k0_cond5 v125 v135 = 1#1), ∀ a, (k0_off855 v125 v135 k0_t22) a + S1x1x16.size a ≤ S2x64x512.size a) ∧
  (∀ k0_t22 : Fin (k0_t22_loop v125 v135).trips, ∀ (k0_h5 : k0_cond5 v125 v135 = 1#1), ∀ a, (k0_off856 v125 v135 k0_t22) a + S1x1x16.size a ≤ S2x64x512.size a) ∧
  (∀ k0_t22 : Fin (k0_t22_loop v125 v135).trips, ∀ (k0_h5 : k0_cond5 v125 v135 = 1#1), ∀ a, (k0_off857 v125 v135 k0_t22) a + S1x1x16.size a ≤ S2x64x512.size a) ∧
  (∀ k0_t22 : Fin (k0_t22_loop v125 v135).trips, ∀ (k0_h5 : k0_cond5 v125 v135 = 1#1), ∀ a, (k0_off858 v125 v135 k0_t22) a + S1x1x16.size a ≤ S2x64x512.size a) ∧
  (∀ k0_t22 : Fin (k0_t22_loop v125 v135).trips, ∀ (k0_h5 : k0_cond5 v125 v135 = 1#1), ∀ a, (k0_off859 v125 v135 k0_t22) a + S1x1x16.size a ≤ S2x64x512.size a) ∧
  (∀ k0_t22 : Fin (k0_t22_loop v125 v135).trips, ∀ (k0_h5 : k0_cond5 v125 v135 = 1#1), ∀ a, (k0_off860 v125 v135 k0_t22) a + S1x1x16.size a ≤ S2x64x512.size a) ∧
  (∀ k0_t22 : Fin (k0_t22_loop v125 v135).trips, ∀ (k0_h5 : k0_cond5 v125 v135 = 1#1), ∀ a, (k0_off861 v125 v135 k0_t22) a + S1x1x16.size a ≤ S2x64x512.size a) ∧
  (∀ k0_t22 : Fin (k0_t22_loop v125 v135).trips, ∀ (k0_h5 : k0_cond5 v125 v135 = 1#1), ∀ a, (k0_off862 v125 v135 k0_t22) a + S1x1x16.size a ≤ S2x64x512.size a) ∧
  (∀ k0_t22 : Fin (k0_t22_loop v125 v135).trips, ∀ (k0_h5 : k0_cond5 v125 v135 = 1#1), ∀ a, (k0_off863 v125 v135 k0_t22) a + S1x1x16.size a ≤ S2x64x512.size a) ∧
  (∀ k0_t22 : Fin (k0_t22_loop v125 v135).trips, ∀ (k0_h5 : k0_cond5 v125 v135 = 1#1), ∀ a, (k0_off864 v125 v135 k0_t22) a + S1x1x16.size a ≤ S2x64x512.size a) ∧
  (∀ k0_t22 : Fin (k0_t22_loop v125 v135).trips, ∀ (k0_h5 : k0_cond5 v125 v135 = 1#1), ∀ a, (k0_off865 v125 v135 k0_t22) a + S1x1x16.size a ≤ S2x64x512.size a) ∧
  (∀ k0_t22 : Fin (k0_t22_loop v125 v135).trips, ∀ (k0_h5 : k0_cond5 v125 v135 = 1#1), ∀ a, (k0_off866 v125 v135 k0_t22) a + S1x1x16.size a ≤ S2x64x512.size a) ∧
  (∀ k0_t22 : Fin (k0_t22_loop v125 v135).trips, ∀ (k0_h5 : k0_cond5 v125 v135 = 1#1), ∀ a, (k0_off867 v125 v135 k0_t22) a + S1x1x16.size a ≤ S2x64x512.size a)
def k0_chk12_5 (v93 : BitVec 32) (v103 : BitVec 32) (k0_t19 : Fin (k0_t19_loop v93 v103).trips) (v125 : BitVec 32) (v135 : BitVec 32) : Prop :=
  (∀ k0_t22 : Fin (k0_t22_loop v125 v135).trips, ∀ (k0_h5 : k0_cond5 v125 v135 = 1#1), ∀ a, (k0_off868 v125 v135 k0_t22) a + S1x1x16.size a ≤ S2x64x512.size a) ∧
  (∀ k0_t22 : Fin (k0_t22_loop v125 v135).trips, ∀ (k0_h5 : k0_cond5 v125 v135 = 1#1), ∀ a, (k0_off869 v125 v135 k0_t22) a + S1x1x16.size a ≤ S2x64x512.size a) ∧
  (∀ k0_t22 : Fin (k0_t22_loop v125 v135).trips, ∀ (k0_h5 : k0_cond5 v125 v135 = 1#1), ∀ a, (k0_off870 v125 v135 k0_t22) a + S1x1x16.size a ≤ S2x64x512.size a) ∧
  (∀ (k0_h5 : k0_cond5 v125 v135 = 1#1), (k0_t23_loop v125 v135).OK) ∧
  (∀ k0_t23 : Fin (k0_t23_loop v125 v135).trips, ∀ (k0_h5 : k0_cond5 v125 v135 = 1#1), ∀ a, (k0_off871 v125 v135 k0_t23) a + S1x1x16.size a ≤ S2x64x512.size a) ∧
  (∀ k0_t23 : Fin (k0_t23_loop v125 v135).trips, ∀ (k0_h5 : k0_cond5 v125 v135 = 1#1), ∀ a, (k0_off872 v125 v135 k0_t23) a + S1x1x16.size a ≤ S2x64x512.size a) ∧
  (∀ k0_t23 : Fin (k0_t23_loop v125 v135).trips, ∀ (k0_h5 : k0_cond5 v125 v135 = 1#1), ∀ a, (k0_off873 v125 v135 k0_t23) a + S1x1x16.size a ≤ S2x64x512.size a) ∧
  (∀ k0_t23 : Fin (k0_t23_loop v125 v135).trips, ∀ (k0_h5 : k0_cond5 v125 v135 = 1#1), ∀ a, (k0_off874 v125 v135 k0_t23) a + S1x1x16.size a ≤ S2x64x512.size a) ∧
  (∀ k0_t23 : Fin (k0_t23_loop v125 v135).trips, ∀ (k0_h5 : k0_cond5 v125 v135 = 1#1), ∀ a, (k0_off875 v125 v135 k0_t23) a + S1x1x16.size a ≤ S2x64x512.size a) ∧
  (∀ k0_t23 : Fin (k0_t23_loop v125 v135).trips, ∀ (k0_h5 : k0_cond5 v125 v135 = 1#1), ∀ a, (k0_off876 v125 v135 k0_t23) a + S1x1x16.size a ≤ S2x64x512.size a) ∧
  (∀ k0_t23 : Fin (k0_t23_loop v125 v135).trips, ∀ (k0_h5 : k0_cond5 v125 v135 = 1#1), ∀ a, (k0_off877 v125 v135 k0_t23) a + S1x1x16.size a ≤ S2x64x512.size a) ∧
  (∀ k0_t23 : Fin (k0_t23_loop v125 v135).trips, ∀ (k0_h5 : k0_cond5 v125 v135 = 1#1), ∀ a, (k0_off878 v125 v135 k0_t23) a + S1x1x16.size a ≤ S2x64x512.size a) ∧
  (∀ k0_t23 : Fin (k0_t23_loop v125 v135).trips, ∀ (k0_h5 : k0_cond5 v125 v135 = 1#1), ∀ a, (k0_off879 v125 v135 k0_t23) a + S1x1x16.size a ≤ S2x64x512.size a) ∧
  (∀ k0_t23 : Fin (k0_t23_loop v125 v135).trips, ∀ (k0_h5 : k0_cond5 v125 v135 = 1#1), ∀ a, (k0_off880 v125 v135 k0_t23) a + S1x1x16.size a ≤ S2x64x512.size a) ∧
  (∀ k0_t23 : Fin (k0_t23_loop v125 v135).trips, ∀ (k0_h5 : k0_cond5 v125 v135 = 1#1), ∀ a, (k0_off881 v125 v135 k0_t23) a + S1x1x16.size a ≤ S2x64x512.size a) ∧
  (∀ k0_t23 : Fin (k0_t23_loop v125 v135).trips, ∀ (k0_h5 : k0_cond5 v125 v135 = 1#1), ∀ a, (k0_off882 v125 v135 k0_t23) a + S1x1x16.size a ≤ S2x64x512.size a) ∧
  (∀ k0_t23 : Fin (k0_t23_loop v125 v135).trips, ∀ (k0_h5 : k0_cond5 v125 v135 = 1#1), ∀ a, (k0_off883 v125 v135 k0_t23) a + S1x1x16.size a ≤ S2x64x512.size a) ∧
  (∀ k0_t23 : Fin (k0_t23_loop v125 v135).trips, ∀ (k0_h5 : k0_cond5 v125 v135 = 1#1), ∀ a, (k0_off884 v125 v135 k0_t23) a + S1x1x16.size a ≤ S2x64x512.size a) ∧
  (∀ k0_t23 : Fin (k0_t23_loop v125 v135).trips, ∀ (k0_h5 : k0_cond5 v125 v135 = 1#1), ∀ a, (k0_off885 v125 v135 k0_t23) a + S1x1x16.size a ≤ S2x64x512.size a) ∧
  (∀ k0_t23 : Fin (k0_t23_loop v125 v135).trips, ∀ (k0_h5 : k0_cond5 v125 v135 = 1#1), ∀ a, (k0_off886 v125 v135 k0_t23) a + S1x1x16.size a ≤ S2x64x512.size a) ∧
  (∀ k0_t23 : Fin (k0_t23_loop v125 v135).trips, ∀ (k0_h5 : k0_cond5 v125 v135 = 1#1), ∀ a, (k0_off887 v125 v135 k0_t23) a + S1x1x16.size a ≤ S2x64x512.size a) ∧
  (∀ k0_t23 : Fin (k0_t23_loop v125 v135).trips, ∀ (k0_h5 : k0_cond5 v125 v135 = 1#1), ∀ a, (k0_off888 v125 v135 k0_t23) a + S1x1x16.size a ≤ S2x64x512.size a) ∧
  (∀ k0_t23 : Fin (k0_t23_loop v125 v135).trips, ∀ (k0_h5 : k0_cond5 v125 v135 = 1#1), ∀ a, (k0_off889 v125 v135 k0_t23) a + S1x1x16.size a ≤ S2x64x512.size a) ∧
  (∀ k0_t23 : Fin (k0_t23_loop v125 v135).trips, ∀ (k0_h5 : k0_cond5 v125 v135 = 1#1), ∀ a, (k0_off890 v125 v135 k0_t23) a + S1x1x16.size a ≤ S2x64x512.size a) ∧
  (∀ k0_t23 : Fin (k0_t23_loop v125 v135).trips, ∀ (k0_h5 : k0_cond5 v125 v135 = 1#1), ∀ a, (k0_off891 v125 v135 k0_t23) a + S1x1x16.size a ≤ S2x64x512.size a) ∧
  (∀ k0_t23 : Fin (k0_t23_loop v125 v135).trips, ∀ (k0_h5 : k0_cond5 v125 v135 = 1#1), ∀ a, (k0_off892 v125 v135 k0_t23) a + S1x1x16.size a ≤ S2x64x512.size a) ∧
  (∀ k0_t23 : Fin (k0_t23_loop v125 v135).trips, ∀ (k0_h5 : k0_cond5 v125 v135 = 1#1), ∀ a, (k0_off893 v125 v135 k0_t23) a + S1x1x16.size a ≤ S2x64x512.size a) ∧
  (∀ k0_t23 : Fin (k0_t23_loop v125 v135).trips, ∀ (k0_h5 : k0_cond5 v125 v135 = 1#1), ∀ a, (k0_off894 v125 v135 k0_t23) a + S1x1x16.size a ≤ S2x64x512.size a) ∧
  (∀ k0_t23 : Fin (k0_t23_loop v125 v135).trips, ∀ (k0_h5 : k0_cond5 v125 v135 = 1#1), ∀ a, (k0_off895 v125 v135 k0_t23) a + S1x1x16.size a ≤ S2x64x512.size a) ∧
  (∀ k0_t23 : Fin (k0_t23_loop v125 v135).trips, ∀ (k0_h5 : k0_cond5 v125 v135 = 1#1), ∀ a, (k0_off896 v125 v135 k0_t23) a + S1x1x16.size a ≤ S2x64x512.size a) ∧
  (∀ k0_t23 : Fin (k0_t23_loop v125 v135).trips, ∀ (k0_h5 : k0_cond5 v125 v135 = 1#1), ∀ a, (k0_off897 v125 v135 k0_t23) a + S1x1x16.size a ≤ S2x64x512.size a) ∧
  (∀ k0_t23 : Fin (k0_t23_loop v125 v135).trips, ∀ (k0_h5 : k0_cond5 v125 v135 = 1#1), ∀ a, (k0_off898 v125 v135 k0_t23) a + S1x1x16.size a ≤ S2x64x512.size a)
def k0_chk12_6 (v93 : BitVec 32) (v103 : BitVec 32) (k0_t19 : Fin (k0_t19_loop v93 v103).trips) (v125 : BitVec 32) (v135 : BitVec 32) : Prop :=
  (∀ k0_t23 : Fin (k0_t23_loop v125 v135).trips, ∀ (k0_h5 : k0_cond5 v125 v135 = 1#1), ∀ a, (k0_off899 v125 v135 k0_t23) a + S1x1x16.size a ≤ S2x64x512.size a) ∧
  (∀ k0_t23 : Fin (k0_t23_loop v125 v135).trips, ∀ (k0_h5 : k0_cond5 v125 v135 = 1#1), ∀ a, (k0_off900 v125 v135 k0_t23) a + S1x1x16.size a ≤ S2x64x512.size a) ∧
  (∀ k0_t23 : Fin (k0_t23_loop v125 v135).trips, ∀ (k0_h5 : k0_cond5 v125 v135 = 1#1), ∀ a, (k0_off901 v125 v135 k0_t23) a + S1x1x16.size a ≤ S2x64x512.size a) ∧
  (∀ k0_t23 : Fin (k0_t23_loop v125 v135).trips, ∀ (k0_h5 : k0_cond5 v125 v135 = 1#1), ∀ a, (k0_off902 v125 v135 k0_t23) a + S1x1x16.size a ≤ S2x64x512.size a) ∧
  (∀ (k0_h5 : k0_cond5 v125 v135 = 1#1), ∀ a, (k0_off903 v93 v103 k0_t19) a + S1x16.size a ≤ S16x512.size a) ∧
  (∀ (k0_h5 : k0_cond5 v125 v135 = 1#1), ∀ a, (k0_off904 v93 v103 k0_t19) a + S1x16.size a ≤ S16x512.size a) ∧
  (∀ (k0_h5 : k0_cond5 v125 v135 = 1#1), ∀ a, (k0_off905 v93 v103 k0_t19) a + S1x16.size a ≤ S16x512.size a) ∧
  (∀ (k0_h5 : k0_cond5 v125 v135 = 1#1), ∀ a, (k0_off906 v93 v103 k0_t19) a + S1x16.size a ≤ S16x512.size a) ∧
  (∀ (k0_h5 : k0_cond5 v125 v135 = 1#1), ∀ a, (k0_off907 v93 v103 k0_t19) a + S1x16.size a ≤ S16x512.size a) ∧
  (∀ (k0_h5 : k0_cond5 v125 v135 = 1#1), ∀ a, (k0_off908 v93 v103 k0_t19) a + S1x16.size a ≤ S16x512.size a) ∧
  (∀ (k0_h5 : k0_cond5 v125 v135 = 1#1), ∀ a, (k0_off909 v93 v103 k0_t19) a + S1x16.size a ≤ S16x512.size a) ∧
  (∀ (k0_h5 : k0_cond5 v125 v135 = 1#1), ∀ a, (k0_off910 v93 v103 k0_t19) a + S1x16.size a ≤ S16x512.size a) ∧
  (∀ (k0_h5 : k0_cond5 v125 v135 = 1#1), ∀ a, (k0_off911 v93 v103 k0_t19) a + S1x16.size a ≤ S16x512.size a) ∧
  (∀ (k0_h5 : k0_cond5 v125 v135 = 1#1), ∀ a, (k0_off912 v93 v103 k0_t19) a + S1x16.size a ≤ S16x512.size a) ∧
  (∀ (k0_h5 : k0_cond5 v125 v135 = 1#1), ∀ a, (k0_off913 v93 v103 k0_t19) a + S1x16.size a ≤ S16x512.size a) ∧
  (∀ (k0_h5 : k0_cond5 v125 v135 = 1#1), ∀ a, (k0_off914 v93 v103 k0_t19) a + S1x16.size a ≤ S16x512.size a) ∧
  (∀ (k0_h5 : k0_cond5 v125 v135 = 1#1), ∀ a, (k0_off915 v93 v103 k0_t19) a + S1x16.size a ≤ S16x512.size a) ∧
  (∀ (k0_h5 : k0_cond5 v125 v135 = 1#1), ∀ a, (k0_off916 v93 v103 k0_t19) a + S1x16.size a ≤ S16x512.size a) ∧
  (∀ (k0_h5 : k0_cond5 v125 v135 = 1#1), ∀ a, (k0_off917 v93 v103 k0_t19) a + S1x16.size a ≤ S16x512.size a) ∧
  (∀ (k0_h5 : k0_cond5 v125 v135 = 1#1), ∀ a, (k0_off918 v93 v103 k0_t19) a + S1x16.size a ≤ S16x512.size a) ∧
  (∀ (k0_h5 : k0_cond5 v125 v135 = 1#1), ∀ a, (k0_off919 v93 v103 k0_t19) a + S1x16.size a ≤ S16x512.size a) ∧
  (∀ (k0_h5 : k0_cond5 v125 v135 = 1#1), ∀ a, (k0_off920 v93 v103 k0_t19) a + S1x16.size a ≤ S16x512.size a) ∧
  (∀ (k0_h5 : k0_cond5 v125 v135 = 1#1), ∀ a, (k0_off921 v93 v103 k0_t19) a + S1x16.size a ≤ S16x512.size a) ∧
  (∀ (k0_h5 : k0_cond5 v125 v135 = 1#1), ∀ a, (k0_off922 v93 v103 k0_t19) a + S1x16.size a ≤ S16x512.size a) ∧
  (∀ (k0_h5 : k0_cond5 v125 v135 = 1#1), ∀ a, (k0_off923 v93 v103 k0_t19) a + S1x16.size a ≤ S16x512.size a) ∧
  (∀ (k0_h5 : k0_cond5 v125 v135 = 1#1), ∀ a, (k0_off924 v93 v103 k0_t19) a + S1x16.size a ≤ S16x512.size a) ∧
  (∀ (k0_h5 : k0_cond5 v125 v135 = 1#1), ∀ a, (k0_off925 v93 v103 k0_t19) a + S1x16.size a ≤ S16x512.size a) ∧
  (∀ (k0_h5 : k0_cond5 v125 v135 = 1#1), ∀ a, (k0_off926 v93 v103 k0_t19) a + S1x16.size a ≤ S16x512.size a) ∧
  (∀ (k0_h5 : k0_cond5 v125 v135 = 1#1), ∀ a, (k0_off927 v93 v103 k0_t19) a + S1x16.size a ≤ S16x512.size a) ∧
  (∀ (k0_h5 : k0_cond5 v125 v135 = 1#1), ∀ a, (k0_off928 v93 v103 k0_t19) a + S1x16.size a ≤ S16x512.size a) ∧
  (∀ (k0_h5 : k0_cond5 v125 v135 = 1#1), ∀ a, (k0_off929 v93 v103 k0_t19) a + S1x16.size a ≤ S16x512.size a) ∧
  (∀ (k0_h5 : k0_cond5 v125 v135 = 1#1), ∀ a, (k0_off930 v93 v103 k0_t19) a + S1x16.size a ≤ S16x512.size a)
def k0_chk12_7 (v93 : BitVec 32) (v103 : BitVec 32) (k0_t19 : Fin (k0_t19_loop v93 v103).trips) (v125 : BitVec 32) (v135 : BitVec 32) : Prop :=
  (∀ (k0_h5 : k0_cond5 v125 v135 = 1#1), ∀ a, (k0_off931 v93 v103 k0_t19) a + S1x16.size a ≤ S16x512.size a) ∧
  (∀ (k0_h5 : k0_cond5 v125 v135 = 1#1), ∀ a, (k0_off932 v93 v103 k0_t19) a + S1x16.size a ≤ S16x512.size a) ∧
  (∀ (k0_h5 : k0_cond5 v125 v135 = 1#1), ∀ a, (k0_off933 v93 v103 k0_t19) a + S1x16.size a ≤ S16x512.size a) ∧
  (∀ (k0_h5 : k0_cond5 v125 v135 = 1#1), ∀ a, (k0_off934 v93 v103 k0_t19) a + S1x16.size a ≤ S16x512.size a)
def k0_chk12 (v93 : BitVec 32) (v103 : BitVec 32) (k0_t19 : Fin (k0_t19_loop v93 v103).trips) (v125 : BitVec 32) (v135 : BitVec 32) : Prop :=
  k0_chk12_0 v93 v103 k0_t19 v125 v135 ∧
  k0_chk12_1 v93 v103 k0_t19 v125 v135 ∧
  k0_chk12_2 v93 v103 k0_t19 v125 v135 ∧
  k0_chk12_3 v93 v103 k0_t19 v125 v135 ∧
  k0_chk12_4 v93 v103 k0_t19 v125 v135 ∧
  k0_chk12_5 v93 v103 k0_t19 v125 v135 ∧
  k0_chk12_6 v93 v103 k0_t19 v125 v135 ∧
  k0_chk12_7 v93 v103 k0_t19 v125 v135
theorem k0_t20_ok : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), (k0_t20_loop v125 v135).OK := fun v93 v103 k0_t19 v125 v135 k0_hw12 k0_h5 => k0_hw12.1.1 k0_h5
theorem k0_off711_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off711 v125 v135 k0_t20) a + S1x1x16.size a ≤ S2x64x512.size a := fun v93 v103 k0_t19 v125 v135 k0_hw12 k0_t20 k0_h5 => k0_hw12.1.2.1 k0_t20 k0_h5
theorem k0_off712_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off712 v125 v135 k0_t20 (BitVec.ofNat 32 (1 + r.val))) a + S1x1x16.size a ≤ S2x64x512.size a := fun v93 v103 k0_t19 v125 v135 k0_hw12 k0_t20 k0_h5 r => k0_hw12.1.2.2.1 k0_t20 k0_h5 r
theorem k0_off713_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off713 v125 v135 k0_t20) a + S1x1x16.size a ≤ S2x64x512.size a := fun v93 v103 k0_t19 v125 v135 k0_hw12 k0_t20 k0_h5 => k0_hw12.1.2.2.2.1 k0_t20 k0_h5
theorem k0_off714_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off714 v125 v135 k0_t20 (BitVec.ofNat 32 (1 + r.val))) a + S1x1x16.size a ≤ S2x64x512.size a := fun v93 v103 k0_t19 v125 v135 k0_hw12 k0_t20 k0_h5 r => k0_hw12.1.2.2.2.2.1 k0_t20 k0_h5 r
theorem k0_off715_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off715 v125 v135 k0_t20) a + S1x1x16.size a ≤ S2x64x512.size a := fun v93 v103 k0_t19 v125 v135 k0_hw12 k0_t20 k0_h5 => k0_hw12.1.2.2.2.2.2.1 k0_t20 k0_h5
theorem k0_off716_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off716 v125 v135 k0_t20 (BitVec.ofNat 32 (1 + r.val))) a + S1x1x16.size a ≤ S2x64x512.size a := fun v93 v103 k0_t19 v125 v135 k0_hw12 k0_t20 k0_h5 r => k0_hw12.1.2.2.2.2.2.2.1 k0_t20 k0_h5 r
theorem k0_off717_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off717 v125 v135 k0_t20) a + S1x1x16.size a ≤ S2x64x512.size a := fun v93 v103 k0_t19 v125 v135 k0_hw12 k0_t20 k0_h5 => k0_hw12.1.2.2.2.2.2.2.2.1 k0_t20 k0_h5
theorem k0_off718_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off718 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.1 k0_t20 k0_h5 r
theorem k0_off719_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off719 v125 v135 k0_t20) a + S1x1x16.size a ≤ S2x64x512.size a := fun v93 v103 k0_t19 v125 v135 k0_hw12 k0_t20 k0_h5 => k0_hw12.1.2.2.2.2.2.2.2.2.2.1 k0_t20 k0_h5
theorem k0_off720_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off720 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.1 k0_t20 k0_h5 r
theorem k0_off721_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off721 v125 v135 k0_t20) a + S1x1x16.size a ≤ S2x64x512.size a := fun v93 v103 k0_t19 v125 v135 k0_hw12 k0_t20 k0_h5 => k0_hw12.1.2.2.2.2.2.2.2.2.2.2.2.1 k0_t20 k0_h5
theorem k0_off722_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off722 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.1 k0_t20 k0_h5 r
theorem k0_off723_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off723 v125 v135 k0_t20) a + S1x1x16.size a ≤ S2x64x512.size a := fun v93 v103 k0_t19 v125 v135 k0_hw12 k0_t20 k0_h5 => k0_hw12.1.2.2.2.2.2.2.2.2.2.2.2.2.2.1 k0_t20 k0_h5
theorem k0_off724_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off724 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.1 k0_t20 k0_h5 r
theorem k0_off725_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off725 v125 v135 k0_t20) a + S1x1x16.size a ≤ S2x64x512.size a := fun v93 v103 k0_t19 v125 v135 k0_hw12 k0_t20 k0_h5 => k0_hw12.1.2.2.2.2.2.2.2.2.2.2.2.2.2.2.2.1 k0_t20 k0_h5
theorem k0_off726_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off726 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.1 k0_t20 k0_h5 r
theorem k0_off727_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off727 v125 v135 k0_t20) a + S1x1x16.size a ≤ S2x64x512.size a := fun v93 v103 k0_t19 v125 v135 k0_hw12 k0_t20 k0_h5 => k0_hw12.1.2.2.2.2.2.2.2.2.2.2.2.2.2.2.2.2.2.1 k0_t20 k0_h5
theorem k0_off728_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off728 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.2.2.1 k0_t20 k0_h5 r
theorem k0_off729_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off729 v125 v135 k0_t20) a + S1x1x16.size a ≤ S2x64x512.size a := fun v93 v103 k0_t19 v125 v135 k0_hw12 k0_t20 k0_h5 => k0_hw12.1.2.2.2.2.2.2.2.2.2.2.2.2.2.2.2.2.2.2.2.1 k0_t20 k0_h5
theorem k0_off730_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off730 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.2.2.2.2.1 k0_t20 k0_h5 r
theorem k0_off731_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off731 v125 v135 k0_t20) a + S1x1x16.size a ≤ S2x64x512.size a := fun v93 v103 k0_t19 v125 v135 k0_hw12 k0_t20 k0_h5 => k0_hw12.1.2.2.2.2.2.2.2.2.2.2.2.2.2.2.2.2.2.2.2.2.2.1 k0_t20 k0_h5
theorem k0_off732_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off732 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.2.2.2.2.2.2.1 k0_t20 k0_h5 r
theorem k0_off733_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off733 v125 v135 k0_t20) a + S1x1x16.size a ≤ S2x64x512.size a := fun v93 v103 k0_t19 v125 v135 k0_hw12 k0_t20 k0_h5 => k0_hw12.1.2.2.2.2.2.2.2.2.2.2.2.2.2.2.2.2.2.2.2.2.2.2.2.1 k0_t20 k0_h5
theorem k0_off734_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off734 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.2.2.2.2.2.2.2.2.1 k0_t20 k0_h5 r
theorem k0_off735_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off735 v125 v135 k0_t20) a + S1x1x16.size a ≤ S2x64x512.size a := fun v93 v103 k0_t19 v125 v135 k0_hw12 k0_t20 k0_h5 => k0_hw12.1.2.2.2.2.2.2.2.2.2.2.2.2.2.2.2.2.2.2.2.2.2.2.2.2.2.1 k0_t20 k0_h5
theorem k0_off736_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off736 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.2.2.2.2.2.2.2.2.2.2.1 k0_t20 k0_h5 r
theorem k0_off737_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off737 v125 v135 k0_t20) a + S1x1x16.size a ≤ S2x64x512.size a := fun v93 v103 k0_t19 v125 v135 k0_hw12 k0_t20 k0_h5 => k0_hw12.1.2.2.2.2.2.2.2.2.2.2.2.2.2.2.2.2.2.2.2.2.2.2.2.2.2.2.2.1 k0_t20 k0_h5
theorem k0_off738_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off738 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.2.2.2.2.2.2.2.2.2.2.2.2.1 k0_t20 k0_h5 r
theorem k0_off739_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off739 v125 v135 k0_t20) a + S1x1x16.size a ≤ S2x64x512.size a := fun v93 v103 k0_t19 v125 v135 k0_hw12 k0_t20 k0_h5 => k0_hw12.1.2.2.2.2.2.2.2.2.2.2.2.2.2.2.2.2.2.2.2.2.2.2.2.2.2.2.2.2.2.1 k0_t20 k0_h5
theorem k0_off740_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off740 v125 v135 k0_t20 (BitVec.ofNat 32 (1 + r.val))) a + S1x1x16.size a ≤ S2x64x512.size a := fun v93 v103 k0_t19 v125 v135 k0_hw12 k0_t20 k0_h5 r => k0_hw12.1.2.2.2.2.2.2.2.2.2.2.2.2.2.2.2.2.2.2.2.2.2.2.2.2.2.2.2.2.2.2.1 k0_t20 k0_h5 r
theorem k0_off741_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off741 v125 v135 k0_t20) a + S1x1x16.size a ≤ S2x64x512.size a := fun v93 v103 k0_t19 v125 v135 k0_hw12 k0_t20 k0_h5 => k0_hw12.1.2.2.2.2.2.2.2.2.2.2.2.2.2.2.2.2.2.2.2.2.2.2.2.2.2.2.2.2.2.2.2 k0_t20 k0_h5
theorem k0_off742_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off742 v125 v135 k0_t20 (BitVec.ofNat 32 (1 + r.val))) a + S1x1x16.size a ≤ S2x64x512.size a := fun v93 v103 k0_t19 v125 v135 k0_hw12 k0_t20 k0_h5 r => k0_hw12.2.1.1 k0_t20 k0_h5 r
theorem k0_off743_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off743 v125 v135 k0_t20) a + S1x1x16.size a ≤ S2x64x512.size a := fun v93 v103 k0_t19 v125 v135 k0_hw12 k0_t20 k0_h5 => k0_hw12.2.1.2.1 k0_t20 k0_h5
theorem k0_off744_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off744 v125 v135 k0_t20 (BitVec.ofNat 32 (1 + r.val))) a + S1x1x16.size a ≤ S2x64x512.size a := fun v93 v103 k0_t19 v125 v135 k0_hw12 k0_t20 k0_h5 r => k0_hw12.2.1.2.2.1 k0_t20 k0_h5 r
theorem k0_off745_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off745 v125 v135 k0_t20) a + S1x1x16.size a ≤ S2x64x512.size a := fun v93 v103 k0_t19 v125 v135 k0_hw12 k0_t20 k0_h5 => k0_hw12.2.1.2.2.2.1 k0_t20 k0_h5
theorem k0_off746_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off746 v125 v135 k0_t20 (BitVec.ofNat 32 (1 + r.val))) a + S1x1x16.size a ≤ S2x64x512.size a := fun v93 v103 k0_t19 v125 v135 k0_hw12 k0_t20 k0_h5 r => k0_hw12.2.1.2.2.2.2.1 k0_t20 k0_h5 r
theorem k0_off747_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off747 v125 v135 k0_t20) a + S1x1x16.size a ≤ S2x64x512.size a := fun v93 v103 k0_t19 v125 v135 k0_hw12 k0_t20 k0_h5 => k0_hw12.2.1.2.2.2.2.2.1 k0_t20 k0_h5
theorem k0_off748_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off748 v125 v135 k0_t20 (BitVec.ofNat 32 (1 + r.val))) a + S1x1x16.size a ≤ S2x64x512.size a := fun v93 v103 k0_t19 v125 v135 k0_hw12 k0_t20 k0_h5 r => k0_hw12.2.1.2.2.2.2.2.2.1 k0_t20 k0_h5 r
theorem k0_off749_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off749 v125 v135 k0_t20) a + S1x1x16.size a ≤ S2x64x512.size a := fun v93 v103 k0_t19 v125 v135 k0_hw12 k0_t20 k0_h5 => k0_hw12.2.1.2.2.2.2.2.2.2.1 k0_t20 k0_h5
theorem k0_off750_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off750 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.1 k0_t20 k0_h5 r
theorem k0_off751_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off751 v125 v135 k0_t20) a + S1x1x16.size a ≤ S2x64x512.size a := fun v93 v103 k0_t19 v125 v135 k0_hw12 k0_t20 k0_h5 => k0_hw12.2.1.2.2.2.2.2.2.2.2.2.1 k0_t20 k0_h5
theorem k0_off752_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off752 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.1 k0_t20 k0_h5 r
theorem k0_off753_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off753 v125 v135 k0_t20) a + S1x1x16.size a ≤ S2x64x512.size a := fun v93 v103 k0_t19 v125 v135 k0_hw12 k0_t20 k0_h5 => k0_hw12.2.1.2.2.2.2.2.2.2.2.2.2.2.1 k0_t20 k0_h5
theorem k0_off754_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off754 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.1 k0_t20 k0_h5 r
theorem k0_off755_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off755 v125 v135 k0_t20) a + S1x1x16.size a ≤ S2x64x512.size a := fun v93 v103 k0_t19 v125 v135 k0_hw12 k0_t20 k0_h5 => k0_hw12.2.1.2.2.2.2.2.2.2.2.2.2.2.2.2.1 k0_t20 k0_h5
theorem k0_off756_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off756 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.1 k0_t20 k0_h5 r
theorem k0_off757_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off757 v125 v135 k0_t20) a + S1x1x16.size a ≤ S2x64x512.size a := fun v93 v103 k0_t19 v125 v135 k0_hw12 k0_t20 k0_h5 => k0_hw12.2.1.2.2.2.2.2.2.2.2.2.2.2.2.2.2.2.1 k0_t20 k0_h5
theorem k0_off758_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off758 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.1 k0_t20 k0_h5 r
theorem k0_off759_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off759 v125 v135 k0_t20) a + S1x1x16.size a ≤ S2x64x512.size a := fun v93 v103 k0_t19 v125 v135 k0_hw12 k0_t20 k0_h5 => k0_hw12.2.1.2.2.2.2.2.2.2.2.2.2.2.2.2.2.2.2.2.1 k0_t20 k0_h5
theorem k0_off760_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off760 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.2.2.1 k0_t20 k0_h5 r
theorem k0_off761_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off761 v125 v135 k0_t20) a + S1x1x16.size a ≤ S2x64x512.size a := fun v93 v103 k0_t19 v125 v135 k0_hw12 k0_t20 k0_h5 => k0_hw12.2.1.2.2.2.2.2.2.2.2.2.2.2.2.2.2.2.2.2.2.2.1 k0_t20 k0_h5
theorem k0_off762_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off762 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.2.2.2.2.1 k0_t20 k0_h5 r
theorem k0_off763_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off763 v125 v135 k0_t20) a + S1x1x16.size a ≤ S2x64x512.size a := fun v93 v103 k0_t19 v125 v135 k0_hw12 k0_t20 k0_h5 => k0_hw12.2.1.2.2.2.2.2.2.2.2.2.2.2.2.2.2.2.2.2.2.2.2.2.1 k0_t20 k0_h5
theorem k0_off764_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off764 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.2.2.2.2.2.2.1 k0_t20 k0_h5 r
theorem k0_off765_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off765 v125 v135 k0_t20) a + S1x1x16.size a ≤ S2x64x512.size a := fun v93 v103 k0_t19 v125 v135 k0_hw12 k0_t20 k0_h5 => k0_hw12.2.1.2.2.2.2.2.2.2.2.2.2.2.2.2.2.2.2.2.2.2.2.2.2.2.1 k0_t20 k0_h5
theorem k0_off766_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off766 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.2.2.2.2.2.2.2.2.1 k0_t20 k0_h5 r
theorem k0_off767_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off767 v125 v135 k0_t20) a + S1x1x16.size a ≤ S2x64x512.size a := fun v93 v103 k0_t19 v125 v135 k0_hw12 k0_t20 k0_h5 => k0_hw12.2.1.2.2.2.2.2.2.2.2.2.2.2.2.2.2.2.2.2.2.2.2.2.2.2.2.2.1 k0_t20 k0_h5
theorem k0_off768_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off768 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.2.2.2.2.2.2.2.2.2.2.1 k0_t20 k0_h5 r
theorem k0_off769_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off769 v125 v135 k0_t20) a + S1x1x16.size a ≤ S2x64x512.size a := fun v93 v103 k0_t19 v125 v135 k0_hw12 k0_t20 k0_h5 => k0_hw12.2.1.2.2.2.2.2.2.2.2.2.2.2.2.2.2.2.2.2.2.2.2.2.2.2.2.2.2.2.1 k0_t20 k0_h5
theorem k0_off770_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off770 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.2.2.2.2.2.2.2.2.2.2.2.2.1 k0_t20 k0_h5 r
theorem k0_off771_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off771 v125 v135 k0_t20) a + S1x1x16.size a ≤ S2x64x512.size a := fun v93 v103 k0_t19 v125 v135 k0_hw12 k0_t20 k0_h5 => k0_hw12.2.1.2.2.2.2.2.2.2.2.2.2.2.2.2.2.2.2.2.2.2.2.2.2.2.2.2.2.2.2.2.1 k0_t20 k0_h5
theorem k0_off772_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off772 v125 v135 k0_t20 (BitVec.ofNat 32 (1 + r.val))) a + S1x1x16.size a ≤ S2x64x512.size a := fun v93 v103 k0_t19 v125 v135 k0_hw12 k0_t20 k0_h5 r => k0_hw12.2.1.2.2.2.2.2.2.2.2.2.2.2.2.2.2.2.2.2.2.2.2.2.2.2.2.2.2.2.2.2.2.1 k0_t20 k0_h5 r
theorem k0_off773_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ a, (k0_off773 v125 v135 k0_t20) a + S1x1x16.size a ≤ S2x64x512.size a := fun v93 v103 k0_t19 v125 v135 k0_hw12 k0_t20 k0_h5 => k0_hw12.2.1.2.2.2.2.2.2.2.2.2.2.2.2.2.2.2.2.2.2.2.2.2.2.2.2.2.2.2.2.2.2.2 k0_t20 k0_h5
theorem k0_off774_inb : ∀ (v93 : BitVec 32) (v103 : BitVec 32) (k0_t19 : Fin (k0_t19_loop v93 v103).trips) (v125 : BitVec 32) (v135 : BitVec 32) (k0_hw12 : k0_chk12 v93 v103 k0_t19 v125 v135) (k0_t20 : Fin (k0_t20_loop v125 v135).trips), ∀ (k0_h5 : k0_cond5 v125 v135 = 1#1), ∀ (r : Fin 3), ∀ a, (k0_off774 v125 v135 k0_t20 (BitVec.ofNat 32 (1 + r.val))) a + S1x1x16.size a ≤ S2x64x512.size a := fun v93 v103 k0_t19 v125 v135 k0_hw12 k0_t20 k0_h5 r => k0_hw12.2.2.1.1 k0_t20 k0_h5 r
theorem k0_t21_ok : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), (k0_t21_loop v125 v135).OK := fun v93 v103 k0_t19 v125 v135 k0_hw12 k0_h5 => k0_hw12.2.2.1.2.1 k0_h5
theorem k0_off775_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off775 v125 v135 k0_t21) a + S1x1x16.size a ≤ S2x64x512.size a := fun v93 v103 k0_t19 v125 v135 k0_hw12 k0_t21 k0_h5 => k0_hw12.2.2.1.2.2.1 k0_t21 k0_h5
theorem k0_off776_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off776 v125 v135 k0_t21 (BitVec.ofNat 32 (1 + r.val))) a + S1x1x16.size a ≤ S2x64x512.size a := fun v93 v103 k0_t19 v125 v135 k0_hw12 k0_t21 k0_h5 r => k0_hw12.2.2.1.2.2.2.1 k0_t21 k0_h5 r
theorem k0_off777_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off777 v125 v135 k0_t21) a + S1x1x16.size a ≤ S2x64x512.size a := fun v93 v103 k0_t19 v125 v135 k0_hw12 k0_t21 k0_h5 => k0_hw12.2.2.1.2.2.2.2.1 k0_t21 k0_h5
theorem k0_off778_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off778 v125 v135 k0_t21 (BitVec.ofNat 32 (1 + r.val))) a + S1x1x16.size a ≤ S2x64x512.size a := fun v93 v103 k0_t19 v125 v135 k0_hw12 k0_t21 k0_h5 r => k0_hw12.2.2.1.2.2.2.2.2.1 k0_t21 k0_h5 r
theorem k0_off779_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off779 v125 v135 k0_t21) a + S1x1x16.size a ≤ S2x64x512.size a := fun v93 v103 k0_t19 v125 v135 k0_hw12 k0_t21 k0_h5 => k0_hw12.2.2.1.2.2.2.2.2.2.1 k0_t21 k0_h5
theorem k0_off780_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off780 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.1 k0_t21 k0_h5 r
theorem k0_off781_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off781 v125 v135 k0_t21) a + S1x1x16.size a ≤ S2x64x512.size a := fun v93 v103 k0_t19 v125 v135 k0_hw12 k0_t21 k0_h5 => k0_hw12.2.2.1.2.2.2.2.2.2.2.2.1 k0_t21 k0_h5
theorem k0_off782_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off782 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.1 k0_t21 k0_h5 r
theorem k0_off783_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off783 v125 v135 k0_t21) a + S1x1x16.size a ≤ S2x64x512.size a := fun v93 v103 k0_t19 v125 v135 k0_hw12 k0_t21 k0_h5 => k0_hw12.2.2.1.2.2.2.2.2.2.2.2.2.2.1 k0_t21 k0_h5
theorem k0_off784_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off784 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.1 k0_t21 k0_h5 r
theorem k0_off785_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off785 v125 v135 k0_t21) a + S1x1x16.size a ≤ S2x64x512.size a := fun v93 v103 k0_t19 v125 v135 k0_hw12 k0_t21 k0_h5 => k0_hw12.2.2.1.2.2.2.2.2.2.2.2.2.2.2.2.1 k0_t21 k0_h5
theorem k0_off786_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off786 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.1 k0_t21 k0_h5 r
theorem k0_off787_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off787 v125 v135 k0_t21) a + S1x1x16.size a ≤ S2x64x512.size a := fun v93 v103 k0_t19 v125 v135 k0_hw12 k0_t21 k0_h5 => k0_hw12.2.2.1.2.2.2.2.2.2.2.2.2.2.2.2.2.2.1 k0_t21 k0_h5
theorem k0_off788_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off788 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.1 k0_t21 k0_h5 r
theorem k0_off789_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off789 v125 v135 k0_t21) a + S1x1x16.size a ≤ S2x64x512.size a := fun v93 v103 k0_t19 v125 v135 k0_hw12 k0_t21 k0_h5 => k0_hw12.2.2.1.2.2.2.2.2.2.2.2.2.2.2.2.2.2.2.2.1 k0_t21 k0_h5
theorem k0_off790_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off790 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.1 k0_t21 k0_h5 r
theorem k0_off791_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off791 v125 v135 k0_t21) a + S1x1x16.size a ≤ S2x64x512.size a := fun v93 v103 k0_t19 v125 v135 k0_hw12 k0_t21 k0_h5 => k0_hw12.2.2.1.2.2.2.2.2.2.2.2.2.2.2.2.2.2.2.2.2.2.1 k0_t21 k0_h5
theorem k0_off792_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off792 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.2.2.1 k0_t21 k0_h5 r
theorem k0_off793_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off793 v125 v135 k0_t21) a + S1x1x16.size a ≤ S2x64x512.size a := fun v93 v103 k0_t19 v125 v135 k0_hw12 k0_t21 k0_h5 => k0_hw12.2.2.1.2.2.2.2.2.2.2.2.2.2.2.2.2.2.2.2.2.2.2.2.1 k0_t21 k0_h5
theorem k0_off794_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off794 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.2.2.2.2.1 k0_t21 k0_h5 r
theorem k0_off795_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off795 v125 v135 k0_t21) a + S1x1x16.size a ≤ S2x64x512.size a := fun v93 v103 k0_t19 v125 v135 k0_hw12 k0_t21 k0_h5 => k0_hw12.2.2.1.2.2.2.2.2.2.2.2.2.2.2.2.2.2.2.2.2.2.2.2.2.2.1 k0_t21 k0_h5
theorem k0_off796_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off796 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.2.2.2.2.2.2.1 k0_t21 k0_h5 r
theorem k0_off797_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off797 v125 v135 k0_t21) a + S1x1x16.size a ≤ S2x64x512.size a := fun v93 v103 k0_t19 v125 v135 k0_hw12 k0_t21 k0_h5 => k0_hw12.2.2.1.2.2.2.2.2.2.2.2.2.2.2.2.2.2.2.2.2.2.2.2.2.2.2.2.1 k0_t21 k0_h5
theorem k0_off798_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off798 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.2.2.2.2.2.2.2.2.1 k0_t21 k0_h5 r
theorem k0_off799_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off799 v125 v135 k0_t21) a + S1x1x16.size a ≤ S2x64x512.size a := fun v93 v103 k0_t19 v125 v135 k0_hw12 k0_t21 k0_h5 => k0_hw12.2.2.1.2.2.2.2.2.2.2.2.2.2.2.2.2.2.2.2.2.2.2.2.2.2.2.2.2.2.1 k0_t21 k0_h5
theorem k0_off800_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off800 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.2.2.2.2.2.2.2.2.2.2.1 k0_t21 k0_h5 r
theorem k0_off801_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off801 v125 v135 k0_t21) a + S1x1x16.size a ≤ S2x64x512.size a := fun v93 v103 k0_t19 v125 v135 k0_hw12 k0_t21 k0_h5 => k0_hw12.2.2.1.2.2.2.2.2.2.2.2.2.2.2.2.2.2.2.2.2.2.2.2.2.2.2.2.2.2.2.2.1 k0_t21 k0_h5
theorem k0_off802_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off802 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.2.2.2.2.2.2.2.2.2.2.2.2.1 k0_t21 k0_h5 r
theorem k0_off803_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off803 v125 v135 k0_t21) a + S1x1x16.size a ≤ S2x64x512.size a := fun v93 v103 k0_t19 v125 v135 k0_hw12 k0_t21 k0_h5 => k0_hw12.2.2.1.2.2.2.2.2.2.2.2.2.2.2.2.2.2.2.2.2.2.2.2.2.2.2.2.2.2.2.2.2.2.1 k0_t21 k0_h5
theorem k0_off804_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off804 v125 v135 k0_t21 (BitVec.ofNat 32 (1 + r.val))) a + S1x1x16.size a ≤ S2x64x512.size a := fun v93 v103 k0_t19 v125 v135 k0_hw12 k0_t21 k0_h5 r => k0_hw12.2.2.1.2.2.2.2.2.2.2.2.2.2.2.2.2.2.2.2.2.2.2.2.2.2.2.2.2.2.2.2.2.2.2 k0_t21 k0_h5 r
theorem k0_off805_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off805 v125 v135 k0_t21) a + S1x1x16.size a ≤ S2x64x512.size a := fun v93 v103 k0_t19 v125 v135 k0_hw12 k0_t21 k0_h5 => k0_hw12.2.2.2.1.1 k0_t21 k0_h5
theorem k0_off806_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off806 v125 v135 k0_t21 (BitVec.ofNat 32 (1 + r.val))) a + S1x1x16.size a ≤ S2x64x512.size a := fun v93 v103 k0_t19 v125 v135 k0_hw12 k0_t21 k0_h5 r => k0_hw12.2.2.2.1.2.1 k0_t21 k0_h5 r
theorem k0_off807_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off807 v125 v135 k0_t21) a + S1x1x16.size a ≤ S2x64x512.size a := fun v93 v103 k0_t19 v125 v135 k0_hw12 k0_t21 k0_h5 => k0_hw12.2.2.2.1.2.2.1 k0_t21 k0_h5
theorem k0_off808_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off808 v125 v135 k0_t21 (BitVec.ofNat 32 (1 + r.val))) a + S1x1x16.size a ≤ S2x64x512.size a := fun v93 v103 k0_t19 v125 v135 k0_hw12 k0_t21 k0_h5 r => k0_hw12.2.2.2.1.2.2.2.1 k0_t21 k0_h5 r
theorem k0_off809_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off809 v125 v135 k0_t21) a + S1x1x16.size a ≤ S2x64x512.size a := fun v93 v103 k0_t19 v125 v135 k0_hw12 k0_t21 k0_h5 => k0_hw12.2.2.2.1.2.2.2.2.1 k0_t21 k0_h5
theorem k0_off810_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off810 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.1 k0_t21 k0_h5 r
theorem k0_off811_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off811 v125 v135 k0_t21) a + S1x1x16.size a ≤ S2x64x512.size a := fun v93 v103 k0_t19 v125 v135 k0_hw12 k0_t21 k0_h5 => k0_hw12.2.2.2.1.2.2.2.2.2.2.1 k0_t21 k0_h5
theorem k0_off812_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off812 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.1 k0_t21 k0_h5 r
theorem k0_off813_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off813 v125 v135 k0_t21) a + S1x1x16.size a ≤ S2x64x512.size a := fun v93 v103 k0_t19 v125 v135 k0_hw12 k0_t21 k0_h5 => k0_hw12.2.2.2.1.2.2.2.2.2.2.2.2.1 k0_t21 k0_h5
theorem k0_off814_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off814 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.1 k0_t21 k0_h5 r
theorem k0_off815_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off815 v125 v135 k0_t21) a + S1x1x16.size a ≤ S2x64x512.size a := fun v93 v103 k0_t19 v125 v135 k0_hw12 k0_t21 k0_h5 => k0_hw12.2.2.2.1.2.2.2.2.2.2.2.2.2.2.1 k0_t21 k0_h5
theorem k0_off816_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off816 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.1 k0_t21 k0_h5 r
theorem k0_off817_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off817 v125 v135 k0_t21) a + S1x1x16.size a ≤ S2x64x512.size a := fun v93 v103 k0_t19 v125 v135 k0_hw12 k0_t21 k0_h5 => k0_hw12.2.2.2.1.2.2.2.2.2.2.2.2.2.2.2.2.1 k0_t21 k0_h5
theorem k0_off818_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off818 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.1 k0_t21 k0_h5 r
theorem k0_off819_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off819 v125 v135 k0_t21) a + S1x1x16.size a ≤ S2x64x512.size a := fun v93 v103 k0_t19 v125 v135 k0_hw12 k0_t21 k0_h5 => k0_hw12.2.2.2.1.2.2.2.2.2.2.2.2.2.2.2.2.2.2.1 k0_t21 k0_h5
theorem k0_off820_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off820 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.1 k0_t21 k0_h5 r
theorem k0_off821_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off821 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.1 k0_t21 k0_h5
theorem k0_off822_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off822 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.1 k0_t21 k0_h5 r
theorem k0_off823_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off823 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.2.2.1 k0_t21 k0_h5
theorem k0_off824_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off824 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.2.2.1 k0_t21 k0_h5 r
theorem k0_off825_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off825 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.2.2.2.2.1 k0_t21 k0_h5
theorem k0_off826_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off826 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.2.2.2.2.1 k0_t21 k0_h5 r
theorem k0_off827_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off827 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.2.2.2.2.2.2.1 k0_t21 k0_h5
theorem k0_off828_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off828 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.2.2.2.2.2.2.1 k0_t21 k0_h5 r
theorem k0_off829_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off829 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.2.2.2.2.2.2.2.2.1 k0_t21 k0_h5
theorem k0_off830_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off830 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.2.2.2.2.2.2.2.2.1 k0_t21 k0_h5 r
theorem k0_off831_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off831 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.2.2.2.2.2.2.2.2.2.2.1 k0_t21 k0_h5
theorem k0_off832_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off832 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.2.2.2.2.2.2.2.2.2.2.1 k0_t21 k0_h5 r
theorem k0_off833_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off833 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.2.2.2.2.2.2.2.2.2.2.2.2.1 k0_t21 k0_h5
theorem k0_off834_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off834 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.2.2.2.2.2.2.2.2.2.2.2.2.1 k0_t21 k0_h5 r
theorem k0_off835_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off835 v125 v135 k0_t21) a + S1x1x16.size a ≤ S2x64x512.size a := fun v93 v103 k0_t19 v125 v135 k0_hw12 k0_t21 k0_h5 => k0_hw12.2.2.2.1.2.2.2.2.2.2.2.2.2.2.2.2.2.2.2.2.2.2.2.2.2.2.2.2.2.2.2.2.2.2.1 k0_t21 k0_h5
theorem k0_off836_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off836 v125 v135 k0_t21 (BitVec.ofNat 32 (1 + r.val))) a + S1x1x16.size a ≤ S2x64x512.size a := fun v93 v103 k0_t19 v125 v135 k0_hw12 k0_t21 k0_h5 r => k0_hw12.2.2.2.1.2.2.2.2.2.2.2.2.2.2.2.2.2.2.2.2.2.2.2.2.2.2.2.2.2.2.2.2.2.2.2 k0_t21 k0_h5 r
theorem k0_off837_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ a, (k0_off837 v125 v135 k0_t21) a + S1x1x16.size a ≤ S2x64x512.size a := fun v93 v103 k0_t19 v125 v135 k0_hw12 k0_t21 k0_h5 => k0_hw12.2.2.2.2.1.1 k0_t21 k0_h5
theorem k0_off838_inb : ∀ (v93 : BitVec 32) (v103 : BitVec 32) (k0_t19 : Fin (k0_t19_loop v93 v103).trips) (v125 : BitVec 32) (v135 : BitVec 32) (k0_hw12 : k0_chk12 v93 v103 k0_t19 v125 v135) (k0_t21 : Fin (k0_t21_loop v125 v135).trips), ∀ (k0_h5 : k0_cond5 v125 v135 = 1#1), ∀ (r : Fin 3), ∀ a, (k0_off838 v125 v135 k0_t21 (BitVec.ofNat 32 (1 + r.val))) a + S1x1x16.size a ≤ S2x64x512.size a := fun v93 v103 k0_t19 v125 v135 k0_hw12 k0_t21 k0_h5 r => k0_hw12.2.2.2.2.1.2.1 k0_t21 k0_h5 r
theorem k0_t22_ok : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), (k0_t22_loop v125 v135).OK := fun v93 v103 k0_t19 v125 v135 k0_hw12 k0_h5 => k0_hw12.2.2.2.2.1.2.2.1 k0_h5
theorem k0_off839_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off839 v125 v135 k0_t22) a + S1x1x16.size a ≤ S2x64x512.size a := fun v93 v103 k0_t19 v125 v135 k0_hw12 k0_t22 k0_h5 => k0_hw12.2.2.2.2.1.2.2.2.1 k0_t22 k0_h5
theorem k0_off840_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off840 v125 v135 k0_t22) a + S1x1x16.size a ≤ S2x64x512.size a := fun v93 v103 k0_t19 v125 v135 k0_hw12 k0_t22 k0_h5 => k0_hw12.2.2.2.2.1.2.2.2.2.1 k0_t22 k0_h5
theorem k0_off841_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off841 v125 v135 k0_t22) a + S1x1x16.size a ≤ S2x64x512.size a := fun v93 v103 k0_t19 v125 v135 k0_hw12 k0_t22 k0_h5 => k0_hw12.2.2.2.2.1.2.2.2.2.2.1 k0_t22 k0_h5
theorem k0_off842_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off842 v125 v135 k0_t22) a + S1x1x16.size a ≤ S2x64x512.size a := fun v93 v103 k0_t19 v125 v135 k0_hw12 k0_t22 k0_h5 => k0_hw12.2.2.2.2.1.2.2.2.2.2.2.1 k0_t22 k0_h5
theorem k0_off843_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off843 v125 v135 k0_t22) a + S1x1x16.size a ≤ S2x64x512.size a := fun v93 v103 k0_t19 v125 v135 k0_hw12 k0_t22 k0_h5 => k0_hw12.2.2.2.2.1.2.2.2.2.2.2.2.1 k0_t22 k0_h5
theorem k0_off844_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off844 v125 v135 k0_t22) a + S1x1x16.size a ≤ S2x64x512.size a := fun v93 v103 k0_t19 v125 v135 k0_hw12 k0_t22 k0_h5 => k0_hw12.2.2.2.2.1.2.2.2.2.2.2.2.2.1 k0_t22 k0_h5
theorem k0_off845_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off845 v125 v135 k0_t22) a + S1x1x16.size a ≤ S2x64x512.size a := fun v93 v103 k0_t19 v125 v135 k0_hw12 k0_t22 k0_h5 => k0_hw12.2.2.2.2.1.2.2.2.2.2.2.2.2.2.1 k0_t22 k0_h5
theorem k0_off846_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off846 v125 v135 k0_t22) a + S1x1x16.size a ≤ S2x64x512.size a := fun v93 v103 k0_t19 v125 v135 k0_hw12 k0_t22 k0_h5 => k0_hw12.2.2.2.2.1.2.2.2.2.2.2.2.2.2.2.1 k0_t22 k0_h5
theorem k0_off847_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off847 v125 v135 k0_t22) a + S1x1x16.size a ≤ S2x64x512.size a := fun v93 v103 k0_t19 v125 v135 k0_hw12 k0_t22 k0_h5 => k0_hw12.2.2.2.2.1.2.2.2.2.2.2.2.2.2.2.2.1 k0_t22 k0_h5
theorem k0_off848_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off848 v125 v135 k0_t22) a + S1x1x16.size a ≤ S2x64x512.size a := fun v93 v103 k0_t19 v125 v135 k0_hw12 k0_t22 k0_h5 => k0_hw12.2.2.2.2.1.2.2.2.2.2.2.2.2.2.2.2.2.1 k0_t22 k0_h5
theorem k0_off849_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off849 v125 v135 k0_t22) a + S1x1x16.size a ≤ S2x64x512.size a := fun v93 v103 k0_t19 v125 v135 k0_hw12 k0_t22 k0_h5 => k0_hw12.2.2.2.2.1.2.2.2.2.2.2.2.2.2.2.2.2.2.1 k0_t22 k0_h5
theorem k0_off850_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off850 v125 v135 k0_t22) a + S1x1x16.size a ≤ S2x64x512.size a := fun v93 v103 k0_t19 v125 v135 k0_hw12 k0_t22 k0_h5 => k0_hw12.2.2.2.2.1.2.2.2.2.2.2.2.2.2.2.2.2.2.2.1 k0_t22 k0_h5
theorem k0_off851_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off851 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.1 k0_t22 k0_h5
theorem k0_off852_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off852 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.1 k0_t22 k0_h5
theorem k0_off853_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off853 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.1 k0_t22 k0_h5
theorem k0_off854_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off854 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.1 k0_t22 k0_h5
theorem k0_off855_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off855 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.1 k0_t22 k0_h5
theorem k0_off856_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off856 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.1 k0_t22 k0_h5
theorem k0_off857_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off857 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.1 k0_t22 k0_h5
theorem k0_off858_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off858 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.1 k0_t22 k0_h5
theorem k0_off859_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off859 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.1 k0_t22 k0_h5
theorem k0_off860_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off860 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.1 k0_t22 k0_h5
theorem k0_off861_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off861 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.2.1 k0_t22 k0_h5
theorem k0_off862_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off862 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.2.2.1 k0_t22 k0_h5
theorem k0_off863_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off863 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.2.2.2.1 k0_t22 k0_h5
theorem k0_off864_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off864 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.2.2.2.2.1 k0_t22 k0_h5
theorem k0_off865_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off865 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.2.2.2.2.2.1 k0_t22 k0_h5
theorem k0_off866_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off866 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.2.2.2.2.2.2.1 k0_t22 k0_h5
theorem k0_off867_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off867 v125 v135 k0_t22) a + S1x1x16.size a ≤ S2x64x512.size a := fun v93 v103 k0_t19 v125 v135 k0_hw12 k0_t22 k0_h5 => k0_hw12.2.2.2.2.1.2.2.2.2.2.2.2.2.2.2.2.2.2.2.2.2.2.2.2.2.2.2.2.2.2.2.2.2.2.2.2 k0_t22 k0_h5
theorem k0_off868_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off868 v125 v135 k0_t22) a + S1x1x16.size a ≤ S2x64x512.size a := fun v93 v103 k0_t19 v125 v135 k0_hw12 k0_t22 k0_h5 => k0_hw12.2.2.2.2.2.1.1 k0_t22 k0_h5
theorem k0_off869_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off869 v125 v135 k0_t22) a + S1x1x16.size a ≤ S2x64x512.size a := fun v93 v103 k0_t19 v125 v135 k0_hw12 k0_t22 k0_h5 => k0_hw12.2.2.2.2.2.1.2.1 k0_t22 k0_h5
theorem k0_off870_inb : ∀ (v93 : BitVec 32) (v103 : BitVec 32) (k0_t19 : Fin (k0_t19_loop v93 v103).trips) (v125 : BitVec 32) (v135 : BitVec 32) (k0_hw12 : k0_chk12 v93 v103 k0_t19 v125 v135) (k0_t22 : Fin (k0_t22_loop v125 v135).trips), ∀ (k0_h5 : k0_cond5 v125 v135 = 1#1), ∀ a, (k0_off870 v125 v135 k0_t22) a + S1x1x16.size a ≤ S2x64x512.size a := fun v93 v103 k0_t19 v125 v135 k0_hw12 k0_t22 k0_h5 => k0_hw12.2.2.2.2.2.1.2.2.1 k0_t22 k0_h5
theorem k0_t23_ok : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), (k0_t23_loop v125 v135).OK := fun v93 v103 k0_t19 v125 v135 k0_hw12 k0_h5 => k0_hw12.2.2.2.2.2.1.2.2.2.1 k0_h5
theorem k0_off871_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off871 v125 v135 k0_t23) a + S1x1x16.size a ≤ S2x64x512.size a := fun v93 v103 k0_t19 v125 v135 k0_hw12 k0_t23 k0_h5 => k0_hw12.2.2.2.2.2.1.2.2.2.2.1 k0_t23 k0_h5
theorem k0_off872_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off872 v125 v135 k0_t23) a + S1x1x16.size a ≤ S2x64x512.size a := fun v93 v103 k0_t19 v125 v135 k0_hw12 k0_t23 k0_h5 => k0_hw12.2.2.2.2.2.1.2.2.2.2.2.1 k0_t23 k0_h5
theorem k0_off873_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off873 v125 v135 k0_t23) a + S1x1x16.size a ≤ S2x64x512.size a := fun v93 v103 k0_t19 v125 v135 k0_hw12 k0_t23 k0_h5 => k0_hw12.2.2.2.2.2.1.2.2.2.2.2.2.1 k0_t23 k0_h5
theorem k0_off874_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off874 v125 v135 k0_t23) a + S1x1x16.size a ≤ S2x64x512.size a := fun v93 v103 k0_t19 v125 v135 k0_hw12 k0_t23 k0_h5 => k0_hw12.2.2.2.2.2.1.2.2.2.2.2.2.2.1 k0_t23 k0_h5
theorem k0_off875_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off875 v125 v135 k0_t23) a + S1x1x16.size a ≤ S2x64x512.size a := fun v93 v103 k0_t19 v125 v135 k0_hw12 k0_t23 k0_h5 => k0_hw12.2.2.2.2.2.1.2.2.2.2.2.2.2.2.1 k0_t23 k0_h5
theorem k0_off876_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off876 v125 v135 k0_t23) a + S1x1x16.size a ≤ S2x64x512.size a := fun v93 v103 k0_t19 v125 v135 k0_hw12 k0_t23 k0_h5 => k0_hw12.2.2.2.2.2.1.2.2.2.2.2.2.2.2.2.1 k0_t23 k0_h5
theorem k0_off877_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off877 v125 v135 k0_t23) a + S1x1x16.size a ≤ S2x64x512.size a := fun v93 v103 k0_t19 v125 v135 k0_hw12 k0_t23 k0_h5 => k0_hw12.2.2.2.2.2.1.2.2.2.2.2.2.2.2.2.2.1 k0_t23 k0_h5
theorem k0_off878_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off878 v125 v135 k0_t23) a + S1x1x16.size a ≤ S2x64x512.size a := fun v93 v103 k0_t19 v125 v135 k0_hw12 k0_t23 k0_h5 => k0_hw12.2.2.2.2.2.1.2.2.2.2.2.2.2.2.2.2.2.1 k0_t23 k0_h5
theorem k0_off879_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off879 v125 v135 k0_t23) a + S1x1x16.size a ≤ S2x64x512.size a := fun v93 v103 k0_t19 v125 v135 k0_hw12 k0_t23 k0_h5 => k0_hw12.2.2.2.2.2.1.2.2.2.2.2.2.2.2.2.2.2.2.1 k0_t23 k0_h5
theorem k0_off880_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off880 v125 v135 k0_t23) a + S1x1x16.size a ≤ S2x64x512.size a := fun v93 v103 k0_t19 v125 v135 k0_hw12 k0_t23 k0_h5 => k0_hw12.2.2.2.2.2.1.2.2.2.2.2.2.2.2.2.2.2.2.2.1 k0_t23 k0_h5
theorem k0_off881_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off881 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.1 k0_t23 k0_h5
theorem k0_off882_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off882 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.1 k0_t23 k0_h5
theorem k0_off883_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off883 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.1 k0_t23 k0_h5
theorem k0_off884_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off884 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.1 k0_t23 k0_h5
theorem k0_off885_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off885 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.1 k0_t23 k0_h5
theorem k0_off886_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off886 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.1 k0_t23 k0_h5
theorem k0_off887_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off887 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.1 k0_t23 k0_h5
theorem k0_off888_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off888 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.1 k0_t23 k0_h5
theorem k0_off889_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off889 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.1 k0_t23 k0_h5
theorem k0_off890_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off890 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.1 k0_t23 k0_h5
theorem k0_off891_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off891 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.1 k0_t23 k0_h5
theorem k0_off892_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off892 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.2.1 k0_t23 k0_h5
theorem k0_off893_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off893 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.2.2.1 k0_t23 k0_h5
theorem k0_off894_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off894 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.2.2.2.1 k0_t23 k0_h5
theorem k0_off895_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off895 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.2.2.2.2.1 k0_t23 k0_h5
theorem k0_off896_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off896 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.2.2.2.2.2.1 k0_t23 k0_h5
theorem k0_off897_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off897 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.2.2.2.2.2.2.1 k0_t23 k0_h5
theorem k0_off898_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off898 v125 v135 k0_t23) a + S1x1x16.size a ≤ S2x64x512.size a := fun v93 v103 k0_t19 v125 v135 k0_hw12 k0_t23 k0_h5 => k0_hw12.2.2.2.2.2.1.2.2.2.2.2.2.2.2.2.2.2.2.2.2.2.2.2.2.2.2.2.2.2.2.2.2.2.2.2.2.2 k0_t23 k0_h5
theorem k0_off899_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off899 v125 v135 k0_t23) a + S1x1x16.size a ≤ S2x64x512.size a := fun v93 v103 k0_t19 v125 v135 k0_hw12 k0_t23 k0_h5 => k0_hw12.2.2.2.2.2.2.1.1 k0_t23 k0_h5
theorem k0_off900_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off900 v125 v135 k0_t23) a + S1x1x16.size a ≤ S2x64x512.size a := fun v93 v103 k0_t19 v125 v135 k0_hw12 k0_t23 k0_h5 => k0_hw12.2.2.2.2.2.2.1.2.1 k0_t23 k0_h5
theorem k0_off901_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off901 v125 v135 k0_t23) a + S1x1x16.size a ≤ S2x64x512.size a := fun v93 v103 k0_t19 v125 v135 k0_hw12 k0_t23 k0_h5 => k0_hw12.2.2.2.2.2.2.1.2.2.1 k0_t23 k0_h5
theorem k0_off902_inb : ∀ (v93 : BitVec 32) (v103 : BitVec 32) (k0_t19 : Fin (k0_t19_loop v93 v103).trips) (v125 : BitVec 32) (v135 : BitVec 32) (k0_hw12 : k0_chk12 v93 v103 k0_t19 v125 v135) (k0_t23 : Fin (k0_t23_loop v125 v135).trips), ∀ (k0_h5 : k0_cond5 v125 v135 = 1#1), ∀ a, (k0_off902 v125 v135 k0_t23) a + S1x1x16.size a ≤ S2x64x512.size a := fun v93 v103 k0_t19 v125 v135 k0_hw12 k0_t23 k0_h5 => k0_hw12.2.2.2.2.2.2.1.2.2.2.1 k0_t23 k0_h5
theorem k0_off903_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off903 v93 v103 k0_t19) a + S1x16.size a ≤ S16x512.size a := fun v93 v103 k0_t19 v125 v135 k0_hw12 k0_h5 => k0_hw12.2.2.2.2.2.2.1.2.2.2.2.1 k0_h5
theorem k0_off904_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off904 v93 v103 k0_t19) a + S1x16.size a ≤ S16x512.size a := fun v93 v103 k0_t19 v125 v135 k0_hw12 k0_h5 => k0_hw12.2.2.2.2.2.2.1.2.2.2.2.2.1 k0_h5
theorem k0_off905_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off905 v93 v103 k0_t19) a + S1x16.size a ≤ S16x512.size a := fun v93 v103 k0_t19 v125 v135 k0_hw12 k0_h5 => k0_hw12.2.2.2.2.2.2.1.2.2.2.2.2.2.1 k0_h5
theorem k0_off906_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off906 v93 v103 k0_t19) a + S1x16.size a ≤ S16x512.size a := fun v93 v103 k0_t19 v125 v135 k0_hw12 k0_h5 => k0_hw12.2.2.2.2.2.2.1.2.2.2.2.2.2.2.1 k0_h5
theorem k0_off907_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off907 v93 v103 k0_t19) a + S1x16.size a ≤ S16x512.size a := fun v93 v103 k0_t19 v125 v135 k0_hw12 k0_h5 => k0_hw12.2.2.2.2.2.2.1.2.2.2.2.2.2.2.2.1 k0_h5
theorem k0_off908_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off908 v93 v103 k0_t19) a + S1x16.size a ≤ S16x512.size a := fun v93 v103 k0_t19 v125 v135 k0_hw12 k0_h5 => k0_hw12.2.2.2.2.2.2.1.2.2.2.2.2.2.2.2.2.1 k0_h5
theorem k0_off909_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off909 v93 v103 k0_t19) a + S1x16.size a ≤ S16x512.size a := fun v93 v103 k0_t19 v125 v135 k0_hw12 k0_h5 => k0_hw12.2.2.2.2.2.2.1.2.2.2.2.2.2.2.2.2.2.1 k0_h5
theorem k0_off910_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off910 v93 v103 k0_t19) a + S1x16.size a ≤ S16x512.size a := fun v93 v103 k0_t19 v125 v135 k0_hw12 k0_h5 => k0_hw12.2.2.2.2.2.2.1.2.2.2.2.2.2.2.2.2.2.2.1 k0_h5
theorem k0_off911_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off911 v93 v103 k0_t19) a + S1x16.size a ≤ S16x512.size a := fun v93 v103 k0_t19 v125 v135 k0_hw12 k0_h5 => k0_hw12.2.2.2.2.2.2.1.2.2.2.2.2.2.2.2.2.2.2.2.1 k0_h5
theorem k0_off912_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off912 v93 v103 k0_t19) a + S1x16.size a ≤ S16x512.size a := fun v93 v103 k0_t19 v125 v135 k0_hw12 k0_h5 => k0_hw12.2.2.2.2.2.2.1.2.2.2.2.2.2.2.2.2.2.2.2.2.1 k0_h5
theorem k0_off913_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off913 v93 v103 k0_t19) a + S1x16.size a ≤ S16x512.size a := fun v93 v103 k0_t19 v125 v135 k0_hw12 k0_h5 => k0_hw12.2.2.2.2.2.2.1.2.2.2.2.2.2.2.2.2.2.2.2.2.2.1 k0_h5
theorem k0_off914_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off914 v93 v103 k0_t19) a + S1x16.size a ≤ S16x512.size a := fun v93 v103 k0_t19 v125 v135 k0_hw12 k0_h5 => k0_hw12.2.2.2.2.2.2.1.2.2.2.2.2.2.2.2.2.2.2.2.2.2.2.1 k0_h5
theorem k0_off915_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off915 v93 v103 k0_t19) a + S1x16.size a ≤ S16x512.size a := fun v93 v103 k0_t19 v125 v135 k0_hw12 k0_h5 => k0_hw12.2.2.2.2.2.2.1.2.2.2.2.2.2.2.2.2.2.2.2.2.2.2.2.1 k0_h5
theorem k0_off916_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off916 v93 v103 k0_t19) a + S1x16.size a ≤ S16x512.size a := fun v93 v103 k0_t19 v125 v135 k0_hw12 k0_h5 => k0_hw12.2.2.2.2.2.2.1.2.2.2.2.2.2.2.2.2.2.2.2.2.2.2.2.2.1 k0_h5
theorem k0_off917_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off917 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.1 k0_h5
theorem k0_off918_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off918 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.1 k0_h5
theorem k0_off919_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off919 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.1 k0_h5
theorem k0_off920_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off920 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.1 k0_h5
theorem k0_off921_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off921 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.1 k0_h5
theorem k0_off922_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off922 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.1 k0_h5
theorem k0_off923_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off923 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.1 k0_h5
theorem k0_off924_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off924 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.2.1 k0_h5
theorem k0_off925_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off925 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.2.2.1 k0_h5
theorem k0_off926_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off926 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.2.2.2.1 k0_h5
theorem k0_off927_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off927 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.2.2.2.2.1 k0_h5
theorem k0_off928_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off928 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.2.2.2.2.2.1 k0_h5
theorem k0_off929_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off929 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.2.2.2.2.2.2.1 k0_h5
theorem k0_off930_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off930 v93 v103 k0_t19) a + S1x16.size a ≤ S16x512.size a := fun v93 v103 k0_t19 v125 v135 k0_hw12 k0_h5 => k0_hw12.2.2.2.2.2.2.1.2.2.2.2.2.2.2.2.2.2.2.2.2.2.2.2.2.2.2.2.2.2.2.2.2.2.2.2.2.2.2 k0_h5
theorem k0_off931_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off931 v93 v103 k0_t19) a + S1x16.size a ≤ S16x512.size a := fun v93 v103 k0_t19 v125 v135 k0_hw12 k0_h5 => k0_hw12.2.2.2.2.2.2.2.1 k0_h5
theorem k0_off932_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off932 v93 v103 k0_t19) a + S1x16.size a ≤ S16x512.size a := fun v93 v103 k0_t19 v125 v135 k0_hw12 k0_h5 => k0_hw12.2.2.2.2.2.2.2.2.1 k0_h5
theorem k0_off933_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off933 v93 v103 k0_t19) a + S1x16.size a ≤ S16x512.size a := fun v93 v103 k0_t19 v125 v135 k0_hw12 k0_h5 => k0_hw12.2.2.2.2.2.2.2.2.2.1 k0_h5
theorem k0_off934_inb : ∀ (v93 : BitVec 32) (v103 : BitVec 32) (k0_t19 : Fin (k0_t19_loop v93 v103).trips) (v125 : BitVec 32) (v135 : BitVec 32) (k0_hw12 : k0_chk12 v93 v103 k0_t19 v125 v135), ∀ (k0_h5 : k0_cond5 v125 v135 = 1#1), ∀ a, (k0_off934 v93 v103 k0_t19) a + S1x16.size a ≤ S16x512.size a := fun v93 v103 k0_t19 v125 v135 k0_hw12 k0_h5 => k0_hw12.2.2.2.2.2.2.2.2.2.2 k0_h5

def k0_cond6 : BitVec 1 :=
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c2_i32_76 : BitVec 32 := 2#32
  let v112 : BitVec 32 := Scalar.addi v76 c2_i32_76
  let c2_i32_77 : BitVec 32 := 2#32
  let v113 : BitVec 1 := Scalar.cmpi .slt v112 c2_i32_77
  let v114 : BitVec 32 := Scalar.extui v113
  let c0_i32_78 : BitVec 32 := 0#32
  let v115 : BitVec 1 := Scalar.cmpi .ne v114 c0_i32_78
  v115

def k0_off935 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_30 : BitVec 32 := 0#32
  let c2_i32_54 : BitVec 32 := 2#32
  let v75 : BitVec 32 := Scalar.muli c0_i32_30 c2_i32_54
  let c1_i32_55 : BitVec 32 := 1#32
  let v76 : BitVec 32 := Scalar.addi v75 c1_i32_55
  let c2_i32_81 : BitVec 32 := 2#32
  let v116 : BitVec 32 := Scalar.addi v76 c2_i32_81
  let c64_i32_82 : BitVec 32 := 64#32
  let v117 : BitVec 32 := Scalar.muli v116 c64_i32_82
  let v118 : BitVec 32 := Scalar.addi v2 v117
  let c0_i32_86 : BitVec 32 := 0#32
  ![v118.toNat, 0]
def k0_off936 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_81_r2 : BitVec 32 := 0#32
  let c0_i32_82_r2 : BitVec 32 := 0#32
  ![v1.toNat, 0, 0]
abbrev grid1 : Pipeline.Grid := ⟨1, ![7], ![false]⟩

def k1_cond1 (i : grid1.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_5 : BitVec 32 := 0#32
  let v16 : BitVec 1 := Scalar.cmpi .ne v15 c0_i32_5
  v16

def k1_cond2 (i : grid1.Coords) : BitVec 1 :=
  let arg0 : BitVec 32 := BitVec.ofNat 32 (i 0).val
  let c0_i32_6 : BitVec 32 := 0#32
  let v17 : BitVec 1 := Scalar.cmpi .sgt arg0 c0_i32_6
  let v18 : BitVec 32 := Scalar.extui v17
  let c0_i32_7 : BitVec 32 := 0#32
  let v19 : BitVec 1 := Scalar.cmpi .ne v18 c0_i32_7
  v19

def cc1_transform_0 (i : grid1.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S32x16x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x512 : Shape := ⟨2, ![32768, 512]⟩
abbrev S32768 : Shape := ⟨1, ![32768]⟩
abbrev S_ : Shape := ⟨0, ![]⟩
abbrev S16x512 : Shape := ⟨2, ![16, 512]⟩
abbrev S32768x1 : Shape := ⟨2, ![32768, 1]⟩
abbrev S16 : Shape := ⟨1, ![16]⟩
abbrev S16x1 : Shape := ⟨2, ![16, 1]⟩

abbrev nBuf : Space → Nat
  | .hbm => 18
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S_, .f32⟩
  | .hbm, ⟨3, _⟩ => ⟨S16x512, .f32⟩
  | .hbm, ⟨4, _⟩ => ⟨S32768x1, .i32⟩
  | .hbm, ⟨5, _⟩ => ⟨S16x512, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S16, .f32⟩
  | .hbm, ⟨10, _⟩ => ⟨S32768x1, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x1, .f32⟩
  | .hbm, ⟨16, _⟩ => ⟨S16x512, .f32⟩
  | .hbm, ⟨17, _⟩ => ⟨S16x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Base.lean ====
/-
  The names the proof is written in: the program as the launch theorem sees it, the resource algebra, and the arrays a
  tile reads and writes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the staging buffers' rounds library, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## A tile and its arrays -/

abbrev cV (L : grid0.Coords) : Fin τ.nSC := (L 0).castLE hcore0
abbrev jV (L : grid0.Coords) : Fin τ.nSub := (L 1).castLE hsub0

/-- The thread of the tile at coordinates `L`. -/
abbrev thr (d : Dev nD) (L : grid0.Coords) : Thread nD τ := V d (cV L) (jV L)

abbrev xM : Memref sig .scVector .hbm S32768x512 .f32 := Memref.whole main_arg0_scv
abbrev iM : Memref sig .scVector .hbm S32768 .i32 := Memref.whole main_arg1_scv
abbrev oM : Memref sig .scVector .hbm S32x16x512 .f32 := Memref.whole main_v0_0_scv
abbrev cM : Memref sig .scVector .hbm S32x16 .f32 := Memref.whole main_v0_1_scv
abbrev idM : Memref sig .scVector .vmem S128 .i32 := Memref.whole cc0_scratch0
abbrev xbM : Memref sig .scVector .vmem S2x64x512 .f32 := Memref.whole cc0_scratch1
abbrev paM : Memref sig .scVector .vmem S16x512 .f32 := Memref.whole cc0_scratch2
abbrev cnM : Memref sig .scVector .vmem S16 .f32 := Memref.whole cc0_scratch3

abbrev hxM : xM.IsWhole := Memref.isWhole_whole _
abbrev hiM : iM.IsWhole := Memref.isWhole_whole _
abbrev hoM : oM.IsWhole := Memref.isWhole_whole _
abbrev hcM : cM.IsWhole := Memref.isWhole_whole _
abbrev hidM : idM.IsWhole := Memref.isWhole_whole _
abbrev hxbM : xbM.IsWhole := Memref.isWhole_whole _
abbrev hpaM : paM.IsWhole := Memref.isWhole_whole _
abbrev hcnM : cnM.IsWhole := Memref.isWhole_whole _

end Cert.Proof.Seg

end
-- ==== Proof.Words.lean ====
/-
  The words a tile computes, as natural numbers: the part of a segment that lies in one chunk, the number of four-row
  steps it takes and the rows left over.
-/
module

public import proofs.«01_k».proof.Proof.Base

@[expose] public section

noncomputable section

namespace Cert.Proof.Seg

open Cert.KernelIdeal Cert.KernelIdeal.Gen
open Idealize.ShloMosaic

/-! ## Words from natural numbers -/

theorem of_toNat (v : BitVec 32) : v = BitVec.ofNat 32 v.toNat := by simp

/-- A bound of a segment, clipped to a chunk. -/
abbrev clip (o v : BitVec 32) : BitVec 32 := Scalar.minsi 64#32 (Scalar.maxsi 0#32 (Scalar.subi v o))

theorem clip_zero (v : BitVec 32) (hv : v.toNat ≤ 128) : (clip 0#32 v).toNat = min 64 v.toNat := by
  have h : ∀ n : Fin 129, (clip 0#32 (BitVec.ofNat 32 n.val)).toNat = min 64 n.val := by decide
  rw [of_toNat v]
  have := h ⟨v.toNat, by omega⟩
  simpa using this

theorem clip_one (v : BitVec 32) (hv : v.toNat ≤ 128) : (clip 64#32 v).toNat = min 64 (v.toNat - 64) := by
  have h : ∀ n : Fin 129, (clip 64#32 (BitVec.ofNat 32 n.val)).toNat = min 64 (n.val - 64) := by decide
  rw [of_toNat v]
  have := h ⟨v.toNat, by omega⟩
  simpa using this

/-- Whether a segment has rows in a chunk. -/
theorem some_rows (lo hi : BitVec 32) (hlo : lo.toNat ≤ 64) (hhi : hi.toNat ≤ 64) :
    (Scalar.cmpi .ne (Scalar.extui (Scalar.cmpi .sgt hi lo)) 0#32 = 1#1) ↔ lo.toNat < hi.toNat := by
  have h : ∀ a b : Fin 65, (Scalar.cmpi .ne (Scalar.extui (Scalar.cmpi .sgt (BitVec.ofNat 32 b.val) (BitVec.ofNat 32 a.val))) 0#32 = 1#1) ↔ a.val < b.val := by decide
  rw [of_toNat lo, of_toNat hi]
  have := h ⟨lo.toNat, by omega⟩ ⟨hi.toNat, by omega⟩
  simpa using this

/-! ## The loops over the rows of a segment -/

theorem divsi_one (n : Fin 65) : Scalar.divsi (BitVec.ofNat 32 n.val) 1#32 = BitVec.ofNat 32 n.val := by
  revert n; decide

theorem trips_self (a : BitVec 32) : Scf.trips a a 1#32 = 0 := by
  unfold Scf.trips
  have : (1#32 : BitVec 32).toInt = 1 := by decide
  rw [this]; omega

theorem ok_self (a : BitVec 32) : Scf.OK a a 1#32 := by
  have := trips_self a
  have h1 : (1#32 : BitVec 32).toInt = 1 := by decide
  have := a.toInt_lt (w := 32)
  unfold Scf.OK
  rw [trips_self, h1]
  constructor <;> omega

theorem toInt_small (a : BitVec 32) (h : a.toNat ≤ 64) : a.toInt = a.toNat := by
  rw [BitVec.toInt_eq_toNat_cond]; split <;> omega

theorem trips_up (a b : BitVec 32) (hab : a.toNat ≤ b.toNat) (hb : b.toNat ≤ 64) : Scf.trips a b 1#32 = b.toNat - a.toNat := by
  have h1 : (1#32 : BitVec 32).toInt = 1 := by decide
  unfold Scf.trips
  rw [h1, toInt_small a (by omega), toInt_small b hb]
  omega

theorem ok_up (a b : BitVec 32) (hab : a.toNat ≤ b.toNat) (hb : b.toNat ≤ 64) : Scf.OK a b 1#32 := by
  have h1 : (1#32 : BitVec 32).toInt = 1 := by decide
  have := trips_up a b hab hb
  unfold Scf.OK
  rw [this, h1, toInt_small a (by omega)]
  constructor <;> omega

/-- The number of four-row steps, as a word. -/
abbrev quads (lo hi : BitVec 32) : BitVec 32 := Scalar.shrui (Scalar.subi hi lo) 2#32
/-- The first row the four-row steps leave over, as a word. -/
abbrev rest (lo hi : BitVec 32) : BitVec 32 := Scalar.addi lo (Scalar.muli (quads lo hi) 4#32)

/-- The loop of four-row steps, the rest the unrolling leaves of it, the loop over the rows left over, and its rest. -/
abbrev loopA (lo hi : BitVec 32) : Scf.Loop 32 :=
  ⟨0#32, Scalar.addi 0#32 (Scalar.muli (Scalar.divsi (Scalar.subi (quads lo hi) 0#32) 1#32) 1#32), 1#32⟩
abbrev loopB (lo hi : BitVec 32) : Scf.Loop 32 :=
  ⟨Scalar.addi 0#32 (Scalar.muli (Scalar.divsi (Scalar.subi (quads lo hi) 0#32) 1#32) 1#32), Scalar.addi 0#32 (Scalar.subi (quads lo hi) 0#32), 1#32⟩
abbrev loopC (lo hi : BitVec 32) : Scf.Loop 32 :=
  ⟨rest lo hi, Scalar.addi (rest lo hi) (Scalar.muli (Scalar.divsi (Scalar.subi hi (rest lo hi)) 1#32) 1#32), 1#32⟩
abbrev loopD (lo hi : BitVec 32) : Scf.Loop 32 :=
  ⟨Scalar.addi (rest lo hi) (Scalar.muli (Scalar.divsi (Scalar.subi hi (rest lo hi)) 1#32) 1#32), Scalar.addi (rest lo hi) (Scalar.subi hi (rest lo hi)), 1#32⟩

section
variable {lo hi : BitVec 32} (hlt : lo.toNat < hi.toNat) (hhi : hi.toNat ≤ 64)
include hlt hhi

theorem quads_eq : quads lo hi = BitVec.ofNat 32 ((hi.toNat - lo.toNat) / 4) := by
  have h : ∀ n : Fin 65, Scalar.shrui (BitVec.ofNat 32 n.val) 2#32 = BitVec.ofNat 32 (n.val / 4) := by decide
  have e : Scalar.subi hi lo = BitVec.ofNat 32 (hi.toNat - lo.toNat) := by
    apply BitVec.eq_of_toNat_eq
    show (hi - lo).toNat = _
    rw [BitVec.toNat_sub, BitVec.toNat_ofNat]
    omega
  have := h ⟨hi.toNat - lo.toNat, by omega⟩
  unfold quads
  rw [e]; exact this

theorem rest_toNat : (rest lo hi).toNat = lo.toNat + 4 * ((hi.toNat - lo.toNat) / 4) := by
  unfold rest
  rw [quads_eq hlt hhi]
  show (lo + BitVec.ofNat 32 _ * 4#32).toNat = _
  rw [BitVec.toNat_add, BitVec.toNat_mul, BitVec.toNat_ofNat, BitVec.toNat_ofNat]
  omega

theorem quadsUp_eq : Scalar.addi 0#32 (Scalar.muli (Scalar.divsi (Scalar.subi (quads lo hi) 0#32) 1#32) 1#32)
    = BitVec.ofNat 32 ((hi.toNat - lo.toNat) / 4) := by
  rw [quads_eq hlt hhi]
  have e : Scalar.subi (BitVec.ofNat 32 ((hi.toNat - lo.toNat) / 4)) 0#32 = BitVec.ofNat 32 ((hi.toNat - lo.toNat) / 4) := by
    show BitVec.ofNat 32 _ - 0#32 = _
    simp
  have := divsi_one ⟨(hi.toNat - lo.toNat) / 4, by omega⟩
  rw [e, this]
  show 0#32 + BitVec.ofNat 32 _ * 1#32 = _
  simp

theorem quadsTo_eq : Scalar.addi 0#32 (Scalar.subi (quads lo hi) 0#32) = BitVec.ofNat 32 ((hi.toNat - lo.toNat) / 4) := by
  rw [quads_eq hlt hhi]
  show 0#32 + (BitVec.ofNat 32 _ - 0#32) = _
  simp

theorem restUp_eq : Scalar.addi (rest lo hi) (Scalar.muli (Scalar.divsi (Scalar.subi hi (rest lo hi)) 1#32) 1#32) = hi := by
  have hr := rest_toNat hlt hhi
  have e : Scalar.subi hi (rest lo hi) = BitVec.ofNat 32 (hi.toNat - (rest lo hi).toNat) := by
    apply BitVec.eq_of_toNat_eq
    show (hi - rest lo hi).toNat = _
    rw [BitVec.toNat_sub, BitVec.toNat_ofNat]
    omega
  have hd : Scalar.divsi (BitVec.ofNat 32 (hi.toNat - (rest lo hi).toNat)) 1#32 = BitVec.ofNat 32 (hi.toNat - (rest lo hi).toNat) :=
    divsi_one ⟨hi.toNat - (rest lo hi).toNat, by omega⟩
  rw [e, hd]
  apply BitVec.eq_of_toNat_eq
  show (rest lo hi + BitVec.ofNat 32 _ * 1#32).toNat = _
  rw [BitVec.mul_one, BitVec.toNat_add, BitVec.toNat_ofNat]
  omega

theorem restTo_eq : Scalar.addi (rest lo hi) (Scalar.subi hi (rest lo hi)) = hi := by
  have hr := rest_toNat hlt hhi
  apply BitVec.eq_of_toNat_eq
  show (rest lo hi + (hi - rest lo hi)).toNat = _
  rw [BitVec.toNat_add, BitVec.toNat_sub]
  omega

theorem tripsA : (loopA lo hi).trips = (hi.toNat - lo.toNat) / 4 := by
  show Scf.trips 0#32 (Scalar.addi 0#32 _) 1#32 = _
  rw [quadsUp_eq hlt hhi, trips_up _ _ (Nat.zero_le _) (by rw [BitVec.toNat_ofNat]; omega), BitVec.toNat_ofNat]
  show _ - 0 = _
  omega

theorem okA : (loopA lo hi).OK := by
  show Scf.OK 0#32 (Scalar.addi 0#32 _) 1#32
  rw [quadsUp_eq hlt hhi]
  exact ok_up _ _ (Nat.zero_le _) (by rw [BitVec.toNat_ofNat]; omega)

theorem tripsB : (loopB lo hi).trips = 0 := by
  show Scf.trips (Scalar.addi 0#32 (Scalar.muli _ _)) (Scalar.addi 0#32 (Scalar.subi _ _)) 1#32 = _
  rw [quadsUp_eq hlt hhi, quadsTo_eq hlt hhi]; exact trips_self _

theorem okB : (loopB lo hi).OK := by
  show Scf.OK (Scalar.addi 0#32 (Scalar.muli _ _)) (Scalar.addi 0#32 (Scalar.subi _ _)) 1#32
  rw [quadsUp_eq hlt hhi, quadsTo_eq hlt hhi]; exact ok_self _

theorem tripsC : (loopC lo hi).trips = (hi.toNat - lo.toNat) % 4 := by
  have hr := rest_toNat hlt hhi
  show Scf.trips (rest lo hi) (Scalar.addi (rest lo hi) _) 1#32 = _
  rw [restUp_eq hlt hhi, trips_up _ _ (by omega) hhi]
  omega

theorem okC : (loopC lo hi).OK := by
  have hr := rest_toNat hlt hhi
  show Scf.OK (rest lo hi) (Scalar.addi (rest lo hi) _) 1#32
  rw [restUp_eq hlt hhi]
  exact ok_up _ _ (by omega) hhi

theorem tripsD : (loopD lo hi).trips = 0 := by
  show Scf.trips (Scalar.addi (rest lo hi) (Scalar.muli _ _)) (Scalar.addi (rest lo hi) (Scalar.subi _ _)) 1#32 = _
  rw [restUp_eq hlt hhi, restTo_eq hlt hhi]; exact trips_self _

theorem okD : (loopD lo hi).OK := by
  show Scf.OK (Scalar.addi (rest lo hi) (Scalar.muli _ _)) (Scalar.addi (rest lo hi) (Scalar.subi _ _)) 1#32
  rw [restUp_eq hlt hhi, restTo_eq hlt hhi]; exact ok_self _

/-- The first row of a four-row step. -/
theorem rowA (t : ℕ) (ht : t < (loopA lo hi).trips) :
    (Scalar.indexCast (Scalar.addi lo (Scalar.muli (Scf.iv 0#32 1#32 t) 4#32))).toNat = lo.toNat + 4 * t := by
  rw [tripsA hlt hhi] at ht
  show (lo + (0#32 + BitVec.ofNat 32 t * 1#32) * 4#32).toNat = _
  rw [BitVec.mul_one, BitVec.zero_add, BitVec.toNat_add, BitVec.toNat_mul, BitVec.toNat_ofNat, BitVec.toNat_ofNat]
  omega

/-- The other rows of a four-row step. -/
theorem rowA' (t : ℕ) (ht : t < (loopA lo hi).trips) (r : ℕ) (hr : r < 4) (c : BitVec 32) (hc : c = BitVec.ofNat 32 r) :
    (Scalar.indexCast (Scalar.addi (Scalar.addi lo (Scalar.muli (Scf.iv 0#32 1#32 t) 4#32)) c)).toNat = lo.toNat + 4 * t + r := by
  subst hc
  rw [tripsA hlt hhi] at ht
  show (lo + (0#32 + BitVec.ofNat 32 t * 1#32) * 4#32 + BitVec.ofNat 32 r).toNat = _
  rw [BitVec.mul_one, BitVec.zero_add, BitVec.toNat_add, BitVec.toNat_add, BitVec.toNat_mul, BitVec.toNat_ofNat, BitVec.toNat_ofNat, BitVec.toNat_ofNat]
  omega

/-- A row left over. -/
theorem rowC (t : ℕ) (ht : t < (loopC lo hi).trips) :
    (Scalar.indexCast (Scf.iv (rest lo hi) 1#32 t)).toNat = lo.toNat + 4 * ((hi.toNat - lo.toNat) / 4) + t := by
  have hr := rest_toNat hlt hhi
  rw [tripsC hlt hhi] at ht
  show (rest lo hi + BitVec.ofNat 32 t * 1#32).toNat = _
  rw [BitVec.mul_one, BitVec.toNat_add, BitVec.toNat_ofNat]
  omega

end

/-- Sixteen lanes of a row of a chunk buffer. -/
theorem inb3 {off : Fin 3 → ℕ} (h0 : off 0 + 1 ≤ 2) (h1 : off 1 + 1 ≤ 64) (h2 : off 2 + 16 ≤ 512) (a : Fin 3) :
    off a + S1x1x16.size a ≤ S2x64x512.size a := by
  match a with
  | 0 => exact h0
  | 1 => exact h1
  | 2 => exact h2

/-- Sixteen lanes of a row of the sums. -/
theorem inb2 {off : Fin 2 → ℕ} (h0 : off 0 + 1 ≤ 16) (h1 : off 1 + 16 ≤ 512) (a : Fin 2) :
    off a + S1x16.size a ≤ S16x512.size a := by
  match a with
  | 0 => exact h0
  | 1 => exact h1

end Cert.Proof.Seg

end
-- ==== Proof.Checks.lean ====
/-
  The evidence the kernel assumes at each segment of a chunk — its loops' operands and every row it reads or writes — from
  the bounds of the segment.
-/
module

public import proofs.«01_k».proof.Proof.Words

@[expose] public section

noncomputable section

namespace Cert.Proof.Seg

open Cert.KernelIdeal Cert.KernelIdeal.Gen
open Idealize.ShloMosaic

theorem clip_zero_le {v : BitVec 32} (hv : v.toNat ≤ 128) : (clip 0#32 v).toNat ≤ 64 := by rw [clip_zero v hv]; omega
theorem clip_one_le {v : BitVec 32} (hv : v.toNat ≤ 128) : (clip 64#32 v).toNat ≤ 64 := by rw [clip_one v hv]; omega

theorem rows_zero {v w : BitVec 32} (hv : v.toNat ≤ 128) (hw : w.toNat ≤ 128) (h : k0_cond1 v w = 1#1) :
    (clip 0#32 v).toNat < (clip 0#32 w).toNat :=
  (some_rows (clip 0#32 v) (clip 0#32 w) (clip_zero_le hv) (clip_zero_le hw)).mp h

theorem rows_one {v w : BitVec 32} (hv : v.toNat ≤ 128) (hw : w.toNat ≤ 128) (h : k0_cond4 v w = 1#1) :
    (clip 64#32 v).toNat < (clip 64#32 w).toNat :=
  (some_rows (clip 64#32 v) (clip 64#32 w) (clip_one_le hv) (clip_one_le hw)).mp h

section
variable {lo hi : BitVec 32} (hlt : lo.toNat < hi.toNat) (hhi : hi.toNat ≤ 64)
include hlt hhi

theorem ltA (t : ℕ) (ht : t < (loopA lo hi).trips) :
    (Scalar.indexCast (Scalar.addi lo (Scalar.muli (Scf.iv 0#32 1#32 t) 4#32))).toNat + 1 ≤ 64 := by
  rw [rowA hlt hhi t ht]; rw [tripsA hlt hhi] at ht; omega

theorem ltA' (t : ℕ) (ht : t < (loopA lo hi).trips) (r : Fin 3) :
    (Scalar.indexCast (Scalar.addi (Scalar.addi lo (Scalar.muli (Scf.iv 0#32 1#32 t) 4#32)) (BitVec.ofNat 32 (1 + r.val)))).toNat + 1 ≤ 64 := by
  rw [rowA' hlt hhi t ht (1 + r.val) (by omega) _ rfl]; rw [tripsA hlt hhi] at ht; omega

theorem ltC (t : ℕ) (ht : t < (loopC lo hi).trips) : (Scalar.indexCast (Scf.iv (rest lo hi) 1#32 t)).toNat + 1 ≤ 64 := by
  rw [rowC hlt hhi t ht]; rw [tripsC hlt hhi] at ht; omega

theorem noB {P : Prop} (t : ℕ) (ht : t < (loopB lo hi).trips) : P := by rw [tripsB hlt hhi] at ht; omega
theorem noD {P : Prop} (t : ℕ) (ht : t < (loopD lo hi).trips) : P := by rw [tripsD hlt hhi] at ht; omega

end

theorem chk6 (v52 v62 : BitVec 32) (k0_t4 : Fin (k0_t4_loop v52 v62).trips) (v125 v135 : BitVec 32) (hv : v125.toNat ≤ 128)
    (hw : v135.toNat ≤ 128) (hs : (Scf.iv v52 1#32 k0_t4).toNat < 16) : k0_chk6 v52 v62 k0_t4 v125 v135 := by
  have hb := clip_zero_le hw
  have e := fun h => rows_zero hv hw h
  repeat' apply And.intro
  · exact fun h => okA (e h) hb
  iterate 32
    exact fun t h => inb3 (Nat.le_of_ble_eq_true rfl) (ltA (e h) hb t.val t.isLt) (Nat.le_of_ble_eq_true rfl)
    exact fun t h r => inb3 (Nat.le_of_ble_eq_true rfl) (ltA' (e h) hb t.val t.isLt r) (Nat.le_of_ble_eq_true rfl)
  · exact fun h => okB (e h) hb
  iterate 32
    exact fun t h => noB (e h) hb t.val t.isLt
    exact fun t h _ => noB (e h) hb t.val t.isLt
  · exact fun h => okC (e h) hb
  iterate 32
    exact fun t h => inb3 (Nat.le_of_ble_eq_true rfl) (ltC (e h) hb t.val t.isLt) (Nat.le_of_ble_eq_true rfl)
  · exact fun h => okD (e h) hb
  iterate 32
    exact fun t h => noD (e h) hb t.val t.isLt
  iterate 32
    exact fun _ => inb2 hs (Nat.le_of_ble_eq_true rfl)

theorem chk11 (v93 v103 : BitVec 32) (k0_t14 : Fin (k0_t14_loop v93 v103).trips) (v125 v135 : BitVec 32) (hv : v125.toNat ≤ 128)
    (hw : v135.toNat ≤ 128) (hs : (Scf.iv v93 1#32 k0_t14).toNat < 16) : k0_chk11 v93 v103 k0_t14 v125 v135 := by
  have hb := clip_one_le hw
  have e := fun h => rows_one hv hw h
  repeat' apply And.intro
  · exact fun h => okA (e h) hb
  iterate 32
    exact fun t h => inb3 (Nat.le_of_ble_eq_true rfl) (ltA (e h) hb t.val t.isLt) (Nat.le_of_ble_eq_true rfl)
    exact fun t h r => inb3 (Nat.le_of_ble_eq_true rfl) (ltA' (e h) hb t.val t.isLt r) (Nat.le_of_ble_eq_true rfl)
  · exact fun h => okB (e h) hb
  iterate 32
    exact fun t h => noB (e h) hb t.val t.isLt
    exact fun t h _ => noB (e h) hb t.val t.isLt
  · exact fun h => okC (e h) hb
  iterate 32
    exact fun t h => inb3 (Nat.le_of_ble_eq_true rfl) (ltC (e h) hb t.val t.isLt) (Nat.le_of_ble_eq_true rfl)
  · exact fun h => okD (e h) hb
  iterate 32
    exact fun t h => noD (e h) hb t.val t.isLt
  iterate 32
    exact fun _ => inb2 hs (Nat.le_of_ble_eq_true rfl)

end Cert.Proof.Seg

end
-- ==== Proof.Search.lean ====
/-
  The binary search a lane makes for its segment among the tile's ids, on natural numbers: where it may stand, how fast its
  interval shrinks, and that over sorted ids it ends at the first id not below its key.
-/
module

public import proofs.«01_k».proof.Proof.Checks

@[expose] public section

noncomputable section

namespace Cert.Proof.Seg

open Cert.KernelIdeal Cert.KernelIdeal.Gen
open Idealize.ShloMosaic

variable {F : FTy → Type} [FloatOps F]

/-- Id `k` of a tile, the last one for a larger `k`. -/
def idAt (f : S128.Idx → BitVec 32) (k : ℕ) : BitVec 32 := f (fun | 0 => (⟨min k 127, by omega⟩ : Fin 128))

/-- One step of the search for the first id that is not below `key`, on the interval `p`. -/
def srch (f : S128.Idx → BitVec 32) (key : BitVec 32) (p : ℕ × ℕ) : ℕ × ℕ :=
  if p.1 + (p.2 - p.1) / 2 < p.2 then
    if (idAt f (p.1 + (p.2 - p.1) / 2)).slt key then (p.1 + (p.2 - p.1) / 2 + 1, p.2) else (p.1, p.1 + (p.2 - p.1) / 2)
  else p

/-- The interval after `n` steps. -/
def bnds (f : S128.Idx → BitVec 32) (key : BitVec 32) : ℕ → ℕ × ℕ
  | 0 => (0, 128)
  | n + 1 => srch f key (bnds f key n)

theorem bnds_le (f : S128.Idx → BitVec 32) (key : BitVec 32) (n : ℕ) : (bnds f key n).1 ≤ (bnds f key n).2 ∧ (bnds f key n).2 ≤ 128 := by
  induction n with
  | zero => exact ⟨Nat.zero_le _, Nat.le_refl _⟩
  | succ n ih =>
    unfold bnds srch
    split
    · split <;> exact ⟨by dsimp only; omega, by dsimp only; omega⟩
    · exact ih

theorem bnds_shrink (f : S128.Idx → BitVec 32) (key : BitVec 32) (n : ℕ) : (bnds f key n).2 - (bnds f key n).1 ≤ 128 / 2 ^ n := by
  induction n with
  | zero => exact Nat.le_refl _
  | succ n ih =>
    have e : 128 / 2 ^ (n + 1) = 128 / 2 ^ n / 2 := by rw [pow_succ, Nat.div_div_eq_div_mul]
    have := bnds_le f key n
    rw [e]
    rw [bnds, srch]
    split
    · split <;> (dsimp only; omega)
    · omega

/-- The search has ended: its interval is empty. -/
theorem bnds_end (f : S128.Idx → BitVec 32) (key : BitVec 32) : (bnds f key 11).2 = (bnds f key 11).1 := by
  have h := bnds_shrink f key 11
  have := (bnds_le f key 11).1
  have e : 128 / 2 ^ 11 = 0 := by decide
  omega

theorem slt_small {v w : BitVec 32} (hv : v.toNat < 2 ^ 31) (hw : w.toNat < 2 ^ 31) : v.slt w = decide (v.toNat < w.toNat) := by
  rw [BitVec.slt_eq_decide, BitVec.toInt_eq_toNat_of_lt (by omega), BitVec.toInt_eq_toNat_of_lt (by omega)]
  simp

/-- Over sorted ids the search separates the ids below the key from the others. -/
theorem bnds_sep (f : S128.Idx → BitVec 32) (key : BitVec 32) (hkey : key.toNat ≤ 16) (hr : ∀ i, i < 128 → (idAt f i).toNat < 16)
    (hs : ∀ i j, i ≤ j → j < 128 → (idAt f i).toNat ≤ (idAt f j).toNat) (n : ℕ) :
    (∀ i, i < (bnds f key n).1 → (idAt f i).toNat < key.toNat) ∧ (∀ i, (bnds f key n).2 ≤ i → i < 128 → key.toNat ≤ (idAt f i).toNat) := by
  induction n with
  | zero =>
    refine ⟨fun i h => absurd h (Nat.not_lt_zero i), fun i h h' => ?_⟩
    have : 128 ≤ i := h
    omega
  | succ n ih =>
    obtain ⟨hle, h128⟩ := bnds_le f key n
    rw [bnds, srch]
    split
    · rename_i hm
      generalize (bnds f key n).1 + ((bnds f key n).2 - (bnds f key n).1) / 2 = m at hm ⊢
      have hm' := hr m (by omega)
      rw [slt_small (by omega) (by omega)]
      split
      · rename_i hlt
        have hlt := of_decide_eq_true hlt
        refine ⟨fun i h => ?_, ih.2⟩
        have := hs i m (by dsimp only at h; omega) (by omega)
        omega
      · rename_i hlt
        have hlt : key.toNat ≤ (idAt f m).toNat := by simpa using hlt
        refine ⟨ih.1, fun i h h' => ?_⟩
        have := hs m i h h'
        omega
    · exact ih

/-- An id is below the key exactly before the place the search ends at. -/
theorem bnds_iff (f : S128.Idx → BitVec 32) (key : BitVec 32) (hkey : key.toNat ≤ 16) (hr : ∀ i, i < 128 → (idAt f i).toNat < 16)
    (hs : ∀ i j, i ≤ j → j < 128 → (idAt f i).toNat ≤ (idAt f j).toNat) (i : ℕ) (hi : i < 128) :
    (idAt f i).toNat < key.toNat ↔ i < (bnds f key 11).1 := by
  obtain ⟨h1, h2⟩ := bnds_sep f key hkey hr hs 11
  refine ⟨fun h => ?_, h1 i⟩
  by_contra hc
  have := h2 i (by rw [bnds_end]; omega) hi
  omega

/-! ## The search on words -/

theorem mid_word {lo hi : ℕ} (h : lo ≤ hi) (hh : hi ≤ 128) :
    IntOp.addi (BitVec.ofNat 32 lo) (IntOp.shrui .vector (IntOp.subi (BitVec.ofNat 32 hi) (BitVec.ofNat 32 lo)) 1#32) = BitVec.ofNat 32 (lo + (hi - lo) / 2) := by
  have e : BitVec.ofNat 32 hi - BitVec.ofNat 32 lo = BitVec.ofNat 32 (hi - lo) := by
    apply BitVec.eq_of_toNat_eq
    rw [BitVec.toNat_sub, BitVec.toNat_ofNat, BitVec.toNat_ofNat, BitVec.toNat_ofNat]
    omega
  show BitVec.ofNat 32 lo + (BitVec.ofNat 32 hi - BitVec.ofNat 32 lo) >>> (1#32) = _
  rw [e]
  apply BitVec.eq_of_toNat_eq
  have e2 : (BitVec.ofNat 32 (hi - lo) >>> (1#32)).toNat = (hi - lo) / 2 := by
    show (BitVec.ofNat 32 (hi - lo)).toNat >>> 1 = _
    rw [BitVec.toNat_ofNat, Nat.shiftRight_eq_div_pow]
    omega
  rw [BitVec.toNat_add, e2, BitVec.toNat_ofNat, BitVec.toNat_ofNat]
  omega

theorem min_word {m : ℕ} (h : m ≤ 128) : IntOp.minsi (BitVec.ofNat 32 m) 127#32 = BitVec.ofNat 32 (min m 127) := by
  have : ∀ n : Fin 129, IntOp.minsi (BitVec.ofNat 32 n.val) 127#32 = BitVec.ofNat 32 (min n.val 127) := by decide
  exact this ⟨m, by omega⟩

theorem slt_word {m n : ℕ} (h : m ≤ 128) (h' : n ≤ 128) : (BitVec.ofNat 32 m).slt (BitVec.ofNat 32 n) = decide (m < n) := by
  have em : (BitVec.ofNat 32 m).toNat = m := by rw [BitVec.toNat_ofNat]; omega
  have en : (BitVec.ofNat 32 n).toNat = n := by rw [BitVec.toNat_ofNat]; omega
  rw [slt_small (by omega) (by omega), em, en]

/-- One lane's step on words is the step on natural numbers. -/
theorem srch_word (f : S128.Idx → BitVec 32) (key key' v lo hi : BitVec 32) (p : ℕ × ℕ) (hp : p.1 ≤ p.2) (hp' : p.2 ≤ 128)
    (elo : lo = BitVec.ofNat 32 p.1) (ehi : hi = BitVec.ofNat 32 p.2) (hk : key' = key) (hv : v = idAt f (p.1 + (p.2 - p.1) / 2)) :
    Scalar.select (IntOp.andi (IntOp.cmpi .slt (IntOp.addi lo (IntOp.shrui .vector (IntOp.subi hi lo) 1#32)) hi) (IntOp.cmpi .slt v key'))
        (IntOp.addi (IntOp.addi lo (IntOp.shrui .vector (IntOp.subi hi lo) 1#32)) 1#32) lo = BitVec.ofNat 32 (srch f key p).1
    ∧ Scalar.select (IntOp.andi (IntOp.cmpi .slt (IntOp.addi lo (IntOp.shrui .vector (IntOp.subi hi lo) 1#32)) hi)
          (IntOp.xori (IntOp.andi (IntOp.cmpi .slt (IntOp.addi lo (IntOp.shrui .vector (IntOp.subi hi lo) 1#32)) hi) (IntOp.cmpi .slt v key')) 1#1))
        (IntOp.addi lo (IntOp.shrui .vector (IntOp.subi hi lo) 1#32)) hi = BitVec.ofNat 32 (srch f key p).2 := by
  subst elo ehi hk hv
  rw [mid_word hp hp']
  unfold srch
  have hb : p.1 + (p.2 - p.1) / 2 ≤ 128 := by omega
  generalize p.1 + (p.2 - p.1) / 2 = m at hb ⊢
  have c1 : IntOp.cmpi .slt (BitVec.ofNat 32 m) (BitVec.ofNat 32 p.2) = BitVec.ofBool (decide (m < p.2)) := by
    rw [← slt_word hb hp']; rfl
  have c2 : IntOp.cmpi .slt (idAt f m) key' = BitVec.ofBool ((idAt f m).slt key') := rfl
  rw [c1, c2]
  have e1 : IntOp.addi (BitVec.ofNat 32 m) 1#32 = BitVec.ofNat 32 (m + 1) := by
    show BitVec.ofNat 32 m + 1#32 = _
    apply BitVec.eq_of_toNat_eq
    simp [BitVec.toNat_add, BitVec.toNat_ofNat]
  rw [e1]
  by_cases h1 : m < p.2 <;> cases h2 : (idAt f m).slt key' <;> simp [h1, Scalar.select, IntOp.andi, IntOp.xori]

/-- The bounds of the sixteen lanes' intervals after `n` steps, lane `x` searching for `key x`. -/
def lows (f : S128.Idx → BitVec 32) (key : S16.Idx → BitVec 32) (n : ℕ) : IVec S16 32 := fun x => BitVec.ofNat 32 (bnds f (key x) n).1
def highs (f : S128.Idx → BitVec 32) (key : S16.Idx → BitVec 32) (n : ℕ) : IVec S16 32 := fun x => BitVec.ofNat 32 (bnds f (key x) n).2

/-- The keys of the two searches: a lane's own number, and the next one. -/
def keyLo (x : S16.Idx) : BitVec 32 := BitVec.ofNat 32 (x 0).val
def keyHi (x : S16.Idx) : BitVec 32 := BitVec.ofNat 32 ((x 0).val + 1)

theorem probe_lo (f : S128.Idx → BitVec 32) (key : S16.Idx → BitVec 32) (n : ℕ) (x : S16.Idx) :
    k0_pay793 (lows f key n) (highs f key n) x = BitVec.ofNat 32 (min ((bnds f (key x) n).1 + ((bnds f (key x) n).2 - (bnds f (key x) n).1) / 2) 127) := by
  obtain ⟨h1, h2⟩ := bnds_le f (key x) n
  rw [← min_word (by omega), ← mid_word h1 h2]
  rfl

theorem iota_lane (x : S16.Idx) : iota .scVector S16 32 [0] iota_S16_d0_w32_scVector x = keyLo x := by
  show BitVec.ofNat 32 (0 * _ + (x 0).val) = _
  rw [Nat.zero_mul, Nat.zero_add]; rfl

theorem step_lo (f : S128.Idx → BitVec 32) (n : ℕ) (v : IVec S16 32)
    (hv : ∀ x, v x = idAt f ((bnds f (keyLo x) n).1 + ((bnds f (keyLo x) n).2 - (bnds f (keyLo x) n).1) / 2)) :
    k0_pay796 (F := F) (lows f keyLo n) (highs f keyLo n) v = lows f keyLo (n + 1)
      ∧ k0_pay797 (F := F) (lows f keyLo n) (highs f keyLo n) v = highs f keyLo (n + 1) := by
  have h := fun x => srch_word f (keyLo x) _ (v x) _ _ (bnds f (keyLo x) n) (bnds_le f (keyLo x) n).1 (bnds_le f (keyLo x) n).2 rfl rfl (iota_lane x) (hv x)
  constructor <;> funext x
  · exact (h x).1
  · exact (h x).2

theorem probe_hi (f : S128.Idx → BitVec 32) (key : S16.Idx → BitVec 32) (n : ℕ) (x : S16.Idx) :
    k0_pay801 (lows f key n) (highs f key n) x = BitVec.ofNat 32 (min ((bnds f (key x) n).1 + ((bnds f (key x) n).2 - (bnds f (key x) n).1) / 2) 127) :=
  probe_lo f key n x

theorem iota_next (x : S16.Idx) :
    addi (iota .scVector S16 32 [0] iota_S16_d0_w32_scVector) (broadcast S16 1#32) x = keyHi x := by
  show iota .scVector S16 32 [0] iota_S16_d0_w32_scVector x + 1#32 = _
  rw [iota_lane]
  unfold keyLo keyHi
  apply BitVec.eq_of_toNat_eq
  simp [BitVec.toNat_add, BitVec.toNat_ofNat]

theorem step_hi (f : S128.Idx → BitVec 32) (n : ℕ) (v : IVec S16 32)
    (hv : ∀ x, v x = idAt f ((bnds f (keyHi x) n).1 + ((bnds f (keyHi x) n).2 - (bnds f (keyHi x) n).1) / 2)) :
    k0_pay804 (F := F) (lows f keyHi n) (highs f keyHi n) v = lows f keyHi (n + 1)
      ∧ k0_pay805 (F := F) (lows f keyHi n) (highs f keyHi n) v = highs f keyHi (n + 1) := by
  have h := fun x => srch_word f (keyHi x) _ (v x) _ _ (bnds f (keyHi x) n) (bnds_le f (keyHi x) n).1 (bnds_le f (keyHi x) n).2 rfl rfl (iota_next x) (hv x)
  constructor <;> funext x
  · exact (h x).1
  · exact (h x).2

/-- The bounds a lane ends with lie among the tile's ids. -/
theorem lows_le (f : S128.Idx → BitVec 32) (key : S16.Idx → BitVec 32) (n : ℕ) (x : S16.Idx) : (lows f key n x).toNat = (bnds f (key x) n).1 := by
  have := bnds_le f (key x) n
  show (BitVec.ofNat 32 _).toNat = _
  rw [BitVec.toNat_ofNat]; omega

end Cert.Proof.Seg

end
-- ==== Proof.Scan.lean ====
/-
  Lane fifteen of a running maximum: the largest word of sixteen. With the sign bit flipped before and after, it reads one
  segment's bound out of the lanes, and a gathered id out of sixteen copies of it.
-/
module

public import proofs.«01_k».proof.Proof.Search

@[expose] public section

noncomputable section

namespace Cert.Proof.Seg

open Cert.KernelIdeal Cert.KernelIdeal.Gen
open Idealize.ShloMosaic

variable {F : FTy → Type} [FloatOps F]

theorem maxui_toNat (a b : BitVec 32) : (IntOp.maxui a b).toNat = max a.toNat b.toNat := by
  unfold IntOp.maxui
  by_cases h : b.ult a = true
  · rw [if_pos h]
    have : b.toNat < a.toNat := by simpa [BitVec.ult] using h
    omega
  · rw [if_neg h]
    have : ¬ b.toNat < a.toNat := by simpa [BitVec.ult] using h
    omega

theorem foldl_max_ge {β : Type} (f : β → BitVec 32) (l : List β) (a : BitVec 32) :
    a.toNat ≤ (l.foldl (fun r k => IntOp.maxui r (f k)) a).toNat
      ∧ ∀ k ∈ l, (f k).toNat ≤ (l.foldl (fun r k => IntOp.maxui r (f k)) a).toNat := by
  induction l generalizing a with
  | nil => exact ⟨Nat.le_refl _, fun k h => absurd h List.not_mem_nil⟩
  | cons x l ih =>
    obtain ⟨h1, h2⟩ := ih (IntOp.maxui a (f x))
    have e := maxui_toNat a (f x)
    rw [List.foldl_cons]
    generalize hr : l.foldl (fun r k => IntOp.maxui r (f k)) (IntOp.maxui a (f x)) = r at h1 h2 ⊢
    refine ⟨by omega, fun k hk => ?_⟩
    rcases List.mem_cons.mp hk with rfl | hk
    · omega
    · exact h2 k hk

theorem foldl_max_le {β : Type} (f : β → BitVec 32) (m : ℕ) (l : List β) (a : BitVec 32) (ha : a.toNat ≤ m) (hl : ∀ k ∈ l, (f k).toNat ≤ m) :
    (l.foldl (fun r k => IntOp.maxui r (f k)) a).toNat ≤ m := by
  induction l generalizing a with
  | nil => exact ha
  | cons x l ih =>
    have e := maxui_toNat a (f x)
    have := hl x List.mem_cons_self
    exact ih _ (e.trans_le (max_le ha this)) fun k hk => hl k (List.mem_cons_of_mem _ hk)

/-- Lane fifteen of a running maximum is the largest word. -/
theorem scan_top (w : IVec S16 32) (m : BitVec 32) (hle : ∀ x, (w x).toNat ≤ m.toNat) (hex : ∃ x, w x = m) :
    extractAt ![15] (scan .max w) inpos_S16_p15 = m := by
  apply BitVec.eq_of_toNat_eq
  obtain ⟨x, hx⟩ := hex
  refine Nat.le_antisymm (foldl_max_le (fun k => w (Shape.ofLane k)) _ _ _ (hle _) fun k _ => hle _) ?_
  obtain ⟨h1, h2⟩ := foldl_max_ge (fun k : Fin 16 => w (Shape.ofLane (d := ![16]) k))
    ((List.finRange 16).filter fun k => decide (0 < k.val ∧ k.val ≤ 15)) (w (Shape.ofLane (d := ![16]) ⟨0, by decide⟩))
  subst hx
  have e : x = Shape.ofLane (d := ![16]) (x 0) := by
    funext a; match a with | 0 => rfl
  by_cases h0 : (x 0).val = 0
  · have e0 : x = Shape.ofLane (d := ![16]) ⟨0, by decide⟩ := by rw [e]; congr 1; exact Fin.ext h0
    conv_lhs => rw [e0]
    exact h1
  · have hlt : (x 0).val < 16 := (x 0).isLt
    have hm := h2 (x 0) (List.mem_filter.mpr ⟨List.mem_finRange _, decide_eq_true ⟨by omega, by omega⟩⟩)
    rw [← e] at hm
    exact hm

theorem flip_toNat (v : BitVec 32) (h : v.toNat < 2 ^ 31) : (v ^^^ 2147483648#32).toNat = 2 ^ 31 + v.toNat := by
  have e : (v ^^^ 2147483648#32).toNat = v.toNat ^^^ 2 ^ 31 := BitVec.toNat_xor _ _
  rw [e]
  have hlt : v.toNat ^^^ 2 ^ 31 < 2 ^ 32 := Nat.xor_lt_two_pow (by omega) (by decide)
  apply Nat.eq_of_testBit_eq
  intro k
  rw [Nat.testBit_xor, Nat.testBit_two_pow]
  rcases lt_trichotomy k 31 with hk | rfl | hk
  · rw [Nat.testBit_two_pow_add_gt hk, decide_eq_false (by omega), Bool.xor_false]
  · rw [Nat.testBit_two_pow_add_eq, decide_eq_true rfl, Bool.xor_true]
  · have hp : 2 ^ 32 ≤ 2 ^ k := Nat.pow_le_pow_right (by decide) (by omega)
    rw [Nat.testBit_lt_two_pow (by omega), Nat.testBit_lt_two_pow (by omega), decide_eq_false (by omega), Bool.xor_false]

theorem flip_flip (v : BitVec 32) : (v ^^^ 2147483648#32) ^^^ 2147483648#32 = v := by
  rw [BitVec.xor_assoc, BitVec.xor_self, BitVec.xor_zero]

/-- The largest of sixteen words that are not negative, with the sign bit flipped before and after. -/
theorem top_eq (w : IVec S16 32) (m : BitVec 32) (hm : m.toNat < 2 ^ 31) (hle : ∀ x, (w x).toNat ≤ m.toNat) (hex : ∃ x, w x = m) :
    extractAt ![15] (xori (scan .max (xori w (broadcast S16 2147483648#32))) (broadcast S16 2147483648#32)) inpos_S16_p15 = m := by
  have h := scan_top (xori w (broadcast S16 2147483648#32)) (m ^^^ 2147483648#32) (fun x => ?_) ?_
  · show (extractAt ![15] (scan .max (xori w (broadcast S16 2147483648#32))) inpos_S16_p15) ^^^ 2147483648#32 = m
    rw [h, flip_flip]
  · show (w x ^^^ 2147483648#32).toNat ≤ _
    have := hle x
    rw [flip_toNat _ (by omega), flip_toNat _ hm]; omega
  · obtain ⟨x, hx⟩ := hex
    exact ⟨x, by rw [← hx]; rfl⟩

/-- One segment's word out of sixteen lanes: lane `s` of `w`. -/
theorem top_select (v3 w : IVec S16 32) (arg12 : BitVec 32) (hv3 : ∀ x, v3 x = keyLo x) (hs : arg12.toNat < 16) (hw : ∀ x, (w x).toNat < 2 ^ 31) :
    extractAt ![15] (xori (scan .max (xori (select (cmpi .eq v3 (broadcast S16 arg12)) w (broadcast S16 0#32)) (broadcast S16 2147483648#32)))
      (broadcast S16 2147483648#32)) inpos_S16_p15 = w (fun | 0 => (⟨arg12.toNat, hs⟩ : Fin 16)) := by
  have hk : ∀ x : S16.Idx, IntOp.cmpi .eq (v3 x) arg12 = BitVec.ofBool (decide ((x 0).val = arg12.toNat)) := by
    intro x
    have hx : (x 0).val < 16 := (x 0).isLt
    rw [hv3]
    show BitVec.ofBool (BitVec.ofNat 32 (x 0).val == arg12) = _
    congr 1
    rw [beq_eq_decide]
    refine decide_eq_decide.mpr ⟨fun h => ?_, fun h => ?_⟩
    · rw [← h, BitVec.toNat_ofNat]; omega
    · apply BitVec.eq_of_toNat_eq; rw [BitVec.toNat_ofNat]; omega
  have hsel : ∀ x : S16.Idx, select (cmpi .eq v3 (broadcast S16 arg12)) w (broadcast S16 0#32) x = if (x 0).val = arg12.toNat then w x else 0#32 := by
    intro x
    show Scalar.select (IntOp.cmpi .eq (v3 x) arg12) (w x) 0#32 = _
    rw [hk]
    by_cases h : (x 0).val = arg12.toNat <;> simp [h, Scalar.select]
  have hx0 : ∀ x : S16.Idx, (x 0).val = arg12.toNat → x = (fun | 0 => (⟨arg12.toNat, hs⟩ : Fin 16)) := by
    intro x h
    funext a
    match a with
    | 0 => exact Fin.ext h
  refine top_eq _ _ (hw _) (fun x => ?_) ⟨(fun | 0 => (⟨arg12.toNat, hs⟩ : Fin 16)), ?_⟩
  · rw [hsel]
    split
    · rename_i h
      rw [hx0 x h]
    · exact Nat.zero_le _
  · rw [hsel, if_pos rfl]

end Cert.Proof.Seg

end
-- ==== Proof.Rows.lean ====
/-
  A tile's arrays by natural-number coordinates, and what one accumulation step of the kernel — one row added, or four
  rows added as a balanced sum — makes of a row of 512 accumulators held as 32 vectors of 16 lanes.
-/
module

public import proofs.«01_k».proof.Proof.Base

@[expose] public section

noncomputable section

namespace Cert.Proof.Seg

open Cert.KernelIdeal Cert.KernelIdeal.Gen
open Idealize.ShloMosaic

variable {F : FTy → Type} [FloatOps F]

/-! ## Coordinates -/

/-- Element `(c, r, k)` of the pair of chunk buffers. -/
def ix3 (c r k : ℕ) : S2x64x512.Idx :=
  fun | 0 => (⟨c % 2, Nat.mod_lt _ (by decide)⟩ : Fin 2) | 1 => (⟨r % 64, Nat.mod_lt _ (by decide)⟩ : Fin 64)
      | 2 => (⟨k % 512, Nat.mod_lt _ (by decide)⟩ : Fin 512)

/-- Element `(s, k)` of the per-tile sums. -/
def ix2 (s k : ℕ) : S16x512.Idx :=
  fun | 0 => (⟨s % 16, Nat.mod_lt _ (by decide)⟩ : Fin 16) | 1 => (⟨k % 512, Nat.mod_lt _ (by decide)⟩ : Fin 512)

/-- Row `r` of chunk buffer `c`. -/
def rowAt (g : S2x64x512.Idx → F .f32) (c r : ℕ) : ℕ → F .f32 := fun k => g (ix3 c r k)

/-- Lanes `16k … 16k+15` of a row of accumulators. -/
def lane (A : ℕ → F .f32) (k : ℕ) : FVec F S16 .f32 := fun x => A (16 * k + (x 0).val)

/-- A row of 512 accumulators as the kernel carries it: 32 vectors. -/
def tup (A : ℕ → F .f32) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  (lane A 0, lane A 1, lane A 2, lane A 3, lane A 4, lane A 5, lane A 6, lane A 7, lane A 8, lane A 9, lane A 10, lane A 11,
    lane A 12, lane A 13, lane A 14, lane A 15, lane A 16, lane A 17, lane A 18, lane A 19, lane A 20, lane A 21, lane A 22,
    lane A 23, lane A 24, lane A 25, lane A 26, lane A 27, lane A 28, lane A 29, lane A 30, lane A 31)

/-! ## Loads -/

theorem emb_S1x1x16 (x : S16.Idx) :
    Shape.reshapeEquiv (s := S1x1x16) (s' := S16) shapeCasts_S1x1x16_S16 x
      = (fun | 0 => (⟨0, by decide⟩ : Fin 1) | 1 => (⟨0, by decide⟩ : Fin 1) | 2 => x 0 : S1x1x16.Idx) :=
  Shape.reshapeEquiv_eq_of_rowMajor _ (by
    rw [Shape.rowMajor_val_succ, Shape.rowMajor_val_two, Shape.rowMajor_val_one]
    show 0 * _ + (0 * _ + (x 0).val) = (x 0).val
    omega)

theorem emb_S1x16 (x : S16.Idx) :
    Shape.reshapeEquiv (s := S1x16) (s' := S16) shapeCasts_S1x16_S16 x
      = (fun | 0 => (⟨0, by decide⟩ : Fin 1) | 1 => x 0 : S1x16.Idx) :=
  Shape.reshapeEquiv_eq_of_rowMajor _ (by
    rw [Shape.rowMajor_val_two, Shape.rowMajor_val_one]
    show 0 * _ + (x 0).val = (x 0).val
    omega)

/-- Sixteen lanes loaded from a chunk buffer are the lanes of that row. -/
theorem load_row (g : S2x64x512.Idx → F .f32) (off : Fin 3 → ℕ) (h : ∀ a, off a + S1x1x16.size a ≤ S2x64x512.size a)
    (c r k : ℕ) (h0 : off 0 = c) (h1 : off 1 = r) (h2 : off 2 = 16 * k) :
    (shapeCast S16 (xbM.view.readAt (Elt F) (Rect.unit (s := S2x64x512) off S1x1x16.size h).toLoadRect g : Vec F S1x1x16 .f32) shapeCasts_S1x1x16_S16
      : FVec F S16 .f32) = lane (rowAt g c r) k := by
  have b0 : off 0 + 1 ≤ 2 := h 0
  have b1 : off 1 + 1 ≤ 64 := h 1
  have b2 : off 2 + 16 ≤ 512 := h 2
  funext x
  have hx : (x 0).val < 16 := (x 0).isLt
  show g ((Rect.unit (s := S2x64x512) off S1x1x16.size h).emb (Shape.reshapeEquiv (s := S1x1x16) (s' := S16) shapeCasts_S1x1x16_S16 x)) = g (ix3 c r (16 * k + (x 0).val))
  rw [emb_S1x1x16]
  congr 1
  funext a
  match a with
  | 0 => exact Fin.ext (show off 0 + 1 * 0 = c % 2 by omega)
  | 1 => exact Fin.ext (show off 1 + 1 * 0 = r % 64 by omega)
  | 2 => exact Fin.ext (show off 2 + 1 * (x 0).val = (16 * k + (x 0).val) % 512 by omega)

/-! ## The two accumulation steps -/

/-- Row `r` added. -/
def rowStep (g : S2x64x512.Idx → F .f32) (c r : ℕ) (A : ℕ → F .f32) : ℕ → F .f32 :=
  fun k => FloatOps.addf (A k) (rowAt g c r k)

/-- Rows `r … r+3` added, as a balanced sum. -/
def quadStep (g : S2x64x512.Idx → F .f32) (c r : ℕ) (A : ℕ → F .f32) : ℕ → F .f32 :=
  fun k => FloatOps.addf (A k) (FloatOps.addf (FloatOps.addf (rowAt g c r k) (rowAt g c (r + 1) k))
    (FloatOps.addf (rowAt g c (r + 2) k) (rowAt g c (r + 3) k)))

theorem row_lane (g : S2x64x512.Idx → F .f32) (A : ℕ → F .f32) (c r k : ℕ) (off : Fin 3 → ℕ)
    (h : ∀ a, off a + S1x1x16.size a ≤ S2x64x512.size a) (h0 : off 0 = c) (h1 : off 1 = r) (h2 : off 2 = 16 * k) :
    addf (lane A k) (shapeCast S16 (xbM.view.readAt (Elt F) (Rect.unit (s := S2x64x512) off S1x1x16.size h).toLoadRect g : Vec F S1x1x16 .f32) shapeCasts_S1x1x16_S16)
      = lane (rowStep g c r A) k := by
  rw [load_row g off h c r k h0 h1 h2]; rfl

theorem quad_lane (g : S2x64x512.Idx → F .f32) (A : ℕ → F .f32) (c r k : ℕ) (o0 o1 o2 o3 : Fin 3 → ℕ)
    (h0 : ∀ a, o0 a + S1x1x16.size a ≤ S2x64x512.size a) (h1 : ∀ a, o1 a + S1x1x16.size a ≤ S2x64x512.size a)
    (h2 : ∀ a, o2 a + S1x1x16.size a ≤ S2x64x512.size a) (h3 : ∀ a, o3 a + S1x1x16.size a ≤ S2x64x512.size a)
    (e0 : o0 0 = c ∧ o0 1 = r ∧ o0 2 = 16 * k) (e1 : o1 0 = c ∧ o1 1 = r + 1 ∧ o1 2 = 16 * k)
    (e2 : o2 0 = c ∧ o2 1 = r + 2 ∧ o2 2 = 16 * k) (e3 : o3 0 = c ∧ o3 1 = r + 3 ∧ o3 2 = 16 * k) :
    addf (lane A k) (addf
        (addf (shapeCast S16 (xbM.view.readAt (Elt F) (Rect.unit (s := S2x64x512) o0 S1x1x16.size h0).toLoadRect g : Vec F S1x1x16 .f32) shapeCasts_S1x1x16_S16)
          (shapeCast S16 (xbM.view.readAt (Elt F) (Rect.unit (s := S2x64x512) o1 S1x1x16.size h1).toLoadRect g : Vec F S1x1x16 .f32) shapeCasts_S1x1x16_S16))
        (addf (shapeCast S16 (xbM.view.readAt (Elt F) (Rect.unit (s := S2x64x512) o2 S1x1x16.size h2).toLoadRect g : Vec F S1x1x16 .f32) shapeCasts_S1x1x16_S16)
          (shapeCast S16 (xbM.view.readAt (Elt F) (Rect.unit (s := S2x64x512) o3 S1x1x16.size h3).toLoadRect g : Vec F S1x1x16 .f32) shapeCasts_S1x1x16_S16)))
      = lane (quadStep g c r A) k := by
  rw [load_row g o0 h0 c r k e0.1 e0.2.1 e0.2.2, load_row g o1 h1 c (r + 1) k e1.1 e1.2.1 e1.2.2,
    load_row g o2 h2 c (r + 2) k e2.1 e2.2.1 e2.2.2, load_row g o3 h3 c (r + 3) k e3.1 e3.2.1 e3.2.2]; rfl

/-! ## The elements a chunk's loads read -/

/-- The elements of chunk buffer `c`. -/
def half (c : ℕ) : Finset S2x64x512.Idx := Finset.univ.filter fun i => (i 0).val = c

theorem load_half (off : Fin 3 → ℕ) (h : ∀ a, off a + S1x1x16.size a ≤ S2x64x512.size a) (c : ℕ) (h0 : off 0 = c) :
    xbM.view.setOn (Rect.unit (s := S2x64x512) off S1x1x16.size h).toLoadRect.set ⊆ half c := by
  intro i hi
  obtain ⟨y, hy, rfl⟩ := Finset.mem_map.mp hi
  refine Finset.mem_filter.mpr ⟨Finset.mem_univ _, ?_⟩
  obtain ⟨j, hj, e⟩ := (LoadRect.mem_set _).mp hy 0
  have hj : j < 1 := hj
  have e : (y 0).val = off 0 + 1 * j := e
  show (y 0).val = c
  omega

end Cert.Proof.Seg

end
-- ==== Proof.Loops.lean ====
/-
  What the loops over a segment's rows leave: at each trip the 512 accumulators take one row, or four rows as a balanced
  sum, of the chunk in hand.
-/
module

public import proofs.«01_k».proof.Proof.Rows
public import proofs.«01_k».proof.Proof.Checks

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Straight-line steps -/

/-- A load from the part of the chunk buffers in hand. -/
theorem ld {α : Type} {d : Dev nD} {L : grid0.Coords} {r : LoadRect S2x64x512} {hl : xbM.view.LoadsAt r}
    {k : (r.shape.Idx → Elt F .f32) → Prog (TpuEff nD τ sig (Elt F) Λ₀ (thr d L).2) α} {Q : α → sProp 𝕄}
    {S : Finset S2x64x512.Idx} {q : PosShare TreeShare} {f : S2x64x512.Idx → Elt F .f32} (hS : xbM.view.setOn r.set ⊆ S)
    (h : (xbM.view.loc (thr d L) ↦[S]{q} f : sProp 𝕄) ⊢ wp frame (wpE (defs₀ (F := F)) 𝒱₀ (thr d L) none) Set.univ (k (xbM.view.readAt (Elt F) r f)) Q) :
    (xbM.view.loc (thr d L) ↦[S]{q} f : sProp 𝕄)
      ⊢ wp frame (wpE (defs₀ (F := F)) 𝒱₀ (thr d L) none) Set.univ (Prog.lift (.load xbM r hl) >>= k) Q := by
  iintro H
  iapply (wp_load 𝒱₀ (thr d L) none Set.univ hS) $$ H
  iintro H; iapply h; iexact H

/-- A printed part, then the rest. -/
theorem bnd {α β : Type} {d : Dev nD} {L : grid0.Coords} {P : sProp 𝕄}
    {p : Prog (TpuEff nD τ sig (Elt F) Λ₀ (thr d L).2) α} {k : α → Prog (TpuEff nD τ sig (Elt F) Λ₀ (thr d L).2) β} {Q : β → sProp 𝕄}
    (h : P ⊢ wp frame (wpE (defs₀ (F := F)) 𝒱₀ (thr d L) none) Set.univ p fun a =>
      wp frame (wpE (defs₀ (F := F)) 𝒱₀ (thr d L) none) Set.univ (k a) Q) :
    P ⊢ wp frame (wpE (defs₀ (F := F)) 𝒱₀ (thr d L) none) Set.univ (p >>= k) Q := by
  rw [wp_bind]; exact h

/-- A part's result handed on. -/
theorem rt {α β : Type} {d : Dev nD} {L : grid0.Coords} {P : sProp 𝕄} {a : α}
    {k : α → Prog (TpuEff nD τ sig (Elt F) Λ₀ (thr d L).2) β} {Q : β → sProp 𝕄}
    (h : P ⊢ wp frame (wpE (defs₀ (F := F)) 𝒱₀ (thr d L) none) Set.univ (k a) Q) :
    P ⊢ wp frame (wpE (defs₀ (F := F)) 𝒱₀ (thr d L) none) Set.univ (pure a) fun a =>
      wp frame (wpE (defs₀ (F := F)) 𝒱₀ (thr d L) none) Set.univ (k a) Q := by
  rw [wp_pure]; iintro H; imodintro; iapply h; iexact H

/-- The result of a body. -/
theorem rtE {α : Type} {d : Dev nD} {L : grid0.Coords} {P : sProp 𝕄} {a b : α} (h : a = b) :
    P ⊢ wp frame (wpE (defs₀ (F := F)) 𝒱₀ (thr d L) none) Set.univ (pure a) fun x => iprop(⌜x = b⌝ ∗ P) := by
  rw [wp_pure]; iintro H; imodintro; isplitr
  · ipureintro; exact h
  · iexact H

/-- Thirty-two vectors of lanes are a row of accumulators. -/
theorem tup_ext {A : ℕ → F .f32} {a0 a1 a2 a3 a4 a5 a6 a7 a8 a9 a10 a11 a12 a13 a14 a15 a16 a17 a18 a19 a20 a21 a22 a23 a24 a25 a26
      a27 a28 a29 a30 a31 : FVec F S16 .f32}
    (h0 : a0 = lane A 0) (h1 : a1 = lane A 1) (h2 : a2 = lane A 2) (h3 : a3 = lane A 3) (h4 : a4 = lane A 4) (h5 : a5 = lane A 5)
    (h6 : a6 = lane A 6) (h7 : a7 = lane A 7) (h8 : a8 = lane A 8) (h9 : a9 = lane A 9) (h10 : a10 = lane A 10) (h11 : a11 = lane A 11)
    (h12 : a12 = lane A 12) (h13 : a13 = lane A 13) (h14 : a14 = lane A 14) (h15 : a15 = lane A 15) (h16 : a16 = lane A 16)
    (h17 : a17 = lane A 17) (h18 : a18 = lane A 18) (h19 : a19 = lane A 19) (h20 : a20 = lane A 20) (h21 : a21 = lane A 21)
    (h22 : a22 = lane A 22) (h23 : a23 = lane A 23) (h24 : a24 = lane A 24) (h25 : a25 = lane A 25) (h26 : a26 = lane A 26)
    (h27 : a27 = lane A 27) (h28 : a28 = lane A 28) (h29 : a29 = lane A 29) (h30 : a30 = lane A 30) (h31 : a31 = lane A 31) :
    (a0, a1, a2, a3, a4, a5, a6, a7, a8, a9, a10, a11, a12, a13, a14, a15, a16, a17, a18, a19, a20, a21, a22, a23, a24, a25, a26,
      a27, a28, a29, a30, a31) = tup A := by
  subst h0 h1 h2 h3 h4 h5 h6 h7 h8 h9 h10 h11 h12 h13 h14 h15 h16 h17 h18 h19 h20 h21 h22 h23 h24 h25 h26 h27 h28 h29 h30 h31
  rfl

/-! ## The rows left over -/

theorem t7_body (d : Dev nD) (L : grid0.Coords) (v4 : FVec F S16 .f32) (v52 v62 : BitVec 32) (k0_t4 : Fin (k0_t4_loop v52 v62).trips)
    (arg12 v125 v135 : BitVec 32) (hw6 : k0_chk6 v52 v62 k0_t4 v125 v135) (v138 v141 : BitVec 32) (h1 : k0_cond1 v125 v135 = 1#1)
    (v155 : BitVec 32) (t : Fin (k0_t7_loop v125 v135).trips) (hlt : (clip 0#32 v125).toNat < (clip 0#32 v135).toNat)
    (hhi : (clip 0#32 v135).toNat ≤ 64) (g : S2x64x512.Idx → F .f32) (A : ℕ → F .f32) :
    (xbM.view.loc (thr d L) ↦[half 0]{fullShare} g : sProp 𝕄) ⊢ wp frame (wpE (defs₀ (F := F)) 𝒱₀ (thr d L) none) Set.univ
      (k0_t7_body L xM hxM iM hiM oM hoM cM hcM idM hidM xbM hxbM paM hpaM cnM hcnM cc0_scratch4 cc0_scratch5 cc0_scoped0 cc0_scoped1
        cc0_scoped2 v4 v52 v62 k0_t4 arg12 v125 v135 hw6 v138 v141 h1 v155 t (tup A))
      fun B => iprop(⌜B = tup (rowStep g 0 ((clip 0#32 v125).toNat + 4 * (((clip 0#32 v135).toNat - (clip 0#32 v125).toNat) / 4) + t.val) A)⌝
        ∗ xbM.view.loc (thr d L) ↦[half 0]{fullShare} g) := by
  have hr := rowC hlt hhi t.val t.isLt
  unfold k0_t7_body tup
  refine bnd ?_
  rw [k0_part39_eq_skeleton]; unfold k0_part39_skel
  iterate 8 refine ld (load_half _ _ 0 rfl) ?_
  refine rt ?_
  dsimp only
  refine bnd ?_
  rw [k0_part40_eq_skeleton]; unfold k0_part40_skel
  iterate 9 refine ld (load_half _ _ 0 rfl) ?_
  refine rt ?_
  dsimp only
  refine bnd ?_
  rw [k0_part41_eq_skeleton]; unfold k0_part41_skel
  iterate 8 refine ld (load_half _ _ 0 rfl) ?_
  refine rt ?_
  dsimp only
  iterate 7 refine ld (load_half _ _ 0 rfl) ?_
  refine rtE (tup_ext ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
  iterate 32 exact row_lane g A 0 _ _ _ _ rfl hr rfl

theorem t17_body (d : Dev nD) (L : grid0.Coords) (v4 : FVec F S16 .f32) (v93 v103 : BitVec 32) (k0_t14 : Fin (k0_t14_loop v93 v103).trips)
    (arg12 v125 v135 : BitVec 32) (hw11 : k0_chk11 v93 v103 k0_t14 v125 v135) (v138 v141 : BitVec 32) (h4 : k0_cond4 v125 v135 = 1#1)
    (v155 : BitVec 32) (t : Fin (k0_t17_loop v125 v135).trips) (hlt : (clip 64#32 v125).toNat < (clip 64#32 v135).toNat)
    (hhi : (clip 64#32 v135).toNat ≤ 64) (g : S2x64x512.Idx → F .f32) (A : ℕ → F .f32) :
    (xbM.view.loc (thr d L) ↦[half 1]{fullShare} g : sProp 𝕄) ⊢ wp frame (wpE (defs₀ (F := F)) 𝒱₀ (thr d L) none) Set.univ
      (k0_t17_body L xM hxM iM hiM oM hoM cM hcM idM hidM xbM hxbM paM hpaM cnM hcnM cc0_scratch4 cc0_scratch5 cc0_scoped0 cc0_scoped1
        cc0_scoped2 v4 v93 v103 k0_t14 arg12 v125 v135 hw11 v138 v141 h4 v155 t (tup A))
      fun B => iprop(⌜B = tup (rowStep g 1 ((clip 64#32 v125).toNat + 4 * (((clip 64#32 v135).toNat - (clip 64#32 v125).toNat) / 4) + t.val) A)⌝
        ∗ xbM.view.loc (thr d L) ↦[half 1]{fullShare} g) := by
  have hr := rowC hlt hhi t.val t.isLt
  unfold k0_t17_body tup
  refine bnd ?_
  rw [k0_part133_eq_skeleton]; unfold k0_part133_skel
  iterate 8 refine ld (load_half _ _ 1 rfl) ?_
  refine rt ?_
  dsimp only
  refine bnd ?_
  rw [k0_part134_eq_skeleton]; unfold k0_part134_skel
  iterate 9 refine ld (load_half _ _ 1 rfl) ?_
  refine rt ?_
  dsimp only
  refine bnd ?_
  rw [k0_part135_eq_skeleton]; unfold k0_part135_skel
  iterate 8 refine ld (load_half _ _ 1 rfl) ?_
  refine rt ?_
  dsimp only
  iterate 7 refine ld (load_half _ _ 1 rfl) ?_
  refine rtE (tup_ext ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
  iterate 32 exact row_lane g A 1 _ _ _ _ rfl hr rfl

/-! ## Four rows at a time -/

theorem t5_body (d : Dev nD) (L : grid0.Coords) (v4 : FVec F S16 .f32) (v52 v62 : BitVec 32) (k0_t4 : Fin (k0_t4_loop v52 v62).trips)
    (arg12 v125 v135 : BitVec 32) (hw6 : k0_chk6 v52 v62 k0_t4 v125 v135) (v138 v141 : BitVec 32) (h1 : k0_cond1 v125 v135 = 1#1)
    (t : Fin (k0_t5_loop v125 v135).trips) (hlt : (clip 0#32 v125).toNat < (clip 0#32 v135).toNat)
    (hhi : (clip 0#32 v135).toNat ≤ 64) (g : S2x64x512.Idx → F .f32) (A : ℕ → F .f32) :
    (xbM.view.loc (thr d L) ↦[half 0]{fullShare} g : sProp 𝕄) ⊢ wp frame (wpE (defs₀ (F := F)) 𝒱₀ (thr d L) none) Set.univ
      (k0_t5_body L xM hxM iM hiM oM hoM cM hcM idM hidM xbM hxbM paM hpaM cnM hcnM cc0_scratch4 cc0_scratch5 cc0_scoped0 cc0_scoped1
        cc0_scoped2 v4 v52 v62 k0_t4 arg12 v125 v135 hw6 v138 v141 h1 t (tup A))
      fun B => iprop(⌜B = tup (quadStep g 0 ((clip 0#32 v125).toNat + 4 * t.val) A)⌝
        ∗ xbM.view.loc (thr d L) ↦[half 0]{fullShare} g) := by
  have hr := rowA hlt hhi t.val t.isLt
  have hr1 := rowA' hlt hhi t.val t.isLt 1 (by omega) _ rfl
  have hr2 := rowA' hlt hhi t.val t.isLt 2 (by omega) _ rfl
  have hr3 := rowA' hlt hhi t.val t.isLt 3 (by omega) _ rfl
  unfold k0_t5_body tup
  refine bnd ?_
  rw [k0_part3_eq_skeleton]; unfold k0_part3_skel
  iterate 7 refine ld (load_half _ _ 0 rfl) ?_
  refine rt ?_
  dsimp only
  refine bnd ?_
  rw [k0_part4_eq_skeleton]; unfold k0_part4_skel
  iterate 7 refine ld (load_half _ _ 0 rfl) ?_
  refine rt ?_
  dsimp only
  refine bnd ?_
  rw [k0_part5_eq_skeleton]; unfold k0_part5_skel
  iterate 7 refine ld (load_half _ _ 0 rfl) ?_
  refine rt ?_
  dsimp only
  refine bnd ?_
  rw [k0_part6_eq_skeleton]; unfold k0_part6_skel
  iterate 7 refine ld (load_half _ _ 0 rfl) ?_
  refine rt ?_
  dsimp only
  refine bnd ?_
  rw [k0_part7_eq_skeleton]; unfold k0_part7_skel
  iterate 7 refine ld (load_half _ _ 0 rfl) ?_
  refine rt ?_
  dsimp only
  refine bnd ?_
  rw [k0_part8_eq_skeleton]; unfold k0_part8_skel
  iterate 7 refine ld (load_half _ _ 0 rfl) ?_
  refine rt ?_
  dsimp only
  refine bnd ?_
  rw [k0_part9_eq_skeleton]; unfold k0_part9_skel
  iterate 7 refine ld (load_half _ _ 0 rfl) ?_
  refine rt ?_
  dsimp only
  refine bnd ?_
  rw [k0_part10_eq_skeleton]; unfold k0_part10_skel
  iterate 7 refine ld (load_half _ _ 0 rfl) ?_
  refine rt ?_
  dsimp only
  refine bnd ?_
  rw [k0_part11_eq_skeleton]; unfold k0_part11_skel
  iterate 7 refine ld (load_half _ _ 0 rfl) ?_
  refine rt ?_
  dsimp only
  refine bnd ?_
  rw [k0_part12_eq_skeleton]; unfold k0_part12_skel
  iterate 7 refine ld (load_half _ _ 0 rfl) ?_
  refine rt ?_
  dsimp only
  refine bnd ?_
  rw [k0_part13_eq_skeleton]; unfold k0_part13_skel
  iterate 7 refine ld (load_half _ _ 0 rfl) ?_
  refine rt ?_
  dsimp only
  refine bnd ?_
  rw [k0_part14_eq_skeleton]; unfold k0_part14_skel
  iterate 7 refine ld (load_half _ _ 0 rfl) ?_
  refine rt ?_
  dsimp only
  refine bnd ?_
  rw [k0_part15_eq_skeleton]; unfold k0_part15_skel
  iterate 7 refine ld (load_half _ _ 0 rfl) ?_
  refine rt ?_
  dsimp only
  refine bnd ?_
  rw [k0_part16_eq_skeleton]; unfold k0_part16_skel
  iterate 7 refine ld (load_half _ _ 0 rfl) ?_
  refine rt ?_
  dsimp only
  refine bnd ?_
  rw [k0_part17_eq_skeleton]; unfold k0_part17_skel
  iterate 7 refine ld (load_half _ _ 0 rfl) ?_
  refine rt ?_
  dsimp only
  refine bnd ?_
  rw [k0_part18_eq_skeleton]; unfold k0_part18_skel
  iterate 7 refine ld (load_half _ _ 0 rfl) ?_
  refine rt ?_
  dsimp only
  refine bnd ?_
  rw [k0_part19_eq_skeleton]; unfold k0_part19_skel
  iterate 8 refine ld (load_half _ _ 0 rfl) ?_
  refine rt ?_
  dsimp only
  refine bnd ?_
  rw [k0_part20_eq_skeleton]; unfold k0_part20_skel
  iterate 7 refine ld (load_half _ _ 0 rfl) ?_
  refine rt ?_
  dsimp only
  refine ld (load_half _ _ 0 rfl) ?_
  refine rtE (tup_ext ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
  iterate 32 exact quad_lane g A 0 _ _ _ _ _ _ _ _ _ _ ⟨rfl, hr, rfl⟩ ⟨rfl, hr1, rfl⟩ ⟨rfl, hr2, rfl⟩ ⟨rfl, hr3, rfl⟩

theorem t15_body (d : Dev nD) (L : grid0.Coords) (v4 : FVec F S16 .f32) (v93 v103 : BitVec 32) (k0_t14 : Fin (k0_t14_loop v93 v103).trips)
    (arg12 v125 v135 : BitVec 32) (hw11 : k0_chk11 v93 v103 k0_t14 v125 v135) (v138 v141 : BitVec 32) (h4 : k0_cond4 v125 v135 = 1#1)
    (t : Fin (k0_t15_loop v125 v135).trips) (hlt : (clip 64#32 v125).toNat < (clip 64#32 v135).toNat)
    (hhi : (clip 64#32 v135).toNat ≤ 64) (g : S2x64x512.Idx → F .f32) (A : ℕ → F .f32) :
    (xbM.view.loc (thr d L) ↦[half 1]{fullShare} g : sProp 𝕄) ⊢ wp frame (wpE (defs₀ (F := F)) 𝒱₀ (thr d L) none) Set.univ
      (k0_t15_body L xM hxM iM hiM oM hoM cM hcM idM hidM xbM hxbM paM hpaM cnM hcnM cc0_scratch4 cc0_scratch5 cc0_scoped0 cc0_scoped1
        cc0_scoped2 v4 v93 v103 k0_t14 arg12 v125 v135 hw11 v138 v141 h4 t (tup A))
      fun B => iprop(⌜B = tup (quadStep g 1 ((clip 64#32 v125).toNat + 4 * t.val) A)⌝
        ∗ xbM.view.loc (thr d L) ↦[half 1]{fullShare} g) := by
  have hr := rowA hlt hhi t.val t.isLt
  have hr1 := rowA' hlt hhi t.val t.isLt 1 (by omega) _ rfl
  have hr2 := rowA' hlt hhi t.val t.isLt 2 (by omega) _ rfl
  have hr3 := rowA' hlt hhi t.val t.isLt 3 (by omega) _ rfl
  unfold k0_t15_body tup
  refine bnd ?_
  rw [k0_part97_eq_skeleton]; unfold k0_part97_skel
  iterate 7 refine ld (load_half _ _ 1 rfl) ?_
  refine rt ?_
  dsimp only
  refine bnd ?_
  rw [k0_part98_eq_skeleton]; unfold k0_part98_skel
  iterate 7 refine ld (load_half _ _ 1 rfl) ?_
  refine rt ?_
  dsimp only
  refine bnd ?_
  rw [k0_part99_eq_skeleton]; unfold k0_part99_skel
  iterate 7 refine ld (load_half _ _ 1 rfl) ?_
  refine rt ?_
  dsimp only
  refine bnd ?_
  rw [k0_part100_eq_skeleton]; unfold k0_part100_skel
  iterate 7 refine ld (load_half _ _ 1 rfl) ?_
  refine rt ?_
  dsimp only
  refine bnd ?_
  rw [k0_part101_eq_skeleton]; unfold k0_part101_skel
  iterate 7 refine ld (load_half _ _ 1 rfl) ?_
  refine rt ?_
  dsimp only
  refine bnd ?_
  rw [k0_part102_eq_skeleton]; unfold k0_part102_skel
  iterate 7 refine ld (load_half _ _ 1 rfl) ?_
  refine rt ?_
  dsimp only
  refine bnd ?_
  rw [k0_part103_eq_skeleton]; unfold k0_part103_skel
  iterate 7 refine ld (load_half _ _ 1 rfl) ?_
  refine rt ?_
  dsimp only
  refine bnd ?_
  rw [k0_part104_eq_skeleton]; unfold k0_part104_skel
  iterate 7 refine ld (load_half _ _ 1 rfl) ?_
  refine rt ?_
  dsimp only
  refine bnd ?_
  rw [k0_part105_eq_skeleton]; unfold k0_part105_skel
  iterate 7 refine ld (load_half _ _ 1 rfl) ?_
  refine rt ?_
  dsimp only
  refine bnd ?_
  rw [k0_part106_eq_skeleton]; unfold k0_part106_skel
  iterate 7 refine ld (load_half _ _ 1 rfl) ?_
  refine rt ?_
  dsimp only
  refine bnd ?_
  rw [k0_part107_eq_skeleton]; unfold k0_part107_skel
  iterate 7 refine ld (load_half _ _ 1 rfl) ?_
  refine rt ?_
  dsimp only
  refine bnd ?_
  rw [k0_part108_eq_skeleton]; unfold k0_part108_skel
  iterate 7 refine ld (load_half _ _ 1 rfl) ?_
  refine rt ?_
  dsimp only
  refine bnd ?_
  rw [k0_part109_eq_skeleton]; unfold k0_part109_skel
  iterate 7 refine ld (load_half _ _ 1 rfl) ?_
  refine rt ?_
  dsimp only
  refine bnd ?_
  rw [k0_part110_eq_skeleton]; unfold k0_part110_skel
  iterate 7 refine ld (load_half _ _ 1 rfl) ?_
  refine rt ?_
  dsimp only
  refine bnd ?_
  rw [k0_part111_eq_skeleton]; unfold k0_part111_skel
  iterate 7 refine ld (load_half _ _ 1 rfl) ?_
  refine rt ?_
  dsimp only
  refine bnd ?_
  rw [k0_part112_eq_skeleton]; unfold k0_part112_skel
  iterate 7 refine ld (load_half _ _ 1 rfl) ?_
  refine rt ?_
  dsimp only
  refine bnd ?_
  rw [k0_part113_eq_skeleton]; unfold k0_part113_skel
  iterate 8 refine ld (load_half _ _ 1 rfl) ?_
  refine rt ?_
  dsimp only
  refine bnd ?_
  rw [k0_part114_eq_skeleton]; unfold k0_part114_skel
  iterate 7 refine ld (load_half _ _ 1 rfl) ?_
  refine rt ?_
  dsimp only
  refine ld (load_half _ _ 1 rfl) ?_
  refine rtE (tup_ext ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_)
  iterate 32 exact quad_lane g A 1 _ _ _ _ _ _ _ _ _ _ ⟨rfl, hr, rfl⟩ ⟨rfl, hr1, rfl⟩ ⟨rfl, hr2, rfl⟩ ⟨rfl, hr3, rfl⟩

end Cert.Proof.Seg

end
-- ==== Proof.Segment.lean ====
/-
  One segment of one chunk: the four loops over its rows leave the sum of its rows, and thirty-two loads and stores add that
  to the segment's row of the tile's sums.
-/
module

public import proofs.«01_k».proof.Proof.Loops

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The sum of a segment's rows, in the kernel's own order -/

/-- The accumulators after `t` four-row steps from row `lo`. -/
def quadN (g : S2x64x512.Idx → F .f32) (c lo : ℕ) (A : ℕ → F .f32) : ℕ → ℕ → F .f32
  | 0 => A
  | t + 1 => quadStep g c (lo + 4 * t) (quadN g c lo A t)

/-- The accumulators after `t` rows from row `r`. -/
def rowN (g : S2x64x512.Idx → F .f32) (c r : ℕ) (A : ℕ → F .f32) : ℕ → ℕ → F .f32
  | 0 => A
  | t + 1 => rowStep g c (r + t) (rowN g c r A t)

/-- The zero the accumulators start from. -/
abbrev zF : F .f32 := FloatOps.ofBits .f32 0#32

/-- The sum of rows `lo … hi-1` of chunk buffer `c`. -/
def segAcc (g : S2x64x512.Idx → F .f32) (c lo hi : ℕ) : ℕ → F .f32 :=
  rowN g c (lo + 4 * ((hi - lo) / 4)) (quadN g c lo (fun _ => zF) ((hi - lo) / 4)) ((hi - lo) % 4)

/-- The sums with the first `k` vectors of row `s` updated by `A`. -/
def colsDone (P : S16x512.Idx → F .f32) (s : ℕ) (A : ℕ → F .f32) (k : ℕ) : S16x512.Idx → F .f32 :=
  fun i => if (i 0).val = s ∧ (i 1).val < 16 * k then FloatOps.addf (P i) (A (i 1).val) else P i

/-! ## The sums, sixteen lanes at a time -/

/-- Sixteen lanes of the sums. -/
theorem write_row (f : S16x512.Idx → F .f32) (off : Fin 2 → ℕ) (h : ∀ a, off a + S1x16.size a ≤ S16x512.size a)
    (w : FVec F S16 .f32) (i : S16x512.Idx) :
    (paM.access (Rect.unit (s := S16x512) off S1x16.size h)).write (Elt F) f (shapeCast S1x16 w shapeCasts_S16_S1x16) Finset.univ i
      = if hi : (i 0).val = off 0 ∧ off 1 ≤ (i 1).val ∧ (i 1).val < off 1 + 16 then w (fun | 0 => (⟨(i 1).val - off 1, by omega⟩ : Fin 16)) else f i := by
  have b0 : off 0 + 1 ≤ 16 := h 0
  have b1 : off 1 + 16 ≤ 512 := h 1
  split
  · rename_i hi
    have e : i = (paM.access (Rect.unit (s := S16x512) off S1x16.size h)).emb
        (fun | 0 => (⟨0, by decide⟩ : Fin 1) | 1 => (⟨(i 1).val - off 1, by omega⟩ : Fin 16) : S1x16.Idx) := by
      funext a
      match a with
      | 0 => exact Fin.ext (show (i 0).val = off 0 + 1 * 0 by omega)
      | 1 => exact Fin.ext (show (i 1).val = off 1 + 1 * ((i 1).val - off 1) by omega)
    conv_lhs => rw [e]
    rw [View.write_emb_of_mem (h := Finset.mem_univ _)]
    show w (Shape.reshapeEquiv (s := S16) (s' := S1x16) shapeCasts_S16_S1x16 _) = _
    congr 1
    apply Shape.reshapeEquiv_eq_of_rowMajor
    rw [Shape.rowMajor_val_one, Shape.rowMajor_val_two]
    show (i 1).val - off 1 = 0 * _ + ((i 1).val - off 1)
    omega
  · rename_i hi
    refine View.write_of_not_mem (Val := Elt F) (v := paM.access (Rect.unit (s := S16x512) off S1x16.size h)) f _ Finset.univ fun hm => ?_
    obtain ⟨x, -, rfl⟩ := Finset.mem_map.mp hm
    have h0 : (x 0).val < 1 := (x 0).isLt
    have h1 : (x 1).val < 16 := (x 1).isLt
    refine hi ⟨?_, ?_, ?_⟩
    · show off 0 + 1 * (x 0).val = off 0
      omega
    · show off 1 ≤ off 1 + 1 * (x 1).val
      omega
    · show off 1 + 1 * (x 1).val < off 1 + 16
      omega

/-- Sixteen lanes read from the sums. -/
theorem load_sum (f : S16x512.Idx → F .f32) (off : Fin 2 → ℕ) (h : ∀ a, off a + S1x16.size a ≤ S16x512.size a) (x : S16.Idx)
    (i : S16x512.Idx) (h0 : (i 0).val = off 0) (h1 : (i 1).val = off 1 + (x 0).val) :
    (shapeCast S16 (paM.view.readAt (Elt F) (Rect.unit (s := S16x512) off S1x16.size h).toLoadRect f : Vec F S1x16 .f32) shapeCasts_S1x16_S16
      : FVec F S16 .f32) x = f i := by
  show f ((Rect.unit (s := S16x512) off S1x16.size h).emb (Shape.reshapeEquiv (s := S1x16) (s' := S16) shapeCasts_S1x16_S16 x)) = f i
  rw [emb_S1x16]
  congr 1
  funext a
  match a with
  | 0 => exact Fin.ext (show off 0 + 1 * 0 = (i 0).val by omega)
  | 1 => exact Fin.ext (show off 1 + 1 * (x 0).val = (i 1).val by omega)

/-- One of the thirty-two stores. -/
theorem add_row (P : S16x512.Idx → F .f32) (s : ℕ) (A : ℕ → F .f32) (k : ℕ) {off : Fin 2 → ℕ}
    {h : ∀ a, off a + S1x16.size a ≤ S16x512.size a} {w : FVec F S16 .f32} {ps : List (View.Piece (Elt F) S16x512 .f32)}
    (hps : paM.view.writes (Elt F) P ps = colsDone P s A k) (h0 : off 0 = s) (h1 : off 1 = 16 * k)
    (hw : w = addf (shapeCast S16 (paM.view.readAt (Elt F) (Rect.unit (s := S16x512) off S1x16.size h).toLoadRect (paM.view.writes (Elt F) P ps) : Vec F S1x16 .f32)
      shapeCasts_S1x16_S16) (lane A k)) :
    paM.view.writes (Elt F) P (⟨Rect.unit (s := S16x512) off S1x16.size h, shapeCast S1x16 w shapeCasts_S16_S1x16⟩ :: ps) = colsDone P s A (k + 1) := by
  rw [hps] at hw
  rw [View.writes_cons, hps]
  funext i
  refine (write_row _ off h w i).trans ?_
  split
  · rename_i hi
    subst hw
    have hl := load_sum (colsDone P s A k) off h (fun | 0 => (⟨(i 1).val - off 1, by omega⟩ : Fin 16)) i hi.1
      (show (i 1).val = off 1 + ((i 1).val - off 1) by omega)
    show FloatOps.addf (shapeCast S16 _ shapeCasts_S1x16_S16 _) (A (16 * k + ((i 1).val - off 1))) = _
    rw [hl]
    have e : 16 * k + ((i 1).val - off 1) = (i 1).val := by omega
    rw [e]
    unfold colsDone
    rw [if_neg (by omega), if_pos (by omega)]
  · rename_i hi
    unfold colsDone
    by_cases hc : (i 0).val = s ∧ (i 1).val < 16 * k
    · rw [if_pos hc, if_pos (by omega)]
    · rw [if_neg hc, if_neg (by omega)]

/-- The sums are held with any contents equal to its own. -/
theorem sums_of_eq {d : Dev nD} {L : grid0.Coords} {f f' : S16x512.Idx → F .f32} (h : f = f') :
    (paM.view.loc (thr d L) ↦{fullShare} f : sProp 𝕄) ⊢ paM.view.loc (thr d L) ↦{fullShare} f' := by
  subst h; iintro H; iexact H

/-! ## One segment -/

/-- The sums with one segment's rows of one chunk added. -/
def segDone (P : S16x512.Idx → F .f32) (s : ℕ) (g : S2x64x512.Idx → F .f32) (c lo hi : ℕ) : S16x512.Idx → F .f32 :=
  if lo < hi then colsDone P s (segAcc g c lo hi) 32 else P

theorem colsDone_zero (P : S16x512.Idx → F .f32) (s : ℕ) (A : ℕ → F .f32) : colsDone P s A 0 = P := by
  funext i; unfold colsDone; rw [if_neg (by omega)]

set_option cleanup.letToHave false in
/-- One segment of the first chunk: its rows' sum is added to its row of the sums. -/
theorem t4_body (d : Dev nD) (L : grid0.Coords) (v2 : BitVec 32) (v3 v10_0 v16_0 : IVec S16 32) (c0_i32_30 v35 : BitVec 32)
    (v46 : Vec F S16 .i32) (v52 v62 : BitVec 32) (hw5 : k0_chk5 v52 v62) (t : Fin (k0_t4_loop v52 v62).trips) (arg13 : BitVec 32)
    (a b : BitVec 32) (ha : extractAt ![15] (k0_pay809 (F := F) v3 v10_0 v46 v52 v62 t) inpos_S16_p15 = a)
    (hb : extractAt ![15] (k0_pay810 (F := F) v3 v16_0 v46 v52 v62 t) inpos_S16_p15 = b) (ha' : a.toNat ≤ 128) (hb' : b.toNat ≤ 128)
    (s : ℕ) (hs : (Scf.iv v52 1#32 t).toNat = s) (hs16 : s < 16) (g : S2x64x512.Idx → F .f32) (P P' : S16x512.Idx → F .f32)
    (hP' : P' = segDone P s g 0 (clip 0#32 a).toNat (clip 0#32 b).toNat) :
    (iprop((xbM.view.loc (thr d L) ↦[half 0]{fullShare} g) ∗ (paM.view.loc (thr d L) ↦{fullShare} P)) : sProp 𝕄)
      ⊢ wp frame (wpE (defs₀ (F := F)) 𝒱₀ (thr d L) none) Set.univ
      (k0_t4_body L xM hxM iM hiM oM hoM cM hcM idM hidM xbM hxbM paM hpaM cnM hcnM cc0_scratch4 cc0_scratch5 cc0_scoped0 cc0_scoped1
        cc0_scoped2 v2 v3 (fun _ => zF) v10_0 v16_0 c0_i32_30 v35 0#32 v46 v52 v62 hw5 t arg13)
      fun _ => iprop((xbM.view.loc (thr d L) ↦[half 0]{fullShare} g) ∗ (paM.view.loc (thr d L) ↦{fullShare} P')) := by
  have hw6 : k0_chk6 v52 v62 t a b := chk6 v52 v62 t a b ha' hb' (by omega)
  subst ha hb
  unfold k0_t4_body
  by_cases h1 : k0_cond1 (extractAt ![15] (k0_pay809 (F := F) v3 v10_0 v46 v52 v62 t) inpos_S16_p15)
      (extractAt ![15] (k0_pay810 (F := F) v3 v16_0 v46 v52 v62 t) inpos_S16_p15) = 1#1
  · have hlt := rows_zero ha' hb' h1
    have hhi := clip_zero_le hb'
    have hA := tripsA hlt hhi
    have hC := tripsC hlt hhi
    obtain ⟨lo, hlo⟩ : ∃ n, n = (clip 0#32 (extractAt ![15] (k0_pay809 (F := F) v3 v10_0 v46 v52 v62 t) inpos_S16_p15)).toNat := ⟨_, rfl⟩
    obtain ⟨hi, hhi'⟩ : ∃ n, n = (clip 0#32 (extractAt ![15] (k0_pay810 (F := F) v3 v16_0 v46 v52 v62 t) inpos_S16_p15)).toNat := ⟨_, rfl⟩
    rw [← hlo, ← hhi'] at hP' hA hC
    iintro ⟨Hx, Hp⟩
    sl_exec
    sl_for (fun n acc => iprop(⌜acc = tup (quadN g 0 lo (fun _ => zF) n)⌝ ∗ xbM.view.loc (thr d L) ↦[half 0]{fullShare} g)) $$ [Hx]
    case region =>
      intro n acc
      iintro ⟨%e, Hx⟩
      subst e
      rw [hlo]
      iapply (t5_body d L _ v52 v62 t _ _ _ hw6 _ _ h1 n hlt hhi g _)
      iexact Hx
    · isplitr
      · ipureintro; rfl
      · iexact Hx
    iintro %acc ⟨%e, Hx⟩
    have e : acc = tup (quadN g 0 lo (fun _ => zF) ((hi - lo) / 4)) := e.trans (congrArg (fun n => tup (quadN g 0 lo (fun _ => zF) n)) hA)
    subst e
    generalize hq : quadN g 0 lo (fun _ => zF) ((hi - lo) / 4) = Aq
    unfold tup
    sl_exec
    sl_for (fun n acc => iprop(⌜acc = tup Aq⌝ ∗ xbM.view.loc (thr d L) ↦[half 0]{fullShare} g)) $$ [Hx]
    case region =>
      intro n acc
      exact noB hlt hhi n.val n.isLt
    · isplitr
      · ipureintro; rfl
      · iexact Hx
    iintro %acc ⟨%e, Hx⟩
    subst e
    unfold tup
    sl_exec
    sl_for (fun n acc => iprop(⌜acc = tup (rowN g 0 (lo + 4 * ((hi - lo) / 4)) Aq n)⌝ ∗ xbM.view.loc (thr d L) ↦[half 0]{fullShare} g)) $$ [Hx]
    case region =>
      intro n acc
      iintro ⟨%e, Hx⟩
      subst e
      rw [hlo, hhi']
      iapply (t7_body d L _ v52 v62 t _ _ _ hw6 _ _ h1 _ n hlt hhi g _)
      iexact Hx
    · isplitr
      · ipureintro; rfl
      · iexact Hx
    iintro %acc ⟨%e, Hx⟩
    have e : acc = tup (segAcc g 0 lo hi) :=
      e.trans (congrArg tup ((congrArg (fun n => rowN g 0 (lo + 4 * ((hi - lo) / 4)) Aq n) hC).trans (by rw [← hq]; rfl)))
    subst e
    generalize hAA : segAcc g 0 lo hi = A
    unfold tup
    sl_exec
    sl_for (fun n acc => iprop(⌜acc = tup A⌝ ∗ xbM.view.loc (thr d L) ↦[half 0]{fullShare} g)) $$ [Hx]
    case region =>
      intro n acc
      exact noD hlt hhi n.val n.isLt
    · isplitr
      · ipureintro; rfl
      · iexact Hx
    iintro %acc ⟨%e, Hx⟩
    subst e
    unfold tup
    sl_exec
    sl_step
    have hP : P' = colsDone P s A 32 := by rw [hP', segDone, if_pos (by omega), hAA]
    rw [hP]
    isplitl [Hx]
    · iexact Hx
    iapply (sums_of_eq ?_) $$ Hp
    iterate 32 refine add_row P s A _ ?_ (by exact hs) (by rfl) (by rfl)
    exact (colsDone_zero P s A).symm
  · iintro ⟨Hx, Hp⟩
    sl_exec
    sl_step
    rw [hP', segDone, if_neg fun h => h1 ((some_rows _ _ (clip_zero_le ha') (clip_zero_le hb')).mpr h)]
    isplitl [Hx] <;> iassumption

set_option cleanup.letToHave false in
/-- One segment of the second chunk. -/
theorem t14_body (d : Dev nD) (L : grid0.Coords) (v3 v10_0 v16_0 : IVec S16 32) (v76 : BitVec 32)
    (v87 : Vec F S16 .i32) (v93 v103 : BitVec 32) (hw10 : k0_chk10 v93 v103) (t : Fin (k0_t14_loop v93 v103).trips) (arg13 : BitVec 32)
    (a b : BitVec 32) (ha : extractAt ![15] (k0_pay825 (F := F) v3 v10_0 v87 v93 v103 t) inpos_S16_p15 = a)
    (hb : extractAt ![15] (k0_pay826 (F := F) v3 v16_0 v87 v93 v103 t) inpos_S16_p15 = b) (ha' : a.toNat ≤ 128) (hb' : b.toNat ≤ 128)
    (s : ℕ) (hs : (Scf.iv v93 1#32 t).toNat = s) (hs16 : s < 16) (g : S2x64x512.Idx → F .f32) (P P' : S16x512.Idx → F .f32)
    (hP' : P' = segDone P s g 1 (clip 64#32 a).toNat (clip 64#32 b).toNat) :
    (iprop((xbM.view.loc (thr d L) ↦[half 1]{fullShare} g) ∗ (paM.view.loc (thr d L) ↦{fullShare} P)) : sProp 𝕄)
      ⊢ wp frame (wpE (defs₀ (F := F)) 𝒱₀ (thr d L) none) Set.univ
      (k0_t14_body L xM hxM iM hiM oM hoM cM hcM idM hidM xbM hxbM paM hpaM cnM hcnM cc0_scratch4 cc0_scratch5 cc0_scoped0 cc0_scoped1
        cc0_scoped2 v3 (fun _ => zF) v10_0 v16_0 v76 64#32 v87 v93 v103 hw10 t arg13)
      fun _ => iprop((xbM.view.loc (thr d L) ↦[half 1]{fullShare} g) ∗ (paM.view.loc (thr d L) ↦{fullShare} P')) := by
  have hw11 : k0_chk11 v93 v103 t a b := chk11 v93 v103 t a b ha' hb' (by omega)
  subst ha hb
  unfold k0_t14_body
  by_cases h4 : k0_cond4 (extractAt ![15] (k0_pay825 (F := F) v3 v10_0 v87 v93 v103 t) inpos_S16_p15)
      (extractAt ![15] (k0_pay826 (F := F) v3 v16_0 v87 v93 v103 t) inpos_S16_p15) = 1#1
  · have hlt := rows_one ha' hb' h4
    have hhi := clip_one_le hb'
    have hA := tripsA hlt hhi
    have hC := tripsC hlt hhi
    obtain ⟨lo, hlo⟩ : ∃ n, n = (clip 64#32 (extractAt ![15] (k0_pay825 (F := F) v3 v10_0 v87 v93 v103 t) inpos_S16_p15)).toNat := ⟨_, rfl⟩
    obtain ⟨hi, hhi'⟩ : ∃ n, n = (clip 64#32 (extractAt ![15] (k0_pay826 (F := F) v3 v16_0 v87 v93 v103 t) inpos_S16_p15)).toNat := ⟨_, rfl⟩
    rw [← hlo, ← hhi'] at hP' hA hC
    iintro ⟨Hx, Hp⟩
    sl_exec
    sl_for (fun n acc => iprop(⌜acc = tup (quadN g 1 lo (fun _ => zF) n)⌝ ∗ xbM.view.loc (thr d L) ↦[half 1]{fullShare} g)) $$ [Hx]
    case region =>
      intro n acc
      iintro ⟨%e, Hx⟩
      subst e
      rw [hlo]
      iapply (t15_body d L _ v93 v103 t _ _ _ hw11 _ _ h4 n hlt hhi g _)
      iexact Hx
    · isplitr
      · ipureintro; rfl
      · iexact Hx
    iintro %acc ⟨%e, Hx⟩
    have e : acc = tup (quadN g 1 lo (fun _ => zF) ((hi - lo) / 4)) := e.trans (congrArg (fun n => tup (quadN g 1 lo (fun _ => zF) n)) hA)
    subst e
    generalize hq : quadN g 1 lo (fun _ => zF) ((hi - lo) / 4) = Aq
    unfold tup
    sl_exec
    sl_for (fun n acc => iprop(⌜acc = tup Aq⌝ ∗ xbM.view.loc (thr d L) ↦[half 1]{fullShare} g)) $$ [Hx]
    case region =>
      intro n acc
      exact noB hlt hhi n.val n.isLt
    · isplitr
      · ipureintro; rfl
      · iexact Hx
    iintro %acc ⟨%e, Hx⟩
    subst e
    unfold tup
    sl_exec
    sl_for (fun n acc => iprop(⌜acc = tup (rowN g 1 (lo + 4 * ((hi - lo) / 4)) Aq n)⌝ ∗ xbM.view.loc (thr d L) ↦[half 1]{fullShare} g)) $$ [Hx]
    case region =>
      intro n acc
      iintro ⟨%e, Hx⟩
      subst e
      rw [hlo, hhi']
      iapply (t17_body d L _ v93 v103 t _ _ _ hw11 _ _ h4 _ n hlt hhi g _)
      iexact Hx
    · isplitr
      · ipureintro; rfl
      · iexact Hx
    iintro %acc ⟨%e, Hx⟩
    have e : acc = tup (segAcc g 1 lo hi) :=
      e.trans (congrArg tup ((congrArg (fun n => rowN g 1 (lo + 4 * ((hi - lo) / 4)) Aq n) hC).trans (by rw [← hq]; rfl)))
    subst e
    generalize hAA : segAcc g 1 lo hi = A
    unfold tup
    sl_exec
    sl_for (fun n acc => iprop(⌜acc = tup A⌝ ∗ xbM.view.loc (thr d L) ↦[half 1]{fullShare} g)) $$ [Hx]
    case region =>
      intro n acc
      exact noD hlt hhi n.val n.isLt
    · isplitr
      · ipureintro; rfl
      · iexact Hx
    iintro %acc ⟨%e, Hx⟩
    subst e
    unfold tup
    sl_exec
    sl_step
    have hP : P' = colsDone P s A 32 := by rw [hP', segDone, if_pos (by omega), hAA]
    rw [hP]
    isplitl [Hx]
    · iexact Hx
    iapply (sums_of_eq ?_) $$ Hp
    iterate 32 refine add_row P s A _ ?_ (by exact hs) (by rfl) (by rfl)
    exact (colsDone_zero P s A).symm
  · iintro ⟨Hx, Hp⟩
    sl_exec
    sl_step
    rw [hP', segDone, if_neg fun h => h4 ((some_rows _ _ (clip_one_le ha') (clip_one_le hb')).mpr h)]
    isplitl [Hx] <;> iassumption

end Cert.Proof.Seg

end
-- ==== Proof.Init.lean ====
/-
  The loops before the chunks: one clears the tile's sums, two search the tile's ids for the lanes' segments.
-/
module

public import proofs.«01_k».proof.Proof.Scan
public import proofs.«01_k».proof.Proof.Segment
public import Idealize.ShloMosaic.Lib.SparseCore.Ops

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Clearing the sums -/

/-- The sums with the first `k` vectors of row `s` cleared. -/
def colsZero (P : S16x512.Idx → F .f32) (s : ℕ) (k : ℕ) : S16x512.Idx → F .f32 :=
  fun i => if (i 0).val = s ∧ (i 1).val < 16 * k then zF else P i

/-- The sums with their first `n` rows cleared. -/
def rowsZero (P : S16x512.Idx → F .f32) (n : ℕ) : S16x512.Idx → F .f32 := fun i => if (i 0).val < n then zF else P i

/-- One of the thirty-two stores. -/
theorem zero_row (P : S16x512.Idx → F .f32) (s : ℕ) (k : ℕ) {off : Fin 2 → ℕ}
    {h : ∀ a, off a + S1x16.size a ≤ S16x512.size a} {w : FVec F S16 .f32} {ps : List (View.Piece (Elt F) S16x512 .f32)}
    (hps : paM.view.writes (Elt F) P ps = colsZero P s k) (h0 : off 0 = s) (h1 : off 1 = 16 * k) (hw : w = fun _ => zF) :
    paM.view.writes (Elt F) P (⟨Rect.unit (s := S16x512) off S1x16.size h, shapeCast S1x16 w shapeCasts_S16_S1x16⟩ :: ps) = colsZero P s (k + 1) := by
  rw [View.writes_cons, hps]
  funext i
  refine (write_row _ off h w i).trans ?_
  subst hw
  unfold colsZero
  split
  · rw [if_pos (by omega)]
  · by_cases hc : (i 0).val = s ∧ (i 1).val < 16 * k
    · rw [if_pos hc, if_pos (by omega)]
    · rw [if_neg hc, if_neg (by omega)]

theorem rowsZero_succ (P : S16x512.Idx → F .f32) (n : ℕ) : colsZero (rowsZero P n) n 32 = rowsZero P (n + 1) := by
  funext i
  have h1 : (i 1).val < 512 := (i 1).isLt
  unfold colsZero rowsZero
  by_cases h : (i 0).val = n
  · rw [if_pos ⟨h, by omega⟩, if_pos (by omega)]
  · rw [if_neg (fun hc => h hc.1)]
    by_cases h' : (i 0).val < n
    · rw [if_pos h', if_pos (by omega)]
    · rw [if_neg h', if_neg (by omega)]

theorem rowsZero_all (P : S16x512.Idx → F .f32) : rowsZero P 16 = fun _ => zF := by
  funext i
  exact if_pos (i 0).isLt

set_option cleanup.letToHave false in
theorem t1_body (d : Dev nD) (L : grid0.Coords) (t : Fin k0_t1_loop.trips) (a : BitVec 32) (P : S16x512.Idx → F .f32) :
    (paM.view.loc (thr d L) ↦{fullShare} rowsZero P t.val : sProp 𝕄) ⊢ wp frame (wpE (defs₀ (F := F)) 𝒱₀ (thr d L) none) Set.univ
      (k0_t1_body L xM hxM iM hiM oM hoM cM hcM idM hidM xbM hxbM paM hpaM cnM hcnM cc0_scratch4 cc0_scratch5 cc0_scoped0 cc0_scoped1
        cc0_scoped2 t a)
      fun _ => (paM.view.loc (thr d L) ↦{fullShare} rowsZero P (t.val + 1)) := by
  have hs : (Scf.iv 0#32 1#32 t).toNat = t.val := (by decide : ∀ t : Fin k0_t1_loop.trips, (Scf.iv 0#32 1#32 t).toNat = t.val) t
  generalize hP0 : rowsZero P t.val = P0
  unfold k0_t1_body
  iintro Hp
  sl_exec
  sl_step
  rw [← rowsZero_succ, hP0]
  iapply (sums_of_eq ?_) $$ Hp
  iterate 32 refine zero_row P0 t.val _ ?_ (by exact hs) (by rfl) (by rfl)
  funext i
  exact (if_neg (by omega)).symm

/-! ## The searches -/

/-- A gather from the tile's ids. -/
theorem loadIdx_ids (f : S128.Idx → BitVec 32) (v : IVec S16 32) (h : ∀ a x, ((![v] : Fin 1 → IVec S16 32) a x).toNat < S128.size a) (x : S16.Idx)
    (k : ℕ) (hk : (v x).toNat = min k 127) :
    (loadIdx (F := F) (e := .i32) ((idM.access (Rect.whole S128)).read (Elt F) f) ![v] h : IVec S16 32) x = idAt f k := by
  unfold idAt
  show f _ = f _
  congr 1
  funext a
  match a with
  | 0 => exact Fin.ext (by show 0 + 1 * (v x).toNat = min k 127; omega)

set_option cleanup.letToHave false in
theorem t2_body (d : Dev nD) (L : grid0.Coords) (t : Fin k0_t2_loop.trips) (f : S128.Idx → BitVec 32) (n : ℕ) :
    (idM.view.loc (thr d L) ↦{fullShare} f : sProp 𝕄) ⊢ wp frame (wpE (defs₀ (F := F)) 𝒱₀ (thr d L) none) Set.univ
      (k0_t2_body L xM hxM iM hiM oM hoM cM hcM idM hidM xbM hxbM paM hpaM cnM hcnM cc0_scratch4 cc0_scratch5 cc0_scoped0 cc0_scoped1
        cc0_scoped2 t (lows f keyLo n, highs f keyLo n))
      fun acc => iprop(⌜acc = (lows f keyLo (n + 1), highs f keyLo (n + 1))⌝ ∗ idM.view.loc (thr d L) ↦{fullShare} f) := by
  have hp : ∀ x, (k0_pay793 (lows f keyLo n) (highs f keyLo n) x).toNat
      = min ((bnds f (keyLo x) n).1 + ((bnds f (keyLo x) n).2 - (bnds f (keyLo x) n).1) / 2) 127 := fun x => by
    rw [probe_lo, BitVec.toNat_ofNat]; omega
  have hw1 : k0_chk1 (k0_pay793 (lows f keyLo n) (highs f keyLo n)) := fun a x => by
    match a with
    | 0 => have := hp x; show (k0_pay793 _ _ x).toNat < 128; omega
  unfold k0_t2_body
  iintro H
  sl_exec
  iapply (SparseCore.wp_vectorLoadIdx 𝒱₀ (thr d L) none Set.univ (base := idM) (S := Finset.univ) (q := fullShare) (Finset.subset_univ _)) $$ H
  iintro H
  sl_step
  isplitr
  · ipureintro
    have h := step_lo (F := F) f n _ fun x => loadIdx_ids (F := F) f _ hw1 x _ (hp x)
    exact Prod.ext h.1 h.2
  · iexact H

set_option cleanup.letToHave false in
theorem t3_body (d : Dev nD) (L : grid0.Coords) (t : Fin k0_t3_loop.trips) (f : S128.Idx → BitVec 32) (n : ℕ) :
    (idM.view.loc (thr d L) ↦{fullShare} f : sProp 𝕄) ⊢ wp frame (wpE (defs₀ (F := F)) 𝒱₀ (thr d L) none) Set.univ
      (k0_t3_body L xM hxM iM hiM oM hoM cM hcM idM hidM xbM hxbM paM hpaM cnM hcnM cc0_scratch4 cc0_scratch5 cc0_scoped0 cc0_scoped1
        cc0_scoped2 t (lows f keyHi n, highs f keyHi n))
      fun acc => iprop(⌜acc = (lows f keyHi (n + 1), highs f keyHi (n + 1))⌝ ∗ idM.view.loc (thr d L) ↦{fullShare} f) := by
  have hp : ∀ x, (k0_pay801 (lows f keyHi n) (highs f keyHi n) x).toNat
      = min ((bnds f (keyHi x) n).1 + ((bnds f (keyHi x) n).2 - (bnds f (keyHi x) n).1) / 2) 127 := fun x => by
    rw [probe_hi, BitVec.toNat_ofNat]; omega
  have hw2 : k0_chk2 (k0_pay801 (lows f keyHi n) (highs f keyHi n)) := fun a x => by
    match a with
    | 0 => have := hp x; show (k0_pay801 _ _ x).toNat < 128; omega
  unfold k0_t3_body
  iintro H
  sl_exec
  iapply (SparseCore.wp_vectorLoadIdx 𝒱₀ (thr d L) none Set.univ (base := idM) (S := Finset.univ) (q := fullShare) (Finset.subset_univ _)) $$ H
  iintro H
  sl_step
  isplitr
  · ipureintro
    have h := step_hi (F := F) f n _ fun x => loadIdx_ids (F := F) f _ hw2 x _ (hp x)
    exact Prod.ext h.1 h.2
  · iexact H

end Cert.Proof.Seg

end
-- ==== Proof.Chunk.lean ====
/-
  One chunk of a tile's rows: which segments it meets, and the sums after its loop over them.
-/
module

public import proofs.«01_k».proof.Proof.Init

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Every id is one of the sixteen segments. -/
def InRange (f : S128.Idx → BitVec 32) : Prop := ∀ i, (f i).toNat < 16

theorem idAt_lt {f : S128.Idx → BitVec 32} (hf : InRange f) (k : ℕ) : (idAt f k).toNat < 16 := hf _

/-! ## The segments a chunk meets -/

theorem seg_loop_all : ∀ a b : Fin 16, k0_chk5 (BitVec.ofNat 32 a.val) (BitVec.ofNat 32 b.val)
    ∧ (k0_t4_loop (BitVec.ofNat 32 a.val) (BitVec.ofNat 32 b.val)).trips = b.val + 1 - a.val
    ∧ (k0_t9_loop (BitVec.ofNat 32 a.val) (BitVec.ofNat 32 b.val)).trips = 0 := by
  decide

theorem seg_loop (a b : BitVec 32) (ha : a.toNat < 16) (hb : b.toNat < 16) : k0_chk5 a b
    ∧ (k0_t4_loop a b).trips = b.toNat + 1 - a.toNat ∧ (k0_t9_loop a b).trips = 0 := by
  have h := seg_loop_all ⟨a.toNat, ha⟩ ⟨b.toNat, hb⟩
  simpa only [BitVec.ofNat_toNat, BitVec.setWidth_eq] using h

/-- The second chunk's loops have the first chunk's bounds. -/
theorem seg_loop' (a b : BitVec 32) (ha : a.toNat < 16) (hb : b.toNat < 16) : k0_chk10 a b
    ∧ (k0_t14_loop a b).trips = b.toNat + 1 - a.toNat ∧ (k0_t19_loop a b).trips = 0 :=
  seg_loop a b ha hb

theorem iv_one (a : BitVec 32) (ha : a.toNat < 16) (t : ℕ) (ht : t < 32) : (Scf.iv a 1#32 t).toNat = a.toNat + t := by
  unfold Scf.iv
  rw [BitVec.mul_one, BitVec.toNat_add, BitVec.toNat_ofNat]
  omega

/-- The largest of sixteen copies of an id. -/
theorem top_splat (w : IVec S16 32) (m : BitVec 32) (hm : m.toNat < 16) (hw : ∀ x, w x = m) :
    extractAt ![15] (xori (scan .max (xori w (broadcast S16 2147483648#32))) (broadcast S16 2147483648#32)) inpos_S16_p15 = m :=
  top_eq w m (by omega) (fun x => by rw [hw]) ⟨fun | 0 => (0 : Fin 16), hw _⟩

/-! ## The sums after a run of segments -/

/-- The sums with the segments `s0, …, s0 + n - 1` of chunk `c` added: segment `s` is the rows `lo s, …, hi s - 1`. -/
def segsDone (P : S16x512.Idx → F .f32) (s0 n : ℕ) (g : S2x64x512.Idx → F .f32) (c : ℕ) (lo hi : ℕ → ℕ) : S16x512.Idx → F .f32 :=
  fun i => if (s0 ≤ (i 0).val ∧ (i 0).val < s0 + n) ∧ lo (i 0).val < hi (i 0).val
    then FloatOps.addf (P i) (segAcc g c (lo (i 0).val) (hi (i 0).val) (i 1).val) else P i

theorem segsDone_zero (P : S16x512.Idx → F .f32) (s0 : ℕ) (g : S2x64x512.Idx → F .f32) (c : ℕ) (lo hi : ℕ → ℕ) :
    segsDone P s0 0 g c lo hi = P := by
  funext i; exact if_neg (by omega)

theorem segsDone_succ (P : S16x512.Idx → F .f32) (s0 n : ℕ) (g : S2x64x512.Idx → F .f32) (c : ℕ) (lo hi : ℕ → ℕ) :
    segsDone P s0 (n + 1) g c lo hi = segDone (segsDone P s0 n g c lo hi) (s0 + n) g c (lo (s0 + n)) (hi (s0 + n)) := by
  funext i
  have h1 : (i 1).val < 512 := (i 1).isLt
  unfold segDone
  by_cases hs : (i 0).val = s0 + n
  · have hprev : segsDone P s0 n g c lo hi i = P i := if_neg (by omega)
    by_cases hl : lo (s0 + n) < hi (s0 + n)
    · rw [if_pos hl]
      unfold colsDone
      rw [if_pos ⟨hs, by omega⟩, hprev]
      unfold segsDone
      rw [hs, if_pos ⟨⟨by omega, by omega⟩, hl⟩]
    · rw [if_neg hl, hprev]
      unfold segsDone
      rw [hs, if_neg (fun h => hl h.2)]
  · have hkeep : segsDone P s0 (n + 1) g c lo hi i = segsDone P s0 n g c lo hi i := by
      unfold segsDone
      by_cases hl : lo (i 0).val < hi (i 0).val
      · by_cases hr : s0 ≤ (i 0).val ∧ (i 0).val < s0 + n
        · rw [if_pos ⟨⟨hr.1, by omega⟩, hl⟩, if_pos ⟨hr, hl⟩]
        · rw [if_neg (fun h => hr ⟨h.1.1, by omega⟩), if_neg (fun h => hr h.1)]
      · rw [if_neg (fun h => hl h.2), if_neg (fun h => hl h.2)]
    rw [hkeep]
    split
    · unfold colsDone
      rw [if_neg (fun h => hs h.1)]
    · rfl

/-! ## A tile's sums -/

/-- The first row of segment `s` among the tile's rows, and the first row after it. -/
def first (f : S128.Idx → BitVec 32) (s : ℕ) : ℕ := (bnds f (BitVec.ofNat 32 s) 11).1

/-- Segment `s`'s rows of chunk `c`, counted from the chunk's first row. -/
def loC (f : S128.Idx → BitVec 32) (c s : ℕ) : ℕ := min 64 (first f s - 64 * c)
def hiC (f : S128.Idx → BitVec 32) (c s : ℕ) : ℕ := min 64 (first f (s + 1) - 64 * c)

/-- The sums with chunk `c` added. -/
def chunkDone (P : S16x512.Idx → F .f32) (f : S128.Idx → BitVec 32) (g : S2x64x512.Idx → F .f32) (c : ℕ) : S16x512.Idx → F .f32 :=
  segsDone P (idAt f (64 * c)).toNat ((idAt f (64 * c + 63)).toNat + 1 - (idAt f (64 * c)).toNat) g c (loC f c) (hiC f c)

/-- A tile's sums. -/
def tileSums (f : S128.Idx → BitVec 32) (g : S2x64x512.Idx → F .f32) : S16x512.Idx → F .f32 :=
  chunkDone (chunkDone (fun _ => zF) f g 0) f g 1

/-- A tile's counts. -/
def tileCnts (f : S128.Idx → BitVec 32) : S16.Idx → F .f32 := k0_pay806 (F := F) (lows f keyLo 11) (lows f keyHi 11)

theorem first_le (f : S128.Idx → BitVec 32) (s : ℕ) : first f s ≤ 128 := by
  have := bnds_le f (BitVec.ofNat 32 s) 11
  unfold first; omega

/-! ## The loops over a chunk's segments -/

set_option cleanup.letToHave false in
theorem t4_step (d : Dev nD) (L : grid0.Coords) (f : S128.Idx → BitVec 32) (hf : InRange f) (v2 : BitVec 32) (v3 : IVec S16 32) (hv3 : ∀ x, v3 x = keyLo x)
    (c0_i32_30 v35 : BitVec 32) (v46 : Vec F S16 .i32) (h46 : ∀ x, v46 x = idAt f 0) (v52 v62 : BitVec 32) (e52 : extractAt ![15] (k0_pay807 v46) inpos_S16_p15 = v52) (h62 : v62 = idAt f 63)
    (hw5 : k0_chk5 v52 v62)
    (t : Fin (k0_t4_loop v52 v62).trips) (arg13 : BitVec 32)
    (g : S2x64x512.Idx → F .f32) (P : S16x512.Idx → F .f32) :
    (iprop((xbM.view.loc (thr d L) ↦[half 0]{fullShare} g)
        ∗ (paM.view.loc (thr d L) ↦{fullShare} segsDone P (idAt f 0).toNat t.val g 0 (loC f 0) (hiC f 0))) : sProp 𝕄)
      ⊢ wp frame (wpE (defs₀ (F := F)) 𝒱₀ (thr d L) none) Set.univ
      (k0_t4_body L xM hxM iM hiM oM hoM cM hcM idM hidM xbM hxbM paM hpaM cnM hcnM cc0_scratch4 cc0_scratch5 cc0_scoped0 cc0_scoped1
        cc0_scoped2 v2 v3 (fun _ => zF) (lows f keyLo 11) (lows f keyHi 11) c0_i32_30 v35 0#32 v46 v52 v62 hw5 t arg13)
      fun _ => iprop((xbM.view.loc (thr d L) ↦[half 0]{fullShare} g)
        ∗ (paM.view.loc (thr d L) ↦{fullShare} segsDone P (idAt f 0).toNat (t.val + 1) g 0 (loC f 0) (hiC f 0))) := by
  have h52 : v52 = idAt f 0 := e52.symm.trans <| top_splat v46 _ (idAt_lt hf 0) h46
  have hlt : t.val < (idAt f 63).toNat + 1 - (idAt f 0).toNat := by
    have h := Nat.lt_of_lt_of_eq t.isLt (seg_loop v52 v62 (h52 ▸ idAt_lt hf 0) (h62 ▸ idAt_lt hf 63)).2.1
    rw [← h62, ← h52]; exact h
  have := idAt_lt hf 63
  have hs : (Scf.iv v52 1#32 t).toNat = (idAt f 0).toNat + t.val := by
    rw [iv_one _ (h52 ▸ idAt_lt hf 0) _ (by omega), ← h52]
  have hl : ∀ key x, (lows f key 11 x).toNat ≤ 128 := fun key x => by
    rw [lows_le]; have := bnds_le f (key x) 11; omega
  have pick52 : ∀ w : IVec S16 32, (∀ x, (w x).toNat < 2 ^ 31) → extractAt ![15] (xori (scan .max (xori
      (select (cmpi .eq v3 (broadcast S16 (Scf.iv (extractAt ![15] (k0_pay807 v46) inpos_S16_p15) 1#32 t))) w (broadcast S16 0#32)) (broadcast S16 2147483648#32)))
      (broadcast S16 2147483648#32)) inpos_S16_p15 = w (fun | 0 => (⟨(Scf.iv v52 1#32 t).toNat, by omega⟩ : Fin 16)) := fun w hw => by
    rw [e52]; exact top_select v3 w _ hv3 (by omega) hw
  refine t4_body d L v2 v3 _ _ c0_i32_30 v35 v46 v52 v62 hw5 t arg13 _ _
    (pick52 _ fun x => by have := hl keyLo x; omega)
    (pick52 _ fun x => by have := hl keyHi x; omega)
    (hl _ _) (hl _ _) ((idAt f 0).toNat + t.val) hs (by omega) g _ _ ?_
  rw [segsDone_succ, clip_zero _ (hl _ _), clip_zero _ (hl _ _), lows_le, lows_le]
  unfold loC hiC first keyLo keyHi
  rw [Nat.mul_zero, Nat.sub_zero, Nat.sub_zero]
  simp only [hs]

set_option cleanup.letToHave false in
theorem t14_step (d : Dev nD) (L : grid0.Coords) (f : S128.Idx → BitVec 32) (hf : InRange f) (v3 : IVec S16 32) (hv3 : ∀ x, v3 x = keyLo x)
    (v76 : BitVec 32) (v87 : Vec F S16 .i32) (h87 : ∀ x, v87 x = idAt f 64) (v93 v103 : BitVec 32) (e93 : extractAt ![15] (k0_pay823 v87) inpos_S16_p15 = v93) (h103 : v103 = idAt f 127)
    (hw10 : k0_chk10 v93 v103)
    (t : Fin (k0_t14_loop v93 v103).trips) (arg13 : BitVec 32)
    (g : S2x64x512.Idx → F .f32) (P : S16x512.Idx → F .f32) :
    (iprop((xbM.view.loc (thr d L) ↦[half 1]{fullShare} g)
        ∗ (paM.view.loc (thr d L) ↦{fullShare} segsDone P (idAt f 64).toNat t.val g 1 (loC f 1) (hiC f 1))) : sProp 𝕄)
      ⊢ wp frame (wpE (defs₀ (F := F)) 𝒱₀ (thr d L) none) Set.univ
      (k0_t14_body L xM hxM iM hiM oM hoM cM hcM idM hidM xbM hxbM paM hpaM cnM hcnM cc0_scratch4 cc0_scratch5 cc0_scoped0 cc0_scoped1
        cc0_scoped2 v3 (fun _ => zF) (lows f keyLo 11) (lows f keyHi 11) v76 64#32 v87 v93 v103 hw10 t arg13)
      fun _ => iprop((xbM.view.loc (thr d L) ↦[half 1]{fullShare} g)
        ∗ (paM.view.loc (thr d L) ↦{fullShare} segsDone P (idAt f 64).toNat (t.val + 1) g 1 (loC f 1) (hiC f 1))) := by
  have h93 : v93 = idAt f 64 := e93.symm.trans <| top_splat v87 _ (idAt_lt hf 64) h87
  have hlt : t.val < (idAt f 127).toNat + 1 - (idAt f 64).toNat := by
    have h := Nat.lt_of_lt_of_eq t.isLt (seg_loop' v93 v103 (h93 ▸ idAt_lt hf 64) (h103 ▸ idAt_lt hf 127)).2.1
    rw [← h103, ← h93]; exact h
  have := idAt_lt hf 127
  have hs : (Scf.iv v93 1#32 t).toNat = (idAt f 64).toNat + t.val := by
    rw [iv_one _ (h93 ▸ idAt_lt hf 64) _ (by omega), ← h93]
  have hl : ∀ key x, (lows f key 11 x).toNat ≤ 128 := fun key x => by
    rw [lows_le]; have := bnds_le f (key x) 11; omega
  have pick93 : ∀ w : IVec S16 32, (∀ x, (w x).toNat < 2 ^ 31) → extractAt ![15] (xori (scan .max (xori
      (select (cmpi .eq v3 (broadcast S16 (Scf.iv (extractAt ![15] (k0_pay823 v87) inpos_S16_p15) 1#32 t))) w (broadcast S16 0#32)) (broadcast S16 2147483648#32)))
      (broadcast S16 2147483648#32)) inpos_S16_p15 = w (fun | 0 => (⟨(Scf.iv v93 1#32 t).toNat, by omega⟩ : Fin 16)) := fun w hw => by
    rw [e93]; exact top_select v3 w _ hv3 (by omega) hw
  refine t14_body d L v3 _ _ v76 v87 v93 v103 hw10 t arg13 _ _
    (pick93 _ fun x => by have := hl keyLo x; omega)
    (pick93 _ fun x => by have := hl keyHi x; omega)
    (hl _ _) (hl _ _) ((idAt f 64).toNat + t.val) hs (by omega) g _ _ ?_
  rw [segsDone_succ, clip_one _ (hl _ _), clip_one _ (hl _ _), lows_le, lows_le]
  unfold loC hiC first keyLo keyHi
  simp only [hs, Nat.mul_one]

end Cert.Proof.Seg

end
-- ==== Proof.Slices.lean ====
/-
  The parts of the large arrays a tile reads and writes: which elements they are, and what a copy moves.
-/
module

public import proofs.«01_k».proof.Proof.Chunk

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A tile's number and its offsets -/

/-- The tile's number among the thirty-two. -/
def wid (L : grid0.Coords) : ℕ := (L 1).val * 2 + (L 0).val

theorem wid_lt (L : grid0.Coords) : wid L < 32 := by
  have h0 : (L 0).val < 2 := (L 0).isLt
  have h1 : (L 1).val < 16 := (L 1).isLt
  unfold wid; omega

theorem wid_word : ∀ (a : Fin 2) (b : Fin 16),
    (Scalar.addi (Scalar.muli (BitVec.ofNat 32 b.val) 2#32) (BitVec.ofNat 32 a.val)).toNat = b.val * 2 + a.val := by decide

theorem base_word : ∀ (a : Fin 2) (b : Fin 16),
    (Scalar.muli (Scalar.addi (Scalar.muli (BitVec.ofNat 32 b.val) 2#32) (BitVec.ofNat 32 a.val)) 128#32).toNat = 128 * (b.val * 2 + a.val) := by decide

theorem chunk_word : ∀ (a : Fin 2) (b : Fin 16) (c : Fin 2),
    (Scalar.addi (Scalar.muli (Scalar.addi (Scalar.muli (BitVec.ofNat 32 b.val) 2#32) (BitVec.ofNat 32 a.val)) 128#32)
      (BitVec.ofNat 32 (64 * c.val))).toNat = 128 * (b.val * 2 + a.val) + 64 * c.val := by decide

theorem off1_eq (L : grid0.Coords) : k0_off1 L 0 = 128 * wid L := base_word (L 0) (L 1)
theorem off34_eq (L : grid0.Coords) : k0_off34 L 0 = wid L := wid_word (L 0) (L 1)
theorem off936_eq (L : grid0.Coords) : k0_off936 L 0 = wid L := wid_word (L 0) (L 1)
theorem off35_zero (L : grid0.Coords) : k0_off35 L 0#32 0 = 128 * wid L + 64 * 0 := chunk_word (L 0) (L 1) 0
theorem off35_one (L : grid0.Coords) : k0_off35 L 64#32 0 = 128 * wid L + 64 * 1 := chunk_word (L 0) (L 1) 1

/-! ## The slices, as the program addresses them -/

/-- The tile's ids; its rows of the sums and of the counts; its two chunks of features; the two chunk buffers. -/
abbrev iK (L : grid0.Coords) : Memref sig .scVector .hbm S128 .i32 :=
  iM.slice (Rect.unit (s := S32768) (k0_off1 L) S128.size (k0_off1_inb L)) (fun _ => rfl)
abbrev cK (L : grid0.Coords) : Memref sig .scVector .hbm S16 .f32 :=
  (cM.slice (Rect.unit (s := S32x16) (k0_off34 L) S1x16.size (k0_off34_inb L)) (fun _ => rfl)).squeeze S16 squeezes_S1x16_S16
abbrev oK (L : grid0.Coords) : Memref sig .scVector .hbm S16x512 .f32 :=
  (oM.slice (Rect.unit (s := S32x16x512) (k0_off936 L) S1x16x512.size (k0_off936_inb L)) (fun _ => rfl)).squeeze S16x512 squeezes_S1x16x512_S16x512
abbrev xK0 (L : grid0.Coords) : Memref sig .scVector .hbm S64x512 .f32 :=
  xM.slice (Rect.unit (s := S32768x512) (k0_off35 L 0#32) S64x512.size (k0_off35_inb L 0)) (fun _ => rfl)
abbrev xK1 (L : grid0.Coords) : Memref sig .scVector .hbm S64x512 .f32 :=
  xM.slice (Rect.unit (s := S32768x512) (k0_off35 L 64#32) S64x512.size (k0_off35_inb L 1)) (fun _ => rfl)
abbrev bK0 : Memref sig .scVector .vmem S64x512 .f32 :=
  (xbM.slice (Rect.unit (s := S2x64x512) ![0, 0, 0] S1x64x512.size inb_S2x64x512_S1x64x512_0_0_0) (fun _ => rfl)).squeeze S64x512 squeezes_S1x64x512_S64x512
abbrev bK1 : Memref sig .scVector .vmem S64x512 .f32 :=
  (xbM.slice (Rect.unit (s := S2x64x512) ![1, 0, 0] S1x64x512.size inb_S2x64x512_S1x64x512_1_0_0) (fun _ => rfl)).squeeze S64x512 squeezes_S1x64x512_S64x512

/-- Row `w` of the sums; row `w` of the counts. -/
def oRow (w : ℕ) : Finset S32x16x512.Idx := Finset.univ.filter fun i => (i 0).val = w
def cRow (w : ℕ) : Finset S32x16.Idx := Finset.univ.filter fun i => (i 0).val = w

theorem set_oK (L : grid0.Coords) : (oK L).view.set = oRow (wid L) := by
  show ((oM.view.slice (Rect.unit (s := S32x16x512) (k0_off936 L) S1x16x512.size (k0_off936_inb L))).reshape S16x512 squeezes_S1x16x512_S16x512.numel_eq).set = _
  rw [View.set_reshape, View.set_slice_whole]
  ext i
  have h0 := off936_eq L
  have h1 : (i 1).val < 16 := (i 1).isLt
  have h2 : (i 2).val < 512 := (i 2).isLt
  rw [Rect.mem_set_unit]
  unfold oRow
  rw [Finset.mem_filter]
  constructor
  · intro h
    have h : k0_off936 L 0 ≤ (i 0).val ∧ (i 0).val < k0_off936 L 0 + 1 := h 0
    exact ⟨Finset.mem_univ _, by omega⟩
  · rintro ⟨-, h⟩ a
    match a with
    | 0 => show k0_off936 L 0 ≤ (i 0).val ∧ (i 0).val < k0_off936 L 0 + 1; omega
    | 1 => show 0 ≤ (i 1).val ∧ (i 1).val < 0 + 16; omega
    | 2 => show 0 ≤ (i 2).val ∧ (i 2).val < 0 + 512; omega

theorem set_cK (L : grid0.Coords) : (cK L).view.set = cRow (wid L) := by
  show ((cM.view.slice (Rect.unit (s := S32x16) (k0_off34 L) S1x16.size (k0_off34_inb L))).reshape S16 squeezes_S1x16_S16.numel_eq).set = _
  rw [View.set_reshape, View.set_slice_whole]
  ext i
  have h0 := off34_eq L
  have h1 : (i 1).val < 16 := (i 1).isLt
  rw [Rect.mem_set_unit]
  unfold cRow
  rw [Finset.mem_filter]
  constructor
  · intro h
    have h : k0_off34 L 0 ≤ (i 0).val ∧ (i 0).val < k0_off34 L 0 + 1 := h 0
    exact ⟨Finset.mem_univ _, by omega⟩
  · rintro ⟨-, h⟩ a
    match a with
    | 0 => show k0_off34 L 0 ≤ (i 0).val ∧ (i 0).val < k0_off34 L 0 + 1; omega
    | 1 => show 0 ≤ (i 1).val ∧ (i 1).val < 0 + 16; omega

theorem set_buf (off : Fin 3 → ℕ) (inb : ∀ a, off a + S1x64x512.size a ≤ S2x64x512.size a) (c : ℕ) (h0 : off 0 = c) (h1 : off 1 = 0) (h2 : off 2 = 0) :
    (Rect.unit (s := S2x64x512) off S1x64x512.size inb).set = half c := by
  ext i
  have h1 : (i 1).val < 64 := (i 1).isLt
  have h2 : (i 2).val < 512 := (i 2).isLt
  rw [Rect.mem_set_unit]
  unfold half
  rw [Finset.mem_filter]
  constructor
  · intro h
    have h : off 0 ≤ (i 0).val ∧ (i 0).val < off 0 + 1 := h 0
    exact ⟨Finset.mem_univ _, by omega⟩
  · rintro ⟨-, h⟩ a
    match a with
    | 0 => show off 0 ≤ (i 0).val ∧ (i 0).val < off 0 + 1; omega
    | 1 => show off 1 ≤ (i 1).val ∧ (i 1).val < off 1 + 64; omega
    | 2 => show off 2 ≤ (i 2).val ∧ (i 2).val < off 2 + 512; omega

theorem set_bK0 : bK0.view.set = half 0 := by
  show ((xbM.view.slice (Rect.unit (s := S2x64x512) ![0, 0, 0] S1x64x512.size inb_S2x64x512_S1x64x512_0_0_0)).reshape S64x512 squeezes_S1x64x512_S64x512.numel_eq).set = _
  rw [View.set_reshape, View.set_slice_whole]
  exact set_buf _ _ 0 rfl rfl rfl

theorem set_bK1 : bK1.view.set = half 1 := by
  show ((xbM.view.slice (Rect.unit (s := S2x64x512) ![1, 0, 0] S1x64x512.size inb_S2x64x512_S1x64x512_1_0_0)).reshape S64x512 squeezes_S1x64x512_S64x512.numel_eq).set = _
  rw [View.set_reshape, View.set_slice_whole]
  exact set_buf _ _ 1 rfl rfl rfl

/-! ## What the copies move -/

/-- Tile `w`'s ids; its two chunks of features. -/
def tileIds (I : S32768.Idx → BitVec 32) (w : ℕ) : S128.Idx → BitVec 32 :=
  fun i => I (fun | 0 => (⟨(128 * w + (i 0).val) % 32768, Nat.mod_lt _ (by decide)⟩ : Fin 32768))
def tileX (X : S32768x512.Idx → F .f32) (w : ℕ) : S2x64x512.Idx → F .f32 :=
  fun i => X (fun | 0 => (⟨(128 * w + 64 * (i 0).val + (i 1).val) % 32768, Nat.mod_lt _ (by decide)⟩ : Fin 32768) | 1 => i 2)

theorem read_iK (L : grid0.Coords) (I : S32768.Idx → BitVec 32) : (iK L).view.read (Elt F) I = tileIds I (wid L) := by
  funext x
  have h := off1_eq L
  have hw := wid_lt L
  have hx : (x 0).val < 128 := (x 0).isLt
  show I _ = I _
  congr 1
  funext a
  match a with
  | 0 => exact Fin.ext (show k0_off1 L 0 + 1 * (x 0).val = (128 * wid L + (x 0).val) % 32768 by omega)

theorem squeeze_S64x512 (x : S64x512.Idx) (h : S64x512.numel = S1x64x512.numel) :
    Shape.reshapeEquiv (s := S1x64x512) (s' := S64x512) h x = (fun | 0 => (⟨0, by decide⟩ : Fin 1) | 1 => x 0 | 2 => x 1 : S1x64x512.Idx) :=
  Shape.reshapeEquiv_eq_of_rowMajor _ (by
    rw [Shape.rowMajor_val_succ, Shape.rowMajor_val_two, Shape.rowMajor_val_two]
    show 0 * _ + ((x 0).val * 512 + (x 1).val) = (x 0).val * 512 + (x 1).val
    omega)

theorem squeeze_S16x512 (x : S16x512.Idx) (h : S16x512.numel = S1x16x512.numel) :
    Shape.reshapeEquiv (s := S1x16x512) (s' := S16x512) h x = (fun | 0 => (⟨0, by decide⟩ : Fin 1) | 1 => x 0 | 2 => x 1 : S1x16x512.Idx) :=
  Shape.reshapeEquiv_eq_of_rowMajor _ (by
    rw [Shape.rowMajor_val_succ, Shape.rowMajor_val_two, Shape.rowMajor_val_two]
    show 0 * _ + ((x 0).val * 512 + (x 1).val) = (x 0).val * 512 + (x 1).val
    omega)

theorem emb_bK (off : Fin 3 → ℕ) (inb : ∀ a, off a + S1x64x512.size a ≤ S2x64x512.size a) (x : S64x512.Idx) (i : S2x64x512.Idx)
    (h0 : (i 0).val = off 0) (h1 : (i 1).val = off 1 + (x 0).val) (h2 : (i 2).val = off 2 + (x 1).val) :
    ((xbM.slice (Rect.unit (s := S2x64x512) off S1x64x512.size inb) (fun _ => rfl)).squeeze S64x512 squeezes_S1x64x512_S64x512).view.emb x = i := by
  show (xbM.view.slice (Rect.unit (s := S2x64x512) off S1x64x512.size inb)).emb (Shape.reshapeEquiv (s := S1x64x512) (s' := S64x512) _ x) = i
  rw [squeeze_S64x512]
  funext a
  match a with
  | 0 => exact Fin.ext (show off 0 + 1 * 0 = (i 0).val by omega)
  | 1 => exact Fin.ext (show off 1 + 1 * (x 0).val = (i 1).val by omega)
  | 2 => exact Fin.ext (show off 2 + 1 * (x 1).val = (i 2).val by omega)

theorem read_xK (L : grid0.Coords) (off : Fin 2 → ℕ) (inb : ∀ a, off a + S64x512.size a ≤ S32768x512.size a) (X : S32768x512.Idx → F .f32) (c : ℕ)
    (hoff : off 0 = 128 * wid L + 64 * c) (h1 : off 1 = 0) (x : S64x512.Idx) (i : S2x64x512.Idx) (i0 : (i 0).val = c)
    (i1 : (i 1).val = (x 0).val) (i2 : (i 2).val = (x 1).val) :
    (xM.slice (Rect.unit (s := S32768x512) off S64x512.size inb) (fun _ => rfl)).view.read (Elt F) X x = tileX X (wid L) i := by
  have hw := wid_lt L
  have hi0 : (i 0).val < 2 := (i 0).isLt
  have hx : (x 0).val < 64 := (x 0).isLt
  show X _ = X _
  congr 1
  funext a
  match a with
  | 0 => exact Fin.ext (show off 0 + 1 * (x 0).val = (128 * wid L + 64 * (i 0).val + (i 1).val) % 32768 by rw [i0, i1, hoff] at *; omega)
  | 1 => exact Fin.ext (show off 1 + 1 * (x 1).val = (i 2).val by omega)

/-- After the copies, chunk buffer `c` holds the tile's chunk `c`. -/
theorem write_bK0 (L : grid0.Coords) (X : S32768x512.Idx → F .f32) (g : S2x64x512.Idx → F .f32) (i : S2x64x512.Idx) (hi : i ∈ half 0) :
    View.write (Elt F) bK0.view g ((xK0 L).view.read (Elt F) X) Finset.univ i = tileX X (wid L) i := by
  have hi : (i 0).val = 0 := (Finset.mem_filter.mp hi).2
  have e := emb_bK ![0, 0, 0] inb_S2x64x512_S1x64x512_0_0_0 (fun | 0 => i 1 | 1 => i 2) i hi (Nat.zero_add _).symm (Nat.zero_add _).symm
  refine (congrArg _ e.symm).trans ((View.write_emb_of_mem _ _ (Finset.mem_univ _)).trans ?_)
  refine (cast_eq _ _).trans (read_xK L _ _ X 0 (off35_zero L) rfl _ i hi rfl rfl)

theorem write_bK1 (L : grid0.Coords) (X : S32768x512.Idx → F .f32) (g : S2x64x512.Idx → F .f32) (i : S2x64x512.Idx) (hi : i ∈ half 1) :
    View.write (Elt F) bK1.view g ((xK1 L).view.read (Elt F) X) Finset.univ i = tileX X (wid L) i := by
  have hi : (i 0).val = 1 := (Finset.mem_filter.mp hi).2
  have e := emb_bK ![1, 0, 0] inb_S2x64x512_S1x64x512_1_0_0 (fun | 0 => i 1 | 1 => i 2) i hi (Nat.zero_add _).symm (Nat.zero_add _).symm
  refine (congrArg _ e.symm).trans ((View.write_emb_of_mem _ _ (Finset.mem_univ _)).trans ?_)
  refine (cast_eq _ _).trans (read_xK L _ _ X 1 (off35_one L) rfl _ i hi rfl rfl)

/-- The tile's row of the sums after its copy. -/
theorem write_oK (L : grid0.Coords) (f : S32x16x512.Idx → F .f32) (p : S16x512.Idx → F .f32) (i : S32x16x512.Idx) (hi : i ∈ oRow (wid L)) :
    View.write (Elt F) (oK L).view f p Finset.univ i = p (fun | 0 => i 1 | 1 => i 2) := by
  have hi : (i 0).val = wid L := (Finset.mem_filter.mp hi).2
  have h0 := off936_eq L
  have e : (oK L).view.emb (fun | 0 => i 1 | 1 => i 2) = i := by
    show (oM.view.slice (Rect.unit (s := S32x16x512) (k0_off936 L) S1x16x512.size (k0_off936_inb L))).emb
      (Shape.reshapeEquiv (s := S1x16x512) (s' := S16x512) _ _) = i
    rw [squeeze_S16x512]
    funext a
    match a with
    | 0 => exact Fin.ext (show k0_off936 L 0 + 1 * 0 = (i 0).val by omega)
    | 1 => exact Fin.ext (show 0 + 1 * (i 1).val = (i 1).val by omega)
    | 2 => exact Fin.ext (show 0 + 1 * (i 2).val = (i 2).val by omega)
  exact (congrArg _ e.symm).trans ((View.write_emb_of_mem _ _ (Finset.mem_univ _)).trans (cast_eq _ _))

/-- The tile's row of the counts after its copy. -/
theorem write_cK (L : grid0.Coords) (f : S32x16.Idx → F .f32) (p : S16.Idx → F .f32) (i : S32x16.Idx) (hi : i ∈ cRow (wid L)) :
    View.write (Elt F) (cK L).view f p Finset.univ i = p (fun | 0 => i 1) := by
  have hi : (i 0).val = wid L := (Finset.mem_filter.mp hi).2
  have h0 := off34_eq L
  have e : (cK L).view.emb (fun | 0 => i 1) = i := by
    show (cM.view.slice (Rect.unit (s := S32x16) (k0_off34 L) S1x16.size (k0_off34_inb L))).emb
      (Shape.reshapeEquiv (s := S1x16) (s' := S16) shapeCasts_S1x16_S16 _) = i
    rw [emb_S1x16]
    funext a
    match a with
    | 0 => exact Fin.ext (show k0_off34 L 0 + 1 * 0 = (i 0).val by omega)
    | 1 => exact Fin.ext (show 0 + 1 * (i 1).val = (i 1).val by omega)
  exact (congrArg _ e.symm).trans ((View.write_emb_of_mem _ _ (Finset.mem_univ _)).trans (cast_eq _ _))

end Cert.Proof.Seg

end
-- ==== Proof.Tile.lean ====
/-
  The run of one tile.
-/
module

public import proofs.«01_k».proof.Proof.Slices

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's own semaphores and buffers -/

section Own

variable (d : Dev nD) (L : grid0.Coords)

abbrev dcell (s : SemLoc sig) : GSem nD τ sig := (thr d L, s)

/-- The five DMA semaphores are among the tile's own. -/
theorem ownSems0_tile :
    (ownSems0 (thr d L) : sProp 𝕄)
      = iprop(semVal (dcell d L (.dma cc0_scratch4.sem)) 0 ∗ semVal (dcell d L (.dma cc0_scratch5.sem)) 0
          ∗ semVal (dcell d L (.dma cc0_scoped0.sem)) 0 ∗ semVal (dcell d L (.dma cc0_scoped1.sem)) 0 ∗ semVal (dcell d L (.dma cc0_scoped2.sem)) 0
          ∗ bigSep ((((((ownCells (thr d L)).erase (dcell d L (.dma cc0_scratch4.sem))).erase (dcell d L (.dma cc0_scratch5.sem))).erase
              (dcell d L (.dma cc0_scoped0.sem))).erase (dcell d L (.dma cc0_scoped1.sem))).erase (dcell d L (.dma cc0_scoped2.sem))) fun g => semVal g 0) := by
  have own : ∀ s : SemLoc sig, s.isScoped .scVector = true → dcell d L s ∈ ownCells (thr d L) := fun s h => mem_ownCells.mpr ⟨rfl, h⟩
  have ne : ∀ {s s' : SemLoc sig}, s' ≠ s → dcell d L s' ≠ dcell d L s := fun h e => h (congrArg Prod.snd e)
  unfold SparseCore.Cfg.ownSems0
  rw [SparseCore.bigSep_erase' (own (.dma cc0_scratch4.sem) (by decide)),
    SparseCore.bigSep_erase' (Finset.mem_erase.mpr ⟨ne (by decide), own (.dma cc0_scratch5.sem) (by decide)⟩),
    SparseCore.bigSep_erase' (Finset.mem_erase.mpr ⟨ne (by decide), Finset.mem_erase.mpr ⟨ne (by decide), own (.dma cc0_scoped0.sem) (by decide)⟩⟩),
    SparseCore.bigSep_erase' (Finset.mem_erase.mpr ⟨ne (by decide), Finset.mem_erase.mpr ⟨ne (by decide), Finset.mem_erase.mpr ⟨ne (by decide),
      own (.dma cc0_scoped1.sem) (by decide)⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), own (.dma cc0_scoped2.sem) (by decide)⟩⟩⟩⟩)]

abbrev dref (b : Ref sig .scVector) : DevRef τ sig := (Proc.scVector (cV L) (jV L)).devRef b

/-- The four scratch buffers are among the tile's own. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (dref L cc0_scratch0)).erase (dref L cc0_scratch1)).erase
              (dref L cc0_scratch2)).erase (dref L cc0_scratch3))
              fun b => iprop(∃ f, ((d, b) : Loc nD τ sig) ↦{fullShare} f)) := by
  have own : ∀ b : Ref sig .scVector, (dref L b).owner = (dref L cc0_scratch0).owner → dref L b ∈ ownRefs (τ := τ) (.scVector (cV L) (jV L)) :=
    fun b h => SparseCore.Cfg.mem_ownRefs_of_owner (p := Proc.scVector (cV L) (jV L)) (b := dref L b) h
  have ne : ∀ {b b' : Ref sig .scVector}, b' ≠ b → dref L b' ≠ dref L b := fun h e => h (Proc.devRef_injective _ e)
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩),
    SparseCore.bigSep_erase' (Finset.mem_erase.mpr ⟨ne (by decide), Finset.mem_erase.mpr ⟨ne (by decide), Finset.mem_erase.mpr ⟨ne (by decide),
      own cc0_scratch3 rfl⟩⟩⟩)]

end Own

/-! ## The run -/

/-- The tiles' sums and counts, all together. -/
def allSums (X : S32768x512.Idx → F .f32) (I : S32768.Idx → BitVec 32) : S32x16x512.Idx → F .f32 :=
  fun i => tileSums (tileIds I (i 0).val) (tileX X (i 0).val) (fun | 0 => i 1 | 1 => i 2)
def allCnts (I : S32768.Idx → BitVec 32) : S32x16.Idx → F .f32 :=
  fun i => tileCnts (tileIds I (i 0).val) (fun | 0 => i 1)

theorem tileIds_range {I : S32768.Idx → BitVec 32} (hI : ∀ i, (I i).toNat < 16) (w : ℕ) : InRange (tileIds I w) := fun _ => hI _

/-- The two chunk buffers are the whole buffer. -/
theorem halves (d : Dev nD) (L : grid0.Coords) (g : S2x64x512.Idx → F .f32) :
    (xbM.view.loc (thr d L) ↦{fullShare} g : sProp 𝕄)
      = iprop((xbM.view.loc (thr d L) ↦[half 0]{fullShare} g) ∗ (xbM.view.loc (thr d L) ↦[half 1]{fullShare} g)) := by
  have e : Finset.univ \ half 0 = half 1 := by
    ext i
    have h0 : (i 0).val < 2 := (i 0).isLt
    simp only [Finset.mem_sdiff, Finset.mem_univ, true_and, half, Finset.mem_filter]
    omega
  have h := pointsTo_split_subset (nD := nD) (τ := τ) (sig := sig) (Ix := HIx 1) (Val := Elt F) (Name := ℕ) (U := UU) (Lvl := ℕ) (ℓ := xbM.view.loc (thr d L)) (q := fullShare) (f := g) (S := Finset.univ) (Finset.subset_univ (half 0))
  rw [e] at h
  exact BI.Entails.antisymm h.1 h.2

/-- The ids' copy fills the ids' buffer. -/
theorem ids_copied (d : Dev nD) (L : grid0.Coords) (fid : S128.Idx → BitVec 32) (I : S32768.Idx → BitVec 32) {p : S128.Idx → BitVec 32}
    (hp : p = (iK L).view.read (Elt F) I) :
    (idM.view.loc (thr d L) ↦{fullShare} (View.write (Elt F) idM.view fid p Finset.univ) : sProp 𝕄) ⊢ idM.view.loc (thr d L) ↦{fullShare} tileIds I (wid L) := by
  subst hp
  exact Entails.of_eq (congrArg (fun g : S128.Idx → BitVec 32 => (idM.view.loc (thr d L) ↦{fullShare} g : sProp 𝕄))
    ((View.write_whole_univ (Val := Elt F) cc0_scratch0 fid _).trans (read_iK (F := F) L I)))

theorem whole_slice_write {sp : Space} {sh : Shape} {e : EltTy} (v : View sig .scVector sp sh e) (f : v.ty.Contents (Elt F)) (p : sh.Idx → Elt F e) :
    v.writes (Elt F) f [⟨Rect.whole sh, p⟩] = View.write (Elt F) v f p Finset.univ := by
  rw [View.writes_singleton]
  funext i
  by_cases hi : i ∈ v.set
  · obtain ⟨x, -, rfl⟩ := Finset.mem_map.mp hi
    rw [View.write_emb_of_mem _ _ (Finset.mem_univ x)]
    have e : (v.slice (Rect.whole sh)).emb x = v.emb x := by
      show v.emb _ = v.emb _
      congr 1
      funext a
      exact Fin.ext (show 0 + 1 * (x a).val = (x a).val by omega)
    rw [← e]
    exact View.write_emb_of_mem _ _ (Finset.mem_univ x)
  · rw [View.write_of_not_mem _ _ _ hi]
    exact View.write_of_not_mem _ _ _ fun h => hi (View.set_slice_subset v _ h)

/-- The copies of the chunks fill the chunk buffers. -/
theorem buf0_copied (d : Dev nD) (L : grid0.Coords) (g : S2x64x512.Idx → F .f32) (X : S32768x512.Idx → F .f32) {p : S64x512.Idx → F .f32}
    (hp : p = (xK0 L).view.read (Elt F) X) :
    (bK0.view.loc (thr d L) ↦[bK0.view.set]{fullShare} bK0.view.writes (Elt F) g [⟨Rect.whole S64x512, p⟩] : sProp 𝕄)
      ⊢ xbM.view.loc (thr d L) ↦[half 0]{fullShare} tileX X (wid L) := by
  subst hp
  rw [whole_slice_write, set_bK0]
  exact Entails.of_eq (pointsTo_congr fun i hi => write_bK0 L X g i hi)

theorem buf1_copied (d : Dev nD) (L : grid0.Coords) (g : S2x64x512.Idx → F .f32) (X : S32768x512.Idx → F .f32) {p : S64x512.Idx → F .f32}
    (hp : p = (xK1 L).view.read (Elt F) X) :
    (bK1.view.loc (thr d L) ↦[bK1.view.set]{fullShare} bK1.view.writes (Elt F) g [⟨Rect.whole S64x512, p⟩] : sProp 𝕄)
      ⊢ xbM.view.loc (thr d L) ↦[half 1]{fullShare} tileX X (wid L) := by
  subst hp
  rw [whole_slice_write, set_bK1]
  exact Entails.of_eq (pointsTo_congr fun i hi => write_bK1 L X g i hi)

/-- The copies of the tile's sums and counts fill its rows of the results. -/
theorem sums_copied (d : Dev nD) (L : grid0.Coords) (fo : S32x16x512.Idx → F .f32) (X : S32768x512.Idx → F .f32) (I : S32768.Idx → BitVec 32)
    {p : S16x512.Idx → F .f32} (hp : p = tileSums (tileIds I (wid L)) (tileX X (wid L))) :
    ((oK L).view.loc (thr d L) ↦[(oK L).view.set]{fullShare} (oK L).view.writes (Elt F) fo [⟨Rect.whole S16x512, p⟩] : sProp 𝕄)
      ⊢ oM.view.loc (thr d L) ↦[oRow (wid L)]{fullShare} allSums X I := by
  subst hp
  rw [whole_slice_write, set_oK]
  refine Entails.of_eq (pointsTo_congr fun i hi => (write_oK L fo _ i hi).trans ?_)
  have hi : (i 0).val = wid L := (Finset.mem_filter.mp hi).2
  unfold allSums
  rw [hi]
  rfl

theorem cnts_stored (k w : S16.Idx → F .f32) :
    cnM.view.read (Elt F) (cnM.view.writes (Elt F) k [⟨Rect.unit (s := S16) ![0] S16.size inb_S16_S16_0, w⟩]) = w := by
  rw [View.writes_singleton]
  funext x
  have e : (cnM.view.slice (Rect.unit (s := S16) ![0] S16.size inb_S16_S16_0)).emb x = cnM.view.emb x := by
    show cnM.view.emb _ = cnM.view.emb x
    congr 1
    funext a
    have ha : a = (0 : Fin 1) := Subsingleton.elim (α := Fin 1) _ _
    subst ha
    exact Fin.ext (show 0 + 1 * (x 0).val = (x 0).val by omega)
  refine (congrArg (View.write (Elt F) (cnM.view.slice (Rect.unit (s := S16) ![0] S16.size inb_S16_S16_0)) k w Finset.univ) e.symm).trans ?_
  exact View.write_emb_of_mem _ _ (Finset.mem_univ x)

theorem cnts_copied (d : Dev nD) (L : grid0.Coords) (fc : S32x16.Idx → F .f32) (I : S32768.Idx → BitVec 32)
    {p k : S16.Idx → F .f32} (hp : p = cnM.view.read (Elt F) (cnM.view.writes (Elt F) k
      [⟨Rect.unit (s := S16) ![0] S16.size inb_S16_S16_0, tileCnts (tileIds I (wid L))⟩])) :
    ((cK L).view.loc (thr d L) ↦[(cK L).view.set]{fullShare} (cK L).view.writes (Elt F) fc [⟨Rect.whole S16, p⟩] : sProp 𝕄)
      ⊢ cM.view.loc (thr d L) ↦[cRow (wid L)]{fullShare} allCnts I := by
  rw [cnts_stored] at hp
  subst hp
  rw [whole_slice_write, set_cK]
  refine Entails.of_eq (pointsTo_congr fun i hi => (write_cK L fc _ i hi).trans ?_)
  have hi : (i 0).val = wid L := (Finset.mem_filter.mp hi).2
  unfold allCnts
  rw [hi]
  rfl

/-- The sums after the last segment of a chunk are the sums after the chunk. -/
theorem chunk_done (P : S16x512.Idx → F .f32) (f : S128.Idx → BitVec 32) (g : S2x64x512.Idx → F .f32) (c : ℕ) {n : ℕ}
    (hn : n = (idAt f (64 * c + 63)).toNat + 1 - (idAt f (64 * c)).toNat) :
    segsDone P (idAt f (64 * c)).toNat n g c (loC f c) (hiC f c) = chunkDone P f g c := by
  subst hn
  rfl

/-- The tile's sums, held under an equal value. -/
theorem sums_as (d : Dev nD) (L : grid0.Coords) {Q Q' : S16x512.Idx → F .f32} (h : Q = Q') :
    (paM.view.loc (thr d L) ↦{fullShare} Q : sProp 𝕄) ⊢ paM.view.loc (thr d L) ↦{fullShare} Q' := by
  subst h
  exact .rfl

/-- A gather whose sixteen lanes all name id `k`. -/
theorem gather_splat (d : Dev nD) (L : grid0.Coords) (f : S128.Idx → BitVec 32) (k : ℕ) {v : IVec S16 32} (hk : ∀ x, (v x).toNat = min k 127) {α : Type}
    {h : ∀ a x, ((![v] : Fin 1 → IVec S16 32) a x).toNat < S128.size a} {hl : idM.view.Loads}
    {kont : Vec F S16 .i32 → Prog (TpuEff nD τ sig (Elt F) Λ₀ (thr d L).2) α} {Q : α → sProp 𝕄} :
    (iprop((idM.view.loc (thr d L) ↦{fullShare} f)
        ∗ (∀ w : Vec F S16 .i32, ⌜∀ x, w x = idAt f k⌝ -∗ (idM.view.loc (thr d L) ↦{fullShare} f)
          -∗ wp frame (wpE (defs₀ (F := F)) 𝒱₀ (thr d L) none) Set.univ (kont w) Q)) : sProp 𝕄)
      ⊢ wp frame (wpE (defs₀ (F := F)) 𝒱₀ (thr d L) none) Set.univ (SparseCore.vectorLoadIdx idM ![v] h hl >>= kont) Q := by
  iintro ⟨H, Hk⟩
  iapply (SparseCore.wp_vectorLoadIdx 𝒱₀ (thr d L) none Set.univ (base := idM) (S := Finset.univ) (q := fullShare) (Finset.subset_univ _)) $$ H
  iintro H
  iapply Hk $$ [] H
  ipureintro
  exact fun x => loadIdx_ids (F := F) f v h x k (hk x)

set_option maxRecDepth 65536 in
set_option maxHeartbeats 4000000 in
set_option cleanup.letToHave false in
theorem tile_body (d : Dev nD) (L : grid0.Coords) (qx qi : PosShare TreeShare) (X : S32768x512.Idx → F .f32) (I : S32768.Idx → BitVec 32)
    (hI : ∀ i, (I i).toNat < 16) (fo : S32x16x512.Idx → F .f32) (fc : S32x16.Idx → F .f32)
    (hF : (K (F := F)).Facts) (O : CellTallies nD τ sig (HIx 1)) (W : Waits sig (HIx 1)) (hO : ∀ g, O g none = 0) :
    (iprop(levAts (K (F := F)).L (K (F := F)).lev ∗ emp
        ∗ ((xM.view.loc (thr d L) ↦{qx} X) ∗ (iM.view.loc (thr d L) ↦{qi} I)
          ∗ (oM.view.loc (thr d L) ↦[oRow (wid L)]{fullShare} fo) ∗ (cM.view.loc (thr d L) ↦[cRow (wid L)]{fullShare} fc))
        ∗ scopedBufs (thr d L) ∗ scopedSems0 (thr d L) ∗ owes (thr d L) O W) : sProp 𝕄)
      ⊢ wp frame (wpE (defs₀ (F := F)) 𝒱₀ (thr d L) none) Set.univ
          (cc0_k L xM hxM iM hiM oM hoM cM hcM idM hidM xbM hxbM paM hpaM cnM hcnM cc0_scratch4 cc0_scratch5 cc0_scoped0 cc0_scoped1 cc0_scoped2)
          fun _ => iprop(((xM.view.loc (thr d L) ↦{qx} X) ∗ (iM.view.loc (thr d L) ↦{qi} I)
            ∗ (oM.view.loc (thr d L) ↦[oRow (wid L)]{fullShare} allSums X I) ∗ (cM.view.loc (thr d L) ↦[cRow (wid L)]{fullShare} allCnts I))
            ∗ scopedBufs (thr d L) ∗ scopedSems0 (thr d L)
            ∗ ∃ W', ⌜∀ p ∈ W', p ∈ W ∨ p.2 = none⌝ ∗ owes (thr d L) O W') := by
  have hf := tileIds_range hI (wid L)
  simp only [cc0_k_eq_skeleton]; unfold cc0_k_skel
  rw [(K (F := F)).scopedBufs_V hF d (cV L) (jV L), SparseCore.Cfg.scopedSems0_V (Val := Elt F) d (cV L) (jV L), ownSems0_tile, ownBufs_tile]
  iintro ⟨#Hlv, -, ⟨Hx, Hi, Ho, Hc⟩, ⟨⟨%fid, Hid⟩, ⟨%fxb, Hxb⟩, ⟨%fpa, Hpa⟩, ⟨%fcn, Hcn⟩, Hbufs⟩, ⟨HsA, HsB, Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Ho := (Entails.of_eq (show (oM.view.loc (thr d L) ↦[oRow (wid L)]{fullShare} fo : sProp 𝕄)
    = ((oK L).view.loc (thr d L) ↦[(oK L).view.set]{fullShare} fo) by rw [set_oK])) $$ Ho
  ihave Hc := (Entails.of_eq (show (cM.view.loc (thr d L) ↦[cRow (wid L)]{fullShare} fc : sProp 𝕄)
    = ((cK L).view.loc (thr d L) ↦[(cK L).view.set]{fullShare} fc) by rw [set_cK])) $$ Hc
  ihave Hid := (Entails.of_eq (show ((thr d L).loc cc0_scratch0 ↦{fullShare} fid : sProp 𝕄) = (idM.view.loc (thr d L) ↦{fullShare} fid) from rfl)) $$ Hid
  ihave Hpa := (Entails.of_eq (show ((thr d L).loc cc0_scratch2 ↦{fullShare} fpa : sProp 𝕄) = (paM.view.loc (thr d L) ↦{fullShare} fpa) from rfl)) $$ Hpa
  ihave Hcn := (Entails.of_eq (show ((thr d L).loc cc0_scratch3 ↦{fullShare} fcn : sProp 𝕄) = (cnM.view.loc (thr d L) ↦{fullShare} fcn) from rfl)) $$ Hcn
  ihave Hxb := (Entails.of_eq (halves d L fxb)) $$ Hxb
  icases Hxb with ⟨Hb0, Hb1⟩
  ihave Hb0 := (Entails.of_eq (show (xbM.view.loc (thr d L) ↦[half 0]{fullShare} fxb : sProp 𝕄)
    = (bK0.view.loc (thr d L) ↦[bK0.view.set]{fullShare} fxb) by rw [set_bK0])) $$ Hb0
  ihave Hb1 := (Entails.of_eq (show (xbM.view.loc (thr d L) ↦[half 1]{fullShare} fxb : sProp 𝕄)
    = (bK1.view.loc (thr d L) ↦[bK1.view.set]{fullShare} fxb) by rw [set_bK1])) $$ Hb1
  ihave Hx := (Entails.of_eq (show (xM.view.loc (thr d L) ↦{qx} X : sProp 𝕄) = (xM.view.loc (thr d L) ↦{qx} X) from rfl)) $$ Hx
  ihave Hi := (Entails.of_eq (show (iM.view.loc (thr d L) ↦{qi} I : sProp 𝕄) = (iM.view.loc (thr d L) ↦{qi} I) from rfl)) $$ Hi
  sl_exec
  -- the sums are cleared
  sl_for (fun n _ => iprop(paM.view.loc (thr d L) ↦{fullShare} rowsZero fpa n)) $$ [Hpa]
  case region => intro n a; exact t1_body d L n a fpa
  · have e : rowsZero fpa 0 = fpa := by funext i; exact if_neg (Nat.not_lt_zero _)
    rw [e]; iexact Hpa
  iintro %acc1 Hpa
  ihave Hpa := (Entails.of_eq (congrArg (fun g : S16x512.Idx → F .f32 => (paM.view.loc (thr d L) ↦{fullShare} g : sProp 𝕄))
    (show rowsZero fpa (Scf.trips k0_t1_loop.lb k0_t1_loop.ub k0_t1_loop.st) = fun _ => zF from rowsZero_all fpa))) $$ Hpa
  sl_exec
  -- the two searches
  sl_for (fun n acc => iprop(⌜acc = (lows (tileIds I (wid L)) keyLo n, highs (tileIds I (wid L)) keyLo n)⌝
    ∗ (idM.view.loc (thr d L) ↦{fullShare} tileIds I (wid L)))) $$ [Hid]
  case region =>
    intro n acc
    iintro ⟨%e, H⟩
    subst e
    iapply (t2_body d L n (tileIds I (wid L)) n.val) $$ H
  · isplitr
    · ipureintro; rfl
    · iapply (ids_copied d L fid I (by rfl)) $$ Hid
  iintro %acc2 ⟨%e2, Hid⟩
  have e2 : acc2 = (lows (tileIds I (wid L)) keyLo 11, highs (tileIds I (wid L)) keyLo 11) := e2
  subst e2
  sl_exec
  sl_for (fun n acc => iprop(⌜acc = (lows (tileIds I (wid L)) keyHi n, highs (tileIds I (wid L)) keyHi n)⌝
    ∗ (idM.view.loc (thr d L) ↦{fullShare} tileIds I (wid L)))) $$ [Hid]
  case region =>
    intro n acc
    iintro ⟨%e, H⟩
    subst e
    iapply (t3_body d L n (tileIds I (wid L)) n.val) $$ H
  · isplitr
    · ipureintro; rfl
    · iexact Hid
  iintro %acc3 ⟨%e3, Hid⟩
  have e3 : acc3 = (lows (tileIds I (wid L)) keyHi 11, highs (tileIds I (wid L)) keyHi 11) := e3
  subst e3
  sl_exec
  -- the first chunk
  iapply (gather_splat d L (tileIds I (wid L)) 0 (fun x => by rfl))
  isplitl [Hid]
  · iexact Hid
  iintro %v46 %h46 Hid
  sl_exec
  iapply (gather_splat d L (tileIds I (wid L)) 63 (fun x => by rfl))
  isplitl [Hid]
  · iexact Hid
  iintro %v56 %h56 Hid
  have h52 : extractAt ![15] (k0_pay807 v46) inpos_S16_p15 = idAt (tileIds I (wid L)) 0 := top_splat v46 _ (idAt_lt hf 0) h46
  have h62 : extractAt ![15] (k0_pay808 v56) inpos_S16_p15 = idAt (tileIds I (wid L)) 63 := top_splat v56 _ (idAt_lt hf 63) h56
  obtain ⟨hc5, ht4, ht9⟩ := seg_loop _ _ (h52 ▸ idAt_lt hf 0 : (extractAt ![15] (k0_pay807 v46) inpos_S16_p15).toNat < 16)
    (h62 ▸ idAt_lt hf 63 : (extractAt ![15] (k0_pay808 v56) inpos_S16_p15).toNat < 16)
  have ht4 := ht4.trans (show _ = (idAt (tileIds I (wid L)) 63).toNat + 1 - (idAt (tileIds I (wid L)) 0).toNat by rw [h52, h62])
  sl_exec
  sl_for (fun n _ => iprop((xbM.view.loc (thr d L) ↦[half 0]{fullShare} tileX X (wid L))
    ∗ (paM.view.loc (thr d L) ↦{fullShare} segsDone (fun _ => zF) (idAt (tileIds I (wid L)) 0).toNat n (tileX X (wid L)) 0
        (loC (tileIds I (wid L)) 0) (hiC (tileIds I (wid L)) 0)))) $$ [Hb0 Hpa]
  case region =>
    intro n acc
    exact t4_step d L (tileIds I (wid L)) hf _ _ iota_lane _ _ v46 h46 _ _ rfl h62 _ n acc (tileX X (wid L)) _
  · isplitl [Hb0]
    · iapply (buf0_copied d L _ X (by rfl)) $$ Hb0
    · rw [segsDone_zero]; iexact Hpa
  iintro %acc4 ⟨Hb0, Hpa⟩
  sl_exec
  sl_for (fun _ _ => (iprop(emp) : sProp 𝕄)) $$ []
  case region =>
    intro n acc
    exact absurd (Nat.lt_of_lt_of_eq n.isLt ht9) (Nat.not_lt_zero _)
  · iempintro
  iintro %acc9 -
  sl_exec
  -- the second chunk
  iapply (gather_splat d L (tileIds I (wid L)) 64 (fun x => by rfl))
  isplitl [Hid]
  · iexact Hid
  iintro %v87 %h87 Hid
  sl_exec
  iapply (gather_splat d L (tileIds I (wid L)) 127 (fun x => by rfl))
  isplitl [Hid]
  · iexact Hid
  iintro %v97 %h97 Hid
  have h93 : extractAt ![15] (k0_pay823 v87) inpos_S16_p15 = idAt (tileIds I (wid L)) 64 := top_splat v87 _ (idAt_lt hf 64) h87
  have h103 : extractAt ![15] (k0_pay824 v97) inpos_S16_p15 = idAt (tileIds I (wid L)) 127 := top_splat v97 _ (idAt_lt hf 127) h97
  obtain ⟨hc10, ht14, ht19⟩ := seg_loop' _ _ (h93 ▸ idAt_lt hf 64 : (extractAt ![15] (k0_pay823 v87) inpos_S16_p15).toNat < 16)
    (h103 ▸ idAt_lt hf 127 : (extractAt ![15] (k0_pay824 v97) inpos_S16_p15).toNat < 16)
  have ht14 := ht14.trans (show _ = (idAt (tileIds I (wid L)) 127).toNat + 1 - (idAt (tileIds I (wid L)) 64).toNat by rw [h93, h103])
  sl_exec
  sl_for (fun n _ => iprop((xbM.view.loc (thr d L) ↦[half 1]{fullShare} tileX X (wid L))
    ∗ (paM.view.loc (thr d L) ↦{fullShare} segsDone (chunkDone (fun _ => zF) (tileIds I (wid L)) (tileX X (wid L)) 0)
        (idAt (tileIds I (wid L)) 64).toNat n (tileX X (wid L)) 1
        (loC (tileIds I (wid L)) 1) (hiC (tileIds I (wid L)) 1)))) $$ [Hb1 Hpa]
  case region =>
    intro n acc
    exact t14_step d L (tileIds I (wid L)) hf _ iota_lane _ v87 h87 _ _ rfl h103 _ n acc (tileX X (wid L)) _
  · isplitl [Hb1]
    · iapply (buf1_copied d L _ X (by rfl)) $$ Hb1
    · rw [segsDone_zero]
      iapply (sums_as d L (by exact chunk_done _ _ _ 0 ht4)) $$ Hpa
  iintro %acc14 ⟨Hb1, Hpa⟩
  sl_exec
  sl_for (fun _ _ => (iprop(emp) : sProp 𝕄)) $$ []
  case region =>
    intro n acc
    exact absurd (Nat.lt_of_lt_of_eq n.isLt ht19) (Nat.not_lt_zero _)
  · iempintro
  iintro %acc19 -
  sl_exec
  rw [wp_ret]
  imodintro
  isplitl [Hx Hi Ho Hc]
  · isplitl [Hx]
    · iexact Hx
    isplitl [Hi]
    · iexact Hi
    isplitl [Ho]
    · iapply (sums_copied d L _ X I (by exact chunk_done _ _ _ 1 ht14)) $$ Ho
    · iapply (cnts_copied d L _ I (by rfl)) $$ Hc
  isplitl [Hid Hb0 Hb1 Hpa Hcn Hbufs]
  · isplitl [Hid]
    · iexists _; iexact Hid
    isplitl [Hb0 Hb1]
    · iexists (tileX X (wid L))
      iapply (Entails.of_eq (halves d L (tileX X (wid L))).symm)
      isplitl [Hb0]
      · iexact Hb0
      · iexact Hb1
    isplitl [Hpa]
    · iexists _; iexact Hpa
    isplitl [Hcn]
    · iexists _; iexact Hcn
    · iexact Hbufs
  isplitl [Hs0 Hs1 HsA HsB Hs2 Hsems]
  · isplitl [HsA]
    · iexact HsA
    isplitl [HsB]
    · iexact HsB
    isplitl [Hs0]
    · iexact Hs0
    isplitl [Hs1]
    · iexact Hs1
    isplitl [Hs2]
    · iexact Hs2
    · iexact Hsems
  iexists _
  isplitr
  swap
  · iexact HO
  ipureintro
  intro p hp
  rcases Finset.mem_insert.mp hp with rfl | hp; · exact .inr rfl
  rcases Finset.mem_insert.mp hp with rfl | hp; · exact .inr rfl
  rcases Finset.mem_insert.mp hp with rfl | hp; · exact .inr rfl
  rcases Finset.mem_insert.mp hp with rfl | hp; · exact .inr rfl
  rcases Finset.mem_insert.mp hp with rfl | hp; · exact .inr rfl
  exact .inl hp

end Cert.Proof.Seg

end
-- ==== Proof.Region1.lean ====
/-
  The accumulating TensorCore call: seven blocks of 4096 rows, each turned into a 16 × 4096 table of zeros and ones
  that is multiplied with the block's features.
-/
module

public import proofs.«01_k».proof.Proof.Base
public import proofs.«01_k».proof.Proof.Gen.KernelIdeal.Launch
public import proofs.«01_k».proof.Proof.Gen.KernelIdeal.Points
public import Idealize.ShloMosaic.Lib.Pipeline.Frame
public import Idealize.ShloMosaic.Lib.Pipeline.ValueKit
public import Idealize.ShloMosaic.Lib.Pipeline.Regions
public import Idealize.ShloMosaic.Lib.Tactic

@[expose] public section

noncomputable section

namespace Cert.Proof.Seg

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

section Whole

variable {κ : Kind} {sp : Space} {S : Shape} {e : EltTy}

/-- A load of a whole array is what the array reads. -/
theorem load_whole (v : View sig κ sp S e) {off : Fin S.rank → ℕ} (inb : ∀ a, off a + S.size a ≤ S.size a) (h : ∀ a, off a = 0)
    (f : v.ty.Contents (Elt F)) {X : S.Idx → Elt F e} (hX : v.read (Elt F) f = X) :
    View.readAt (Elt F) v (Rect.unit off S.size inb).toLoadRect f = X := by
  rw [View.readAt_eq_ld, hX]
  exact View.ld_unit_lit inb X h

/-- A whole array reads what was stored over all of it. -/
theorem stored_whole (v : View sig κ sp S e) {off : Fin S.rank → ℕ} (inb : ∀ a, off a + S.size a ≤ S.size a) (h : ∀ a, off a = 0)
    (f : v.ty.Contents (Elt F)) (w : S.Idx → Elt F e) :
    v.read (Elt F) (v.writes (Elt F) f [⟨Rect.unit off S.size inb, w⟩]) = w := by
  funext y
  have hy : (Rect.unit off S.size inb).emb y = y :=
    congrFun (View.ld_unit_lit (Val := fun _ => S.Idx) (e := e) inb (fun y => y) h) y
  have := View.read_writes_cons_emb v f (Rect.unit off S.size inb) w [] y
  rw [hy] at this
  exact this

end Whole

/-- A whole array held is its buffer held at contents that read so. -/
theorem owns_whole {c : Dev nD} {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- Every offset of the accesses below is zero. -/
theorem zero2 : ∀ a : Fin 2, (![0, 0] : Fin 2 → ℕ) a = 0 := by decide
theorem zero3 : ∀ a : Fin 3, (![0, 0, 0] : Fin 3 → ℕ) a = 0 := by decide

/-- The first block starts both sums. -/
theorem first_run (c : Dev nD) (i : grid1.Coords) (hi : k1_cond1 i = 1#1) (hi' : k1_cond2 i ≠ 1#1)
    (M1 : Memref sig .tc .vmem S1x1x4096 .i32) (h1 : M1.IsWhole) (M2 : Memref sig .tc .vmem S4096x512 .f32) (h2 : M2.IsWhole)
    (M3 : Memref sig .tc .vmem S16x512 .f32) (h3 : M3.IsWhole) (M4 : Memref sig .tc .vmem S16x128 .f32) (h4 : M4.IsWhole)
    (f1 : Bf (F := F) c M1) (f2 : Bf (F := F) c M2) (f3 : Bf (F := F) c M3) (f4 : Bf (F := F) c M4)
    (X : Vec F S1x1x4096 .i32) (Y : Vec F S4096x512 .f32) (hX : M1.view.read (Elt F) f1 = X) (hY : M2.view.read (Elt F) f2 = Y) :
    iprop(pt c M1 f1 ∗ pt c M2 f2 ∗ pt c M3 f3 ∗ pt c M4 f4)
      ⊢ wp frame (wpE (defs₀ (F := F)) 𝒱₀ c none) Set.univ (cc1_body i M1 h1 M2 h2 M3 h3 M4 h4)
          fun _ => iprop(pt c M1 f1 ∗ pt c M2 f2
            ∗ (∃ g : Bf (F := F) c M3, ⌜M3.view.read (Elt F) g = k1_pay2 X Y⌝ ∗ pt c M3 g)
            ∗ (∃ g : Bf (F := F) c M4, ⌜M4.view.read (Elt F) g = k1_pay3 X⌝ ∗ pt c M4 g)) := by
  rw [cc1_body_eq_skeleton]
  unfold cc1_body_skel
  simp only [hi, hi', ↓reduceDIte]
  iintro ⟨H1, H2, H3, H4⟩
  sl_exec
  sl_step
  isplitl [H1]; · iexact H1
  isplitl [H2]; · iexact H2
  isplitl [H3]
  · iexists _; isplitr; swap; · iexact H3
    ipureintro
    refine (stored_whole M3.view inb_S16x512_S16x512_0_0 zero2 _ _).trans (congr (congrArg k1_pay2 ?_) ?_)
    · exact load_whole M1.view _ zero3 _ hX
    · exact load_whole M2.view _ zero2 _ hY
  · iexists _; isplitr; swap; · iexact H4
    ipureintro
    refine (stored_whole M4.view inb_S16x128_S16x128_0_0 zero2 _ _).trans (congrArg k1_pay3 ?_)
    exact load_whole M1.view _ zero3 _ hX

/-- Every later block adds to both sums. -/
theorem later_run (c : Dev nD) (i : grid1.Coords) (hi : k1_cond1 i ≠ 1#1) (hi' : k1_cond2 i = 1#1)
    (M1 : Memref sig .tc .vmem S1x1x4096 .i32) (h1 : M1.IsWhole) (M2 : Memref sig .tc .vmem S4096x512 .f32) (h2 : M2.IsWhole)
    (M3 : Memref sig .tc .vmem S16x512 .f32) (h3 : M3.IsWhole) (M4 : Memref sig .tc .vmem S16x128 .f32) (h4 : M4.IsWhole)
    (f1 : Bf (F := F) c M1) (f2 : Bf (F := F) c M2) (f3 : Bf (F := F) c M3) (f4 : Bf (F := F) c M4)
    (X : Vec F S1x1x4096 .i32) (Y : Vec F S4096x512 .f32) (A : Vec F S16x512 .f32) (B : Vec F S16x128 .f32)
    (hX : M1.view.read (Elt F) f1 = X) (hY : M2.view.read (Elt F) f2 = Y) (hA : M3.view.read (Elt F) f3 = A) (hB : M4.view.read (Elt F) f4 = B) :
    iprop(pt c M1 f1 ∗ pt c M2 f2 ∗ pt c M3 f3 ∗ pt c M4 f4)
      ⊢ wp frame (wpE (defs₀ (F := F)) 𝒱₀ c none) Set.univ (cc1_body i M1 h1 M2 h2 M3 h3 M4 h4)
          fun _ => iprop(pt c M1 f1 ∗ pt c M2 f2
            ∗ (∃ g : Bf (F := F) c M3, ⌜M3.view.read (Elt F) g = k1_pay4 X Y A⌝ ∗ pt c M3 g)
            ∗ (∃ g : Bf (F := F) c M4, ⌜M4.view.read (Elt F) g = k1_pay5 X B⌝ ∗ pt c M4 g)) := by
  rw [cc1_body_eq_skeleton]
  unfold cc1_body_skel
  simp only [hi, hi', ↓reduceDIte]
  iintro ⟨H1, H2, H3, H4⟩
  sl_exec
  sl_step
  isplitl [H1]; · iexact H1
  isplitl [H2]; · iexact H2
  isplitl [H3]
  · iexists _; isplitr; swap; · iexact H3
    ipureintro
    refine (stored_whole M3.view inb_S16x512_S16x512_0_0 zero2 _ _).trans (congr (congr (congrArg k1_pay4 ?_) ?_) ?_)
    · exact load_whole M1.view _ zero3 _ hX
    · exact load_whole M2.view _ zero2 _ hY
    · exact load_whole M3.view _ zero2 _ hA
  · iexists _; isplitr; swap; · iexact H4
    ipureintro
    refine (stored_whole M4.view inb_S16x128_S16x128_0_0 zero2 _ _).trans (congr (congrArg k1_pay5 ?_) ?_)
    · exact load_whole M1.view _ zero3 _ hX
    · exact load_whole M4.view _ zero2 _ hB

/-! ## The call's staging buffers point by point -/

variable (c : Dev nD) (X1 : Vec F S8x1x4096 .i32) (X0 : Vec F S32768x512 .f32)

/-- The block of ids and the block of features that point `t` fetches. -/
def idBlk (t : Fin cfg1.N) : Vec F S1x1x4096 .i32 := ((cfg1.win 0).blk t).view.read (Elt F) X1
def ftBlk (t : Fin cfg1.N) : Vec F S4096x512 .f32 := ((cfg1.win 1).blk t).view.read (Elt F) X0

/-- The sums after point `n`. -/
def accSum : ℕ → Vec F S16x512 .f32
  | 0 => k1_pay2 (idBlk X1 t1_0) (ftBlk X0 t1_0)
  | n + 1 => if h : n + 1 < cfg1.N then k1_pay4 (idBlk X1 ⟨n + 1, h⟩) (ftBlk X0 ⟨n + 1, h⟩) (accSum n) else accSum n

/-- The counts after point `n`. -/
def accCnt : ℕ → Vec F S16x128 .f32
  | 0 => k1_pay3 (idBlk X1 t1_0)
  | n + 1 => if h : n + 1 < cfg1.N then k1_pay5 (idBlk X1 ⟨n + 1, h⟩) (accCnt n) else accCnt n

/-- The pairs a wait may have recorded: those at level 8 or below. -/
def low (c : Dev nD) : Set (SemLoc sig × HIx 1) := {p | (K (F := F)).lev ((c : Thread nD τ), p.1) p.2 ≤ 8}

variable (Z2 : Vec F S16x512 .f32) (Z3 : Vec F S16x128 .f32)

/-- The data of the accumulating call: its arrays on entry, and its staging buffers after each point. -/
def dat1 : Dat τ (Elt F) (HIx 1) ℕ UU ℕ cfg1 c where
  A w := match w with
    | ⟨0, _⟩ => X1
    | ⟨1, _⟩ => X0
    | ⟨2, _⟩ => Z2
    | ⟨3, _⟩ => Z3
  after w t := match w with
    | ⟨0, _⟩ => idBlk X1 t
    | ⟨1, _⟩ => ftBlk X0 t
    | ⟨2, _⟩ => accSum X1 X0 t.val
    | ⟨3, _⟩ => accCnt X1 t.val
  Φ _ := Pipeline.scopedRest spec1 c
  q _ := fullShare
  owed _ := 0
  recorded _ := low (F := F) c

/-- The body stores into both of its results at every point. -/
theorem live2 : ∀ i, cfg1.idle 2 i = false := (by decide +kernel : ∀ i : grid1.Coords, idle1 2 i = false)
theorem live3 : ∀ i, cfg1.idle 3 i = false := (by decide +kernel : ∀ i : grid1.Coords, idle1 3 i = false)

theorem before1_0 (t : Fin cfg1.N) (d) : (dat1 c X1 X0 Z2 Z3).before 0 t d = idBlk X1 t := by
  unfold Dat.before; rw [if_pos (fetch1_0 t)]; rfl
theorem before1_1 (t : Fin cfg1.N) (d) : (dat1 c X1 X0 Z2 Z3).before 1 t d = ftBlk X0 t := by
  unfold Dat.before; rw [if_pos (fetch1_1 t)]; rfl
theorem before1_2 (t : Fin cfg1.N) (ht : t.val ≠ 0) (d) : (dat1 c X1 X0 Z2 Z3).before 2 t d = accSum X1 X0 (t.val - 1) := by
  refine (Dat.before_out_kept _ 2 rfl t ht ?_ live2 (fun _ _ => rfl) d).trans rfl
  have h7 : t.val < 7 := lt_of_lt_of_eq t.isLt N_1
  refine Bool.eq_false_iff.mpr fun h => ?_
  have := (flush1_2 _).mp h
  dsimp only at this; omega
theorem before1_3 (t : Fin cfg1.N) (ht : t.val ≠ 0) (d) : (dat1 c X1 X0 Z2 Z3).before 3 t d = accCnt X1 (t.val - 1) := by
  refine (Dat.before_out_kept _ 3 rfl t ht ?_ live3 (fun _ _ => rfl) d).trans rfl
  have h7 : t.val < 7 := lt_of_lt_of_eq t.isLt N_1
  refine Bool.eq_false_iff.mpr fun h => ?_
  have := (flush1_3 _).mp h
  dsimp only at this; omega

theorem accSum_succ (t : Fin cfg1.N) (ht : t.val ≠ 0) :
    accSum X1 X0 t.val = k1_pay4 (idBlk X1 t) (ftBlk X0 t) (accSum X1 X0 (t.val - 1)) := by
  obtain ⟨t, h⟩ := t
  obtain ⟨n, rfl⟩ := Nat.exists_eq_succ_of_ne_zero ht
  show accSum X1 X0 (n + 1) = _
  rw [accSum, dif_pos h]; rfl
theorem accCnt_succ (t : Fin cfg1.N) (ht : t.val ≠ 0) : accCnt X1 t.val = k1_pay5 (idBlk X1 t) (accCnt X1 (t.val - 1)) := by
  obtain ⟨t, h⟩ := t
  obtain ⟨n, rfl⟩ := Nat.exists_eq_succ_of_ne_zero ht
  show accCnt X1 (n + 1) = _
  rw [accCnt, dif_pos h]; rfl

/-- Which branch a point takes. -/
theorem first_cond : ∀ t : Fin cfg1.N, (k1_cond1 (grid1.coords t) = 1#1 ↔ t.val = 0) ∧ (k1_cond2 (grid1.coords t) = 1#1 ↔ t.val ≠ 0) :=
  (by decide +kernel : ∀ t : Fin grid1.N, (k1_cond1 (grid1.coords t) = 1#1 ↔ t.val = 0) ∧ (k1_cond2 (grid1.coords t) = 1#1 ↔ t.val ≠ 0))

set_option maxRecDepth 16384 in
/-- The body at every point. -/
theorem body1 : BodyObligation (dat1 c X1 X0 Z2 Z3) (defs₀ (F := F)) 𝒱₀ none Set.univ := fun t => by
  rw [bigSep_W1, bigSep_W1]
  rw [show (dat1 c X1 X0 Z2 Z3).Φ t.castSucc = Pipeline.scopedRest spec1 c from rfl, show (dat1 c X1 X0 Z2 Z3).Φ t.succ = Pipeline.scopedRest spec1 c from rfl,
    show (dat1 c X1 X0 Z2 Z3).owesAt none t.succ = (dat1 c X1 X0 Z2 Z3).owesAt none t.castSucc from rfl]
  rw [show cfg1.idle (2 : Fin 4) (cfg1.grid.coords t) = false from live2 _]
  change iprop(Pipeline.scopedRest spec1 c ∗ (dat1 c X1 X0 Z2 Z3).owesAt none t.castSucc
      ∗ (∃ d, owns c.tc (st1_0 t) fullShare ((dat1 c X1 X0 Z2 Z3).before 0 t d))
      ∗ (∃ d, owns c.tc (st1_1 t) fullShare ((dat1 c X1 X0 Z2 Z3).before 1 t d))
      ∗ (∃ d, owns c.tc (st1_2 t) fullShare ((dat1 c X1 X0 Z2 Z3).before 2 t d))
      ∗ (∃ d, owns c.tc (st1_3 t) fullShare ((dat1 c X1 X0 Z2 Z3).before 3 t d))) ⊢
    wp Idealize.ShloMosaic.frame (wpE defs₀ 𝒱₀ c.tc none) Set.univ (bodyAt1 t) fun _ =>
      iprop(Pipeline.scopedRest spec1 c ∗ (dat1 c X1 X0 Z2 Z3).owesAt none t.castSucc
        ∗ owns c.tc (st1_0 t) fullShare (idBlk X1 t) ∗ owns c.tc (st1_1 t) fullShare (ftBlk X0 t)
        ∗ owns c.tc (st1_2 t) fullShare (accSum X1 X0 t.val) ∗ owns c.tc (st1_3 t) fullShare (accCnt X1 t.val))
  have w0 : (st1_0 t).IsWhole := hstage1_0 _
  have w1 : (st1_1 t).IsWhole := hstage1_1 _
  have w2 : (st1_2 t).IsWhole := hstage1_2 _
  have w3 : (st1_3 t).IsWhole := hstage1_3 _
  simp only [owns_whole w0, owns_whole w1, owns_whole w2, owns_whole w3]
  iintro ⟨HΦ, HO, ⟨%d0, %f0, %hf0, H0⟩, ⟨%d1, %f1, %hf1, H1⟩, ⟨%d2, %f2, %hf2, H2⟩, ⟨%d3, %f3, %hf3, H3⟩⟩
  rw [before1_0] at hf0
  rw [before1_1] at hf1
  by_cases ht : t.val = 0
  · iapply (wp_wand_r frame _ Set.univ)
    isplitl [H0 H1 H2 H3]
    · iapply (first_run c (grid1.coords t) ((first_cond t).1.mpr ht) (fun h => (first_cond t).2.mp h ht) (st1_0 t) w0 (st1_1 t) w1 (st1_2 t) w2 (st1_3 t) w3 f0 f1 f2 f3 _ _ hf0 hf1)
      isplitl [H0]; · iexact H0
      isplitl [H1]; · iexact H1
      isplitl [H2]; · iexact H2
      iexact H3
    iintro %_ ⟨H0, H1, ⟨%g2, %hg2, H2⟩, ⟨%g3, %hg3, H3⟩⟩
    obtain rfl : t = t1_0 := Fin.ext ht
    isplitl [HΦ]; · iexact HΦ
    isplitl [HO]; · iexact HO
    isplitl [H0]; · iexists f0; isplitr; · ipureintro; exact hf0
                    iexact H0
    isplitl [H1]; · iexists f1; isplitr; · ipureintro; exact hf1
                    iexact H1
    isplitl [H2]; · iexists g2; isplitr; · ipureintro; exact hg2
                    iexact H2
    iexists g3; isplitr; · ipureintro; exact hg3
    iexact H3
  · rw [before1_2 _ _ _ _ _ _ ht] at hf2
    rw [before1_3 _ _ _ _ _ _ ht] at hf3
    iapply (wp_wand_r frame _ Set.univ)
    isplitl [H0 H1 H2 H3]
    · iapply (later_run c (grid1.coords t) (fun h => ht ((first_cond t).1.mp h)) ((first_cond t).2.mpr ht) (st1_0 t) w0 (st1_1 t) w1 (st1_2 t) w2 (st1_3 t) w3 f0 f1 f2 f3 _ _ _ _ hf0 hf1 hf2 hf3)
      isplitl [H0]; · iexact H0
      isplitl [H1]; · iexact H1
      isplitl [H2]; · iexact H2
      iexact H3
    iintro %_ ⟨H0, H1, ⟨%g2, %hg2, H2⟩, ⟨%g3, %hg3, H3⟩⟩
    rw [accSum_succ X1 X0 t ht, accCnt_succ X1 t ht]
    isplitl [HΦ]; · iexact HΦ
    isplitl [HO]; · iexact HO
    isplitl [H0]; · iexists f0; isplitr; · ipureintro; exact hf0
                    iexact H0
    isplitl [H1]; · iexists f1; isplitr; · ipureintro; exact hf1
                    iexact H1
    isplitl [H2]; · iexists g2; isplitr; · ipureintro; exact hg2
                    iexact H2
    iexists g3; isplitr; · ipureintro; exact hg3
    iexact H3

/-! ## The arrays after the call -/

theorem out1_2 : (dat1 c X1 X0 Z2 Z3).arrAt 2 cfg1.N = accSum X1 X0 6 := by
  refine (dat1 c X1 X0 Z2 Z3).arrAt_eq_of_after_last 2 t1_6 (by decide +kernel) _ fun j => ?_
  rfl
theorem out1_3 : (dat1 c X1 X0 Z2 Z3).arrAt 3 cfg1.N = accCnt X1 6 := by
  refine (dat1 c X1 X0 Z2 Z3).arrAt_eq_of_after_last 3 t1_6 (by decide +kernel) _ fun j => ?_
  rfl

/-! ## The call as a region of the program -/

/-- No table is prefetched. -/
abbrev adm : (p : Fin 2) → (pcfgs (F := F) p).Adm := fun p => (cfgs p).toPCfg_adm

/-- The data of a call that is not the one running: anything. -/
def otherDat {cfg : Cfg sig Λ₀} [∀ e, Nonempty (Elt F e)] (c : Dev nD) : Dat τ (Elt F) (HIx 1) ℕ UU ℕ cfg c where
  A _ := fun _ => Classical.arbitrary _
  after _ _ := fun _ => Classical.arbitrary _
  Φ _ := BI.emp
  q _ := fullShare
  owed _ := 0

/-- The core owing nothing, every wait it recorded at level 8 or below. -/
abbrev calm (c : Dev nD) : sProp 𝕄 := Pipeline.owesWithin c (0 : CellTallies nD τ sig (HIx 1)) (low (F := F) c)

/-- The waits the call itself makes are at level 0. -/
theorem calm_of_waits {cfg : Cfg sig Λ₀} (c : Dev nD) {B : Set (SemLoc sig × HIx 1)} (hB : B = low (F := F) c ∪ cfg.waitPairs none) :
    Pipeline.owesWithin c (0 : CellTallies nD τ sig (HIx 1)) B ⊢ (calm (F := F) c : sProp 𝕄) := by
  refine Pipeline.owesWithin_mono c _ ?_
  subst hB
  rintro p (hp | ⟨w, s, rfl⟩)
  · exact hp
  · show (K (F := F)).lev _ none ≤ 8
    rw [SparseCore.Cfg.lev_none]; exact Nat.zero_le _

section Reg

variable [∀ e, Nonempty (Elt F e)]
variable (Y1 : Dev nD → Vec F S8x1x4096 .i32) (Y0 : Dev nD → Vec F S32768x512 .f32) (Y2 : Dev nD → Vec F S16x512 .f32) (Y3 : Dev nD → Vec F S16x128 .f32)

/-- The data of both calls while the accumulating one runs. -/
def pdats1 : (p : Fin 2) → (c : Dev nD) → Dat τ (Elt F) (HIx 1) ℕ UU ℕ (Pipeline.pin (pcfgs (F := F)) adm p) c
  | ⟨0, _⟩ => fun c => dat1 c (Y1 c) (Y0 c) (Y2 c) (Y3 c)
  | ⟨1, _⟩ => fun c => otherDat c

/-- The call's four arrays held whole. -/
abbrev arrs1 (c : Dev nD) (g1 : Vec F S8x1x4096 .i32) (g0 : Vec F S32768x512 .f32) (g2 : Vec F S16x512 .f32) (g3 : Vec F S16x128 .f32) : sProp 𝕄 :=
  iprop((((c : Thread nD τ).loc main_v1) ↦{fullShare} g1) ∗ (((c : Thread nD τ).loc main_arg0) ↦{fullShare} g0)
    ∗ (((c : Thread nD τ).loc main_v2_0) ↦{fullShare} g2) ∗ (((c : Thread nD τ).loc main_v2_1) ↦{fullShare} g3))

theorem arrays1 (c : Dev nD) (G : (w : Fin 4) → Buf (Elt F) (((cfg1.spec w).arr.view.loc (c.tc : Thread nD τ)))) :
    ((pdats1 Y1 Y0 Y2 Y3 0 c).arrays G : sProp 𝕄) = arrs1 c (G 0) (G 1) (G 2) (G 3) := by
  rw [Pipeline.arrays_eq (Pipeline.pin (pcfgs (F := F)) adm) (pdats1 Y1 Y0 Y2 Y3) 0 c launch1.arr_whole
    ((pdats1 Y1 Y0 Y2 Y3 0 c).share_full fun _ => rfl) G, bigSep_W1]
  rfl

set_option backward.isDefEq.respectTransparency.types false in
/-- The accumulating call: entered with its arrays at any contents, left with the two results at the sums and the counts. -/
def reg1 : Pipeline.RegionSeg (pcfgs (F := F)) adm (pdats1 Y1 Y0 Y2 Y3) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 c (Y1 c) (Y0 c) (Y2 c) (Y3 c)).loose
  hwaits := Pipeline.hwaits_of_owed_zero _ _ _ _ _ _ 0 fun _ _ => rfl
  pre c := iprop(arrs1 c (Y1 c) (Y0 c) (Y2 c) (Y3 c) ∗ calm c)
  post c := iprop(arrs1 c (Y1 c) (Y0 c) (accSum (Y1 c) (Y0 c) 6) (accCnt (Y1 c) 6) ∗ calm c)
  X _ := BI.emp
  Y _ := BI.emp
  Z _ := BI.emp
  hentry c := by
    rw [Pipeline.ownSems0_none, arrays1]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (B := low (F := F) c) (B' := (pdats1 Y1 Y0 Y2 Y3 0 c).bound none 0) fun _ h => Or.inl h)
      iexact HO
    isplitr; · iempintro
    iempintro
  hin c := by
    rw [show (pdats1 Y1 Y0 Y2 Y3 0 c).Φ 0 = Pipeline.scopedRest spec1 c from rfl]
    iintro ⟨-, -, Hr⟩; iexact Hr
  hout c := by
    rw [Pipeline.ownSems0_none, show (pdats1 Y1 Y0 Y2 Y3 0 c).Φ (Fin.last _) = Pipeline.scopedRest spec1 c from rfl]
    iintro Hr
    isplitr; · iempintro
    isplitr; · iempintro
    iexact Hr
  hexit c := by
    rw [arrays1]
    iintro ⟨Ha, HO, -, -⟩
    imodintro
    isplitl [Ha]
    · iapply (Entails.of_eq (show arrs1 c _ _ _ _ = arrs1 c (Y1 c) (Y0 c) (accSum (Y1 c) (Y0 c) 6) (accCnt (Y1 c) 6) by
        rw [← out1_2 c (Y1 c) (Y0 c) (Y2 c) (Y3 c), ← out1_3 c (Y1 c) (Y0 c) (Y2 c) (Y3 c)]))
      iexact Ha
    · iapply (calm_of_waits (cfg := cfg1) c rfl); iexact HO

instance EP_lands : (EP (F := F)).LandsIn (upEmb : UEmb _ 𝕄) := by unfold EP; infer_instance

/-- The staging cells are pairwise distinct. -/
theorem cells_inj : Function.Injective (Pipeline.cellOf (nD := nD) (τ := τ) (Pipeline.pin (pcfgs (F := F)) adm)) := cellOf_inj

/-- What a call takes of the ghost state. -/
abbrev callGhost (p : Fin 2) (c : Dev nD) : sProp 𝕄 :=
  iprop(Pipeline.cellsGhost (Pipeline.pin (pcfgs (F := F)) adm) EP p c ∗ Pipeline.toksInit (Pipeline.pin (pcfgs (F := F)) adm) EP p c)

/-- A call as a statement of the program. -/
theorem call_wp {pdats : (p : Fin 2) → (c : Dev nD) → Dat τ (Elt F) (HIx 1) ℕ UU ℕ (Pipeline.pin (pcfgs (F := F)) adm p) c} {p : Fin 2}
    (R : Pipeline.RegionSeg (pcfgs (F := F)) adm pdats none defs₀ 𝒱₀ (K (F := F)).L (K (F := F)).lev p) (c : Dev nD) :
    iprop(boundary (c.tc : Thread nD τ) ∗ R.pre c ∗ levAts (K (F := F)).L (K (F := F)).lev ∗ callGhost p c)
      ⊢ wp frame (wpE ((K (F := F)).defs (D (F := F))) 𝒱 (SparseCore.T c) none) Set.univ
          (Prog.lift (.customCall (SparseCore.inner (Pipeline.entry p)) ())) fun _ => iprop(boundary (c.tc : Thread nD τ) ∗ R.post c) := by
  refine BI.Entails.trans ?_ ((K (F := F)).wp_liftProg (D (F := F)) 𝒱 (SparseCore.T c) Set.univ none (.op (.customCall (Pipeline.entry p) ()) .ret) _)
  show iprop(boundary (c.tc : Thread nD τ) ∗ R.pre c ∗ levAts (K (F := F)).L (K (F := F)).lev ∗ callGhost p c)
      ⊢ wp frame (wpE (D (F := F)) 𝒱 (SparseCore.T c) none) Set.univ (.op (.customCall (Pipeline.entry p) ()) .ret)
          fun _ => iprop(boundary (c.tc : Thread nD τ) ∗ R.post c)
  iintro ⟨Hb, Hpre, HL, Hc, Ht⟩
  iapply (Pipeline.RegionSeg.wp (pcfgs (F := F)) adm pdats none cells_inj EP defs₀ 𝒱₀ _ _ R c none (fun _ h => nomatch h) _ _)
  isplitr
  · iintro H; rw [wp_ret]; imodintro; iexact H
  isplitl [Hb]; · iexact Hb
  isplitl [Hpre]; · iexact Hpre
  isplitl [HL]; · iexact HL
  isplitl [Hc] <;> iassumption

end Reg

end Cert.Proof.Seg

end
-- ==== Proof.Region2.lean ====
/-
  The combining TensorCore call: the partial sums and counts of the tiles added up, the accumulated ones added to
  them, and each sum divided by the larger of its count and one.
-/
module

public import proofs.«01_k».proof.Proof.Region1

@[expose] public section

noncomputable section

namespace Cert.Proof.Seg

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The first column of a table of counts. -/
def firstCol (B : Vec F S16x128 .f32) : Vec F S16x1 .f32 :=
  View.ld B (Rect.unit (s := S16x128) ![0, 0] S16x1.size inb_S16x128_S16x1_0_0)

/-- The combining body: its result from the four arrays it reads. -/
theorem combine_run (c : Dev nD)
    (M0 : Memref sig .tc .vmem S32x16x512 .f32) (h0 : M0.IsWhole) (M1 : Memref sig .tc .vmem S32x16 .f32) (h1 : M1.IsWhole)
    (M2 : Memref sig .tc .vmem S16x512 .f32) (h2 : M2.IsWhole) (M3 : Memref sig .tc .vmem S16x128 .f32) (h3 : M3.IsWhole)
    (M4 : Memref sig .tc .vmem S16x512 .f32) (h4 : M4.IsWhole)
    (f0 : Bf (F := F) c M0) (f1 : Bf (F := F) c M1) (f2 : Bf (F := F) c M2) (f3 : Bf (F := F) c M3) (f4 : Bf (F := F) c M4)
    (P : Vec F S32x16x512 .f32) (C : Vec F S32x16 .f32) (A : Vec F S16x512 .f32) (B : Vec F S16x128 .f32)
    (hP : M0.view.read (Elt F) f0 = P) (hC : M1.view.read (Elt F) f1 = C) (hA : M2.view.read (Elt F) f2 = A) (hB : M3.view.read (Elt F) f3 = B) :
    iprop(pt c M0 f0 ∗ pt c M1 f1 ∗ pt c M2 f2 ∗ pt c M3 f3 ∗ pt c M4 f4)
      ⊢ wp frame (wpE (defs₀ (F := F)) 𝒱₀ c none) Set.univ (cc2_body M0 h0 M1 h1 M2 h2 M3 h3 M4 h4)
          fun _ => iprop(pt c M0 f0 ∗ pt c M1 f1 ∗ pt c M2 f2 ∗ pt c M3 f3
            ∗ (∃ g : Bf (F := F) c M4, ⌜M4.view.read (Elt F) g = k2_pay1 P A C (firstCol B)⌝ ∗ pt c M4 g)) := by
  rw [cc2_body_eq_skeleton]
  unfold cc2_body_skel
  iintro ⟨H0, H1, H2, H3, H4⟩
  sl_exec
  sl_step
  isplitl [H0]; · iexact H0
  isplitl [H1]; · iexact H1
  isplitl [H2]; · iexact H2
  isplitl [H3]; · iexact H3
  iexists _; isplitr; swap; · iexact H4
  ipureintro
  refine (stored_whole M4.view inb_S16x512_S16x512_0_0 zero2 _ _).trans (congr (congr (congr (congrArg k2_pay1 ?_) ?_) ?_) ?_)
  · exact load_whole M0.view _ zero3 _ hP
  · exact load_whole M2.view _ zero2 _ hA
  · exact load_whole M1.view _ zero2 _ hC
  · rw [View.readAt_eq_ld]; exact congrArg (fun B => firstCol B) hB

/-! ## The call's staging buffers at its one point -/

variable (c : Dev nD) (P : Vec F S32x16x512 .f32) (C : Vec F S32x16 .f32) (A : Vec F S16x512 .f32) (B : Vec F S16x128 .f32) (Z : Vec F S16x512 .f32)

/-- The data of the combining call. -/
def dat2 : Dat τ (Elt F) (HIx 1) ℕ UU ℕ cfg2 c where
  A w := match w with
    | ⟨0, _⟩ => P
    | ⟨1, _⟩ => C
    | ⟨2, _⟩ => A
    | ⟨3, _⟩ => B
    | ⟨4, _⟩ => Z
  after w _ := match w with
    | ⟨0, _⟩ => P
    | ⟨1, _⟩ => C
    | ⟨2, _⟩ => A
    | ⟨3, _⟩ => B
    | ⟨4, _⟩ => k2_pay1 P A C (firstCol B)
  Φ _ := Pipeline.scopedRest spec2 c
  q _ := fullShare
  owed _ := 0
  recorded _ := low (F := F) c

/-- The one block of each window is its whole array. -/
theorem block2_0 (X : Vec F S32x16x512 .f32) : ((cfg2.win 0).blk t2_0).view.read (Elt F) X = X := by
  funext y
  refine congrArg X (funext fun a => Fin.ext ?_)
  match a with
  | 0 => show 0 * 32 + 1 * (y 0).val = (y 0).val; omega
  | 1 => show 0 * 16 + 1 * (y 1).val = (y 1).val; omega
  | 2 => show 0 * 512 + 1 * (y 2).val = (y 2).val; omega
theorem block2_1 (X : Vec F S32x16 .f32) : ((cfg2.win 1).blk t2_0).view.read (Elt F) X = X := by
  funext y
  refine congrArg X (funext fun a => Fin.ext ?_)
  match a with
  | 0 => show 0 * 32 + 1 * (y 0).val = (y 0).val; omega
  | 1 => show 0 * 16 + 1 * (y 1).val = (y 1).val; omega
theorem block2_2 (X : Vec F S16x512 .f32) : ((cfg2.win 2).blk t2_0).view.read (Elt F) X = X := by
  funext y
  refine congrArg X (funext fun a => Fin.ext ?_)
  match a with
  | 0 => show 0 * 16 + 1 * (y 0).val = (y 0).val; omega
  | 1 => show 0 * 512 + 1 * (y 1).val = (y 1).val; omega
theorem block2_3 (X : Vec F S16x128 .f32) : ((cfg2.win 3).blk t2_0).view.read (Elt F) X = X := by
  funext y
  refine congrArg X (funext fun a => Fin.ext ?_)
  match a with
  | 0 => show 0 * 16 + 1 * (y 0).val = (y 0).val; omega
  | 1 => show 0 * 128 + 1 * (y 1).val = (y 1).val; omega

theorem before2_0 (t : Fin cfg2.N) (d) : (dat2 c P C A B Z).before 0 t d = P := by
  unfold Dat.before; rw [if_pos (fetch2_0 t)]; obtain rfl := fin_N2 t; exact block2_0 P
theorem before2_1 (t : Fin cfg2.N) (d) : (dat2 c P C A B Z).before 1 t d = C := by
  unfold Dat.before; rw [if_pos (fetch2_1 t)]; obtain rfl := fin_N2 t; exact block2_1 C
theorem before2_2 (t : Fin cfg2.N) (d) : (dat2 c P C A B Z).before 2 t d = A := by
  unfold Dat.before; rw [if_pos (fetch2_2 t)]; obtain rfl := fin_N2 t; exact block2_2 A
theorem before2_3 (t : Fin cfg2.N) (d) : (dat2 c P C A B Z).before 3 t d = B := by
  unfold Dat.before; rw [if_pos (fetch2_3 t)]; obtain rfl := fin_N2 t; exact block2_3 B

set_option maxRecDepth 16384 in
/-- The body at its one point. -/
theorem body2 : BodyObligation (dat2 c P C A B Z) (defs₀ (F := F)) 𝒱₀ none Set.univ := fun t => by
  rw [bigSep_W2, bigSep_W2]
  rw [show (dat2 c P C A B Z).Φ t.castSucc = Pipeline.scopedRest spec2 c from rfl, show (dat2 c P C A B Z).Φ t.succ = Pipeline.scopedRest spec2 c from rfl,
    show (dat2 c P C A B Z).owesAt none t.succ = (dat2 c P C A B Z).owesAt none t.castSucc from rfl]
  change iprop(Pipeline.scopedRest spec2 c ∗ (dat2 c P C A B Z).owesAt none t.castSucc
      ∗ (∃ d, owns c.tc (st2_0 t) fullShare ((dat2 c P C A B Z).before 0 t d))
      ∗ (∃ d, owns c.tc (st2_1 t) fullShare ((dat2 c P C A B Z).before 1 t d))
      ∗ (∃ d, owns c.tc (st2_2 t) fullShare ((dat2 c P C A B Z).before 2 t d))
      ∗ (∃ d, owns c.tc (st2_3 t) fullShare ((dat2 c P C A B Z).before 3 t d))
      ∗ (∃ d, owns c.tc (st2_4 t) fullShare ((dat2 c P C A B Z).before 4 t d))) ⊢
    wp Idealize.ShloMosaic.frame (wpE defs₀ 𝒱₀ c.tc none) Set.univ (bodyAt2 t) fun _ =>
      iprop(Pipeline.scopedRest spec2 c ∗ (dat2 c P C A B Z).owesAt none t.castSucc
        ∗ owns c.tc (st2_0 t) fullShare P ∗ owns c.tc (st2_1 t) fullShare C
        ∗ owns c.tc (st2_2 t) fullShare A ∗ owns c.tc (st2_3 t) fullShare B
        ∗ owns c.tc (st2_4 t) fullShare (k2_pay1 P A C (firstCol B)))
  have w0 : (win2_0.stage (cfg2.slots t 0)).IsWhole := hstage2_0 0
  have w1 : (win2_1.stage (cfg2.slots t 1)).IsWhole := hstage2_1 0
  have w2 : (win2_2.stage (cfg2.slots t 2)).IsWhole := hstage2_2 0
  have w3 : (win2_3.stage (cfg2.slots t 3)).IsWhole := hstage2_3 0
  have w4 : (win2_4.stage (cfg2.slots t 4)).IsWhole := hstage2_4 0
  simp only [owns_whole w0, owns_whole w1, owns_whole w2, owns_whole w3, owns_whole w4, before2_0, before2_1, before2_2, before2_3]
  iintro ⟨HΦ, HO, ⟨%d0, %f0, %hf0, H0⟩, ⟨%d1, %f1, %hf1, H1⟩, ⟨%d2, %f2, %hf2, H2⟩, ⟨%d3, %f3, %hf3, H3⟩, ⟨%d4, %f4, -, H4⟩⟩
  iapply (wp_wand_r frame _ Set.univ)
  isplitl [H0 H1 H2 H3 H4]
  · iapply (combine_run c (st2_0 t) w0 (st2_1 t) w1 (st2_2 t) w2 (st2_3 t) w3 (st2_4 t) w4 f0 f1 f2 f3 f4 _ _ _ _ hf0 hf1 hf2 hf3)
    isplitl [H0]; · iexact H0
    isplitl [H1]; · iexact H1
    isplitl [H2]; · iexact H2
    isplitl [H3]; · iexact H3
    iexact H4
  iintro %_ ⟨H0, H1, H2, H3, ⟨%g4, %hg4, H4⟩⟩
  isplitl [HΦ]; · iexact HΦ
  isplitl [HO]; · iexact HO
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists g4; isplitr; · ipureintro; exact hg4
  iexact H4

/-- The result array after the call. -/
theorem out2_4 : (dat2 c P C A B Z).arrAt 4 cfg2.N = k2_pay1 P A C (firstCol B) := by
  refine (dat2 c P C A B Z).arrAt_eq_of_after_last 4 t2_0 (by decide +kernel) _ fun j => ?_
  rfl

/-! ## The call as a region of the program -/

section Reg

variable [∀ e, Nonempty (Elt F e)]
variable (YP : Dev nD → Vec F S32x16x512 .f32) (YC : Dev nD → Vec F S32x16 .f32) (YA : Dev nD → Vec F S16x512 .f32) (YB : Dev nD → Vec F S16x128 .f32)
  (YZ : Dev nD → Vec F S16x512 .f32)

/-- The data of both calls while the combining one runs. -/
def pdats2 : (p : Fin 2) → (c : Dev nD) → Dat τ (Elt F) (HIx 1) ℕ UU ℕ (Pipeline.pin (pcfgs (F := F)) adm p) c
  | ⟨0, _⟩ => fun c => otherDat c
  | ⟨1, _⟩ => fun c => dat2 c (YP c) (YC c) (YA c) (YB c) (YZ c)

/-- The call's five arrays held whole. -/
abbrev arrs2 (c : Dev nD) (P : Vec F S32x16x512 .f32) (C : Vec F S32x16 .f32) (A : Vec F S16x512 .f32) (B : Vec F S16x128 .f32) (Z : Vec F S16x512 .f32) : sProp 𝕄 :=
  iprop((((c : Thread nD τ).loc main_v0_0) ↦{fullShare} P) ∗ (((c : Thread nD τ).loc main_v0_1) ↦{fullShare} C)
    ∗ (((c : Thread nD τ).loc main_v2_0) ↦{fullShare} A) ∗ (((c : Thread nD τ).loc main_v2_1) ↦{fullShare} B)
    ∗ (((c : Thread nD τ).loc main_v3) ↦{fullShare} Z))

theorem arrays2 (c : Dev nD) (G : (w : Fin 5) → Buf (Elt F) (((cfg2.spec w).arr.view.loc (c.tc : Thread nD τ)))) :
    ((pdats2 YP YC YA YB YZ 1 c).arrays G : sProp 𝕄) = arrs2 c (G 0) (G 1) (G 2) (G 3) (G 4) := by
  rw [Pipeline.arrays_eq (Pipeline.pin (pcfgs (F := F)) adm) (pdats2 YP YC YA YB YZ) 1 c launch2.arr_whole
    ((pdats2 YP YC YA YB YZ 1 c).share_full fun _ => rfl) G, bigSep_W2]
  rfl

set_option backward.isDefEq.respectTransparency.types false in
/-- The combining call: entered with its arrays at any contents, left with the result at the quotients. -/
def reg2 : Pipeline.RegionSeg (pcfgs (F := F)) adm (pdats2 YP YC YA YB YZ) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 c (YP c) (YC c) (YA c) (YB c) (YZ c)).loose
  hwaits := Pipeline.hwaits_of_owed_zero _ _ _ _ _ _ 1 fun _ _ => rfl
  pre c := iprop(arrs2 c (YP c) (YC c) (YA c) (YB c) (YZ c) ∗ calm c)
  post c := iprop(arrs2 c (YP c) (YC c) (YA c) (YB c) (k2_pay1 (YP c) (YA c) (YC c) (firstCol (YB c))) ∗ calm c)
  X _ := BI.emp
  Y _ := BI.emp
  Z _ := BI.emp
  hentry c := by
    rw [Pipeline.ownSems0_none, arrays2]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (B := low (F := F) c) (B' := (pdats2 YP YC YA YB YZ 1 c).bound none 0) fun _ h => Or.inl h)
      iexact HO
    isplitr; · iempintro
    iempintro
  hin c := by
    rw [show (pdats2 YP YC YA YB YZ 1 c).Φ 0 = Pipeline.scopedRest spec2 c from rfl]
    iintro ⟨-, -, Hr⟩; iexact Hr
  hout c := by
    rw [Pipeline.ownSems0_none, show (pdats2 YP YC YA YB YZ 1 c).Φ (Fin.last _) = Pipeline.scopedRest spec2 c from rfl]
    iintro Hr
    isplitr; · iempintro
    isplitr; · iempintro
    iexact Hr
  hexit c := by
    rw [arrays2]
    iintro ⟨Ha, HO, -, -⟩
    imodintro
    isplitl [Ha]
    · iapply (Entails.of_eq (show arrs2 c _ _ _ _ _ = arrs2 c (YP c) (YC c) (YA c) (YB c) (k2_pay1 (YP c) (YA c) (YC c) (firstCol (YB c))) by
        rw [← out2_4 c (YP c) (YC c) (YA c) (YB c) (YZ c)]))
      iexact Ha
    · iapply (calm_of_waits (cfg := cfg2) c rfl); iexact HO

end Reg

end Cert.Proof.Seg

end
-- ==== Proof.Launch.lean ====
/-
  The whole run: the 32 tiles of the SparseCore call, the reshaping of the ids, and the two TensorCore calls.
-/
module

public import proofs.«01_k».proof.Proof.Tile
public import proofs.«01_k».proof.Proof.Region2
public import Idealize.ShloMosaic.Lib.SparseCore.Quiescent

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay ctx_levAts)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays -/

abbrev xLoc (d : Dev nD) : Loc nD τ sig := (d.tc : Thread nD τ).loc main_arg0
abbrev iLoc (d : Dev nD) : Loc nD τ sig := (d.tc : Thread nD τ).loc main_arg1
abbrev oLoc (d : Dev nD) : Loc nD τ sig := (d.tc : Thread nD τ).loc main_v0_0
abbrev cLoc (d : Dev nD) : Loc nD τ sig := (d.tc : Thread nD τ).loc main_v0_1
abbrev rLoc (d : Dev nD) : Loc nD τ sig := (d.tc : Thread nD τ).loc main_v1
abbrev aLoc (d : Dev nD) : Loc nD τ sig := (d.tc : Thread nD τ).loc main_v2_0
abbrev bLoc (d : Dev nD) : Loc nD τ sig := (d.tc : Thread nD τ).loc main_v2_1
abbrev zLoc (d : Dev nD) : Loc nD τ sig := (d.tc : Thread nD τ).loc main_v3

/-- The features and the ids of the launch. -/
abbrev feats (d : Dev nD) : S32768x512.Idx → F .f32 := m (xLoc d)
abbrev ids (d : Dev nD) : S32768.Idx → BitVec 32 := m (iLoc d)

/-- The ids as the accumulating call takes them: eight rows of 4096. -/
def rowIds (I : S32768.Idx → BitVec 32) : Vec F S8x1x4096 .i32 := shapeCast S8x1x4096 (I : Vec F S32768 .i32) shapeCasts_S32768_S8x1x4096

/-- What the run leaves in the result. -/
def result (X : S32768x512.Idx → F .f32) (I : S32768.Idx → BitVec 32) : Vec F S16x512 .f32 :=
  k2_pay1 (allSums X I) (accSum (rowIds (F := F) I) X 6) (allCnts (F := F) I) (firstCol (accCnt (rowIds (F := F) I) 6))

/-! ## Shares: the full share halved five times, one part for each tile -/

/-- Part `i` of share `q` halved `n` times. -/
def part : (n : ℕ) → PosShare TreeShare → Fin (2 ^ n) → PosShare TreeShare
  | 0, q, _ => q
  | n + 1, q, i => Sum.elim (part n q.left) (part n q.right) (finSumFinEquiv.symm (Fin.cast (by rw [pow_succ]; omega) i : Fin (2 ^ n + 2 ^ n)))

/-- An array held at a share is it held at all the share's parts. -/
theorem held_parts {ℓ : Loc nD τ sig} (f : Buf (Elt F) ℓ) :
    ∀ (n : ℕ) (q : PosShare TreeShare), (ℓ ↦{q} f : sProp 𝕄) = bigSep Finset.univ fun i : Fin (2 ^ n) => ℓ ↦{part n q i} f
  | 0, q => (bigSep_univ_of_subsingleton (0 : Fin 1) (Φ := fun i : Fin (2 ^ 0) => (ℓ ↦{part 0 q i} f : sProp 𝕄))).symm
  | n + 1, q => by
    rw [BI.Entails.antisymm (pointsTo_share (PosShare.mem_left_op_right q)).1 (pointsTo_share (PosShare.mem_left_op_right q)).2,
      held_parts f n q.left, held_parts f n q.right,
      bigSep_univ_equiv (finSumFinEquiv.trans (finCongr (by rw [pow_succ]; omega) : Fin (2 ^ n + 2 ^ n) ≃ Fin (2 ^ (n + 1))))
        (fun i : Fin (2 ^ (n + 1)) => (ℓ ↦{part (n + 1) q i} f : sProp 𝕄)), bigSep_univ_sum]
    have hc : ∀ s : Fin (2 ^ n) ⊕ Fin (2 ^ n), part (n + 1) q ((finSumFinEquiv.trans (finCongr (by rw [pow_succ]; omega) : Fin (2 ^ n + 2 ^ n) ≃ Fin (2 ^ (n + 1)))) s)
        = Sum.elim (part n q.left) (part n q.right) s := fun s => by
      show Sum.elim (part n q.left) (part n q.right) (finSumFinEquiv.symm (finSumFinEquiv s)) = _
      rw [Equiv.symm_apply_apply]
    congr 1 <;> refine bigSep_congr fun i _ => ?_
    · rw [hc]; rfl
    · rw [hc]; rfl

/-- Tile `w`'s share of the arrays every tile reads. -/
abbrev wq (w : Fin 32) : PosShare TreeShare := part 5 fullShare w

/-! ## What the tiles are given and bring back -/

/-- The number of the tile on SparseCore `c`, subcore `i`. -/
def tileNo (c : Fin 2) (i : Fin 16) : Fin 32 := ⟨i.val * 2 + c.val, by omega⟩

/-- Tile `w`'s shares of the features and the ids, and its rows of the partial sums and counts. -/
abbrev tileRes (d : Dev nD) (P : Buf (Elt F) (oLoc d)) (C : Buf (Elt F) (cLoc d)) (w : Fin 32) : sProp 𝕄 :=
  iprop((xLoc d ↦{wq w} m (xLoc d)) ∗ (iLoc d ↦{wq w} m (iLoc d)) ∗ (oLoc d ↦[oRow w.val]{fullShare} P) ∗ (cLoc d ↦[cRow w.val]{fullShare} C))

/-- Before and after the call. -/
abbrev before (d : Dev nD) : Fin 32 → sProp 𝕄 := tileRes m d (m (oLoc d)) (m (cLoc d))
abbrev after (d : Dev nD) : Fin 32 → sProp 𝕄 := tileRes m d (allSums (feats m d) (ids m d)) (allCnts (F := F) (ids m d))

/-- The payloads of the handshakes: a SparseCore takes and brings back what its sixteen tiles do. -/
def P : (K (F := F)).Pay (nD := nD) (Val := Elt F) (Name := ℕ) (U := UU) where
  st := fun q d c => match q with | 0 => bigSep Finset.univ fun i : Fin 16 => before m d (tileNo (Fin.cast nCore_zero c) i)
  dn := fun q d c => match q with | 0 => bigSep Finset.univ fun i : Fin 16 => after m d (tileNo (Fin.cast nCore_zero c) i)
  go := fun q d c i => match q with | 0 => before m d (tileNo (Fin.cast nCore_zero c) (Fin.cast nSub_zero i))
  td := fun q d c i => match q with | 0 => after m d (tileNo (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => before m d (tileNo (Fin.cast nCore_zero c) i)))
  dn q d c := match q with
    | 0 => (inferInstance : BI.Storable (upEmb : UEmb _ 𝕄) (bigSep Finset.univ fun i : Fin 16 => after m d (tileNo (Fin.cast nCore_zero c) i)))
  go q d c i := match q with
    | 0 => (inferInstance : BI.Storable (upEmb : UEmb _ 𝕄) (before m d (tileNo (Fin.cast nCore_zero c) (Fin.cast nSub_zero i))))
  td q d c i := match q with
    | 0 => (inferInstance : BI.Storable (upEmb : UEmb _ 𝕄) (after m d (tileNo (Fin.cast nCore_zero c) (Fin.cast nSub_zero i))))

/-- Every id names one of the sixteen segments. -/
def IdsOK : Prop := ∀ (d : Dev nD) (i : S32768.Idx), (ids m d i).toNat < 16

/-! ## The tiles' obligation -/

def tileAt (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_k (tileAt c s) xM hxM iM hiM oM hoM cM hcM idM hidM xbM hxbM paM hpaM cnM hcnM
          cc0_scratch4 cc0_scratch5 cc0_scoped0 cc0_scoped1 cc0_scoped2) ⟨⟩ c s := rfl

omit [FloatOps F] in
theorem waits_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hI : IdsOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (tileAt ⟨_, hci.1⟩ ⟨_, hci.2⟩) (wq (tileNo (Fin.cast nCore_zero c) (Fin.cast nSub_zero i))) (wq (tileNo (Fin.cast nCore_zero c) (Fin.cast nSub_zero i)))
    (feats m d) (ids m d) (hI d) (m (oLoc d)) (m (cLoc d)) facts O W hO).trans (wp_mono frame _ _ fun _ => waits_post)

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => before m d (tileNo (Fin.cast nCore_zero c) i)) ⊢ |={Set.univ}=> iprop(
      (bigSep Finset.univ fun i : Fin ((K (F := F)).nSub 0) => before m d (tileNo (Fin.cast nCore_zero c) (Fin.cast nSub_zero i)))
      ∗ ((bigSep Finset.univ fun i : Fin ((K (F := F)).nSub 0) => after m d (tileNo (Fin.cast nCore_zero c) (Fin.cast nSub_zero i)))
          -∗ bigSep Finset.univ fun i : Fin 16 => after m d (tileNo (Fin.cast nCore_zero c) i)))
  rw [bigSep_subs (F := F) (fun i => before m d (tileNo (Fin.cast nCore_zero c) i)), bigSep_subs (F := F) (fun i => after m d (tileNo (Fin.cast nCore_zero c) i))]
  iintro H; imodintro
  isplitl [H]; · iexact H
  iintro H; iexact H

/-! ## The arrays whole and in tiles -/

/-- SparseCores and subcores number the tiles. -/
theorem bigSep_tiles (Φ : Fin 32 → sProp 𝕄) :
    (bigSep Finset.univ fun c : Fin 2 => bigSep Finset.univ fun i : Fin 16 => Φ (tileNo c i)) = bigSep Finset.univ Φ := by
  rw [bigSep_univ_equiv ((Equiv.prodComm (Fin 2) (Fin 16)).trans (finProdFinEquiv : Fin 16 × Fin 2 ≃ Fin 32)) Φ, bigSep_univ_prod]
  refine bigSep_congr fun c _ => bigSep_congr fun i _ => congrArg Φ (Fin.ext ?_)
  show i.val * 2 + c.val = c.val + 2 * i.val
  omega

theorem oRows (d : Dev nD) (f : Buf (Elt F) (oLoc d)) :
    (oLoc d ↦{fullShare} f : sProp 𝕄) = bigSep Finset.univ fun w : Fin 32 => oLoc d ↦[oRow w.val]{fullShare} f := by
  rw [← pointsTo_biUnion Finset.univ (ℓ := oLoc d) (fun w : Fin 32 => oRow w.val)
    (fun i _ j _ h => Finset.disjoint_left.mpr fun x hx hy => h (Fin.ext ((Finset.mem_filter.mp hx).2.symm.trans (Finset.mem_filter.mp hy).2))),
    show (Finset.univ.biUnion fun w : Fin 32 => oRow w.val) = Finset.univ from
      Finset.eq_univ_iff_forall.mpr fun x => Finset.mem_biUnion.mpr ⟨x 0, Finset.mem_univ _, Finset.mem_filter.mpr ⟨Finset.mem_univ _, rfl⟩⟩]

theorem cRows (d : Dev nD) (f : Buf (Elt F) (cLoc d)) :
    (cLoc d ↦{fullShare} f : sProp 𝕄) = bigSep Finset.univ fun w : Fin 32 => cLoc d ↦[cRow w.val]{fullShare} f := by
  rw [← pointsTo_biUnion Finset.univ (ℓ := cLoc d) (fun w : Fin 32 => cRow w.val)
    (fun i _ j _ h => Finset.disjoint_left.mpr fun x hx hy => h (Fin.ext ((Finset.mem_filter.mp hx).2.symm.trans (Finset.mem_filter.mp hy).2))),
    show (Finset.univ.biUnion fun w : Fin 32 => cRow w.val) = Finset.univ from
      Finset.eq_univ_iff_forall.mpr fun x => Finset.mem_biUnion.mpr ⟨x 0, Finset.mem_univ _, Finset.mem_filter.mpr ⟨Finset.mem_univ _, rfl⟩⟩]

/-- The four arrays of the call, whole, are what the tiles hold together. -/
theorem tiles_whole (d : Dev nD) (f : Buf (Elt F) (oLoc d)) (g : Buf (Elt F) (cLoc d)) :
    bigSep Finset.univ (tileRes m d f g)
      = iprop((xLoc d ↦{fullShare} m (xLoc d)) ∗ (iLoc d ↦{fullShare} m (iLoc d)) ∗ (oLoc d ↦{fullShare} f) ∗ (cLoc d ↦{fullShare} g)) := by
  show (bigSep Finset.univ fun w : Fin 32 => iprop((xLoc d ↦{wq w} m (xLoc d)) ∗ (iLoc d ↦{wq w} m (iLoc d))
    ∗ (oLoc d ↦[oRow w.val]{fullShare} f) ∗ (cLoc d ↦[cRow w.val]{fullShare} g))) = _
  rw [bigSep_sep', bigSep_sep', bigSep_sep', held_parts (m (xLoc d)) 5 fullShare, held_parts (m (iLoc d)) 5 fullShare, oRows, cRows]
  rfl

theorem st0_eq (d : Dev nD) : (bigSep Finset.univ fun c : Fin ((K (F := F)).nCore 0) => (P m).st 0 d c)
    = iprop((xLoc d ↦{fullShare} m (xLoc d)) ∗ (iLoc d ↦{fullShare} m (iLoc d)) ∗ (oLoc d ↦{fullShare} m (oLoc d)) ∗ (cLoc d ↦{fullShare} m (cLoc d))) := by
  rw [← tiles_whole, ← bigSep_tiles, ← bigSep_cores]; rfl
theorem dn0_eq (d : Dev nD) : (bigSep Finset.univ fun c : Fin ((K (F := F)).nCore 0) => (P m).dn 0 d c)
    = iprop((xLoc d ↦{fullShare} m (xLoc d)) ∗ (iLoc d ↦{fullShare} m (iLoc d)) ∗ (oLoc d ↦{fullShare} allSums (feats m d) (ids m d))
        ∗ (cLoc d ↦{fullShare} allCnts (F := F) (ids m d))) := by
  rw [← tiles_whole, ← bigSep_tiles, ← bigSep_cores]; rfl

/-! ## The ghost state at the launch -/

section Run

variable [∀ e, Nonempty (Elt F e)]

/-- The staging buffers' cells and tokens. -/
def stageInit : UP := initOf (Pipeline.cells (Pipeline.pin (pcfgs (F := F)) adm) (cells_inj (F := F))) (Pipeline.launchToks (Pipeline.pin (pcfgs (F := F)) adm) (cells_inj (F := F)))

def u₀ : UU := (initOf (K (F := F)).hsCells (K (F := F)).hsToks, (stageInit (F := F), 1))

/-- What @main is given: the ghost state of the two TensorCore calls. -/
abbrev ghosts (d : Dev nD) : sProp 𝕄 := iprop(callGhost (F := F) 0 d ∗ callGhost (F := F) 1 d)

theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P m).x q thr) := by
  unfold u₀
  iintro Hu
  ihave H := (ownU_pair (initOf (K (F := F)).hsCells (K (F := F)).hsToks) ((stageInit (F := F), (1 : Counters)) : UP × Counters)) $$ Hu
  icases H with ⟨HH, HR⟩
  ihave HR := (own_pair_emb (embR : Emb (UP × Counters) 𝕄) (stageInit (F := F)) (1 : Counters)) $$ HR
  icases HR with ⟨HP, -⟩
  unfold stageInit
  imod (Pipeline.fund_ghost (Pipeline.pin (pcfgs (F := F)) adm) (EP (F := F)) (cells_inj (F := F))) $$ HP with ⟨Hc, Ht⟩
  imodintro
  isplitl [HH]; · iexact HH
  isplitl [Hc Ht]
  · rw [show (fun d : Dev nD => ghosts (F := F) d) = fun d => bigSep Finset.univ fun p : Fin 2 => callGhost (F := F) p d from
      funext fun d => (bigSep_fin_two (fun p : Fin 2 => callGhost (F := F) p d)).symm]
    simp only [bigSep_sep']
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## @main -/

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (oLoc d ↦{fullShare} W main_v0_0)
      ∗ (cLoc d ↦{fullShare} W main_v0_1) ∗ (rLoc d ↦{fullShare} W main_v1) ∗ (aLoc d ↦{fullShare} W main_v2_0) ∗ (bLoc d ↦{fullShare} W main_v2_1)
      ∗ zLoc d ↦{fullShare} W main_v3) := by
  unfold unscopedBufs
  rw [show (Finset.univ.filter fun b : Ref sig .tc => ¬ b.isScoped) = {main_arg0, main_arg1, main_v0_0, main_v0_1, main_v1, main_v2_0, main_v2_1, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev i' : DevRef τ sig := Proc.devRef .tc (main_arg1 : Ref sig .tc)
abbrev r' : DevRef τ sig := Proc.devRef .tc (main_v1 : Ref sig .tc)
/-- The reshaping of the ids. -/
abbrev opReshape : HloOp τ sig (Elt F) := StableHlo.reshape main_arg1 main_v1 (rfl : (.i32 : EltTy) = .i32) shapeCasts_S32768_S8x1x4096

theorem opBufs_eq (d : Dev nD) (W : Valuation τ sig (Elt F)) :
    (bigSep (opReshape (F := F)).bufs (fun b => ((d, b) : Loc nD τ sig) ↦{fullShare} W b) : sProp 𝕄)
      = iprop((iLoc d ↦{fullShare} W i') ∗ rLoc d ↦{fullShare} W r') := by
  show bigSep ({i', r'} : Finset (DevRef τ sig)) (fun b => ((d, b) : Loc nD τ sig) ↦{fullShare} W b) = _
  rw [SparseCore.bigSep_insert' (by decide), bigSep_singleton]

/-- What @main leaves: the features and the ids as they were, and the result. -/
abbrev FIN (d : Dev nD) : sProp 𝕄 :=
  iprop((xLoc d ↦{fullShare} m (xLoc d)) ∗ (iLoc d ↦{fullShare} m (iLoc d)) ∗ zLoc d ↦{fullShare} result (feats m d) (ids m d))

/-- After the SparseCore call the TensorCore owes nothing; its other holdings stand by. -/
theorem tcSt_calm (d : Dev nD) : ((K (F := F)).tcSt EH d 1 : sProp 𝕄) ⊢ iprop(calm (F := F) d ∗ (calm (F := F) d -∗ (K (F := F)).tcSt EH d 1)) := by
  unfold SparseCore.Cfg.tcSt
  rw [(K (F := F)).Otc_end d (n := 1) le_rfl]
  iintro ⟨⟨%W, %hW, HO⟩, Hr⟩
  isplitl [HO]
  · iexists W; isplitr
    · ipureintro; exact fun p hp => hW p hp
    · iexact HO
  iintro ⟨%W', %hW', HO⟩
  isplitl [HO]
  · iexists W'; isplitr
    · ipureintro; exact fun p hp => hW' hp
    · iexact HO
  iexact Hr

/-- The accumulating call as a statement of @main. -/
theorem accumulate_wp (d : Dev nD) :
    iprop(boundary (d.tc : Thread nD τ) ∗ (arrs1 d (rowIds (F := F) (ids m d)) (feats m d) (m (aLoc d)) (m (bLoc d)) ∗ calm d)
        ∗ levAts (K (F := F)).L (K (F := F)).lev ∗ callGhost 0 d)
      ⊢ wp frame (wpE ((K (F := F)).defs (D (F := F))) 𝒱 (SparseCore.T d) none) Set.univ
          (Prog.lift (.customCall (SparseCore.inner (Pipeline.entry 0)) ())) fun _ => iprop(boundary (d.tc : Thread nD τ)
            ∗ arrs1 d (rowIds (F := F) (ids m d)) (feats m d) (accSum (rowIds (F := F) (ids m d)) (feats m d) 6) (accCnt (rowIds (F := F) (ids m d)) 6) ∗ calm d) :=
  call_wp (F := F) (reg1 (fun c => rowIds (F := F) (ids m c)) (fun c => feats m c) (fun c => m (aLoc c)) (fun c => m (bLoc c))) d

/-- The combining call as a statement of @main. -/
theorem combine_wp (d : Dev nD) (A : Vec F S16x512 .f32) (B : Vec F S16x128 .f32) :
    iprop(boundary (d.tc : Thread nD τ) ∗ (arrs2 d (allSums (feats m d) (ids m d)) (allCnts (F := F) (ids m d)) A B (m (zLoc d)) ∗ calm d)
        ∗ levAts (K (F := F)).L (K (F := F)).lev ∗ callGhost 1 d)
      ⊢ wp frame (wpE ((K (F := F)).defs (D (F := F))) 𝒱 (SparseCore.T d) none) Set.univ
          (Prog.lift (.customCall (SparseCore.inner (Pipeline.entry 1)) ())) fun _ => iprop(boundary (d.tc : Thread nD τ)
            ∗ arrs2 d (allSums (feats m d) (ids m d)) (allCnts (F := F) (ids m d)) A B
                (k2_pay1 (allSums (feats m d) (ids m d)) A (allCnts (F := F) (ids m d)) (firstCol B)) ∗ calm d) :=
  call_wp (F := F) (reg2 (fun c => allSums (feats m c) (ids m c)) (fun c => allCnts (F := F) (ids m c)) (fun _ => A) (fun _ => B) (fun c => m (zLoc c))) d

set_option maxRecDepth 16384 in
theorem hmain (κ : GSem nD τ sig → ℕ) (d : Dev nD) :
    iprop((K (F := F)).ctx EH (P m) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho, Hc, Hr, Ha, Hd, Hz⟩, Hts, -⟩, ⟨Hg0, Hg1⟩⟩
  iapply ((K (F := F)).wp_run (D (F := F)) 𝒱 (EH := EH) (P := P m) κ d 0) $$ [Hst Hx Hi Ho Hc Hr Ha Hd Hz Hb Hts Hg0 Hg1]
  isplitr; · iexact Hctx
  isplitl [Hst]; · iexact Hst
  isplitl [Hx Hi Ho Hc]
  · rw [st0_eq]
    isplitl [Hx]; · iexact Hx
    isplitl [Hi]; · iexact Hi
    isplitl [Ho]; · iexact Ho
    iexact Hc
  iintro ⟨Hst, Hdn⟩
  ihave Hdn := (Entails.of_eq (dn0_eq m d)) $$ Hdn
  icases Hdn with ⟨Hx, Hi, Ho, Hc⟩
  iapply (wp_hlo 𝒱 (SparseCore.T d) none Set.univ (op := opReshape) (q := fun _ => fullShare) (F := fun b => m (d, b)) (fun _ _ => rfl)) $$ [Hb Hi Hr]
  · isplitl [Hb]; · iexact Hb
    rw [opBufs_eq]
    isplitl [Hi]; · iexact Hi
    iexact Hr
  rw [opBufs_eq, (opReshape (F := F)).result_of_not_mem (fun b => m (d, b)) (b := i') (show i' ∉ ({r'} : Finset (DevRef τ sig)) by decide),
    show (opReshape (F := F)).result (fun b => m (d, b)) r' = rowIds (F := F) (ids m d) from StableHlo.reshape_result _ _ _ _ _ _ _]
  iintro ⟨Hb, Hi, Hr⟩
  rw [wp_ret]; imodintro
  ihave Hlev := (ctx_levAts κ) $$ Hctx
  ihave Hst := (show (K (F := F)).tcSt EH d ((0 : Fin 1).val + 1) ⊢ iprop(calm (F := F) d ∗ (calm (F := F) d -∗ (K (F := F)).tcSt EH d 1)) from tcSt_calm (F := F) d) $$ Hst
  icases Hst with ⟨HO, Hst⟩
  iapply (wp_wand_r frame _ Set.univ)
  isplitl [Hb Hr Hx Ha Hd HO Hg0]
  · iapply (accumulate_wp m d)
    isplitl [Hb]; · iexact Hb
    isplitl [Hr Hx Ha Hd HO]
    · isplitr [HO]
      · isplitl [Hr]; · iexact Hr
        isplitl [Hx]; · iexact Hx
        isplitl [Ha]; · iexact Ha
        iexact Hd
      · iexact HO
    isplitr; · iexact Hlev
    iexact Hg0
  iintro %_ ⟨Hb, ⟨Hr, Hx, Ha, Hd⟩, HO⟩
  iapply (wp_wand_r frame _ Set.univ)
  isplitl [Hb Ho Hc Ha Hd Hz HO Hg1]
  · iapply (combine_wp m d _ _)
    isplitl [Hb]; · iexact Hb
    isplitl [Ho Hc Ha Hd Hz HO]
    · isplitr [HO]
      · isplitl [Ho]; · iexact Ho
        isplitl [Hc]; · iexact Hc
        isplitl [Ha]; · iexact Ha
        isplitl [Hd]; · iexact Hd
        iexact Hz
      · iexact HO
    isplitr; · iexact Hlev
    iexact Hg1
  iintro %_ ⟨Hb, ⟨-, -, -, -, Hz⟩, HO⟩
  imodintro
  isplitl [Hst HO]; · iapply Hst; iexact HO
  isplitr [Hb Hts]
  · isplitl [Hx]; · iexact Hx
    isplitl [Hi]; · iexact Hi
    iexact Hz
  isplitl [Hb] <;> iassumption

/-- What is read of the final memory. -/
def fq (d : Dev nD) (s' : Phys nD τ sig (Elt F)) : Prop :=
  s'.mem.mem (xLoc d) = m (xLoc d) ∧ s'.mem.mem (iLoc d) = m (iLoc d) ∧ s'.mem.mem (zLoc d) = result (feats m d) (ids m d)

set_option maxRecDepth 16384 in
theorem hfin (d : Dev nD) (s' : Phys nD τ sig (Elt F)) : iprop(FIN m d ∗ SI s') ⊢ (⌜fq m d s'⌝ : sProp 𝕄) := by
  iintro ⟨⟨Hx, Hi, Hz⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := zLoc d) (I := Finset.univ) (q := fullShare) (f := result (feats m d) (ids m d))) $$ [HSI Hz]
  · isplitl [HSI] <;> iassumption
  icases H with %h3
  ipureintro
  exact ⟨funext fun i => h1 i (Finset.mem_univ i), funext fun i => h2 i (Finset.mem_univ i), funext fun i => h3 i (Finset.mem_univ i)⟩

/-- The run: it ends, the features and the ids unchanged, the result at `result`, every semaphore at zero. -/
def Ends (r : PUnit × MemSt nD τ sig (Elt F)) : Prop :=
  (∀ c : Dev nD, r.2.mem (xLoc c) = m (xLoc c) ∧ r.2.mem (iLoc c) = m (iLoc c) ∧ r.2.mem (zLoc c) = result (feats m c) (ids m c)) ∧ r.2.sem = fun _ => 0

theorem run_main (hI : IdsOK m) : θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hI)
    (fun q _ => match q with | 0 => SparseCore.Cfg.VecSplit.of_plain (vecSplit m))
    m ρ main (fun d => ghosts d) (FIN m) (u₀ (F := F)) (sep_elim_left.trans (hu₀ m)) (hmain m ρ) (fq m) (hfin m) (Ends m) (fun _ h hz => ⟨h, hz⟩)

end Run

end Cert.Proof.Seg

end
-- ==== Proof.Frames.lean ====
/-
  The kernel as printed for reading at the ideal values is the kernel itself.

  The two printed programs have the same text, so the run proved of the one over any float type, taken at the bit
  patterns, is the run of the other.
-/
module
public import proofs.«01_k».proof.Defs
public import proofs.«01_k».proof.Proof.Launch
public import proofs.«01_k».proof.Proof.Gen.Kernel

@[expose] public section

noncomputable section

namespace Cert.Proof

open Idealize.ShloMosaic Idealize.SL.Sem

set_option maxHeartbeats 0 in
set_option maxRecDepth 100000 in
/-- The SparseCore kernel. -/
theorem cc0_same : Cert.Kernel.cc0_k (F := Bits) = Cert.KernelIdeal.cc0_k (F := Bits) := rfl

/-- The kernels' body table. -/
theorem defs₀_same : Cert.Kernel.defs₀ (F := Bits) = Cert.KernelIdeal.defs₀ (F := Bits) := by
  funext p l a
  match p, l, a with
  | .scVector c s, ⟨0, _⟩, a =>
    exact congrArg (a₁ := Cert.Kernel.cc0_k (F := Bits)) (a₂ := Cert.KernelIdeal.cc0_k (F := Bits)) (fun b => SparseCore.onTile Cert.Kernel.Facts₀.hcore0 Cert.Kernel.Facts₀.hsub0
      (fun c s => b (fun | 0 => c | 1 => s | ⟨_ + 2, h⟩ => absurd h (Nat.not_lt.2 (Nat.le_add_left _ _)))
        (Memref.whole Cert.Kernel.main_arg0_scv) (Memref.isWhole_whole _) (Memref.whole Cert.Kernel.main_arg1_scv) (Memref.isWhole_whole _)
        (Memref.whole Cert.Kernel.main_v0_0_scv) (Memref.isWhole_whole _) (Memref.whole Cert.Kernel.main_v0_1_scv) (Memref.isWhole_whole _)
        (Memref.whole Cert.Kernel.cc0_scratch0) (Memref.isWhole_whole _) (Memref.whole Cert.Kernel.cc0_scratch1) (Memref.isWhole_whole _)
        (Memref.whole Cert.Kernel.cc0_scratch2) (Memref.isWhole_whole _) (Memref.whole Cert.Kernel.cc0_scratch3) (Memref.isWhole_whole _)
        Cert.Kernel.cc0_scratch4 Cert.Kernel.cc0_scratch5 Cert.Kernel.cc0_scoped0 Cert.Kernel.cc0_scoped1 Cert.Kernel.cc0_scoped2)
      PUnit.unit c s) cc0_same
  | .scVector c s, ⟨1, _⟩, a => rfl
  | .scVector c s, ⟨2, _⟩, a => rfl
  | .scScalar c, ⟨0, _⟩, a => rfl
  | .scScalar c, ⟨1, _⟩, a => rfl
  | .scScalar c, ⟨2, _⟩, a => rfl
  | .tc, ⟨0, _⟩, a => rfl
  | .tc, ⟨1, _⟩, (t, s) => rfl
  | .tc, ⟨2, _⟩, (t, s) => rfl

/-- The whole body table. -/
theorem defs_same : Cert.Kernel.defs (F := Bits) = Cert.KernelIdeal.defs (F := Bits) :=
  congrArg (fun d => (Cert.KernelIdeal.sc (F := Bits)).defs (Pipeline.defs Cert.KernelIdeal.pcfgs d)) defs₀_same

/-- The run of the kernel at the bit patterns. -/
theorem run_bits (m : (ℓ : Loc Cert.Kernel.nD Cert.Kernel.τ Cert.Kernel.sig) → Buf (Elt Bits) ℓ) (ρ : Dev Cert.Kernel.nD → PrngReg)
    (hI : Seg.IdsOK (F := Bits) m) :
    θ_run (Cert.Kernel.defs (F := Bits)) (Cert.Kernel.threads (F := Bits)) ⟨m, fun _ => 0, ρ⟩ (Seg.Ends (F := Bits) m) := by
  rw [defs_same]
  exact Seg.run_main (F := Bits) m ρ hI

end Cert.Proof
-- ==== Proof.TileValue.lean ====
/-
  A tile's sums and counts at the exact values: where the tile's ids are sorted, the rows between two boundaries of the
  search are the rows of a segment.
-/
module

public import proofs.«01_k».proof.Proof.Slices
public import Idealize.ShloMosaic.PureOps.Ideal.Laws

@[expose] public section

noncomputable section

namespace Cert.Proof.Seg

open Cert.KernelIdeal Cert.KernelIdeal.Gen
open Idealize.ShloMosaic

/-! ## The sum of a run of rows -/

theorem quad_sum (g : S2x64x512.Idx → Ideal .f32) (c lo j n : ℕ) (A : ℕ → Ideal .f32) :
    (quadN g c lo A n j : EReal) = A j + ∑ k ∈ Finset.range (4 * n), (rowAt g c (lo + k) j : EReal) := by
  induction n with
  | zero => simp [quadN]
  | succ n ih =>
    show (quadN g c lo A n j : EReal) + (((rowAt g c (lo + 4 * n) j : EReal) + rowAt g c (lo + 4 * n + 1) j)
      + ((rowAt g c (lo + 4 * n + 2) j : EReal) + rowAt g c (lo + 4 * n + 3) j)) = _
    rw [ih, show 4 * (n + 1) = 4 * n + 1 + 1 + 1 + 1 by ring]
    simp only [Finset.sum_range_succ, ← add_assoc]

theorem row_sum (g : S2x64x512.Idx → Ideal .f32) (c r j n : ℕ) (A : ℕ → Ideal .f32) :
    (rowN g c r A n j : EReal) = A j + ∑ k ∈ Finset.range n, (rowAt g c (r + k) j : EReal) := by
  induction n with
  | zero => simp [rowN]
  | succ n ih =>
    show (rowN g c r A n j : EReal) + (rowAt g c (r + n) j : EReal) = _
    rw [ih, Finset.sum_range_succ, add_assoc]

/-- The accumulators end at the sum of the rows. -/
theorem seg_sum (g : S2x64x512.Idx → Ideal .f32) (c lo hi j : ℕ) :
    (segAcc g c lo hi j : EReal) = ∑ k ∈ Finset.range (hi - lo), (rowAt g c (lo + k) j : EReal) := by
  show (rowN g c (lo + 4 * ((hi - lo) / 4)) (quadN g c lo (fun _ => zF) ((hi - lo) / 4)) ((hi - lo) % 4) j : EReal) = _
  rw [row_sum, quad_sum, show ((zF : Ideal .f32) : EReal) = 0 from Ideal.ofBits_zero_f32, zero_add]
  conv_rhs => rw [← Nat.div_add_mod (hi - lo) 4, Finset.sum_range_add]
  simp only [add_assoc]

/-- A sum over the rows from `lo` to `hi`, as a sum over all rows that keeps only those. -/
theorem sum_between {M : Type} [AddCommMonoid M] (f : ℕ → M) {lo hi n : ℕ} (h : hi ≤ n) :
    ∑ k ∈ Finset.range (hi - lo), f (lo + k) = ∑ k ∈ Finset.range n, if lo ≤ k ∧ k < hi then f k else 0 := by
  rw [← Finset.sum_filter, ← Finset.sum_Ico_eq_sum_range]
  refine Finset.sum_congr (Finset.ext fun k => ?_) fun _ _ => rfl
  simp only [Finset.mem_Ico, Finset.mem_filter, Finset.mem_range]
  omega

/-! ## The rows of a segment -/

/-- The ids in order. -/
def Sorted (f : S128.Idx → BitVec 32) : Prop := ∀ i j, i ≤ j → j < 128 → (idAt f i).toNat ≤ (idAt f j).toNat

theorem word_small {s : ℕ} (hs : s ≤ 16) : (BitVec.ofNat 32 s).toNat = s := by
  rw [BitVec.toNat_ofNat]; exact Nat.mod_eq_of_lt (by omega)

/-- A row is of segment `s` exactly when it lies between the two boundaries. -/
theorem of_segment {f : S128.Idx → BitVec 32} (hr : InRange f) (hs : Sorted f) {s i : ℕ} (h16 : s < 16) (hi : i < 128) :
    (idAt f i).toNat = s ↔ first f s ≤ i ∧ i < first f (s + 1) := by
  have h0 := bnds_iff f (BitVec.ofNat 32 s) (by rw [word_small (by omega)]; omega) (fun k _ => idAt_lt hr k) hs i hi
  have h1 := bnds_iff f (BitVec.ofNat 32 (s + 1)) (by rw [word_small (by omega)]; omega) (fun k _ => idAt_lt hr k) hs i hi
  rw [word_small (by omega)] at h0 h1
  unfold first
  omega

/-! ## A tile's sums -/

/-- A chunk adds to each sum the chunk's rows of that segment. -/
theorem chunk_sum {f : S128.Idx → BitVec 32} (hr : InRange f) (hs : Sorted f) (g : S2x64x512.Idx → Ideal .f32) (P : S16x512.Idx → Ideal .f32)
    (c : ℕ) (hc : c < 2) (i : S16x512.Idx) :
    (chunkDone P f g c i : EReal)
      = P i + ∑ k ∈ Finset.range 64, if (idAt f (64 * c + k)).toNat = (i 0).val then (rowAt g c k (i 1).val : EReal) else 0 := by
  have h16 : (i 0).val < 16 := (i 0).isLt
  have key : ∀ k ∈ Finset.range 64, (if (idAt f (64 * c + k)).toNat = (i 0).val then (rowAt g c k (i 1).val : EReal) else 0)
      = if loC f c (i 0).val ≤ k ∧ k < hiC f c (i 0).val then (rowAt g c k (i 1).val : EReal) else 0 := fun k hk => by
    have hk := Finset.mem_range.mp hk
    refine if_congr ((of_segment hr hs h16 (by omega)).trans ?_) rfl rfl
    unfold loC hiC
    omega
  show (if _ then (P i + segAcc g c (loC f c (i 0).val) (hiC f c (i 0).val) (i 1).val : EReal) else P i) = _
  split
  · rw [seg_sum, sum_between (fun k => (rowAt g c k (i 1).val : EReal)) (show hiC f c (i 0).val ≤ 64 from Nat.min_le_left _ _)]
    rw [Finset.sum_congr rfl key]
  · next h =>
    rw [Finset.sum_eq_zero, add_zero]
    intro k hk
    have hk64 := Finset.mem_range.mp hk
    rw [if_neg]
    intro e
    have b := hs (64 * c) (64 * c + k) (by omega) (by omega)
    have b' := hs (64 * c + k) (64 * c + 63) (by omega) (by omega)
    have w := (of_segment hr hs h16 (i := 64 * c + k) (by omega)).mp e
    refine h ⟨⟨by omega, by omega⟩, ?_⟩
    unfold loC hiC
    omega

/-- Row `r` of a tile, in the two chunks. -/
def tileRow (g : S2x64x512.Idx → Ideal .f32) (r j : ℕ) : EReal := rowAt g (r / 64) (r % 64) j

/-- A tile's sums are its rows of each segment, summed. -/
theorem tile_sum {f : S128.Idx → BitVec 32} (hr : InRange f) (hs : Sorted f) (g : S2x64x512.Idx → Ideal .f32) (i : S16x512.Idx) :
    (tileSums f g i : EReal) = ∑ r ∈ Finset.range 128, if (idAt f r).toNat = (i 0).val then tileRow g r (i 1).val else 0 := by
  unfold tileSums
  rw [chunk_sum hr hs g _ 1 (by omega), chunk_sum hr hs g _ 0 (by omega), show ((zF : Ideal .f32) : EReal) = 0 from Ideal.ofBits_zero_f32, zero_add,
    show (128 : ℕ) = 64 + 64 from rfl, Finset.sum_range_add]
  refine congrArg₂ (· + ·) (Finset.sum_congr rfl fun k hk => ?_) (Finset.sum_congr rfl fun k hk => ?_)
  · have hk := Finset.mem_range.mp hk
    rw [tileRow, Nat.div_eq_of_lt hk, Nat.mod_eq_of_lt hk, Nat.mul_zero, Nat.zero_add]
  · have hk := Finset.mem_range.mp hk
    rw [tileRow, show (64 + k) / 64 = 1 by omega, show (64 + k) % 64 = k by omega, Nat.mul_one]

/-! ## A tile's counts -/

theorem count_cast (p : ℕ → Prop) [DecidablePred p] (n : ℕ) :
    ∑ r ∈ Finset.range n, (if p r then (1 : EReal) else 0) = ((((Finset.range n).filter p).card : ℝ) : EReal) := by
  induction n with
  | zero => simp
  | succ n ih =>
    rw [Finset.sum_range_succ, ih, Finset.range_add_one, Finset.filter_insert]
    split
    · rw [Finset.card_insert_of_notMem (by simp)]
      push_cast
      rfl
    · rw [add_zero]

/-- The boundaries are in order. -/
theorem first_mono {f : S128.Idx → BitVec 32} (hr : InRange f) (hs : Sorted f) {s : ℕ} (h16 : s < 16) : first f s ≤ first f (s + 1) := by
  by_contra hc
  have l := first_le f s
  have h0 := bnds_iff f (BitVec.ofNat 32 s) (by rw [word_small (by omega)]; omega) (fun k _ => idAt_lt hr k) hs (first f (s + 1)) (by omega)
  have h1 := bnds_iff f (BitVec.ofNat 32 (s + 1)) (by rw [word_small (by omega)]; omega) (fun k _ => idAt_lt hr k) hs (first f (s + 1)) (by omega)
  rw [word_small (by omega)] at h0 h1
  change _ ↔ _ < first f s at h0
  change _ ↔ _ < first f (s + 1) at h1
  omega

/-- The difference of two small words, read as a number. -/
theorem word_diff {a b : ℕ} (h : a ≤ b) (hb : b ≤ 128) : (BitVec.ofNat 32 b - BitVec.ofNat 32 a).toInt = ((b - a : ℕ) : ℤ) := by
  rw [BitVec.toInt_eq_toNat_cond, BitVec.toNat_sub, BitVec.toNat_ofNat, BitVec.toNat_ofNat]
  omega

theorem segment_card {f : S128.Idx → BitVec 32} (hr : InRange f) (hs : Sorted f) {s : ℕ} (h16 : s < 16) :
    ((Finset.range 128).filter fun r => (idAt f r).toNat = s).card = first f (s + 1) - first f s := by
  have l1 := first_le f (s + 1)
  rw [← Nat.card_Ico]
  refine congrArg Finset.card (Finset.ext fun r => ?_)
  simp only [Finset.mem_filter, Finset.mem_range, Finset.mem_Ico]
  constructor
  · exact fun h => (of_segment hr hs h16 h.1).mp h.2
  · exact fun h => ⟨by omega, (of_segment hr hs h16 (by omega)).mpr h⟩

/-- A tile's counts are the numbers of its rows of each segment. -/
theorem tile_count {f : S128.Idx → BitVec 32} (hr : InRange f) (hs : Sorted f) (i : S16.Idx) :
    (tileCnts (F := Ideal) f i : EReal) = ∑ r ∈ Finset.range 128, if (idAt f r).toNat = (i 0).val then 1 else 0 := by
  have h16 : (i 0).val < 16 := (i 0).isLt
  have e : (tileCnts (F := Ideal) f i : EReal)
      = (((BitVec.ofNat 32 (first f ((i 0).val + 1)) - BitVec.ofNat 32 (first f (i 0).val)).toInt : ℝ) : EReal) := by
    unfold tileCnts k0_pay806 lows keyLo keyHi first
    rfl
  rw [e, count_cast, segment_card hr hs h16, word_diff (first_mono hr hs h16) (first_le f _), Int.cast_natCast]

end Cert.Proof.Seg
-- ==== Proof.BlockValue.lean ====
/-
  The block sums and counts of the second call at the exact values: a block's one-hot product adds the block's rows of
  each segment.
-/
module

public import proofs.«01_k».proof.Proof.Launch
public import Idealize.ShloMosaic.Lib.Pointwise

@[expose] public section

noncomputable section

namespace Cert.Proof.Val

open Cert.KernelIdeal Cert.KernelIdeal.Gen
open Idealize.ShloMosaic
open Cert.Proof.Seg (idBlk ftBlk accSum accCnt rowIds firstCol)

/-- Row `r`'s id, and its feature `j`. -/
def idN (I : S32768.Idx → BitVec 32) (r : ℕ) : BitVec 32 := I (ix1 (⟨r % 32768, Nat.mod_lt _ (by decide)⟩ : Fin 32768))
def featN (X : S32768x512.Idx → Ideal .f32) (r : ℕ) (j : Fin 512) : EReal := X (ix2 (⟨r % 32768, Nat.mod_lt _ (by decide)⟩ : Fin 32768) j)

/-! ## A block's payloads -/

theorem onehot (v : Vec Ideal S1x1x4096 .i32) (s : Fin 16) (k : Fin 4096) :
    (k1_pay1 (F := Ideal) v (ix2 s k) : EReal) = if (v (ix3 0 0 k)).toNat = s.val then 1 else 0 := by
  pointwise [k1_pay1]
  have hs := s.isLt
  have e : (v (ix3 0 0 k) = BitVec.ofNat 32 s.val) ↔ (v (ix3 0 0 k)).toNat = s.val := by
    rw [← BitVec.toNat_inj, BitVec.toNat_ofNat, Nat.mod_eq_of_lt (by omega)]
  show (((BitVec.setWidth 32 (BitVec.ofBool (v (ix3 0 0 k) == BitVec.ofNat 32 s.val))).toInt : ℝ) : EReal) = _
  by_cases h : (v (ix3 0 0 k)).toNat = s.val
  · rw [if_pos h, e.mpr h, beq_self_eq_true, show (BitVec.setWidth 32 (BitVec.ofBool true)).toInt = 1 by decide]
    norm_num
  · rw [if_neg h, beq_eq_false_iff_ne.mpr fun h' => h (e.mp h'),
      show (BitVec.setWidth 32 (BitVec.ofBool false)).toInt = 0 by decide]
    norm_num

theorem block_sum (v : Vec Ideal S1x1x4096 .i32) (w : Vec Ideal S4096x512 .f32) (s : Fin 16) (j : Fin 512) :
    (k1_pay2 (F := Ideal) v w (ix2 s j) : EReal) = ∑ k : Fin 4096, if (v (ix3 0 0 k)).toNat = s.val then (w (ix2 k j) : EReal) else 0 := by
  pointwise [k1_pay2]
  refine Finset.sum_congr rfl fun k _ => ?_
  rw [onehot]
  split
  · exact one_mul _
  · exact zero_mul _

theorem block_count (v : Vec Ideal S1x1x4096 .i32) (s : Fin 16) (l : Fin 128) :
    (k1_pay3 (F := Ideal) v (ix2 s l) : EReal) = ∑ k : Fin 4096, if (v (ix3 0 0 k)).toNat = s.val then 1 else 0 := by
  pointwise [k1_pay3]
  exact Finset.sum_congr rfl fun k _ => onehot v s k

/-! ## A block's rows -/

theorem block_index : ∀ t : Fin grid1.N, cc1_transform_0 (grid1.coords t) = ![t.val + 1, 0, 0] ∧ cc1_transform_1 (grid1.coords t) = ![t.val + 1, 0] := by
  decide +kernel

theorem id_block (I : S32768.Idx → BitVec 32) (t : Fin cfg1.N) (k : Fin 4096) :
    idBlk (F := Ideal) (rowIds (F := Ideal) I) t (ix3 0 0 k) = idN I (4096 * (t.val + 1) + k.val) := by
  have h7 : t.val < 7 := lt_of_lt_of_eq t.isLt N_1
  have e := (block_index t).1
  have h : idBlk (F := Ideal) (rowIds (F := Ideal) I) t (ix3 0 0 k) = rowIds (F := Ideal) I (ix3 (⟨t.val + 1, by omega⟩ : Fin 8) 0 k) := by
    refine congrArg (rowIds (F := Ideal) I) (funext fun a => Fin.ext ?_)
    match a with
    | 0 => show (cc1_transform_0 (grid1.coords t)) 0 * 1 + 1 * 0 = t.val + 1; rw [e]; show (t.val + 1) * 1 + 1 * 0 = _; omega
    | 1 => show (cc1_transform_0 (grid1.coords t)) 1 * 1 + 1 * 0 = 0; rw [e]; rfl
    | 2 => show (cc1_transform_0 (grid1.coords t)) 2 * 4096 + 1 * k.val = k.val; rw [e]; show 0 * 4096 + 1 * k.val = _; omega
  rw [h]
  unfold rowIds idN
  pointwise
  refine congrArg I (congrArg ix1 (Fin.ext ?_))
  show (t.val + 1) * 4096 + k.val = (4096 * (t.val + 1) + k.val) % 32768
  omega

theorem feat_block (X : S32768x512.Idx → Ideal .f32) (t : Fin cfg1.N) (k : Fin 4096) (j : Fin 512) :
    (ftBlk (F := Ideal) X t (ix2 k j) : EReal) = featN X (4096 * (t.val + 1) + k.val) j := by
  have h7 : t.val < 7 := lt_of_lt_of_eq t.isLt N_1
  have e := (block_index t).2
  unfold featN
  refine congrArg X (funext fun a => Fin.ext ?_)
  match a with
  | 0 =>
    show (cc1_transform_1 (grid1.coords t)) 0 * 4096 + 1 * k.val = (4096 * (t.val + 1) + k.val) % 32768
    rw [e]; show (t.val + 1) * 4096 + 1 * k.val = _; omega
  | 1 => show (cc1_transform_1 (grid1.coords t)) 1 * 512 + 1 * j.val = j.val; rw [e]; show 0 * 512 + 1 * j.val = _; omega

/-! ## All blocks -/

/-- Row `r`'s part of segment `s`'s sum and of its count. -/
def term (X : S32768x512.Idx → Ideal .f32) (I : S32768.Idx → BitVec 32) (s : Fin 16) (j : Fin 512) (r : ℕ) : EReal :=
  if (idN I r).toNat = s.val then featN X r j else 0
def one (I : S32768.Idx → BitVec 32) (s : Fin 16) (r : ℕ) : EReal := if (idN I r).toNat = s.val then 1 else 0

theorem block_term (X : S32768x512.Idx → Ideal .f32) (I : S32768.Idx → BitVec 32) (t : Fin cfg1.N) (s : Fin 16) (j : Fin 512) :
    (k1_pay2 (F := Ideal) (idBlk (F := Ideal) (rowIds (F := Ideal) I) t) (ftBlk (F := Ideal) X t) (ix2 s j) : EReal)
      = ∑ k ∈ Finset.range 4096, term X I s j (4096 * (t.val + 1) + k) := by
  rw [block_sum, ← Fin.sum_univ_eq_sum_range (fun k => term X I s j (4096 * (t.val + 1) + k)) 4096]
  refine Finset.sum_congr rfl fun k _ => ?_
  rw [id_block, feat_block]
  rfl

theorem block_one (I : S32768.Idx → BitVec 32) (t : Fin cfg1.N) (s : Fin 16) (l : Fin 128) :
    (k1_pay3 (F := Ideal) (idBlk (F := Ideal) (rowIds (F := Ideal) I) t) (ix2 s l) : EReal)
      = ∑ k ∈ Finset.range 4096, one I s (4096 * (t.val + 1) + k) := by
  rw [block_count, ← Fin.sum_univ_eq_sum_range (fun k => one I s (4096 * (t.val + 1) + k)) 4096]
  refine Finset.sum_congr rfl fun k _ => ?_
  rw [id_block]
  rfl

/-- The sums after block `n`: rows 4096 to 4096 (n + 2). -/
theorem acc_sum (X : S32768x512.Idx → Ideal .f32) (I : S32768.Idx → BitVec 32) (s : Fin 16) (j : Fin 512) (n : ℕ) (hn : n < 7) :
    (accSum (F := Ideal) (rowIds (F := Ideal) I) X n (ix2 s j) : EReal) = ∑ r ∈ Finset.range (4096 * (n + 1)), term X I s j (4096 + r) := by
  induction n with
  | zero => exact (block_term X I t1_0 s j).trans (Finset.sum_congr rfl fun r _ => rfl)
  | succ n ih =>
    have h : n + 1 < cfg1.N := lt_of_lt_of_eq hn N_1.symm
    unfold accSum
    rw [dif_pos h]
    have e : (k1_pay4 (F := Ideal) (idBlk (F := Ideal) (rowIds (F := Ideal) I) ⟨n + 1, h⟩) (ftBlk (F := Ideal) X ⟨n + 1, h⟩)
        (accSum (F := Ideal) (rowIds (F := Ideal) I) X n) (ix2 s j) : EReal)
        = (accSum (F := Ideal) (rowIds (F := Ideal) I) X n (ix2 s j) : EReal)
          + k1_pay2 (F := Ideal) (idBlk (F := Ideal) (rowIds (F := Ideal) I) ⟨n + 1, h⟩) (ftBlk (F := Ideal) X ⟨n + 1, h⟩) (ix2 s j) := by
      pointwise [k1_pay4]
    refine e.trans ?_
    rw [ih (by omega), block_term, show 4096 * (n + 1 + 1) = 4096 * (n + 1) + 4096 by ring, Finset.sum_range_add]
    refine congrArg₂ (· + ·) rfl (Finset.sum_congr rfl fun k _ => congrArg (term X I s j) ?_)
    show 4096 * (n + 1 + 1) + k = 4096 + (4096 * (n + 1) + k)
    ring

/-- The counts after block `n`. -/
theorem acc_cnt (I : S32768.Idx → BitVec 32) (s : Fin 16) (l : Fin 128) (n : ℕ) (hn : n < 7) :
    (accCnt (F := Ideal) (rowIds (F := Ideal) I) n (ix2 s l) : EReal) = ∑ r ∈ Finset.range (4096 * (n + 1)), one I s (4096 + r) := by
  induction n with
  | zero => exact (block_one I t1_0 s l).trans (Finset.sum_congr rfl fun r _ => rfl)
  | succ n ih =>
    have h : n + 1 < cfg1.N := lt_of_lt_of_eq hn N_1.symm
    unfold accCnt
    rw [dif_pos h]
    have e : (k1_pay5 (F := Ideal) (idBlk (F := Ideal) (rowIds (F := Ideal) I) ⟨n + 1, h⟩)
        (accCnt (F := Ideal) (rowIds (F := Ideal) I) n) (ix2 s l) : EReal)
        = (accCnt (F := Ideal) (rowIds (F := Ideal) I) n (ix2 s l) : EReal)
          + k1_pay3 (F := Ideal) (idBlk (F := Ideal) (rowIds (F := Ideal) I) ⟨n + 1, h⟩) (ix2 s l) := by
      pointwise [k1_pay5]
    refine e.trans ?_
    rw [ih (by omega), block_one, show 4096 * (n + 1 + 1) = 4096 * (n + 1) + 4096 by ring, Finset.sum_range_add]
    refine congrArg₂ (· + ·) rfl (Finset.sum_congr rfl fun k _ => congrArg (one I s) ?_)
    show 4096 * (n + 1 + 1) + k = 4096 + (4096 * (n + 1) + k)
    ring

end Cert.Proof.Val
-- ==== Proof.RefValue.lean ====
/-
  What the reference leaves, at an index, at the exact values.
-/
module

public import proofs.«01_k».proof.Proof.Gen.ReferenceIdeal.Run
public import Idealize.ShloMosaic.Lib.Pointwise

@[expose] public section

noncomputable section

namespace Cert.Proof.Val

open Cert.ReferenceIdeal Cert.ReferenceIdeal.Gen
open Idealize.ShloMosaic

/-! ## Where an update lands -/

theorem row_lands (idx : IVec S32768x1 32) (r : Fin 32768) (l j : Fin 512) (s : Fin 16) :
    scatter_S16x512_S32768x1_S32768x512_1_0_0_1.resultIdx? (ix2 r l) idx = some (ix2 s j) ↔ (idx (ix2 r 0)).toInt = (s.val : ℤ) ∧ l = j := by
  have s0 : scatter_S16x512_S32768x1_S32768x512_1_0_0_1.start (ix2 r l) idx 0 = (idx (ix2 r 0)).toInt :=
    congrArg (fun i => (idx i).toInt) (funext fun a => Fin.ext (match a with | 0 => rfl | 1 => rfl))
  have s1 : scatter_S16x512_S32768x1_S32768x512_1_0_0_1.start (ix2 r l) idx 1 = 0 := rfl
  have w0 : scatter_S16x512_S32768x1_S32768x512_1_0_0_1.window (ix2 r l) 0 = 0 := rfl
  have w1 : scatter_S16x512_S32768x1_S32768x512_1_0_0_1.window (ix2 r l) 1 = l.val := rfl
  have hs := s.isLt
  have hj := j.isLt
  have hl := l.isLt
  unfold ScatterDims.resultIdx?
  split
  · next h =>
    rw [Option.some.injEq]
    have h0 := h 0
    rw [s0, w0] at h0
    constructor
    · intro e
      have e0 := congrArg Fin.val (congrFun e 0)
      have e1 := congrArg Fin.val (congrFun e 1)
      change (scatter_S16x512_S32768x1_S32768x512_1_0_0_1.start (ix2 r l) idx 0 + (scatter_S16x512_S32768x1_S32768x512_1_0_0_1.window (ix2 r l) 0 : ℤ)).toNat = s.val at e0
      change (scatter_S16x512_S32768x1_S32768x512_1_0_0_1.start (ix2 r l) idx 1 + (scatter_S16x512_S32768x1_S32768x512_1_0_0_1.window (ix2 r l) 1 : ℤ)).toNat = j.val at e1
      rw [s0, w0] at e0
      rw [s1, w1] at e1
      exact ⟨by omega, Fin.ext (by omega)⟩
    · rintro ⟨e0, rfl⟩
      refine funext fun a => Fin.ext ?_
      match a with
      | 0 => show (scatter_S16x512_S32768x1_S32768x512_1_0_0_1.start (ix2 r l) idx 0 + (scatter_S16x512_S32768x1_S32768x512_1_0_0_1.window (ix2 r l) 0 : ℤ)).toNat = s.val; rw [s0, w0]; omega
      | 1 => show (scatter_S16x512_S32768x1_S32768x512_1_0_0_1.start (ix2 r l) idx 1 + (scatter_S16x512_S32768x1_S32768x512_1_0_0_1.window (ix2 r l) 1 : ℤ)).toNat = l.val; rw [s1, w1]; omega
  · next h =>
    refine Iff.intro (fun e => nomatch e) (fun e => (h fun a => ?_).elim)
    match a with
    | 0 => rw [s0, w0]; change _ ∧ _ < (16 : ℤ); omega
    | 1 => rw [s1, w1]; change _ ∧ _ < (512 : ℤ); omega

theorem one_lands (idx : IVec S32768x1 32) (r : Fin 32768) (s : Fin 16) :
    scatter_S16_S32768x1_S32768_n_0_0_1.resultIdx? (ix1 r) idx = some (ix1 s) ↔ (idx (ix2 r 0)).toInt = (s.val : ℤ) := by
  have s0 : scatter_S16_S32768x1_S32768_n_0_0_1.start (ix1 r) idx 0 = (idx (ix2 r 0)).toInt :=
    congrArg (fun i => (idx i).toInt) (funext fun a => Fin.ext (match a with | 0 => rfl | 1 => rfl))
  have w0 : scatter_S16_S32768x1_S32768_n_0_0_1.window (ix1 r) 0 = 0 := rfl
  have hs := s.isLt
  unfold ScatterDims.resultIdx?
  split
  · next h =>
    rw [Option.some.injEq]
    have h0 := h 0
    rw [s0, w0] at h0
    constructor
    · intro e
      have e0 := congrArg Fin.val (congrFun e 0)
      change (scatter_S16_S32768x1_S32768_n_0_0_1.start (ix1 r) idx 0 + (scatter_S16_S32768x1_S32768_n_0_0_1.window (ix1 r) 0 : ℤ)).toNat = s.val at e0
      rw [s0, w0] at e0
      omega
    · intro e0
      refine funext fun a => Fin.ext ?_
      match a with
      | 0 => show (scatter_S16_S32768x1_S32768_n_0_0_1.start (ix1 r) idx 0 + (scatter_S16_S32768x1_S32768_n_0_0_1.window (ix1 r) 0 : ℤ)).toNat = s.val; rw [s0, w0]; omega
  · next h =>
    refine Iff.intro (fun e => nomatch e) (fun e => (h fun a => ?_).elim)
    match a with
    | 0 => rw [s0, w0]; change _ ∧ _ < (16 : ℤ); omega

/-! ## The two scattered sums -/

theorem scatter_rows (z : FVec Ideal S16x512 .f32) (idx : IVec S32768x1 32) (X : FVec Ideal S32768x512 .f32) (s : Fin 16) (j : Fin 512) :
    (Host.scatterAdd scatter_S16x512_S32768x1_S32768x512_1_0_0_1 z idx X (ix2 s j) : EReal)
      = z (ix2 s j) + ∑ r : Fin 32768, if (idx (ix2 r 0)).toInt = (s.val : ℤ) then (X (ix2 r j) : EReal) else 0 := by
  show (z (ix2 s j) : EReal) + ∑ i ∈ Finset.univ.filter (fun i => scatter_S16x512_S32768x1_S32768x512_1_0_0_1.resultIdx? i idx = some (ix2 s j)), (X i : EReal) = _
  rw [Finset.sum_filter, sum_idx2]
  refine congrArg₂ (· + ·) rfl (Finset.sum_congr rfl fun r _ => ?_)
  rw [Finset.sum_eq_single j]
  · exact if_congr ((row_lands idx r j j s).trans (and_iff_left rfl)) rfl rfl
  · intro l _ hl
    exact if_neg fun e => hl ((row_lands idx r l j s).mp e).2
  · exact fun h => (h (Finset.mem_univ _)).elim

theorem scatter_ones (z : FVec Ideal S16 .f32) (idx : IVec S32768x1 32) (X : FVec Ideal S32768 .f32) (s : Fin 16) :
    (Host.scatterAdd scatter_S16_S32768x1_S32768_n_0_0_1 z idx X (ix1 s) : EReal)
      = z (ix1 s) + ∑ r : Fin 32768, if (idx (ix2 r 0)).toInt = (s.val : ℤ) then (X (ix1 r) : EReal) else 0 := by
  show (z (ix1 s) : EReal) + ∑ i ∈ Finset.univ.filter (fun i => scatter_S16_S32768x1_S32768_n_0_0_1.resultIdx? i idx = some (ix1 s)), (X i : EReal) = _
  rw [Finset.sum_filter, sum_idx1]
  exact congrArg₂ (· + ·) rfl (Finset.sum_congr rfl fun r _ => if_congr (one_lands idx r s) rfl rfl)

/-! ## The result -/

/-- What the reference computes. -/
def refResult (X : FVec Ideal S32768x512 .f32) (I : IVec S32768 32) : FVec Ideal S16x512 .f32 :=
  Host.divf (Host.scatterAdd scatter_S16x512_S32768x1_S32768x512_1_0_0_1 (broadcastInDim S16x512 ![] bcast_S_S16x512 (constant S_ .f32 0x00000000#32))
      (broadcastInDim S32768x1 ![0] bcast_S32768_S32768x1_0 I) X)
    (broadcastInDim S16x512 ![0, 1] bcast_S16x1_S16x512_0_1 (broadcastInDim S16x1 ![0] bcast_S16_S16x1_0
      (maximumf (Host.scatterAdd scatter_S16_S32768x1_S32768_n_0_0_1 (broadcastInDim S16 ![] bcast_S_S16 (constant S_ .f32 0x00000000#32))
          (broadcastInDim S32768x1 ![0] bcast_S32768_S32768x1_0 I) (broadcastInDim S32768 ![] bcast_S_S32768 (constant S_ .f32 0x3F800000#32)))
        (broadcastInDim S16 ![] bcast_S_S16 (constant S_ .f32 0x3F800000#32)))))

theorem refResult_at (X : FVec Ideal S32768x512 .f32) (I : IVec S32768 32) (s : Fin 16) (j : Fin 512) :
    (refResult X I (ix2 s j) : EReal)
      = Ideal.div (∑ r : Fin 32768, if (I (ix1 r)).toInt = (s.val : ℤ) then (X (ix2 r j) : EReal) else 0)
          (max (∑ r : Fin 32768, if (I (ix1 r)).toInt = (s.val : ℤ) then (1 : EReal) else 0) 1) := by
  pointwise [refResult]
  rw [scatter_rows, scatter_ones]
  pointwise

end Cert.Proof.Val
-- ==== Proof.MeanValue.lean ====
/-
  What the kernel leaves is what the reference leaves, at the exact values, where the ids are segment numbers in order.
-/
module

public import proofs.«01_k».proof.Proof.TileValue
public import proofs.«01_k».proof.Proof.BlockValue
public import proofs.«01_k».proof.Proof.RefValue

@[expose] public section

noncomputable section

namespace Cert.Proof.Val

open Cert.KernelIdeal Cert.KernelIdeal.Gen
open Idealize.ShloMosaic
open Cert.Proof.Seg (idAt InRange tileIds tileX tileRow allSums allCnts accSum accCnt rowIds firstCol)

/-- The ids in order. -/
def InOrder (I : S32768.Idx → BitVec 32) : Prop := ∀ a b, a ≤ b → b < 32768 → (idN I a).toNat ≤ (idN I b).toNat

/-! ## A tile's rows are rows of the arrays -/

theorem tile_id (I : S32768.Idx → BitVec 32) (w r : ℕ) (hr : r < 128) : idAt (tileIds I w) r = idN I (128 * w + r) := by
  refine congrArg I (funext fun a => Fin.ext ?_)
  match a with
  | 0 => show (128 * w + min r 127) % 32768 = (128 * w + r) % 32768; rw [Nat.min_eq_left (by omega)]

theorem tile_row (X : S32768x512.Idx → Ideal .f32) (w r : ℕ) (hr : r < 128) (j : Fin 512) :
    tileRow (tileX X w) r j.val = featN X (128 * w + r) j := by
  have hj := j.isLt
  refine congrArg X (funext fun a => Fin.ext ?_)
  match a with
  | 0 => show (128 * w + 64 * (r / 64 % 2) + r % 64 % 64) % 32768 = (128 * w + r) % 32768; omega
  | 1 => show j.val % 512 = j.val; omega

theorem tile_sorted {I : S32768.Idx → BitVec 32} (hS : InOrder I) {w : ℕ} (hw : w < 32) : Seg.Sorted (tileIds I w) := fun a b hab hb => by
  rw [tile_id I w a (by omega), tile_id I w b hb]
  exact hS _ _ (by omega) (by omega)

theorem tile_term (X : S32768x512.Idx → Ideal .f32) {I : S32768.Idx → BitVec 32} (hI : ∀ i, (I i).toNat < 16) (hS : InOrder I)
    (w : Fin 32) (s : Fin 16) (j : Fin 512) :
    (allSums X I (ix3 w s j) : EReal) = ∑ r ∈ Finset.range 128, term X I s j (128 * w.val + r) := by
  refine (Seg.tile_sum (fun _ => hI _) (tile_sorted hS w.isLt) (tileX X w.val) _).trans (Finset.sum_congr rfl fun r hr => ?_)
  have hr := Finset.mem_range.mp hr
  show (if (idAt (tileIds I w.val) r).toNat = s.val then tileRow (tileX X w.val) r j.val else 0) = _
  rw [tile_id I w.val r hr, tile_row X w.val r hr j]
  rfl

theorem tile_one {I : S32768.Idx → BitVec 32} (hI : ∀ i, (I i).toNat < 16) (hS : InOrder I) (w : Fin 32) (s : Fin 16) :
    (allCnts (F := Ideal) I (ix2 w s) : EReal) = ∑ r ∈ Finset.range 128, one I s (128 * w.val + r) := by
  refine (Seg.tile_count (fun _ => hI _) (tile_sorted hS w.isLt) _).trans (Finset.sum_congr rfl fun r hr => ?_)
  have hr := Finset.mem_range.mp hr
  show (if (idAt (tileIds I w.val) r).toNat = s.val then (1 : EReal) else 0) = _
  rw [tile_id I w.val r hr]
  rfl

/-! ## All rows -/

/-- The tiles' rows and the blocks' rows are all rows. -/
theorem sum_rows (f : ℕ → EReal) :
    ∑ w : Fin 32, ∑ r ∈ Finset.range 128, f (128 * w.val + r) + ∑ r ∈ Finset.range (4096 * (6 + 1)), f (4096 + r) = ∑ r : Fin 32768, f r.val := by
  have tiles (n : ℕ) : ∑ w ∈ Finset.range n, ∑ r ∈ Finset.range 128, f (128 * w + r) = ∑ r ∈ Finset.range (128 * n), f r := by
    induction n with
    | zero => simp
    | succ n ih => rw [Finset.sum_range_succ, ih, Nat.mul_succ, Finset.sum_range_add]
  rw [Fin.sum_univ_eq_sum_range (fun w => ∑ r ∈ Finset.range 128, f (128 * w + r)) 32, tiles, Fin.sum_univ_eq_sum_range f 32768]
  exact (Finset.sum_range_add f 4096 28672).symm

theorem idN_row (I : S32768.Idx → BitVec 32) (r : Fin 32768) : idN I r.val = I (ix1 r) :=
  congrArg I (congrArg ix1 (Fin.ext (Nat.mod_eq_of_lt r.isLt)))

theorem featN_row (X : S32768x512.Idx → Ideal .f32) (r : Fin 32768) (j : Fin 512) : featN X r.val j = X (ix2 r j) :=
  congrArg X (congrArg (ix2 · j) (Fin.ext (Nat.mod_eq_of_lt r.isLt)))

/-- A segment number read signed is the number. -/
theorem id_signed {I : S32768.Idx → BitVec 32} (hI : ∀ i, (I i).toNat < 16) (r : Fin 32768) (s : Fin 16) :
    (idN I r.val).toNat = s.val ↔ (I (ix1 r)).toInt = (s.val : ℤ) := by
  have h := hI (ix1 r)
  rw [idN_row, BitVec.toInt_eq_toNat_cond]
  omega

/-! ## The result -/

theorem result_at (X : S32768x512.Idx → Ideal .f32) (I : S32768.Idx → BitVec 32) (s : Fin 16) (j : Fin 512) :
    (Seg.result (F := Ideal) X I (ix2 s j) : EReal)
      = Ideal.div (∑ w : Fin 32, (allSums X I (ix3 w s j) : EReal) + accSum (F := Ideal) (rowIds (F := Ideal) I) X 6 (ix2 s j))
          (max (∑ w : Fin 32, (allCnts (F := Ideal) I (ix2 w s) : EReal) + accCnt (F := Ideal) (rowIds (F := Ideal) I) 6 (ix2 s 0)) 1) := by
  unfold Seg.result
  generalize Seg.allSums X I = A
  generalize Seg.allCnts (F := Ideal) I = B
  generalize accSum (F := Ideal) _ _ _ = C
  generalize accCnt (F := Ideal) _ _ = D
  pointwise [k2_pay1, firstCol]

/-- The kernel's result is the reference's. -/
theorem result_eq (X : S32768x512.Idx → Ideal .f32) {I : S32768.Idx → BitVec 32} (hI : ∀ i, (I i).toNat < 16) (hS : InOrder I) :
    Seg.result (F := Ideal) X I = refResult X I := by
  funext i
  obtain ⟨s, j, rfl⟩ : ∃ (s : Fin 16) (j : Fin 512), i = ix2 s j := ⟨i 0, i 1, eq_ix2 i⟩
  rw [result_at, acc_sum X I s j 6 (by omega), acc_cnt I s 0 6 (by omega)]
  simp only [tile_term X hI hS, tile_one hI hS]
  rw [sum_rows, sum_rows]
  refine Eq.trans ?_ (refResult_at X I s j).symm
  refine congrArg₂ Ideal.div (Finset.sum_congr rfl fun r _ => ?_) (congrArg (max · 1) (Finset.sum_congr rfl fun r _ => ?_))
  · exact if_congr (id_signed hI r s) (featN_row X r j) rfl
  · exact if_congr (id_signed hI r s) rfl rfl

end Cert.Proof.Val
-- ==== Proof.lean ====
/-
  The proof of `Cert.Claim`.

  The run of the kernel is proved once, over any float type, in Proof/Launch.lean (`run_main`); both frames of the
  kernel are that run at a float type. What the run leaves is what the reference leaves, at the exact values, by
  Proof/MeanValue.lean (`result_eq`).
-/
module

public import proofs.«01_k».proof.Defs
public import proofs.«01_k».proof.Proof.Launch
public import proofs.«01_k».proof.Proof.Frames
public import proofs.«01_k».proof.Proof.MeanValue
public import proofs.«01_k».proof.Proof.Gen.Kernel
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_sorted_ids
public import Idealize.ShloMosaic.Lib.Pointwise
public import Idealize.ShloMosaic.Adequacy
public import Idealize.ShloMosaic.Init

@[expose] public section

noncomputable section

namespace Cert.Proof

open Idealize.ShloMosaic Idealize.SL.Sem

/-- A word in the signed range [0, 16) is a number below 16. -/
theorem word_range (v : BitVec 32) (e : IntOp.andi (IntOp.cmpi .sge v 0#32) (IntOp.cmpi .slt v 16#32) = 1#1) : v.toNat < 16 := by
  have conj (p q : Bool) : IntOp.andi (BitVec.ofBool p) (BitVec.ofBool q) = BitVec.ofBool (p && q) := by cases p <;> cases q <;> decide
  have one (p : Bool) : (BitVec.ofBool p = 1#1) ↔ p = true := by cases p <;> decide
  simp only [IntOp.cmpi, conj, one, Bool.and_eq_true, BitVec.sle_eq_decide, BitVec.slt_eq_decide, decide_eq_true_eq,
    BitVec.toInt_eq_toNat_cond, BitVec.toNat_ofNat, Nat.reducePow, Nat.reduceMod] at e
  omega

/-- Ids in the range are segment numbers. -/
theorem ids_ok {F : FTy → Type} [FloatOps F] (x : FVec F Pre_ids_in_range.S32768x512 .f32) (I : IVec Pre_ids_in_range.S32768 32)
    (h : Cert.Pre_ids_in_range.fn (F := F) x I = fun _ => 1#1) (i : Pre_ids_in_range.S32768.Idx) : (I i).toNat < 16 := by
  have e := congrFun h i
  simp only [Cert.Pre_ids_in_range.fn, andi, cmpi, broadcastInDim, constantI] at e
  exact word_range _ e

/-- Of two segment numbers, the one not smaller as a signed word is not smaller as a number. -/
theorem word_order (v w : BitVec 32) (hv : v.toNat < 16) (hw : w.toNat < 16) (e : IntOp.cmpi .sge w v = 1#1) : v.toNat ≤ w.toNat := by
  have one (p : Bool) : (BitVec.ofBool p = 1#1) ↔ p = true := by cases p <;> decide
  simp only [IntOp.cmpi, one, BitVec.sle_eq_decide, decide_eq_true_eq, BitVec.toInt_eq_toNat_cond] at e
  omega

/-- Ids none of which is smaller than the one before are in order. -/
theorem in_order {F : FTy → Type} [FloatOps F] (x : FVec F Pre_sorted_ids.S32768x512 .f32) (I : IVec Pre_sorted_ids.S32768 32)
    (hI : ∀ i, (I i).toNat < 16) (h : (Cert.Pre_sorted_ids.fn (F := F) x I).2 = fun _ => 1#1) : Val.InOrder I := by
  have step (k : ℕ) (hk : k + 1 < 32768) : (Val.idN I k).toNat ≤ (Val.idN I (k + 1)).toNat := by
    have e := congrFun h (ix1 (⟨k, by omega⟩ : Fin 32767))
    refine word_order _ _ (hI _) (hI _) ?_
    refine Eq.trans (congrArg₂ (IntOp.cmpi .sge) (congrArg I (funext fun a => Fin.ext ?_)) (congrArg I (funext fun a => Fin.ext ?_))) e
    · match a with
      | 0 => show (k + 1) % 32768 = 1 + k; omega
    · match a with
      | 0 => show k % 32768 = 0 + k; omega
  intro a b hab hb
  induction b, hab using Nat.le_induction with
  | base => exact le_rfl
  | succ n _ ih => exact (ih (by omega)).trans (step n hb)

theorem frame_kernel : Cert.quiescent_Kernel := fun m ρ hpre =>
  (θ_run Cert.Kernel.defs _ _).mono (fun _ h => ⟨fun c => ⟨(h.1 c).1, (h.1 c).2.1⟩, h.2⟩)
    (run_bits m ρ fun d i => ids_ok _ _ (hpre d) i)

theorem frame_kernel_ideal : Cert.quiescent_KernelIdeal := fun m ρ hpre =>
  (θ_run Cert.KernelIdeal.defs _ _).mono (fun _ h => ⟨fun c => ⟨(h.1 c).1, (h.1 c).2.1⟩, h.2⟩)
    (Seg.run_main (F := Ideal) m ρ fun d i => ids_ok _ _ (hpre d) i)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernel_ideal_sorted : Cert.quiescent_KernelIdeal_pre_sorted_ids := fun m ρ hpre =>
  frame_kernel_ideal m ρ fun d => (hpre d).1

theorem frame_reference_sorted : Cert.quiescent_ReferenceIdeal_pre_sorted_ids := fun m ρ _ => frame_reference m ρ trivial

/-- From the same arguments the kernel and the reference end with the same result. -/
theorem means : Cert.algebraic_KernelIdeal_ReferenceIdeal_pre_sorted_ids := fun m ρ m' ρ' hpre hargs => by
  have hI : Seg.IdsOK m := fun d i => ids_ok (F := Ideal) (m (Seg.xLoc d)) (Seg.ids m d) (hpre d).1 i
  refine ⟨fun c => Seg.result (F := Ideal) (Seg.feats m c) (Seg.ids m c),
    (θ_run Cert.KernelIdeal.defs _ _).mono (fun _ h c => ⟨(h.1 c).2.2, (h.1 c).1, (h.1 c).2.1⟩) (Seg.run_main (F := Ideal) m ρ hI),
    (θ_run Cert.ReferenceIdeal.defs _ _).mono (fun _ h c => ⟨(h c).1.trans ?_, (h c).2⟩) (Cert.ReferenceIdeal.Value.run (F := Ideal) m' ρ')⟩
  rw [(hargs c).1, (hargs c).2]
  exact (Val.result_eq (Seg.feats m c) (hI c) (in_order (F := Ideal) (Seg.feats m c) (Seg.ids m c) (hI c) (hpre c).2)).symm

theorem claim : Cert.Claim := ⟨Cert.Kernel.Gen.facts, Cert.KernelIdeal.Gen.facts, Cert.ReferenceIdeal.Gen.facts, Cert.Pre_ids_in_range.Gen.facts,
  Cert.Pre_sorted_ids.Gen.facts, frame_kernel, frame_kernel_ideal, frame_kernel_ideal_sorted, frame_reference, frame_reference_sorted, trivial, means⟩

end Cert.Proof

end
